-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5)
      ∧ r.2.mem ((c.tc : Thread Cert.Kernel10.nD Cert.Kernel10.τ).loc Cert.Kernel10.main_arg6) = m ((c.tc : Thread Cert.Kernel10.nD Cert.Kernel10.τ).loc Cert.Kernel10.main_arg6)
      ∧ r.2.mem ((c.tc : Thread Cert.Kernel10.nD Cert.Kernel10.τ).loc Cert.Kernel10.main_arg7) = m ((c.tc : Thread Cert.Kernel10.nD Cert.Kernel10.τ).loc Cert.Kernel10.main_arg7)
      ∧ r.2.mem ((c.tc : Thread Cert.Kernel10.nD Cert.Kernel10.τ).loc Cert.Kernel10.main_arg8) = m ((c.tc : Thread Cert.Kernel10.nD Cert.Kernel10.τ).loc Cert.Kernel10.main_arg8)
      ∧ r.2.mem ((c.tc : Thread Cert.Kernel10.nD Cert.Kernel10.τ).loc Cert.Kernel10.main_arg9) = m ((c.tc : Thread Cert.Kernel10.nD Cert.Kernel10.τ).loc Cert.Kernel10.main_arg9))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
      ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7)
      ∧ r.2.mem ((c.tc : Thread Cert.Kernel10Ideal.nD Cert.Kernel10Ideal.τ).loc Cert.Kernel10Ideal.main_arg8) = m ((c.tc : Thread Cert.Kernel10Ideal.nD Cert.Kernel10Ideal.τ).loc Cert.Kernel10Ideal.main_arg8)
      ∧ r.2.mem ((c.tc : Thread Cert.Kernel10Ideal.nD Cert.Kernel10Ideal.τ).loc Cert.Kernel10Ideal.main_arg9) = m ((c.tc : Thread Cert.Kernel10Ideal.nD Cert.Kernel10Ideal.τ).loc Cert.Kernel10Ideal.main_arg9))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6)
      ∧ r.2.mem ((c.tc : Thread Cert.Reference10Ideal.nD Cert.Reference10Ideal.τ).loc Cert.Reference10Ideal.main_arg7) = m ((c.tc : Thread Cert.Reference10Ideal.nD Cert.Reference10Ideal.τ).loc Cert.Reference10Ideal.main_arg7)
      ∧ r.2.mem ((c.tc : Thread Cert.Reference10Ideal.nD Cert.Reference10Ideal.τ).loc Cert.Reference10Ideal.main_arg8) = m ((c.tc : Thread Cert.Reference10Ideal.nD Cert.Reference10Ideal.τ).loc Cert.Reference10Ideal.main_arg8)
      ∧ r.2.mem ((c.tc : Thread Cert.Reference10Ideal.nD Cert.Reference10Ideal.τ).loc Cert.Reference10Ideal.main_arg9) = m ((c.tc : Thread Cert.Reference10Ideal.nD Cert.Reference10Ideal.τ).loc Cert.Reference10Ideal.main_arg9))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4)
      ∧ r.2.mem ((c.tc : Thread Cert.Kernel12.nD Cert.Kernel12.τ).loc Cert.Kernel12.main_arg5) = m ((c.tc : Thread Cert.Kernel12.nD Cert.Kernel12.τ).loc Cert.Kernel12.main_arg5))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
      ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4)
      ∧ r.2.mem ((c.tc : Thread Cert.Reference12Ideal.nD Cert.Reference12Ideal.τ).loc Cert.Reference12Ideal.main_arg5) = m ((c.tc : Thread Cert.Reference12Ideal.nD Cert.Reference12Ideal.τ).loc Cert.Reference12Ideal.main_arg5))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3)
      ∧ r.2.mem ((c.tc : Thread Cert.Kernel19.nD Cert.Kernel19.τ).loc Cert.Kernel19.main_arg4) = m ((c.tc : Thread Cert.Kernel19.nD Cert.Kernel19.τ).loc Cert.Kernel19.main_arg4)
      ∧ r.2.mem ((c.tc : Thread Cert.Kernel19.nD Cert.Kernel19.τ).loc Cert.Kernel19.main_arg5) = m ((c.tc : Thread Cert.Kernel19.nD Cert.Kernel19.τ).loc Cert.Kernel19.main_arg5)
      ∧ r.2.mem ((c.tc : Thread Cert.Kernel19.nD Cert.Kernel19.τ).loc Cert.Kernel19.main_arg6) = m ((c.tc : Thread Cert.Kernel19.nD Cert.Kernel19.τ).loc Cert.Kernel19.main_arg6)
      ∧ r.2.mem ((c.tc : Thread Cert.Kernel19.nD Cert.Kernel19.τ).loc Cert.Kernel19.main_arg7) = m ((c.tc : Thread Cert.Kernel19.nD Cert.Kernel19.τ).loc Cert.Kernel19.main_arg7))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
      ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4)
      ∧ r.2.mem ((c.tc : Thread Cert.Kernel19Ideal.nD Cert.Kernel19Ideal.τ).loc Cert.Kernel19Ideal.main_arg5) = m ((c.tc : Thread Cert.Kernel19Ideal.nD Cert.Kernel19Ideal.τ).loc Cert.Kernel19Ideal.main_arg5)
      ∧ r.2.mem ((c.tc : Thread Cert.Kernel19Ideal.nD Cert.Kernel19Ideal.τ).loc Cert.Kernel19Ideal.main_arg6) = m ((c.tc : Thread Cert.Kernel19Ideal.nD Cert.Kernel19Ideal.τ).loc Cert.Kernel19Ideal.main_arg6)
      ∧ r.2.mem ((c.tc : Thread Cert.Kernel19Ideal.nD Cert.Kernel19Ideal.τ).loc Cert.Kernel19Ideal.main_arg7) = m ((c.tc : Thread Cert.Kernel19Ideal.nD Cert.Kernel19Ideal.τ).loc Cert.Kernel19Ideal.main_arg7))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3)
      ∧ r.2.mem ((c.tc : Thread Cert.Reference19Ideal.nD Cert.Reference19Ideal.τ).loc Cert.Reference19Ideal.main_arg4) = m ((c.tc : Thread Cert.Reference19Ideal.nD Cert.Reference19Ideal.τ).loc Cert.Reference19Ideal.main_arg4)
      ∧ r.2.mem ((c.tc : Thread Cert.Reference19Ideal.nD Cert.Reference19Ideal.τ).loc Cert.Reference19Ideal.main_arg5) = m ((c.tc : Thread Cert.Reference19Ideal.nD Cert.Reference19Ideal.τ).loc Cert.Reference19Ideal.main_arg5)
      ∧ r.2.mem ((c.tc : Thread Cert.Reference19Ideal.nD Cert.Reference19Ideal.τ).loc Cert.Reference19Ideal.main_arg6) = m ((c.tc : Thread Cert.Reference19Ideal.nD Cert.Reference19Ideal.τ).loc Cert.Reference19Ideal.main_arg6)
      ∧ r.2.mem ((c.tc : Thread Cert.Reference19Ideal.nD Cert.Reference19Ideal.τ).loc Cert.Reference19Ideal.main_arg7) = m ((c.tc : Thread Cert.Reference19Ideal.nD Cert.Reference19Ideal.τ).loc Cert.Reference19Ideal.main_arg7))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3)
      ∧ r.2.mem ((c.tc : Thread Cert.Kernel21.nD Cert.Kernel21.τ).loc Cert.Kernel21.main_arg4) = m ((c.tc : Thread Cert.Kernel21.nD Cert.Kernel21.τ).loc Cert.Kernel21.main_arg4)
      ∧ r.2.mem ((c.tc : Thread Cert.Kernel21.nD Cert.Kernel21.τ).loc Cert.Kernel21.main_arg5) = m ((c.tc : Thread Cert.Kernel21.nD Cert.Kernel21.τ).loc Cert.Kernel21.main_arg5)
      ∧ r.2.mem ((c.tc : Thread Cert.Kernel21.nD Cert.Kernel21.τ).loc Cert.Kernel21.main_arg6) = m ((c.tc : Thread Cert.Kernel21.nD Cert.Kernel21.τ).loc Cert.Kernel21.main_arg6)
      ∧ r.2.mem ((c.tc : Thread Cert.Kernel21.nD Cert.Kernel21.τ).loc Cert.Kernel21.main_arg7) = m ((c.tc : Thread Cert.Kernel21.nD Cert.Kernel21.τ).loc Cert.Kernel21.main_arg7)
      ∧ r.2.mem ((c.tc : Thread Cert.Kernel21.nD Cert.Kernel21.τ).loc Cert.Kernel21.main_arg8) = m ((c.tc : Thread Cert.Kernel21.nD Cert.Kernel21.τ).loc Cert.Kernel21.main_arg8)
      ∧ r.2.mem ((c.tc : Thread Cert.Kernel21.nD Cert.Kernel21.τ).loc Cert.Kernel21.main_arg9) = m ((c.tc : Thread Cert.Kernel21.nD Cert.Kernel21.τ).loc Cert.Kernel21.main_arg9)
      ∧ r.2.mem ((c.tc : Thread Cert.Kernel21.nD Cert.Kernel21.τ).loc Cert.Kernel21.main_arg10) = m ((c.tc : Thread Cert.Kernel21.nD Cert.Kernel21.τ).loc Cert.Kernel21.main_arg10))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
      ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4)
      ∧ r.2.mem ((c.tc : Thread Cert.Kernel21Ideal.nD Cert.Kernel21Ideal.τ).loc Cert.Kernel21Ideal.main_arg5) = m ((c.tc : Thread Cert.Kernel21Ideal.nD Cert.Kernel21Ideal.τ).loc Cert.Kernel21Ideal.main_arg5)
      ∧ r.2.mem ((c.tc : Thread Cert.Kernel21Ideal.nD Cert.Kernel21Ideal.τ).loc Cert.Kernel21Ideal.main_arg6) = m ((c.tc : Thread Cert.Kernel21Ideal.nD Cert.Kernel21Ideal.τ).loc Cert.Kernel21Ideal.main_arg6)
      ∧ r.2.mem ((c.tc : Thread Cert.Kernel21Ideal.nD Cert.Kernel21Ideal.τ).loc Cert.Kernel21Ideal.main_arg7) = m ((c.tc : Thread Cert.Kernel21Ideal.nD Cert.Kernel21Ideal.τ).loc Cert.Kernel21Ideal.main_arg7)
      ∧ r.2.mem ((c.tc : Thread Cert.Kernel21Ideal.nD Cert.Kernel21Ideal.τ).loc Cert.Kernel21Ideal.main_arg8) = m ((c.tc : Thread Cert.Kernel21Ideal.nD Cert.Kernel21Ideal.τ).loc Cert.Kernel21Ideal.main_arg8)
      ∧ r.2.mem ((c.tc : Thread Cert.Kernel21Ideal.nD Cert.Kernel21Ideal.τ).loc Cert.Kernel21Ideal.main_arg9) = m ((c.tc : Thread Cert.Kernel21Ideal.nD Cert.Kernel21Ideal.τ).loc Cert.Kernel21Ideal.main_arg9)
      ∧ r.2.mem ((c.tc : Thread Cert.Kernel21Ideal.nD Cert.Kernel21Ideal.τ).loc Cert.Kernel21Ideal.main_arg10) = m ((c.tc : Thread Cert.Kernel21Ideal.nD Cert.Kernel21Ideal.τ).loc Cert.Kernel21Ideal.main_arg10))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3)
      ∧ r.2.mem ((c.tc : Thread Cert.Reference21Ideal.nD Cert.Reference21Ideal.τ).loc Cert.Reference21Ideal.main_arg4) = m ((c.tc : Thread Cert.Reference21Ideal.nD Cert.Reference21Ideal.τ).loc Cert.Reference21Ideal.main_arg4)
      ∧ r.2.mem ((c.tc : Thread Cert.Reference21Ideal.nD Cert.Reference21Ideal.τ).loc Cert.Reference21Ideal.main_arg5) = m ((c.tc : Thread Cert.Reference21Ideal.nD Cert.Reference21Ideal.τ).loc Cert.Reference21Ideal.main_arg5)
      ∧ r.2.mem ((c.tc : Thread Cert.Reference21Ideal.nD Cert.Reference21Ideal.τ).loc Cert.Reference21Ideal.main_arg6) = m ((c.tc : Thread Cert.Reference21Ideal.nD Cert.Reference21Ideal.τ).loc Cert.Reference21Ideal.main_arg6)
      ∧ r.2.mem ((c.tc : Thread Cert.Reference21Ideal.nD Cert.Reference21Ideal.τ).loc Cert.Reference21Ideal.main_arg7) = m ((c.tc : Thread Cert.Reference21Ideal.nD Cert.Reference21Ideal.τ).loc Cert.Reference21Ideal.main_arg7)
      ∧ r.2.mem ((c.tc : Thread Cert.Reference21Ideal.nD Cert.Reference21Ideal.τ).loc Cert.Reference21Ideal.main_arg8) = m ((c.tc : Thread Cert.Reference21Ideal.nD Cert.Reference21Ideal.τ).loc Cert.Reference21Ideal.main_arg8)
      ∧ r.2.mem ((c.tc : Thread Cert.Reference21Ideal.nD Cert.Reference21Ideal.τ).loc Cert.Reference21Ideal.main_arg9) = m ((c.tc : Thread Cert.Reference21Ideal.nD Cert.Reference21Ideal.τ).loc Cert.Reference21Ideal.main_arg9)
      ∧ r.2.mem ((c.tc : Thread Cert.Reference21Ideal.nD Cert.Reference21Ideal.τ).loc Cert.Reference21Ideal.main_arg10) = m ((c.tc : Thread Cert.Reference21Ideal.nD Cert.Reference21Ideal.τ).loc Cert.Reference21Ideal.main_arg10))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)) (v5 : (c : Dev Cert.KernelIdeal.nD) → Buf (Elt Ideal) ((c.tc : Thread Cert.KernelIdeal.nD Cert.KernelIdeal.τ).loc Cert.KernelIdeal.main_v0_5)) (v6 : (c : Dev Cert.KernelIdeal.nD) → Buf (Elt Ideal) ((c.tc : Thread Cert.KernelIdeal.nD Cert.KernelIdeal.τ).loc Cert.KernelIdeal.main_v0_6)) (v7 : (c : Dev Cert.KernelIdeal.nD) → Buf (Elt Ideal) ((c.tc : Thread Cert.KernelIdeal.nD Cert.KernelIdeal.τ).loc Cert.KernelIdeal.main_v0_7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_v0_5) = v5 c
          ∧ r.2.mem ((c.tc : Thread Cert.KernelIdeal.nD Cert.KernelIdeal.τ).loc Cert.KernelIdeal.main_v0_6) = v6 c
          ∧ r.2.mem ((c.tc : Thread Cert.KernelIdeal.nD Cert.KernelIdeal.τ).loc Cert.KernelIdeal.main_v0_7) = v7 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_v53) = v1 c
          ∧ r.2.mem ((c.tc : Thread Cert.ReferenceIdeal.nD Cert.ReferenceIdeal.τ).loc Cert.ReferenceIdeal.main_v55) = v2 c
          ∧ r.2.mem ((c.tc : Thread Cert.ReferenceIdeal.nD Cert.ReferenceIdeal.τ).loc Cert.ReferenceIdeal.main_v57) = v3 c
          ∧ r.2.mem ((c.tc : Thread Cert.ReferenceIdeal.nD Cert.ReferenceIdeal.τ).loc Cert.ReferenceIdeal.main_v59) = v4 c
          ∧ r.2.mem ((c.tc : Thread Cert.ReferenceIdeal.nD Cert.ReferenceIdeal.τ).loc Cert.ReferenceIdeal.main_v61) = v5 c
          ∧ r.2.mem ((c.tc : Thread Cert.ReferenceIdeal.nD Cert.ReferenceIdeal.τ).loc Cert.ReferenceIdeal.main_v62) = v6 c
          ∧ r.2.mem ((c.tc : Thread Cert.ReferenceIdeal.nD Cert.ReferenceIdeal.τ).loc Cert.ReferenceIdeal.main_v46_12) = v7 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v3) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v3) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v3) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v4) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v3) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v4) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v7) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)
      ∧ m' ((c.tc : Thread Cert.Reference10Ideal.nD Cert.Reference10Ideal.τ).loc Cert.Reference10Ideal.main_arg6) = m ((c.tc : Thread Cert.Kernel10Ideal.nD Cert.Kernel10Ideal.τ).loc Cert.Kernel10Ideal.main_arg6)
      ∧ m' ((c.tc : Thread Cert.Reference10Ideal.nD Cert.Reference10Ideal.τ).loc Cert.Reference10Ideal.main_arg7) = m ((c.tc : Thread Cert.Kernel10Ideal.nD Cert.Kernel10Ideal.τ).loc Cert.Kernel10Ideal.main_arg7)
      ∧ m' ((c.tc : Thread Cert.Reference10Ideal.nD Cert.Reference10Ideal.τ).loc Cert.Reference10Ideal.main_arg8) = m ((c.tc : Thread Cert.Kernel10Ideal.nD Cert.Kernel10Ideal.τ).loc Cert.Kernel10Ideal.main_arg8)
      ∧ m' ((c.tc : Thread Cert.Reference10Ideal.nD Cert.Reference10Ideal.τ).loc Cert.Reference10Ideal.main_arg9) = m ((c.tc : Thread Cert.Kernel10Ideal.nD Cert.Kernel10Ideal.τ).loc Cert.Kernel10Ideal.main_arg9)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
          ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
          ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7)
          ∧ r.2.mem ((c.tc : Thread Cert.Kernel10Ideal.nD Cert.Kernel10Ideal.τ).loc Cert.Kernel10Ideal.main_arg8) = m ((c.tc : Thread Cert.Kernel10Ideal.nD Cert.Kernel10Ideal.τ).loc Cert.Kernel10Ideal.main_arg8)
          ∧ r.2.mem ((c.tc : Thread Cert.Kernel10Ideal.nD Cert.Kernel10Ideal.τ).loc Cert.Kernel10Ideal.main_arg9) = m ((c.tc : Thread Cert.Kernel10Ideal.nD Cert.Kernel10Ideal.τ).loc Cert.Kernel10Ideal.main_arg9))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v24) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5)
          ∧ r.2.mem ((c.tc : Thread Cert.Reference10Ideal.nD Cert.Reference10Ideal.τ).loc Cert.Reference10Ideal.main_arg6) = m' ((c.tc : Thread Cert.Reference10Ideal.nD Cert.Reference10Ideal.τ).loc Cert.Reference10Ideal.main_arg6)
          ∧ r.2.mem ((c.tc : Thread Cert.Reference10Ideal.nD Cert.Reference10Ideal.τ).loc Cert.Reference10Ideal.main_arg7) = m' ((c.tc : Thread Cert.Reference10Ideal.nD Cert.Reference10Ideal.τ).loc Cert.Reference10Ideal.main_arg7)
          ∧ r.2.mem ((c.tc : Thread Cert.Reference10Ideal.nD Cert.Reference10Ideal.τ).loc Cert.Reference10Ideal.main_arg8) = m' ((c.tc : Thread Cert.Reference10Ideal.nD Cert.Reference10Ideal.τ).loc Cert.Reference10Ideal.main_arg8)
          ∧ r.2.mem ((c.tc : Thread Cert.Reference10Ideal.nD Cert.Reference10Ideal.τ).loc Cert.Reference10Ideal.main_arg9) = m' ((c.tc : Thread Cert.Reference10Ideal.nD Cert.Reference10Ideal.τ).loc Cert.Reference10Ideal.main_arg9))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v1) = v0 c
          ∧ r.2.mem ((c.tc : Thread Cert.Reference11Ideal.nD Cert.Reference11Ideal.τ).loc Cert.Reference11Ideal.main_v3) = v1 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)
      ∧ m' ((c.tc : Thread Cert.Reference12Ideal.nD Cert.Reference12Ideal.τ).loc Cert.Reference12Ideal.main_arg5) = m ((c.tc : Thread Cert.Kernel12Ideal.nD Cert.Kernel12Ideal.τ).loc Cert.Kernel12Ideal.main_arg5)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)) (v2 : (c : Dev Cert.Kernel12Ideal.nD) → Buf (Elt Ideal) ((c.tc : Thread Cert.Kernel12Ideal.nD Cert.Kernel12Ideal.τ).loc Cert.Kernel12Ideal.main_v0_2)) (v3 : (c : Dev Cert.Kernel12Ideal.nD) → Buf (Elt Ideal) ((c.tc : Thread Cert.Kernel12Ideal.nD Cert.Kernel12Ideal.τ).loc Cert.Kernel12Ideal.main_v0_3)) (v4 : (c : Dev Cert.Kernel12Ideal.nD) → Buf (Elt Ideal) ((c.tc : Thread Cert.Kernel12Ideal.nD Cert.Kernel12Ideal.τ).loc Cert.Kernel12Ideal.main_v0_4)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_v0_2) = v2 c
          ∧ r.2.mem ((c.tc : Thread Cert.Kernel12Ideal.nD Cert.Kernel12Ideal.τ).loc Cert.Kernel12Ideal.main_v0_3) = v3 c
          ∧ r.2.mem ((c.tc : Thread Cert.Kernel12Ideal.nD Cert.Kernel12Ideal.τ).loc Cert.Kernel12Ideal.main_v0_4) = v4 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
          ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v2) = v0 c
          ∧ r.2.mem ((c.tc : Thread Cert.Reference12Ideal.nD Cert.Reference12Ideal.τ).loc Cert.Reference12Ideal.main_v5) = v1 c
          ∧ r.2.mem ((c.tc : Thread Cert.Reference12Ideal.nD Cert.Reference12Ideal.τ).loc Cert.Reference12Ideal.main_v8) = v2 c
          ∧ r.2.mem ((c.tc : Thread Cert.Reference12Ideal.nD Cert.Reference12Ideal.τ).loc Cert.Reference12Ideal.main_v11) = v3 c
          ∧ r.2.mem ((c.tc : Thread Cert.Reference12Ideal.nD Cert.Reference12Ideal.τ).loc Cert.Reference12Ideal.main_v14) = v4 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4)
          ∧ r.2.mem ((c.tc : Thread Cert.Reference12Ideal.nD Cert.Reference12Ideal.τ).loc Cert.Reference12Ideal.main_arg5) = m' ((c.tc : Thread Cert.Reference12Ideal.nD Cert.Reference12Ideal.τ).loc Cert.Reference12Ideal.main_arg5))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v1) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v1) = v0 c
          ∧ r.2.mem ((c.tc : Thread Cert.Reference14Ideal.nD Cert.Reference14Ideal.τ).loc Cert.Reference14Ideal.main_v10) = v1 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v16) = v0 c
          ∧ r.2.mem ((c.tc : Thread Cert.Reference15Ideal.nD Cert.Reference15Ideal.τ).loc Cert.Reference15Ideal.main_v17) = v1 c
          ∧ r.2.mem ((c.tc : Thread Cert.Reference15Ideal.nD Cert.Reference15Ideal.τ).loc Cert.Reference15Ideal.main_v14) = v2 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v110) = v0 c
          ∧ r.2.mem ((c.tc : Thread Cert.Reference17Ideal.nD Cert.Reference17Ideal.τ).loc Cert.Reference17Ideal.main_v106) = v1 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v114) = v0 c
          ∧ r.2.mem ((c.tc : Thread Cert.Reference18Ideal.nD Cert.Reference18Ideal.τ).loc Cert.Reference18Ideal.main_v110) = v1 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)
      ∧ m' ((c.tc : Thread Cert.Reference19Ideal.nD Cert.Reference19Ideal.τ).loc Cert.Reference19Ideal.main_arg4) = m ((c.tc : Thread Cert.Kernel19Ideal.nD Cert.Kernel19Ideal.τ).loc Cert.Kernel19Ideal.main_arg4)
      ∧ m' ((c.tc : Thread Cert.Reference19Ideal.nD Cert.Reference19Ideal.τ).loc Cert.Reference19Ideal.main_arg5) = m ((c.tc : Thread Cert.Kernel19Ideal.nD Cert.Kernel19Ideal.τ).loc Cert.Kernel19Ideal.main_arg5)
      ∧ m' ((c.tc : Thread Cert.Reference19Ideal.nD Cert.Reference19Ideal.τ).loc Cert.Reference19Ideal.main_arg6) = m ((c.tc : Thread Cert.Kernel19Ideal.nD Cert.Kernel19Ideal.τ).loc Cert.Kernel19Ideal.main_arg6)
      ∧ m' ((c.tc : Thread Cert.Reference19Ideal.nD Cert.Reference19Ideal.τ).loc Cert.Reference19Ideal.main_arg7) = m ((c.tc : Thread Cert.Kernel19Ideal.nD Cert.Kernel19Ideal.τ).loc Cert.Kernel19Ideal.main_arg7)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)) (v2 : (c : Dev Cert.Kernel19Ideal.nD) → Buf (Elt Ideal) ((c.tc : Thread Cert.Kernel19Ideal.nD Cert.Kernel19Ideal.τ).loc Cert.Kernel19Ideal.main_v0_2)) (v3 : (c : Dev Cert.Kernel19Ideal.nD) → Buf (Elt Ideal) ((c.tc : Thread Cert.Kernel19Ideal.nD Cert.Kernel19Ideal.τ).loc Cert.Kernel19Ideal.main_v0_3)) (v4 : (c : Dev Cert.Kernel19Ideal.nD) → Buf (Elt Ideal) ((c.tc : Thread Cert.Kernel19Ideal.nD Cert.Kernel19Ideal.τ).loc Cert.Kernel19Ideal.main_v0_4)) (v5 : (c : Dev Cert.Kernel19Ideal.nD) → Buf (Elt Ideal) ((c.tc : Thread Cert.Kernel19Ideal.nD Cert.Kernel19Ideal.τ).loc Cert.Kernel19Ideal.main_v0_5)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_v0_2) = v2 c
          ∧ r.2.mem ((c.tc : Thread Cert.Kernel19Ideal.nD Cert.Kernel19Ideal.τ).loc Cert.Kernel19Ideal.main_v0_3) = v3 c
          ∧ r.2.mem ((c.tc : Thread Cert.Kernel19Ideal.nD Cert.Kernel19Ideal.τ).loc Cert.Kernel19Ideal.main_v0_4) = v4 c
          ∧ r.2.mem ((c.tc : Thread Cert.Kernel19Ideal.nD Cert.Kernel19Ideal.τ).loc Cert.Kernel19Ideal.main_v0_5) = v5 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
          ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4)
          ∧ r.2.mem ((c.tc : Thread Cert.Kernel19Ideal.nD Cert.Kernel19Ideal.τ).loc Cert.Kernel19Ideal.main_arg5) = m ((c.tc : Thread Cert.Kernel19Ideal.nD Cert.Kernel19Ideal.τ).loc Cert.Kernel19Ideal.main_arg5)
          ∧ r.2.mem ((c.tc : Thread Cert.Kernel19Ideal.nD Cert.Kernel19Ideal.τ).loc Cert.Kernel19Ideal.main_arg6) = m ((c.tc : Thread Cert.Kernel19Ideal.nD Cert.Kernel19Ideal.τ).loc Cert.Kernel19Ideal.main_arg6)
          ∧ r.2.mem ((c.tc : Thread Cert.Kernel19Ideal.nD Cert.Kernel19Ideal.τ).loc Cert.Kernel19Ideal.main_arg7) = m ((c.tc : Thread Cert.Kernel19Ideal.nD Cert.Kernel19Ideal.τ).loc Cert.Kernel19Ideal.main_arg7))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v50) = v0 c
          ∧ r.2.mem ((c.tc : Thread Cert.Reference19Ideal.nD Cert.Reference19Ideal.τ).loc Cert.Reference19Ideal.main_v33) = v1 c
          ∧ r.2.mem ((c.tc : Thread Cert.Reference19Ideal.nD Cert.Reference19Ideal.τ).loc Cert.Reference19Ideal.main_v28) = v2 c
          ∧ r.2.mem ((c.tc : Thread Cert.Reference19Ideal.nD Cert.Reference19Ideal.τ).loc Cert.Reference19Ideal.main_v25) = v3 c
          ∧ r.2.mem ((c.tc : Thread Cert.Reference19Ideal.nD Cert.Reference19Ideal.τ).loc Cert.Reference19Ideal.main_v28) = v4 c
          ∧ r.2.mem ((c.tc : Thread Cert.Reference19Ideal.nD Cert.Reference19Ideal.τ).loc Cert.Reference19Ideal.main_v25) = v5 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3)
          ∧ r.2.mem ((c.tc : Thread Cert.Reference19Ideal.nD Cert.Reference19Ideal.τ).loc Cert.Reference19Ideal.main_arg4) = m' ((c.tc : Thread Cert.Reference19Ideal.nD Cert.Reference19Ideal.τ).loc Cert.Reference19Ideal.main_arg4)
          ∧ r.2.mem ((c.tc : Thread Cert.Reference19Ideal.nD Cert.Reference19Ideal.τ).loc Cert.Reference19Ideal.main_arg5) = m' ((c.tc : Thread Cert.Reference19Ideal.nD Cert.Reference19Ideal.τ).loc Cert.Reference19Ideal.main_arg5)
          ∧ r.2.mem ((c.tc : Thread Cert.Reference19Ideal.nD Cert.Reference19Ideal.τ).loc Cert.Reference19Ideal.main_arg6) = m' ((c.tc : Thread Cert.Reference19Ideal.nD Cert.Reference19Ideal.τ).loc Cert.Reference19Ideal.main_arg6)
          ∧ r.2.mem ((c.tc : Thread Cert.Reference19Ideal.nD Cert.Reference19Ideal.τ).loc Cert.Reference19Ideal.main_arg7) = m' ((c.tc : Thread Cert.Reference19Ideal.nD Cert.Reference19Ideal.τ).loc Cert.Reference19Ideal.main_arg7))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)
      ∧ m' ((c.tc : Thread Cert.Reference21Ideal.nD Cert.Reference21Ideal.τ).loc Cert.Reference21Ideal.main_arg4) = m ((c.tc : Thread Cert.Kernel21Ideal.nD Cert.Kernel21Ideal.τ).loc Cert.Kernel21Ideal.main_arg4)
      ∧ m' ((c.tc : Thread Cert.Reference21Ideal.nD Cert.Reference21Ideal.τ).loc Cert.Reference21Ideal.main_arg5) = m ((c.tc : Thread Cert.Kernel21Ideal.nD Cert.Kernel21Ideal.τ).loc Cert.Kernel21Ideal.main_arg5)
      ∧ m' ((c.tc : Thread Cert.Reference21Ideal.nD Cert.Reference21Ideal.τ).loc Cert.Reference21Ideal.main_arg6) = m ((c.tc : Thread Cert.Kernel21Ideal.nD Cert.Kernel21Ideal.τ).loc Cert.Kernel21Ideal.main_arg6)
      ∧ m' ((c.tc : Thread Cert.Reference21Ideal.nD Cert.Reference21Ideal.τ).loc Cert.Reference21Ideal.main_arg7) = m ((c.tc : Thread Cert.Kernel21Ideal.nD Cert.Kernel21Ideal.τ).loc Cert.Kernel21Ideal.main_arg7)
      ∧ m' ((c.tc : Thread Cert.Reference21Ideal.nD Cert.Reference21Ideal.τ).loc Cert.Reference21Ideal.main_arg8) = m ((c.tc : Thread Cert.Kernel21Ideal.nD Cert.Kernel21Ideal.τ).loc Cert.Kernel21Ideal.main_arg8)
      ∧ m' ((c.tc : Thread Cert.Reference21Ideal.nD Cert.Reference21Ideal.τ).loc Cert.Reference21Ideal.main_arg9) = m ((c.tc : Thread Cert.Kernel21Ideal.nD Cert.Kernel21Ideal.τ).loc Cert.Kernel21Ideal.main_arg9)
      ∧ m' ((c.tc : Thread Cert.Reference21Ideal.nD Cert.Reference21Ideal.τ).loc Cert.Reference21Ideal.main_arg10) = m ((c.tc : Thread Cert.Kernel21Ideal.nD Cert.Kernel21Ideal.τ).loc Cert.Kernel21Ideal.main_arg10)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)) (v2 : (c : Dev Cert.Kernel21Ideal.nD) → Buf (Elt Ideal) ((c.tc : Thread Cert.Kernel21Ideal.nD Cert.Kernel21Ideal.τ).loc Cert.Kernel21Ideal.main_v0_2)) (v3 : (c : Dev Cert.Kernel21Ideal.nD) → Buf (Elt Ideal) ((c.tc : Thread Cert.Kernel21Ideal.nD Cert.Kernel21Ideal.τ).loc Cert.Kernel21Ideal.main_v0_3)) (v4 : (c : Dev Cert.Kernel21Ideal.nD) → Buf (Elt Ideal) ((c.tc : Thread Cert.Kernel21Ideal.nD Cert.Kernel21Ideal.τ).loc Cert.Kernel21Ideal.main_v0_4)) (v5 : (c : Dev Cert.Kernel21Ideal.nD) → Buf (Elt Ideal) ((c.tc : Thread Cert.Kernel21Ideal.nD Cert.Kernel21Ideal.τ).loc Cert.Kernel21Ideal.main_v0_5)) (v6 : (c : Dev Cert.Kernel21Ideal.nD) → Buf (Elt Ideal) ((c.tc : Thread Cert.Kernel21Ideal.nD Cert.Kernel21Ideal.τ).loc Cert.Kernel21Ideal.main_v0_6)) (v7 : (c : Dev Cert.Kernel21Ideal.nD) → Buf (Elt Ideal) ((c.tc : Thread Cert.Kernel21Ideal.nD Cert.Kernel21Ideal.τ).loc Cert.Kernel21Ideal.main_v0_7)) (v8 : (c : Dev Cert.Kernel21Ideal.nD) → Buf (Elt Ideal) ((c.tc : Thread Cert.Kernel21Ideal.nD Cert.Kernel21Ideal.τ).loc Cert.Kernel21Ideal.main_v0_8)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_v0_2) = v2 c
          ∧ r.2.mem ((c.tc : Thread Cert.Kernel21Ideal.nD Cert.Kernel21Ideal.τ).loc Cert.Kernel21Ideal.main_v0_3) = v3 c
          ∧ r.2.mem ((c.tc : Thread Cert.Kernel21Ideal.nD Cert.Kernel21Ideal.τ).loc Cert.Kernel21Ideal.main_v0_4) = v4 c
          ∧ r.2.mem ((c.tc : Thread Cert.Kernel21Ideal.nD Cert.Kernel21Ideal.τ).loc Cert.Kernel21Ideal.main_v0_5) = v5 c
          ∧ r.2.mem ((c.tc : Thread Cert.Kernel21Ideal.nD Cert.Kernel21Ideal.τ).loc Cert.Kernel21Ideal.main_v0_6) = v6 c
          ∧ r.2.mem ((c.tc : Thread Cert.Kernel21Ideal.nD Cert.Kernel21Ideal.τ).loc Cert.Kernel21Ideal.main_v0_7) = v7 c
          ∧ r.2.mem ((c.tc : Thread Cert.Kernel21Ideal.nD Cert.Kernel21Ideal.τ).loc Cert.Kernel21Ideal.main_v0_8) = v8 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
          ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4)
          ∧ r.2.mem ((c.tc : Thread Cert.Kernel21Ideal.nD Cert.Kernel21Ideal.τ).loc Cert.Kernel21Ideal.main_arg5) = m ((c.tc : Thread Cert.Kernel21Ideal.nD Cert.Kernel21Ideal.τ).loc Cert.Kernel21Ideal.main_arg5)
          ∧ r.2.mem ((c.tc : Thread Cert.Kernel21Ideal.nD Cert.Kernel21Ideal.τ).loc Cert.Kernel21Ideal.main_arg6) = m ((c.tc : Thread Cert.Kernel21Ideal.nD Cert.Kernel21Ideal.τ).loc Cert.Kernel21Ideal.main_arg6)
          ∧ r.2.mem ((c.tc : Thread Cert.Kernel21Ideal.nD Cert.Kernel21Ideal.τ).loc Cert.Kernel21Ideal.main_arg7) = m ((c.tc : Thread Cert.Kernel21Ideal.nD Cert.Kernel21Ideal.τ).loc Cert.Kernel21Ideal.main_arg7)
          ∧ r.2.mem ((c.tc : Thread Cert.Kernel21Ideal.nD Cert.Kernel21Ideal.τ).loc Cert.Kernel21Ideal.main_arg8) = m ((c.tc : Thread Cert.Kernel21Ideal.nD Cert.Kernel21Ideal.τ).loc Cert.Kernel21Ideal.main_arg8)
          ∧ r.2.mem ((c.tc : Thread Cert.Kernel21Ideal.nD Cert.Kernel21Ideal.τ).loc Cert.Kernel21Ideal.main_arg9) = m ((c.tc : Thread Cert.Kernel21Ideal.nD Cert.Kernel21Ideal.τ).loc Cert.Kernel21Ideal.main_arg9)
          ∧ r.2.mem ((c.tc : Thread Cert.Kernel21Ideal.nD Cert.Kernel21Ideal.τ).loc Cert.Kernel21Ideal.main_arg10) = m ((c.tc : Thread Cert.Kernel21Ideal.nD Cert.Kernel21Ideal.τ).loc Cert.Kernel21Ideal.main_arg10))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v54) = v0 c
          ∧ r.2.mem ((c.tc : Thread Cert.Reference21Ideal.nD Cert.Reference21Ideal.τ).loc Cert.Reference21Ideal.main_v57) = v1 c
          ∧ r.2.mem ((c.tc : Thread Cert.Reference21Ideal.nD Cert.Reference21Ideal.τ).loc Cert.Reference21Ideal.main_v60) = v2 c
          ∧ r.2.mem ((c.tc : Thread Cert.Reference21Ideal.nD Cert.Reference21Ideal.τ).loc Cert.Reference21Ideal.main_v60) = v3 c
          ∧ r.2.mem ((c.tc : Thread Cert.Reference21Ideal.nD Cert.Reference21Ideal.τ).loc Cert.Reference21Ideal.main_v37) = v4 c
          ∧ r.2.mem ((c.tc : Thread Cert.Reference21Ideal.nD Cert.Reference21Ideal.τ).loc Cert.Reference21Ideal.main_v32) = v5 c
          ∧ r.2.mem ((c.tc : Thread Cert.Reference21Ideal.nD Cert.Reference21Ideal.τ).loc Cert.Reference21Ideal.main_v29) = v6 c
          ∧ r.2.mem ((c.tc : Thread Cert.Reference21Ideal.nD Cert.Reference21Ideal.τ).loc Cert.Reference21Ideal.main_v32) = v7 c
          ∧ r.2.mem ((c.tc : Thread Cert.Reference21Ideal.nD Cert.Reference21Ideal.τ).loc Cert.Reference21Ideal.main_v29) = v8 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3)
          ∧ r.2.mem ((c.tc : Thread Cert.Reference21Ideal.nD Cert.Reference21Ideal.τ).loc Cert.Reference21Ideal.main_arg4) = m' ((c.tc : Thread Cert.Reference21Ideal.nD Cert.Reference21Ideal.τ).loc Cert.Reference21Ideal.main_arg4)
          ∧ r.2.mem ((c.tc : Thread Cert.Reference21Ideal.nD Cert.Reference21Ideal.τ).loc Cert.Reference21Ideal.main_arg5) = m' ((c.tc : Thread Cert.Reference21Ideal.nD Cert.Reference21Ideal.τ).loc Cert.Reference21Ideal.main_arg5)
          ∧ r.2.mem ((c.tc : Thread Cert.Reference21Ideal.nD Cert.Reference21Ideal.τ).loc Cert.Reference21Ideal.main_arg6) = m' ((c.tc : Thread Cert.Reference21Ideal.nD Cert.Reference21Ideal.τ).loc Cert.Reference21Ideal.main_arg6)
          ∧ r.2.mem ((c.tc : Thread Cert.Reference21Ideal.nD Cert.Reference21Ideal.τ).loc Cert.Reference21Ideal.main_arg7) = m' ((c.tc : Thread Cert.Reference21Ideal.nD Cert.Reference21Ideal.τ).loc Cert.Reference21Ideal.main_arg7)
          ∧ r.2.mem ((c.tc : Thread Cert.Reference21Ideal.nD Cert.Reference21Ideal.τ).loc Cert.Reference21Ideal.main_arg8) = m' ((c.tc : Thread Cert.Reference21Ideal.nD Cert.Reference21Ideal.τ).loc Cert.Reference21Ideal.main_arg8)
          ∧ r.2.mem ((c.tc : Thread Cert.Reference21Ideal.nD Cert.Reference21Ideal.τ).loc Cert.Reference21Ideal.main_arg9) = m' ((c.tc : Thread Cert.Reference21Ideal.nD Cert.Reference21Ideal.τ).loc Cert.Reference21Ideal.main_arg9)
          ∧ r.2.mem ((c.tc : Thread Cert.Reference21Ideal.nD Cert.Reference21Ideal.τ).loc Cert.Reference21Ideal.main_arg10) = m' ((c.tc : Thread Cert.Reference21Ideal.nD Cert.Reference21Ideal.τ).loc Cert.Reference21Ideal.main_arg10))

def Claim : Prop :=
  ∃ (hKernel : Cert.Kernel.Facts) (hKernelIdeal : Cert.KernelIdeal.Facts) (hReferenceIdeal : Cert.ReferenceIdeal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel21 : Cert.Kernel21.Facts) (hKernel21Ideal : Cert.Kernel21Ideal.Facts) (hReference21Ideal : Cert.Reference21Ideal.Facts),
    quiescent_Kernel (hKernel := hKernel)
    ∧ quiescent_KernelIdeal (hKernelIdeal := hKernelIdeal)
    ∧ quiescent_ReferenceIdeal (hReferenceIdeal := hReferenceIdeal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel21 (hKernel21 := hKernel21)
    ∧ quiescent_Kernel21Ideal (hKernel21Ideal := hKernel21Ideal)
    ∧ quiescent_Reference21Ideal (hReference21Ideal := hReference21Ideal)
    ∧ preserves_Kernel_KernelIdeal
    ∧ algebraic_KernelIdeal_ReferenceIdeal (hKernelIdeal := hKernelIdeal) (hReferenceIdeal := hReferenceIdeal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel21_Kernel21Ideal
    ∧ algebraic_Kernel21Ideal_Reference21Ideal (hKernel21Ideal := hKernel21Ideal) (hReference21Ideal := hReference21Ideal)
-- ==== Kernel.lean ====
abbrev S8x4096x128 : Shape := ⟨3, ![8, 4096, 128]⟩
abbrev S8x4096x256 : Shape := ⟨3, ![8, 4096, 256]⟩
abbrev S8x4096x64 : Shape := ⟨3, ![8, 4096, 64]⟩
abbrev S8x4096x1 : Shape := ⟨3, ![8, 4096, 1]⟩
abbrev S4096x2048 : Shape := ⟨2, ![4096, 2048]⟩
abbrev S1x2048 : Shape := ⟨2, ![1, 2048]⟩
abbrev S32x8x128x256 : Shape := ⟨4, ![32, 8, 128, 256]⟩
abbrev S8x128x128 : Shape := ⟨3, ![8, 128, 128]⟩
abbrev S8x128x256 : Shape := ⟨3, ![8, 128, 256]⟩
abbrev S8x128x64 : Shape := ⟨3, ![8, 128, 64]⟩
abbrev S8x128x1 : Shape := ⟨3, ![8, 128, 1]⟩
abbrev S128x2048 : Shape := ⟨2, ![128, 2048]⟩
abbrev S1x8x128x256 : Shape := ⟨4, ![1, 8, 128, 256]⟩
abbrev S8x64x128 : Shape := ⟨3, ![8, 64, 128]⟩
abbrev S8x64x256 : Shape := ⟨3, ![8, 64, 256]⟩
abbrev S8x64x64 : Shape := ⟨3, ![8, 64, 64]⟩
abbrev S8x64x1 : Shape := ⟨3, ![8, 64, 1]⟩
abbrev S64x2048 : Shape := ⟨2, ![64, 2048]⟩
abbrev S8x1x1 : Shape := ⟨3, ![8, 1, 1]⟩
abbrev S1x64x256 : Shape := ⟨3, ![1, 64, 256]⟩
abbrev S64x256 : Shape := ⟨2, ![64, 256]⟩
abbrev S64 : Shape := ⟨1, ![64]⟩
abbrev S64x1 : Shape := ⟨2, ![64, 1]⟩
abbrev S2048 : Shape := ⟨1, ![2048]⟩
abbrev S64x1792 : Shape := ⟨2, ![64, 1792]⟩
abbrev S64x1536 : Shape := ⟨2, ![64, 1536]⟩
abbrev S64x1280 : Shape := ⟨2, ![64, 1280]⟩
abbrev S64x512 : Shape := ⟨2, ![64, 512]⟩
abbrev S64x1024 : Shape := ⟨2, ![64, 1024]⟩
abbrev S64x768 : Shape := ⟨2, ![64, 768]⟩
abbrev S7x64x256 : Shape := ⟨3, ![7, 64, 256]⟩
abbrev S6x64x256 : Shape := ⟨3, ![6, 64, 256]⟩
abbrev S5x64x256 : Shape := ⟨3, ![5, 64, 256]⟩
abbrev S2x64x256 : Shape := ⟨3, ![2, 64, 256]⟩
abbrev S4x64x256 : Shape := ⟨3, ![4, 64, 256]⟩
abbrev S3x64x256 : Shape := ⟨3, ![3, 64, 256]⟩
abbrev S8x256x64 : Shape := ⟨3, ![8, 256, 64]⟩
abbrev S8 : Shape := ⟨1, ![8]⟩
abbrev S8x63x1 : Shape := ⟨3, ![8, 63, 1]⟩
abbrev S8x256x128 : Shape := ⟨3, ![8, 256, 128]⟩

abbrev nBuf : Space → Nat
  | .hbm => 18
  | .vmem => 35
  | .smem => 0
  | _ => 0

abbrev bufTy : (tb : Table) → Fin (tcTables nBuf tb) → BufTy
  | .hbm, ⟨0, _⟩ => ⟨S8x4096x128, .f32⟩
  | .hbm, ⟨1, _⟩ => ⟨S8x4096x128, .f32⟩
  | .hbm, ⟨2, _⟩ => ⟨S8x4096x256, .f32⟩
  | .hbm, ⟨3, _⟩ => ⟨S8x4096x64, .f32⟩
  | .hbm, ⟨4, _⟩ => ⟨S8x4096x128, .f32⟩
  | .hbm, ⟨5, _⟩ => ⟨S8x4096x1, .f32⟩
  | .hbm, ⟨6, _⟩ => ⟨S4096x2048, .f32⟩
  | .hbm, ⟨7, _⟩ => ⟨S1x2048, .f32⟩
  | .hbm, ⟨8, _⟩ => ⟨S32x8x128x256, .f32⟩
  | .hbm, ⟨9, _⟩ => ⟨S4096x2048, .f32⟩
  | .hbm, ⟨10, _⟩ => ⟨S8x4096x128, .f32⟩
  | .hbm, ⟨11, _⟩ => ⟨S8x4096x128, .f32⟩
  | .hbm, ⟨12, _⟩ => ⟨S8x4096x256, .f32⟩
  | .hbm, ⟨13, _⟩ => ⟨S8x4096x64, .f32⟩
  | .hbm, ⟨14, _⟩ => ⟨S8x4096x128, .f32⟩
  | .hbm, ⟨15, _⟩ => ⟨S8x4096x1, .f32⟩
  | .hbm, ⟨16, _⟩ => ⟨S4096x2048, .f32⟩
  | .hbm, ⟨17, _⟩ => ⟨S1x2048, .f32⟩
  | .local _ .vmem, ⟨0, _⟩ => ⟨S8x128x128, .f32⟩
  | .local _ .vmem, ⟨1, _⟩ => ⟨S8x128x128, .f32⟩
  | .local _ .vmem, ⟨2, _⟩ => ⟨S8x128x128, .f32⟩
  | .local _ .vmem, ⟨3, _⟩ => ⟨S8x128x128, .f32⟩
  | .local _ .vmem, ⟨4, _⟩ => ⟨S8x128x256, .f32⟩
  | .local _ .vmem, ⟨5, _⟩ => ⟨S8x128x256, .f32⟩
  | .local _ .vmem, ⟨6, _⟩ => ⟨S8x128x64, .f32⟩
  | .local _ .vmem, ⟨7, _⟩ => ⟨S8x128x64, .f32⟩
  | .local _ .vmem, ⟨8, _⟩ => ⟨S8x128x128, .f32⟩
  | .local _ .vmem, ⟨9, _⟩ => ⟨S8x128x128, .f32⟩
  | .local _ .vmem, ⟨10, _⟩ => ⟨S8x128x1, .f32⟩
  | .local _ .vmem, ⟨11, _⟩ => ⟨S8x128x1, .f32⟩
  | .local _ .vmem, ⟨12, _⟩ => ⟨S128x2048, .f32⟩
  | .local _ .vmem, ⟨13, _⟩ => ⟨S128x2048, .f32⟩
  | .local _ .vmem, ⟨14, _⟩ => ⟨S1x2048, .f32⟩
  | .local _ .vmem, ⟨15, _⟩ => ⟨S1x8x128x256, .f32⟩
  | .local _ .vmem, ⟨16, _⟩ => ⟨S1x8x128x256, .f32⟩
  | .local _ .vmem, ⟨17, _⟩ => ⟨S128x2048, .f32⟩
  | .local _ .vmem, ⟨18, _⟩ => ⟨S128x2048, .f32⟩
  | .local _ .vmem, ⟨19, _⟩ => ⟨S8x128x128, .f32⟩
  | .local _ .vmem, ⟨20, _⟩ => ⟨S8x128x128, .f32⟩
  | .local _ .vmem, ⟨21, _⟩ => ⟨S8x128x128, .f32⟩
  | .local _ .vmem, ⟨22, _⟩ => ⟨S8x128x128, .f32⟩
  | .local _ .vmem, ⟨23, _⟩ => ⟨S8x128x256, .f32⟩
  | .local _ .vmem, ⟨24, _⟩ => ⟨S8x128x256, .f32⟩
  | .local _ .vmem, ⟨25, _⟩ => ⟨S8x128x64, .f32⟩
  | .local _ .vmem, ⟨26, _⟩ => ⟨S8x128x64, .f32⟩
  | .local _ .vmem, ⟨27, _⟩ => ⟨S8x128x128, .f32⟩
  | .local _ .vmem, ⟨28, _⟩ => ⟨S8x128x128, .f32⟩
  | .local _ .vmem, ⟨29, _⟩ => ⟨S8x128x1, .f32⟩
  | .local _ .vmem, ⟨30, _⟩ => ⟨S8x128x1, .f32⟩
  | .local _ .vmem, ⟨31, _⟩ => ⟨S128x2048, .f32⟩
  | .local _ .vmem, ⟨32, _⟩ => ⟨S128x2048, .f32⟩
  | .local _ .vmem, ⟨33, _⟩ => ⟨S1x2048, .f32⟩
  | .local _ .vmem, ⟨34, _⟩ => ⟨S8x128x256, .f32⟩
  | _, _ => ⟨S8x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev main_v0_3 : Ref sig .tc := ⟨.hbm, 13, rfl⟩
abbrev main_v0_4 : Ref sig .tc := ⟨.hbm, 14, rfl⟩
abbrev main_v0_5 : Ref sig .tc := ⟨.hbm, 15, rfl⟩
abbrev main_v0_6 : Ref sig .tc := ⟨.hbm, 16, rfl⟩
abbrev main_v0_7 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_stg14_0 : Ref sig .tc := ⟨.vmem, 27, rfl⟩
abbrev cc0_stg14_1 : Ref sig .tc := ⟨.vmem, 28, rfl⟩
abbrev cc0_stg15_0 : Ref sig .tc := ⟨.vmem, 29, rfl⟩
abbrev cc0_stg15_1 : Ref sig .tc := ⟨.vmem, 30, rfl⟩
abbrev cc0_stg16_0 : Ref sig .tc := ⟨.vmem, 31, rfl⟩
abbrev cc0_stg16_1 : Ref sig .tc := ⟨.vmem, 32, rfl⟩
abbrev cc0_stg17_0 : Ref sig .tc := ⟨.vmem, 33, rfl⟩
abbrev cc0_scratch0 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28
abbrev cc0_sem15_0 : DmaSem sig := 29
abbrev cc0_sem15_1 : DmaSem sig := 30
abbrev cc0_sem16_0 : DmaSem sig := 31
abbrev cc0_sem16_1 : DmaSem sig := 32
abbrev cc0_sem17_0 : DmaSem sig := 33

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  ![c0_i32.toNat, v0.toNat, c0_i32_0.toNat]

def cc0_transform_1 (i : grid0.Coords) : Fin 3 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  ![c0_i32.toNat, v0.toNat, c0_i32_0.toNat]

def cc0_transform_2 (i : grid0.Coords) : Fin 3 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  ![c0_i32.toNat, v0.toNat, c0_i32_0.toNat]

def cc0_transform_3 (i : grid0.Coords) : Fin 3 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  ![c0_i32.toNat, v0.toNat, c0_i32_0.toNat]

def cc0_transform_4 (i : grid0.Coords) : Fin 3 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  ![c0_i32.toNat, v0.toNat, c0_i32_0.toNat]

def cc0_transform_5 (i : grid0.Coords) : Fin 3 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  ![c0_i32.toNat, v0.toNat, c0_i32_0.toNat]

def cc0_transform_6 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 4 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_9 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_10 (i : grid0.Coords) : Fin 3 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  ![c0_i32.toNat, v0.toNat, c0_i32_0.toNat]

def cc0_transform_11 (i : grid0.Coords) : Fin 3 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  ![c0_i32.toNat, v0.toNat, c0_i32_0.toNat]

def cc0_transform_12 (i : grid0.Coords) : Fin 3 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  ![c0_i32.toNat, v0.toNat, c0_i32_0.toNat]

def cc0_transform_13 (i : grid0.Coords) : Fin 3 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  ![c0_i32.toNat, v0.toNat, c0_i32_0.toNat]

def cc0_transform_14 (i : grid0.Coords) : Fin 3 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  ![c0_i32.toNat, v0.toNat, c0_i32_0.toNat]

def cc0_transform_15 (i : grid0.Coords) : Fin 3 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  ![c0_i32.toNat, v0.toNat, c0_i32_0.toNat]

def cc0_transform_16 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x128x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x128x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x8x128x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S8x128x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S8x128x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S8x128x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S8x128x64 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S8x128x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S8x128x1 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S128x2048 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 1 → Memref sig .tc .vmem S1x2048 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]
-- ==== ReferenceIdeal.lean ====
abbrev S8x4096x128 : Shape := ⟨3, ![8, 4096, 128]⟩
abbrev S8x4096x256 : Shape := ⟨3, ![8, 4096, 256]⟩
abbrev S8x4096x64 : Shape := ⟨3, ![8, 4096, 64]⟩
abbrev S8x4096x1 : Shape := ⟨3, ![8, 4096, 1]⟩
abbrev S4096x2048 : Shape := ⟨2, ![4096, 2048]⟩
abbrev S1x2048 : Shape := ⟨2, ![1, 2048]⟩
abbrev S32x8x128x256 : Shape := ⟨4, ![32, 8, 128, 256]⟩
abbrev S8x64x64x128 : Shape := ⟨4, ![8, 64, 64, 128]⟩
abbrev S64x8x64x128 : Shape := ⟨4, ![64, 8, 64, 128]⟩
abbrev S8x64x64x256 : Shape := ⟨4, ![8, 64, 64, 256]⟩
abbrev S64x8x64x256 : Shape := ⟨4, ![64, 8, 64, 256]⟩
abbrev S8x64x64x64 : Shape := ⟨4, ![8, 64, 64, 64]⟩
abbrev S64x8x64x64 : Shape := ⟨4, ![64, 8, 64, 64]⟩
abbrev S8x64x64x1 : Shape := ⟨4, ![8, 64, 64, 1]⟩
abbrev S64x8x64x1 : Shape := ⟨4, ![64, 8, 64, 1]⟩
abbrev S64x8x1x1 : Shape := ⟨4, ![64, 8, 1, 1]⟩
abbrev S64x8 : Shape := ⟨2, ![64, 8]⟩
abbrev S32x8x64x128 : Shape := ⟨4, ![32, 8, 64, 128]⟩
abbrev S32x8x64x256 : Shape := ⟨4, ![32, 8, 64, 256]⟩
abbrev S32x8x64x64 : Shape := ⟨4, ![32, 8, 64, 64]⟩
abbrev S32x8 : Shape := ⟨2, ![32, 8]⟩
abbrev S32x8x1x1 : Shape := ⟨4, ![32, 8, 1, 1]⟩
abbrev S32x1x8x128x256 : Shape := ⟨5, ![32, 1, 8, 128, 256]⟩
abbrev S32x2x8x128x256 : Shape := ⟨5, ![32, 2, 8, 128, 256]⟩
abbrev S64x8x128x256 : Shape := ⟨4, ![64, 8, 128, 256]⟩
abbrev S_ : Shape := ⟨0, ![]⟩
abbrev S8x128x256 : Shape := ⟨3, ![8, 128, 256]⟩
abbrev S64x64x2048 : Shape := ⟨3, ![64, 64, 2048]⟩
abbrev S1x8x128x256 : Shape := ⟨4, ![1, 8, 128, 256]⟩
abbrev S1x8x64x128 : Shape := ⟨4, ![1, 8, 64, 128]⟩
abbrev S8x64x128 : Shape := ⟨3, ![8, 64, 128]⟩
abbrev S1x8x64x256 : Shape := ⟨4, ![1, 8, 64, 256]⟩
abbrev S8x64x256 : Shape := ⟨3, ![8, 64, 256]⟩
abbrev S1x8x64x64 : Shape := ⟨4, ![1, 8, 64, 64]⟩
abbrev S8x64x64 : Shape := ⟨3, ![8, 64, 64]⟩
abbrev S1x8 : Shape := ⟨2, ![1, 8]⟩
abbrev S8 : Shape := ⟨1, ![8]⟩
abbrev S1x64x2048 : Shape := ⟨3, ![1, 64, 2048]⟩
abbrev S64x2048 : Shape := ⟨2, ![64, 2048]⟩
abbrev S8x1x1 : Shape := ⟨3, ![8, 1, 1]⟩
abbrev S64x8x256 : Shape := ⟨3, ![64, 8, 256]⟩
abbrev S64x8x1 : Shape := ⟨3, ![64, 8, 1]⟩
abbrev S8x256 : Shape := ⟨2, ![8, 256]⟩
abbrev S1x8x256 : Shape := ⟨3, ![1, 8, 256]⟩
abbrev S8x256x64 : Shape := ⟨3, ![8, 256, 64]⟩
abbrev S8x128x64 : Shape := ⟨3, ![8, 128, 64]⟩
abbrev S8x256x128 : Shape := ⟨3, ![8, 256, 128]⟩
abbrev S64x8x63x1 : Shape := ⟨4, ![64, 8, 63, 1]⟩

abbrev nBuf : Space → Nat
  | .hbm => 293
  | .vmem => 0
  | .smem => 0
  | _ => 0

abbrev hbmTy0_0 (i : Nat) : BufTy := match i % 128 with
  | 0 => ⟨S8x4096x128, .f32⟩
  | 1 => ⟨S8x4096x128, .f32⟩
  | 2 => ⟨S8x4096x256, .f32⟩
  | 3 => ⟨S8x4096x64, .f32⟩
  | 4 => ⟨S8x4096x128, .f32⟩
  | 5 => ⟨S8x4096x1, .f32⟩
  | 6 => ⟨S4096x2048, .f32⟩
  | 7 => ⟨S1x2048, .f32⟩
  | 8 => ⟨S32x8x128x256, .f32⟩
  | 9 => ⟨S4096x2048, .f32⟩
  | 10 => ⟨S8x64x64x128, .f32⟩
  | 11 => ⟨S64x8x64x128, .f32⟩
  | 12 => ⟨S8x64x64x128, .f32⟩
  | 13 => ⟨S64x8x64x128, .f32⟩
  | 14 => ⟨S8x64x64x256, .f32⟩
  | 15 => ⟨S64x8x64x256, .f32⟩
  | 16 => ⟨S8x64x64x64, .f32⟩
  | 17 => ⟨S64x8x64x64, .f32⟩
  | 18 => ⟨S8x64x64x128, .f32⟩
  | 19 => ⟨S64x8x64x128, .f32⟩
  | 20 => ⟨S8x64x64x1, .f32⟩
  | 21 => ⟨S64x8x64x1, .f32⟩
  | 22 => ⟨S64x8x1x1, .f32⟩
  | 23 => ⟨S64x8, .f32⟩
  | 24 => ⟨S32x8x64x128, .f32⟩
  | 25 => ⟨S32x8x64x128, .f32⟩
  | 26 => ⟨S32x8x64x256, .f32⟩
  | 27 => ⟨S32x8x64x64, .f32⟩
  | 28 => ⟨S32x8x64x128, .f32⟩
  | 29 => ⟨S32x8, .f32⟩
  | 30 => ⟨S32x8x64x256, .f32⟩
  | 31 => ⟨S32x8x64x256, .f32⟩
  | 32 => ⟨S32x8x64x256, .f32⟩
  | 33 => ⟨S32x8x64x256, .f32⟩
  | 34 => ⟨S32x8x64x256, .f32⟩
  | 35 => ⟨S32x8, .f32⟩
  | 36 => ⟨S32x8x1x1, .f32⟩
  | 37 => ⟨S32x8x128x256, .f32⟩
  | 38 => ⟨S32x8x128x256, .f32⟩
  | 39 => ⟨S32x8x128x256, .f32⟩
  | 40 => ⟨S32x8x128x256, .f32⟩
  | 41 => ⟨S32x1x8x128x256, .f32⟩
  | 42 => ⟨S32x1x8x128x256, .f32⟩
  | 43 => ⟨S32x2x8x128x256, .f32⟩
  | 44 => ⟨S64x8x128x256, .f32⟩
  | 45 => ⟨S_, .f32⟩
  | 46 => ⟨S8x128x256, .f32⟩
  | 47 => ⟨S_, .f32⟩
  | 48 => ⟨S1x2048, .f32⟩
  | 49 => ⟨S64x64x2048, .f32⟩
  | 50 => ⟨S64x64x2048, .f32⟩
  | 51 => ⟨S_, .f32⟩
  | 52 => ⟨S64x8x64x128, .f32⟩
  | 53 => ⟨S_, .f32⟩
  | 54 => ⟨S64x8x64x128, .f32⟩
  | 55 => ⟨S_, .f32⟩
  | 56 => ⟨S64x8x64x256, .f32⟩
  | 57 => ⟨S_, .f32⟩
  | 58 => ⟨S64x8x64x64, .f32⟩
  | 59 => ⟨S_, .f32⟩
  | 60 => ⟨S64x8x64x128, .f32⟩
  | 61 => ⟨S_, .f32⟩
  | 62 => ⟨S64x8, .f32⟩
  | 63 => ⟨S_, .f32⟩
  | 64 => ⟨S64x64x2048, .f32⟩
  | 65 => ⟨S_, .i32⟩
  | 66 => ⟨S64x8x128x256, .f32⟩
  | 67 => ⟨S64x8x64x128, .f32⟩
  | 68 => ⟨S64x8x64x128, .f32⟩
  | 69 => ⟨S64x8x64x256, .f32⟩
  | 70 => ⟨S64x8x64x64, .f32⟩
  | 71 => ⟨S64x8x64x128, .f32⟩
  | 72 => ⟨S64x8, .f32⟩
  | 73 => ⟨S64x64x2048, .f32⟩
  | 74 => ⟨S64x64x2048, .f32⟩
  | 75 => ⟨S1x2048, .f32⟩
  | 76 => ⟨S_, .i32⟩
  | 77 => ⟨S8x128x256, .f32⟩
  | 78 => ⟨S1x2048, .f32⟩
  | 79 => ⟨S64x8x64x128, .f32⟩
  | 80 => ⟨S64x8x64x128, .f32⟩
  | 81 => ⟨S64x8x64x256, .f32⟩
  | 82 => ⟨S64x8x64x64, .f32⟩
  | 83 => ⟨S64x8x64x128, .f32⟩
  | 84 => ⟨S64x8, .f32⟩
  | 85 => ⟨S64x64x2048, .f32⟩
  | 86 => ⟨S_, .i32⟩
  | 87 => ⟨S_, .i1⟩
  | 88 => ⟨S_, .i32⟩
  | 89 => ⟨S_, .i32⟩
  | 90 => ⟨S_, .i32⟩
  | 91 => ⟨S_, .i32⟩
  | 92 => ⟨S_, .i32⟩
  | 93 => ⟨S_, .i32⟩
  | 94 => ⟨S_, .i32⟩
  | 95 => ⟨S1x8x128x256, .f32⟩
  | 96 => ⟨S8x128x256, .f32⟩
  | 97 => ⟨S_, .i32⟩
  | 98 => ⟨S_, .i32⟩
  | 99 => ⟨S_, .i32⟩
  | 100 => ⟨S1x8x64x128, .f32⟩
  | 101 => ⟨S8x64x128, .f32⟩
  | 102 => ⟨S_, .i32⟩
  | 103 => ⟨S_, .i32⟩
  | 104 => ⟨S_, .i32⟩
  | 105 => ⟨S1x8x64x128, .f32⟩
  | 106 => ⟨S8x64x128, .f32⟩
  | 107 => ⟨S_, .i32⟩
  | 108 => ⟨S_, .i32⟩
  | 109 => ⟨S_, .i32⟩
  | 110 => ⟨S1x8x64x256, .f32⟩
  | 111 => ⟨S8x64x256, .f32⟩
  | 112 => ⟨S_, .i32⟩
  | 113 => ⟨S_, .i32⟩
  | 114 => ⟨S_, .i32⟩
  | 115 => ⟨S1x8x64x64, .f32⟩
  | 116 => ⟨S8x64x64, .f32⟩
  | 117 => ⟨S_, .i32⟩
  | 118 => ⟨S_, .i32⟩
  | 119 => ⟨S_, .i32⟩
  | 120 => ⟨S1x8x64x128, .f32⟩
  | 121 => ⟨S8x64x128, .f32⟩
  | 122 => ⟨S_, .i32⟩
  | 123 => ⟨S1x8, .f32⟩
  | 124 => ⟨S8, .f32⟩
  | 125 => ⟨S_, .i32⟩
  | 126 => ⟨S_, .i32⟩
  | 127 => ⟨S1x64x2048, .f32⟩
  | _ => ⟨S8x4096x128, .f32⟩

abbrev hbmTy0_1 (i : Nat) : BufTy := match i % 128 with
  | 0 => ⟨S64x2048, .f32⟩
  | 1 => ⟨S_, .i32⟩
  | 2 => ⟨S_, .i32⟩
  | 3 => ⟨S1x64x2048, .f32⟩
  | 4 => ⟨S64x2048, .f32⟩
  | 5 => ⟨S8x64x256, .f32⟩
  | 6 => ⟨S8x64x256, .f32⟩
  | 7 => ⟨S8x64x256, .f32⟩
  | 8 => ⟨S8x64x256, .f32⟩
  | 9 => ⟨S8x64x256, .f32⟩
  | 10 => ⟨S8, .f32⟩
  | 11 => ⟨S8x1x1, .f32⟩
  | 12 => ⟨S8x128x256, .f32⟩
  | 13 => ⟨S8x128x256, .f32⟩
  | 14 => ⟨S8x128x256, .f32⟩
  | 15 => ⟨S8x128x256, .f32⟩
  | 16 => ⟨S64x8x256, .f32⟩
  | 17 => ⟨S64x8x256, .f32⟩
  | 18 => ⟨S_, .f32⟩
  | 19 => ⟨S64x8, .f32⟩
  | 20 => ⟨S64x8x1, .f32⟩
  | 21 => ⟨S_, .f32⟩
  | 22 => ⟨S64x8x1, .f32⟩
  | 23 => ⟨S64x8x1, .f32⟩
  | 24 => ⟨S_, .f32⟩
  | 25 => ⟨S64x8x1, .f32⟩
  | 26 => ⟨S64x8x1, .f32⟩
  | 27 => ⟨S64x8x1, .f32⟩
  | 28 => ⟨S64x8x1, .f32⟩
  | 29 => ⟨S_, .f32⟩
  | 30 => ⟨S64x8x1, .f32⟩
  | 31 => ⟨S64x8x1, .f32⟩
  | 32 => ⟨S64x8x256, .f32⟩
  | 33 => ⟨S64x8x256, .f32⟩
  | 34 => ⟨S8x256, .f32⟩
  | 35 => ⟨S1x8x256, .f32⟩
  | 36 => ⟨S64x8x256, .f32⟩
  | 37 => ⟨S64x8x256, .f32⟩
  | 38 => ⟨S64x2048, .f32⟩
  | 39 => ⟨S64x2048, .f32⟩
  | 40 => ⟨S64x2048, .f32⟩
  | 41 => ⟨S_, .f32⟩
  | 42 => ⟨S64x2048, .f32⟩
  | 43 => ⟨S64x2048, .f32⟩
  | 44 => ⟨S_, .f32⟩
  | 45 => ⟨S64x2048, .f32⟩
  | 46 => ⟨S64x2048, .f32⟩
  | 47 => ⟨S_, .f32⟩
  | 48 => ⟨S64x2048, .f32⟩
  | 49 => ⟨S64x2048, .f32⟩
  | 50 => ⟨S64x2048, .f32⟩
  | 51 => ⟨S64x2048, .f32⟩
  | 52 => ⟨S64x2048, .f32⟩
  | 53 => ⟨S64x2048, .f32⟩
  | 54 => ⟨S64x2048, .f32⟩
  | 55 => ⟨S64x2048, .f32⟩
  | 56 => ⟨S64x2048, .f32⟩
  | 57 => ⟨S64x2048, .f32⟩
  | 58 => ⟨S64x2048, .f32⟩
  | 59 => ⟨S64x8x256, .f32⟩
  | 60 => ⟨S64x8x256, .f32⟩
  | 61 => ⟨S_, .f32⟩
  | 62 => ⟨S8x256, .f32⟩
  | 63 => ⟨S1x8x256, .f32⟩
  | 64 => ⟨S64x8x256, .f32⟩
  | 65 => ⟨S64x8x256, .f32⟩
  | 66 => ⟨S_, .f32⟩
  | 67 => ⟨S8x256, .f32⟩
  | 68 => ⟨S1x2048, .f32⟩
  | 69 => ⟨S64x8x256, .f32⟩
  | 70 => ⟨S_, .f32⟩
  | 71 => ⟨S64x8, .f32⟩
  | 72 => ⟨S64x8x1, .f32⟩
  | 73 => ⟨S64x8x256, .f32⟩
  | 74 => ⟨S64x8x256, .f32⟩
  | 75 => ⟨S64x8x1, .f32⟩
  | 76 => ⟨S_, .f32⟩
  | 77 => ⟨S64x8x1, .f32⟩
  | 78 => ⟨S64x8x1, .f32⟩
  | 79 => ⟨S_, .f32⟩
  | 80 => ⟨S64x8, .f32⟩
  | 81 => ⟨S64x8x256, .f32⟩
  | 82 => ⟨S64x8x256, .f32⟩
  | 83 => ⟨S64x8x256, .f32⟩
  | 84 => ⟨S64x8x256, .f32⟩
  | 85 => ⟨S64x8x256, .f32⟩
  | 86 => ⟨S8x64x256, .f32⟩
  | 87 => ⟨S8x256x64, .f32⟩
  | 88 => ⟨S8x64x256, .f32⟩
  | 89 => ⟨S8x128x64, .f32⟩
  | 90 => ⟨S8x64x128, .f32⟩
  | 91 => ⟨S8x128x256, .f32⟩
  | 92 => ⟨S8x128x256, .f32⟩
  | 93 => ⟨S8x128x256, .f32⟩
  | 94 => ⟨S_, .f32⟩
  | 95 => ⟨S8, .f32⟩
  | 96 => ⟨S8x1x1, .f32⟩
  | 97 => ⟨S_, .f32⟩
  | 98 => ⟨S8, .f32⟩
  | 99 => ⟨S8, .f32⟩
  | 100 => ⟨S8x256x64, .f32⟩
  | 101 => ⟨S8x64x256, .f32⟩
  | 102 => ⟨S8x64x256, .f32⟩
  | 103 => ⟨S8x64x64, .f32⟩
  | 104 => ⟨S8x256x128, .f32⟩
  | 105 => ⟨S8x128x256, .f32⟩
  | 106 => ⟨S8x128x256, .f32⟩
  | 107 => ⟨S8x64x128, .f32⟩
  | 108 => ⟨S8x64x256, .f32⟩
  | 109 => ⟨S8x256x128, .f32⟩
  | 110 => ⟨S8x128x256, .f32⟩
  | 111 => ⟨S8x128x256, .f32⟩
  | 112 => ⟨S8x64x128, .f32⟩
  | 113 => ⟨S1x2048, .f32⟩
  | 114 => ⟨S1x8x64x128, .f32⟩
  | 115 => ⟨S_, .i32⟩
  | 116 => ⟨S_, .i32⟩
  | 117 => ⟨S_, .i32⟩
  | 118 => ⟨S64x8x64x128, .f32⟩
  | 119 => ⟨S1x8x64x128, .f32⟩
  | 120 => ⟨S_, .i32⟩
  | 121 => ⟨S_, .i32⟩
  | 122 => ⟨S_, .i32⟩
  | 123 => ⟨S64x8x64x128, .f32⟩
  | 124 => ⟨S1x8x64x256, .f32⟩
  | 125 => ⟨S_, .i32⟩
  | 126 => ⟨S_, .i32⟩
  | 127 => ⟨S_, .i32⟩
  | _ => ⟨S8x4096x128, .f32⟩

abbrev hbmTy0_2 (i : Nat) : BufTy := match i % 128 with
  | 0 => ⟨S64x8x64x256, .f32⟩
  | 1 => ⟨S1x8x64x64, .f32⟩
  | 2 => ⟨S_, .i32⟩
  | 3 => ⟨S_, .i32⟩
  | 4 => ⟨S_, .i32⟩
  | 5 => ⟨S64x8x64x64, .f32⟩
  | 6 => ⟨S1x8x64x128, .f32⟩
  | 7 => ⟨S_, .i32⟩
  | 8 => ⟨S_, .i32⟩
  | 9 => ⟨S_, .i32⟩
  | 10 => ⟨S64x8x64x128, .f32⟩
  | 11 => ⟨S1x8, .f32⟩
  | 12 => ⟨S_, .i32⟩
  | 13 => ⟨S64x8, .f32⟩
  | 14 => ⟨S1x64x2048, .f32⟩
  | 15 => ⟨S_, .i32⟩
  | 16 => ⟨S_, .i32⟩
  | 17 => ⟨S64x64x2048, .f32⟩
  | 18 => ⟨S_, .i32⟩
  | 19 => ⟨S_, .i32⟩
  | 20 => ⟨S_, .f32⟩
  | 21 => ⟨S64x8x63x1, .f32⟩
  | 22 => ⟨S64x8x1x1, .f32⟩
  | 23 => ⟨S64x8x64x1, .f32⟩
  | 24 => ⟨S8x64x64x128, .f32⟩
  | 25 => ⟨S8x4096x128, .f32⟩
  | 26 => ⟨S8x64x64x128, .f32⟩
  | 27 => ⟨S8x4096x128, .f32⟩
  | 28 => ⟨S8x64x64x256, .f32⟩
  | 29 => ⟨S8x4096x256, .f32⟩
  | 30 => ⟨S8x64x64x64, .f32⟩
  | 31 => ⟨S8x4096x64, .f32⟩
  | 32 => ⟨S8x64x64x128, .f32⟩
  | 33 => ⟨S8x4096x128, .f32⟩
  | 34 => ⟨S8x64x64x1, .f32⟩
  | 35 => ⟨S8x4096x1, .f32⟩
  | 36 => ⟨S4096x2048, .f32⟩
  | _ => ⟨S8x4096x128, .f32⟩

abbrev hbmTy (i : Nat) : BufTy := match i / 128 with
  | 0 => hbmTy0_0 i
  | 1 => hbmTy0_1 i
  | 2 => hbmTy0_2 i
  | _ => ⟨S8x4096x128, .f32⟩

abbrev bufTy : (tb : Table) → Fin (tcTables nBuf tb) → BufTy
  | .hbm, ⟨i, _⟩ => hbmTy i
  | _, _ => ⟨S8x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst : Ref sig .tc := ⟨.hbm, 45, rfl⟩
abbrev main_v35 : Ref sig .tc := ⟨.hbm, 46, rfl⟩
abbrev main_cst_0 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_1 : Ref sig .tc := ⟨.hbm, 51, rfl⟩
abbrev main_v39 : Ref sig .tc := ⟨.hbm, 52, rfl⟩
abbrev main_cst_2 : Ref sig .tc := ⟨.hbm, 53, rfl⟩
abbrev main_v40 : Ref sig .tc := ⟨.hbm, 54, rfl⟩
abbrev main_cst_3 : Ref sig .tc := ⟨.hbm, 55, rfl⟩
abbrev main_v41 : Ref sig .tc := ⟨.hbm, 56, rfl⟩
abbrev main_cst_4 : Ref sig .tc := ⟨.hbm, 57, rfl⟩
abbrev main_v42 : Ref sig .tc := ⟨.hbm, 58, rfl⟩
abbrev main_cst_5 : Ref sig .tc := ⟨.hbm, 59, rfl⟩
abbrev main_v43 : Ref sig .tc := ⟨.hbm, 60, rfl⟩
abbrev main_cst_6 : Ref sig .tc := ⟨.hbm, 61, rfl⟩
abbrev main_v44 : Ref sig .tc := ⟨.hbm, 62, rfl⟩
abbrev main_cst_7 : Ref sig .tc := ⟨.hbm, 63, rfl⟩
abbrev main_v45 : Ref sig .tc := ⟨.hbm, 64, rfl⟩
abbrev main_c : Ref sig .tc := ⟨.hbm, 65, rfl⟩
abbrev main_v46_0 : Ref sig .tc := ⟨.hbm, 66, rfl⟩
abbrev main_v46_1 : Ref sig .tc := ⟨.hbm, 67, rfl⟩
abbrev main_v46_2 : Ref sig .tc := ⟨.hbm, 68, rfl⟩
abbrev main_v46_3 : Ref sig .tc := ⟨.hbm, 69, rfl⟩
abbrev main_v46_4 : Ref sig .tc := ⟨.hbm, 70, rfl⟩
abbrev main_v46_5 : Ref sig .tc := ⟨.hbm, 71, rfl⟩
abbrev main_v46_6 : Ref sig .tc := ⟨.hbm, 72, rfl⟩
abbrev main_v46_7 : Ref sig .tc := ⟨.hbm, 73, rfl⟩
abbrev main_v46_8 : Ref sig .tc := ⟨.hbm, 74, rfl⟩
abbrev main_v46_9 : Ref sig .tc := ⟨.hbm, 75, rfl⟩
abbrev main_v46_10 : Ref sig .tc := ⟨.hbm, 76, rfl⟩
abbrev main_v46_11 : Ref sig .tc := ⟨.hbm, 77, rfl⟩
abbrev main_v46_12 : Ref sig .tc := ⟨.hbm, 78, rfl⟩
abbrev main_v46_13 : Ref sig .tc := ⟨.hbm, 79, rfl⟩
abbrev main_v46_14 : Ref sig .tc := ⟨.hbm, 80, rfl⟩
abbrev main_v46_15 : Ref sig .tc := ⟨.hbm, 81, rfl⟩
abbrev main_v46_16 : Ref sig .tc := ⟨.hbm, 82, rfl⟩
abbrev main_v46_17 : Ref sig .tc := ⟨.hbm, 83, rfl⟩
abbrev main_v46_18 : Ref sig .tc := ⟨.hbm, 84, rfl⟩
abbrev main_v46_19 : Ref sig .tc := ⟨.hbm, 85, rfl⟩
abbrev main_while0c_c_28 : Ref sig .tc := ⟨.hbm, 86, rfl⟩
abbrev main_while0c_v63 : Ref sig .tc := ⟨.hbm, 87, rfl⟩
abbrev main_while0b_c_28 : Ref sig .tc := ⟨.hbm, 88, rfl⟩
abbrev main_while0b_v63 : Ref sig .tc := ⟨.hbm, 89, rfl⟩
abbrev main_while0b_c_29 : Ref sig .tc := ⟨.hbm, 90, rfl⟩
abbrev main_while0b_v64 : Ref sig .tc := ⟨.hbm, 91, rfl⟩
abbrev main_while0b_call0_c : Ref sig .tc := ⟨.hbm, 92, rfl⟩
abbrev main_while0b_call0_c_0 : Ref sig .tc := ⟨.hbm, 93, rfl⟩
abbrev main_while0b_call0_c_1 : Ref sig .tc := ⟨.hbm, 94, rfl⟩
abbrev main_while0b_call0_v0 : Ref sig .tc := ⟨.hbm, 95, rfl⟩
abbrev main_while0b_v65 : Ref sig .tc := ⟨.hbm, 96, rfl⟩
abbrev main_while0b_call1_c : Ref sig .tc := ⟨.hbm, 97, rfl⟩
abbrev main_while0b_call1_c_0 : Ref sig .tc := ⟨.hbm, 98, rfl⟩
abbrev main_while0b_call1_c_1 : Ref sig .tc := ⟨.hbm, 99, rfl⟩
abbrev main_while0b_call1_v0 : Ref sig .tc := ⟨.hbm, 100, rfl⟩
abbrev main_while0b_v66 : Ref sig .tc := ⟨.hbm, 101, rfl⟩
abbrev main_while0b_call2_c : Ref sig .tc := ⟨.hbm, 102, rfl⟩
abbrev main_while0b_call2_c_0 : Ref sig .tc := ⟨.hbm, 103, rfl⟩
abbrev main_while0b_call2_c_1 : Ref sig .tc := ⟨.hbm, 104, rfl⟩
abbrev main_while0b_call2_v0 : Ref sig .tc := ⟨.hbm, 105, rfl⟩
abbrev main_while0b_v67 : Ref sig .tc := ⟨.hbm, 106, rfl⟩
abbrev main_while0b_call3_c : Ref sig .tc := ⟨.hbm, 107, rfl⟩
abbrev main_while0b_call3_c_0 : Ref sig .tc := ⟨.hbm, 108, rfl⟩
abbrev main_while0b_call3_c_1 : Ref sig .tc := ⟨.hbm, 109, rfl⟩
abbrev main_while0b_call3_v0 : Ref sig .tc := ⟨.hbm, 110, rfl⟩
abbrev main_while0b_v68 : Ref sig .tc := ⟨.hbm, 111, rfl⟩
abbrev main_while0b_call4_c : Ref sig .tc := ⟨.hbm, 112, rfl⟩
abbrev main_while0b_call4_c_0 : Ref sig .tc := ⟨.hbm, 113, rfl⟩
abbrev main_while0b_call4_c_1 : Ref sig .tc := ⟨.hbm, 114, rfl⟩
abbrev main_while0b_call4_v0 : Ref sig .tc := ⟨.hbm, 115, rfl⟩
abbrev main_while0b_v69 : Ref sig .tc := ⟨.hbm, 116, rfl⟩
abbrev main_while0b_call5_c : Ref sig .tc := ⟨.hbm, 117, rfl⟩
abbrev main_while0b_call5_c_0 : Ref sig .tc := ⟨.hbm, 118, rfl⟩
abbrev main_while0b_call5_c_1 : Ref sig .tc := ⟨.hbm, 119, rfl⟩
abbrev main_while0b_call5_v0 : Ref sig .tc := ⟨.hbm, 120, rfl⟩
abbrev main_while0b_v70 : Ref sig .tc := ⟨.hbm, 121, rfl⟩
abbrev main_while0b_call6_c : Ref sig .tc := ⟨.hbm, 122, rfl⟩
abbrev main_while0b_call6_v0 : Ref sig .tc := ⟨.hbm, 123, rfl⟩
abbrev main_while0b_v71 : Ref sig .tc := ⟨.hbm, 124, rfl⟩
abbrev main_while0b_call7_c : Ref sig .tc := ⟨.hbm, 125, rfl⟩
abbrev main_while0b_call7_c_0 : Ref sig .tc := ⟨.hbm, 126, rfl⟩
abbrev main_while0b_call7_v0 : Ref sig .tc := ⟨.hbm, 127, rfl⟩
abbrev main_while0b_v72 : Ref sig .tc := ⟨.hbm, 128, rfl⟩
abbrev main_while0b_call8_c : Ref sig .tc := ⟨.hbm, 129, rfl⟩
abbrev main_while0b_call8_c_0 : Ref sig .tc := ⟨.hbm, 130, rfl⟩
abbrev main_while0b_call8_v0 : Ref sig .tc := ⟨.hbm, 131, rfl⟩
abbrev main_while0b_v73 : Ref sig .tc := ⟨.hbm, 132, rfl⟩
abbrev main_while0b_v74 : Ref sig .tc := ⟨.hbm, 133, rfl⟩
abbrev main_while0b_v75 : Ref sig .tc := ⟨.hbm, 134, rfl⟩
abbrev main_while0b_v76 : Ref sig .tc := ⟨.hbm, 135, rfl⟩
abbrev main_while0b_v77 : Ref sig .tc := ⟨.hbm, 136, rfl⟩
abbrev main_while0b_v78 : Ref sig .tc := ⟨.hbm, 137, rfl⟩
abbrev main_while0b_v79 : Ref sig .tc := ⟨.hbm, 138, rfl⟩
abbrev main_while0b_v80 : Ref sig .tc := ⟨.hbm, 139, rfl⟩
abbrev main_while0b_v81 : Ref sig .tc := ⟨.hbm, 140, rfl⟩
abbrev main_while0b_v82 : Ref sig .tc := ⟨.hbm, 141, rfl⟩
abbrev main_while0b_v83 : Ref sig .tc := ⟨.hbm, 142, rfl⟩
abbrev main_while0b_v84 : Ref sig .tc := ⟨.hbm, 143, rfl⟩
abbrev main_while0b_v85 : Ref sig .tc := ⟨.hbm, 144, rfl⟩
abbrev main_while0b_v86 : Ref sig .tc := ⟨.hbm, 145, rfl⟩
abbrev main_while0b_cst_30 : Ref sig .tc := ⟨.hbm, 146, rfl⟩
abbrev main_while0b_v87 : Ref sig .tc := ⟨.hbm, 147, rfl⟩
abbrev main_while0b_v88 : Ref sig .tc := ⟨.hbm, 148, rfl⟩
abbrev main_while0b_cst_31 : Ref sig .tc := ⟨.hbm, 149, rfl⟩
abbrev main_while0b_v89 : Ref sig .tc := ⟨.hbm, 150, rfl⟩
abbrev main_while0b_v90 : Ref sig .tc := ⟨.hbm, 151, rfl⟩
abbrev main_while0b_cst_32 : Ref sig .tc := ⟨.hbm, 152, rfl⟩
abbrev main_while0b_v91 : Ref sig .tc := ⟨.hbm, 153, rfl⟩
abbrev main_while0b_v92 : Ref sig .tc := ⟨.hbm, 154, rfl⟩
abbrev main_while0b_v93 : Ref sig .tc := ⟨.hbm, 155, rfl⟩
abbrev main_while0b_v94 : Ref sig .tc := ⟨.hbm, 156, rfl⟩
abbrev main_while0b_cst_33 : Ref sig .tc := ⟨.hbm, 157, rfl⟩
abbrev main_while0b_v95 : Ref sig .tc := ⟨.hbm, 158, rfl⟩
abbrev main_while0b_v96 : Ref sig .tc := ⟨.hbm, 159, rfl⟩
abbrev main_while0b_v97 : Ref sig .tc := ⟨.hbm, 160, rfl⟩
abbrev main_while0b_v98 : Ref sig .tc := ⟨.hbm, 161, rfl⟩
abbrev main_while0b_v99 : Ref sig .tc := ⟨.hbm, 162, rfl⟩
abbrev main_while0b_v100 : Ref sig .tc := ⟨.hbm, 163, rfl⟩
abbrev main_while0b_v101 : Ref sig .tc := ⟨.hbm, 164, rfl⟩
abbrev main_while0b_v102 : Ref sig .tc := ⟨.hbm, 165, rfl⟩
abbrev main_while0b_v103 : Ref sig .tc := ⟨.hbm, 166, rfl⟩
abbrev main_while0b_call9_v0 : Ref sig .tc := ⟨.hbm, 167, rfl⟩
abbrev main_while0b_call9_v1 : Ref sig .tc := ⟨.hbm, 168, rfl⟩
abbrev main_while0b_call9_cst : Ref sig .tc := ⟨.hbm, 169, rfl⟩
abbrev main_while0b_call9_v2 : Ref sig .tc := ⟨.hbm, 170, rfl⟩
abbrev main_while0b_call9_v3 : Ref sig .tc := ⟨.hbm, 171, rfl⟩
abbrev main_while0b_call9_cst_0 : Ref sig .tc := ⟨.hbm, 172, rfl⟩
abbrev main_while0b_call9_v4 : Ref sig .tc := ⟨.hbm, 173, rfl⟩
abbrev main_while0b_v104_2 : Ref sig .tc := ⟨.hbm, 174, rfl⟩
abbrev main_while0b_call9_cst_1 : Ref sig .tc := ⟨.hbm, 175, rfl⟩
abbrev main_while0b_call9_v6 : Ref sig .tc := ⟨.hbm, 176, rfl⟩
abbrev main_while0b_call9_v7 : Ref sig .tc := ⟨.hbm, 177, rfl⟩
abbrev main_while0b_v104_1 : Ref sig .tc := ⟨.hbm, 178, rfl⟩
abbrev main_while0b_v104_0 : Ref sig .tc := ⟨.hbm, 179, rfl⟩
abbrev main_while0b_v105 : Ref sig .tc := ⟨.hbm, 180, rfl⟩
abbrev main_while0b_v106 : Ref sig .tc := ⟨.hbm, 181, rfl⟩
abbrev main_while0b_v107 : Ref sig .tc := ⟨.hbm, 182, rfl⟩
abbrev main_while0b_call10_v0 : Ref sig .tc := ⟨.hbm, 183, rfl⟩
abbrev main_while0b_call10_v1 : Ref sig .tc := ⟨.hbm, 184, rfl⟩
abbrev main_while0b_call10_v2 : Ref sig .tc := ⟨.hbm, 185, rfl⟩
abbrev main_while0b_v108 : Ref sig .tc := ⟨.hbm, 186, rfl⟩
abbrev main_while0b_v109 : Ref sig .tc := ⟨.hbm, 187, rfl⟩
abbrev main_while0b_v110 : Ref sig .tc := ⟨.hbm, 188, rfl⟩
abbrev main_while0b_cst_34 : Ref sig .tc := ⟨.hbm, 189, rfl⟩
abbrev main_while0b_v111 : Ref sig .tc := ⟨.hbm, 190, rfl⟩
abbrev main_while0b_v112 : Ref sig .tc := ⟨.hbm, 191, rfl⟩
abbrev main_while0b_v113 : Ref sig .tc := ⟨.hbm, 192, rfl⟩
abbrev main_while0b_v114 : Ref sig .tc := ⟨.hbm, 193, rfl⟩
abbrev main_while0b_cst_35 : Ref sig .tc := ⟨.hbm, 194, rfl⟩
abbrev main_while0b_v115 : Ref sig .tc := ⟨.hbm, 195, rfl⟩
abbrev main_while0b_v116 : Ref sig .tc := ⟨.hbm, 196, rfl⟩
abbrev main_while0b_v117 : Ref sig .tc := ⟨.hbm, 197, rfl⟩
abbrev main_while0b_cst_36 : Ref sig .tc := ⟨.hbm, 198, rfl⟩
abbrev main_while0b_v118 : Ref sig .tc := ⟨.hbm, 199, rfl⟩
abbrev main_while0b_v119 : Ref sig .tc := ⟨.hbm, 200, rfl⟩
abbrev main_while0b_v120 : Ref sig .tc := ⟨.hbm, 201, rfl⟩
abbrev main_while0b_v121 : Ref sig .tc := ⟨.hbm, 202, rfl⟩
abbrev main_while0b_v122 : Ref sig .tc := ⟨.hbm, 203, rfl⟩
abbrev main_while0b_cst_37 : Ref sig .tc := ⟨.hbm, 204, rfl⟩
abbrev main_while0b_v123 : Ref sig .tc := ⟨.hbm, 205, rfl⟩
abbrev main_while0b_v124 : Ref sig .tc := ⟨.hbm, 206, rfl⟩
abbrev main_while0b_cst_38 : Ref sig .tc := ⟨.hbm, 207, rfl⟩
abbrev main_while0b_v125 : Ref sig .tc := ⟨.hbm, 208, rfl⟩
abbrev main_while0b_v126 : Ref sig .tc := ⟨.hbm, 209, rfl⟩
abbrev main_while0b_v127 : Ref sig .tc := ⟨.hbm, 210, rfl⟩
abbrev main_while0b_v128 : Ref sig .tc := ⟨.hbm, 211, rfl⟩
abbrev main_while0b_v129 : Ref sig .tc := ⟨.hbm, 212, rfl⟩
abbrev main_while0b_v130 : Ref sig .tc := ⟨.hbm, 213, rfl⟩
abbrev main_while0b_v131 : Ref sig .tc := ⟨.hbm, 214, rfl⟩
abbrev main_while0b_v132 : Ref sig .tc := ⟨.hbm, 215, rfl⟩
abbrev main_while0b_v133 : Ref sig .tc := ⟨.hbm, 216, rfl⟩
abbrev main_while0b_v134 : Ref sig .tc := ⟨.hbm, 217, rfl⟩
abbrev main_while0b_v135 : Ref sig .tc := ⟨.hbm, 218, rfl⟩
abbrev main_while0b_v136 : Ref sig .tc := ⟨.hbm, 219, rfl⟩
abbrev main_while0b_v137 : Ref sig .tc := ⟨.hbm, 220, rfl⟩
abbrev main_while0b_v138 : Ref sig .tc := ⟨.hbm, 221, rfl⟩
abbrev main_while0b_cst_39 : Ref sig .tc := ⟨.hbm, 222, rfl⟩
abbrev main_while0b_v139 : Ref sig .tc := ⟨.hbm, 223, rfl⟩
abbrev main_while0b_v140 : Ref sig .tc := ⟨.hbm, 224, rfl⟩
abbrev main_while0b_cst_40 : Ref sig .tc := ⟨.hbm, 225, rfl⟩
abbrev main_while0b_v141 : Ref sig .tc := ⟨.hbm, 226, rfl⟩
abbrev main_while0b_v142 : Ref sig .tc := ⟨.hbm, 227, rfl⟩
abbrev main_while0b_v143 : Ref sig .tc := ⟨.hbm, 228, rfl⟩
abbrev main_while0b_v144 : Ref sig .tc := ⟨.hbm, 229, rfl⟩
abbrev main_while0b_v145 : Ref sig .tc := ⟨.hbm, 230, rfl⟩
abbrev main_while0b_v146 : Ref sig .tc := ⟨.hbm, 231, rfl⟩
abbrev main_while0b_v147 : Ref sig .tc := ⟨.hbm, 232, rfl⟩
abbrev main_while0b_v148 : Ref sig .tc := ⟨.hbm, 233, rfl⟩
abbrev main_while0b_v149 : Ref sig .tc := ⟨.hbm, 234, rfl⟩
abbrev main_while0b_v150 : Ref sig .tc := ⟨.hbm, 235, rfl⟩
abbrev main_while0b_v151 : Ref sig .tc := ⟨.hbm, 236, rfl⟩
abbrev main_while0b_v152 : Ref sig .tc := ⟨.hbm, 237, rfl⟩
abbrev main_while0b_v153 : Ref sig .tc := ⟨.hbm, 238, rfl⟩
abbrev main_while0b_v154 : Ref sig .tc := ⟨.hbm, 239, rfl⟩
abbrev main_while0b_v155 : Ref sig .tc := ⟨.hbm, 240, rfl⟩
abbrev main_while0b_v156 : Ref sig .tc := ⟨.hbm, 241, rfl⟩
abbrev main_while0b_call11_v0 : Ref sig .tc := ⟨.hbm, 242, rfl⟩
abbrev main_while0b_call11_c : Ref sig .tc := ⟨.hbm, 243, rfl⟩
abbrev main_while0b_call11_c_0 : Ref sig .tc := ⟨.hbm, 244, rfl⟩
abbrev main_while0b_call11_c_1 : Ref sig .tc := ⟨.hbm, 245, rfl⟩
abbrev main_while0b_v157 : Ref sig .tc := ⟨.hbm, 246, rfl⟩
abbrev main_while0b_call12_v0 : Ref sig .tc := ⟨.hbm, 247, rfl⟩
abbrev main_while0b_call12_c : Ref sig .tc := ⟨.hbm, 248, rfl⟩
abbrev main_while0b_call12_c_0 : Ref sig .tc := ⟨.hbm, 249, rfl⟩
abbrev main_while0b_call12_c_1 : Ref sig .tc := ⟨.hbm, 250, rfl⟩
abbrev main_while0b_v158 : Ref sig .tc := ⟨.hbm, 251, rfl⟩
abbrev main_while0b_call13_v0 : Ref sig .tc := ⟨.hbm, 252, rfl⟩
abbrev main_while0b_call13_c : Ref sig .tc := ⟨.hbm, 253, rfl⟩
abbrev main_while0b_call13_c_0 : Ref sig .tc := ⟨.hbm, 254, rfl⟩
abbrev main_while0b_call13_c_1 : Ref sig .tc := ⟨.hbm, 255, rfl⟩
abbrev main_while0b_v159 : Ref sig .tc := ⟨.hbm, 256, rfl⟩
abbrev main_while0b_call14_v0 : Ref sig .tc := ⟨.hbm, 257, rfl⟩
abbrev main_while0b_call14_c : Ref sig .tc := ⟨.hbm, 258, rfl⟩
abbrev main_while0b_call14_c_0 : Ref sig .tc := ⟨.hbm, 259, rfl⟩
abbrev main_while0b_call14_c_1 : Ref sig .tc := ⟨.hbm, 260, rfl⟩
abbrev main_while0b_v160 : Ref sig .tc := ⟨.hbm, 261, rfl⟩
abbrev main_while0b_call15_v0 : Ref sig .tc := ⟨.hbm, 262, rfl⟩
abbrev main_while0b_call15_c : Ref sig .tc := ⟨.hbm, 263, rfl⟩
abbrev main_while0b_call15_c_0 : Ref sig .tc := ⟨.hbm, 264, rfl⟩
abbrev main_while0b_call15_c_1 : Ref sig .tc := ⟨.hbm, 265, rfl⟩
abbrev main_while0b_v161 : Ref sig .tc := ⟨.hbm, 266, rfl⟩
abbrev main_while0b_call16_v0 : Ref sig .tc := ⟨.hbm, 267, rfl⟩
abbrev main_while0b_call16_c : Ref sig .tc := ⟨.hbm, 268, rfl⟩
abbrev main_while0b_v162 : Ref sig .tc := ⟨.hbm, 269, rfl⟩
abbrev main_while0b_call17_v0 : Ref sig .tc := ⟨.hbm, 270, rfl⟩
abbrev main_while0b_call17_c : Ref sig .tc := ⟨.hbm, 271, rfl⟩
abbrev main_while0b_call17_c_0 : Ref sig .tc := ⟨.hbm, 272, rfl⟩
abbrev main_while0b_v163 : Ref sig .tc := ⟨.hbm, 273, rfl⟩
abbrev main_while0b_c_41 : Ref sig .tc := ⟨.hbm, 274, rfl⟩
abbrev main_while0b_v164 : Ref sig .tc := ⟨.hbm, 275, rfl⟩
abbrev main_cst_8 : Ref sig .tc := ⟨.hbm, 276, rfl⟩
abbrev main_v47 : Ref sig .tc := ⟨.hbm, 277, rfl⟩
abbrev main_v48 : Ref sig .tc := ⟨.hbm, 278, rfl⟩
abbrev main_v49 : Ref sig .tc := ⟨.hbm, 279, rfl⟩
abbrev main_v50 : Ref sig .tc := ⟨.hbm, 280, rfl⟩
abbrev main_v51 : Ref sig .tc := ⟨.hbm, 281, rfl⟩
abbrev main_v52 : Ref sig .tc := ⟨.hbm, 282, rfl⟩
abbrev main_v53 : Ref sig .tc := ⟨.hbm, 283, rfl⟩
abbrev main_v54 : Ref sig .tc := ⟨.hbm, 284, rfl⟩
abbrev main_v55 : Ref sig .tc := ⟨.hbm, 285, rfl⟩
abbrev main_v56 : Ref sig .tc := ⟨.hbm, 286, rfl⟩
abbrev main_v57 : Ref sig .tc := ⟨.hbm, 287, rfl⟩
abbrev main_v58 : Ref sig .tc := ⟨.hbm, 288, rfl⟩
abbrev main_v59 : Ref sig .tc := ⟨.hbm, 289, rfl⟩
abbrev main_v60 : Ref sig .tc := ⟨.hbm, 290, rfl⟩
abbrev main_v61 : Ref sig .tc := ⟨.hbm, 291, rfl⟩
abbrev main_v62 : Ref sig .tc := ⟨.hbm, 292, rfl⟩

abbrev nD : Nat := 1
abbrev τ : Topo := Topo.v7x

variable {F : FTy → Type} [FloatOps F]

abbrev main_while0_count : Scf.Loop 32 := ⟨0#32, 64#32, 1#32⟩
-- ==== Kernel3.lean ====
abbrev S4096x2048 : Shape := ⟨2, ![4096, 2048]⟩
abbrev S2048x2048 : Shape := ⟨2, ![2048, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S2048x2048, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4096x2048 : Shape := ⟨2, ![4096, 2048]⟩
abbrev S_ : Shape := ⟨0, ![]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S_, .f32⟩
  | .hbm, ⟨3, _⟩ => ⟨S2048x2048, .f32⟩
  | .hbm, ⟨4, _⟩ => ⟨S4096x2048, .f32⟩
  | .hbm, ⟨5, _⟩ => ⟨S2048x2048, .f32⟩
  | .hbm, ⟨6, _⟩ => ⟨S2048x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel4.lean ====
abbrev S4096x1024 : Shape := ⟨2, ![4096, 1024]⟩
abbrev S4096x2048 : Shape := ⟨2, ![4096, 2048]⟩
abbrev S1024x2048 : Shape := ⟨2, ![1024, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x2048, .f32⟩
  | .hbm, ⟨2, _⟩ => ⟨S1024x2048, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S4096x1024 : Shape := ⟨2, ![4096, 1024]⟩
abbrev S4096x2048 : Shape := ⟨2, ![4096, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2048, .f32⟩
  | .hbm, ⟨2, _⟩ => ⟨S_, .f32⟩
  | .hbm, ⟨3, _⟩ => ⟨S1024x2048, .f32⟩
  | .hbm, ⟨4, _⟩ => ⟨S4096x2048, .f32⟩
  | .hbm, ⟨5, _⟩ => ⟨S2048x1024, .f32⟩
  | .hbm, ⟨6, _⟩ => ⟨S1024x2048, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel5.lean ====
abbrev S4096x2048 : Shape := ⟨2, ![4096, 2048]⟩
abbrev S4096x1024 : Shape := ⟨2, ![4096, 1024]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S4096x1024, .f32⟩
  | .hbm, ⟨2, _⟩ => ⟨S2048x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S4096x2048 : Shape := ⟨2, ![4096, 2048]⟩
abbrev S4096x1024 : Shape := ⟨2, ![4096, 1024]⟩
abbrev S_ : Shape := ⟨0, ![]⟩
abbrev S2048x1024 : Shape := ⟨2, ![2048, 1024]⟩
abbrev S1024x2048 : Shape := ⟨2, ![1024, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x1024, .f32⟩
  | .hbm, ⟨2, _⟩ => ⟨S_, .f32⟩
  | .hbm, ⟨3, _⟩ => ⟨S2048x1024, .f32⟩
  | .hbm, ⟨4, _⟩ => ⟨S4096x1024, .f32⟩
  | .hbm, ⟨5, _⟩ => ⟨S1024x2048, .f32⟩
  | .hbm, ⟨6, _⟩ => ⟨S2048x1024, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel6.lean ====
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference6Ideal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S1024x1024, .f32⟩
  | .hbm, ⟨6, _⟩ => ⟨S1024x1024, .f32⟩
  | .hbm, ⟨7, _⟩ => ⟨S1024x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel7.lean ====
abbrev S4096x1024 : Shape := ⟨2, ![4096, 1024]⟩
abbrev S2048x1024 : Shape := ⟨2, ![2048, 1024]⟩
abbrev S4096x2048 : Shape := ⟨2, ![4096, 2048]⟩
abbrev S1024x1024 : Shape := ⟨2, ![1024, 1024]⟩
abbrev S512x1024 : Shape := ⟨2, ![512, 1024]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S2048x1024, .bf16⟩
  | .hbm, ⟨2, _⟩ => ⟨S4096x2048, .f32⟩
  | .local _ .vmem, ⟨0, _⟩ => ⟨S1024x1024, .f32⟩
  | .local _ .vmem, ⟨1, _⟩ => ⟨S1024x1024, .f32⟩
  | .local _ .vmem, ⟨2, _⟩ => ⟨S512x1024, .bf16⟩
  | .local _ .vmem, ⟨3, _⟩ => ⟨S512x1024, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S4096x1024 : Shape := ⟨2, ![4096, 1024]⟩
abbrev S2048x1024 : Shape := ⟨2, ![2048, 1024]⟩
abbrev S_ : Shape := ⟨0, ![]⟩
abbrev S4096x2048 : Shape := ⟨2, ![4096, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S2048x1024, .bf16⟩
  | .hbm, ⟨2, _⟩ => ⟨S_, .f32⟩
  | .hbm, ⟨3, _⟩ => ⟨S4096x2048, .f32⟩
  | .hbm, ⟨4, _⟩ => ⟨S2048x1024, .f32⟩
  | .hbm, ⟨5, _⟩ => ⟨S4096x1024, .f32⟩
  | .hbm, ⟨6, _⟩ => ⟨S4096x2048, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel8.lean ====
abbrev S4096x2048 : Shape := ⟨2, ![4096, 2048]⟩
abbrev S2048x2048 : Shape := ⟨2, ![2048, 2048]⟩
abbrev S1024x2048 : Shape := ⟨2, ![1024, 2048]⟩
abbrev S512x2048 : Shape := ⟨2, ![512, 2048]⟩
abbrev S1024x512 : Shape := ⟨2, ![1024, 512]⟩

abbrev nBuf : Space → Nat
  | .hbm => 4
  | .vmem => 9
  | .smem => 0
  | _ => 0

abbrev bufTy : (tb : Table) → Fin (tcTables nBuf tb) → BufTy
  | .hbm, ⟨0, _⟩ => ⟨S4096x2048, .f32⟩
  | .hbm, ⟨1, _⟩ => ⟨S2048x2048, .bf16⟩
  | .hbm, ⟨2, _⟩ => ⟨S4096x2048, .f32⟩
  | .hbm, ⟨3, _⟩ => ⟨S4096x2048, .f32⟩
  | .local _ .vmem, ⟨0, _⟩ => ⟨S1024x2048, .f32⟩
  | .local _ .vmem, ⟨1, _⟩ => ⟨S1024x2048, .f32⟩
  | .local _ .vmem, ⟨2, _⟩ => ⟨S512x2048, .bf16⟩
  | .local _ .vmem, ⟨3, _⟩ => ⟨S512x2048, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference8Ideal.lean ====
abbrev S4096x2048 : Shape := ⟨2, ![4096, 2048]⟩
abbrev S2048x2048 : Shape := ⟨2, ![2048, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x2048, .bf16⟩
  | .hbm, ⟨2, _⟩ => ⟨S4096x2048, .f32⟩
  | .hbm, ⟨3, _⟩ => ⟨S_, .f32⟩
  | .hbm, ⟨4, _⟩ => ⟨S4096x2048, .f32⟩
  | .hbm, ⟨5, _⟩ => ⟨S2048x2048, .f32⟩
  | .hbm, ⟨6, _⟩ => ⟨S4096x2048, .f32⟩
  | .hbm, ⟨7, _⟩ => ⟨S4096x2048, .f32⟩
  | .hbm, ⟨8, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Kernel9.lean ====
abbrev S4096x2048 : Shape := ⟨2, ![4096, 2048]⟩
abbrev S1024x2048 : Shape := ⟨2, ![1024, 2048]⟩
abbrev S4096x1024 : Shape := ⟨2, ![4096, 1024]⟩
abbrev S256x2048 : Shape := ⟨2, ![256, 2048]⟩
abbrev S256x1024 : Shape := ⟨2, ![256, 1024]⟩

abbrev nBuf : Space → Nat
  | .hbm => 5
  | .vmem => 8
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S1024x2048, .bf16⟩
  | .hbm, ⟨3, _⟩ => ⟨S1024x2048, .bf16⟩
  | .hbm, ⟨4, _⟩ => ⟨S4096x1024, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1024x2048, .bf16⟩
  | .local _ .vmem, ⟨5, _⟩ => ⟨S1024x2048, .bf16⟩
  | .local _ .vmem, ⟨6, _⟩ => ⟨S256x1024, .f32⟩
  | .local _ .vmem, ⟨7, _⟩ => ⟨S256x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference9Ideal.lean ====
abbrev S4096x2048 : Shape := ⟨2, ![4096, 2048]⟩
abbrev S1024x2048 : Shape := ⟨2, ![1024, 2048]⟩
abbrev S_ : Shape := ⟨0, ![]⟩
abbrev S4096x1024 : Shape := ⟨2, ![4096, 1024]⟩

abbrev nBuf : Space → Nat
  | .hbm => 13
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S1024x2048, .bf16⟩
  | .hbm, ⟨3, _⟩ => ⟨S1024x2048, .bf16⟩
  | .hbm, ⟨4, _⟩ => ⟨S_, .f32⟩
  | .hbm, ⟨5, _⟩ => ⟨S4096x1024, .f32⟩
  | .hbm, ⟨6, _⟩ => ⟨S1024x2048, .f32⟩
  | .hbm, ⟨7, _⟩ => ⟨S4096x2048, .f32⟩
  | .hbm, ⟨8, _⟩ => ⟨S1024x2048, .f32⟩
  | .hbm, ⟨9, _⟩ => ⟨S4096x2048, .f32⟩
  | .hbm, ⟨10, _⟩ => ⟨S4096x1024, .f32⟩
  | .hbm, ⟨11, _⟩ => ⟨S4096x1024, .f32⟩
  | .hbm, ⟨12, _⟩ => ⟨S4096x1024, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== Kernel10.lean ====
abbrev S4096x1024 : Shape := ⟨2, ![4096, 1024]⟩
abbrev S4096x2048 : Shape := ⟨2, ![4096, 2048]⟩
abbrev S4096x128 : Shape := ⟨2, ![4096, 128]⟩
abbrev S1024x1024 : Shape := ⟨2, ![1024, 1024]⟩
abbrev S2048x1024 : Shape := ⟨2, ![2048, 1024]⟩
abbrev S128x1024 : Shape := ⟨2, ![128, 1024]⟩
abbrev S256x1024 : Shape := ⟨2, ![256, 1024]⟩
abbrev S256x2048 : Shape := ⟨2, ![256, 2048]⟩
abbrev S256x128 : Shape := ⟨2, ![256, 128]⟩

abbrev nBuf : Space → Nat
  | .hbm => 11
  | .vmem => 17
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x2048, .f32⟩
  | .hbm, ⟨3, _⟩ => ⟨S4096x2048, .f32⟩
  | .hbm, ⟨4, _⟩ => ⟨S4096x128, .f32⟩
  | .hbm, ⟨5, _⟩ => ⟨S1024x1024, .bf16⟩
  | .hbm, ⟨6, _⟩ => ⟨S1024x1024, .bf16⟩
  | .hbm, ⟨7, _⟩ => ⟨S2048x1024, .bf16⟩
  | .hbm, ⟨8, _⟩ => ⟨S2048x1024, .bf16⟩
  | .hbm, ⟨9, _⟩ => ⟨S128x1024, .bf16⟩
  | .hbm, ⟨10, _⟩ => ⟨S4096x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x128, .f32⟩
  | .local _ .vmem, ⟨9, _⟩ => ⟨S256x128, .f32⟩
  | .local _ .vmem, ⟨10, _⟩ => ⟨S1024x1024, .bf16⟩
  | .local _ .vmem, ⟨11, _⟩ => ⟨S1024x1024, .bf16⟩
  | .local _ .vmem, ⟨12, _⟩ => ⟨S2048x1024, .bf16⟩
  | .local _ .vmem, ⟨13, _⟩ => ⟨S2048x1024, .bf16⟩
  | .local _ .vmem, ⟨14, _⟩ => ⟨S128x1024, .bf16⟩
  | .local _ .vmem, ⟨15, _⟩ => ⟨S256x1024, .f32⟩
  | .local _ .vmem, ⟨16, _⟩ => ⟨S256x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2048x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference10Ideal.lean ====
abbrev S4096x1024 : Shape := ⟨2, ![4096, 1024]⟩
abbrev S4096x2048 : Shape := ⟨2, ![4096, 2048]⟩
abbrev S4096x128 : Shape := ⟨2, ![4096, 128]⟩
abbrev S1024x1024 : Shape := ⟨2, ![1024, 1024]⟩
abbrev S2048x1024 : Shape := ⟨2, ![2048, 1024]⟩
abbrev S128x1024 : Shape := ⟨2, ![128, 1024]⟩
abbrev S_ : Shape := ⟨0, ![]⟩
abbrev S1024x2048 : Shape := ⟨2, ![1024, 2048]⟩
abbrev S1024x128 : Shape := ⟨2, ![1024, 128]⟩

abbrev nBuf : Space → Nat
  | .hbm => 36
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x2048, .f32⟩
  | .hbm, ⟨3, _⟩ => ⟨S4096x2048, .f32⟩
  | .hbm, ⟨4, _⟩ => ⟨S4096x128, .f32⟩
  | .hbm, ⟨5, _⟩ => ⟨S1024x1024, .bf16⟩
  | .hbm, ⟨6, _⟩ => ⟨S1024x1024, .bf16⟩
  | .hbm, ⟨7, _⟩ => ⟨S2048x1024, .bf16⟩
  | .hbm, ⟨8, _⟩ => ⟨S2048x1024, .bf16⟩
  | .hbm, ⟨9, _⟩ => ⟨S128x1024, .bf16⟩
  | .hbm, ⟨10, _⟩ => ⟨S_, .f32⟩
  | .hbm, ⟨11, _⟩ => ⟨S4096x1024, .f32⟩
  | .hbm, ⟨12, _⟩ => ⟨S1024x1024, .f32⟩
  | .hbm, ⟨13, _⟩ => ⟨S1024x1024, .f32⟩
  | .hbm, ⟨14, _⟩ => ⟨S4096x1024, .f32⟩
  | .hbm, ⟨15, _⟩ => ⟨S1024x1024, .f32⟩
  | .hbm, ⟨16, _⟩ => ⟨S1024x1024, .f32⟩
  | .hbm, ⟨17, _⟩ => ⟨S4096x1024, .f32⟩
  | .hbm, ⟨18, _⟩ => ⟨S2048x1024, .f32⟩
  | .hbm, ⟨19, _⟩ => ⟨S1024x2048, .f32⟩
  | .hbm, ⟨20, _⟩ => ⟨S4096x2048, .f32⟩
  | .hbm, ⟨21, _⟩ => ⟨S2048x1024, .f32⟩
  | .hbm, ⟨22, _⟩ => ⟨S1024x2048, .f32⟩
  | .hbm, ⟨23, _⟩ => ⟨S4096x2048, .f32⟩
  | .hbm, ⟨24, _⟩ => ⟨S128x1024, .f32⟩
  | .hbm, ⟨25, _⟩ => ⟨S1024x128, .f32⟩
  | .hbm, ⟨26, _⟩ => ⟨S4096x128, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩

abbrev nD : Nat := 1
abbrev τ : Topo := Topo.v7x

variable {F : FTy → Type} [FloatOps F]
-- ==== Kernel11.lean ====
abbrev S4096x1024 : Shape := ⟨2, ![4096, 1024]⟩
abbrev S1024x2048 : Shape := ⟨2, ![1024, 2048]⟩
abbrev S4096x2048 : Shape := ⟨2, ![4096, 2048]⟩
abbrev S256x1024 : Shape := ⟨2, ![256, 1024]⟩
abbrev S256x2048 : Shape := ⟨2, ![256, 2048]⟩

abbrev nBuf : Space → Nat
  | .hbm => 5
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S1024x2048, .bf16⟩
  | .hbm, ⟨2, _⟩ => ⟨S1024x2048, .bf16⟩
  | .hbm, ⟨3, _⟩ => ⟨S4096x2048, .f32⟩
  | .hbm, ⟨4, _⟩ => ⟨S4096x2048, .f32⟩
  | .local _ .vmem, ⟨0, _⟩ => ⟨S256x1024, .f32⟩
  | .local _ .vmem, ⟨1, _⟩ => ⟨S256x1024, .f32⟩
  | .local _ .vmem, ⟨2, _⟩ => ⟨S1024x2048, .bf16⟩
  | .local _ .vmem, ⟨3, _⟩ => ⟨S1024x2048, .bf16⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference11Ideal.lean ====
abbrev S4096x1024 : Shape := ⟨2, ![4096, 1024]⟩
abbrev S1024x2048 : Shape := ⟨2, ![1024, 2048]⟩
abbrev S4096x2048 : Shape := ⟨2, ![4096, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x2048, .bf16⟩
  | .hbm, ⟨2, _⟩ => ⟨S1024x2048, .bf16⟩
  | .hbm, ⟨3, _⟩ => ⟨S1024x2048, .f32⟩
  | .hbm, ⟨4, _⟩ => ⟨S4096x2048, .f32⟩
  | .hbm, ⟨5, _⟩ => ⟨S1024x2048, .f32⟩
  | .hbm, ⟨6, _⟩ => ⟨S4096x2048, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel12.lean ====
abbrev S4096x1024 : Shape := ⟨2, ![4096, 1024]⟩
abbrev S1024x1024 : Shape := ⟨2, ![1024, 1024]⟩
abbrev S2048x1024 : Shape := ⟨2, ![2048, 1024]⟩
abbrev S128x1024 : Shape := ⟨2, ![128, 1024]⟩
abbrev S4096x2048 : Shape := ⟨2, ![4096, 2048]⟩
abbrev S4096x128 : Shape := ⟨2, ![4096, 128]⟩
abbrev S256x1024 : Shape := ⟨2, ![256, 1024]⟩
abbrev S256x2048 : Shape := ⟨2, ![256, 2048]⟩
abbrev S256x128 : Shape := ⟨2, ![256, 128]⟩

abbrev nBuf : Space → Nat
  | .hbm => 11
  | .vmem => 17
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S1024x1024, .bf16⟩
  | .hbm, ⟨3, _⟩ => ⟨S2048x1024, .bf16⟩
  | .hbm, ⟨4, _⟩ => ⟨S2048x1024, .bf16⟩
  | .hbm, ⟨5, _⟩ => ⟨S128x1024, .bf16⟩
  | .hbm, ⟨6, _⟩ => ⟨S4096x1024, .f32⟩
  | .hbm, ⟨7, _⟩ => ⟨S4096x1024, .f32⟩
  | .hbm, ⟨8, _⟩ => ⟨S4096x2048, .f32⟩
  | .hbm, ⟨9, _⟩ => ⟨S4096x2048, .f32⟩
  | .hbm, ⟨10, _⟩ => ⟨S4096x128, .f32⟩
  | .local _ .vmem, ⟨0, _⟩ => ⟨S256x1024, .f32⟩
  | .local _ .vmem, ⟨1, _⟩ => ⟨S256x1024, .f32⟩
  | .local _ .vmem, ⟨2, _⟩ => ⟨S1024x1024, .bf16⟩
  | .local _ .vmem, ⟨3, _⟩ => ⟨S1024x1024, .bf16⟩
  | .local _ .vmem, ⟨4, _⟩ => ⟨S2048x1024, .bf16⟩
  | .local _ .vmem, ⟨5, _⟩ => ⟨S2048x1024, .bf16⟩
  | .local _ .vmem, ⟨6, _⟩ => ⟨S128x1024, .bf16⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | .local _ .vmem, ⟨14, _⟩ => ⟨S256x2048, .f32⟩
  | .local _ .vmem, ⟨15, _⟩ => ⟨S256x128, .f32⟩
  | .local _ .vmem, ⟨16, _⟩ => ⟨S256x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference12Ideal.lean ====
abbrev S4096x1024 : Shape := ⟨2, ![4096, 1024]⟩
abbrev S1024x1024 : Shape := ⟨2, ![1024, 1024]⟩
abbrev S2048x1024 : Shape := ⟨2, ![2048, 1024]⟩
abbrev S128x1024 : Shape := ⟨2, ![128, 1024]⟩
abbrev S1024x2048 : Shape := ⟨2, ![1024, 2048]⟩
abbrev S4096x2048 : Shape := ⟨2, ![4096, 2048]⟩
abbrev S1024x128 : Shape := ⟨2, ![1024, 128]⟩
abbrev S4096x128 : Shape := ⟨2, ![4096, 128]⟩

abbrev nBuf : Space → Nat
  | .hbm => 21
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S1024x1024, .bf16⟩
  | .hbm, ⟨3, _⟩ => ⟨S2048x1024, .bf16⟩
  | .hbm, ⟨4, _⟩ => ⟨S2048x1024, .bf16⟩
  | .hbm, ⟨5, _⟩ => ⟨S128x1024, .bf16⟩
  | .hbm, ⟨6, _⟩ => ⟨S1024x1024, .f32⟩
  | .hbm, ⟨7, _⟩ => ⟨S1024x1024, .f32⟩
  | .hbm, ⟨8, _⟩ => ⟨S4096x1024, .f32⟩
  | .hbm, ⟨9, _⟩ => ⟨S1024x1024, .f32⟩
  | .hbm, ⟨10, _⟩ => ⟨S1024x1024, .f32⟩
  | .hbm, ⟨11, _⟩ => ⟨S4096x1024, .f32⟩
  | .hbm, ⟨12, _⟩ => ⟨S2048x1024, .f32⟩
  | .hbm, ⟨13, _⟩ => ⟨S1024x2048, .f32⟩
  | .hbm, ⟨14, _⟩ => ⟨S4096x2048, .f32⟩
  | .hbm, ⟨15, _⟩ => ⟨S2048x1024, .f32⟩
  | .hbm, ⟨16, _⟩ => ⟨S1024x2048, .f32⟩
  | .hbm, ⟨17, _⟩ => ⟨S4096x2048, .f32⟩
  | .hbm, ⟨18, _⟩ => ⟨S128x1024, .f32⟩
  | .hbm, ⟨19, _⟩ => ⟨S1024x128, .f32⟩
  | .hbm, ⟨20, _⟩ => ⟨S4096x128, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Kernel13.lean ====
abbrev S4096x2048 : Shape := ⟨2, ![4096, 2048]⟩
abbrev S2048x1024 : Shape := ⟨2, ![2048, 1024]⟩
abbrev S4096x1024 : Shape := ⟨2, ![4096, 1024]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S2048x1024, .bf16⟩
  | .hbm, ⟨2, _⟩ => ⟨S4096x1024, .f32⟩
  | .local _ .vmem, ⟨0, _⟩ => ⟨S1024x2048, .f32⟩
  | .local _ .vmem, ⟨1, _⟩ => ⟨S1024x2048, .f32⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S4096x2048 : Shape := ⟨2, ![4096, 2048]⟩
abbrev S2048x1024 : Shape := ⟨2, ![2048, 1024]⟩
abbrev S4096x1024 : Shape := ⟨2, ![4096, 1024]⟩

abbrev nBuf : Space → Nat
  | .hbm => 4
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x1024, .bf16⟩
  | .hbm, ⟨2, _⟩ => ⟨S2048x1024, .f32⟩
  | .hbm, ⟨3, _⟩ => ⟨S4096x1024, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel14.lean ====
abbrev S4096x2048 : Shape := ⟨2, ![4096, 2048]⟩
abbrev S2048x2048 : Shape := ⟨2, ![2048, 2048]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 5
  | .vmem => 10
  | .smem => 0
  | _ => 0

abbrev bufTy : (tb : Table) → Fin (tcTables nBuf tb) → BufTy
  | .hbm, ⟨0, _⟩ => ⟨S4096x2048, .f32⟩
  | .hbm, ⟨1, _⟩ => ⟨S2048x2048, .bf16⟩
  | .hbm, ⟨2, _⟩ => ⟨S4096x2048, .f32⟩
  | .hbm, ⟨3, _⟩ => ⟨S4096x2048, .f32⟩
  | .hbm, ⟨4, _⟩ => ⟨S4096x2048, .f32⟩
  | .local _ .vmem, ⟨0, _⟩ => ⟨S1024x2048, .f32⟩
  | .local _ .vmem, ⟨1, _⟩ => ⟨S1024x2048, .f32⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | .local _ .vmem, ⟨9, _⟩ => ⟨S1024x512, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 4], ![false, false]⟩

def k0_mult1 (i : grid0.Coords) : BitVec 32 :=
  let arg1 : BitVec 32 := BitVec.ofNat 32 (i 1).val
  let c512_i32 : BitVec 32 := 512#32
  let v5 : BitVec 32 := Scalar.muli arg1 c512_i32
  v5
def k0_off1 (i : grid0.Coords) : Fin 2 → Nat :=
  let c0_5 : Index := 0#32
  let arg1 : BitVec 32 := BitVec.ofNat 32 (i 1).val
  let c512_i32 : BitVec 32 := 512#32
  let v5 : BitVec 32 := Scalar.muli arg1 c512_i32
  let v6 : BitVec 32 := v5
  let v7 : Index := Scalar.indexCast v6
  ![0, v7.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference14Ideal.lean ====
abbrev S4096x2048 : Shape := ⟨2, ![4096, 2048]⟩
abbrev S2048x2048 : Shape := ⟨2, ![2048, 2048]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x2048, .bf16⟩
  | .hbm, ⟨2, _⟩ => ⟨S4096x2048, .f32⟩
  | .hbm, ⟨3, _⟩ => ⟨S2048x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S_, .f32⟩
  | .hbm, ⟨8, _⟩ => ⟨S4096x2048, .f32⟩
  | .hbm, ⟨9, _⟩ => ⟨S4096x2048, .f32⟩
  | .hbm, ⟨10, _⟩ => ⟨S_, .f32⟩
  | .hbm, ⟨11, _⟩ => ⟨S4096x2048, .f32⟩
  | .hbm, ⟨12, _⟩ => ⟨S4096x2048, .f32⟩
  | .hbm, ⟨13, _⟩ => ⟨S4096x2048, .f32⟩
  | .hbm, ⟨14, _⟩ => ⟨S4096x2048, .f32⟩
  | .hbm, ⟨15, _⟩ => ⟨S4096x2048, .f32⟩
  | .hbm, ⟨16, _⟩ => ⟨S_, .f32⟩
  | .hbm, ⟨17, _⟩ => ⟨S4096x2048, .f32⟩
  | .hbm, ⟨18, _⟩ => ⟨S4096x2048, .f32⟩
  | .hbm, ⟨19, _⟩ => ⟨S_, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_call0_v0 : Ref sig .tc := ⟨.hbm, 14, rfl⟩
abbrev main_call0_v1 : Ref sig .tc := ⟨.hbm, 15, rfl⟩
abbrev main_call0_cst : Ref sig .tc := ⟨.hbm, 16, rfl⟩
abbrev main_call0_v2 : Ref sig .tc := ⟨.hbm, 17, rfl⟩
abbrev main_call0_v3 : Ref sig .tc := ⟨.hbm, 18, rfl⟩
abbrev main_call0_cst_0 : Ref sig .tc := ⟨.hbm, 19, rfl⟩
abbrev main_call0_v4 : Ref sig .tc := ⟨.hbm, 20, rfl⟩
abbrev main_call0_v5 : Ref sig .tc := ⟨.hbm, 21, rfl⟩
abbrev main_v9 : Ref sig .tc := ⟨.hbm, 22, rfl⟩
abbrev main_v10 : Ref sig .tc := ⟨.hbm, 23, rfl⟩

abbrev nD : Nat := 1
abbrev τ : Topo := Topo.v7x

variable {F : FTy → Type} [FloatOps F]
-- ==== Kernel15.lean ====
abbrev S4096x2048 : Shape := ⟨2, ![4096, 2048]⟩
abbrev S256x2048 : Shape := ⟨2, ![256, 2048]⟩

abbrev nBuf : Space → Nat
  | .hbm => 7
  | .vmem => 14
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference15Ideal.lean ====
abbrev S4096x2048 : Shape := ⟨2, ![4096, 2048]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S4096x2048, .f32⟩
  | .hbm, ⟨6, _⟩ => ⟨S_, .f32⟩
  | .hbm, ⟨7, _⟩ => ⟨S4096x2048, .f32⟩
  | .hbm, ⟨8, _⟩ => ⟨S4096x2048, .f32⟩
  | .hbm, ⟨9, _⟩ => ⟨S_, .f32⟩
  | .hbm, ⟨10, _⟩ => ⟨S4096x2048, .f32⟩
  | .hbm, ⟨11, _⟩ => ⟨S4096x2048, .f32⟩
  | .hbm, ⟨12, _⟩ => ⟨S_, .f32⟩
  | .hbm, ⟨13, _⟩ => ⟨S4096x2048, .f32⟩
  | .hbm, ⟨14, _⟩ => ⟨S4096x2048, .f32⟩
  | .hbm, ⟨15, _⟩ => ⟨S4096x2048, .f32⟩
  | .hbm, ⟨16, _⟩ => ⟨S4096x2048, .f32⟩
  | .hbm, ⟨17, _⟩ => ⟨S4096x2048, .f32⟩
  | .hbm, ⟨18, _⟩ => ⟨S4096x2048, .f32⟩
  | .hbm, ⟨19, _⟩ => ⟨S_, .f32⟩
  | .hbm, ⟨20, _⟩ => ⟨S4096x2048, .f32⟩
  | .hbm, ⟨21, _⟩ => ⟨S4096x2048, .f32⟩
  | .hbm, ⟨22, _⟩ => ⟨S_, .f32⟩
  | .hbm, ⟨23, _⟩ => ⟨S4096x2048, .f32⟩
  | .hbm, ⟨24, _⟩ => ⟨S4096x2048, .f32⟩
  | .hbm, ⟨25, _⟩ => ⟨S_, .f32⟩
  | .hbm, ⟨26, _⟩ => ⟨S4096x2048, .f32⟩
  | .hbm, ⟨27, _⟩ => ⟨S4096x2048, .f32⟩
  | .hbm, ⟨28, _⟩ => ⟨S4096x2048, .f32⟩
  | .hbm, ⟨29, _⟩ => ⟨S4096x2048, .f32⟩
  | .hbm, ⟨30, _⟩ => ⟨S4096x2048, .f32⟩
  | .hbm, ⟨31, _⟩ => ⟨S4096x2048, .f32⟩
  | .hbm, ⟨32, _⟩ => ⟨S4096x2048, .f32⟩
  | .hbm, ⟨33, _⟩ => ⟨S4096x2048, .f32⟩
  | .hbm, ⟨34, _⟩ => ⟨S4096x2048, .f32⟩
  | .hbm, ⟨35, _⟩ => ⟨S4096x2048, .f32⟩
  | .hbm, ⟨36, _⟩ => ⟨S4096x2048, .f32⟩
  | .hbm, ⟨37, _⟩ => ⟨S4096x2048, .f32⟩
  | .hbm, ⟨38, _⟩ => ⟨S4096x2048, .f32⟩
  | .hbm, ⟨39, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_call0_v0 : Ref sig .tc := ⟨.hbm, 17, rfl⟩
abbrev main_call0_v1 : Ref sig .tc := ⟨.hbm, 18, rfl⟩
abbrev main_call0_cst : Ref sig .tc := ⟨.hbm, 19, rfl⟩
abbrev main_call0_v2 : Ref sig .tc := ⟨.hbm, 20, rfl⟩
abbrev main_call0_v3 : Ref sig .tc := ⟨.hbm, 21, rfl⟩
abbrev main_call0_cst_0 : Ref sig .tc := ⟨.hbm, 22, rfl⟩
abbrev main_call0_v4 : Ref sig .tc := ⟨.hbm, 23, rfl⟩
abbrev main_v10_2 : Ref sig .tc := ⟨.hbm, 24, rfl⟩
abbrev main_call0_cst_1 : Ref sig .tc := ⟨.hbm, 25, rfl⟩
abbrev main_call0_v6 : Ref sig .tc := ⟨.hbm, 26, rfl⟩
abbrev main_call0_v7 : Ref sig .tc := ⟨.hbm, 27, rfl⟩
abbrev main_v10_1 : Ref sig .tc := ⟨.hbm, 28, rfl⟩
abbrev main_v10_0 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩

abbrev nD : Nat := 1
abbrev τ : Topo := Topo.v7x

variable {F : FTy → Type} [FloatOps F]
-- ==== Kernel17.lean ====
abbrev S4096x1024 : Shape := ⟨2, ![4096, 1024]⟩
abbrev S8x1024 : Shape := ⟨2, ![8, 1024]⟩
abbrev S4096x128 : Shape := ⟨2, ![4096, 128]⟩
abbrev S8x128 : Shape := ⟨2, ![8, 128]⟩
abbrev S1x128 : Shape := ⟨2, ![1, 128]⟩
abbrev S4096 : Shape := ⟨1, ![4096]⟩
abbrev S4096x1 : Shape := ⟨2, ![4096, 1]⟩
abbrev S128 : Shape := ⟨1, ![128]⟩
abbrev S4x128 : Shape := ⟨2, ![4, 128]⟩

abbrev nBuf : Space → Nat
  | .hbm => 5
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S8x1024, .f32⟩
  | .hbm, ⟨2, _⟩ => ⟨S4096x1024, .f32⟩
  | .hbm, ⟨3, _⟩ => ⟨S4096x1024, .f32⟩
  | .hbm, ⟨4, _⟩ => ⟨S8x1024, .f32⟩
  | .local _ .vmem, ⟨0, _⟩ => ⟨S4096x128, .f32⟩
  | .local _ .vmem, ⟨1, _⟩ => ⟨S4096x128, .f32⟩
  | .local _ .vmem, ⟨2, _⟩ => ⟨S8x128, .f32⟩
  | .local _ .vmem, ⟨3, _⟩ => ⟨S8x128, .f32⟩
  | .local _ .vmem, ⟨4, _⟩ => ⟨S4096x128, .f32⟩
  | .local _ .vmem, ⟨5, _⟩ => ⟨S4096x128, .f32⟩
  | .local _ .vmem, ⟨6, _⟩ => ⟨S4096x128, .f32⟩
  | .local _ .vmem, ⟨7, _⟩ => ⟨S4096x128, .f32⟩
  | .local _ .vmem, ⟨8, _⟩ => ⟨S8x128, .f32⟩
  | .local _ .vmem, ⟨9, _⟩ => ⟨S8x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference17Ideal.lean ====
abbrev S4096x1024 : Shape := ⟨2, ![4096, 1024]⟩
abbrev S8x1024 : Shape := ⟨2, ![8, 1024]⟩
abbrev S_ : Shape := ⟨0, ![]⟩
abbrev S3x1024 : Shape := ⟨2, ![3, 1024]⟩
abbrev S4093x1024 : Shape := ⟨2, ![4093, 1024]⟩
abbrev S1x1024 : Shape := ⟨2, ![1, 1024]⟩
abbrev S1024 : Shape := ⟨1, ![1024]⟩
abbrev S2x1024 : Shape := ⟨2, ![2, 1024]⟩
abbrev S4094x1024 : Shape := ⟨2, ![4094, 1024]⟩
abbrev S4095x1024 : Shape := ⟨2, ![4095, 1024]⟩
abbrev S4096x8x128 : Shape := ⟨3, ![4096, 8, 128]⟩
abbrev S4096x8 : Shape := ⟨2, ![4096, 8]⟩
abbrev S4096x8x1 : Shape := ⟨3, ![4096, 8, 1]⟩

abbrev nBuf : Space → Nat
  | .hbm => 155
  | .vmem => 0
  | .smem => 0
  | _ => 0

abbrev hbmTy0_0 (i : Nat) : BufTy := match i % 128 with
  | 0 => ⟨S4096x1024, .f32⟩
  | 1 => ⟨S8x1024, .f32⟩
  | 2 => ⟨S4096x1024, .f32⟩
  | 3 => ⟨S_, .f32⟩
  | 4 => ⟨S3x1024, .f32⟩
  | 5 => ⟨S4093x1024, .f32⟩
  | 6 => ⟨S4096x1024, .f32⟩
  | 7 => ⟨S_, .f32⟩
  | 8 => ⟨S3x1024, .f32⟩
  | 9 => ⟨S1x1024, .f32⟩
  | 10 => ⟨S1024, .f32⟩
  | 11 => ⟨S1x1024, .f32⟩
  | 12 => ⟨S4096x1024, .f32⟩
  | 13 => ⟨S4096x1024, .f32⟩
  | 14 => ⟨S_, .f32⟩
  | 15 => ⟨S2x1024, .f32⟩
  | 16 => ⟨S4094x1024, .f32⟩
  | 17 => ⟨S4096x1024, .f32⟩
  | 18 => ⟨S_, .f32⟩
  | 19 => ⟨S2x1024, .f32⟩
  | 20 => ⟨S1x1024, .f32⟩
  | 21 => ⟨S1024, .f32⟩
  | 22 => ⟨S1x1024, .f32⟩
  | 23 => ⟨S4096x1024, .f32⟩
  | 24 => ⟨S4096x1024, .f32⟩
  | 25 => ⟨S4096x1024, .f32⟩
  | 26 => ⟨S_, .f32⟩
  | 27 => ⟨S1x1024, .f32⟩
  | 28 => ⟨S4095x1024, .f32⟩
  | 29 => ⟨S4096x1024, .f32⟩
  | 30 => ⟨S_, .f32⟩
  | 31 => ⟨S1x1024, .f32⟩
  | 32 => ⟨S1x1024, .f32⟩
  | 33 => ⟨S1024, .f32⟩
  | 34 => ⟨S1x1024, .f32⟩
  | 35 => ⟨S4096x1024, .f32⟩
  | 36 => ⟨S4096x1024, .f32⟩
  | 37 => ⟨S4096x1024, .f32⟩
  | 38 => ⟨S1x1024, .f32⟩
  | 39 => ⟨S1024, .f32⟩
  | 40 => ⟨S1x1024, .f32⟩
  | 41 => ⟨S4096x1024, .f32⟩
  | 42 => ⟨S4096x1024, .f32⟩
  | 43 => ⟨S4096x1024, .f32⟩
  | 44 => ⟨S4096x1024, .f32⟩
  | 45 => ⟨S4096x1024, .f32⟩
  | 46 => ⟨S_, .f32⟩
  | 47 => ⟨S4096x1024, .f32⟩
  | 48 => ⟨S4096x1024, .f32⟩
  | 49 => ⟨S_, .f32⟩
  | 50 => ⟨S4096x1024, .f32⟩
  | 51 => ⟨S4096x1024, .f32⟩
  | 52 => ⟨S_, .f32⟩
  | 53 => ⟨S4096x1024, .f32⟩
  | 54 => ⟨S4096x1024, .f32⟩
  | 55 => ⟨S4096x1024, .f32⟩
  | 56 => ⟨S4096x1024, .f32⟩
  | 57 => ⟨S4096x8x128, .f32⟩
  | 58 => ⟨S4096x8x128, .f32⟩
  | 59 => ⟨S_, .f32⟩
  | 60 => ⟨S4096x8, .f32⟩
  | 61 => ⟨S4096x8x1, .f32⟩
  | 62 => ⟨S_, .f32⟩
  | 63 => ⟨S4096x8x1, .f32⟩
  | 64 => ⟨S4096x8x1, .f32⟩
  | 65 => ⟨S4096x8x1, .f32⟩
  | 66 => ⟨S4096x8x1, .f32⟩
  | 67 => ⟨S_, .f32⟩
  | 68 => ⟨S4096x8x1, .f32⟩
  | 69 => ⟨S4096x8x1, .f32⟩
  | 70 => ⟨S4096x8x128, .f32⟩
  | 71 => ⟨S4096x8x128, .f32⟩
  | 72 => ⟨S4096x1024, .f32⟩
  | 73 => ⟨S4096x8x128, .f32⟩
  | 74 => ⟨S4096x8x128, .f32⟩
  | 75 => ⟨S_, .f32⟩
  | 76 => ⟨S4096x8, .f32⟩
  | 77 => ⟨S4096x8x1, .f32⟩
  | 78 => ⟨S4096x8x128, .f32⟩
  | 79 => ⟨S4096x8x128, .f32⟩
  | 80 => ⟨S4096x8x1, .f32⟩
  | 81 => ⟨S_, .f32⟩
  | 82 => ⟨S4096x8, .f32⟩
  | 83 => ⟨S4096x8x128, .f32⟩
  | 84 => ⟨S4096x8x128, .f32⟩
  | 85 => ⟨S4096x8x128, .f32⟩
  | 86 => ⟨S4096x8x128, .f32⟩
  | 87 => ⟨S4096x8x128, .f32⟩
  | 88 => ⟨S4096x1024, .f32⟩
  | 89 => ⟨S4096x1024, .f32⟩
  | 90 => ⟨S4096x1024, .f32⟩
  | 91 => ⟨S4096x1024, .f32⟩
  | 92 => ⟨S4096x1024, .f32⟩
  | 93 => ⟨S4096x1024, .f32⟩
  | 94 => ⟨S_, .f32⟩
  | 95 => ⟨S1024, .f32⟩
  | 96 => ⟨S1x1024, .f32⟩
  | 97 => ⟨S4096x1024, .f32⟩
  | 98 => ⟨S4096x1024, .f32⟩
  | 99 => ⟨S_, .f32⟩
  | 100 => ⟨S1024, .f32⟩
  | 101 => ⟨S1x1024, .f32⟩
  | 102 => ⟨S_, .f32⟩
  | 103 => ⟨S8x1024, .f32⟩
  | 104 => ⟨S4096x1024, .f32⟩
  | 105 => ⟨S_, .f32⟩
  | 106 => ⟨S1024, .f32⟩
  | 107 => ⟨S1x1024, .f32⟩
  | 108 => ⟨S4096x1024, .f32⟩
  | 109 => ⟨S4096x1024, .f32⟩
  | 110 => ⟨S_, .f32⟩
  | 111 => ⟨S1024, .f32⟩
  | 112 => ⟨S1x1024, .f32⟩
  | 113 => ⟨S_, .f32⟩
  | 114 => ⟨S8x1024, .f32⟩
  | 115 => ⟨S8x1024, .f32⟩
  | 116 => ⟨S1x1024, .f32⟩
  | 117 => ⟨S4095x1024, .f32⟩
  | 118 => ⟨S_, .f32⟩
  | 119 => ⟨S4096x1024, .f32⟩
  | 120 => ⟨S4096x1024, .f32⟩
  | 121 => ⟨S4096x1024, .f32⟩
  | 122 => ⟨S_, .f32⟩
  | 123 => ⟨S1024, .f32⟩
  | 124 => ⟨S1x1024, .f32⟩
  | 125 => ⟨S4096x1024, .f32⟩
  | 126 => ⟨S4096x1024, .f32⟩
  | 127 => ⟨S_, .f32⟩
  | _ => ⟨S4096x1024, .f32⟩

abbrev hbmTy0_1 (i : Nat) : BufTy := match i % 128 with
  | 0 => ⟨S1024, .f32⟩
  | 1 => ⟨S1x1024, .f32⟩
  | 2 => ⟨S_, .f32⟩
  | 3 => ⟨S8x1024, .f32⟩
  | 4 => ⟨S8x1024, .f32⟩
  | 5 => ⟨S2x1024, .f32⟩
  | 6 => ⟨S4094x1024, .f32⟩
  | 7 => ⟨S_, .f32⟩
  | 8 => ⟨S4096x1024, .f32⟩
  | 9 => ⟨S4096x1024, .f32⟩
  | 10 => ⟨S4096x1024, .f32⟩
  | 11 => ⟨S_, .f32⟩
  | 12 => ⟨S1024, .f32⟩
  | 13 => ⟨S1x1024, .f32⟩
  | 14 => ⟨S4096x1024, .f32⟩
  | 15 => ⟨S4096x1024, .f32⟩
  | 16 => ⟨S_, .f32⟩
  | 17 => ⟨S1024, .f32⟩
  | 18 => ⟨S1x1024, .f32⟩
  | 19 => ⟨S_, .f32⟩
  | 20 => ⟨S8x1024, .f32⟩
  | 21 => ⟨S8x1024, .f32⟩
  | 22 => ⟨S3x1024, .f32⟩
  | 23 => ⟨S4093x1024, .f32⟩
  | 24 => ⟨S_, .f32⟩
  | 25 => ⟨S4096x1024, .f32⟩
  | 26 => ⟨S4096x1024, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_call0_v0 : Ref sig .tc := ⟨.hbm, 44, rfl⟩
abbrev main_call0_v1 : Ref sig .tc := ⟨.hbm, 45, rfl⟩
abbrev main_call0_cst : Ref sig .tc := ⟨.hbm, 46, rfl⟩
abbrev main_call0_v2 : Ref sig .tc := ⟨.hbm, 47, rfl⟩
abbrev main_call0_v3 : Ref sig .tc := ⟨.hbm, 48, rfl⟩
abbrev main_call0_cst_0 : Ref sig .tc := ⟨.hbm, 49, rfl⟩
abbrev main_call0_v4 : Ref sig .tc := ⟨.hbm, 50, rfl⟩
abbrev main_v35_2 : Ref sig .tc := ⟨.hbm, 51, rfl⟩
abbrev main_call0_cst_1 : Ref sig .tc := ⟨.hbm, 52, rfl⟩
abbrev main_call0_v6 : Ref sig .tc := ⟨.hbm, 53, rfl⟩
abbrev main_call0_v7 : Ref sig .tc := ⟨.hbm, 54, rfl⟩
abbrev main_v35_1 : Ref sig .tc := ⟨.hbm, 55, rfl⟩
abbrev main_v35_0 : Ref sig .tc := ⟨.hbm, 56, rfl⟩
abbrev main_v36 : Ref sig .tc := ⟨.hbm, 57, rfl⟩
abbrev main_v37 : Ref sig .tc := ⟨.hbm, 58, rfl⟩
abbrev main_cst_5 : Ref sig .tc := ⟨.hbm, 59, rfl⟩
abbrev main_v38 : Ref sig .tc := ⟨.hbm, 60, rfl⟩
abbrev main_v39 : Ref sig .tc := ⟨.hbm, 61, rfl⟩
abbrev main_cst_6 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_7 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_cst_8 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_cst_9 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_call1_v0 : Ref sig .tc := ⟨.hbm, 89, rfl⟩
abbrev main_call1_v1 : Ref sig .tc := ⟨.hbm, 90, rfl⟩
abbrev main_call1_v2 : Ref sig .tc := ⟨.hbm, 91, rfl⟩
abbrev main_v63 : Ref sig .tc := ⟨.hbm, 92, rfl⟩
abbrev main_v64 : Ref sig .tc := ⟨.hbm, 93, rfl⟩
abbrev main_cst_10 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_cst_11 : Ref sig .tc := ⟨.hbm, 99, rfl⟩
abbrev main_v69 : Ref sig .tc := ⟨.hbm, 100, rfl⟩
abbrev main_v70 : Ref sig .tc := ⟨.hbm, 101, rfl⟩
abbrev main_cst_12 : Ref sig .tc := ⟨.hbm, 102, rfl⟩
abbrev main_v71 : Ref sig .tc := ⟨.hbm, 103, rfl⟩
abbrev main_v72 : Ref sig .tc := ⟨.hbm, 104, rfl⟩
abbrev main_cst_13 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_cst_14 : Ref sig .tc := ⟨.hbm, 110, rfl⟩
abbrev main_v77 : Ref sig .tc := ⟨.hbm, 111, rfl⟩
abbrev main_v78 : Ref sig .tc := ⟨.hbm, 112, rfl⟩
abbrev main_cst_15 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_cst_16 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_cst_17 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_cst_18 : Ref sig .tc := ⟨.hbm, 127, rfl⟩
abbrev main_v90 : Ref sig .tc := ⟨.hbm, 128, rfl⟩
abbrev main_v91 : Ref sig .tc := ⟨.hbm, 129, rfl⟩
abbrev main_cst_19 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_cst_20 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_cst_21 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_cst_22 : Ref sig .tc := ⟨.hbm, 144, rfl⟩
abbrev main_v103 : Ref sig .tc := ⟨.hbm, 145, rfl⟩
abbrev main_v104 : Ref sig .tc := ⟨.hbm, 146, rfl⟩
abbrev main_cst_23 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_cst_24 : Ref sig .tc := ⟨.hbm, 152, rfl⟩
abbrev main_v109 : Ref sig .tc := ⟨.hbm, 153, rfl⟩
abbrev main_v110 : Ref sig .tc := ⟨.hbm, 154, rfl⟩

abbrev nD : Nat := 1
abbrev τ : Topo := Topo.v7x

variable {F : FTy → Type} [FloatOps F]
-- ==== Kernel18.lean ====
abbrev S4096x1024 : Shape := ⟨2, ![4096, 1024]⟩
abbrev S8x1024 : Shape := ⟨2, ![8, 1024]⟩
abbrev S4096x128 : Shape := ⟨2, ![4096, 128]⟩
abbrev S8x128 : Shape := ⟨2, ![8, 128]⟩
abbrev S1x128 : Shape := ⟨2, ![1, 128]⟩
abbrev S4096 : Shape := ⟨1, ![4096]⟩
abbrev S4096x1 : Shape := ⟨2, ![4096, 1]⟩
abbrev S128 : Shape := ⟨1, ![128]⟩
abbrev S4x128 : Shape := ⟨2, ![4, 128]⟩

abbrev nBuf : Space → Nat
  | .hbm => 5
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S8x1024, .f32⟩
  | .hbm, ⟨2, _⟩ => ⟨S4096x1024, .f32⟩
  | .hbm, ⟨3, _⟩ => ⟨S4096x1024, .f32⟩
  | .hbm, ⟨4, _⟩ => ⟨S8x1024, .f32⟩
  | .local _ .vmem, ⟨0, _⟩ => ⟨S4096x128, .f32⟩
  | .local _ .vmem, ⟨1, _⟩ => ⟨S4096x128, .f32⟩
  | .local _ .vmem, ⟨2, _⟩ => ⟨S8x128, .f32⟩
  | .local _ .vmem, ⟨3, _⟩ => ⟨S8x128, .f32⟩
  | .local _ .vmem, ⟨4, _⟩ => ⟨S4096x128, .f32⟩
  | .local _ .vmem, ⟨5, _⟩ => ⟨S4096x128, .f32⟩
  | .local _ .vmem, ⟨6, _⟩ => ⟨S4096x128, .f32⟩
  | .local _ .vmem, ⟨7, _⟩ => ⟨S4096x128, .f32⟩
  | .local _ .vmem, ⟨8, _⟩ => ⟨S8x128, .f32⟩
  | .local _ .vmem, ⟨9, _⟩ => ⟨S8x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference18Ideal.lean ====
abbrev S4096x1024 : Shape := ⟨2, ![4096, 1024]⟩
abbrev S8x1024 : Shape := ⟨2, ![8, 1024]⟩
abbrev S_ : Shape := ⟨0, ![]⟩
abbrev S3x1024 : Shape := ⟨2, ![3, 1024]⟩
abbrev S4093x1024 : Shape := ⟨2, ![4093, 1024]⟩
abbrev S1x1024 : Shape := ⟨2, ![1, 1024]⟩
abbrev S1024 : Shape := ⟨1, ![1024]⟩
abbrev S2x1024 : Shape := ⟨2, ![2, 1024]⟩
abbrev S4094x1024 : Shape := ⟨2, ![4094, 1024]⟩
abbrev S4095x1024 : Shape := ⟨2, ![4095, 1024]⟩
abbrev S4096x8x128 : Shape := ⟨3, ![4096, 8, 128]⟩
abbrev S4096x8 : Shape := ⟨2, ![4096, 8]⟩
abbrev S4096x8x1 : Shape := ⟨3, ![4096, 8, 1]⟩

abbrev nBuf : Space → Nat
  | .hbm => 161
  | .vmem => 0
  | .smem => 0
  | _ => 0

abbrev hbmTy0_0 (i : Nat) : BufTy := match i % 128 with
  | 0 => ⟨S4096x1024, .f32⟩
  | 1 => ⟨S8x1024, .f32⟩
  | 2 => ⟨S4096x1024, .f32⟩
  | 3 => ⟨S_, .f32⟩
  | 4 => ⟨S3x1024, .f32⟩
  | 5 => ⟨S4093x1024, .f32⟩
  | 6 => ⟨S4096x1024, .f32⟩
  | 7 => ⟨S_, .f32⟩
  | 8 => ⟨S3x1024, .f32⟩
  | 9 => ⟨S1x1024, .f32⟩
  | 10 => ⟨S1024, .f32⟩
  | 11 => ⟨S1x1024, .f32⟩
  | 12 => ⟨S4096x1024, .f32⟩
  | 13 => ⟨S4096x1024, .f32⟩
  | 14 => ⟨S_, .f32⟩
  | 15 => ⟨S2x1024, .f32⟩
  | 16 => ⟨S4094x1024, .f32⟩
  | 17 => ⟨S4096x1024, .f32⟩
  | 18 => ⟨S_, .f32⟩
  | 19 => ⟨S2x1024, .f32⟩
  | 20 => ⟨S1x1024, .f32⟩
  | 21 => ⟨S1024, .f32⟩
  | 22 => ⟨S1x1024, .f32⟩
  | 23 => ⟨S4096x1024, .f32⟩
  | 24 => ⟨S4096x1024, .f32⟩
  | 25 => ⟨S4096x1024, .f32⟩
  | 26 => ⟨S_, .f32⟩
  | 27 => ⟨S1x1024, .f32⟩
  | 28 => ⟨S4095x1024, .f32⟩
  | 29 => ⟨S4096x1024, .f32⟩
  | 30 => ⟨S_, .f32⟩
  | 31 => ⟨S1x1024, .f32⟩
  | 32 => ⟨S1x1024, .f32⟩
  | 33 => ⟨S1024, .f32⟩
  | 34 => ⟨S1x1024, .f32⟩
  | 35 => ⟨S4096x1024, .f32⟩
  | 36 => ⟨S4096x1024, .f32⟩
  | 37 => ⟨S4096x1024, .f32⟩
  | 38 => ⟨S1x1024, .f32⟩
  | 39 => ⟨S1024, .f32⟩
  | 40 => ⟨S1x1024, .f32⟩
  | 41 => ⟨S4096x1024, .f32⟩
  | 42 => ⟨S4096x1024, .f32⟩
  | 43 => ⟨S4096x1024, .f32⟩
  | 44 => ⟨S4096x1024, .f32⟩
  | 45 => ⟨S4096x1024, .f32⟩
  | 46 => ⟨S_, .f32⟩
  | 47 => ⟨S4096x1024, .f32⟩
  | 48 => ⟨S4096x1024, .f32⟩
  | 49 => ⟨S_, .f32⟩
  | 50 => ⟨S4096x1024, .f32⟩
  | 51 => ⟨S4096x1024, .f32⟩
  | 52 => ⟨S_, .f32⟩
  | 53 => ⟨S4096x1024, .f32⟩
  | 54 => ⟨S4096x1024, .f32⟩
  | 55 => ⟨S4096x1024, .f32⟩
  | 56 => ⟨S4096x1024, .f32⟩
  | 57 => ⟨S4096x8x128, .f32⟩
  | 58 => ⟨S4096x8x128, .f32⟩
  | 59 => ⟨S_, .f32⟩
  | 60 => ⟨S4096x8, .f32⟩
  | 61 => ⟨S4096x8x1, .f32⟩
  | 62 => ⟨S_, .f32⟩
  | 63 => ⟨S4096x8x1, .f32⟩
  | 64 => ⟨S4096x8x1, .f32⟩
  | 65 => ⟨S4096x8x1, .f32⟩
  | 66 => ⟨S4096x8x1, .f32⟩
  | 67 => ⟨S_, .f32⟩
  | 68 => ⟨S4096x8x1, .f32⟩
  | 69 => ⟨S4096x8x1, .f32⟩
  | 70 => ⟨S4096x8x128, .f32⟩
  | 71 => ⟨S4096x8x128, .f32⟩
  | 72 => ⟨S4096x1024, .f32⟩
  | 73 => ⟨S_, .f32⟩
  | 74 => ⟨S4096x1024, .f32⟩
  | 75 => ⟨S4096x1024, .f32⟩
  | 76 => ⟨S_, .f32⟩
  | 77 => ⟨S4096x1024, .f32⟩
  | 78 => ⟨S4096x1024, .f32⟩
  | 79 => ⟨S4096x8x128, .f32⟩
  | 80 => ⟨S4096x8x128, .f32⟩
  | 81 => ⟨S_, .f32⟩
  | 82 => ⟨S4096x8, .f32⟩
  | 83 => ⟨S4096x8x1, .f32⟩
  | 84 => ⟨S4096x8x128, .f32⟩
  | 85 => ⟨S4096x8x128, .f32⟩
  | 86 => ⟨S4096x8x1, .f32⟩
  | 87 => ⟨S_, .f32⟩
  | 88 => ⟨S4096x8, .f32⟩
  | 89 => ⟨S4096x8x128, .f32⟩
  | 90 => ⟨S4096x8x128, .f32⟩
  | 91 => ⟨S4096x8x128, .f32⟩
  | 92 => ⟨S4096x8x128, .f32⟩
  | 93 => ⟨S4096x8x128, .f32⟩
  | 94 => ⟨S4096x1024, .f32⟩
  | 95 => ⟨S4096x1024, .f32⟩
  | 96 => ⟨S4096x1024, .f32⟩
  | 97 => ⟨S4096x1024, .f32⟩
  | 98 => ⟨S4096x1024, .f32⟩
  | 99 => ⟨S4096x1024, .f32⟩
  | 100 => ⟨S_, .f32⟩
  | 101 => ⟨S1024, .f32⟩
  | 102 => ⟨S1x1024, .f32⟩
  | 103 => ⟨S4096x1024, .f32⟩
  | 104 => ⟨S4096x1024, .f32⟩
  | 105 => ⟨S_, .f32⟩
  | 106 => ⟨S1024, .f32⟩
  | 107 => ⟨S1x1024, .f32⟩
  | 108 => ⟨S_, .f32⟩
  | 109 => ⟨S8x1024, .f32⟩
  | 110 => ⟨S4096x1024, .f32⟩
  | 111 => ⟨S_, .f32⟩
  | 112 => ⟨S1024, .f32⟩
  | 113 => ⟨S1x1024, .f32⟩
  | 114 => ⟨S4096x1024, .f32⟩
  | 115 => ⟨S4096x1024, .f32⟩
  | 116 => ⟨S_, .f32⟩
  | 117 => ⟨S1024, .f32⟩
  | 118 => ⟨S1x1024, .f32⟩
  | 119 => ⟨S_, .f32⟩
  | 120 => ⟨S8x1024, .f32⟩
  | 121 => ⟨S8x1024, .f32⟩
  | 122 => ⟨S1x1024, .f32⟩
  | 123 => ⟨S4095x1024, .f32⟩
  | 124 => ⟨S_, .f32⟩
  | 125 => ⟨S4096x1024, .f32⟩
  | 126 => ⟨S4096x1024, .f32⟩
  | 127 => ⟨S4096x1024, .f32⟩
  | _ => ⟨S4096x1024, .f32⟩

abbrev hbmTy0_1 (i : Nat) : BufTy := match i % 128 with
  | 0 => ⟨S_, .f32⟩
  | 1 => ⟨S1024, .f32⟩
  | 2 => ⟨S1x1024, .f32⟩
  | 3 => ⟨S4096x1024, .f32⟩
  | 4 => ⟨S4096x1024, .f32⟩
  | 5 => ⟨S_, .f32⟩
  | 6 => ⟨S1024, .f32⟩
  | 7 => ⟨S1x1024, .f32⟩
  | 8 => ⟨S_, .f32⟩
  | 9 => ⟨S8x1024, .f32⟩
  | 10 => ⟨S8x1024, .f32⟩
  | 11 => ⟨S2x1024, .f32⟩
  | 12 => ⟨S4094x1024, .f32⟩
  | 13 => ⟨S_, .f32⟩
  | 14 => ⟨S4096x1024, .f32⟩
  | 15 => ⟨S4096x1024, .f32⟩
  | 16 => ⟨S4096x1024, .f32⟩
  | 17 => ⟨S_, .f32⟩
  | 18 => ⟨S1024, .f32⟩
  | 19 => ⟨S1x1024, .f32⟩
  | 20 => ⟨S4096x1024, .f32⟩
  | 21 => ⟨S4096x1024, .f32⟩
  | 22 => ⟨S_, .f32⟩
  | 23 => ⟨S1024, .f32⟩
  | 24 => ⟨S1x1024, .f32⟩
  | 25 => ⟨S_, .f32⟩
  | 26 => ⟨S8x1024, .f32⟩
  | 27 => ⟨S8x1024, .f32⟩
  | 28 => ⟨S3x1024, .f32⟩
  | 29 => ⟨S4093x1024, .f32⟩
  | 30 => ⟨S_, .f32⟩
  | 31 => ⟨S4096x1024, .f32⟩
  | 32 => ⟨S4096x1024, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_call0_v0 : Ref sig .tc := ⟨.hbm, 44, rfl⟩
abbrev main_call0_v1 : Ref sig .tc := ⟨.hbm, 45, rfl⟩
abbrev main_call0_cst : Ref sig .tc := ⟨.hbm, 46, rfl⟩
abbrev main_call0_v2 : Ref sig .tc := ⟨.hbm, 47, rfl⟩
abbrev main_call0_v3 : Ref sig .tc := ⟨.hbm, 48, rfl⟩
abbrev main_call0_cst_0 : Ref sig .tc := ⟨.hbm, 49, rfl⟩
abbrev main_call0_v4 : Ref sig .tc := ⟨.hbm, 50, rfl⟩
abbrev main_v35_2 : Ref sig .tc := ⟨.hbm, 51, rfl⟩
abbrev main_call0_cst_1 : Ref sig .tc := ⟨.hbm, 52, rfl⟩
abbrev main_call0_v6 : Ref sig .tc := ⟨.hbm, 53, rfl⟩
abbrev main_call0_v7 : Ref sig .tc := ⟨.hbm, 54, rfl⟩
abbrev main_v35_1 : Ref sig .tc := ⟨.hbm, 55, rfl⟩
abbrev main_v35_0 : Ref sig .tc := ⟨.hbm, 56, rfl⟩
abbrev main_v36 : Ref sig .tc := ⟨.hbm, 57, rfl⟩
abbrev main_v37 : Ref sig .tc := ⟨.hbm, 58, rfl⟩
abbrev main_cst_5 : Ref sig .tc := ⟨.hbm, 59, rfl⟩
abbrev main_v38 : Ref sig .tc := ⟨.hbm, 60, rfl⟩
abbrev main_v39 : Ref sig .tc := ⟨.hbm, 61, rfl⟩
abbrev main_cst_6 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_7 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_cst_8 : Ref sig .tc := ⟨.hbm, 73, rfl⟩
abbrev main_v49 : Ref sig .tc := ⟨.hbm, 74, rfl⟩
abbrev main_v50 : Ref sig .tc := ⟨.hbm, 75, rfl⟩
abbrev main_cst_9 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_cst_10 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_cst_11 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_call1_v0 : Ref sig .tc := ⟨.hbm, 95, rfl⟩
abbrev main_call1_v1 : Ref sig .tc := ⟨.hbm, 96, rfl⟩
abbrev main_call1_v2 : Ref sig .tc := ⟨.hbm, 97, rfl⟩
abbrev main_v67 : Ref sig .tc := ⟨.hbm, 98, rfl⟩
abbrev main_v68 : Ref sig .tc := ⟨.hbm, 99, rfl⟩
abbrev main_cst_12 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_cst_13 : Ref sig .tc := ⟨.hbm, 105, rfl⟩
abbrev main_v73 : Ref sig .tc := ⟨.hbm, 106, rfl⟩
abbrev main_v74 : Ref sig .tc := ⟨.hbm, 107, rfl⟩
abbrev main_cst_14 : Ref sig .tc := ⟨.hbm, 108, rfl⟩
abbrev main_v75 : Ref sig .tc := ⟨.hbm, 109, rfl⟩
abbrev main_v76 : Ref sig .tc := ⟨.hbm, 110, rfl⟩
abbrev main_cst_15 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_cst_16 : Ref sig .tc := ⟨.hbm, 116, rfl⟩
abbrev main_v81 : Ref sig .tc := ⟨.hbm, 117, rfl⟩
abbrev main_v82 : Ref sig .tc := ⟨.hbm, 118, rfl⟩
abbrev main_cst_17 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_cst_18 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_cst_19 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_cst_20 : Ref sig .tc := ⟨.hbm, 133, rfl⟩
abbrev main_v94 : Ref sig .tc := ⟨.hbm, 134, rfl⟩
abbrev main_v95 : Ref sig .tc := ⟨.hbm, 135, rfl⟩
abbrev main_cst_21 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_cst_22 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_cst_23 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_cst_24 : Ref sig .tc := ⟨.hbm, 150, rfl⟩
abbrev main_v107 : Ref sig .tc := ⟨.hbm, 151, rfl⟩
abbrev main_v108 : Ref sig .tc := ⟨.hbm, 152, rfl⟩
abbrev main_cst_25 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_cst_26 : Ref sig .tc := ⟨.hbm, 158, rfl⟩
abbrev main_v113 : Ref sig .tc := ⟨.hbm, 159, rfl⟩
abbrev main_v114 : Ref sig .tc := ⟨.hbm, 160, rfl⟩

abbrev nD : Nat := 1
abbrev τ : Topo := Topo.v7x

variable {F : FTy → Type} [FloatOps F]
-- ==== Kernel19.lean ====
abbrev S4096x1024 : Shape := ⟨2, ![4096, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 14
  | .vmem => 18
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S1x1024, .f32⟩
  | .local _ .vmem, ⟨14, _⟩ => ⟨S1x1024, .f32⟩
  | .local _ .vmem, ⟨15, _⟩ => ⟨S1x1024, .f32⟩
  | .local _ .vmem, ⟨16, _⟩ => ⟨S1x1024, .f32⟩
  | .local _ .vmem, ⟨17, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== Reference19Ideal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 70
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S1x1024, .f32⟩
  | .hbm, ⟨28, _⟩ => ⟨S_, .f32⟩
  | .hbm, ⟨29, _⟩ => ⟨S1x1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S1x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S1024, .f32⟩
  | .hbm, ⟨39, _⟩ => ⟨S1x1024, .f32⟩
  | .hbm, ⟨40, _⟩ => ⟨S4096x1024, .f32⟩
  | .hbm, ⟨41, _⟩ => ⟨S_, .f32⟩
  | .hbm, ⟨42, _⟩ => ⟨S1024, .f32⟩
  | .hbm, ⟨43, _⟩ => ⟨S1x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S_, .f32⟩
  | .hbm, ⟨54, _⟩ => ⟨S4096, .f32⟩
  | .hbm, ⟨55, _⟩ => ⟨S4096x1, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1, .f32⟩
  | .hbm, ⟨60, _⟩ => ⟨S_, .f32⟩
  | .hbm, ⟨61, _⟩ => ⟨S4096x1, .f32⟩
  | .hbm, ⟨62, _⟩ => ⟨S4096x1, .f32⟩
  | .hbm, ⟨63, _⟩ => ⟨S_, .f32⟩
  | .hbm, ⟨64, _⟩ => ⟨S4096, .f32⟩
  | .hbm, ⟨65, _⟩ => ⟨S4096x1024, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_4 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_5 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_6 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_7 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_8 : Ref sig .tc := ⟨.hbm, 60, rfl⟩
abbrev main_v43 : Ref sig .tc := ⟨.hbm, 61, rfl⟩
abbrev main_v44 : Ref sig .tc := ⟨.hbm, 62, rfl⟩
abbrev main_cst_9 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩

abbrev nD : Nat := 1
abbrev τ : Topo := Topo.v7x

variable {F : FTy → Type} [FloatOps F]
-- ==== Kernel21.lean ====
abbrev S4096x1024 : Shape := ⟨2, ![4096, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 20
  | .vmem => 26
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S1x1024, .f32⟩
  | .hbm, ⟨14, _⟩ => ⟨S1x1024, .f32⟩
  | .hbm, ⟨15, _⟩ => ⟨S1x1024, .f32⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | .local _ .vmem, ⟨19, _⟩ => ⟨S1x1024, .f32⟩
  | .local _ .vmem, ⟨20, _⟩ => ⟨S1x1024, .f32⟩
  | .local _ .vmem, ⟨21, _⟩ => ⟨S1x1024, .f32⟩
  | .local _ .vmem, ⟨22, _⟩ => ⟨S1x1024, .f32⟩
  | .local _ .vmem, ⟨23, _⟩ => ⟨S1x1024, .f32⟩
  | .local _ .vmem, ⟨24, _⟩ => ⟨S1x1024, .f32⟩
  | .local _ .vmem, ⟨25, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0_0 : Ref sig .tc := ⟨.hbm, 11, rfl⟩
abbrev main_v0_1 : Ref sig .tc := ⟨.hbm, 12, rfl⟩
abbrev main_v0_2 : Ref sig .tc := ⟨.hbm, 13, rfl⟩
abbrev main_v0_3 : Ref sig .tc := ⟨.hbm, 14, rfl⟩
abbrev main_v0_4 : Ref sig .tc := ⟨.hbm, 15, rfl⟩
abbrev main_v0_5 : Ref sig .tc := ⟨.hbm, 16, rfl⟩
abbrev main_v0_6 : Ref sig .tc := ⟨.hbm, 17, rfl⟩
abbrev main_v0_7 : Ref sig .tc := ⟨.hbm, 18, rfl⟩
abbrev main_v0_8 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg15_0 : Ref sig .tc := ⟨.vmem, 21, rfl⟩
abbrev cc0_stg16_0 : Ref sig .tc := ⟨.vmem, 22, rfl⟩
abbrev cc0_stg17_0 : Ref sig .tc := ⟨.vmem, 23, rfl⟩
abbrev cc0_stg18_0 : Ref sig .tc := ⟨.vmem, 24, rfl⟩
abbrev cc0_stg19_0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem14_0 : DmaSem sig := 20
abbrev cc0_sem15_0 : DmaSem sig := 21
abbrev cc0_sem16_0 : DmaSem sig := 22
abbrev cc0_sem17_0 : DmaSem sig := 23
abbrev cc0_sem18_0 : DmaSem sig := 24
abbrev cc0_sem19_0 : DmaSem sig := 25

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]
-- ==== Reference21Ideal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 84
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S4096x1024, .f32⟩
  | .hbm, ⟨10, _⟩ => ⟨S4096x1024, .f32⟩
  | .hbm, ⟨11, _⟩ => ⟨S1x1024, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S_, .f32⟩
  | .hbm, ⟨17, _⟩ => ⟨S4096, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S4096x1, .f32⟩
  | .hbm, ⟨26, _⟩ => ⟨S4096x1, .f32⟩
  | .hbm, ⟨27, _⟩ => ⟨S_, .f32⟩
  | .hbm, ⟨28, _⟩ => ⟨S4096x1, .f32⟩
  | .hbm, ⟨29, _⟩ => ⟨S4096x1, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S1x1024, .f32⟩
  | .hbm, ⟨35, _⟩ => ⟨S_, .f32⟩
  | .hbm, ⟨36, _⟩ => ⟨S1x1024, .f32⟩
  | .hbm, ⟨37, _⟩ => ⟨S1x1024, .f32⟩
  | .hbm, ⟨38, _⟩ => ⟨S4096x1024, .f32⟩
  | .hbm, ⟨39, _⟩ => ⟨S4096x1024, .f32⟩
  | .hbm, ⟨40, _⟩ => ⟨S1x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S_, .f32⟩
  | .hbm, ⟨45, _⟩ => ⟨S1024, .f32⟩
  | .hbm, ⟨46, _⟩ => ⟨S1x1024, .f32⟩
  | .hbm, ⟨47, _⟩ => ⟨S4096x1024, .f32⟩
  | .hbm, ⟨48, _⟩ => ⟨S_, .f32⟩
  | .hbm, ⟨49, _⟩ => ⟨S1024, .f32⟩
  | .hbm, ⟨50, _⟩ => ⟨S1x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S_, .f32⟩
  | .hbm, ⟨55, _⟩ => ⟨S1024, .f32⟩
  | .hbm, ⟨56, _⟩ => ⟨S1x1024, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S_, .f32⟩
  | .hbm, ⟨61, _⟩ => ⟨S4096, .f32⟩
  | .hbm, ⟨62, _⟩ => ⟨S4096x1, .f32⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S4096x1, .f32⟩
  | .hbm, ⟨67, _⟩ => ⟨S_, .f32⟩
  | .hbm, ⟨68, _⟩ => ⟨S4096x1, .f32⟩
  | .hbm, ⟨69, _⟩ => ⟨S4096x1, .f32⟩
  | .hbm, ⟨70, _⟩ => ⟨S_, .f32⟩
  | .hbm, ⟨71, _⟩ => ⟨S4096, .f32⟩
  | .hbm, ⟨72, _⟩ => ⟨S4096x1024, .f32⟩
  | .hbm, ⟨73, _⟩ => ⟨S4096x1024, .f32⟩
  | .hbm, ⟨74, _⟩ => ⟨S4096x1024, .f32⟩
  | .hbm, ⟨75, _⟩ => ⟨S4096x1024, .f32⟩
  | .hbm, ⟨76, _⟩ => ⟨S4096x1024, .f32⟩
  | .hbm, ⟨77, _⟩ => ⟨S4096x1024, .f32⟩
  | .hbm, ⟨78, _⟩ => ⟨S4096x1024, .f32⟩
  | .hbm, ⟨79, _⟩ => ⟨S4096x1024, .f32⟩
  | .hbm, ⟨80, _⟩ => ⟨S4096x1024, .f32⟩
  | .hbm, ⟨81, _⟩ => ⟨S_, .f32⟩
  | .hbm, ⟨82, _⟩ => ⟨S1024, .f32⟩
  | .hbm, ⟨83, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst : Ref sig .tc := ⟨.hbm, 16, rfl⟩
abbrev main_v5 : Ref sig .tc := ⟨.hbm, 17, rfl⟩
abbrev main_v6 : Ref sig .tc := ⟨.hbm, 18, rfl⟩
abbrev main_cst_0 : Ref sig .tc := ⟨.hbm, 19, rfl⟩
abbrev main_v7 : Ref sig .tc := ⟨.hbm, 20, rfl⟩
abbrev main_v8 : Ref sig .tc := ⟨.hbm, 21, rfl⟩
abbrev main_cst_1 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_3 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_4 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_5 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_6 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_7 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_8 : Ref sig .tc := ⟨.hbm, 67, rfl⟩
abbrev main_v47 : Ref sig .tc := ⟨.hbm, 68, rfl⟩
abbrev main_v48 : Ref sig .tc := ⟨.hbm, 69, rfl⟩
abbrev main_cst_9 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_10 : Ref sig .tc := ⟨.hbm, 81, rfl⟩
abbrev main_v59 : Ref sig .tc := ⟨.hbm, 82, rfl⟩
abbrev main_v60 : Ref sig .tc := ⟨.hbm, 83, rfl⟩

abbrev nD : Nat := 1
abbrev τ : Topo := Topo.v7x

variable {F : FTy → Type} [FloatOps F]
-- ==== Proof.GdnSpec.lean ====
/-
  ONE CHUNK OF THE GATED DELTA RULE AND ITS GRADIENT, written over the extended reals and plain finite index sets: what
  both the kernel and the reference compute for a chunk of 64 tokens. A chunk has 8 heads, keys of width 128 and values
  of width 256; the columns of the gate and of the norm's weight are (head, value coordinate) pairs.
-/
module

public import Idealize.ShloMosaic.Lib.ValueIdx

@[expose] public section

noncomputable section

namespace Cert.Gdn

open Idealize.ShloMosaic
open scoped BigOperators

/-- The number 256, as the programs write it. -/
def c256 : EReal := Ideal.ofBits .f32 0x43800000#32
/-- The norm's epsilon, as the programs write it. -/
def ceps : EReal := Ideal.ofBits .f32 0x358637BD#32
/-- Minus one half, as the programs write it. -/
def chalf : EReal := Ideal.ofBits .f32 0xBF000000#32

/-- Mean of the squares of a row of 256 entries, plus epsilon. -/
def ms (t : Fin 256 → EReal) : EReal := Ideal.div (∑ e, t e * t e) c256 + ceps
/-- The row's scale: the reciprocal root of the mean square. -/
def rs (t : Fin 256 → EReal) : EReal := Ideal.rsqrt (ms t)
/-- The scale's derivative by the mean square. -/
def rd (t : Fin 256 → EReal) : EReal := chalf * Ideal.div (rs t) (ms t)
/-- The cotangent of each square, of a row `t` whose normalised row has the cotangent `d`. -/
def dr (t d : Fin 256 → EReal) : EReal := Ideal.div ((∑ e, t e * d e) * rd t) c256
/-- The cotangent of the row, at a coordinate. -/
def dt (t d : Fin 256 → EReal) (e : Fin 256) : EReal := (d e * rs t + t e * dr t d) + dr t d * t e

/-- Column of a head's value coordinate. -/
def col (h : Fin 8) (e : Fin 256) : Fin 2048 := ⟨256 * h.val + e.val, by omega⟩

/-- Every column is some head's value coordinate. -/
theorem exists_col (c : Fin 2048) : ∃ h e, c = col h e :=
  ⟨⟨c.val / 256, by omega⟩, ⟨c.val % 256, by omega⟩, Fin.ext (by simp only [col]; omega)⟩

/-- What a chunk is computed from: queries, keys `w` and values of the delta rule, the chunk's own scores, the decayed
    keys, the chunk's log decay, the gate's input, the norm's weight, the output's cotangent and the state before it. -/
structure X where
  q : Fin 8 → Fin 64 → Fin 128 → EReal
  w : Fin 8 → Fin 64 → Fin 128 → EReal
  u : Fin 8 → Fin 64 → Fin 256 → EReal
  qk : Fin 8 → Fin 64 → Fin 64 → EReal
  kd : Fin 8 → Fin 64 → Fin 128 → EReal
  gl : Fin 8 → EReal
  z : Fin 64 → Fin 2048 → EReal
  nw : Fin 2048 → EReal
  co : Fin 64 → Fin 2048 → EReal
  S : Fin 8 → Fin 128 → Fin 256 → EReal

namespace X
variable (x : X)

/-- The values that the chunk writes: what is left of `u` after the state's prediction. -/
def vnew (h : Fin 8) (i : Fin 64) (e : Fin 256) : EReal := x.u h i e - ∑ d, x.w h i d * x.S h d e
/-- The chunk's output before the norm. -/
def out (h : Fin 8) (i : Fin 64) (e : Fin 256) : EReal :=
  (∑ d, x.q h i d * x.S h d e) + ∑ j, x.qk h i j * x.vnew h j e
/-- The state after the chunk. -/
def next (h : Fin 8) (d : Fin 128) (e : Fin 256) : EReal :=
  Ideal.exp (x.gl h) * x.S h d e + ∑ i, x.kd h i d * x.vnew h i e
/-- The output after its head's norm. -/
def on (h : Fin 8) (i : Fin 64) (e : Fin 256) : EReal := x.out h i e * rs (x.out h i)
/-- The sigmoid of the gate's input. -/
def sg (i : Fin 64) (c : Fin 2048) : EReal := Ideal.logistic (x.z i c)
/-- The gate. -/
def gate (i : Fin 64) (c : Fin 2048) : EReal := x.z i c * x.sg i c
/-- The call's result: norm, weight, gate. -/
def res (h : Fin 8) (i : Fin 64) (e : Fin 256) : EReal := x.on h i e * x.nw (col h e) * x.gate i (col h e)
/-- The gate's cotangent. -/
def dgate (h : Fin 8) (i : Fin 64) (e : Fin 256) : EReal := x.on h i e * x.nw (col h e) * x.co i (col h e)
/-- The cotangent of the gate's input. -/
def dz (h : Fin 8) (i : Fin 64) (e : Fin 256) : EReal :=
  x.dgate h i e * x.sg i (col h e) + x.z i (col h e) * x.dgate h i e * (x.sg i (col h e) * (1 - x.sg i (col h e)))
/-- The cotangent of the weighted norm. -/
def dw1 (h : Fin 8) (i : Fin 64) (e : Fin 256) : EReal := x.co i (col h e) * x.gate i (col h e)
/-- The chunk's part of the cotangent of the norm's weight. -/
def dnw (h : Fin 8) (e : Fin 256) : EReal := ∑ i, x.on h i e * x.dw1 h i e
/-- The cotangent of the normalised output. -/
def don (h : Fin 8) (i : Fin 64) (e : Fin 256) : EReal := x.dw1 h i e * x.nw (col h e)
/-- The cotangent of the output before the norm. -/
def dout (h : Fin 8) (i : Fin 64) (e : Fin 256) : EReal := dt (x.out h i) (x.don h i) e

variable (dS : Fin 8 → Fin 128 → Fin 256 → EReal)

/-- The cotangent of the written values, which is that of `u`. -/
def du (h : Fin 8) (i : Fin 64) (e : Fin 256) : EReal :=
  (∑ d, dS h d e * x.kd h i d) + ∑ j, x.dout h j e * x.qk h j i
/-- The cotangent of the decayed keys. -/
def dkd (h : Fin 8) (i : Fin 64) (d : Fin 128) : EReal := ∑ e, dS h d e * x.vnew h i e
/-- The cotangent of the log decay. -/
def dgl (h : Fin 8) : EReal := (∑ d, ∑ e, dS h d e * x.S h d e) * Ideal.exp (x.gl h)
/-- The cotangent of the chunk's scores. -/
def dqk (h : Fin 8) (i j : Fin 64) : EReal := ∑ e, x.dout h i e * x.vnew h j e
/-- The cotangent of the queries. -/
def dq (h : Fin 8) (i : Fin 64) (d : Fin 128) : EReal := ∑ e, x.dout h i e * x.S h d e
/-- The cotangent of the keys `w`. -/
def dw (h : Fin 8) (i : Fin 64) (d : Fin 128) : EReal := ∑ e, -(x.du dS h i e) * x.S h d e
/-- The cotangent of the state before the chunk. -/
def dS' (h : Fin 8) (d : Fin 128) (e : Fin 256) : EReal :=
  (Ideal.exp (x.gl h) * dS h d e + ∑ i, x.dout h i e * x.q h i d) + ∑ i, -(x.du dS h i e) * x.w h i d

end X

end Cert.Gdn

end
-- ==== Proof.GdnVec.lean ====
/-
  THE KERNEL'S ARITHMETIC FOR ONE CHUNK, vector by vector, and each vector read at an index: it is the chunk's function of
  GdnSpec.lean. The grid point of the gradient's call applies these to its two chunks, later chunk first.
-/
module

public import proofs.«01_k».proof.Proof.Gen.KernelIdeal
public import proofs.«01_k».proof.Proof.GdnSpec
public import Idealize.ShloMosaic.Lib.Pointwise

@[expose] public section

noncomputable section

namespace Cert.GdnVec

open Idealize.ShloMosaic Cert.KernelIdeal Cert.KernelIdeal.Gen Cert.Gdn
open scoped BigOperators

/-- Eight heads' columns side by side, as a sum of eight arrays that are each zero outside one head. -/
def padSum (t0 t1 t2 t3 t4 t5 t6 t7 : FVec Ideal S64x256 .f32) : FVec Ideal S64x2048 .f32 :=
  have c0 : Ideal .f32 := Scalar.ofBits .f32 0x00000000#32
  have a1 : FVec Ideal S64x1792 .f32 := broadcast S64x1792 c0
  have a2 : FVec Ideal S64x2048 .f32 := concatenate S64x2048 1 [⟨S64x1792, a1⟩, ⟨S64x256, t7⟩] concatenates_S64x1792_S64x256_S64x2048_d1
  have c3 : Ideal .f32 := Scalar.ofBits .f32 0x00000000#32
  have a4 : FVec Ideal S64x1536 .f32 := broadcast S64x1536 c3
  have a5 : FVec Ideal S64x1792 .f32 := concatenate S64x1792 1 [⟨S64x1536, a4⟩, ⟨S64x256, t6⟩] concatenates_S64x1536_S64x256_S64x1792_d1
  have a6 : FVec Ideal S64x256 .f32 := broadcast S64x256 c3
  have a7 : FVec Ideal S64x2048 .f32 := concatenate S64x2048 1 [⟨S64x1792, a5⟩, ⟨S64x256, a6⟩] concatenates_S64x1792_S64x256_S64x2048_d1
  have a8 : FVec Ideal S64x2048 .f32 := addf a2 a7
  have c9 : Ideal .f32 := Scalar.ofBits .f32 0x00000000#32
  have a10 : FVec Ideal S64x1280 .f32 := broadcast S64x1280 c9
  have a11 : FVec Ideal S64x1536 .f32 := concatenate S64x1536 1 [⟨S64x1280, a10⟩, ⟨S64x256, t5⟩] concatenates_S64x1280_S64x256_S64x1536_d1
  have a12 : FVec Ideal S64x512 .f32 := broadcast S64x512 c9
  have a13 : FVec Ideal S64x2048 .f32 := concatenate S64x2048 1 [⟨S64x1536, a11⟩, ⟨S64x512, a12⟩] concatenates_S64x1536_S64x512_S64x2048_d1
  have a14 : FVec Ideal S64x2048 .f32 := addf a8 a13
  have c15 : Ideal .f32 := Scalar.ofBits .f32 0x00000000#32
  have a16 : FVec Ideal S64x1024 .f32 := broadcast S64x1024 c15
  have a17 : FVec Ideal S64x1280 .f32 := concatenate S64x1280 1 [⟨S64x1024, a16⟩, ⟨S64x256, t4⟩] concatenates_S64x1024_S64x256_S64x1280_d1
  have a18 : FVec Ideal S64x768 .f32 := broadcast S64x768 c15
  have a19 : FVec Ideal S64x2048 .f32 := concatenate S64x2048 1 [⟨S64x1280, a17⟩, ⟨S64x768, a18⟩] concatenates_S64x1280_S64x768_S64x2048_d1
  have a20 : FVec Ideal S64x2048 .f32 := addf a14 a19
  have c21 : Ideal .f32 := Scalar.ofBits .f32 0x00000000#32
  have a22 : FVec Ideal S64x768 .f32 := broadcast S64x768 c21
  have a23 : FVec Ideal S64x1024 .f32 := concatenate S64x1024 1 [⟨S64x768, a22⟩, ⟨S64x256, t3⟩] concatenates_S64x768_S64x256_S64x1024_d1
  have a24 : FVec Ideal S64x1024 .f32 := broadcast S64x1024 c21
  have a25 : FVec Ideal S64x2048 .f32 := concatenate S64x2048 1 [⟨S64x1024, a23⟩, ⟨S64x1024, a24⟩] concatenates_S64x1024_S64x1024_S64x2048_d1
  have a26 : FVec Ideal S64x2048 .f32 := addf a20 a25
  have c27 : Ideal .f32 := Scalar.ofBits .f32 0x00000000#32
  have a28 : FVec Ideal S64x512 .f32 := broadcast S64x512 c27
  have a29 : FVec Ideal S64x768 .f32 := concatenate S64x768 1 [⟨S64x512, a28⟩, ⟨S64x256, t2⟩] concatenates_S64x512_S64x256_S64x768_d1
  have a30 : FVec Ideal S64x1280 .f32 := broadcast S64x1280 c27
  have a31 : FVec Ideal S64x2048 .f32 := concatenate S64x2048 1 [⟨S64x768, a29⟩, ⟨S64x1280, a30⟩] concatenates_S64x768_S64x1280_S64x2048_d1
  have a32 : FVec Ideal S64x2048 .f32 := addf a26 a31
  have c33 : Ideal .f32 := Scalar.ofBits .f32 0x00000000#32
  have a34 : FVec Ideal S64x256 .f32 := broadcast S64x256 c33
  have a35 : FVec Ideal S64x512 .f32 := concatenate S64x512 1 [⟨S64x256, a34⟩, ⟨S64x256, t1⟩] concatenates_S64x256_S64x256_S64x512_d1
  have a36 : FVec Ideal S64x1536 .f32 := broadcast S64x1536 c33
  have a37 : FVec Ideal S64x2048 .f32 := concatenate S64x2048 1 [⟨S64x512, a35⟩, ⟨S64x1536, a36⟩] concatenates_S64x512_S64x1536_S64x2048_d1
  have a38 : FVec Ideal S64x2048 .f32 := addf a32 a37
  have c39 : Ideal .f32 := Scalar.ofBits .f32 0x00000000#32
  have a40 : FVec Ideal S64x1792 .f32 := broadcast S64x1792 c39
  have a41 : FVec Ideal S64x2048 .f32 := concatenate S64x2048 1 [⟨S64x256, t0⟩, ⟨S64x1792, a40⟩] concatenates_S64x256_S64x1792_S64x2048_d1
  have a42 : FVec Ideal S64x2048 .f32 := addf a38 a41
  a42

/-- The eight heads of a row-major array stacked, as a sum of eight stacks that are each zero outside one head. -/
def headStack (c : FVec Ideal S64x2048 .f32) : FVec Ideal S8x64x256 .f32 :=
  have c0 : Ideal .f32 := Scalar.ofBits .f32 0x00000000#32
  have a1 : FVec Ideal S7x64x256 .f32 := broadcast S7x64x256 c0
  have a2 : FVec Ideal S64x256 .f32 := extractStridedSlice S64x256 ![0, 1792] c slices_S64x2048_o0_1792_S64x256
  have a3 : FVec Ideal S1x64x256 .f32 := shapeCast S1x64x256 a2 shapeCasts_S64x256_S1x64x256
  have a4 : FVec Ideal S8x64x256 .f32 := concatenate S8x64x256 0 [⟨S7x64x256, a1⟩, ⟨S1x64x256, a3⟩] concatenates_S7x64x256_S1x64x256_S8x64x256_d0
  have c5 : Ideal .f32 := Scalar.ofBits .f32 0x00000000#32
  have a6 : FVec Ideal S6x64x256 .f32 := broadcast S6x64x256 c5
  have a7 : FVec Ideal S64x256 .f32 := extractStridedSlice S64x256 ![0, 1536] c slices_S64x2048_o0_1536_S64x256
  have a8 : FVec Ideal S1x64x256 .f32 := shapeCast S1x64x256 a7 shapeCasts_S64x256_S1x64x256
  have a9 : FVec Ideal S7x64x256 .f32 := concatenate S7x64x256 0 [⟨S6x64x256, a6⟩, ⟨S1x64x256, a8⟩] concatenates_S6x64x256_S1x64x256_S7x64x256_d0
  have a10 : FVec Ideal S1x64x256 .f32 := broadcast S1x64x256 c5
  have a11 : FVec Ideal S8x64x256 .f32 := concatenate S8x64x256 0 [⟨S7x64x256, a9⟩, ⟨S1x64x256, a10⟩] concatenates_S7x64x256_S1x64x256_S8x64x256_d0
  have a12 : FVec Ideal S8x64x256 .f32 := addf a4 a11
  have c13 : Ideal .f32 := Scalar.ofBits .f32 0x00000000#32
  have a14 : FVec Ideal S5x64x256 .f32 := broadcast S5x64x256 c13
  have a15 : FVec Ideal S64x256 .f32 := extractStridedSlice S64x256 ![0, 1280] c slices_S64x2048_o0_1280_S64x256
  have a16 : FVec Ideal S1x64x256 .f32 := shapeCast S1x64x256 a15 shapeCasts_S64x256_S1x64x256
  have a17 : FVec Ideal S6x64x256 .f32 := concatenate S6x64x256 0 [⟨S5x64x256, a14⟩, ⟨S1x64x256, a16⟩] concatenates_S5x64x256_S1x64x256_S6x64x256_d0
  have a18 : FVec Ideal S2x64x256 .f32 := broadcast S2x64x256 c13
  have a19 : FVec Ideal S8x64x256 .f32 := concatenate S8x64x256 0 [⟨S6x64x256, a17⟩, ⟨S2x64x256, a18⟩] concatenates_S6x64x256_S2x64x256_S8x64x256_d0
  have a20 : FVec Ideal S8x64x256 .f32 := addf a12 a19
  have c21 : Ideal .f32 := Scalar.ofBits .f32 0x00000000#32
  have a22 : FVec Ideal S4x64x256 .f32 := broadcast S4x64x256 c21
  have a23 : FVec Ideal S64x256 .f32 := extractStridedSlice S64x256 ![0, 1024] c slices_S64x2048_o0_1024_S64x256
  have a24 : FVec Ideal S1x64x256 .f32 := shapeCast S1x64x256 a23 shapeCasts_S64x256_S1x64x256
  have a25 : FVec Ideal S5x64x256 .f32 := concatenate S5x64x256 0 [⟨S4x64x256, a22⟩, ⟨S1x64x256, a24⟩] concatenates_S4x64x256_S1x64x256_S5x64x256_d0
  have a26 : FVec Ideal S3x64x256 .f32 := broadcast S3x64x256 c21
  have a27 : FVec Ideal S8x64x256 .f32 := concatenate S8x64x256 0 [⟨S5x64x256, a25⟩, ⟨S3x64x256, a26⟩] concatenates_S5x64x256_S3x64x256_S8x64x256_d0
  have a28 : FVec Ideal S8x64x256 .f32 := addf a20 a27
  have c29 : Ideal .f32 := Scalar.ofBits .f32 0x00000000#32
  have a30 : FVec Ideal S3x64x256 .f32 := broadcast S3x64x256 c29
  have a31 : FVec Ideal S64x256 .f32 := extractStridedSlice S64x256 ![0, 768] c slices_S64x2048_o0_768_S64x256
  have a32 : FVec Ideal S1x64x256 .f32 := shapeCast S1x64x256 a31 shapeCasts_S64x256_S1x64x256
  have a33 : FVec Ideal S4x64x256 .f32 := concatenate S4x64x256 0 [⟨S3x64x256, a30⟩, ⟨S1x64x256, a32⟩] concatenates_S3x64x256_S1x64x256_S4x64x256_d0
  have a34 : FVec Ideal S4x64x256 .f32 := broadcast S4x64x256 c29
  have a35 : FVec Ideal S8x64x256 .f32 := concatenate S8x64x256 0 [⟨S4x64x256, a33⟩, ⟨S4x64x256, a34⟩] concatenates_S4x64x256_S4x64x256_S8x64x256_d0
  have a36 : FVec Ideal S8x64x256 .f32 := addf a28 a35
  have c37 : Ideal .f32 := Scalar.ofBits .f32 0x00000000#32
  have a38 : FVec Ideal S2x64x256 .f32 := broadcast S2x64x256 c37
  have a39 : FVec Ideal S64x256 .f32 := extractStridedSlice S64x256 ![0, 512] c slices_S64x2048_o0_512_S64x256
  have a40 : FVec Ideal S1x64x256 .f32 := shapeCast S1x64x256 a39 shapeCasts_S64x256_S1x64x256
  have a41 : FVec Ideal S3x64x256 .f32 := concatenate S3x64x256 0 [⟨S2x64x256, a38⟩, ⟨S1x64x256, a40⟩] concatenates_S2x64x256_S1x64x256_S3x64x256_d0
  have a42 : FVec Ideal S5x64x256 .f32 := broadcast S5x64x256 c37
  have a43 : FVec Ideal S8x64x256 .f32 := concatenate S8x64x256 0 [⟨S3x64x256, a41⟩, ⟨S5x64x256, a42⟩] concatenates_S3x64x256_S5x64x256_S8x64x256_d0
  have a44 : FVec Ideal S8x64x256 .f32 := addf a36 a43
  have c45 : Ideal .f32 := Scalar.ofBits .f32 0x00000000#32
  have a46 : FVec Ideal S1x64x256 .f32 := broadcast S1x64x256 c45
  have a47 : FVec Ideal S64x256 .f32 := extractStridedSlice S64x256 ![0, 256] c slices_S64x2048_o0_256_S64x256
  have a48 : FVec Ideal S1x64x256 .f32 := shapeCast S1x64x256 a47 shapeCasts_S64x256_S1x64x256
  have a49 : FVec Ideal S2x64x256 .f32 := concatenate S2x64x256 0 [⟨S1x64x256, a46⟩, ⟨S1x64x256, a48⟩] concatenates_S1x64x256_S1x64x256_S2x64x256_d0
  have a50 : FVec Ideal S6x64x256 .f32 := broadcast S6x64x256 c45
  have a51 : FVec Ideal S8x64x256 .f32 := concatenate S8x64x256 0 [⟨S2x64x256, a49⟩, ⟨S6x64x256, a50⟩] concatenates_S2x64x256_S6x64x256_S8x64x256_d0
  have a52 : FVec Ideal S8x64x256 .f32 := addf a44 a51
  have a53 : FVec Ideal S64x256 .f32 := extractStridedSlice S64x256 ![0, 0] c slices_S64x2048_o0_0_S64x256
  have a54 : FVec Ideal S1x64x256 .f32 := shapeCast S1x64x256 a53 shapeCasts_S64x256_S1x64x256
  have c55 : Ideal .f32 := Scalar.ofBits .f32 0x00000000#32
  have a56 : FVec Ideal S7x64x256 .f32 := broadcast S7x64x256 c55
  have a57 : FVec Ideal S8x64x256 .f32 := concatenate S8x64x256 0 [⟨S1x64x256, a54⟩, ⟨S7x64x256, a56⟩] concatenates_S1x64x256_S7x64x256_S8x64x256_d0
  have a58 : FVec Ideal S8x64x256 .f32 := addf a52 a57
  a58

/-- The eight heads of a stack side by side. -/
def headCat (o : FVec Ideal S8x64x256 .f32) : FVec Ideal S64x2048 .f32 :=
  have a0 : FVec Ideal S1x64x256 .f32 := extractStridedSlice S1x64x256 ![0, 0, 0] o slices_S8x64x256_o0_0_0_S1x64x256
  have a1 : FVec Ideal S64x256 .f32 := shapeCast S64x256 a0 shapeCasts_S1x64x256_S64x256
  have a2 : FVec Ideal S1x64x256 .f32 := extractStridedSlice S1x64x256 ![1, 0, 0] o slices_S8x64x256_o1_0_0_S1x64x256
  have a3 : FVec Ideal S64x256 .f32 := shapeCast S64x256 a2 shapeCasts_S1x64x256_S64x256
  have a4 : FVec Ideal S1x64x256 .f32 := extractStridedSlice S1x64x256 ![2, 0, 0] o slices_S8x64x256_o2_0_0_S1x64x256
  have a5 : FVec Ideal S64x256 .f32 := shapeCast S64x256 a4 shapeCasts_S1x64x256_S64x256
  have a6 : FVec Ideal S1x64x256 .f32 := extractStridedSlice S1x64x256 ![3, 0, 0] o slices_S8x64x256_o3_0_0_S1x64x256
  have a7 : FVec Ideal S64x256 .f32 := shapeCast S64x256 a6 shapeCasts_S1x64x256_S64x256
  have a8 : FVec Ideal S1x64x256 .f32 := extractStridedSlice S1x64x256 ![4, 0, 0] o slices_S8x64x256_o4_0_0_S1x64x256
  have a9 : FVec Ideal S64x256 .f32 := shapeCast S64x256 a8 shapeCasts_S1x64x256_S64x256
  have a10 : FVec Ideal S1x64x256 .f32 := extractStridedSlice S1x64x256 ![5, 0, 0] o slices_S8x64x256_o5_0_0_S1x64x256
  have a11 : FVec Ideal S64x256 .f32 := shapeCast S64x256 a10 shapeCasts_S1x64x256_S64x256
  have a12 : FVec Ideal S1x64x256 .f32 := extractStridedSlice S1x64x256 ![6, 0, 0] o slices_S8x64x256_o6_0_0_S1x64x256
  have a13 : FVec Ideal S64x256 .f32 := shapeCast S64x256 a12 shapeCasts_S1x64x256_S64x256
  have a14 : FVec Ideal S1x64x256 .f32 := extractStridedSlice S1x64x256 ![7, 0, 0] o slices_S8x64x256_o7_0_0_S1x64x256
  have a15 : FVec Ideal S64x256 .f32 := shapeCast S64x256 a14 shapeCasts_S1x64x256_S64x256
  have a16 : FVec Ideal S64x2048 .f32 := concatenate S64x2048 1 [⟨S64x256, a1⟩, ⟨S64x256, a3⟩, ⟨S64x256, a5⟩, ⟨S64x256, a7⟩, ⟨S64x256, a9⟩, ⟨S64x256, a11⟩, ⟨S64x256, a13⟩, ⟨S64x256, a15⟩] concatenates_S64x256_S64x256_S64x256_S64x256_S64x256_S64x256_S64x256_S64x256_S64x2048_d1
  a16

/-- A row's mean square plus epsilon. -/
def hMs (t : FVec Ideal S64x256 .f32) : FVec Ideal S64x1 .f32 :=
  addf (divf (shapeCast S64x1 (multiReduction .add [1] S64 (mulf t t) 0x00000000#32 reduces_S64x256_S64 (.inl rfl) rfl) shapeCasts_S64_S64x1)
    (broadcast S64x1 (Scalar.ofBits .f32 0x43800000#32 : Ideal .f32))) (broadcast S64x1 (Scalar.ofBits .f32 0x358637BD#32 : Ideal .f32))
/-- A row's scale. -/
def hRs (t : FVec Ideal S64x256 .f32) : FVec Ideal S64x1 .f32 := rsqrt (hMs t)
/-- The scale's derivative. -/
def hRd (t : FVec Ideal S64x256 .f32) : FVec Ideal S64x1 .f32 :=
  mulf (broadcast S64x1 (Scalar.ofBits .f32 0xBF000000#32 : Ideal .f32)) (divf (hRs t) (hMs t))
/-- A head's rows normalised. -/
def hOn (t : FVec Ideal S64x256 .f32) : FVec Ideal S64x256 .f32 := mulf t (broadcastTo S64x256 (hRs t) broadcasts_S64x1_S64x256)
/-- Each square's cotangent. -/
def hDr (t d : FVec Ideal S64x256 .f32) : FVec Ideal S64x1 .f32 :=
  shapeCast S64x1 (multiReduction .add [1] S64 (divf (mulf (shapeCast S64x1 (multiReduction .add [1] S64 (mulf t d) 0x00000000#32 reduces_S64x256_S64 (.inl rfl) rfl)
    shapeCasts_S64_S64x1) (hRd t)) (broadcast S64x1 (Scalar.ofBits .f32 0x43800000#32 : Ideal .f32))) 0x00000000#32 reduces_S64x1_S64 (.inl rfl) rfl) shapeCasts_S64_S64x1
/-- The gradient of a head's norm. -/
def hDt (t d : FVec Ideal S64x256 .f32) : FVec Ideal S64x256 .f32 :=
  addf (addf (mulf d (broadcastTo S64x256 (hRs t) broadcasts_S64x1_S64x256)) (mulf t (broadcastTo S64x256 (hDr t d) broadcasts_S64x1_S64x256)))
    (mulf (broadcastTo S64x256 (hDr t d) broadcasts_S64x1_S64x256) t)

/-- All heads' rows normalised, side by side. -/
def normCat (c : FVec Ideal S64x2048 .f32) : FVec Ideal S64x2048 .f32 :=
  concatenate S64x2048 1 [⟨S64x256, hOn (extractStridedSlice S64x256 ![0, 0] c slices_S64x2048_o0_0_S64x256)⟩, ⟨S64x256, hOn (extractStridedSlice S64x256 ![0, 256] c slices_S64x2048_o0_256_S64x256)⟩, ⟨S64x256, hOn (extractStridedSlice S64x256 ![0, 512] c slices_S64x2048_o0_512_S64x256)⟩, ⟨S64x256, hOn (extractStridedSlice S64x256 ![0, 768] c slices_S64x2048_o0_768_S64x256)⟩, ⟨S64x256, hOn (extractStridedSlice S64x256 ![0, 1024] c slices_S64x2048_o0_1024_S64x256)⟩, ⟨S64x256, hOn (extractStridedSlice S64x256 ![0, 1280] c slices_S64x2048_o0_1280_S64x256)⟩, ⟨S64x256, hOn (extractStridedSlice S64x256 ![0, 1536] c slices_S64x2048_o0_1536_S64x256)⟩, ⟨S64x256, hOn (extractStridedSlice S64x256 ![0, 1792] c slices_S64x2048_o0_1792_S64x256)⟩]
    concatenates_S64x256_S64x256_S64x256_S64x256_S64x256_S64x256_S64x256_S64x256_S64x2048_d1
/-- The gradient of all heads' norms, side by side. -/
def dtCat (c d : FVec Ideal S64x2048 .f32) : FVec Ideal S64x2048 .f32 :=
  padSum (hDt (extractStridedSlice S64x256 ![0, 0] c slices_S64x2048_o0_0_S64x256) (extractStridedSlice S64x256 ![0, 0] d slices_S64x2048_o0_0_S64x256))
    (hDt (extractStridedSlice S64x256 ![0, 256] c slices_S64x2048_o0_256_S64x256) (extractStridedSlice S64x256 ![0, 256] d slices_S64x2048_o0_256_S64x256))
    (hDt (extractStridedSlice S64x256 ![0, 512] c slices_S64x2048_o0_512_S64x256) (extractStridedSlice S64x256 ![0, 512] d slices_S64x2048_o0_512_S64x256))
    (hDt (extractStridedSlice S64x256 ![0, 768] c slices_S64x2048_o0_768_S64x256) (extractStridedSlice S64x256 ![0, 768] d slices_S64x2048_o0_768_S64x256))
    (hDt (extractStridedSlice S64x256 ![0, 1024] c slices_S64x2048_o0_1024_S64x256) (extractStridedSlice S64x256 ![0, 1024] d slices_S64x2048_o0_1024_S64x256))
    (hDt (extractStridedSlice S64x256 ![0, 1280] c slices_S64x2048_o0_1280_S64x256) (extractStridedSlice S64x256 ![0, 1280] d slices_S64x2048_o0_1280_S64x256))
    (hDt (extractStridedSlice S64x256 ![0, 1536] c slices_S64x2048_o0_1536_S64x256) (extractStridedSlice S64x256 ![0, 1536] d slices_S64x2048_o0_1536_S64x256))
    (hDt (extractStridedSlice S64x256 ![0, 1792] c slices_S64x2048_o0_1792_S64x256) (extractStridedSlice S64x256 ![0, 1792] d slices_S64x2048_o0_1792_S64x256))

/-- The vectors that a chunk is computed from. -/
structure V where
  q : FVec Ideal S8x64x128 .f32
  w : FVec Ideal S8x64x128 .f32
  u : FVec Ideal S8x64x256 .f32
  qk : FVec Ideal S8x64x64 .f32
  kd : FVec Ideal S8x64x128 .f32
  gc : FVec Ideal S8x64x1 .f32
  z : FVec Ideal S64x2048 .f32
  nw : FVec Ideal S1x2048 .f32
  co : FVec Ideal S64x2048 .f32
  S : FVec Ideal S8x128x256 .f32

namespace V

/-- The chunk, read at indices. -/
def x (v : V) : X where
  q h i d := v.q (ix3 h i d)
  w h i d := v.w (ix3 h i d)
  u h i e := v.u (ix3 h i e)
  qk h i j := v.qk (ix3 h i j)
  kd h i d := v.kd (ix3 h i d)
  gl h := v.gc (ix3 h 63 0)
  z i c := v.z (ix2 i c)
  nw c := v.nw (ix2 0 c)
  co i c := v.co (ix2 i c)
  S h d e := v.S (ix3 h d e)

variable (v : V)

/-- The written values. -/
def vnew : FVec Ideal S8x64x256 .f32 :=
  subf v.u (matmul dot_S8x64x128_S8x128x256_S8x64x256_2_1_1_2_0_0 none (truncf .bf16 v.w bitsLt_bf16_f32) (truncf .bf16 v.S bitsLt_bf16_f32) (constant S8x64x256 .f32 0x00000000#32))
/-- The output before the norm. -/
def out : FVec Ideal S8x64x256 .f32 :=
  addf (matmul dot_S8x64x128_S8x128x256_S8x64x256_2_1_1_2_0_0 none (truncf .bf16 v.q bitsLt_bf16_f32) (truncf .bf16 v.S bitsLt_bf16_f32) (constant S8x64x256 .f32 0x00000000#32)) (matmul dot_S8x64x64_S8x64x256_S8x64x256_2_1_1_2_0_0 none (truncf .bf16 v.qk bitsLt_bf16_f32) (truncf .bf16 v.vnew bitsLt_bf16_f32) (constant S8x64x256 .f32 0x00000000#32))
/-- The chunk's decay. -/
def eg : FVec Ideal S8x1x1 .f32 :=
  exp (extractStridedSlice S8x1x1 ![0, 63, 0] v.gc slices_S8x64x1_o0_63_0_S8x1x1)
/-- The state after the chunk. -/
def next : FVec Ideal S8x128x256 .f32 :=
  addf (mulf (broadcastTo S8x128x256 v.eg broadcasts_S8x1x1_S8x128x256) v.S) (matmul dot_S8x64x128_S8x64x256_S8x128x256_1_1_2_2_0_0 none (truncf .bf16 v.kd bitsLt_bf16_f32) (truncf .bf16 v.vnew bitsLt_bf16_f32) (constant S8x128x256 .f32 0x00000000#32))
/-- The normalised output. -/
def on : FVec Ideal S64x2048 .f32 :=
  normCat (headCat v.out)
/-- The sigmoid of the gate's input. -/
def sg : FVec Ideal S64x2048 .f32 :=
  logistic v.z
/-- The gate. -/
def gate : FVec Ideal S64x2048 .f32 :=
  mulf v.z v.sg
/-- The norm's weight at every row. -/
def nwb : FVec Ideal S64x2048 .f32 :=
  broadcastTo S64x2048 v.nw broadcasts_S1x2048_S64x2048
/-- The gate's cotangent. -/
def dgate : FVec Ideal S64x2048 .f32 :=
  mulf (mulf v.on v.nwb) v.co
/-- The cotangent of the gate's input. -/
def dz : FVec Ideal S64x2048 .f32 :=
  addf (mulf v.dgate v.sg) (mulf (mulf v.z v.dgate) (mulf v.sg (subf (broadcast S64x2048 (Scalar.ofBits .f32 0x3F800000#32 : Ideal .f32)) v.sg)))
/-- The cotangent of the weighted norm. -/
def dw1 : FVec Ideal S64x2048 .f32 :=
  mulf v.co v.gate
/-- The chunk's part of the cotangent of the norm's weight. -/
def dnw : FVec Ideal S1x2048 .f32 :=
  shapeCast S1x2048 (multiReduction .add [0] S2048 (mulf v.on v.dw1) 0x00000000#32 reduces_S64x2048_S2048 (.inl rfl) rfl) shapeCasts_S2048_S1x2048
/-- The cotangent of the output before the norm. -/
def dout : FVec Ideal S8x64x256 .f32 :=
  headStack (dtCat (headCat v.out) (mulf v.dw1 v.nwb))
/-- The cotangent of the written values. -/
def du (dS : FVec Ideal S8x128x256 .f32) : FVec Ideal S8x64x256 .f32 :=
  addf (extf .f32 (truncf .bf16 (transpose S8x64x256 [0, 2, 1] (matmul dot_S8x128x256_S8x64x128_S8x256x64_1_2_2_1_0_0 none dS (truncf .bf16 v.kd bitsLt_bf16_f32) (constant S8x256x64 .f32 0x00000000#32)) transposes_S8x256x64_p0_2_1_S8x64x256) bitsLt_bf16_f32) bitsLt_bf16_f32)
    (extf .f32 (truncf .bf16 (transpose S8x64x256 [0, 2, 1] (matmul dot_S8x64x256_S8x64x64_S8x256x64_1_1_2_2_0_0 none v.dout (truncf .bf16 v.qk bitsLt_bf16_f32) (constant S8x256x64 .f32 0x00000000#32)) transposes_S8x256x64_p0_2_1_S8x64x256) bitsLt_bf16_f32) bitsLt_bf16_f32)
/-- The cotangent of the decayed keys. -/
def dkd (dS : FVec Ideal S8x128x256 .f32) : FVec Ideal S8x64x128 .f32 :=
  (extf .f32 (truncf .bf16 (transpose S8x64x128 [0, 2, 1] (matmul dot_S8x128x256_S8x64x256_S8x128x64_2_2_1_1_0_0 none dS (truncf .bf16 v.vnew bitsLt_bf16_f32) (constant S8x128x64 .f32 0x00000000#32)) transposes_S8x128x64_p0_2_1_S8x64x128) bitsLt_bf16_f32) bitsLt_bf16_f32)
/-- The cotangent of the log decays. -/
def dgl (dS : FVec Ideal S8x128x256 .f32) : FVec Ideal S8x64x1 .f32 :=
  concatenate S8x64x1 1 [⟨S8x63x1, broadcast S8x63x1 (Scalar.ofBits .f32 0x00000000#32 : Ideal .f32)⟩, ⟨S8x1x1, mulf (shapeCast S8x1x1 (multiReduction .add [1, 2] S8 (mulf dS v.S) 0x00000000#32 reduces_S8x128x256_S8 (.inl rfl) rfl) shapeCasts_S8_S8x1x1) v.eg⟩]
    concatenates_S8x63x1_S8x1x1_S8x64x1_d1
/-- The cotangent of the chunk's scores. -/
def dqk : FVec Ideal S8x64x64 .f32 :=
  (extf .f32 (truncf .bf16 (matmul dot_S8x64x256_S8x64x256_S8x64x64_2_2_1_1_0_0 none v.dout (truncf .bf16 v.vnew bitsLt_bf16_f32) (constant S8x64x64 .f32 0x00000000#32)) bitsLt_bf16_f32) bitsLt_bf16_f32)
/-- The cotangent of the queries. -/
def dq : FVec Ideal S8x64x128 .f32 :=
  (extf .f32 (truncf .bf16 (matmul dot_S8x64x256_S8x128x256_S8x64x128_2_2_1_1_0_0 none v.dout (truncf .bf16 v.S bitsLt_bf16_f32) (constant S8x64x128 .f32 0x00000000#32)) bitsLt_bf16_f32) bitsLt_bf16_f32)
/-- The cotangent of the written values, subtracted from zero. -/
def ndu (dS : FVec Ideal S8x128x256 .f32) : FVec Ideal S8x64x256 .f32 :=
  subf (broadcast S8x64x256 (Scalar.ofBits .f32 0x00000000#32 : Ideal .f32)) (v.du dS)
/-- The cotangent of the keys. -/
def dw (dS : FVec Ideal S8x128x256 .f32) : FVec Ideal S8x64x128 .f32 :=
  (extf .f32 (truncf .bf16 (matmul dot_S8x64x256_S8x128x256_S8x64x128_2_2_1_1_0_0 none (v.ndu dS) (truncf .bf16 v.S bitsLt_bf16_f32) (constant S8x64x128 .f32 0x00000000#32)) bitsLt_bf16_f32) bitsLt_bf16_f32)
/-- The cotangent of the state before the chunk. -/
def dS' (dS : FVec Ideal S8x128x256 .f32) : FVec Ideal S8x128x256 .f32 :=
  addf (addf (mulf (broadcastTo S8x128x256 v.eg broadcasts_S8x1x1_S8x128x256) dS)
    (extf .f32 (truncf .bf16 (transpose S8x128x256 [0, 2, 1] (matmul dot_S8x64x256_S8x64x128_S8x256x128_1_1_2_2_0_0 none v.dout (truncf .bf16 v.q bitsLt_bf16_f32) (constant S8x256x128 .f32 0x00000000#32)) transposes_S8x256x128_p0_2_1_S8x128x256) bitsLt_bf16_f32) bitsLt_bf16_f32))
    (extf .f32 (truncf .bf16 (transpose S8x128x256 [0, 2, 1] (matmul dot_S8x64x256_S8x64x128_S8x256x128_1_1_2_2_0_0 none (v.ndu dS) (truncf .bf16 v.w bitsLt_bf16_f32) (constant S8x256x128 .f32 0x00000000#32)) transposes_S8x256x128_p0_2_1_S8x128x256) bitsLt_bf16_f32) bitsLt_bf16_f32)

end V

/-! ## Read at an index -/

theorem headCat_apply (o : FVec Ideal S8x64x256 .f32) (h : Fin 8) (i : Fin 64) (e : Fin 256) :
    headCat o (ix2 i (col h e)) = o (ix3 h i e) := by
  unfold headCat
  have he := e.isLt
  fin_cases h
  all_goals
    pointwise [col]
    try simp (disch := omega) only [dif_pos, dif_neg]
  all_goals first | done | exact congrArg o (congrArg (ix3 _ i) (Fin.ext (by simp only []; omega)))

theorem padSum_apply (t : Fin 8 → FVec Ideal S64x256 .f32) (h : Fin 8) (i : Fin 64) (e : Fin 256) :
    padSum (t 0) (t 1) (t 2) (t 3) (t 4) (t 5) (t 6) (t 7) (ix2 i (col h e)) = t h (ix2 i e) := by
  unfold padSum
  have he := e.isLt
  fin_cases h
  all_goals
    pointwise [col]
    try simp (disch := omega) only [dif_pos, dif_neg, add_zero, zero_add]
  all_goals first | done | (refine congrArg (t _) (congrArg _ (Fin.ext ?_)); simp; done) | (refine congrArg (t _) (congrArg _ (Fin.ext ?_)); simp; omega)

theorem headStack_apply (c : FVec Ideal S64x2048 .f32) (h : Fin 8) (i : Fin 64) (e : Fin 256) :
    headStack c (ix3 h i e) = c (ix2 i (col h e)) := by
  unfold headStack
  fin_cases h
  all_goals
    pointwise [col]
  all_goals first | done | (simp; done)

theorem hMs_apply (t : FVec Ideal S64x256 .f32) (i : Fin 64) : hMs t (ix2 i 0) = ms fun e => t (ix2 i e) := by
  unfold hMs ms
  pointwise
  rfl

theorem hRs_apply (t : FVec Ideal S64x256 .f32) (i : Fin 64) : hRs t (ix2 i 0) = rs fun e => t (ix2 i e) := by
  unfold hRs rs
  pointwise [hMs_apply]

theorem hRd_apply (t : FVec Ideal S64x256 .f32) (i : Fin 64) : hRd t (ix2 i 0) = rd fun e => t (ix2 i e) := by
  unfold hRd rd
  pointwise [hMs_apply, hRs_apply]
  rfl

theorem hOn_apply (t : FVec Ideal S64x256 .f32) (i : Fin 64) (e : Fin 256) :
    hOn t (ix2 i e) = t (ix2 i e) * rs fun e => t (ix2 i e) := by
  unfold hOn
  pointwise [hRs_apply]

theorem hDr_apply (t d : FVec Ideal S64x256 .f32) (i : Fin 64) :
    hDr t d (ix2 i 0) = dr (fun e => t (ix2 i e)) (fun e => d (ix2 i e)) := by
  unfold hDr dr
  pointwise [hRd_apply]
  simp [hRd_apply]
  rfl

theorem hDt_apply (t d : FVec Ideal S64x256 .f32) (i : Fin 64) (e : Fin 256) :
    hDt t d (ix2 i e) = dt (fun e => t (ix2 i e)) (fun e => d (ix2 i e)) e := by
  unfold hDt dt
  pointwise [hRs_apply, hDr_apply]

theorem normCat_apply (c : FVec Ideal S64x2048 .f32) (h : Fin 8) (i : Fin 64) (e : Fin 256) :
    normCat c (ix2 i (col h e)) = c (ix2 i (col h e)) * rs fun e => c (ix2 i (col h e)) := by
  unfold normCat
  have he := e.isLt
  fin_cases h
  all_goals
    pointwise [col]
    try simp (disch := omega) only [dif_pos, dif_neg]
    rw [hOn_apply]
    pointwise
  all_goals first | done | exact congrArg (fun a => c (ix2 i a) * _) (Fin.ext (by simp only []; omega))

theorem dtCat_apply (c d : FVec Ideal S64x2048 .f32) (h : Fin 8) (i : Fin 64) (e : Fin 256) :
    dtCat c d (ix2 i (col h e)) = dt (fun e => c (ix2 i (col h e))) (fun e => d (ix2 i (col h e))) e := by
  unfold dtCat
  refine (padSum_apply ![_, _, _, _, _, _, _, _] h i e).trans ?_
  fin_cases h
  all_goals
    refine (hDt_apply _ _ i e).trans ?_
    pointwise [col]

theorem vnew_apply (v : V) (h : Fin 8) (i : Fin 64) (e : Fin 256) : v.vnew (ix3 h i e) = v.x.vnew h i e := by
  unfold V.vnew X.vnew
  pointwise
  rfl

theorem out_apply (v : V) (h : Fin 8) (i : Fin 64) (e : Fin 256) : v.out (ix3 h i e) = v.x.out h i e := by
  unfold V.out X.out
  pointwise [vnew_apply]
  rfl

theorem eg_apply (v : V) (h : Fin 8) : v.eg (ix3 h 0 0) = Ideal.exp (v.x.gl h) := by
  unfold V.eg
  pointwise
  rfl

theorem next_apply (v : V) (h : Fin 8) (d : Fin 128) (e : Fin 256) : v.next (ix3 h d e) = v.x.next h d e := by
  unfold V.next X.next
  pointwise [vnew_apply, eg_apply]
  rfl

theorem on_apply (v : V) (h : Fin 8) (i : Fin 64) (e : Fin 256) : v.on (ix2 i (col h e)) = v.x.on h i e := by
  unfold V.on X.on
  rw [normCat_apply]
  simp only [headCat_apply, out_apply]

theorem sg_apply (v : V) (i : Fin 64) (c : Fin 2048) : v.sg (ix2 i c) = v.x.sg i c := by
  unfold V.sg X.sg
  pointwise
  rfl

theorem gate_apply (v : V) (i : Fin 64) (c : Fin 2048) : v.gate (ix2 i c) = v.x.gate i c := by
  unfold V.gate X.gate
  pointwise [sg_apply]
  rfl

theorem nwb_apply (v : V) (i : Fin 64) (c : Fin 2048) : v.nwb (ix2 i c) = v.x.nw c := by
  unfold V.nwb
  pointwise
  rfl

theorem dgate_apply (v : V) (h : Fin 8) (i : Fin 64) (e : Fin 256) : v.dgate (ix2 i (col h e)) = v.x.dgate h i e := by
  unfold V.dgate X.dgate
  pointwise [on_apply, nwb_apply]
  rfl

theorem dz_apply (v : V) (h : Fin 8) (i : Fin 64) (e : Fin 256) : v.dz (ix2 i (col h e)) = v.x.dz h i e := by
  unfold V.dz X.dz
  pointwise [dgate_apply, sg_apply]
  rfl

theorem dw1_apply (v : V) (h : Fin 8) (i : Fin 64) (e : Fin 256) : v.dw1 (ix2 i (col h e)) = v.x.dw1 h i e := by
  unfold V.dw1 X.dw1
  pointwise [gate_apply]
  rfl

theorem dnw_apply (v : V) (h : Fin 8) (e : Fin 256) : v.dnw (ix2 0 (col h e)) = v.x.dnw h e := by
  unfold V.dnw X.dnw
  pointwise [on_apply, dw1_apply]

theorem dout_apply (v : V) (h : Fin 8) (i : Fin 64) (e : Fin 256) : v.dout (ix3 h i e) = v.x.dout h i e := by
  unfold V.dout X.dout
  rw [headStack_apply, dtCat_apply]
  simp only [headCat_apply, out_apply]
  refine congrArg (fun d => dt (v.x.out h i) d e) (funext fun e => ?_)
  unfold X.don
  pointwise [dw1_apply, nwb_apply]

/-- A state's cotangent, read at indices. -/
def st (dS : FVec Ideal S8x128x256 .f32) : Fin 8 → Fin 128 → Fin 256 → EReal := fun h d e => dS (ix3 h d e)

theorem du_apply (v : V) (dS) (h : Fin 8) (i : Fin 64) (e : Fin 256) : v.du dS (ix3 h i e) = v.x.du (st dS) h i e := by
  unfold V.du X.du
  pointwise [dout_apply]
  rfl

theorem dkd_apply (v : V) (dS) (h : Fin 8) (i : Fin 64) (e : Fin 128) : v.dkd dS (ix3 h i e) = v.x.dkd (st dS) h i e := by
  unfold V.dkd X.dkd
  pointwise [vnew_apply]
  rfl

theorem dgl_apply (v : V) (dS) (h : Fin 8) (i : Fin 64) :
    v.dgl dS (ix3 h i 0) = if i = 63 then v.x.dgl (st dS) h else 0 := by
  unfold V.dgl X.dgl
  pointwise
  by_cases hi : i = 63
  · subst hi
    rw [dif_neg (by decide)]
    exact (congrArg (_ * ·) (eg_apply v h)).trans (if_pos rfl).symm
  · rw [dif_pos (by have := i.isLt; have : i.val ≠ 63 := fun h => hi (Fin.ext h); omega), if_neg hi]

theorem dqk_apply (v : V) (h : Fin 8) (i j : Fin 64) : v.dqk (ix3 h i j) = v.x.dqk h i j := by
  unfold V.dqk X.dqk
  pointwise [vnew_apply, dout_apply]

theorem dq_apply (v : V) (h : Fin 8) (i : Fin 64) (d : Fin 128) : v.dq (ix3 h i d) = v.x.dq h i d := by
  unfold V.dq X.dq
  pointwise [dout_apply]
  rfl

theorem ndu_apply (v : V) (dS) (h : Fin 8) (i : Fin 64) (e : Fin 256) : v.ndu dS (ix3 h i e) = -(v.x.du (st dS) h i e) := by
  unfold V.ndu
  pointwise [du_apply, zero_sub]

theorem dw_apply (v : V) (dS) (h : Fin 8) (i : Fin 64) (d : Fin 128) : v.dw dS (ix3 h i d) = v.x.dw (st dS) h i d := by
  unfold V.dw X.dw
  pointwise [ndu_apply]
  rfl

theorem dS'_apply (v : V) (dS) (h : Fin 8) (d : Fin 128) (e : Fin 256) : v.dS' dS (ix3 h d e) = v.x.dS' (st dS) h d e := by
  unfold V.dS' X.dS'
  pointwise [ndu_apply, dout_apply, eg_apply]
  rfl

end Cert.GdnVec

end
-- ==== Proof.GdnBridge.lean ====
module

public import proofs.«01_k».proof.Proof.Gen.KernelIdeal.Frame
public import proofs.«01_k».proof.Proof.GdnVec

/-!
# What one grid point stores

A grid point holds two chunks. Here every array that a point stores is the chunks' functions of `GdnVec`
applied to the point's blocks; at the first point the carried arrays start from zero.
-/

@[expose] public section
noncomputable section
namespace Cert.GdnBridge
open Idealize.ShloMosaic Cert.KernelIdeal Cert.KernelIdeal.Gen Cert.Gdn Cert.GdnVec

/-- The first chunk of a grid point's blocks. -/
def c0 (x0 : Vec Ideal S8x128x128 .f32) (x1 : Vec Ideal S8x128x128 .f32) (x2 : Vec Ideal S8x128x256 .f32) (x3 : Vec Ideal S8x128x64 .f32) (x4 : Vec Ideal S8x128x128 .f32) (x5 : Vec Ideal S8x128x1 .f32) (x6 : Vec Ideal S128x2048 .f32) (x7 : Vec Ideal S1x2048 .f32) (x8 : Vec Ideal S1x8x128x256 .f32) (x9 : Vec Ideal S128x2048 .f32) : V where
  q := extractStridedSlice S8x64x128 ![0, 0, 0] x0 slices_S8x128x128_o0_0_0_S8x64x128
  w := extractStridedSlice S8x64x128 ![0, 0, 0] x1 slices_S8x128x128_o0_0_0_S8x64x128
  u := extractStridedSlice S8x64x256 ![0, 0, 0] x2 slices_S8x128x256_o0_0_0_S8x64x256
  qk := extractStridedSlice S8x64x64 ![0, 0, 0] x3 slices_S8x128x64_o0_0_0_S8x64x64
  kd := extractStridedSlice S8x64x128 ![0, 0, 0] x4 slices_S8x128x128_o0_0_0_S8x64x128
  gc := extractStridedSlice S8x64x1 ![0, 0, 0] x5 slices_S8x128x1_o0_0_0_S8x64x1
  z := extractStridedSlice S64x2048 ![0, 0] x6 slices_S128x2048_o0_0_S64x2048
  nw := x7
  co := extractStridedSlice S64x2048 ![0, 0] x9 slices_S128x2048_o0_0_S64x2048
  S := shapeCast S8x128x256 x8 shapeCasts_S1x8x128x256_S8x128x256

/-- The second chunk; its state is the one that the first leaves. -/
def c1 (x0 : Vec Ideal S8x128x128 .f32) (x1 : Vec Ideal S8x128x128 .f32) (x2 : Vec Ideal S8x128x256 .f32) (x3 : Vec Ideal S8x128x64 .f32) (x4 : Vec Ideal S8x128x128 .f32) (x5 : Vec Ideal S8x128x1 .f32) (x6 : Vec Ideal S128x2048 .f32) (x7 : Vec Ideal S1x2048 .f32) (x8 : Vec Ideal S1x8x128x256 .f32) (x9 : Vec Ideal S128x2048 .f32) : V where
  q := extractStridedSlice S8x64x128 ![0, 64, 0] x0 slices_S8x128x128_o0_64_0_S8x64x128
  w := extractStridedSlice S8x64x128 ![0, 64, 0] x1 slices_S8x128x128_o0_64_0_S8x64x128
  u := extractStridedSlice S8x64x256 ![0, 64, 0] x2 slices_S8x128x256_o0_64_0_S8x64x256
  qk := extractStridedSlice S8x64x64 ![0, 64, 0] x3 slices_S8x128x64_o0_64_0_S8x64x64
  kd := extractStridedSlice S8x64x128 ![0, 64, 0] x4 slices_S8x128x128_o0_64_0_S8x64x128
  gc := extractStridedSlice S8x64x1 ![0, 64, 0] x5 slices_S8x128x1_o0_64_0_S8x64x1
  z := extractStridedSlice S64x2048 ![64, 0] x6 slices_S128x2048_o64_0_S64x2048
  nw := x7
  co := extractStridedSlice S64x2048 ![64, 0] x9 slices_S128x2048_o64_0_S64x2048
  S := (c0 x0 x1 x2 x3 x4 x5 x6 x7 x8 x9).next

/-- A cotangent of the state as the point reads it. -/
def rd3 (s : Vec Ideal S8x128x256 .f32) : FVec Ideal S8x128x256 .f32 :=
  shapeCast S8x128x256 s shapeCasts_S8x128x256_S8x128x256

/-- Two chunks' arrays, the second chunk's below the first's, each padded by zeros and the two added. -/
def two128 (b a : FVec Ideal S8x64x128 .f32) : FVec Ideal S8x128x128 .f32 :=
  addf (concatenate S8x128x128 1 [⟨S8x64x128, broadcast S8x64x128 (Scalar.ofBits .f32 0x00000000#32 : Ideal .f32)⟩, ⟨S8x64x128, b⟩] concatenates_S8x64x128_S8x64x128_S8x128x128_d1)
    (concatenate S8x128x128 1 [⟨S8x64x128, a⟩, ⟨S8x64x128, broadcast S8x64x128 (Scalar.ofBits .f32 0x00000000#32 : Ideal .f32)⟩] concatenates_S8x64x128_S8x64x128_S8x128x128_d1)

/-- Two chunks' arrays, the second chunk's below the first's, each padded by zeros and the two added. -/
def two256 (b a : FVec Ideal S8x64x256 .f32) : FVec Ideal S8x128x256 .f32 :=
  addf (concatenate S8x128x256 1 [⟨S8x64x256, broadcast S8x64x256 (Scalar.ofBits .f32 0x00000000#32 : Ideal .f32)⟩, ⟨S8x64x256, b⟩] concatenates_S8x64x256_S8x64x256_S8x128x256_d1)
    (concatenate S8x128x256 1 [⟨S8x64x256, a⟩, ⟨S8x64x256, broadcast S8x64x256 (Scalar.ofBits .f32 0x00000000#32 : Ideal .f32)⟩] concatenates_S8x64x256_S8x64x256_S8x128x256_d1)

/-- Two chunks' arrays, the second chunk's below the first's, each padded by zeros and the two added. -/
def two64 (b a : FVec Ideal S8x64x64 .f32) : FVec Ideal S8x128x64 .f32 :=
  addf (concatenate S8x128x64 1 [⟨S8x64x64, broadcast S8x64x64 (Scalar.ofBits .f32 0x00000000#32 : Ideal .f32)⟩, ⟨S8x64x64, b⟩] concatenates_S8x64x64_S8x64x64_S8x128x64_d1)
    (concatenate S8x128x64 1 [⟨S8x64x64, a⟩, ⟨S8x64x64, broadcast S8x64x64 (Scalar.ofBits .f32 0x00000000#32 : Ideal .f32)⟩] concatenates_S8x64x64_S8x64x64_S8x128x64_d1)

/-- Two chunks' arrays, the second chunk's below the first's, each padded by zeros and the two added. -/
def two1 (b a : FVec Ideal S8x64x1 .f32) : FVec Ideal S8x128x1 .f32 :=
  addf (concatenate S8x128x1 1 [⟨S8x64x1, broadcast S8x64x1 (Scalar.ofBits .f32 0x00000000#32 : Ideal .f32)⟩, ⟨S8x64x1, b⟩] concatenates_S8x64x1_S8x64x1_S8x128x1_d1)
    (concatenate S8x128x1 1 [⟨S8x64x1, a⟩, ⟨S8x64x1, broadcast S8x64x1 (Scalar.ofBits .f32 0x00000000#32 : Ideal .f32)⟩] concatenates_S8x64x1_S8x64x1_S8x128x1_d1)

/-- Two chunks' arrays, the second chunk's below the first's, each padded by zeros and the two added. -/
def twoZ (b a : FVec Ideal S64x2048 .f32) : FVec Ideal S128x2048 .f32 :=
  addf (concatenate S128x2048 0 [⟨S64x2048, broadcast S64x2048 (Scalar.ofBits .f32 0x00000000#32 : Ideal .f32)⟩, ⟨S64x2048, b⟩] concatenates_S64x2048_S64x2048_S128x2048_d0)
    (concatenate S128x2048 0 [⟨S64x2048, a⟩, ⟨S64x2048, broadcast S64x2048 (Scalar.ofBits .f32 0x00000000#32 : Ideal .f32)⟩] concatenates_S64x2048_S64x2048_S128x2048_d0)

/-- The zero cotangent of a state. -/
def zS : Vec Ideal S8x128x256 .f32 := broadcast S8x128x256 (Scalar.ofBits .f32 0x00000000#32 : Ideal .f32)
/-- The zero row. -/
def zN : Vec Ideal S1x2048 .f32 := broadcast S1x2048 (Scalar.ofBits .f32 0x00000000#32 : Ideal .f32)
/-- The row of the norm's weight after a point. -/
def accN (xo : Vec Ideal S1x2048 .f32) (b a : FVec Ideal S1x2048 .f32) : FVec Ideal S1x2048 .f32 :=
  addf (shapeCast S1x2048 xo shapeCasts_S1x2048_S1x2048) (addf b a)

theorem hz2 : (![0, 0] : Fin 2 → Nat) = fun _ => 0 := by decide
theorem hz3 : (![0, 0, 0] : Fin 3 → Nat) = fun _ => 0 := by decide
theorem hz4 : (![0, 0, 0, 0] : Fin 4 → Nat) = fun _ => 0 := by decide

/-- The first point's dq. -/
theorem outA_10 (c : Dev nD) (i) a1 h1 a2 h2 a3 h3 a4 h4 a5 h5 a6 h6 a7 h7 a8 h8 a9 h9 a10 h10 a11 h11 a12 h12 a13 h13 a14 h14 a15 h15 a16 h16 a17 h17 a18 h18 a19 h19 hc x0 x1 x2 x3 x4 x5 x6 x7 x8 x9 :
    out0_A_10 (F := Ideal) c i a1 h1 a2 h2 a3 h3 a4 h4 a5 h5 a6 h6 a7 h7 a8 h8 a9 h9 a10 h10 a11 h11 a12 h12 a13 h13 a14 h14 a15 h15 a16 h16 a17 h17 a18 h18 a19 h19 hc x0 x1 x2 x3 x4 x5 x6 x7 x8 x9 = two128 ((c1 x0 x1 x2 x3 x4 x5 x6 x7 x8 x9).dq) ((c0 x0 x1 x2 x3 x4 x5 x6 x7 x8 x9).dq) := by
  unfold out0_A_10
  rw [View.read_writes_eq_canon _ _ _ (cover0_A_10 c i a1 h1 a2 h2 a3 h3 a4 h4 a5 h5 a6 h6 a7 h7 a8 h8 a9 h9 a10 h10 a11 h11 a12 h12 a13 h13 a14 h14 a15 h15 a16 h16 a17 h17 a18 h18 a19 h19 hc x0 x1 x2 x3 x4 x5 x6 x7 x8 x9)]
  unfold kernelRun0_A; dsimp only
  sl_unfold_words
  rw [View.canon_unit_zero (S := S8x128x128) hz3]
  simp only [View.readCov_unit_zero (S := S8x128x256) _ hz3, View.readCov_unit_zero (S := S1x2048) _ hz2, View.readAt_eq_ld, View.ld_unit_zero (S := S8x128x128) hz3, View.ld_unit_zero (S := S8x128x256) hz3, View.ld_unit_zero (S := S8x128x64) hz3, View.ld_unit_zero (S := S8x128x1) hz3, View.ld_unit_zero (S := S128x2048) hz2, View.ld_unit_zero (S := S1x2048) hz2, View.ld_unit_zero (S := S1x8x128x256) hz4, h1.read_unread, h2.read_unread, h3.read_unread, h4.read_unread, h5.read_unread, h6.read_unread, h7.read_unread, h8.read_unread, h9.read_unread, h10.read_unread]
  rfl

/-- The first point's dw. -/
theorem outA_11 (c : Dev nD) (i) a1 h1 a2 h2 a3 h3 a4 h4 a5 h5 a6 h6 a7 h7 a8 h8 a9 h9 a10 h10 a11 h11 a12 h12 a13 h13 a14 h14 a15 h15 a16 h16 a17 h17 a18 h18 a19 h19 hc x0 x1 x2 x3 x4 x5 x6 x7 x8 x9 :
    out0_A_11 (F := Ideal) c i a1 h1 a2 h2 a3 h3 a4 h4 a5 h5 a6 h6 a7 h7 a8 h8 a9 h9 a10 h10 a11 h11 a12 h12 a13 h13 a14 h14 a15 h15 a16 h16 a17 h17 a18 h18 a19 h19 hc x0 x1 x2 x3 x4 x5 x6 x7 x8 x9 = two128 ((c1 x0 x1 x2 x3 x4 x5 x6 x7 x8 x9).dw (rd3 zS)) ((c0 x0 x1 x2 x3 x4 x5 x6 x7 x8 x9).dw ((c1 x0 x1 x2 x3 x4 x5 x6 x7 x8 x9).dS' (rd3 zS))) := by
  unfold out0_A_11
  rw [View.read_writes_eq_canon _ _ _ (cover0_A_11 c i a1 h1 a2 h2 a3 h3 a4 h4 a5 h5 a6 h6 a7 h7 a8 h8 a9 h9 a10 h10 a11 h11 a12 h12 a13 h13 a14 h14 a15 h15 a16 h16 a17 h17 a18 h18 a19 h19 hc x0 x1 x2 x3 x4 x5 x6 x7 x8 x9)]
  unfold kernelRun0_A; dsimp only
  sl_unfold_words
  rw [View.canon_unit_zero (S := S8x128x128) hz3]
  simp only [View.readCov_unit_zero (S := S8x128x256) _ hz3, View.readCov_unit_zero (S := S1x2048) _ hz2, View.readAt_eq_ld, View.ld_unit_zero (S := S8x128x128) hz3, View.ld_unit_zero (S := S8x128x256) hz3, View.ld_unit_zero (S := S8x128x64) hz3, View.ld_unit_zero (S := S8x128x1) hz3, View.ld_unit_zero (S := S128x2048) hz2, View.ld_unit_zero (S := S1x2048) hz2, View.ld_unit_zero (S := S1x8x128x256) hz4, h1.read_unread, h2.read_unread, h3.read_unread, h4.read_unread, h5.read_unread, h6.read_unread, h7.read_unread, h8.read_unread, h9.read_unread, h10.read_unread]
  rfl

/-- The first point's du. -/
theorem outA_12 (c : Dev nD) (i) a1 h1 a2 h2 a3 h3 a4 h4 a5 h5 a6 h6 a7 h7 a8 h8 a9 h9 a10 h10 a11 h11 a12 h12 a13 h13 a14 h14 a15 h15 a16 h16 a17 h17 a18 h18 a19 h19 hc x0 x1 x2 x3 x4 x5 x6 x7 x8 x9 :
    out0_A_12 (F := Ideal) c i a1 h1 a2 h2 a3 h3 a4 h4 a5 h5 a6 h6 a7 h7 a8 h8 a9 h9 a10 h10 a11 h11 a12 h12 a13 h13 a14 h14 a15 h15 a16 h16 a17 h17 a18 h18 a19 h19 hc x0 x1 x2 x3 x4 x5 x6 x7 x8 x9 = two256 ((c1 x0 x1 x2 x3 x4 x5 x6 x7 x8 x9).du (rd3 zS)) ((c0 x0 x1 x2 x3 x4 x5 x6 x7 x8 x9).du ((c1 x0 x1 x2 x3 x4 x5 x6 x7 x8 x9).dS' (rd3 zS))) := by
  unfold out0_A_12
  rw [View.read_writes_eq_canon _ _ _ (cover0_A_12 c i a1 h1 a2 h2 a3 h3 a4 h4 a5 h5 a6 h6 a7 h7 a8 h8 a9 h9 a10 h10 a11 h11 a12 h12 a13 h13 a14 h14 a15 h15 a16 h16 a17 h17 a18 h18 a19 h19 hc x0 x1 x2 x3 x4 x5 x6 x7 x8 x9)]
  unfold kernelRun0_A; dsimp only
  sl_unfold_words
  rw [View.canon_unit_zero (S := S8x128x256) hz3]
  simp only [View.readCov_unit_zero (S := S8x128x256) _ hz3, View.readCov_unit_zero (S := S1x2048) _ hz2, View.readAt_eq_ld, View.ld_unit_zero (S := S8x128x128) hz3, View.ld_unit_zero (S := S8x128x256) hz3, View.ld_unit_zero (S := S8x128x64) hz3, View.ld_unit_zero (S := S8x128x1) hz3, View.ld_unit_zero (S := S128x2048) hz2, View.ld_unit_zero (S := S1x2048) hz2, View.ld_unit_zero (S := S1x8x128x256) hz4, h1.read_unread, h2.read_unread, h3.read_unread, h4.read_unread, h5.read_unread, h6.read_unread, h7.read_unread, h8.read_unread, h9.read_unread, h10.read_unread]
  rfl

/-- The first point's dqk. -/
theorem outA_13 (c : Dev nD) (i) a1 h1 a2 h2 a3 h3 a4 h4 a5 h5 a6 h6 a7 h7 a8 h8 a9 h9 a10 h10 a11 h11 a12 h12 a13 h13 a14 h14 a15 h15 a16 h16 a17 h17 a18 h18 a19 h19 hc x0 x1 x2 x3 x4 x5 x6 x7 x8 x9 :
    out0_A_13 (F := Ideal) c i a1 h1 a2 h2 a3 h3 a4 h4 a5 h5 a6 h6 a7 h7 a8 h8 a9 h9 a10 h10 a11 h11 a12 h12 a13 h13 a14 h14 a15 h15 a16 h16 a17 h17 a18 h18 a19 h19 hc x0 x1 x2 x3 x4 x5 x6 x7 x8 x9 = two64 ((c1 x0 x1 x2 x3 x4 x5 x6 x7 x8 x9).dqk) ((c0 x0 x1 x2 x3 x4 x5 x6 x7 x8 x9).dqk) := by
  unfold out0_A_13
  rw [View.read_writes_eq_canon _ _ _ (cover0_A_13 c i a1 h1 a2 h2 a3 h3 a4 h4 a5 h5 a6 h6 a7 h7 a8 h8 a9 h9 a10 h10 a11 h11 a12 h12 a13 h13 a14 h14 a15 h15 a16 h16 a17 h17 a18 h18 a19 h19 hc x0 x1 x2 x3 x4 x5 x6 x7 x8 x9)]
  unfold kernelRun0_A; dsimp only
  sl_unfold_words
  rw [View.canon_unit_zero (S := S8x128x64) hz3]
  simp only [View.readCov_unit_zero (S := S8x128x256) _ hz3, View.readCov_unit_zero (S := S1x2048) _ hz2, View.readAt_eq_ld, View.ld_unit_zero (S := S8x128x128) hz3, View.ld_unit_zero (S := S8x128x256) hz3, View.ld_unit_zero (S := S8x128x64) hz3, View.ld_unit_zero (S := S8x128x1) hz3, View.ld_unit_zero (S := S128x2048) hz2, View.ld_unit_zero (S := S1x2048) hz2, View.ld_unit_zero (S := S1x8x128x256) hz4, h1.read_unread, h2.read_unread, h3.read_unread, h4.read_unread, h5.read_unread, h6.read_unread, h7.read_unread, h8.read_unread, h9.read_unread, h10.read_unread]
  rfl

/-- The first point's dk. -/
theorem outA_14 (c : Dev nD) (i) a1 h1 a2 h2 a3 h3 a4 h4 a5 h5 a6 h6 a7 h7 a8 h8 a9 h9 a10 h10 a11 h11 a12 h12 a13 h13 a14 h14 a15 h15 a16 h16 a17 h17 a18 h18 a19 h19 hc x0 x1 x2 x3 x4 x5 x6 x7 x8 x9 :
    out0_A_14 (F := Ideal) c i a1 h1 a2 h2 a3 h3 a4 h4 a5 h5 a6 h6 a7 h7 a8 h8 a9 h9 a10 h10 a11 h11 a12 h12 a13 h13 a14 h14 a15 h15 a16 h16 a17 h17 a18 h18 a19 h19 hc x0 x1 x2 x3 x4 x5 x6 x7 x8 x9 = two128 ((c1 x0 x1 x2 x3 x4 x5 x6 x7 x8 x9).dkd (rd3 zS)) ((c0 x0 x1 x2 x3 x4 x5 x6 x7 x8 x9).dkd ((c1 x0 x1 x2 x3 x4 x5 x6 x7 x8 x9).dS' (rd3 zS))) := by
  unfold out0_A_14
  rw [View.read_writes_eq_canon _ _ _ (cover0_A_14 c i a1 h1 a2 h2 a3 h3 a4 h4 a5 h5 a6 h6 a7 h7 a8 h8 a9 h9 a10 h10 a11 h11 a12 h12 a13 h13 a14 h14 a15 h15 a16 h16 a17 h17 a18 h18 a19 h19 hc x0 x1 x2 x3 x4 x5 x6 x7 x8 x9)]
  unfold kernelRun0_A; dsimp only
  sl_unfold_words
  rw [View.canon_unit_zero (S := S8x128x128) hz3]
  simp only [View.readCov_unit_zero (S := S8x128x256) _ hz3, View.readCov_unit_zero (S := S1x2048) _ hz2, View.readAt_eq_ld, View.ld_unit_zero (S := S8x128x128) hz3, View.ld_unit_zero (S := S8x128x256) hz3, View.ld_unit_zero (S := S8x128x64) hz3, View.ld_unit_zero (S := S8x128x1) hz3, View.ld_unit_zero (S := S128x2048) hz2, View.ld_unit_zero (S := S1x2048) hz2, View.ld_unit_zero (S := S1x8x128x256) hz4, h1.read_unread, h2.read_unread, h3.read_unread, h4.read_unread, h5.read_unread, h6.read_unread, h7.read_unread, h8.read_unread, h9.read_unread, h10.read_unread]
  rfl

/-- The first point's dg. -/
theorem outA_15 (c : Dev nD) (i) a1 h1 a2 h2 a3 h3 a4 h4 a5 h5 a6 h6 a7 h7 a8 h8 a9 h9 a10 h10 a11 h11 a12 h12 a13 h13 a14 h14 a15 h15 a16 h16 a17 h17 a18 h18 a19 h19 hc x0 x1 x2 x3 x4 x5 x6 x7 x8 x9 :
    out0_A_15 (F := Ideal) c i a1 h1 a2 h2 a3 h3 a4 h4 a5 h5 a6 h6 a7 h7 a8 h8 a9 h9 a10 h10 a11 h11 a12 h12 a13 h13 a14 h14 a15 h15 a16 h16 a17 h17 a18 h18 a19 h19 hc x0 x1 x2 x3 x4 x5 x6 x7 x8 x9 = two1 ((c1 x0 x1 x2 x3 x4 x5 x6 x7 x8 x9).dgl (rd3 zS)) ((c0 x0 x1 x2 x3 x4 x5 x6 x7 x8 x9).dgl ((c1 x0 x1 x2 x3 x4 x5 x6 x7 x8 x9).dS' (rd3 zS))) := by
  unfold out0_A_15
  rw [View.read_writes_eq_canon _ _ _ (cover0_A_15 c i a1 h1 a2 h2 a3 h3 a4 h4 a5 h5 a6 h6 a7 h7 a8 h8 a9 h9 a10 h10 a11 h11 a12 h12 a13 h13 a14 h14 a15 h15 a16 h16 a17 h17 a18 h18 a19 h19 hc x0 x1 x2 x3 x4 x5 x6 x7 x8 x9)]
  unfold kernelRun0_A; dsimp only
  sl_unfold_words
  rw [View.canon_unit_zero (S := S8x128x1) hz3]
  simp only [View.readCov_unit_zero (S := S8x128x256) _ hz3, View.readCov_unit_zero (S := S1x2048) _ hz2, View.readAt_eq_ld, View.ld_unit_zero (S := S8x128x128) hz3, View.ld_unit_zero (S := S8x128x256) hz3, View.ld_unit_zero (S := S8x128x64) hz3, View.ld_unit_zero (S := S8x128x1) hz3, View.ld_unit_zero (S := S128x2048) hz2, View.ld_unit_zero (S := S1x2048) hz2, View.ld_unit_zero (S := S1x8x128x256) hz4, h1.read_unread, h2.read_unread, h3.read_unread, h4.read_unread, h5.read_unread, h6.read_unread, h7.read_unread, h8.read_unread, h9.read_unread, h10.read_unread]
  rfl

/-- The first point's dz. -/
theorem outA_16 (c : Dev nD) (i) a1 h1 a2 h2 a3 h3 a4 h4 a5 h5 a6 h6 a7 h7 a8 h8 a9 h9 a10 h10 a11 h11 a12 h12 a13 h13 a14 h14 a15 h15 a16 h16 a17 h17 a18 h18 a19 h19 hc x0 x1 x2 x3 x4 x5 x6 x7 x8 x9 :
    out0_A_16 (F := Ideal) c i a1 h1 a2 h2 a3 h3 a4 h4 a5 h5 a6 h6 a7 h7 a8 h8 a9 h9 a10 h10 a11 h11 a12 h12 a13 h13 a14 h14 a15 h15 a16 h16 a17 h17 a18 h18 a19 h19 hc x0 x1 x2 x3 x4 x5 x6 x7 x8 x9 = twoZ ((c1 x0 x1 x2 x3 x4 x5 x6 x7 x8 x9).dz) ((c0 x0 x1 x2 x3 x4 x5 x6 x7 x8 x9).dz) := by
  unfold out0_A_16
  rw [View.read_writes_eq_canon _ _ _ (cover0_A_16 c i a1 h1 a2 h2 a3 h3 a4 h4 a5 h5 a6 h6 a7 h7 a8 h8 a9 h9 a10 h10 a11 h11 a12 h12 a13 h13 a14 h14 a15 h15 a16 h16 a17 h17 a18 h18 a19 h19 hc x0 x1 x2 x3 x4 x5 x6 x7 x8 x9)]
  unfold kernelRun0_A; dsimp only
  sl_unfold_words
  rw [View.canon_unit_zero (S := S128x2048) hz2]
  simp only [View.readCov_unit_zero (S := S8x128x256) _ hz3, View.readCov_unit_zero (S := S1x2048) _ hz2, View.readAt_eq_ld, View.ld_unit_zero (S := S8x128x128) hz3, View.ld_unit_zero (S := S8x128x256) hz3, View.ld_unit_zero (S := S8x128x64) hz3, View.ld_unit_zero (S := S8x128x1) hz3, View.ld_unit_zero (S := S128x2048) hz2, View.ld_unit_zero (S := S1x2048) hz2, View.ld_unit_zero (S := S1x8x128x256) hz4, h1.read_unread, h2.read_unread, h3.read_unread, h4.read_unread, h5.read_unread, h6.read_unread, h7.read_unread, h8.read_unread, h9.read_unread, h10.read_unread]
  rfl

/-- The first point's norm weight's row. -/
theorem outA_17 (c : Dev nD) (i) a1 h1 a2 h2 a3 h3 a4 h4 a5 h5 a6 h6 a7 h7 a8 h8 a9 h9 a10 h10 a11 h11 a12 h12 a13 h13 a14 h14 a15 h15 a16 h16 a17 h17 a18 h18 a19 h19 hc x0 x1 x2 x3 x4 x5 x6 x7 x8 x9 :
    out0_A_17 (F := Ideal) c i a1 h1 a2 h2 a3 h3 a4 h4 a5 h5 a6 h6 a7 h7 a8 h8 a9 h9 a10 h10 a11 h11 a12 h12 a13 h13 a14 h14 a15 h15 a16 h16 a17 h17 a18 h18 a19 h19 hc x0 x1 x2 x3 x4 x5 x6 x7 x8 x9 = accN zN (c1 x0 x1 x2 x3 x4 x5 x6 x7 x8 x9).dnw (c0 x0 x1 x2 x3 x4 x5 x6 x7 x8 x9).dnw := by
  unfold out0_A_17
  rw [View.read_writes_eq_canon _ _ _ (cover0_A_17 c i a1 h1 a2 h2 a3 h3 a4 h4 a5 h5 a6 h6 a7 h7 a8 h8 a9 h9 a10 h10 a11 h11 a12 h12 a13 h13 a14 h14 a15 h15 a16 h16 a17 h17 a18 h18 a19 h19 hc x0 x1 x2 x3 x4 x5 x6 x7 x8 x9)]
  unfold kernelRun0_A; dsimp only
  sl_unfold_words
  rw [View.canon_cons_unit_zero (S := S1x2048) hz2]
  simp only [View.readCov_unit_zero (S := S8x128x256) _ hz3, View.readCov_unit_zero (S := S1x2048) _ hz2, View.readAt_eq_ld, View.ld_unit_zero (S := S8x128x128) hz3, View.ld_unit_zero (S := S8x128x256) hz3, View.ld_unit_zero (S := S8x128x64) hz3, View.ld_unit_zero (S := S8x128x1) hz3, View.ld_unit_zero (S := S128x2048) hz2, View.ld_unit_zero (S := S1x2048) hz2, View.ld_unit_zero (S := S1x8x128x256) hz4, h1.read_unread, h2.read_unread, h3.read_unread, h4.read_unread, h5.read_unread, h6.read_unread, h7.read_unread, h8.read_unread, h9.read_unread, h10.read_unread]
  rfl

/-- The first point's carried cotangent. -/
theorem soutA_0 (c : Dev nD) (i) a1 h1 a2 h2 a3 h3 a4 h4 a5 h5 a6 h6 a7 h7 a8 h8 a9 h9 a10 h10 a11 h11 a12 h12 a13 h13 a14 h14 a15 h15 a16 h16 a17 h17 a18 h18 a19 h19 hc x0 x1 x2 x3 x4 x5 x6 x7 x8 x9 :
    sout0_A_0 (F := Ideal) c i a1 h1 a2 h2 a3 h3 a4 h4 a5 h5 a6 h6 a7 h7 a8 h8 a9 h9 a10 h10 a11 h11 a12 h12 a13 h13 a14 h14 a15 h15 a16 h16 a17 h17 a18 h18 a19 h19 hc x0 x1 x2 x3 x4 x5 x6 x7 x8 x9 = rd3 ((c0 x0 x1 x2 x3 x4 x5 x6 x7 x8 x9).dS' ((c1 x0 x1 x2 x3 x4 x5 x6 x7 x8 x9).dS' (rd3 zS))) := by
  unfold sout0_A_0
  rw [View.read_writes_eq_canon _ _ _ (scover0_A_0 c i a1 h1 a2 h2 a3 h3 a4 h4 a5 h5 a6 h6 a7 h7 a8 h8 a9 h9 a10 h10 a11 h11 a12 h12 a13 h13 a14 h14 a15 h15 a16 h16 a17 h17 a18 h18 a19 h19 hc x0 x1 x2 x3 x4 x5 x6 x7 x8 x9)]
  unfold kernelRun0_A; dsimp only
  sl_unfold_words
  rw [View.canon_cons_unit_zero (S := S8x128x256) hz3]
  simp only [View.readCov_unit_zero (S := S8x128x256) _ hz3, View.readCov_unit_zero (S := S1x2048) _ hz2, View.readAt_eq_ld, View.ld_unit_zero (S := S8x128x128) hz3, View.ld_unit_zero (S := S8x128x256) hz3, View.ld_unit_zero (S := S8x128x64) hz3, View.ld_unit_zero (S := S8x128x1) hz3, View.ld_unit_zero (S := S128x2048) hz2, View.ld_unit_zero (S := S1x2048) hz2, View.ld_unit_zero (S := S1x8x128x256) hz4, h1.read_unread, h2.read_unread, h3.read_unread, h4.read_unread, h5.read_unread, h6.read_unread, h7.read_unread, h8.read_unread, h9.read_unread, h10.read_unread]
  rfl

/-- A later point's dq. -/
theorem outB_10 (c : Dev nD) (i) a1 h1 a2 h2 a3 h3 a4 h4 a5 h5 a6 h6 a7 h7 a8 h8 a9 h9 a10 h10 a11 h11 a12 h12 a13 h13 a14 h14 a15 h15 a16 h16 a17 h17 a18 h18 a19 h19 hc x0 x1 x2 x3 x4 x5 x6 x7 x8 x9 xo xs :
    out0_B_10 (F := Ideal) c i a1 h1 a2 h2 a3 h3 a4 h4 a5 h5 a6 h6 a7 h7 a8 h8 a9 h9 a10 h10 a11 h11 a12 h12 a13 h13 a14 h14 a15 h15 a16 h16 a17 h17 a18 h18 a19 h19 hc x0 x1 x2 x3 x4 x5 x6 x7 x8 x9 xo xs = two128 ((c1 x0 x1 x2 x3 x4 x5 x6 x7 x8 x9).dq) ((c0 x0 x1 x2 x3 x4 x5 x6 x7 x8 x9).dq) := by
  unfold out0_B_10
  rw [View.read_writes_eq_canon _ _ _ (cover0_B_10 c i a1 h1 a2 h2 a3 h3 a4 h4 a5 h5 a6 h6 a7 h7 a8 h8 a9 h9 a10 h10 a11 h11 a12 h12 a13 h13 a14 h14 a15 h15 a16 h16 a17 h17 a18 h18 a19 h19 hc x0 x1 x2 x3 x4 x5 x6 x7 x8 x9 xo xs)]
  unfold kernelRun0_B; dsimp only
  sl_unfold_words
  rw [View.canon_unit_zero (S := S8x128x128) hz3]
  simp only [View.readAt_eq_ld, View.ld_unit_zero (S := S8x128x128) hz3, View.ld_unit_zero (S := S8x128x256) hz3, View.ld_unit_zero (S := S8x128x64) hz3, View.ld_unit_zero (S := S8x128x1) hz3, View.ld_unit_zero (S := S128x2048) hz2, View.ld_unit_zero (S := S1x2048) hz2, View.ld_unit_zero (S := S1x8x128x256) hz4, h1.read_unread, h2.read_unread, h3.read_unread, h4.read_unread, h5.read_unread, h6.read_unread, h7.read_unread, h8.read_unread, h9.read_unread, h10.read_unread, h18.read_unread, h19.read_unread]
  rfl

/-- A later point's dw. -/
theorem outB_11 (c : Dev nD) (i) a1 h1 a2 h2 a3 h3 a4 h4 a5 h5 a6 h6 a7 h7 a8 h8 a9 h9 a10 h10 a11 h11 a12 h12 a13 h13 a14 h14 a15 h15 a16 h16 a17 h17 a18 h18 a19 h19 hc x0 x1 x2 x3 x4 x5 x6 x7 x8 x9 xo xs :
    out0_B_11 (F := Ideal) c i a1 h1 a2 h2 a3 h3 a4 h4 a5 h5 a6 h6 a7 h7 a8 h8 a9 h9 a10 h10 a11 h11 a12 h12 a13 h13 a14 h14 a15 h15 a16 h16 a17 h17 a18 h18 a19 h19 hc x0 x1 x2 x3 x4 x5 x6 x7 x8 x9 xo xs = two128 ((c1 x0 x1 x2 x3 x4 x5 x6 x7 x8 x9).dw (rd3 xs)) ((c0 x0 x1 x2 x3 x4 x5 x6 x7 x8 x9).dw ((c1 x0 x1 x2 x3 x4 x5 x6 x7 x8 x9).dS' (rd3 xs))) := by
  unfold out0_B_11
  rw [View.read_writes_eq_canon _ _ _ (cover0_B_11 c i a1 h1 a2 h2 a3 h3 a4 h4 a5 h5 a6 h6 a7 h7 a8 h8 a9 h9 a10 h10 a11 h11 a12 h12 a13 h13 a14 h14 a15 h15 a16 h16 a17 h17 a18 h18 a19 h19 hc x0 x1 x2 x3 x4 x5 x6 x7 x8 x9 xo xs)]
  unfold kernelRun0_B; dsimp only
  sl_unfold_words
  rw [View.canon_unit_zero (S := S8x128x128) hz3]
  simp only [View.readAt_eq_ld, View.ld_unit_zero (S := S8x128x128) hz3, View.ld_unit_zero (S := S8x128x256) hz3, View.ld_unit_zero (S := S8x128x64) hz3, View.ld_unit_zero (S := S8x128x1) hz3, View.ld_unit_zero (S := S128x2048) hz2, View.ld_unit_zero (S := S1x2048) hz2, View.ld_unit_zero (S := S1x8x128x256) hz4, h1.read_unread, h2.read_unread, h3.read_unread, h4.read_unread, h5.read_unread, h6.read_unread, h7.read_unread, h8.read_unread, h9.read_unread, h10.read_unread, h18.read_unread, h19.read_unread]
  rfl

/-- A later point's du. -/
theorem outB_12 (c : Dev nD) (i) a1 h1 a2 h2 a3 h3 a4 h4 a5 h5 a6 h6 a7 h7 a8 h8 a9 h9 a10 h10 a11 h11 a12 h12 a13 h13 a14 h14 a15 h15 a16 h16 a17 h17 a18 h18 a19 h19 hc x0 x1 x2 x3 x4 x5 x6 x7 x8 x9 xo xs :
    out0_B_12 (F := Ideal) c i a1 h1 a2 h2 a3 h3 a4 h4 a5 h5 a6 h6 a7 h7 a8 h8 a9 h9 a10 h10 a11 h11 a12 h12 a13 h13 a14 h14 a15 h15 a16 h16 a17 h17 a18 h18 a19 h19 hc x0 x1 x2 x3 x4 x5 x6 x7 x8 x9 xo xs = two256 ((c1 x0 x1 x2 x3 x4 x5 x6 x7 x8 x9).du (rd3 xs)) ((c0 x0 x1 x2 x3 x4 x5 x6 x7 x8 x9).du ((c1 x0 x1 x2 x3 x4 x5 x6 x7 x8 x9).dS' (rd3 xs))) := by
  unfold out0_B_12
  rw [View.read_writes_eq_canon _ _ _ (cover0_B_12 c i a1 h1 a2 h2 a3 h3 a4 h4 a5 h5 a6 h6 a7 h7 a8 h8 a9 h9 a10 h10 a11 h11 a12 h12 a13 h13 a14 h14 a15 h15 a16 h16 a17 h17 a18 h18 a19 h19 hc x0 x1 x2 x3 x4 x5 x6 x7 x8 x9 xo xs)]
  unfold kernelRun0_B; dsimp only
  sl_unfold_words
  rw [View.canon_unit_zero (S := S8x128x256) hz3]
  simp only [View.readAt_eq_ld, View.ld_unit_zero (S := S8x128x128) hz3, View.ld_unit_zero (S := S8x128x256) hz3, View.ld_unit_zero (S := S8x128x64) hz3, View.ld_unit_zero (S := S8x128x1) hz3, View.ld_unit_zero (S := S128x2048) hz2, View.ld_unit_zero (S := S1x2048) hz2, View.ld_unit_zero (S := S1x8x128x256) hz4, h1.read_unread, h2.read_unread, h3.read_unread, h4.read_unread, h5.read_unread, h6.read_unread, h7.read_unread, h8.read_unread, h9.read_unread, h10.read_unread, h18.read_unread, h19.read_unread]
  rfl

/-- A later point's dqk. -/
theorem outB_13 (c : Dev nD) (i) a1 h1 a2 h2 a3 h3 a4 h4 a5 h5 a6 h6 a7 h7 a8 h8 a9 h9 a10 h10 a11 h11 a12 h12 a13 h13 a14 h14 a15 h15 a16 h16 a17 h17 a18 h18 a19 h19 hc x0 x1 x2 x3 x4 x5 x6 x7 x8 x9 xo xs :
    out0_B_13 (F := Ideal) c i a1 h1 a2 h2 a3 h3 a4 h4 a5 h5 a6 h6 a7 h7 a8 h8 a9 h9 a10 h10 a11 h11 a12 h12 a13 h13 a14 h14 a15 h15 a16 h16 a17 h17 a18 h18 a19 h19 hc x0 x1 x2 x3 x4 x5 x6 x7 x8 x9 xo xs = two64 ((c1 x0 x1 x2 x3 x4 x5 x6 x7 x8 x9).dqk) ((c0 x0 x1 x2 x3 x4 x5 x6 x7 x8 x9).dqk) := by
  unfold out0_B_13
  rw [View.read_writes_eq_canon _ _ _ (cover0_B_13 c i a1 h1 a2 h2 a3 h3 a4 h4 a5 h5 a6 h6 a7 h7 a8 h8 a9 h9 a10 h10 a11 h11 a12 h12 a13 h13 a14 h14 a15 h15 a16 h16 a17 h17 a18 h18 a19 h19 hc x0 x1 x2 x3 x4 x5 x6 x7 x8 x9 xo xs)]
  unfold kernelRun0_B; dsimp only
  sl_unfold_words
  rw [View.canon_unit_zero (S := S8x128x64) hz3]
  simp only [View.readAt_eq_ld, View.ld_unit_zero (S := S8x128x128) hz3, View.ld_unit_zero (S := S8x128x256) hz3, View.ld_unit_zero (S := S8x128x64) hz3, View.ld_unit_zero (S := S8x128x1) hz3, View.ld_unit_zero (S := S128x2048) hz2, View.ld_unit_zero (S := S1x2048) hz2, View.ld_unit_zero (S := S1x8x128x256) hz4, h1.read_unread, h2.read_unread, h3.read_unread, h4.read_unread, h5.read_unread, h6.read_unread, h7.read_unread, h8.read_unread, h9.read_unread, h10.read_unread, h18.read_unread, h19.read_unread]
  rfl

/-- A later point's dk. -/
theorem outB_14 (c : Dev nD) (i) a1 h1 a2 h2 a3 h3 a4 h4 a5 h5 a6 h6 a7 h7 a8 h8 a9 h9 a10 h10 a11 h11 a12 h12 a13 h13 a14 h14 a15 h15 a16 h16 a17 h17 a18 h18 a19 h19 hc x0 x1 x2 x3 x4 x5 x6 x7 x8 x9 xo xs :
    out0_B_14 (F := Ideal) c i a1 h1 a2 h2 a3 h3 a4 h4 a5 h5 a6 h6 a7 h7 a8 h8 a9 h9 a10 h10 a11 h11 a12 h12 a13 h13 a14 h14 a15 h15 a16 h16 a17 h17 a18 h18 a19 h19 hc x0 x1 x2 x3 x4 x5 x6 x7 x8 x9 xo xs = two128 ((c1 x0 x1 x2 x3 x4 x5 x6 x7 x8 x9).dkd (rd3 xs)) ((c0 x0 x1 x2 x3 x4 x5 x6 x7 x8 x9).dkd ((c1 x0 x1 x2 x3 x4 x5 x6 x7 x8 x9).dS' (rd3 xs))) := by
  unfold out0_B_14
  rw [View.read_writes_eq_canon _ _ _ (cover0_B_14 c i a1 h1 a2 h2 a3 h3 a4 h4 a5 h5 a6 h6 a7 h7 a8 h8 a9 h9 a10 h10 a11 h11 a12 h12 a13 h13 a14 h14 a15 h15 a16 h16 a17 h17 a18 h18 a19 h19 hc x0 x1 x2 x3 x4 x5 x6 x7 x8 x9 xo xs)]
  unfold kernelRun0_B; dsimp only
  sl_unfold_words
  rw [View.canon_unit_zero (S := S8x128x128) hz3]
  simp only [View.readAt_eq_ld, View.ld_unit_zero (S := S8x128x128) hz3, View.ld_unit_zero (S := S8x128x256) hz3, View.ld_unit_zero (S := S8x128x64) hz3, View.ld_unit_zero (S := S8x128x1) hz3, View.ld_unit_zero (S := S128x2048) hz2, View.ld_unit_zero (S := S1x2048) hz2, View.ld_unit_zero (S := S1x8x128x256) hz4, h1.read_unread, h2.read_unread, h3.read_unread, h4.read_unread, h5.read_unread, h6.read_unread, h7.read_unread, h8.read_unread, h9.read_unread, h10.read_unread, h18.read_unread, h19.read_unread]
  rfl

/-- A later point's dg. -/
theorem outB_15 (c : Dev nD) (i) a1 h1 a2 h2 a3 h3 a4 h4 a5 h5 a6 h6 a7 h7 a8 h8 a9 h9 a10 h10 a11 h11 a12 h12 a13 h13 a14 h14 a15 h15 a16 h16 a17 h17 a18 h18 a19 h19 hc x0 x1 x2 x3 x4 x5 x6 x7 x8 x9 xo xs :
    out0_B_15 (F := Ideal) c i a1 h1 a2 h2 a3 h3 a4 h4 a5 h5 a6 h6 a7 h7 a8 h8 a9 h9 a10 h10 a11 h11 a12 h12 a13 h13 a14 h14 a15 h15 a16 h16 a17 h17 a18 h18 a19 h19 hc x0 x1 x2 x3 x4 x5 x6 x7 x8 x9 xo xs = two1 ((c1 x0 x1 x2 x3 x4 x5 x6 x7 x8 x9).dgl (rd3 xs)) ((c0 x0 x1 x2 x3 x4 x5 x6 x7 x8 x9).dgl ((c1 x0 x1 x2 x3 x4 x5 x6 x7 x8 x9).dS' (rd3 xs))) := by
  unfold out0_B_15
  rw [View.read_writes_eq_canon _ _ _ (cover0_B_15 c i a1 h1 a2 h2 a3 h3 a4 h4 a5 h5 a6 h6 a7 h7 a8 h8 a9 h9 a10 h10 a11 h11 a12 h12 a13 h13 a14 h14 a15 h15 a16 h16 a17 h17 a18 h18 a19 h19 hc x0 x1 x2 x3 x4 x5 x6 x7 x8 x9 xo xs)]
  unfold kernelRun0_B; dsimp only
  sl_unfold_words
  rw [View.canon_unit_zero (S := S8x128x1) hz3]
  simp only [View.readAt_eq_ld, View.ld_unit_zero (S := S8x128x128) hz3, View.ld_unit_zero (S := S8x128x256) hz3, View.ld_unit_zero (S := S8x128x64) hz3, View.ld_unit_zero (S := S8x128x1) hz3, View.ld_unit_zero (S := S128x2048) hz2, View.ld_unit_zero (S := S1x2048) hz2, View.ld_unit_zero (S := S1x8x128x256) hz4, h1.read_unread, h2.read_unread, h3.read_unread, h4.read_unread, h5.read_unread, h6.read_unread, h7.read_unread, h8.read_unread, h9.read_unread, h10.read_unread, h18.read_unread, h19.read_unread]
  rfl

/-- A later point's dz. -/
theorem outB_16 (c : Dev nD) (i) a1 h1 a2 h2 a3 h3 a4 h4 a5 h5 a6 h6 a7 h7 a8 h8 a9 h9 a10 h10 a11 h11 a12 h12 a13 h13 a14 h14 a15 h15 a16 h16 a17 h17 a18 h18 a19 h19 hc x0 x1 x2 x3 x4 x5 x6 x7 x8 x9 xo xs :
    out0_B_16 (F := Ideal) c i a1 h1 a2 h2 a3 h3 a4 h4 a5 h5 a6 h6 a7 h7 a8 h8 a9 h9 a10 h10 a11 h11 a12 h12 a13 h13 a14 h14 a15 h15 a16 h16 a17 h17 a18 h18 a19 h19 hc x0 x1 x2 x3 x4 x5 x6 x7 x8 x9 xo xs = twoZ ((c1 x0 x1 x2 x3 x4 x5 x6 x7 x8 x9).dz) ((c0 x0 x1 x2 x3 x4 x5 x6 x7 x8 x9).dz) := by
  unfold out0_B_16
  rw [View.read_writes_eq_canon _ _ _ (cover0_B_16 c i a1 h1 a2 h2 a3 h3 a4 h4 a5 h5 a6 h6 a7 h7 a8 h8 a9 h9 a10 h10 a11 h11 a12 h12 a13 h13 a14 h14 a15 h15 a16 h16 a17 h17 a18 h18 a19 h19 hc x0 x1 x2 x3 x4 x5 x6 x7 x8 x9 xo xs)]
  unfold kernelRun0_B; dsimp only
  sl_unfold_words
  rw [View.canon_unit_zero (S := S128x2048) hz2]
  simp only [View.readAt_eq_ld, View.ld_unit_zero (S := S8x128x128) hz3, View.ld_unit_zero (S := S8x128x256) hz3, View.ld_unit_zero (S := S8x128x64) hz3, View.ld_unit_zero (S := S8x128x1) hz3, View.ld_unit_zero (S := S128x2048) hz2, View.ld_unit_zero (S := S1x2048) hz2, View.ld_unit_zero (S := S1x8x128x256) hz4, h1.read_unread, h2.read_unread, h3.read_unread, h4.read_unread, h5.read_unread, h6.read_unread, h7.read_unread, h8.read_unread, h9.read_unread, h10.read_unread, h18.read_unread, h19.read_unread]
  rfl

/-- A later point's norm weight's row. -/
theorem outB_17 (c : Dev nD) (i) a1 h1 a2 h2 a3 h3 a4 h4 a5 h5 a6 h6 a7 h7 a8 h8 a9 h9 a10 h10 a11 h11 a12 h12 a13 h13 a14 h14 a15 h15 a16 h16 a17 h17 a18 h18 a19 h19 hc x0 x1 x2 x3 x4 x5 x6 x7 x8 x9 xo xs :
    out0_B_17 (F := Ideal) c i a1 h1 a2 h2 a3 h3 a4 h4 a5 h5 a6 h6 a7 h7 a8 h8 a9 h9 a10 h10 a11 h11 a12 h12 a13 h13 a14 h14 a15 h15 a16 h16 a17 h17 a18 h18 a19 h19 hc x0 x1 x2 x3 x4 x5 x6 x7 x8 x9 xo xs = accN xo (c1 x0 x1 x2 x3 x4 x5 x6 x7 x8 x9).dnw (c0 x0 x1 x2 x3 x4 x5 x6 x7 x8 x9).dnw := by
  unfold out0_B_17
  rw [View.read_writes_eq_canon _ _ _ (cover0_B_17 c i a1 h1 a2 h2 a3 h3 a4 h4 a5 h5 a6 h6 a7 h7 a8 h8 a9 h9 a10 h10 a11 h11 a12 h12 a13 h13 a14 h14 a15 h15 a16 h16 a17 h17 a18 h18 a19 h19 hc x0 x1 x2 x3 x4 x5 x6 x7 x8 x9 xo xs)]
  unfold kernelRun0_B; dsimp only
  sl_unfold_words
  rw [View.canon_unit_zero (S := S1x2048) hz2]
  simp only [View.readAt_eq_ld, View.ld_unit_zero (S := S8x128x128) hz3, View.ld_unit_zero (S := S8x128x256) hz3, View.ld_unit_zero (S := S8x128x64) hz3, View.ld_unit_zero (S := S8x128x1) hz3, View.ld_unit_zero (S := S128x2048) hz2, View.ld_unit_zero (S := S1x2048) hz2, View.ld_unit_zero (S := S1x8x128x256) hz4, h1.read_unread, h2.read_unread, h3.read_unread, h4.read_unread, h5.read_unread, h6.read_unread, h7.read_unread, h8.read_unread, h9.read_unread, h10.read_unread, h18.read_unread, h19.read_unread]
  rfl

/-- A later point's carried cotangent. -/
theorem soutB_0 (c : Dev nD) (i) a1 h1 a2 h2 a3 h3 a4 h4 a5 h5 a6 h6 a7 h7 a8 h8 a9 h9 a10 h10 a11 h11 a12 h12 a13 h13 a14 h14 a15 h15 a16 h16 a17 h17 a18 h18 a19 h19 hc x0 x1 x2 x3 x4 x5 x6 x7 x8 x9 xo xs :
    sout0_B_0 (F := Ideal) c i a1 h1 a2 h2 a3 h3 a4 h4 a5 h5 a6 h6 a7 h7 a8 h8 a9 h9 a10 h10 a11 h11 a12 h12 a13 h13 a14 h14 a15 h15 a16 h16 a17 h17 a18 h18 a19 h19 hc x0 x1 x2 x3 x4 x5 x6 x7 x8 x9 xo xs = rd3 ((c0 x0 x1 x2 x3 x4 x5 x6 x7 x8 x9).dS' ((c1 x0 x1 x2 x3 x4 x5 x6 x7 x8 x9).dS' (rd3 xs))) := by
  unfold sout0_B_0
  rw [View.read_writes_eq_canon _ _ _ (scover0_B_0 c i a1 h1 a2 h2 a3 h3 a4 h4 a5 h5 a6 h6 a7 h7 a8 h8 a9 h9 a10 h10 a11 h11 a12 h12 a13 h13 a14 h14 a15 h15 a16 h16 a17 h17 a18 h18 a19 h19 hc x0 x1 x2 x3 x4 x5 x6 x7 x8 x9 xo xs)]
  unfold kernelRun0_B; dsimp only
  sl_unfold_words
  rw [View.canon_unit_zero (S := S8x128x256) hz3]
  simp only [View.readAt_eq_ld, View.ld_unit_zero (S := S8x128x128) hz3, View.ld_unit_zero (S := S8x128x256) hz3, View.ld_unit_zero (S := S8x128x64) hz3, View.ld_unit_zero (S := S8x128x1) hz3, View.ld_unit_zero (S := S128x2048) hz2, View.ld_unit_zero (S := S1x2048) hz2, View.ld_unit_zero (S := S1x8x128x256) hz4, h1.read_unread, h2.read_unread, h3.read_unread, h4.read_unread, h5.read_unread, h6.read_unread, h7.read_unread, h8.read_unread, h9.read_unread, h10.read_unread, h18.read_unread, h19.read_unread]
  rfl

end Cert.GdnBridge
end
end
-- ==== Proof.GdnArr.lean ====
/-
  THE WHOLE CALL'S GRADIENT, over plain index sets: 64 chunks, gone through from the last to the first. The states before
  the chunks 0, 2, 4, … are given; the state before an odd chunk is the one that the chunk before it leaves.
-/
module

public import proofs.«01_k».proof.Proof.GdnSpec

@[expose] public section

noncomputable section

namespace Cert.Gdn

/-- The token that is the `i`-th of chunk `j`. -/
def row (j i : Fin 64) : Fin 4096 := ⟨64 * j.val + i.val, by omega⟩
/-- The chunk of a token. -/
def chunkOf (r : Fin 4096) : Fin 64 := ⟨r.val / 64, by omega⟩
/-- The token's place in its chunk. -/
def placeOf (r : Fin 4096) : Fin 64 := ⟨r.val % 64, by omega⟩
/-- The head of a column. -/
def headOf (c : Fin 2048) : Fin 8 := ⟨c.val / 256, by omega⟩
/-- The value coordinate of a column. -/
def coordOf (c : Fin 2048) : Fin 256 := ⟨c.val % 256, by omega⟩

theorem chunkOf_row (j i : Fin 64) : chunkOf (row j i) = j := Fin.ext (by simp only [chunkOf, row]; omega)
theorem placeOf_row (j i : Fin 64) : placeOf (row j i) = i := Fin.ext (by simp only [placeOf, row]; omega)
theorem headOf_col (h : Fin 8) (e : Fin 256) : headOf (col h e) = h := Fin.ext (by simp only [headOf, col]; omega)
theorem coordOf_col (h : Fin 8) (e : Fin 256) : coordOf (col h e) = e := Fin.ext (by simp only [coordOf, col]; omega)
theorem exists_row (r : Fin 4096) : ∃ j i, r = row j i :=
  ⟨chunkOf r, placeOf r, Fin.ext (by simp only [chunkOf, placeOf, row]; omega)⟩

/-- The call's arguments, read at indices. -/
structure Arr where
  q : Fin 8 → Fin 4096 → Fin 128 → EReal
  w : Fin 8 → Fin 4096 → Fin 128 → EReal
  u : Fin 8 → Fin 4096 → Fin 256 → EReal
  qk : Fin 8 → Fin 4096 → Fin 64 → EReal
  kd : Fin 8 → Fin 4096 → Fin 128 → EReal
  gc : Fin 8 → Fin 4096 → EReal
  z : Fin 4096 → Fin 2048 → EReal
  nw : Fin 2048 → EReal
  s : Fin 32 → Fin 8 → Fin 128 → Fin 256 → EReal
  co : Fin 4096 → Fin 2048 → EReal

attribute [ext] X

namespace Arr
variable (a : Arr)

/-- Chunk `j`, given the state before it. -/
def at' (j : Fin 64) (S : Fin 8 → Fin 128 → Fin 256 → EReal) : X where
  q h i d := a.q h (row j i) d
  w h i d := a.w h (row j i) d
  u h i e := a.u h (row j i) e
  qk h i k := a.qk h (row j i) k
  kd h i d := a.kd h (row j i) d
  gl h := a.gc h (row j 63)
  z i c := a.z (row j i) c
  nw := a.nw
  co i c := a.co (row j i) c
  S := S

/-- The given state of the pair of chunks that chunk `j` belongs to. -/
def s2 (j : Fin 64) : Fin 8 → Fin 128 → Fin 256 → EReal := a.s ⟨j.val / 2, by omega⟩
/-- The state before chunk `j`. -/
def S (j : Fin 64) : Fin 8 → Fin 128 → Fin 256 → EReal :=
  if j.val % 2 = 0 then a.s2 j else (a.at' ⟨j.val - 1, by omega⟩ (a.s2 j)).next
/-- Chunk `j`. -/
def x (j : Fin 64) : X := a.at' j (a.S j)
/-- The chunk of trip `n`, the last chunk first. -/
def back (n : ℕ) : Fin 64 := ⟨63 - n, by omega⟩
/-- The cotangent of the state after `n` trips. -/
def dS : ℕ → Fin 8 → Fin 128 → Fin 256 → EReal
  | 0 => fun _ _ _ => 0
  | n + 1 => (a.x (back n)).dS' (dS n)
/-- The cotangent of the norm's weight after `n` trips. -/
def dn : ℕ → Fin 8 → Fin 256 → EReal
  | 0 => fun _ _ => 0
  | n + 1 => fun h e => dn n h e + (a.x (back n)).dnw h e
/-- The cotangent of the state after chunk `j`. -/
def dSof (j : Fin 64) : Fin 8 → Fin 128 → Fin 256 → EReal := a.dS (63 - j.val)

/-- The cotangent of the queries. -/
def gq (h : Fin 8) (r : Fin 4096) (d : Fin 128) : EReal := (a.x (chunkOf r)).dq h (placeOf r) d
/-- The cotangent of the keys `w`. -/
def gw (h : Fin 8) (r : Fin 4096) (d : Fin 128) : EReal := (a.x (chunkOf r)).dw (a.dSof (chunkOf r)) h (placeOf r) d
/-- The cotangent of the values `u`. -/
def gu (h : Fin 8) (r : Fin 4096) (e : Fin 256) : EReal := (a.x (chunkOf r)).du (a.dSof (chunkOf r)) h (placeOf r) e
/-- The cotangent of the scores. -/
def gqk (h : Fin 8) (r : Fin 4096) (k : Fin 64) : EReal := (a.x (chunkOf r)).dqk h (placeOf r) k
/-- The cotangent of the decayed keys. -/
def gkd (h : Fin 8) (r : Fin 4096) (d : Fin 128) : EReal := (a.x (chunkOf r)).dkd (a.dSof (chunkOf r)) h (placeOf r) d
/-- The cotangent of the log decays: a chunk's last token has it. -/
def gg (h : Fin 8) (r : Fin 4096) : EReal :=
  if placeOf r = 63 then (a.x (chunkOf r)).dgl (a.dSof (chunkOf r)) h else 0
/-- The cotangent of the gate's input. -/
def gz (r : Fin 4096) (c : Fin 2048) : EReal := (a.x (chunkOf r)).dz (headOf c) (placeOf r) (coordOf c)
/-- The cotangent of the norm's weight. -/
def gn (c : Fin 2048) : EReal := a.dn 64 (headOf c) (coordOf c)

/-- Two trips at once, as a grid point of the kernel makes them. -/
theorem dS_two (n : ℕ) : a.dS (n + 2) = (a.x (back (n + 1))).dS' ((a.x (back n)).dS' (a.dS n)) := rfl
/-- The norm's weight over two trips: the chunks' parts may be added first. -/
theorem dn_two (n : ℕ) (h : Fin 8) (e : Fin 256) :
    a.dn (n + 2) h e = a.dn n h e + ((a.x (back n)).dnw h e + (a.x (back (n + 1))).dnw h e) := by
  show (a.dn n h e + _) + _ = _
  rw [add_assoc]

end Arr

end Cert.Gdn

end
-- ==== Proof.GdnPoint.lean ====
module

public import proofs.«01_k».proof.Proof.GdnBridge
public import proofs.«01_k».proof.Proof.GdnArr
public import proofs.«01_k».proof.Proof.Gen.KernelIdeal.Value
public import Idealize.ShloMosaic.Lib.Pipeline.ValueKit.Geometry

/-!
# The kernel's arrays

The blocks of grid point `t` are those of the chunks `62 - 2t` and `63 - 2t`; what the points carry is what the trips
leave; and the arrays that they write back are the call's gradient.
-/

@[expose] public section
noncomputable section
namespace Cert.GdnPoint
open Idealize.ShloMosaic Cert.KernelIdeal Cert.KernelIdeal.Gen Cert.Gdn Cert.GdnVec Cert.GdnBridge
open Idealize.ShloMosaic.TcCoe

variable (m : (b : Loc nD τ sig) → Buf (Elt Ideal) b) (c : Dev nD)

/-- The arguments, read at indices. -/
def arr : Arr where
  q h r d := m ((c.tc : Thread nD τ).loc main_arg0) (ix3 h r d)
  w h r d := m ((c.tc : Thread nD τ).loc main_arg1) (ix3 h r d)
  u h r e := m ((c.tc : Thread nD τ).loc main_arg2) (ix3 h r e)
  qk h r k := m ((c.tc : Thread nD τ).loc main_arg3) (ix3 h r k)
  kd h r d := m ((c.tc : Thread nD τ).loc main_arg4) (ix3 h r d)
  gc h r := m ((c.tc : Thread nD τ).loc main_arg5) (ix3 h r 0)
  z r k := m ((c.tc : Thread nD τ).loc main_arg6) (ix2 r k)
  nw k := m ((c.tc : Thread nD τ).loc main_arg7) (ix2 0 k)
  s p h d e := m ((c.tc : Thread nD τ).loc main_arg8) (ix4 p h d e)
  co r k := m ((c.tc : Thread nD τ).loc main_arg9) (ix2 r k)

/-- The token at row `r` of point `t`'s block. -/
def prow (t : Fin cfg0.N) (r : Fin 128) : Fin 4096 := ⟨128 * (31 - t.val) + r.val, by have := t.isLt; have : cfg0.N = 32 := N_0; omega⟩

theorem ei0 : ∀ t : Fin cfg0.N, win0_0.index t = ![0, 31 - t.val, 0] := (by decide +kernel : ∀ t : Fin grid0.N, _)
/-- Window 0's block. -/
theorem blk0 (t : Fin cfg0.N) (h : Fin 8) (r : Fin 128) (d : Fin 128) :
    (iblk m c 0 t : Vec Ideal S8x128x128 .f32) (ix3 h r d) = m ((c.tc : Thread nD τ).loc main_arg0) (ix3 h (prow t r) d) := by
  blk_simp [iblk, ei0]
  refine congrArg (m ((c.tc : Thread nD τ).loc main_arg0)) ?_
  blk_ext [ei0, prow]

theorem ei1 : ∀ t : Fin cfg0.N, win0_1.index t = ![0, 31 - t.val, 0] := (by decide +kernel : ∀ t : Fin grid0.N, _)
/-- Window 1's block. -/
theorem blk1 (t : Fin cfg0.N) (h : Fin 8) (r : Fin 128) (d : Fin 128) :
    (iblk m c 1 t : Vec Ideal S8x128x128 .f32) (ix3 h r d) = m ((c.tc : Thread nD τ).loc main_arg1) (ix3 h (prow t r) d) := by
  blk_simp [iblk, ei1]
  refine congrArg (m ((c.tc : Thread nD τ).loc main_arg1)) ?_
  blk_ext [ei1, prow]

theorem ei2 : ∀ t : Fin cfg0.N, win0_2.index t = ![0, 31 - t.val, 0] := (by decide +kernel : ∀ t : Fin grid0.N, _)
/-- Window 2's block. -/
theorem blk2 (t : Fin cfg0.N) (h : Fin 8) (r : Fin 128) (d : Fin 256) :
    (iblk m c 2 t : Vec Ideal S8x128x256 .f32) (ix3 h r d) = m ((c.tc : Thread nD τ).loc main_arg2) (ix3 h (prow t r) d) := by
  blk_simp [iblk, ei2]
  refine congrArg (m ((c.tc : Thread nD τ).loc main_arg2)) ?_
  blk_ext [ei2, prow]

theorem ei3 : ∀ t : Fin cfg0.N, win0_3.index t = ![0, 31 - t.val, 0] := (by decide +kernel : ∀ t : Fin grid0.N, _)
/-- Window 3's block. -/
theorem blk3 (t : Fin cfg0.N) (h : Fin 8) (r : Fin 128) (d : Fin 64) :
    (iblk m c 3 t : Vec Ideal S8x128x64 .f32) (ix3 h r d) = m ((c.tc : Thread nD τ).loc main_arg3) (ix3 h (prow t r) d) := by
  blk_simp [iblk, ei3]
  refine congrArg (m ((c.tc : Thread nD τ).loc main_arg3)) ?_
  blk_ext [ei3, prow]

theorem ei4 : ∀ t : Fin cfg0.N, win0_4.index t = ![0, 31 - t.val, 0] := (by decide +kernel : ∀ t : Fin grid0.N, _)
/-- Window 4's block. -/
theorem blk4 (t : Fin cfg0.N) (h : Fin 8) (r : Fin 128) (d : Fin 128) :
    (iblk m c 4 t : Vec Ideal S8x128x128 .f32) (ix3 h r d) = m ((c.tc : Thread nD τ).loc main_arg4) (ix3 h (prow t r) d) := by
  blk_simp [iblk, ei4]
  refine congrArg (m ((c.tc : Thread nD τ).loc main_arg4)) ?_
  blk_ext [ei4, prow]

theorem ei5 : ∀ t : Fin cfg0.N, win0_5.index t = ![0, 31 - t.val, 0] := (by decide +kernel : ∀ t : Fin grid0.N, _)
/-- Window 5's block. -/
theorem blk5 (t : Fin cfg0.N) (h : Fin 8) (r : Fin 128) (d : Fin 1) :
    (iblk m c 5 t : Vec Ideal S8x128x1 .f32) (ix3 h r d) = m ((c.tc : Thread nD τ).loc main_arg5) (ix3 h (prow t r) d) := by
  blk_simp [iblk, ei5]
  refine congrArg (m ((c.tc : Thread nD τ).loc main_arg5)) ?_
  blk_ext [ei5, prow]

theorem ei6 : ∀ t : Fin cfg0.N, win0_6.index t = ![31 - t.val, 0] := (by decide +kernel : ∀ t : Fin grid0.N, _)
/-- Window 6's block. -/
theorem blk6 (t : Fin cfg0.N) (r : Fin 128) (k : Fin 2048) :
    (iblk m c 6 t : Vec Ideal S128x2048 .f32) (ix2 r k) = m ((c.tc : Thread nD τ).loc main_arg6) (ix2 (prow t r) k) := by
  blk_simp [iblk, ei6]
  refine congrArg (m ((c.tc : Thread nD τ).loc main_arg6)) ?_
  blk_ext [ei6, prow]

theorem ei7 : ∀ t : Fin cfg0.N, win0_7.index t = ![0, 0] := (by decide +kernel : ∀ t : Fin grid0.N, _)
/-- Window 7's block. -/
theorem blk7 (t : Fin cfg0.N) (k : Fin 2048) :
    (iblk m c 7 t : Vec Ideal S1x2048 .f32) (ix2 0 k) = m ((c.tc : Thread nD τ).loc main_arg7) (ix2 0 k) := by
  blk_simp [iblk, ei7]
  refine congrArg (m ((c.tc : Thread nD τ).loc main_arg7)) ?_
  blk_ext [ei7]

theorem ei8 : ∀ t : Fin cfg0.N, win0_8.index t = ![31 - t.val, 0, 0, 0] := (by decide +kernel : ∀ t : Fin grid0.N, _)
/-- Window 8's block. -/
theorem blk8 (t : Fin cfg0.N) (h : Fin 8) (d : Fin 128) (e : Fin 256) :
    (iblk m c 8 t : Vec Ideal S1x8x128x256 .f32) (ix4 0 h d e) = m ((c.tc : Thread nD τ).loc main_arg8) (ix4 ⟨31 - t.val, by omega⟩ h d e) := by
  blk_simp [iblk, ei8]
  refine congrArg (m ((c.tc : Thread nD τ).loc main_arg8)) ?_
  blk_ext [ei8]

theorem ei9 : ∀ t : Fin cfg0.N, win0_9.index t = ![31 - t.val, 0] := (by decide +kernel : ∀ t : Fin grid0.N, _)
/-- Window 9's block. -/
theorem blk9 (t : Fin cfg0.N) (r : Fin 128) (k : Fin 2048) :
    (iblk m c 9 t : Vec Ideal S128x2048 .f32) (ix2 r k) = m ((c.tc : Thread nD τ).loc main_arg9) (ix2 (prow t r) k) := by
  blk_simp [iblk, ei9]
  refine congrArg (m ((c.tc : Thread nD τ).loc main_arg9)) ?_
  blk_ext [ei9, prow]

/-- The chunks of grid point `t`. -/
def j0 (t : Fin cfg0.N) : Fin 64 := Arr.back (2 * t.val + 1)
def j1 (t : Fin cfg0.N) : Fin 64 := Arr.back (2 * t.val)

theorem prow0 (t : Fin cfg0.N) (i : Fin 64) (h : i.val < 128) : prow t ⟨i.val, h⟩ = row (j0 t) i :=
  Fin.ext (by have := t.isLt; have : cfg0.N = 32 := N_0; simp only [prow, row, j0, Arr.back]; omega)
theorem prow1 (t : Fin cfg0.N) (i : Fin 64) (h : 64 + i.val < 128) : prow t ⟨64 + i.val, h⟩ = row (j1 t) i :=
  Fin.ext (by have := t.isLt; have : cfg0.N = 32 := N_0; simp only [prow, row, j1, Arr.back]; omega)

/-- The first chunk of the point's blocks. -/
def C0 (t : Fin cfg0.N) : V := c0 (iblk m c 0 t) (iblk m c 1 t) (iblk m c 2 t) (iblk m c 3 t) (iblk m c 4 t) (iblk m c 5 t) (iblk m c 6 t) (iblk m c 7 t) (iblk m c 8 t) (iblk m c 9 t)
/-- The second chunk of the point's blocks. -/
def C1 (t : Fin cfg0.N) : V := c1 (iblk m c 0 t) (iblk m c 1 t) (iblk m c 2 t) (iblk m c 3 t) (iblk m c 4 t) (iblk m c 5 t) (iblk m c 6 t) (iblk m c 7 t) (iblk m c 8 t) (iblk m c 9 t)

theorem s0 (t : Fin cfg0.N) : (arr m c).S (j0 t) = (arr m c).s2 (j0 t) :=
  if_pos (by have := t.isLt; have : cfg0.N = 32 := N_0; simp only [j0, Arr.back]; omega)

theorem s1 (t : Fin cfg0.N) : (arr m c).S (j1 t) = ((arr m c).x (j0 t)).next := by
  have ht := t.isLt
  have hN : cfg0.N = 32 := N_0
  refine (if_neg (by simp only [j1, Arr.back]; omega)).trans ?_
  have e1 : (⟨(j1 t).val - 1, by omega⟩ : Fin 64) = j0 t := Fin.ext (by simp only [j0, j1, Arr.back]; omega)
  have e2 : (arr m c).s2 (j1 t) = (arr m c).s2 (j0 t) := by
    unfold Arr.s2
    exact congrArg (arr m c).s (Fin.ext (by simp only [j0, j1, Arr.back]; omega))
  unfold Arr.x
  rw [e1, e2, s0]

/-- The state's block is the state given for the pair of chunks. -/
theorem sblk (t : Fin cfg0.N) (h : Fin 8) (d : Fin 128) (e : Fin 256) :
    (iblk m c 8 t : Vec Ideal S1x8x128x256 .f32) (ix4 0 h d e) = (arr m c).s2 (j0 t) h d e := by
  refine (blk8 m c t h d e).trans ?_
  unfold Arr.s2
  exact congrArg (fun p => (arr m c).s p h d e) (Fin.ext (by have := t.isLt; have : cfg0.N = 32 := N_0; simp only [j0, Arr.back]; omega))

/-- The point's first chunk. -/
theorem x0 (t : Fin cfg0.N) : (C0 m c t).x = (arr m c).x (j0 t) := by
  unfold Arr.x
  rw [s0]
  apply X.ext
  · funext h i d
    show (C0 m c t).q (ix3 h i d) = (arr m c).q h (row (j0 t) i) d
    unfold C0 c0
    pointwise
    refine (blk0 m c t h _ d).trans ?_
    rw [prow0]
    rfl
  · funext h i d
    show (C0 m c t).w (ix3 h i d) = (arr m c).w h (row (j0 t) i) d
    unfold C0 c0
    pointwise
    refine (blk1 m c t h _ d).trans ?_
    rw [prow0]
    rfl
  · funext h i d
    show (C0 m c t).u (ix3 h i d) = (arr m c).u h (row (j0 t) i) d
    unfold C0 c0
    pointwise
    refine (blk2 m c t h _ d).trans ?_
    rw [prow0]
    rfl
  · funext h i d
    show (C0 m c t).qk (ix3 h i d) = (arr m c).qk h (row (j0 t) i) d
    unfold C0 c0
    pointwise
    refine (blk3 m c t h _ d).trans ?_
    rw [prow0]
    rfl
  · funext h i d
    show (C0 m c t).kd (ix3 h i d) = (arr m c).kd h (row (j0 t) i) d
    unfold C0 c0
    pointwise
    refine (blk4 m c t h _ d).trans ?_
    rw [prow0]
    rfl
  · funext h
    show (C0 m c t).gc (ix3 h 63 0) = (arr m c).gc h (row (j0 t) 63)
    unfold C0 c0
    pointwise
    refine (blk5 m c t h _ 0).trans ?_
    exact congrArg (fun r => (arr m c).gc h r) (prow0 t 63 (by decide))
  · funext i k
    show (C0 m c t).z (ix2 i k) = (arr m c).z (row (j0 t) i) k
    unfold C0 c0
    pointwise
    refine (blk6 m c t _ k).trans ?_
    rw [prow0]
    rfl
  · funext k
    exact blk7 m c t k
  · funext i k
    show (C0 m c t).co (ix2 i k) = (arr m c).co (row (j0 t) i) k
    unfold C0 c0
    pointwise
    refine (blk9 m c t _ k).trans ?_
    rw [prow0]
    rfl
  · funext h d e
    show (C0 m c t).S (ix3 h d e) = (arr m c).s2 (j0 t) h d e
    unfold C0 c0
    pointwise
    exact sblk m c t h d e
/-- The point's second chunk. -/
theorem x1 (t : Fin cfg0.N) : (C1 m c t).x = (arr m c).x (j1 t) := by
  unfold Arr.x
  rw [s1]
  apply X.ext
  · funext h i d
    show (C1 m c t).q (ix3 h i d) = (arr m c).q h (row (j1 t) i) d
    unfold C1 c1
    pointwise
    refine (blk0 m c t h _ d).trans ?_
    rw [prow1]
    rfl
  · funext h i d
    show (C1 m c t).w (ix3 h i d) = (arr m c).w h (row (j1 t) i) d
    unfold C1 c1
    pointwise
    refine (blk1 m c t h _ d).trans ?_
    rw [prow1]
    rfl
  · funext h i d
    show (C1 m c t).u (ix3 h i d) = (arr m c).u h (row (j1 t) i) d
    unfold C1 c1
    pointwise
    refine (blk2 m c t h _ d).trans ?_
    rw [prow1]
    rfl
  · funext h i d
    show (C1 m c t).qk (ix3 h i d) = (arr m c).qk h (row (j1 t) i) d
    unfold C1 c1
    pointwise
    refine (blk3 m c t h _ d).trans ?_
    rw [prow1]
    rfl
  · funext h i d
    show (C1 m c t).kd (ix3 h i d) = (arr m c).kd h (row (j1 t) i) d
    unfold C1 c1
    pointwise
    refine (blk4 m c t h _ d).trans ?_
    rw [prow1]
    rfl
  · funext h
    show (C1 m c t).gc (ix3 h 63 0) = (arr m c).gc h (row (j1 t) 63)
    unfold C1 c1
    pointwise
    refine (blk5 m c t h _ 0).trans ?_
    exact congrArg (fun r => (arr m c).gc h r) (prow1 t 63 (by decide))
  · funext i k
    show (C1 m c t).z (ix2 i k) = (arr m c).z (row (j1 t) i) k
    unfold C1 c1
    pointwise
    refine (blk6 m c t _ k).trans ?_
    rw [prow1]
    rfl
  · funext k
    exact blk7 m c t k
  · funext i k
    show (C1 m c t).co (ix2 i k) = (arr m c).co (row (j1 t) i) k
    unfold C1 c1
    pointwise
    refine (blk9 m c t _ k).trans ?_
    rw [prow1]
    rfl
  · funext h d e
    show (C0 m c t).next (ix3 h d e) = _
    rw [next_apply, x0]
    rfl

/-- What a point leaves in its windows and in the carried scratch, from the carried cotangent and row. -/
def outs (t : Fin cfg0.N) (d : FVec Ideal S8x128x256 .f32) (xo : Vec Ideal S1x2048 .f32) :
    Vec Ideal S8x128x128 .f32 × Vec Ideal S8x128x128 .f32 × Vec Ideal S8x128x256 .f32 × Vec Ideal S8x128x64 .f32 × Vec Ideal S8x128x128 .f32
      × Vec Ideal S8x128x1 .f32 × Vec Ideal S128x2048 .f32 × Vec Ideal S1x2048 .f32 × Vec Ideal S8x128x256 .f32 :=
  (two128 (C1 m c t).dq (C0 m c t).dq,
   two128 ((C1 m c t).dw d) ((C0 m c t).dw ((C1 m c t).dS' d)),
   two256 ((C1 m c t).du d) ((C0 m c t).du ((C1 m c t).dS' d)),
   two64 (C1 m c t).dqk (C0 m c t).dqk,
   two128 ((C1 m c t).dkd d) ((C0 m c t).dkd ((C1 m c t).dS' d)),
   two1 ((C1 m c t).dgl d) ((C0 m c t).dgl ((C1 m c t).dS' d)),
   twoZ (C1 m c t).dz (C0 m c t).dz,
   accN xo (C1 m c t).dnw (C0 m c t).dnw,
   rd3 ((C0 m c t).dS' ((C1 m c t).dS' d)))

theorem outs_A (t : Fin cfg0.N) (h0 : t.val % 32 = 0) : outsAt0 m c t.val t.isLt = outs m c t (rd3 zS) zN := by
  refine (outsAt0_A m c t h0).trans ?_
  simp only [outA_10, outA_11, outA_12, outA_13, outA_14, outA_15, outA_16, outA_17, soutA_0]
  rfl
theorem outs_B (t : Fin cfg0.N) (h0 : ¬t.val % 32 = 0) :
    outsAt0 m c t.val t.isLt = outs m c t (rd3 (outsAt0 m c (t.val - 1) (by omega)).2.2.2.2.2.2.2.2) (outsAt0 m c (t.val - 1) (by omega)).2.2.2.2.2.2.2.1 := by
  refine (outsAt0_B m c t h0).trans ?_
  simp only [outB_10, outB_11, outB_12, outB_13, outB_14, outB_15, outB_16, outB_17, soutB_0]
  rfl

theorem st_dS' (v : V) (d : FVec Ideal S8x128x256 .f32) : st (v.dS' d) = v.x.dS' (st d) := by
  funext h e k; exact dS'_apply v d h e k

/-- What the points carry is what the trips leave. -/
theorem inv : ∀ (n : ℕ) (hn : n < cfg0.N),
    st (rd3 (outsAt0 m c n hn).2.2.2.2.2.2.2.2) = (arr m c).dS (2 * (n + 1)) ∧
    ∀ h e, ((outsAt0 m c n hn).2.2.2.2.2.2.2.1 : Vec Ideal S1x2048 .f32) (ix2 0 (col h e)) = (arr m c).dn (2 * (n + 1)) h e := by
  have step : ∀ (t : Fin cfg0.N) (d : FVec Ideal S8x128x256 .f32) (xo : Vec Ideal S1x2048 .f32),
      st d = (arr m c).dS (2 * t.val) → (∀ h e, xo (ix2 0 (col h e)) = (arr m c).dn (2 * t.val) h e) →
      st (rd3 (outs m c t d xo).2.2.2.2.2.2.2.2) = (arr m c).dS (2 * (t.val + 1)) ∧
      ∀ h e, ((outs m c t d xo).2.2.2.2.2.2.2.1 : Vec Ideal S1x2048 .f32) (ix2 0 (col h e)) = (arr m c).dn (2 * (t.val + 1)) h e := by
    intro t d xo hd hx
    constructor
    · show st (rd3 (rd3 ((C0 m c t).dS' ((C1 m c t).dS' d)))) = _
      unfold rd3
      rw [shapeCast_self, shapeCast_self, st_dS', st_dS', x0, x1, hd]
      rfl
    · intro h e
      show accN xo (C1 m c t).dnw (C0 m c t).dnw (ix2 0 (col h e)) = _
      unfold accN
      rw [shapeCast_self]
      show xo (ix2 0 (col h e)) + ((C1 m c t).dnw (ix2 0 (col h e)) + (C0 m c t).dnw (ix2 0 (col h e))) = _
      rw [dnw_apply, dnw_apply, x0, x1, hx]
      exact (Arr.dn_two (arr m c) (2 * t.val) h e).symm
  intro n
  induction n with
  | zero =>
    intro hn
    have := step ⟨0, hn⟩ (rd3 zS) zN (by funext h d e; unfold st rd3; rw [shapeCast_self]; unfold zS; pointwise; rfl)
      (by intro h e; unfold zN; pointwise; rfl)
    rw [outs_A m c ⟨0, hn⟩ rfl]
    exact this
  | succ n ih =>
    intro hn
    have hN : cfg0.N = 32 := N_0
    have h := ih (Nat.lt_of_succ_lt hn)
    have := step ⟨n + 1, hn⟩ _ _ h.1 h.2
    rw [outs_B m c ⟨n + 1, hn⟩ (by show ¬(n + 1) % 32 = 0; omega)]
    exact this

/-- So a point's windows hold the functions of the carried values of the trips before it. -/
theorem outs_eq (t : Fin cfg0.N) : ∃ d xo, st d = (arr m c).dS (2 * t.val) ∧ outsAt0 m c t.val t.isLt = outs m c t d xo := by
  have hN : cfg0.N = 32 := N_0
  have ht := t.isLt
  by_cases h0 : t.val % 32 = 0
  · refine ⟨_, _, ?_, outs_A m c t h0⟩
    have : t.val = 0 := by omega
    rw [this]
    funext h d e; unfold st rd3; rw [shapeCast_self]; unfold zS; pointwise; rfl
  · refine ⟨_, _, ?_, outs_B m c t h0⟩
    rw [(inv m c (t.val - 1) (by omega)).1]
    congr 1
    omega

theorem dsof1 (t : Fin cfg0.N) : (arr m c).dSof (j1 t) = (arr m c).dS (2 * t.val) := by
  have ht := t.isLt
  have hN : cfg0.N = 32 := N_0
  unfold Arr.dSof
  congr 1
  simp only [j1, Arr.back]; omega
theorem dsof0 (t : Fin cfg0.N) : (arr m c).dSof (j0 t) = ((arr m c).x (j1 t)).dS' ((arr m c).dS (2 * t.val)) := by
  have ht := t.isLt
  have hN : cfg0.N = 32 := N_0
  refine Eq.trans ?_ (rfl : (arr m c).dS (2 * t.val + 1) = _)
  unfold Arr.dSof
  congr 1
  simp only [j0, Arr.back]; omega

theorem two128_lo (b a : FVec Ideal S8x64x128 .f32) (h : Fin 8) (r : Fin 128) (hr : r.val < 64) (d : Fin 128) :
    two128 b a (ix3 h r d) = a (ix3 h ⟨r.val, hr⟩ d) := by

  unfold two128
  pointwise
  simp only [dif_pos hr]
  exact zero_add _
theorem two128_hi (b a : FVec Ideal S8x64x128 .f32) (h : Fin 8) (r : Fin 128) (hr : ¬r.val < 64) (d : Fin 128) :
    two128 b a (ix3 h r d) = b (ix3 h ⟨r.val - 64, by omega⟩ d) := by

  unfold two128
  pointwise
  simp only [dif_neg hr]
  exact add_zero _

theorem two256_lo (b a : FVec Ideal S8x64x256 .f32) (h : Fin 8) (r : Fin 128) (hr : r.val < 64) (d : Fin 256) :
    two256 b a (ix3 h r d) = a (ix3 h ⟨r.val, hr⟩ d) := by

  unfold two256
  pointwise
  simp only [dif_pos hr]
  exact zero_add _
theorem two256_hi (b a : FVec Ideal S8x64x256 .f32) (h : Fin 8) (r : Fin 128) (hr : ¬r.val < 64) (d : Fin 256) :
    two256 b a (ix3 h r d) = b (ix3 h ⟨r.val - 64, by omega⟩ d) := by

  unfold two256
  pointwise
  simp only [dif_neg hr]
  exact add_zero _

theorem two64_lo (b a : FVec Ideal S8x64x64 .f32) (h : Fin 8) (r : Fin 128) (hr : r.val < 64) (d : Fin 64) :
    two64 b a (ix3 h r d) = a (ix3 h ⟨r.val, hr⟩ d) := by

  unfold two64
  pointwise
  simp only [dif_pos hr]
  exact zero_add _
theorem two64_hi (b a : FVec Ideal S8x64x64 .f32) (h : Fin 8) (r : Fin 128) (hr : ¬r.val < 64) (d : Fin 64) :
    two64 b a (ix3 h r d) = b (ix3 h ⟨r.val - 64, by omega⟩ d) := by

  unfold two64
  pointwise
  simp only [dif_neg hr]
  exact add_zero _

theorem two1_lo (b a : FVec Ideal S8x64x1 .f32) (h : Fin 8) (r : Fin 128) (hr : r.val < 64) (d : Fin 1) :
    two1 b a (ix3 h r d) = a (ix3 h ⟨r.val, hr⟩ d) := by
  obtain rfl : d = 0 := Subsingleton.elim _ _
  unfold two1
  pointwise
  simp only [dif_pos hr]
  exact zero_add _
theorem two1_hi (b a : FVec Ideal S8x64x1 .f32) (h : Fin 8) (r : Fin 128) (hr : ¬r.val < 64) (d : Fin 1) :
    two1 b a (ix3 h r d) = b (ix3 h ⟨r.val - 64, by omega⟩ d) := by
  obtain rfl : d = 0 := Subsingleton.elim _ _
  unfold two1
  pointwise
  simp only [dif_neg hr]
  exact add_zero _

theorem twoZ_lo (b a : FVec Ideal S64x2048 .f32) (r : Fin 128) (hr : r.val < 64) (k : Fin 2048) :
    twoZ b a (ix2 r k) = a (ix2 ⟨r.val, hr⟩ k) := by
  unfold twoZ
  pointwise
  simp only [dif_pos hr]
  exact zero_add _
theorem twoZ_hi (b a : FVec Ideal S64x2048 .f32) (r : Fin 128) (hr : ¬r.val < 64) (k : Fin 2048) :
    twoZ b a (ix2 r k) = b (ix2 ⟨r.val - 64, by omega⟩ k) := by
  unfold twoZ
  pointwise
  simp only [dif_neg hr]
  exact add_zero _

/-- A token of the point's block is one of the first chunk or one of the second. -/
theorem prow_lo (t : Fin cfg0.N) (r : Fin 128) (hr : r.val < 64) : prow t r = row (j0 t) ⟨r.val, hr⟩ :=
  prow0 t ⟨r.val, hr⟩ r.isLt
theorem prow_hi (t : Fin cfg0.N) (r : Fin 128) (hr : ¬r.val < 64) : prow t r = row (j1 t) ⟨r.val - 64, by omega⟩ :=
  (congrArg (prow t) (Fin.ext (by show r.val = 64 + (r.val - 64); omega))).trans (prow1 t ⟨r.val - 64, by omega⟩ (by show 64 + (r.val - 64) < 128; omega))

/-- Window 10's array at a point's block. -/
theorem point10 (t : Fin cfg0.N) (h : Fin 8) (r : Fin 128) (d : Fin 128) :
    ((outsAt0 m c t.val t.isLt).1) (ix3 h r d) = (arr m c).gq h (prow t r) d := by
  obtain ⟨dd, xo, hd, ho⟩ := outs_eq m c t
  rw [ho]
  unfold outs
  dsimp only
  by_cases hr : r.val < 64
  · rw [two128_lo _ _ h r hr]
    rw [dq_apply, x0, prow_lo t r hr]
    unfold Arr.gq
    rw [chunkOf_row, placeOf_row]
  · rw [two128_hi _ _ h r hr]
    rw [dq_apply, x1, prow_hi t r hr]
    unfold Arr.gq
    rw [chunkOf_row, placeOf_row]
theorem eo10 : ∀ t : Fin cfg0.N, win0_10.index t = ![0, 31 - t.val, 0] := (by decide +kernel : ∀ t : Fin grid0.N, _)
/-- Window 10's array after the run. -/
theorem final10 : (dats m 0 c).arrAt 10 cfg0.N = (fun y : S8x4096x128.Idx => (arr m c).gq (y 0) (y 1) (y 2)) := by
  refine (dats m 0 c).arrAt_eq_of_covers 10 _ (by decide +kernel) fun t hf y => ?_
  blk_simp
  rw [after0_10]
  obtain ⟨h, r, d, rfl⟩ : ∃ (h : Fin 8) (r : Fin 128) (d : Fin 128), y = (ix3 h r d) := ⟨y 0, y 1, y 2, eq_ix3 y⟩
  have e : (win0_10.blk t).view.emb (ix3 h r d) = (ix3 h (prow t r) d) := by blk_ext [eo10, prow]
  rw [e]
  exact point10 m c t h r d

/-- Window 11's array at a point's block. -/
theorem point11 (t : Fin cfg0.N) (h : Fin 8) (r : Fin 128) (d : Fin 128) :
    ((outsAt0 m c t.val t.isLt).2.1) (ix3 h r d) = (arr m c).gw h (prow t r) d := by
  obtain ⟨dd, xo, hd, ho⟩ := outs_eq m c t
  rw [ho]
  unfold outs
  dsimp only
  by_cases hr : r.val < 64
  · rw [two128_lo _ _ h r hr]
    rw [dw_apply, x0, st_dS', x1, hd, prow_lo t r hr]
    unfold Arr.gw
    rw [chunkOf_row, placeOf_row, dsof0]
  · rw [two128_hi _ _ h r hr]
    rw [dw_apply, x1, hd, prow_hi t r hr]
    unfold Arr.gw
    rw [chunkOf_row, placeOf_row, dsof1]
theorem eo11 : ∀ t : Fin cfg0.N, win0_11.index t = ![0, 31 - t.val, 0] := (by decide +kernel : ∀ t : Fin grid0.N, _)
/-- Window 11's array after the run. -/
theorem final11 : (dats m 0 c).arrAt 11 cfg0.N = (fun y : S8x4096x128.Idx => (arr m c).gw (y 0) (y 1) (y 2)) := by
  refine (dats m 0 c).arrAt_eq_of_covers 11 _ (by decide +kernel) fun t hf y => ?_
  blk_simp
  rw [after0_11]
  obtain ⟨h, r, d, rfl⟩ : ∃ (h : Fin 8) (r : Fin 128) (d : Fin 128), y = (ix3 h r d) := ⟨y 0, y 1, y 2, eq_ix3 y⟩
  have e : (win0_11.blk t).view.emb (ix3 h r d) = (ix3 h (prow t r) d) := by blk_ext [eo11, prow]
  rw [e]
  exact point11 m c t h r d

/-- Window 12's array at a point's block. -/
theorem point12 (t : Fin cfg0.N) (h : Fin 8) (r : Fin 128) (d : Fin 256) :
    ((outsAt0 m c t.val t.isLt).2.2.1) (ix3 h r d) = (arr m c).gu h (prow t r) d := by
  obtain ⟨dd, xo, hd, ho⟩ := outs_eq m c t
  rw [ho]
  unfold outs
  dsimp only
  by_cases hr : r.val < 64
  · rw [two256_lo _ _ h r hr]
    rw [du_apply, x0, st_dS', x1, hd, prow_lo t r hr]
    unfold Arr.gu
    rw [chunkOf_row, placeOf_row, dsof0]
  · rw [two256_hi _ _ h r hr]
    rw [du_apply, x1, hd, prow_hi t r hr]
    unfold Arr.gu
    rw [chunkOf_row, placeOf_row, dsof1]
theorem eo12 : ∀ t : Fin cfg0.N, win0_12.index t = ![0, 31 - t.val, 0] := (by decide +kernel : ∀ t : Fin grid0.N, _)
/-- Window 12's array after the run. -/
theorem final12 : (dats m 0 c).arrAt 12 cfg0.N = (fun y : S8x4096x256.Idx => (arr m c).gu (y 0) (y 1) (y 2)) := by
  refine (dats m 0 c).arrAt_eq_of_covers 12 _ (by decide +kernel) fun t hf y => ?_
  blk_simp
  rw [after0_12]
  obtain ⟨h, r, d, rfl⟩ : ∃ (h : Fin 8) (r : Fin 128) (d : Fin 256), y = (ix3 h r d) := ⟨y 0, y 1, y 2, eq_ix3 y⟩
  have e : (win0_12.blk t).view.emb (ix3 h r d) = (ix3 h (prow t r) d) := by blk_ext [eo12, prow]
  rw [e]
  exact point12 m c t h r d

/-- Window 13's array at a point's block. -/
theorem point13 (t : Fin cfg0.N) (h : Fin 8) (r : Fin 128) (d : Fin 64) :
    ((outsAt0 m c t.val t.isLt).2.2.2.1) (ix3 h r d) = (arr m c).gqk h (prow t r) d := by
  obtain ⟨dd, xo, hd, ho⟩ := outs_eq m c t
  rw [ho]
  unfold outs
  dsimp only
  by_cases hr : r.val < 64
  · rw [two64_lo _ _ h r hr]
    rw [dqk_apply, x0, prow_lo t r hr]
    unfold Arr.gqk
    rw [chunkOf_row, placeOf_row]
  · rw [two64_hi _ _ h r hr]
    rw [dqk_apply, x1, prow_hi t r hr]
    unfold Arr.gqk
    rw [chunkOf_row, placeOf_row]
theorem eo13 : ∀ t : Fin cfg0.N, win0_13.index t = ![0, 31 - t.val, 0] := (by decide +kernel : ∀ t : Fin grid0.N, _)
/-- Window 13's array after the run. -/
theorem final13 : (dats m 0 c).arrAt 13 cfg0.N = (fun y : S8x4096x64.Idx => (arr m c).gqk (y 0) (y 1) (y 2)) := by
  refine (dats m 0 c).arrAt_eq_of_covers 13 _ (by decide +kernel) fun t hf y => ?_
  blk_simp
  rw [after0_13]
  obtain ⟨h, r, d, rfl⟩ : ∃ (h : Fin 8) (r : Fin 128) (d : Fin 64), y = (ix3 h r d) := ⟨y 0, y 1, y 2, eq_ix3 y⟩
  have e : (win0_13.blk t).view.emb (ix3 h r d) = (ix3 h (prow t r) d) := by blk_ext [eo13, prow]
  rw [e]
  exact point13 m c t h r d

/-- Window 14's array at a point's block. -/
theorem point14 (t : Fin cfg0.N) (h : Fin 8) (r : Fin 128) (d : Fin 128) :
    ((outsAt0 m c t.val t.isLt).2.2.2.2.1) (ix3 h r d) = (arr m c).gkd h (prow t r) d := by
  obtain ⟨dd, xo, hd, ho⟩ := outs_eq m c t
  rw [ho]
  unfold outs
  dsimp only
  by_cases hr : r.val < 64
  · rw [two128_lo _ _ h r hr]
    rw [dkd_apply, x0, st_dS', x1, hd, prow_lo t r hr]
    unfold Arr.gkd
    rw [chunkOf_row, placeOf_row, dsof0]
  · rw [two128_hi _ _ h r hr]
    rw [dkd_apply, x1, hd, prow_hi t r hr]
    unfold Arr.gkd
    rw [chunkOf_row, placeOf_row, dsof1]
theorem eo14 : ∀ t : Fin cfg0.N, win0_14.index t = ![0, 31 - t.val, 0] := (by decide +kernel : ∀ t : Fin grid0.N, _)
/-- Window 14's array after the run. -/
theorem final14 : (dats m 0 c).arrAt 14 cfg0.N = (fun y : S8x4096x128.Idx => (arr m c).gkd (y 0) (y 1) (y 2)) := by
  refine (dats m 0 c).arrAt_eq_of_covers 14 _ (by decide +kernel) fun t hf y => ?_
  blk_simp
  rw [after0_14]
  obtain ⟨h, r, d, rfl⟩ : ∃ (h : Fin 8) (r : Fin 128) (d : Fin 128), y = (ix3 h r d) := ⟨y 0, y 1, y 2, eq_ix3 y⟩
  have e : (win0_14.blk t).view.emb (ix3 h r d) = (ix3 h (prow t r) d) := by blk_ext [eo14, prow]
  rw [e]
  exact point14 m c t h r d

/-- Window 15's array at a point's block. -/
theorem point15 (t : Fin cfg0.N) (h : Fin 8) (r : Fin 128) (d : Fin 1) :
    ((outsAt0 m c t.val t.isLt).2.2.2.2.2.1) (ix3 h r d) = (arr m c).gg h (prow t r) := by
  obtain ⟨dd, xo, hd, ho⟩ := outs_eq m c t
  rw [ho]
  unfold outs
  dsimp only
  by_cases hr : r.val < 64
  · rw [two1_lo _ _ h r hr]
    obtain rfl : d = 0 := Subsingleton.elim _ _
    rw [dgl_apply, x0, st_dS', x1, hd, prow_lo t r hr]
    unfold Arr.gg
    rw [chunkOf_row, placeOf_row, dsof0]
  · rw [two1_hi _ _ h r hr]
    obtain rfl : d = 0 := Subsingleton.elim _ _
    rw [dgl_apply, x1, hd, prow_hi t r hr]
    unfold Arr.gg
    rw [chunkOf_row, placeOf_row, dsof1]
theorem eo15 : ∀ t : Fin cfg0.N, win0_15.index t = ![0, 31 - t.val, 0] := (by decide +kernel : ∀ t : Fin grid0.N, _)
/-- Window 15's array after the run. -/
theorem final15 : (dats m 0 c).arrAt 15 cfg0.N = (fun y : S8x4096x1.Idx => (arr m c).gg (y 0) (y 1)) := by
  refine (dats m 0 c).arrAt_eq_of_covers 15 _ (by decide +kernel) fun t hf y => ?_
  blk_simp
  rw [after0_15]
  obtain ⟨h, r, d, rfl⟩ : ∃ (h : Fin 8) (r : Fin 128) (d : Fin 1), y = (ix3 h r d) := ⟨y 0, y 1, y 2, eq_ix3 y⟩
  have e : (win0_15.blk t).view.emb (ix3 h r d) = (ix3 h (prow t r) d) := by blk_ext [eo15, prow]
  rw [e]
  exact point15 m c t h r d

/-- Window 16's array at a point's block. -/
theorem point16 (t : Fin cfg0.N) (r : Fin 128) (k : Fin 2048) :
    ((outsAt0 m c t.val t.isLt).2.2.2.2.2.2.1) (ix2 r k) = (arr m c).gz (prow t r) k := by
  obtain ⟨dd, xo, hd, ho⟩ := outs_eq m c t
  rw [ho]
  unfold outs
  dsimp only
  obtain ⟨hh, ee, rfl⟩ := exists_col k
  by_cases hr : r.val < 64
  · rw [twoZ_lo _ _ r hr]
    rw [dz_apply, x0, prow_lo t r hr]
    unfold Arr.gz
    rw [chunkOf_row, placeOf_row, headOf_col, coordOf_col]
  · rw [twoZ_hi _ _ r hr]
    rw [dz_apply, x1, prow_hi t r hr]
    unfold Arr.gz
    rw [chunkOf_row, placeOf_row, headOf_col, coordOf_col]
theorem eo16 : ∀ t : Fin cfg0.N, win0_16.index t = ![31 - t.val, 0] := (by decide +kernel : ∀ t : Fin grid0.N, _)
/-- Window 16's array after the run. -/
theorem final16 : (dats m 0 c).arrAt 16 cfg0.N = (fun y : S4096x2048.Idx => (arr m c).gz (y 0) (y 1)) := by
  refine (dats m 0 c).arrAt_eq_of_covers 16 _ (by decide +kernel) fun t hf y => ?_
  blk_simp
  rw [after0_16]
  obtain ⟨r, k, rfl⟩ : ∃ (r : Fin 128) (k : Fin 2048), y = (ix2 r k) := ⟨y 0, y 1, eq_ix2 y⟩
  have e : (win0_16.blk t).view.emb (ix2 r k) = (ix2 (prow t r) k) := by blk_ext [eo16, prow]
  rw [e]
  exact point16 m c t r k

/-- The last point. -/
def tLast : Fin cfg0.N := ⟨31, by decide⟩
/-- The row that the last point leaves. -/
theorem last17 (j : S1x2048.Idx) : ((outsAt0 m c tLast.val tLast.isLt).2.2.2.2.2.2.2.1 : Vec Ideal S1x2048 .f32) j = (arr m c).gn (j 1) := by
  obtain ⟨z, k, rfl⟩ : ∃ (z : Fin 1) (k : Fin 2048), j = ix2 z k := ⟨j 0, j 1, eq_ix2 j⟩
  obtain rfl : z = 0 := Subsingleton.elim _ _
  obtain ⟨h, e, rfl⟩ := exists_col k
  rw [(inv m c tLast.val tLast.isLt).2 h e]
  show (arr m c).dn 64 h e = (arr m c).dn 64 (headOf (col h e)) (coordOf (col h e))
  rw [headOf_col, coordOf_col]
/-- The last point's row is the gradient of the norm's weight. -/
theorem final17 : (dats m 0 c).arrAt 17 cfg0.N = (fun y : S1x2048.Idx => (arr m c).gn (y 1)) :=
  (dats m 0 c).arrAt_eq_of_after_last 17 tLast (by decide +kernel) _ fun j =>
    (congrFun (after0_17 m c tLast) j).trans (last17 m c j)

end Cert.GdnPoint
end
end
-- ==== Proof.GdnRef.lean ====
module

public import proofs.«01_k».proof.Proof.GdnArr
public import proofs.«01_k».proof.Proof.Gen.ReferenceIdeal.Step
public import Idealize.ShloMosaic.Lib.Pointwise
public import Idealize.ShloMosaic.Lib.DynamicIndex
public import Idealize.ShloMosaic.Lib.Pipeline.Value

/-!
# The reference's trips

A trip of the reference's loop is one chunk's gradient: every value that it computes, read at an index, is the chunk's
function of `GdnSpec`.
-/

@[expose] public section
noncomputable section
namespace Cert.GdnRef
open Idealize.ShloMosaic Cert.ReferenceIdeal Cert.ReferenceIdeal.Step Cert.Gdn

/-- A row of a stack of 64 read at a start that is a row of it. -/
theorem ds4 {α : Type} {A B C : ℕ} (x : (⟨4, ![64, A, B, C]⟩ : Shape).Idx → α) (st : Fin 4 → Int) (hf : (⟨4, ![64, A, B, C]⟩ : Shape).Slices (fun _ => 0) (⟨4, ![1, A, B, C]⟩ : Shape))
    (n : Fin 64) (h0 : st 0 = (n.val : Int)) (h1 : st 1 = 0) (h2 : st 2 = 0) (h3 : st 3 = 0) (a : Fin A) (b : Fin B) (c : Fin C) :
    Host.dynamicSlice (⟨4, ![1, A, B, C]⟩ : Shape) x st hf (ix4 0 a b c) = x (ix4 n a b c) := by
  have hoff : (⟨4, ![64, A, B, C]⟩ : Shape).Slices (fun k : Fin 4 => if k = 0 then n.val else 0) (⟨4, ![1, A, B, C]⟩ : Shape) := ⟨rfl, fun k => by
    have := n.isLt
    match k with
    | ⟨0, _⟩ => show n.val + 1 ≤ 64; omega
    | ⟨1, _⟩ => show 0 + A ≤ A; omega
    | ⟨2, _⟩ => show 0 + B ≤ B; omega
    | ⟨3, _⟩ => show 0 + C ≤ C; omega⟩
  rw [Host.dynamicSlice_eq_extractStridedSlice (⟨4, ![1, A, B, C]⟩ : Shape) x st (fun k => if k = 0 then n.val else 0) hf hoff (fun k => by
    match k with
    | ⟨0, _⟩ => exact h0
    | ⟨1, _⟩ => exact h1
    | ⟨2, _⟩ => exact h2
    | ⟨3, _⟩ => exact h3)]
  refine congrArg x (funext fun k => Fin.ext ?_)
  match k with
  | ⟨0, _⟩ => show n.val + 0 = n.val; omega
  | ⟨1, _⟩ => show 0 + a.val = a.val; omega
  | ⟨2, _⟩ => show 0 + b.val = b.val; omega
  | ⟨3, _⟩ => show 0 + c.val = c.val; omega

/-- A row of a stack of 64 written at a start that is a row of it. -/
theorem du4 {α : Type} {A B C : ℕ} (x : (⟨4, ![64, A, B, C]⟩ : Shape).Idx → α) (u : (⟨4, ![1, A, B, C]⟩ : Shape).Idx → α) (st : Fin 4 → Int) (hf : (⟨4, ![64, A, B, C]⟩ : Shape).Slices (fun _ => 0) (⟨4, ![1, A, B, C]⟩ : Shape))
    (n : Fin 64) (h0 : st 0 = (n.val : Int)) (h1 : st 1 = 0) (h2 : st 2 = 0) (h3 : st 3 = 0) (r : Fin 64) (a : Fin A) (b : Fin B) (c : Fin C) :
    Host.dynamicUpdateSlice x u st hf (ix4 r a b c) = if r = n then u (ix4 0 a b c) else x (ix4 r a b c) := by
  have hoff : (⟨4, ![64, A, B, C]⟩ : Shape).Slices (fun k : Fin 4 => if k = 0 then n.val else 0) (⟨4, ![1, A, B, C]⟩ : Shape) := ⟨rfl, fun k => by
    have := n.isLt
    match k with
    | ⟨0, _⟩ => show n.val + 1 ≤ 64; omega
    | ⟨1, _⟩ => show 0 + A ≤ A; omega
    | ⟨2, _⟩ => show 0 + B ≤ B; omega
    | ⟨3, _⟩ => show 0 + C ≤ C; omega⟩
  rw [Host.dynamicUpdateSlice_eq_updateSlice x u st hf (fun k => if k = 0 then n.val else 0) (fun k => by
    have := n.isLt
    match k with
    | ⟨0, _⟩ => show (min (max (st 0) 0) ((64 - 1 : ℕ) : Int)).toNat = n.val; rw [h0]; omega
    | ⟨1, _⟩ => show (min (max (st 1) 0) ((A - A : ℕ) : Int)).toNat = 0; rw [h1]; omega
    | ⟨2, _⟩ => show (min (max (st 2) 0) ((B - B : ℕ) : Int)).toNat = 0; rw [h2]; omega
    | ⟨3, _⟩ => show (min (max (st 3) 0) ((C - C : ℕ) : Int)).toNat = 0; rw [h3]; omega) hoff, updateSlice_apply]
  by_cases hr : r = n
  · subst hr
    rw [if_pos rfl, dif_pos (fun k => by
      match k with
      | ⟨0, _⟩ => show r.val ≤ r.val ∧ r.val < r.val + 1; omega
      | ⟨1, _⟩ => show 0 ≤ a.val ∧ a.val < 0 + A; have := a.isLt; omega
      | ⟨2, _⟩ => show 0 ≤ b.val ∧ b.val < 0 + B; have := b.isLt; omega
      | ⟨3, _⟩ => show 0 ≤ c.val ∧ c.val < 0 + C; have := c.isLt; omega)]
    refine congrArg u ?_
    rw [Shape.Idx.norm_def]
    funext k
    refine Fin.ext ?_
    match k with
    | ⟨0, _⟩ => show r.val - r.val = 0; omega
    | ⟨1, _⟩ => show a.val - 0 = a.val; omega
    | ⟨2, _⟩ => show b.val - 0 = b.val; omega
    | ⟨3, _⟩ => show c.val - 0 = c.val; omega
  · rw [if_neg hr, dif_neg (fun hh => hr (Fin.ext (by
      have h := hh 0
      have h1 : n.val ≤ r.val := h.1
      have h2 : r.val < n.val + 1 := h.2
      omega)))]

/-- A row of a stack of 64 read at a start that is a row of it. -/
theorem ds3 {α : Type} {A B : ℕ} (x : (⟨3, ![64, A, B]⟩ : Shape).Idx → α) (st : Fin 3 → Int) (hf : (⟨3, ![64, A, B]⟩ : Shape).Slices (fun _ => 0) (⟨3, ![1, A, B]⟩ : Shape))
    (n : Fin 64) (h0 : st 0 = (n.val : Int)) (h1 : st 1 = 0) (h2 : st 2 = 0) (a : Fin A) (b : Fin B) :
    Host.dynamicSlice (⟨3, ![1, A, B]⟩ : Shape) x st hf (ix3 0 a b) = x (ix3 n a b) := by
  have hoff : (⟨3, ![64, A, B]⟩ : Shape).Slices (fun k : Fin 3 => if k = 0 then n.val else 0) (⟨3, ![1, A, B]⟩ : Shape) := ⟨rfl, fun k => by
    have := n.isLt
    match k with
    | ⟨0, _⟩ => show n.val + 1 ≤ 64; omega
    | ⟨1, _⟩ => show 0 + A ≤ A; omega
    | ⟨2, _⟩ => show 0 + B ≤ B; omega⟩
  rw [Host.dynamicSlice_eq_extractStridedSlice (⟨3, ![1, A, B]⟩ : Shape) x st (fun k => if k = 0 then n.val else 0) hf hoff (fun k => by
    match k with
    | ⟨0, _⟩ => exact h0
    | ⟨1, _⟩ => exact h1
    | ⟨2, _⟩ => exact h2)]
  refine congrArg x (funext fun k => Fin.ext ?_)
  match k with
  | ⟨0, _⟩ => show n.val + 0 = n.val; omega
  | ⟨1, _⟩ => show 0 + a.val = a.val; omega
  | ⟨2, _⟩ => show 0 + b.val = b.val; omega

/-- A row of a stack of 64 written at a start that is a row of it. -/
theorem du3 {α : Type} {A B : ℕ} (x : (⟨3, ![64, A, B]⟩ : Shape).Idx → α) (u : (⟨3, ![1, A, B]⟩ : Shape).Idx → α) (st : Fin 3 → Int) (hf : (⟨3, ![64, A, B]⟩ : Shape).Slices (fun _ => 0) (⟨3, ![1, A, B]⟩ : Shape))
    (n : Fin 64) (h0 : st 0 = (n.val : Int)) (h1 : st 1 = 0) (h2 : st 2 = 0) (r : Fin 64) (a : Fin A) (b : Fin B) :
    Host.dynamicUpdateSlice x u st hf (ix3 r a b) = if r = n then u (ix3 0 a b) else x (ix3 r a b) := by
  have hoff : (⟨3, ![64, A, B]⟩ : Shape).Slices (fun k : Fin 3 => if k = 0 then n.val else 0) (⟨3, ![1, A, B]⟩ : Shape) := ⟨rfl, fun k => by
    have := n.isLt
    match k with
    | ⟨0, _⟩ => show n.val + 1 ≤ 64; omega
    | ⟨1, _⟩ => show 0 + A ≤ A; omega
    | ⟨2, _⟩ => show 0 + B ≤ B; omega⟩
  rw [Host.dynamicUpdateSlice_eq_updateSlice x u st hf (fun k => if k = 0 then n.val else 0) (fun k => by
    have := n.isLt
    match k with
    | ⟨0, _⟩ => show (min (max (st 0) 0) ((64 - 1 : ℕ) : Int)).toNat = n.val; rw [h0]; omega
    | ⟨1, _⟩ => show (min (max (st 1) 0) ((A - A : ℕ) : Int)).toNat = 0; rw [h1]; omega
    | ⟨2, _⟩ => show (min (max (st 2) 0) ((B - B : ℕ) : Int)).toNat = 0; rw [h2]; omega) hoff, updateSlice_apply]
  by_cases hr : r = n
  · subst hr
    rw [if_pos rfl, dif_pos (fun k => by
      match k with
      | ⟨0, _⟩ => show r.val ≤ r.val ∧ r.val < r.val + 1; omega
      | ⟨1, _⟩ => show 0 ≤ a.val ∧ a.val < 0 + A; have := a.isLt; omega
      | ⟨2, _⟩ => show 0 ≤ b.val ∧ b.val < 0 + B; have := b.isLt; omega)]
    refine congrArg u ?_
    rw [Shape.Idx.norm_def]
    funext k
    refine Fin.ext ?_
    match k with
    | ⟨0, _⟩ => show r.val - r.val = 0; omega
    | ⟨1, _⟩ => show a.val - 0 = a.val; omega
    | ⟨2, _⟩ => show b.val - 0 = b.val; omega
  · rw [if_neg hr, dif_neg (fun hh => hr (Fin.ext (by
      have h := hh 0
      have h1 : n.val ≤ r.val := h.1
      have h2 : r.val < n.val + 1 := h.2
      omega)))]

/-- A row of a stack of 64 read at a start that is a row of it. -/
theorem ds2 {α : Type} {A : ℕ} (x : (⟨2, ![64, A]⟩ : Shape).Idx → α) (st : Fin 2 → Int) (hf : (⟨2, ![64, A]⟩ : Shape).Slices (fun _ => 0) (⟨2, ![1, A]⟩ : Shape))
    (n : Fin 64) (h0 : st 0 = (n.val : Int)) (h1 : st 1 = 0) (a : Fin A) :
    Host.dynamicSlice (⟨2, ![1, A]⟩ : Shape) x st hf (ix2 0 a) = x (ix2 n a) := by
  have hoff : (⟨2, ![64, A]⟩ : Shape).Slices (fun k : Fin 2 => if k = 0 then n.val else 0) (⟨2, ![1, A]⟩ : Shape) := ⟨rfl, fun k => by
    have := n.isLt
    match k with
    | ⟨0, _⟩ => show n.val + 1 ≤ 64; omega
    | ⟨1, _⟩ => show 0 + A ≤ A; omega⟩
  rw [Host.dynamicSlice_eq_extractStridedSlice (⟨2, ![1, A]⟩ : Shape) x st (fun k => if k = 0 then n.val else 0) hf hoff (fun k => by
    match k with
    | ⟨0, _⟩ => exact h0
    | ⟨1, _⟩ => exact h1)]
  refine congrArg x (funext fun k => Fin.ext ?_)
  match k with
  | ⟨0, _⟩ => show n.val + 0 = n.val; omega
  | ⟨1, _⟩ => show 0 + a.val = a.val; omega

/-- A row of a stack of 64 written at a start that is a row of it. -/
theorem du2 {α : Type} {A : ℕ} (x : (⟨2, ![64, A]⟩ : Shape).Idx → α) (u : (⟨2, ![1, A]⟩ : Shape).Idx → α) (st : Fin 2 → Int) (hf : (⟨2, ![64, A]⟩ : Shape).Slices (fun _ => 0) (⟨2, ![1, A]⟩ : Shape))
    (n : Fin 64) (h0 : st 0 = (n.val : Int)) (h1 : st 1 = 0) (r : Fin 64) (a : Fin A) :
    Host.dynamicUpdateSlice x u st hf (ix2 r a) = if r = n then u (ix2 0 a) else x (ix2 r a) := by
  have hoff : (⟨2, ![64, A]⟩ : Shape).Slices (fun k : Fin 2 => if k = 0 then n.val else 0) (⟨2, ![1, A]⟩ : Shape) := ⟨rfl, fun k => by
    have := n.isLt
    match k with
    | ⟨0, _⟩ => show n.val + 1 ≤ 64; omega
    | ⟨1, _⟩ => show 0 + A ≤ A; omega⟩
  rw [Host.dynamicUpdateSlice_eq_updateSlice x u st hf (fun k => if k = 0 then n.val else 0) (fun k => by
    have := n.isLt
    match k with
    | ⟨0, _⟩ => show (min (max (st 0) 0) ((64 - 1 : ℕ) : Int)).toNat = n.val; rw [h0]; omega
    | ⟨1, _⟩ => show (min (max (st 1) 0) ((A - A : ℕ) : Int)).toNat = 0; rw [h1]; omega) hoff, updateSlice_apply]
  by_cases hr : r = n
  · subst hr
    rw [if_pos rfl, dif_pos (fun k => by
      match k with
      | ⟨0, _⟩ => show r.val ≤ r.val ∧ r.val < r.val + 1; omega
      | ⟨1, _⟩ => show 0 ≤ a.val ∧ a.val < 0 + A; have := a.isLt; omega)]
    refine congrArg u ?_
    rw [Shape.Idx.norm_def]
    funext k
    refine Fin.ext ?_
    match k with
    | ⟨0, _⟩ => show r.val - r.val = 0; omega
    | ⟨1, _⟩ => show a.val - 0 = a.val; omega
  · rw [if_neg hr, dif_neg (fun hh => hr (Fin.ext (by
      have h := hh 0
      have h1 : n.val ≤ r.val := h.1
      have h2 : r.val < n.val + 1 := h.2
      omega)))]

variable (j : ℕ) (s : State Ideal)

/-- The trip's row, the last row first. -/
theorem b3_toInt (hj : j < 64) : (b3 j s (Shape.Idx.first h_S_)).toInt = ((Arr.back j).val : Int) := by
  have : ∀ k : Fin 64, (64#32 - BitVec.ofNat 32 k.val - 1#32).toInt = ((63 - k.val : ℕ) : Int) := by decide
  exact this ⟨j, hj⟩

theorem b8_apply (hj : j < 64) (h : Fin 8) (d : Fin 128) (e : Fin 256) : b8 j s (ix3 h d e) = s.main_v46_0 (ix4 (Arr.back j) h d e) := by
  unfold b8
  pointwise
  exact ds4 (s.main_v46_0) _ _ (Arr.back j) (b3_toInt j s hj) rfl rfl rfl h d e

theorem b13_apply (hj : j < 64) (h : Fin 8) (i : Fin 64) (d : Fin 128) : b13 j s (ix3 h i d) = s.main_v46_1 (ix4 (Arr.back j) h i d) := by
  unfold b13
  pointwise
  exact ds4 (s.main_v46_1) _ _ (Arr.back j) (b3_toInt j s hj) rfl rfl rfl h i d

theorem b18_apply (hj : j < 64) (h : Fin 8) (i : Fin 64) (d : Fin 128) : b18 j s (ix3 h i d) = s.main_v46_2 (ix4 (Arr.back j) h i d) := by
  unfold b18
  pointwise
  exact ds4 (s.main_v46_2) _ _ (Arr.back j) (b3_toInt j s hj) rfl rfl rfl h i d

theorem b23_apply (hj : j < 64) (h : Fin 8) (i : Fin 64) (e : Fin 256) : b23 j s (ix3 h i e) = s.main_v46_3 (ix4 (Arr.back j) h i e) := by
  unfold b23
  pointwise
  exact ds4 (s.main_v46_3) _ _ (Arr.back j) (b3_toInt j s hj) rfl rfl rfl h i e

theorem b28_apply (hj : j < 64) (h : Fin 8) (i : Fin 64) (k : Fin 64) : b28 j s (ix3 h i k) = s.main_v46_4 (ix4 (Arr.back j) h i k) := by
  unfold b28
  pointwise
  exact ds4 (s.main_v46_4) _ _ (Arr.back j) (b3_toInt j s hj) rfl rfl rfl h i k

theorem b33_apply (hj : j < 64) (h : Fin 8) (i : Fin 64) (d : Fin 128) : b33 j s (ix3 h i d) = s.main_v46_5 (ix4 (Arr.back j) h i d) := by
  unfold b33
  pointwise
  exact ds4 (s.main_v46_5) _ _ (Arr.back j) (b3_toInt j s hj) rfl rfl rfl h i d

theorem b36_apply (hj : j < 64) (h : Fin 8) : b36 j s (ix1 h) = s.main_v46_6 (ix2 (Arr.back j) h) := by
  unfold b36
  pointwise
  exact ds2 (s.main_v46_6) _ _ (Arr.back j) (b3_toInt j s hj) rfl h

theorem b40_apply (hj : j < 64) (i : Fin 64) (c : Fin 2048) : b40 j s (ix2 i c) = s.main_v46_7 (ix3 (Arr.back j) i c) := by
  unfold b40
  pointwise
  exact ds3 (s.main_v46_7) _ _ (Arr.back j) (b3_toInt j s hj) rfl rfl i c

theorem b44_apply (hj : j < 64) (i : Fin 64) (c : Fin 2048) : b44 j s (ix2 i c) = s.main_v46_8 (ix3 (Arr.back j) i c) := by
  unfold b44
  pointwise
  exact ds3 (s.main_v46_8) _ _ (Arr.back j) (b3_toInt j s hj) rfl rfl i c

end Cert.GdnRef
end
end
-- ==== Proof.GdnRefStep.lean ====
module

public import proofs.«01_k».proof.Proof.GdnRef

/-!
# One trip of the reference

A trip reads one chunk; its values, read at an index, are the chunk's functions of `GdnSpec`.
-/

@[expose] public section
noncomputable section
namespace Cert.GdnRef
open Idealize.ShloMosaic Cert.ReferenceIdeal Cert.ReferenceIdeal.Step Cert.Gdn
open scoped BigOperators

variable (j : ℕ) (s : State Ideal)

/-- The chunk that the trip reads. -/
def rX : X where
  q h i d := b13 j s (ix3 h i d)
  w h i d := b18 j s (ix3 h i d)
  u h i e := b23 j s (ix3 h i e)
  qk h i k := b28 j s (ix3 h i k)
  kd h i d := b33 j s (ix3 h i d)
  gl h := b36 j s (ix1 h)
  z i c := b40 j s (ix2 i c)
  nw k := s.main_v46_9 (ix2 0 k)
  co i c := b44 j s (ix2 i c)
  S h d e := b8 j s (ix3 h d e)

/-- The cotangent of the state that the trip starts from. -/
def rD (h : Fin 8) (d : Fin 128) (e : Fin 256) : EReal := s.main_v46_11 (ix3 h d e)

/-- The values that the chunk writes. -/
theorem vnew_eq (h : Fin 8) (i : Fin 64) (e : Fin 256) : b46 j s (ix3 h i e) = (rX j s).vnew h i e := by
  unfold b46 b45 X.vnew
  pointwise
  rfl

/-- The output before the norm. -/
theorem out_eq (h : Fin 8) (i : Fin 64) (e : Fin 256) : b49 j s (ix3 h i e) = (rX j s).out h i e := by
  unfold b49 b48 b47 X.out
  pointwise [vnew_eq]
  rfl

theorem outT_eq (i : Fin 64) (h : Fin 8) (e : Fin 256) : b56 j s (ix3 i h e) = (rX j s).out h i e := by
  unfold b56
  pointwise [out_eq]

theorem ms_eq (i : Fin 64) (h : Fin 8) : b66 j s (ix3 i h 0) = ms ((rX j s).out h i) := by
  unfold b66 b65 b64 b63 b62 b61 b60 b59 b58 b57 ms
  pointwise [outT_eq]
  rfl

theorem rs_eq (i : Fin 64) (h : Fin 8) : b67 j s (ix3 i h 0) = rs ((rX j s).out h i) := by
  unfold b67 rs
  pointwise [ms_eq]

theorem rd_eq (i : Fin 64) (h : Fin 8) : b71 j s (ix3 i h 0) = rd ((rX j s).out h i) := by
  unfold b71 b70 b69 b68 rd
  pointwise [ms_eq, rs_eq]
  rfl

/-- The output after its head's norm. -/
theorem on_eq (i : Fin 64) (h : Fin 8) (e : Fin 256) : b73 j s (ix3 i h e) = (rX j s).on h i e := by
  unfold b73 b72 X.on
  pointwise [outT_eq, rs_eq]

theorem nw_eq (h : Fin 8) (e : Fin 256) : b75 j s (ix3 0 h e) = (rX j s).nw (col h e) := by
  unfold b75 b74
  pointwise
  refine congrArg s.main_v46_9 (congrArg (ix2 0) (Fin.ext ?_))
  simp only [col]
  omega

theorem onw_eq (i : Fin 64) (h : Fin 8) (e : Fin 256) :
    b78 j s (ix2 i (col h e)) = (rX j s).on h i e * (rX j s).nw (col h e) := by
  have h1 : b77 j s (ix3 i h e) = (rX j s).on h i e * (rX j s).nw (col h e) := by
    unfold b77 b76
    pointwise [on_eq, nw_eq]
  refine Eq.trans ?_ h1
  unfold b78
  pointwise
  refine congrArg (b77 j s) (congrArg₂ (ix3 i) (Fin.ext ?_) (Fin.ext ?_))
  · simp only [col]; omega
  · simp only [col]; omega

theorem sg_eq (i : Fin 64) (c : Fin 2048) : b86 j s (ix2 i c) = (rX j s).sg i c := by
  unfold b86 b85 b84 b83 b82 b81 b80 b79 X.sg
  pointwise
  rfl

theorem gate_eq (i : Fin 64) (c : Fin 2048) : b91 j s (ix2 i c) = (rX j s).gate i c := by
  unfold b91 X.gate
  pointwise [sg_eq]
  rfl

theorem dgate_eq (i : Fin 64) (h : Fin 8) (e : Fin 256) : b93 j s (ix2 i (col h e)) = (rX j s).dgate h i e := by
  unfold b93 X.dgate
  pointwise [onw_eq]
  rfl

/-- The cotangent of the gate's input. -/
theorem dz_eq (i : Fin 64) (h : Fin 8) (e : Fin 256) : b98 j s (ix2 i (col h e)) = (rX j s).dz h i e := by
  unfold b98 b97 b96 b95 b90 b89 b88 b87 X.dz
  pointwise [dgate_eq, sg_eq]
  rfl

theorem dw1_eq (i : Fin 64) (h : Fin 8) (e : Fin 256) : b99 j s (ix3 i h e) = (rX j s).dw1 h i e := by
  have h1 : b94 j s (ix2 i (col h e)) = (rX j s).dw1 h i e := by
    unfold b94 X.dw1
    pointwise [gate_eq]
    rfl
  refine Eq.trans ?_ h1
  unfold b99
  pointwise
  refine congrArg (b94 j s) (congrArg (ix2 i) (Fin.ext ?_))
  simp only [col]
  omega

/-- The chunk's part of the cotangent of the norm's weight. -/
theorem dnw_eq (h : Fin 8) (e : Fin 256) : b108 j s (ix2 0 (col h e)) = (rX j s).dnw h e := by
  have h1 : b107 j s (ix2 h e) = (rX j s).dnw h e := by
    unfold b107 b106 b103 b102 b101 b100 X.dnw
    pointwise [dw1_eq, on_eq]
    simp
  refine Eq.trans ?_ h1
  unfold b108
  pointwise
  refine congrArg (b107 j s) (congrArg₂ ix2 (Fin.ext ?_) (Fin.ext ?_))
  · simp only [col]; omega
  · simp only [col]; omega

theorem don_eq (i : Fin 64) (h : Fin 8) (e : Fin 256) : b105 j s (ix3 i h e) = (rX j s).don h i e := by
  unfold b105 b104 X.don
  pointwise [dw1_eq, nw_eq]

theorem dr_eq (i : Fin 64) (h : Fin 8) : b120 j s (ix2 i h) = dr ((rX j s).out h i) ((rX j s).don h i) := by
  unfold b120 b119 b118 b117 b116 b115 b112 b111 b110 b109 dr
  pointwise [don_eq, outT_eq, rd_eq]
  simp [rd_eq]
  rfl

/-- The cotangent of the output before the norm. -/
theorem dout_eq (h : Fin 8) (i : Fin 64) (e : Fin 256) : b126 j s (ix3 h i e) = (rX j s).dout h i e := by
  unfold b126 b125 b124 b123 b122 b121 b114 b113 X.dout dt
  pointwise [don_eq, outT_eq, rs_eq, dr_eq]

/-- The cotangent of the values. -/
theorem du_eq (h : Fin 8) (i : Fin 64) (e : Fin 256) : b142 j s (ix3 h i e) = (rX j s).du (rD s) h i e := by
  unfold b142 b141 b140 b128 b127 X.du
  pointwise [dout_eq]
  rfl

/-- The cotangent of the decayed keys. -/
theorem dkd_eq (h : Fin 8) (i : Fin 64) (d : Fin 128) : b130 j s (ix3 h i d) = (rX j s).dkd (rD s) h i d := by
  unfold b130 b129 X.dkd
  pointwise [vnew_eq]
  rfl

/-- The cotangent of the log decay. -/
theorem dgl_eq (h : Fin 8) : b139 j s (ix1 h) = (rX j s).dgl (rD s) h := by
  unfold b139 b138 b137 b136 b135 b134 b133 b50 X.dgl
  pointwise
  simp
  rfl

/-- The cotangent of the scores. -/
theorem dqk_eq (h : Fin 8) (i k : Fin 64) : b143 j s (ix3 h i k) = (rX j s).dqk h i k := by
  unfold b143 X.dqk
  pointwise [vnew_eq, dout_eq]

/-- The cotangent of the queries. -/
theorem dq_eq (h : Fin 8) (i : Fin 64) (d : Fin 128) : b147 j s (ix3 h i d) = (rX j s).dq h i d := by
  unfold b147 X.dq
  pointwise [dout_eq]
  rfl

theorem ndu_eq (h : Fin 8) (i : Fin 64) (e : Fin 256) : b148 j s (ix3 h i e) = -(rX j s).du (rD s) h i e := by
  unfold b148
  pointwise [du_eq]

/-- The cotangent of the keys `w`. -/
theorem dw_eq (h : Fin 8) (i : Fin 64) (d : Fin 128) : b152 j s (ix3 h i d) = (rX j s).dw (rD s) h i d := by
  unfold b152 X.dw
  pointwise [ndu_eq]
  rfl

/-- The cotangent of the state before the chunk. -/
theorem dS'_eq (h : Fin 8) (d : Fin 128) (e : Fin 256) : b151 j s (ix3 h d e) = (rX j s).dS' (rD s) h d e := by
  unfold b151 b150 b149 b146 b145 b144 b132 b131 b51 b50 X.dS'
  pointwise [ndu_eq, dout_eq]
  rfl

end Cert.GdnRef
end
end
-- ==== Proof.GdnRefStart.lean ====
module

public import proofs.«01_k».proof.Proof.GdnRefStep

/-!
# What the reference's loop starts from

The stacks that the reference makes of its arguments, read at an index: a stack's row is a chunk, and the stack of states
has the state before each chunk.
-/

@[expose] public section
noncomputable section
namespace Cert.GdnRef
open Idealize.ShloMosaic Cert.ReferenceIdeal Cert.ReferenceIdeal.Step Cert.Gdn
open scoped BigOperators

variable (x0 : FVec Ideal S8x4096x128 .f32) (x1 : FVec Ideal S8x4096x128 .f32) (x2 : FVec Ideal S8x4096x256 .f32)
  (x3 : FVec Ideal S8x4096x64 .f32) (x4 : FVec Ideal S8x4096x128 .f32) (x5 : FVec Ideal S8x4096x1 .f32)
  (x6 : FVec Ideal S4096x2048 .f32) (x7 : FVec Ideal S1x2048 .f32) (x8 : FVec Ideal S32x8x128x256 .f32)
  (x9 : FVec Ideal S4096x2048 .f32)

theorem ix3_congr {A B C : ℕ} {a a' : Fin A} {b b' : Fin B} {c c' : Fin C} (ha : a = a') (hb : b = b') (hc : c = c') :
    (ix3 a b c : (⟨3, ![A, B, C]⟩ : Shape).Idx) = ix3 a' b' c' := by subst ha hb hc; rfl

/-- The arguments, read at indices. -/
def rarr : Arr where
  q h r d := x0 (ix3 h r d)
  w h r d := x1 (ix3 h r d)
  u h r e := x2 (ix3 h r e)
  qk h r k := x3 (ix3 h r k)
  kd h r d := x4 (ix3 h r d)
  gc h r := x5 (ix3 h r 0)
  z r k := x6 (ix2 r k)
  nw k := x7 (ix2 0 k)
  s p h d e := x8 (ix4 p h d e)
  co r k := x9 (ix2 r k)

/-- The state that the loop starts from. -/
def start : State Ideal := init x7 x0 x1 x2 x3 x4 x5 x6 x8 x9

theorem A1_apply (n : Fin 64) (h : Fin 8) (i : Fin 64) (d : Fin 128) :
    A_main_v1 (F := Ideal) x0 x1 x2 x3 x4 x5 x6 x8 x9 (ix4 n h i d) = x0 (ix3 h (row n i) d) := by
  unfold A_main_v1 A_main_v0
  pointwise
  refine congrArg x0 (ix3_congr (Fin.ext ?_) (Fin.ext ?_) (Fin.ext ?_))
  all_goals (simp only [row] <;> omega)

theorem A3_apply (n : Fin 64) (h : Fin 8) (i : Fin 64) (d : Fin 128) :
    A_main_v3 (F := Ideal) x0 x1 x2 x3 x4 x5 x6 x8 x9 (ix4 n h i d) = x1 (ix3 h (row n i) d) := by
  unfold A_main_v3 A_main_v2
  pointwise
  refine congrArg x1 (ix3_congr (Fin.ext ?_) (Fin.ext ?_) (Fin.ext ?_))
  all_goals (simp only [row] <;> omega)

theorem A5_apply (n : Fin 64) (h : Fin 8) (i : Fin 64) (e : Fin 256) :
    A_main_v5 (F := Ideal) x0 x1 x2 x3 x4 x5 x6 x8 x9 (ix4 n h i e) = x2 (ix3 h (row n i) e) := by
  unfold A_main_v5 A_main_v4
  pointwise
  refine congrArg x2 (ix3_congr (Fin.ext ?_) (Fin.ext ?_) (Fin.ext ?_))
  all_goals (simp only [row] <;> omega)

theorem A7_apply (n : Fin 64) (h : Fin 8) (i : Fin 64) (k : Fin 64) :
    A_main_v7 (F := Ideal) x0 x1 x2 x3 x4 x5 x6 x8 x9 (ix4 n h i k) = x3 (ix3 h (row n i) k) := by
  unfold A_main_v7 A_main_v6
  pointwise
  refine congrArg x3 (ix3_congr (Fin.ext ?_) (Fin.ext ?_) (Fin.ext ?_))
  all_goals (simp only [row] <;> omega)

theorem A9_apply (n : Fin 64) (h : Fin 8) (i : Fin 64) (d : Fin 128) :
    A_main_v9 (F := Ideal) x0 x1 x2 x3 x4 x5 x6 x8 x9 (ix4 n h i d) = x4 (ix3 h (row n i) d) := by
  unfold A_main_v9 A_main_v8
  pointwise
  refine congrArg x4 (ix3_congr (Fin.ext ?_) (Fin.ext ?_) (Fin.ext ?_))
  all_goals (simp only [row] <;> omega)

theorem A13_apply (n : Fin 64) (h : Fin 8) : A_main_v13 (F := Ideal) x0 x1 x2 x3 x4 x5 x6 x8 x9 (ix2 n h) = x5 (ix3 h (row n 63) 0) := by
  unfold A_main_v13 A_main_v12 A_main_v11 A_main_v10
  pointwise
  refine congrArg x5 (ix3_congr (Fin.ext ?_) (Fin.ext ?_) (Fin.ext ?_))
  all_goals (simp only [row] <;> omega)

theorem A37_apply (n : Fin 64) (i : Fin 64) (c : Fin 2048) : A_main_v37 (F := Ideal) x0 x1 x2 x3 x4 x5 x6 x8 x9 (ix3 n i c) = x6 (ix2 (row n i) c) := by
  unfold A_main_v37
  pointwise
  refine congrArg x6 (congrArg₂ ix2 (Fin.ext ?_) (Fin.ext ?_))
  all_goals (simp only [row] <;> omega)

theorem A38_apply (n : Fin 64) (i : Fin 64) (c : Fin 2048) : A_main_v38 (F := Ideal) x0 x1 x2 x3 x4 x5 x6 x8 x9 (ix3 n i c) = x9 (ix2 (row n i) c) := by
  unfold A_main_v38
  pointwise
  refine congrArg x9 (congrArg₂ ix2 (Fin.ext ?_) (Fin.ext ?_))
  all_goals (simp only [row] <;> omega)

/-- The even chunk of a pair. -/
def even (p : Fin 32) : Fin 64 := ⟨2 * p.val, by omega⟩
/-- The odd chunk of a pair. -/
def odd (p : Fin 32) : Fin 64 := ⟨2 * p.val + 1, by omega⟩

theorem A21_apply (p : Fin 32) (h : Fin 8) (i : Fin 64) (e : Fin 256) :
    A_main_v21 (F := Ideal) x0 x1 x2 x3 x4 x5 x6 x8 x9 (ix4 p h i e)
      = ((rarr x0 x1 x2 x3 x4 x5 x6 x7 x8 x9).at' (even p) ((rarr x0 x1 x2 x3 x4 x5 x6 x7 x8 x9).s p)).vnew h i e := by
  unfold A_main_v21 A_main_v20 A_main_v16 A_main_v15 X.vnew
  pointwise [A3_apply, A5_apply]
  rfl

theorem A30_apply (p : Fin 32) (h : Fin 8) (d : Fin 128) (e : Fin 256) :
    A_main_v30 (F := Ideal) x0 x1 x2 x3 x4 x5 x6 x8 x9 (ix4 p h d e)
      = ((rarr x0 x1 x2 x3 x4 x5 x6 x7 x8 x9).at' (even p) ((rarr x0 x1 x2 x3 x4 x5 x6 x7 x8 x9).s p)).next h d e := by
  unfold A_main_v30 A_main_v29 A_main_v28 A_main_v27 A_main_v26 A_main_v25 A_main_v19 A_main_v18 X.next
  pointwise [A9_apply, A21_apply x0 x1 x2 x3 x4 x5 x6 x7 x8 x9, A13_apply]
  rfl

theorem A34_even (p : Fin 32) (h : Fin 8) (d : Fin 128) (e : Fin 256) :
    A_main_v34 (F := Ideal) x0 x1 x2 x3 x4 x5 x6 x8 x9 (ix4 (even p) h d e) = x8 (ix4 p h d e) := by
  unfold A_main_v34 A_main_v33 A_main_v31
  pointwise
  rw [dif_pos (by simp only [even]; omega)]
  exact congrArg (fun q => x8 (ix4 q h d e)) (Fin.ext (by simp only [even]; omega))

theorem A34_odd (p : Fin 32) (h : Fin 8) (d : Fin 128) (e : Fin 256) :
    A_main_v34 (F := Ideal) x0 x1 x2 x3 x4 x5 x6 x8 x9 (ix4 (odd p) h d e)
      = A_main_v30 (F := Ideal) x0 x1 x2 x3 x4 x5 x6 x8 x9 (ix4 p h d e) := by
  unfold A_main_v34 A_main_v33 A_main_v32
  pointwise
  rw [dif_neg (by simp only [odd]; omega)]
  exact congrArg (fun q => A_main_v30 (F := Ideal) x0 x1 x2 x3 x4 x5 x6 x8 x9 (ix4 q h d e)) (Fin.ext (by simp only [odd]; omega))

/-- The stack of states has the state before each chunk. -/
theorem A34_apply (n : Fin 64) (h : Fin 8) (d : Fin 128) (e : Fin 256) :
    A_main_v34 (F := Ideal) x0 x1 x2 x3 x4 x5 x6 x8 x9 (ix4 n h d e) = (rarr x0 x1 x2 x3 x4 x5 x6 x7 x8 x9).S n h d e := by
  by_cases hn : n.val % 2 = 0
  · obtain ⟨p, rfl⟩ : ∃ p, n = even p := ⟨⟨n.val / 2, by omega⟩, Fin.ext (by simp only [even]; omega)⟩
    rw [A34_even]
    unfold Arr.S Arr.s2
    rw [if_pos hn]
    exact congrArg (fun q => x8 (ix4 q h d e)) (Fin.ext (by simp only [even]; omega))
  · obtain ⟨p, rfl⟩ : ∃ p, n = odd p := ⟨⟨n.val / 2, by omega⟩, Fin.ext (by simp only [odd]; omega)⟩
    rw [A34_odd, A30_apply x0 x1 x2 x3 x4 x5 x6 x7 x8 x9]
    unfold Arr.S Arr.s2
    rw [if_neg hn]
    have h1 : (⟨(odd p).val - 1, by omega⟩ : Fin 64) = even p := Fin.ext (by simp only [odd, even]; omega)
    have h2 : (⟨(odd p).val / 2, by omega⟩ : Fin 32) = p := Fin.ext (by simp only [odd]; omega)
    rw [h1, h2]

/-- The state after `n` trips. -/
def it : ℕ → State Ideal
  | 0 => start x0 x1 x2 x3 x4 x5 x6 x7 x8 x9
  | n + 1 => step n (it n)

theorem it_0 : ∀ n, (it x0 x1 x2 x3 x4 x5 x6 x7 x8 x9 n).main_v46_0 = A_main_v34 (F := Ideal) x0 x1 x2 x3 x4 x5 x6 x8 x9
  | 0 => rfl
  | n + 1 => it_0 n

theorem it_1 : ∀ n, (it x0 x1 x2 x3 x4 x5 x6 x7 x8 x9 n).main_v46_1 = A_main_v1 (F := Ideal) x0 x1 x2 x3 x4 x5 x6 x8 x9
  | 0 => rfl
  | n + 1 => it_1 n

theorem it_2 : ∀ n, (it x0 x1 x2 x3 x4 x5 x6 x7 x8 x9 n).main_v46_2 = A_main_v3 (F := Ideal) x0 x1 x2 x3 x4 x5 x6 x8 x9
  | 0 => rfl
  | n + 1 => it_2 n

theorem it_3 : ∀ n, (it x0 x1 x2 x3 x4 x5 x6 x7 x8 x9 n).main_v46_3 = A_main_v5 (F := Ideal) x0 x1 x2 x3 x4 x5 x6 x8 x9
  | 0 => rfl
  | n + 1 => it_3 n

theorem it_4 : ∀ n, (it x0 x1 x2 x3 x4 x5 x6 x7 x8 x9 n).main_v46_4 = A_main_v7 (F := Ideal) x0 x1 x2 x3 x4 x5 x6 x8 x9
  | 0 => rfl
  | n + 1 => it_4 n

theorem it_5 : ∀ n, (it x0 x1 x2 x3 x4 x5 x6 x7 x8 x9 n).main_v46_5 = A_main_v9 (F := Ideal) x0 x1 x2 x3 x4 x5 x6 x8 x9
  | 0 => rfl
  | n + 1 => it_5 n

theorem it_6 : ∀ n, (it x0 x1 x2 x3 x4 x5 x6 x7 x8 x9 n).main_v46_6 = A_main_v13 (F := Ideal) x0 x1 x2 x3 x4 x5 x6 x8 x9
  | 0 => rfl
  | n + 1 => it_6 n

theorem it_7 : ∀ n, (it x0 x1 x2 x3 x4 x5 x6 x7 x8 x9 n).main_v46_7 = A_main_v37 (F := Ideal) x0 x1 x2 x3 x4 x5 x6 x8 x9
  | 0 => rfl
  | n + 1 => it_7 n

theorem it_8 : ∀ n, (it x0 x1 x2 x3 x4 x5 x6 x7 x8 x9 n).main_v46_8 = A_main_v38 (F := Ideal) x0 x1 x2 x3 x4 x5 x6 x8 x9
  | 0 => rfl
  | n + 1 => it_8 n

theorem it_9 : ∀ n, (it x0 x1 x2 x3 x4 x5 x6 x7 x8 x9 n).main_v46_9 = x7
  | 0 => rfl
  | n + 1 => it_9 n

/-- Trip `n` reads the `n`-th chunk from the end. -/
theorem rX_it (n : ℕ) (hn : n < 64) : rX n (it x0 x1 x2 x3 x4 x5 x6 x7 x8 x9 n) = (rarr x0 x1 x2 x3 x4 x5 x6 x7 x8 x9).x (Arr.back n) := by
  refine X.ext ?_ ?_ ?_ ?_ ?_ ?_ ?_ ?_ ?_ ?_
  · funext h i d; exact (b13_apply n _ hn h i d).trans ((congrFun (it_1 x0 x1 x2 x3 x4 x5 x6 x7 x8 x9 n) _).trans (A1_apply _ _ _ _ _ _ _ _ _ _ h i d))
  · funext h i d; exact (b18_apply n _ hn h i d).trans ((congrFun (it_2 x0 x1 x2 x3 x4 x5 x6 x7 x8 x9 n) _).trans (A3_apply _ _ _ _ _ _ _ _ _ _ h i d))
  · funext h i d; exact (b23_apply n _ hn h i d).trans ((congrFun (it_3 x0 x1 x2 x3 x4 x5 x6 x7 x8 x9 n) _).trans (A5_apply _ _ _ _ _ _ _ _ _ _ h i d))
  · funext h i d; exact (b28_apply n _ hn h i d).trans ((congrFun (it_4 x0 x1 x2 x3 x4 x5 x6 x7 x8 x9 n) _).trans (A7_apply _ _ _ _ _ _ _ _ _ _ h i d))
  · funext h i d; exact (b33_apply n _ hn h i d).trans ((congrFun (it_5 x0 x1 x2 x3 x4 x5 x6 x7 x8 x9 n) _).trans (A9_apply _ _ _ _ _ _ _ _ _ _ h i d))
  · funext h; exact (b36_apply n _ hn h).trans ((congrFun (it_6 x0 x1 x2 x3 x4 x5 x6 x7 x8 x9 n) _).trans (A13_apply _ _ _ _ _ _ _ _ _ _ h))
  · funext i c; exact (b40_apply n _ hn i c).trans ((congrFun (it_7 x0 x1 x2 x3 x4 x5 x6 x7 x8 x9 n) _).trans (A37_apply _ _ _ _ _ _ _ _ _ _ i c))
  · funext k; exact congrFun (it_9 x0 x1 x2 x3 x4 x5 x6 x7 x8 x9 n) _
  · funext i c; exact (b44_apply n _ hn i c).trans ((congrFun (it_8 x0 x1 x2 x3 x4 x5 x6 x7 x8 x9 n) _).trans (A38_apply _ _ _ _ _ _ _ _ _ _ i c))
  · funext h d e; exact (b8_apply n _ hn h d e).trans ((congrFun (it_0 x0 x1 x2 x3 x4 x5 x6 x7 x8 x9 n) _).trans (A34_apply x0 x1 x2 x3 x4 x5 x6 x7 x8 x9 _ h d e))

/-- The cotangent of the state after `n` trips. -/
theorem rD_it : ∀ n, n ≤ 64 → rD (it x0 x1 x2 x3 x4 x5 x6 x7 x8 x9 n) = (rarr x0 x1 x2 x3 x4 x5 x6 x7 x8 x9).dS n
  | 0, _ => by
    funext h d e
    show K_main_v35 (F := Ideal) (ix3 h d e) = 0
    unfold K_main_v35 K_main_cst
    pointwise
  | n + 1, hn => by
    funext h d e
    refine (dS'_eq n (it x0 x1 x2 x3 x4 x5 x6 x7 x8 x9 n) h d e).trans ?_
    rw [rX_it x0 x1 x2 x3 x4 x5 x6 x7 x8 x9 n (by omega), rD_it n (by omega)]
    rfl

/-- The cotangent of the norm's weight after `n` trips. -/
theorem dn_it : ∀ n, n ≤ 64 → ∀ h e, (it x0 x1 x2 x3 x4 x5 x6 x7 x8 x9 n).main_v46_12 (ix2 0 (col h e)) = (rarr x0 x1 x2 x3 x4 x5 x6 x7 x8 x9).dn n h e
  | 0, _, h, e => by
    show K_main_v36 (F := Ideal) (ix2 0 (col h e)) = 0
    unfold K_main_v36 K_main_cst_0
    pointwise
  | n + 1, hn, h, e => by
    refine Eq.trans (b := (it x0 x1 x2 x3 x4 x5 x6 x7 x8 x9 n).main_v46_12 (ix2 0 (col h e)) + b108 n (it x0 x1 x2 x3 x4 x5 x6 x7 x8 x9 n) (ix2 0 (col h e))) rfl ?_
    rw [dn_it n (by omega), dnw_eq, rX_it x0 x1 x2 x3 x4 x5 x6 x7 x8 x9 n (by omega)]
    rfl

/-- A stack whose rows are written from the last to the first has every row at the end. -/
theorem fill {α : Type} (f : ℕ → Fin 64 → α) (g : Fin 64 → α)
    (hs : ∀ n, n < 64 → ∀ r, f (n + 1) r = if r = Arr.back n then g r else f n r) (r : Fin 64) : f 64 r = g r := by
  have key : ∀ n, n ≤ 64 → 64 ≤ r.val + n → f n r = g r := by
    intro n
    induction n with
    | zero => intro _ h; have := r.isLt; omega
    | succ n ih =>
      intro h1 h2
      rw [hs n (by omega)]
      by_cases h3 : r = Arr.back n
      · rw [if_pos h3]
      · rw [if_neg h3]
        refine ih (by omega) ?_
        have : r.val ≠ 63 - n := fun h4 => h3 (Fin.ext h4)
        omega
  exact key 64 le_rfl (by omega)

theorem dSof_back (n : ℕ) (hn : n < 64) : (rarr x0 x1 x2 x3 x4 x5 x6 x7 x8 x9).dSof (Arr.back n) = (rarr x0 x1 x2 x3 x4 x5 x6 x7 x8 x9).dS n := by
  unfold Arr.dSof
  congr 1
  simp only [Arr.back]
  omega

/-- The stack of `dq`. -/
theorem it64_13 (r : Fin 64) (h : Fin 8) (i : Fin 64) (d : Fin 128) :
    (it x0 x1 x2 x3 x4 x5 x6 x7 x8 x9 64).main_v46_13 (ix4 r h i d) = ((rarr x0 x1 x2 x3 x4 x5 x6 x7 x8 x9).x r).dq h i d := by
  refine fill (fun n r => (it x0 x1 x2 x3 x4 x5 x6 x7 x8 x9 n).main_v46_13 (ix4 r h i d)) (fun r => ((rarr x0 x1 x2 x3 x4 x5 x6 x7 x8 x9).x r).dq h i d) ?_ r
  intro n hn r
  refine (du4 (it x0 x1 x2 x3 x4 x5 x6 x7 x8 x9 n).main_v46_13 (b154 n (it x0 x1 x2 x3 x4 x5 x6 x7 x8 x9 n)) _ Gen.updateFits_S64x8x64x128_S1x8x64x128 (Arr.back n) (b3_toInt n _ hn) rfl rfl rfl r h i d).trans ?_
  by_cases hr : r = Arr.back n
  · subst hr
    rw [if_pos rfl, if_pos rfl]
    have h1 : b154 n (it x0 x1 x2 x3 x4 x5 x6 x7 x8 x9 n) (ix4 0 h i d) = b147 n (it x0 x1 x2 x3 x4 x5 x6 x7 x8 x9 n) (ix3 h i d) := by
      unfold b154
      pointwise
    rw [h1, dq_eq, rX_it x0 x1 x2 x3 x4 x5 x6 x7 x8 x9 n hn]
  · rw [if_neg hr, if_neg hr]

/-- The stack of `dw`. -/
theorem it64_14 (r : Fin 64) (h : Fin 8) (i : Fin 64) (d : Fin 128) :
    (it x0 x1 x2 x3 x4 x5 x6 x7 x8 x9 64).main_v46_14 (ix4 r h i d) = ((rarr x0 x1 x2 x3 x4 x5 x6 x7 x8 x9).x r).dw ((rarr x0 x1 x2 x3 x4 x5 x6 x7 x8 x9).dSof r) h i d := by
  refine fill (fun n r => (it x0 x1 x2 x3 x4 x5 x6 x7 x8 x9 n).main_v46_14 (ix4 r h i d)) (fun r => ((rarr x0 x1 x2 x3 x4 x5 x6 x7 x8 x9).x r).dw ((rarr x0 x1 x2 x3 x4 x5 x6 x7 x8 x9).dSof r) h i d) ?_ r
  intro n hn r
  refine (du4 (it x0 x1 x2 x3 x4 x5 x6 x7 x8 x9 n).main_v46_14 (b159 n (it x0 x1 x2 x3 x4 x5 x6 x7 x8 x9 n)) _ Gen.updateFits_S64x8x64x128_S1x8x64x128 (Arr.back n) (b3_toInt n _ hn) rfl rfl rfl r h i d).trans ?_
  by_cases hr : r = Arr.back n
  · subst hr
    rw [if_pos rfl, if_pos rfl]
    have h1 : b159 n (it x0 x1 x2 x3 x4 x5 x6 x7 x8 x9 n) (ix4 0 h i d) = b152 n (it x0 x1 x2 x3 x4 x5 x6 x7 x8 x9 n) (ix3 h i d) := by
      unfold b159
      pointwise
    rw [h1, dw_eq, rX_it x0 x1 x2 x3 x4 x5 x6 x7 x8 x9 n hn, rD_it x0 x1 x2 x3 x4 x5 x6 x7 x8 x9 n (by omega), ← dSof_back x0 x1 x2 x3 x4 x5 x6 x7 x8 x9 n hn]
  · rw [if_neg hr, if_neg hr]

/-- The stack of `du`. -/
theorem it64_15 (r : Fin 64) (h : Fin 8) (i : Fin 64) (e : Fin 256) :
    (it x0 x1 x2 x3 x4 x5 x6 x7 x8 x9 64).main_v46_15 (ix4 r h i e) = ((rarr x0 x1 x2 x3 x4 x5 x6 x7 x8 x9).x r).du ((rarr x0 x1 x2 x3 x4 x5 x6 x7 x8 x9).dSof r) h i e := by
  refine fill (fun n r => (it x0 x1 x2 x3 x4 x5 x6 x7 x8 x9 n).main_v46_15 (ix4 r h i e)) (fun r => ((rarr x0 x1 x2 x3 x4 x5 x6 x7 x8 x9).x r).du ((rarr x0 x1 x2 x3 x4 x5 x6 x7 x8 x9).dSof r) h i e) ?_ r
  intro n hn r
  refine (du4 (it x0 x1 x2 x3 x4 x5 x6 x7 x8 x9 n).main_v46_15 (b164 n (it x0 x1 x2 x3 x4 x5 x6 x7 x8 x9 n)) _ Gen.updateFits_S64x8x64x256_S1x8x64x256 (Arr.back n) (b3_toInt n _ hn) rfl rfl rfl r h i e).trans ?_
  by_cases hr : r = Arr.back n
  · subst hr
    rw [if_pos rfl, if_pos rfl]
    have h1 : b164 n (it x0 x1 x2 x3 x4 x5 x6 x7 x8 x9 n) (ix4 0 h i e) = b142 n (it x0 x1 x2 x3 x4 x5 x6 x7 x8 x9 n) (ix3 h i e) := by
      unfold b164
      pointwise
    rw [h1, du_eq, rX_it x0 x1 x2 x3 x4 x5 x6 x7 x8 x9 n hn, rD_it x0 x1 x2 x3 x4 x5 x6 x7 x8 x9 n (by omega), ← dSof_back x0 x1 x2 x3 x4 x5 x6 x7 x8 x9 n hn]
  · rw [if_neg hr, if_neg hr]

/-- The stack of `dqk`. -/
theorem it64_16 (r : Fin 64) (h : Fin 8) (i : Fin 64) (k : Fin 64) :
    (it x0 x1 x2 x3 x4 x5 x6 x7 x8 x9 64).main_v46_16 (ix4 r h i k) = ((rarr x0 x1 x2 x3 x4 x5 x6 x7 x8 x9).x r).dqk h i k := by
  refine fill (fun n r => (it x0 x1 x2 x3 x4 x5 x6 x7 x8 x9 n).main_v46_16 (ix4 r h i k)) (fun r => ((rarr x0 x1 x2 x3 x4 x5 x6 x7 x8 x9).x r).dqk h i k) ?_ r
  intro n hn r
  refine (du4 (it x0 x1 x2 x3 x4 x5 x6 x7 x8 x9 n).main_v46_16 (b169 n (it x0 x1 x2 x3 x4 x5 x6 x7 x8 x9 n)) _ Gen.updateFits_S64x8x64x64_S1x8x64x64 (Arr.back n) (b3_toInt n _ hn) rfl rfl rfl r h i k).trans ?_
  by_cases hr : r = Arr.back n
  · subst hr
    rw [if_pos rfl, if_pos rfl]
    have h1 : b169 n (it x0 x1 x2 x3 x4 x5 x6 x7 x8 x9 n) (ix4 0 h i k) = b143 n (it x0 x1 x2 x3 x4 x5 x6 x7 x8 x9 n) (ix3 h i k) := by
      unfold b169
      pointwise
    rw [h1, dqk_eq, rX_it x0 x1 x2 x3 x4 x5 x6 x7 x8 x9 n hn]
  · rw [if_neg hr, if_neg hr]

/-- The stack of `dkd`. -/
theorem it64_17 (r : Fin 64) (h : Fin 8) (i : Fin 64) (d : Fin 128) :
    (it x0 x1 x2 x3 x4 x5 x6 x7 x8 x9 64).main_v46_17 (ix4 r h i d) = ((rarr x0 x1 x2 x3 x4 x5 x6 x7 x8 x9).x r).dkd ((rarr x0 x1 x2 x3 x4 x5 x6 x7 x8 x9).dSof r) h i d := by
  refine fill (fun n r => (it x0 x1 x2 x3 x4 x5 x6 x7 x8 x9 n).main_v46_17 (ix4 r h i d)) (fun r => ((rarr x0 x1 x2 x3 x4 x5 x6 x7 x8 x9).x r).dkd ((rarr x0 x1 x2 x3 x4 x5 x6 x7 x8 x9).dSof r) h i d) ?_ r
  intro n hn r
  refine (du4 (it x0 x1 x2 x3 x4 x5 x6 x7 x8 x9 n).main_v46_17 (b174 n (it x0 x1 x2 x3 x4 x5 x6 x7 x8 x9 n)) _ Gen.updateFits_S64x8x64x128_S1x8x64x128 (Arr.back n) (b3_toInt n _ hn) rfl rfl rfl r h i d).trans ?_
  by_cases hr : r = Arr.back n
  · subst hr
    rw [if_pos rfl, if_pos rfl]
    have h1 : b174 n (it x0 x1 x2 x3 x4 x5 x6 x7 x8 x9 n) (ix4 0 h i d) = b130 n (it x0 x1 x2 x3 x4 x5 x6 x7 x8 x9 n) (ix3 h i d) := by
      unfold b174
      pointwise
    rw [h1, dkd_eq, rX_it x0 x1 x2 x3 x4 x5 x6 x7 x8 x9 n hn, rD_it x0 x1 x2 x3 x4 x5 x6 x7 x8 x9 n (by omega), ← dSof_back x0 x1 x2 x3 x4 x5 x6 x7 x8 x9 n hn]
  · rw [if_neg hr, if_neg hr]

/-- The stack of the log decays' cotangents. -/
theorem it64_18 (r : Fin 64) (h : Fin 8) :
    (it x0 x1 x2 x3 x4 x5 x6 x7 x8 x9 64).main_v46_18 (ix2 r h) = ((rarr x0 x1 x2 x3 x4 x5 x6 x7 x8 x9).x r).dgl ((rarr x0 x1 x2 x3 x4 x5 x6 x7 x8 x9).dSof r) h := by
  refine fill (fun n r => (it x0 x1 x2 x3 x4 x5 x6 x7 x8 x9 n).main_v46_18 (ix2 r h)) (fun r => ((rarr x0 x1 x2 x3 x4 x5 x6 x7 x8 x9).x r).dgl ((rarr x0 x1 x2 x3 x4 x5 x6 x7 x8 x9).dSof r) h) ?_ r
  intro n hn r
  refine (du2 (it x0 x1 x2 x3 x4 x5 x6 x7 x8 x9 n).main_v46_18 (b179 n (it x0 x1 x2 x3 x4 x5 x6 x7 x8 x9 n)) _ Gen.updateFits_S64x8_S1x8 (Arr.back n) (b3_toInt n _ hn) rfl r h).trans ?_
  by_cases hr : r = Arr.back n
  · subst hr
    rw [if_pos rfl, if_pos rfl]
    have h1 : b179 n (it x0 x1 x2 x3 x4 x5 x6 x7 x8 x9 n) (ix2 0 h) = b139 n (it x0 x1 x2 x3 x4 x5 x6 x7 x8 x9 n) (ix1 h) := by
      unfold b179
      pointwise
    rw [h1, dgl_eq, rX_it x0 x1 x2 x3 x4 x5 x6 x7 x8 x9 n hn, rD_it x0 x1 x2 x3 x4 x5 x6 x7 x8 x9 n (by omega), ← dSof_back x0 x1 x2 x3 x4 x5 x6 x7 x8 x9 n hn]
  · rw [if_neg hr, if_neg hr]

/-- The stack of the gate's input's cotangents. -/
theorem it64_19 (r : Fin 64) (i : Fin 64) (h : Fin 8) (e : Fin 256) :
    (it x0 x1 x2 x3 x4 x5 x6 x7 x8 x9 64).main_v46_19 (ix3 r i (col h e)) = ((rarr x0 x1 x2 x3 x4 x5 x6 x7 x8 x9).x r).dz h i e := by
  refine fill (fun n r => (it x0 x1 x2 x3 x4 x5 x6 x7 x8 x9 n).main_v46_19 (ix3 r i (col h e))) (fun r => ((rarr x0 x1 x2 x3 x4 x5 x6 x7 x8 x9).x r).dz h i e) ?_ r
  intro n hn r
  refine (du3 (it x0 x1 x2 x3 x4 x5 x6 x7 x8 x9 n).main_v46_19 (b182 n (it x0 x1 x2 x3 x4 x5 x6 x7 x8 x9 n)) _ Gen.updateFits_S64x64x2048_S1x64x2048 (Arr.back n) (b3_toInt n _ hn) rfl rfl r i (col h e)).trans ?_
  by_cases hr : r = Arr.back n
  · subst hr
    rw [if_pos rfl, if_pos rfl]
    have h1 : b182 n (it x0 x1 x2 x3 x4 x5 x6 x7 x8 x9 n) (ix3 0 i (col h e)) = b98 n (it x0 x1 x2 x3 x4 x5 x6 x7 x8 x9 n) (ix2 i (col h e)) := by
      unfold b182
      pointwise
    rw [h1, dz_eq, rX_it x0 x1 x2 x3 x4 x5 x6 x7 x8 x9 n hn]
  · rw [if_neg hr, if_neg hr]

/-- Result `gq`. -/
theorem R51_eq : R_main_v51 (it x0 x1 x2 x3 x4 x5 x6 x7 x8 x9 64) = fun y : S8x4096x128.Idx => (rarr x0 x1 x2 x3 x4 x5 x6 x7 x8 x9).gq (y 0) (y 1) (y 2) := by
  funext y
  obtain ⟨h, r, d, rfl⟩ : ∃ h r d, y = ix3 h r d := ⟨y 0, y 1, y 2, eq_ix3 y⟩
  unfold R_main_v51
  pointwise
  exact it64_13 x0 x1 x2 x3 x4 x5 x6 x7 x8 x9 _ h _ d

/-- Result `gw`. -/
theorem R53_eq : R_main_v53 (it x0 x1 x2 x3 x4 x5 x6 x7 x8 x9 64) = fun y : S8x4096x128.Idx => (rarr x0 x1 x2 x3 x4 x5 x6 x7 x8 x9).gw (y 0) (y 1) (y 2) := by
  funext y
  obtain ⟨h, r, d, rfl⟩ : ∃ h r d, y = ix3 h r d := ⟨y 0, y 1, y 2, eq_ix3 y⟩
  unfold R_main_v53
  pointwise
  exact it64_14 x0 x1 x2 x3 x4 x5 x6 x7 x8 x9 _ h _ d

/-- Result `gu`. -/
theorem R55_eq : R_main_v55 (it x0 x1 x2 x3 x4 x5 x6 x7 x8 x9 64) = fun y : S8x4096x256.Idx => (rarr x0 x1 x2 x3 x4 x5 x6 x7 x8 x9).gu (y 0) (y 1) (y 2) := by
  funext y
  obtain ⟨h, r, e, rfl⟩ : ∃ h r e, y = ix3 h r e := ⟨y 0, y 1, y 2, eq_ix3 y⟩
  unfold R_main_v55
  pointwise
  exact it64_15 x0 x1 x2 x3 x4 x5 x6 x7 x8 x9 _ h _ e

/-- Result `gqk`. -/
theorem R57_eq : R_main_v57 (it x0 x1 x2 x3 x4 x5 x6 x7 x8 x9 64) = fun y : S8x4096x64.Idx => (rarr x0 x1 x2 x3 x4 x5 x6 x7 x8 x9).gqk (y 0) (y 1) (y 2) := by
  funext y
  obtain ⟨h, r, k, rfl⟩ : ∃ h r k, y = ix3 h r k := ⟨y 0, y 1, y 2, eq_ix3 y⟩
  unfold R_main_v57
  pointwise
  exact it64_16 x0 x1 x2 x3 x4 x5 x6 x7 x8 x9 _ h _ k

/-- Result `gkd`. -/
theorem R59_eq : R_main_v59 (it x0 x1 x2 x3 x4 x5 x6 x7 x8 x9 64) = fun y : S8x4096x128.Idx => (rarr x0 x1 x2 x3 x4 x5 x6 x7 x8 x9).gkd (y 0) (y 1) (y 2) := by
  funext y
  obtain ⟨h, r, d, rfl⟩ : ∃ h r d, y = ix3 h r d := ⟨y 0, y 1, y 2, eq_ix3 y⟩
  unfold R_main_v59
  pointwise
  exact it64_17 x0 x1 x2 x3 x4 x5 x6 x7 x8 x9 _ h _ d

/-- Result `gg`. -/
theorem R61_eq : R_main_v61 (it x0 x1 x2 x3 x4 x5 x6 x7 x8 x9 64) = fun y : S8x4096x1.Idx => (rarr x0 x1 x2 x3 x4 x5 x6 x7 x8 x9).gg (y 0) (y 1) := by
  funext y
  obtain ⟨h, r, k, rfl⟩ : ∃ h r k, y = ix3 h r k := ⟨y 0, y 1, y 2, eq_ix3 y⟩
  obtain rfl : k = 0 := Subsingleton.elim _ _
  unfold R_main_v61
  pointwise
  show _ = Arr.gg (rarr x0 x1 x2 x3 x4 x5 x6 x7 x8 x9) h r
  unfold Arr.gg
  by_cases hr : placeOf r = 63
  · have h1 : r.val % 64 = 63 := congrArg Fin.val hr
    rw [if_pos hr, dif_neg (by omega)]
    exact it64_18 x0 x1 x2 x3 x4 x5 x6 x7 x8 x9 _ h
  · have h1 : r.val % 64 ≠ 63 := fun h2 => hr (Fin.ext h2)
    rw [if_neg hr, dif_pos (by omega)]

/-- Result `gz`. -/
theorem R62_eq : R_main_v62 (it x0 x1 x2 x3 x4 x5 x6 x7 x8 x9 64) = fun y : S4096x2048.Idx => (rarr x0 x1 x2 x3 x4 x5 x6 x7 x8 x9).gz (y 0) (y 1) := by
  funext y
  obtain ⟨r, c, rfl⟩ : ∃ r c, y = ix2 r c := ⟨y 0, y 1, eq_ix2 y⟩
  obtain ⟨h, e, rfl⟩ := exists_col c
  unfold R_main_v62
  pointwise
  refine (it64_19 x0 x1 x2 x3 x4 x5 x6 x7 x8 x9 _ _ h e).trans ?_
  show _ = Arr.gz (rarr x0 x1 x2 x3 x4 x5 x6 x7 x8 x9) r (col h e)
  unfold Arr.gz
  rw [headOf_col, coordOf_col]
  rfl

/-- Result `gn`. -/
theorem R12_eq : (it x0 x1 x2 x3 x4 x5 x6 x7 x8 x9 64).main_v46_12 = fun y : S1x2048.Idx => (rarr x0 x1 x2 x3 x4 x5 x6 x7 x8 x9).gn (y 1) := by
  funext y
  obtain ⟨r, c, rfl⟩ : ∃ r c, y = ix2 r c := ⟨y 0, y 1, eq_ix2 y⟩
  obtain rfl : r = 0 := Subsingleton.elim _ _
  obtain ⟨h, e, rfl⟩ := exists_col c
  refine (dn_it x0 x1 x2 x3 x4 x5 x6 x7 x8 x9 64 le_rfl h e).trans ?_
  show _ = Arr.gn (rarr x0 x1 x2 x3 x4 x5 x6 x7 x8 x9) (col h e)
  unfold Arr.gn
  rw [headOf_col, coordOf_col]

end Cert.GdnRef
end
end
-- ==== Proof.GdnRun.lean ====
module

public import proofs.«01_k».proof.Proof.Gen.ReferenceIdeal.Run
public import proofs.«01_k».proof.Proof.Gen.ReferenceIdeal.Step

/-!
# The reference's run over its steps

The reference's run, stated over one trip's step: at a valuation that holds a state every value of one trip is the
step's, one lemma each; what precedes the loop leaves the first state; so the results are the fields of the step
iterated from the first state.
-/

@[expose] public section

noncomputable section

namespace Cert.GdnRun

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

variable (V0 : Valuation τ sig (Elt F)) (s : State F) (j : ℕ)

/-- The valuation holds the state, the set-up values and the trip's number. -/
structure Holds : Prop where
  f_11 : V0 (Proc.devRef .tc main_v46_11) = s.main_v46_11
  f_12 : V0 (Proc.devRef .tc main_v46_12) = s.main_v46_12
  f_13 : V0 (Proc.devRef .tc main_v46_13) = s.main_v46_13
  f_14 : V0 (Proc.devRef .tc main_v46_14) = s.main_v46_14
  f_15 : V0 (Proc.devRef .tc main_v46_15) = s.main_v46_15
  f_16 : V0 (Proc.devRef .tc main_v46_16) = s.main_v46_16
  f_17 : V0 (Proc.devRef .tc main_v46_17) = s.main_v46_17
  f_18 : V0 (Proc.devRef .tc main_v46_18) = s.main_v46_18
  f_19 : V0 (Proc.devRef .tc main_v46_19) = s.main_v46_19
  f_0 : V0 (Proc.devRef .tc main_v46_0) = s.main_v46_0
  f_1 : V0 (Proc.devRef .tc main_v46_1) = s.main_v46_1
  f_2 : V0 (Proc.devRef .tc main_v46_2) = s.main_v46_2
  f_3 : V0 (Proc.devRef .tc main_v46_3) = s.main_v46_3
  f_4 : V0 (Proc.devRef .tc main_v46_4) = s.main_v46_4
  f_5 : V0 (Proc.devRef .tc main_v46_5) = s.main_v46_5
  f_6 : V0 (Proc.devRef .tc main_v46_6) = s.main_v46_6
  f_7 : V0 (Proc.devRef .tc main_v46_7) = s.main_v46_7
  f_8 : V0 (Proc.devRef .tc main_v46_8) = s.main_v46_8
  f_9 : V0 (Proc.devRef .tc main_v46_9) = s.main_v46_9
  n_10 : V0 (Proc.devRef .tc main_v46_10) = constantI S_ 32 (BitVec.ofNat 32 j)

variable {V0 s j}

set_option maxRecDepth 8192 in
theorem al_0 (h : Holds V0 s j) : (constantI S_ 32 64#32 : (Proc.devRef .tc main_while0b_c_28 : DevRef τ sig).ty.Contents (Elt F)) = Cert.ReferenceIdeal.Step.b0 j s := by
  unfold Cert.ReferenceIdeal.Step.b0
  rfl
set_option maxRecDepth 8192 in
theorem al_1 (h : Holds V0 s j) : (subi (constantI S_ 32 64#32) (V0 (Proc.devRef .tc main_v46_10)) : (Proc.devRef .tc main_while0b_v63 : DevRef τ sig).ty.Contents (Elt F)) = Cert.ReferenceIdeal.Step.b1 j s := by
  unfold Cert.ReferenceIdeal.Step.b1
  rw [← al_0 h, h.n_10]
  try rfl
set_option maxRecDepth 8192 in
theorem al_2 (h : Holds V0 s j) : (constantI S_ 32 1#32 : (Proc.devRef .tc main_while0b_c_29 : DevRef τ sig).ty.Contents (Elt F)) = Cert.ReferenceIdeal.Step.b2 j s := by
  unfold Cert.ReferenceIdeal.Step.b2
  rfl
set_option maxRecDepth 8192 in
theorem al_3 (h : Holds V0 s j) : (res_main_while0b_v64 V0 : (Proc.devRef .tc main_while0b_v64 : DevRef τ sig).ty.Contents (Elt F)) = Cert.ReferenceIdeal.Step.b3 j s := by
  unfold res_main_while0b_v64 Cert.ReferenceIdeal.Step.b3
  rw [← al_1 h, ← al_2 h]
  try rfl
set_option maxRecDepth 8192 in
theorem al_4 (h : Holds V0 s j) : (constantI S_ 32 0#32 : (Proc.devRef .tc main_while0b_call0_c : DevRef τ sig).ty.Contents (Elt F)) = Cert.ReferenceIdeal.Step.b4 j s := by
  unfold Cert.ReferenceIdeal.Step.b4
  rfl
set_option maxRecDepth 8192 in
theorem al_5 (h : Holds V0 s j) : (constantI S_ 32 0#32 : (Proc.devRef .tc main_while0b_call0_c_0 : DevRef τ sig).ty.Contents (Elt F)) = Cert.ReferenceIdeal.Step.b5 j s := by
  unfold Cert.ReferenceIdeal.Step.b5
  rfl
set_option maxRecDepth 8192 in
theorem al_6 (h : Holds V0 s j) : (constantI S_ 32 0#32 : (Proc.devRef .tc main_while0b_call0_c_1 : DevRef τ sig).ty.Contents (Elt F)) = Cert.ReferenceIdeal.Step.b6 j s := by
  unfold Cert.ReferenceIdeal.Step.b6
  rfl
set_option maxRecDepth 8192 in
theorem al_7 (h : Holds V0 s j) : (Host.dynamicSlice S1x8x128x256 (V0 (Proc.devRef .tc main_v46_0)) (fun k => (((![res_main_while0b_v64 V0, constantI S_ 32 0#32, constantI S_ 32 0#32, constantI S_ 32 0#32] : Fin 4 → (⟨S_, .i32⟩ : BufTy).Contents (Elt F))) k (Shape.Idx.first h_S_)).toInt) sliceFits_S64x8x128x256_S1x8x128x256 : (Proc.devRef .tc main_while0b_call0_v0 : DevRef τ sig).ty.Contents (Elt F)) = Cert.ReferenceIdeal.Step.b7 j s := by
  unfold Cert.ReferenceIdeal.Step.b7
  rw [← al_3 h, ← al_4 h, ← al_5 h, ← al_6 h, h.f_0]
  try rfl
set_option maxRecDepth 8192 in
theorem al_8 (h : Holds V0 s j) : (res_main_while0b_v65 V0 : (Proc.devRef .tc main_while0b_v65 : DevRef τ sig).ty.Contents (Elt F)) = Cert.ReferenceIdeal.Step.b8 j s := by
  unfold res_main_while0b_v65 Cert.ReferenceIdeal.Step.b8
  rw [← al_7 h]
  try rfl
set_option maxRecDepth 8192 in
theorem al_9 (h : Holds V0 s j) : (constantI S_ 32 0#32 : (Proc.devRef .tc main_while0b_call1_c : DevRef τ sig).ty.Contents (Elt F)) = Cert.ReferenceIdeal.Step.b9 j s := by
  unfold Cert.ReferenceIdeal.Step.b9
  rfl
set_option maxRecDepth 8192 in
theorem al_10 (h : Holds V0 s j) : (constantI S_ 32 0#32 : (Proc.devRef .tc main_while0b_call1_c_0 : DevRef τ sig).ty.Contents (Elt F)) = Cert.ReferenceIdeal.Step.b10 j s := by
  unfold Cert.ReferenceIdeal.Step.b10
  rfl
set_option maxRecDepth 8192 in
theorem al_11 (h : Holds V0 s j) : (constantI S_ 32 0#32 : (Proc.devRef .tc main_while0b_call1_c_1 : DevRef τ sig).ty.Contents (Elt F)) = Cert.ReferenceIdeal.Step.b11 j s := by
  unfold Cert.ReferenceIdeal.Step.b11
  rfl
set_option maxRecDepth 8192 in
theorem al_12 (h : Holds V0 s j) : (Host.dynamicSlice S1x8x64x128 (V0 (Proc.devRef .tc main_v46_1)) (fun k => (((![res_main_while0b_v64 V0, constantI S_ 32 0#32, constantI S_ 32 0#32, constantI S_ 32 0#32] : Fin 4 → (⟨S_, .i32⟩ : BufTy).Contents (Elt F))) k (Shape.Idx.first h_S_)).toInt) sliceFits_S64x8x64x128_S1x8x64x128 : (Proc.devRef .tc main_while0b_call1_v0 : DevRef τ sig).ty.Contents (Elt F)) = Cert.ReferenceIdeal.Step.b12 j s := by
  unfold Cert.ReferenceIdeal.Step.b12
  rw [← al_3 h, ← al_9 h, ← al_10 h, ← al_11 h, h.f_1]
  try rfl
set_option maxRecDepth 8192 in
theorem al_13 (h : Holds V0 s j) : (res_main_while0b_v66 V0 : (Proc.devRef .tc main_while0b_v66 : DevRef τ sig).ty.Contents (Elt F)) = Cert.ReferenceIdeal.Step.b13 j s := by
  unfold res_main_while0b_v66 Cert.ReferenceIdeal.Step.b13
  rw [← al_12 h]
  try rfl
set_option maxRecDepth 8192 in
theorem al_14 (h : Holds V0 s j) : (constantI S_ 32 0#32 : (Proc.devRef .tc main_while0b_call2_c : DevRef τ sig).ty.Contents (Elt F)) = Cert.ReferenceIdeal.Step.b14 j s := by
  unfold Cert.ReferenceIdeal.Step.b14
  rfl
set_option maxRecDepth 8192 in
theorem al_15 (h : Holds V0 s j) : (constantI S_ 32 0#32 : (Proc.devRef .tc main_while0b_call2_c_0 : DevRef τ sig).ty.Contents (Elt F)) = Cert.ReferenceIdeal.Step.b15 j s := by
  unfold Cert.ReferenceIdeal.Step.b15
  rfl
set_option maxRecDepth 8192 in
theorem al_16 (h : Holds V0 s j) : (constantI S_ 32 0#32 : (Proc.devRef .tc main_while0b_call2_c_1 : DevRef τ sig).ty.Contents (Elt F)) = Cert.ReferenceIdeal.Step.b16 j s := by
  unfold Cert.ReferenceIdeal.Step.b16
  rfl
set_option maxRecDepth 8192 in
theorem al_17 (h : Holds V0 s j) : (Host.dynamicSlice S1x8x64x128 (V0 (Proc.devRef .tc main_v46_2)) (fun k => (((![res_main_while0b_v64 V0, constantI S_ 32 0#32, constantI S_ 32 0#32, constantI S_ 32 0#32] : Fin 4 → (⟨S_, .i32⟩ : BufTy).Contents (Elt F))) k (Shape.Idx.first h_S_)).toInt) sliceFits_S64x8x64x128_S1x8x64x128 : (Proc.devRef .tc main_while0b_call2_v0 : DevRef τ sig).ty.Contents (Elt F)) = Cert.ReferenceIdeal.Step.b17 j s := by
  unfold Cert.ReferenceIdeal.Step.b17
  rw [← al_3 h, ← al_14 h, ← al_15 h, ← al_16 h, h.f_2]
  try rfl
set_option maxRecDepth 8192 in
theorem al_18 (h : Holds V0 s j) : (res_main_while0b_v67 V0 : (Proc.devRef .tc main_while0b_v67 : DevRef τ sig).ty.Contents (Elt F)) = Cert.ReferenceIdeal.Step.b18 j s := by
  unfold res_main_while0b_v67 Cert.ReferenceIdeal.Step.b18
  rw [← al_17 h]
  try rfl
set_option maxRecDepth 8192 in
theorem al_19 (h : Holds V0 s j) : (constantI S_ 32 0#32 : (Proc.devRef .tc main_while0b_call3_c : DevRef τ sig).ty.Contents (Elt F)) = Cert.ReferenceIdeal.Step.b19 j s := by
  unfold Cert.ReferenceIdeal.Step.b19
  rfl
set_option maxRecDepth 8192 in
theorem al_20 (h : Holds V0 s j) : (constantI S_ 32 0#32 : (Proc.devRef .tc main_while0b_call3_c_0 : DevRef τ sig).ty.Contents (Elt F)) = Cert.ReferenceIdeal.Step.b20 j s := by
  unfold Cert.ReferenceIdeal.Step.b20
  rfl
set_option maxRecDepth 8192 in
theorem al_21 (h : Holds V0 s j) : (constantI S_ 32 0#32 : (Proc.devRef .tc main_while0b_call3_c_1 : DevRef τ sig).ty.Contents (Elt F)) = Cert.ReferenceIdeal.Step.b21 j s := by
  unfold Cert.ReferenceIdeal.Step.b21
  rfl
set_option maxRecDepth 8192 in
theorem al_22 (h : Holds V0 s j) : (Host.dynamicSlice S1x8x64x256 (V0 (Proc.devRef .tc main_v46_3)) (fun k => (((![res_main_while0b_v64 V0, constantI S_ 32 0#32, constantI S_ 32 0#32, constantI S_ 32 0#32] : Fin 4 → (⟨S_, .i32⟩ : BufTy).Contents (Elt F))) k (Shape.Idx.first h_S_)).toInt) sliceFits_S64x8x64x256_S1x8x64x256 : (Proc.devRef .tc main_while0b_call3_v0 : DevRef τ sig).ty.Contents (Elt F)) = Cert.ReferenceIdeal.Step.b22 j s := by
  unfold Cert.ReferenceIdeal.Step.b22
  rw [← al_3 h, ← al_19 h, ← al_20 h, ← al_21 h, h.f_3]
  try rfl
set_option maxRecDepth 8192 in
theorem al_23 (h : Holds V0 s j) : (shapeCast S8x64x256 (Host.dynamicSlice S1x8x64x256 (V0 (Proc.devRef .tc main_v46_3)) (fun k => (((![res_main_while0b_v64 V0, constantI S_ 32 0#32, constantI S_ 32 0#32, constantI S_ 32 0#32] : Fin 4 → (⟨S_, .i32⟩ : BufTy).Contents (Elt F))) k (Shape.Idx.first h_S_)).toInt) sliceFits_S64x8x64x256_S1x8x64x256) shapeCasts_S1x8x64x256_S8x64x256 : (Proc.devRef .tc main_while0b_v68 : DevRef τ sig).ty.Contents (Elt F)) = Cert.ReferenceIdeal.Step.b23 j s := by
  unfold Cert.ReferenceIdeal.Step.b23
  rw [← al_22 h]
  try rfl
set_option maxRecDepth 8192 in
theorem al_24 (h : Holds V0 s j) : (constantI S_ 32 0#32 : (Proc.devRef .tc main_while0b_call4_c : DevRef τ sig).ty.Contents (Elt F)) = Cert.ReferenceIdeal.Step.b24 j s := by
  unfold Cert.ReferenceIdeal.Step.b24
  rfl
set_option maxRecDepth 8192 in
theorem al_25 (h : Holds V0 s j) : (constantI S_ 32 0#32 : (Proc.devRef .tc main_while0b_call4_c_0 : DevRef τ sig).ty.Contents (Elt F)) = Cert.ReferenceIdeal.Step.b25 j s := by
  unfold Cert.ReferenceIdeal.Step.b25
  rfl
set_option maxRecDepth 8192 in
theorem al_26 (h : Holds V0 s j) : (constantI S_ 32 0#32 : (Proc.devRef .tc main_while0b_call4_c_1 : DevRef τ sig).ty.Contents (Elt F)) = Cert.ReferenceIdeal.Step.b26 j s := by
  unfold Cert.ReferenceIdeal.Step.b26
  rfl
set_option maxRecDepth 8192 in
theorem al_27 (h : Holds V0 s j) : (Host.dynamicSlice S1x8x64x64 (V0 (Proc.devRef .tc main_v46_4)) (fun k => (((![res_main_while0b_v64 V0, constantI S_ 32 0#32, constantI S_ 32 0#32, constantI S_ 32 0#32] : Fin 4 → (⟨S_, .i32⟩ : BufTy).Contents (Elt F))) k (Shape.Idx.first h_S_)).toInt) sliceFits_S64x8x64x64_S1x8x64x64 : (Proc.devRef .tc main_while0b_call4_v0 : DevRef τ sig).ty.Contents (Elt F)) = Cert.ReferenceIdeal.Step.b27 j s := by
  unfold Cert.ReferenceIdeal.Step.b27
  rw [← al_3 h, ← al_24 h, ← al_25 h, ← al_26 h, h.f_4]
  try rfl
set_option maxRecDepth 8192 in
theorem al_28 (h : Holds V0 s j) : (res_main_while0b_v69 V0 : (Proc.devRef .tc main_while0b_v69 : DevRef τ sig).ty.Contents (Elt F)) = Cert.ReferenceIdeal.Step.b28 j s := by
  unfold res_main_while0b_v69 Cert.ReferenceIdeal.Step.b28
  rw [← al_27 h]
  try rfl
set_option maxRecDepth 8192 in
theorem al_29 (h : Holds V0 s j) : (constantI S_ 32 0#32 : (Proc.devRef .tc main_while0b_call5_c : DevRef τ sig).ty.Contents (Elt F)) = Cert.ReferenceIdeal.Step.b29 j s := by
  unfold Cert.ReferenceIdeal.Step.b29
  rfl
set_option maxRecDepth 8192 in
theorem al_30 (h : Holds V0 s j) : (constantI S_ 32 0#32 : (Proc.devRef .tc main_while0b_call5_c_0 : DevRef τ sig).ty.Contents (Elt F)) = Cert.ReferenceIdeal.Step.b30 j s := by
  unfold Cert.ReferenceIdeal.Step.b30
  rfl
set_option maxRecDepth 8192 in
theorem al_31 (h : Holds V0 s j) : (constantI S_ 32 0#32 : (Proc.devRef .tc main_while0b_call5_c_1 : DevRef τ sig).ty.Contents (Elt F)) = Cert.ReferenceIdeal.Step.b31 j s := by
  unfold Cert.ReferenceIdeal.Step.b31
  rfl
set_option maxRecDepth 8192 in
theorem al_32 (h : Holds V0 s j) : (Host.dynamicSlice S1x8x64x128 (V0 (Proc.devRef .tc main_v46_5)) (fun k => (((![res_main_while0b_v64 V0, constantI S_ 32 0#32, constantI S_ 32 0#32, constantI S_ 32 0#32] : Fin 4 → (⟨S_, .i32⟩ : BufTy).Contents (Elt F))) k (Shape.Idx.first h_S_)).toInt) sliceFits_S64x8x64x128_S1x8x64x128 : (Proc.devRef .tc main_while0b_call5_v0 : DevRef τ sig).ty.Contents (Elt F)) = Cert.ReferenceIdeal.Step.b32 j s := by
  unfold Cert.ReferenceIdeal.Step.b32
  rw [← al_3 h, ← al_29 h, ← al_30 h, ← al_31 h, h.f_5]
  try rfl
set_option maxRecDepth 8192 in
theorem al_33 (h : Holds V0 s j) : (res_main_while0b_v70 V0 : (Proc.devRef .tc main_while0b_v70 : DevRef τ sig).ty.Contents (Elt F)) = Cert.ReferenceIdeal.Step.b33 j s := by
  unfold res_main_while0b_v70 Cert.ReferenceIdeal.Step.b33
  rw [← al_32 h]
  try rfl
set_option maxRecDepth 8192 in
theorem al_34 (h : Holds V0 s j) : (constantI S_ 32 0#32 : (Proc.devRef .tc main_while0b_call6_c : DevRef τ sig).ty.Contents (Elt F)) = Cert.ReferenceIdeal.Step.b34 j s := by
  unfold Cert.ReferenceIdeal.Step.b34
  rfl
set_option maxRecDepth 8192 in
theorem al_35 (h : Holds V0 s j) : (Host.dynamicSlice S1x8 (V0 (Proc.devRef .tc main_v46_6)) (fun k => (((![res_main_while0b_v64 V0, constantI S_ 32 0#32] : Fin 2 → (⟨S_, .i32⟩ : BufTy).Contents (Elt F))) k (Shape.Idx.first h_S_)).toInt) sliceFits_S64x8_S1x8 : (Proc.devRef .tc main_while0b_call6_v0 : DevRef τ sig).ty.Contents (Elt F)) = Cert.ReferenceIdeal.Step.b35 j s := by
  unfold Cert.ReferenceIdeal.Step.b35
  rw [← al_3 h, ← al_34 h, h.f_6]
  try rfl
set_option maxRecDepth 8192 in
theorem al_36 (h : Holds V0 s j) : (shapeCast S8 (Host.dynamicSlice S1x8 (V0 (Proc.devRef .tc main_v46_6)) (fun k => (((![res_main_while0b_v64 V0, constantI S_ 32 0#32] : Fin 2 → (⟨S_, .i32⟩ : BufTy).Contents (Elt F))) k (Shape.Idx.first h_S_)).toInt) sliceFits_S64x8_S1x8) shapeCasts_S1x8_S8 : (Proc.devRef .tc main_while0b_v71 : DevRef τ sig).ty.Contents (Elt F)) = Cert.ReferenceIdeal.Step.b36 j s := by
  unfold Cert.ReferenceIdeal.Step.b36
  rw [← al_35 h]
  try rfl
set_option maxRecDepth 8192 in
theorem al_37 (h : Holds V0 s j) : (constantI S_ 32 0#32 : (Proc.devRef .tc main_while0b_call7_c : DevRef τ sig).ty.Contents (Elt F)) = Cert.ReferenceIdeal.Step.b37 j s := by
  unfold Cert.ReferenceIdeal.Step.b37
  rfl
set_option maxRecDepth 8192 in
theorem al_38 (h : Holds V0 s j) : (constantI S_ 32 0#32 : (Proc.devRef .tc main_while0b_call7_c_0 : DevRef τ sig).ty.Contents (Elt F)) = Cert.ReferenceIdeal.Step.b38 j s := by
  unfold Cert.ReferenceIdeal.Step.b38
  rfl
set_option maxRecDepth 8192 in
theorem al_39 (h : Holds V0 s j) : (Host.dynamicSlice S1x64x2048 (V0 (Proc.devRef .tc main_v46_7)) (fun k => (((![res_main_while0b_v64 V0, constantI S_ 32 0#32, constantI S_ 32 0#32] : Fin 3 → (⟨S_, .i32⟩ : BufTy).Contents (Elt F))) k (Shape.Idx.first h_S_)).toInt) sliceFits_S64x64x2048_S1x64x2048 : (Proc.devRef .tc main_while0b_call7_v0 : DevRef τ sig).ty.Contents (Elt F)) = Cert.ReferenceIdeal.Step.b39 j s := by
  unfold Cert.ReferenceIdeal.Step.b39
  rw [← al_3 h, ← al_37 h, ← al_38 h, h.f_7]
  try rfl
set_option maxRecDepth 8192 in
theorem al_40 (h : Holds V0 s j) : (res_main_while0b_v72 V0 : (Proc.devRef .tc main_while0b_v72 : DevRef τ sig).ty.Contents (Elt F)) = Cert.ReferenceIdeal.Step.b40 j s := by
  unfold res_main_while0b_v72 Cert.ReferenceIdeal.Step.b40
  rw [← al_39 h]
  try rfl
set_option maxRecDepth 8192 in
theorem al_41 (h : Holds V0 s j) : (constantI S_ 32 0#32 : (Proc.devRef .tc main_while0b_call8_c : DevRef τ sig).ty.Contents (Elt F)) = Cert.ReferenceIdeal.Step.b41 j s := by
  unfold Cert.ReferenceIdeal.Step.b41
  rfl
set_option maxRecDepth 8192 in
theorem al_42 (h : Holds V0 s j) : (constantI S_ 32 0#32 : (Proc.devRef .tc main_while0b_call8_c_0 : DevRef τ sig).ty.Contents (Elt F)) = Cert.ReferenceIdeal.Step.b42 j s := by
  unfold Cert.ReferenceIdeal.Step.b42
  rfl
set_option maxRecDepth 8192 in
theorem al_43 (h : Holds V0 s j) : (Host.dynamicSlice S1x64x2048 (V0 (Proc.devRef .tc main_v46_8)) (fun k => (((![res_main_while0b_v64 V0, constantI S_ 32 0#32, constantI S_ 32 0#32] : Fin 3 → (⟨S_, .i32⟩ : BufTy).Contents (Elt F))) k (Shape.Idx.first h_S_)).toInt) sliceFits_S64x64x2048_S1x64x2048 : (Proc.devRef .tc main_while0b_call8_v0 : DevRef τ sig).ty.Contents (Elt F)) = Cert.ReferenceIdeal.Step.b43 j s := by
  unfold Cert.ReferenceIdeal.Step.b43
  rw [← al_3 h, ← al_41 h, ← al_42 h, h.f_8]
  try rfl
set_option maxRecDepth 8192 in
theorem al_44 (h : Holds V0 s j) : (res_main_while0b_v73 V0 : (Proc.devRef .tc main_while0b_v73 : DevRef τ sig).ty.Contents (Elt F)) = Cert.ReferenceIdeal.Step.b44 j s := by
  unfold res_main_while0b_v73 Cert.ReferenceIdeal.Step.b44
  rw [← al_43 h]
  try rfl
set_option maxRecDepth 8192 in
theorem al_45 (h : Holds V0 s j) : (Host.dotGeneral dot_S8x64x128_S8x128x256_S8x64x256_2_1_1_2_0_0 none (res_main_while0b_v67 V0) (res_main_while0b_v65 V0) : (Proc.devRef .tc main_while0b_v74 : DevRef τ sig).ty.Contents (Elt F)) = Cert.ReferenceIdeal.Step.b45 j s := by
  unfold Cert.ReferenceIdeal.Step.b45
  rw [← al_18 h, ← al_8 h]
  try rfl
set_option maxRecDepth 8192 in
theorem al_46 (h : Holds V0 s j) : (res_main_while0b_v75 V0 : (Proc.devRef .tc main_while0b_v75 : DevRef τ sig).ty.Contents (Elt F)) = Cert.ReferenceIdeal.Step.b46 j s := by
  unfold res_main_while0b_v75 Cert.ReferenceIdeal.Step.b46
  rw [← al_23 h, ← al_45 h]
  try rfl
set_option maxRecDepth 8192 in
theorem al_47 (h : Holds V0 s j) : (Host.dotGeneral dot_S8x64x128_S8x128x256_S8x64x256_2_1_1_2_0_0 none (res_main_while0b_v66 V0) (res_main_while0b_v65 V0) : (Proc.devRef .tc main_while0b_v76 : DevRef τ sig).ty.Contents (Elt F)) = Cert.ReferenceIdeal.Step.b47 j s := by
  unfold Cert.ReferenceIdeal.Step.b47
  rw [← al_13 h, ← al_8 h]
  try rfl
set_option maxRecDepth 8192 in
theorem al_48 (h : Holds V0 s j) : (Host.dotGeneral dot_S8x64x64_S8x64x256_S8x64x256_2_1_1_2_0_0 none (res_main_while0b_v69 V0) (res_main_while0b_v75 V0) : (Proc.devRef .tc main_while0b_v77 : DevRef τ sig).ty.Contents (Elt F)) = Cert.ReferenceIdeal.Step.b48 j s := by
  unfold Cert.ReferenceIdeal.Step.b48
  rw [← al_28 h, ← al_46 h]
  try rfl
set_option maxRecDepth 8192 in
theorem al_49 (h : Holds V0 s j) : (addf (Host.dotGeneral dot_S8x64x128_S8x128x256_S8x64x256_2_1_1_2_0_0 none (res_main_while0b_v66 V0) (res_main_while0b_v65 V0)) (Host.dotGeneral dot_S8x64x64_S8x64x256_S8x64x256_2_1_1_2_0_0 none (res_main_while0b_v69 V0) (res_main_while0b_v75 V0)) : (Proc.devRef .tc main_while0b_v78 : DevRef τ sig).ty.Contents (Elt F)) = Cert.ReferenceIdeal.Step.b49 j s := by
  unfold Cert.ReferenceIdeal.Step.b49
  rw [← al_47 h, ← al_48 h]
  try rfl
set_option maxRecDepth 8192 in
theorem al_50 (h : Holds V0 s j) : (res_main_while0b_v79 V0 : (Proc.devRef .tc main_while0b_v79 : DevRef τ sig).ty.Contents (Elt F)) = Cert.ReferenceIdeal.Step.b50 j s := by
  unfold res_main_while0b_v79 Cert.ReferenceIdeal.Step.b50
  rw [← al_36 h]
  try rfl
set_option maxRecDepth 8192 in
theorem al_51 (h : Holds V0 s j) : (res_main_while0b_v80 V0 : (Proc.devRef .tc main_while0b_v80 : DevRef τ sig).ty.Contents (Elt F)) = Cert.ReferenceIdeal.Step.b51 j s := by
  unfold res_main_while0b_v80 Cert.ReferenceIdeal.Step.b51
  rw [← al_50 h]
  try rfl
set_option maxRecDepth 8192 in
theorem al_52 (h : Holds V0 s j) : (broadcastInDim S8x128x256 ![0, 1, 2] bcast_S8x1x1_S8x128x256_0_1_2 (res_main_while0b_v80 V0) : (Proc.devRef .tc main_while0b_v81 : DevRef τ sig).ty.Contents (Elt F)) = Cert.ReferenceIdeal.Step.b52 j s := by
  unfold Cert.ReferenceIdeal.Step.b52
  rw [← al_51 h]
  try rfl
set_option maxRecDepth 8192 in
theorem al_53 (h : Holds V0 s j) : (mulf (broadcastInDim S8x128x256 ![0, 1, 2] bcast_S8x1x1_S8x128x256_0_1_2 (res_main_while0b_v80 V0)) (res_main_while0b_v65 V0) : (Proc.devRef .tc main_while0b_v82 : DevRef τ sig).ty.Contents (Elt F)) = Cert.ReferenceIdeal.Step.b53 j s := by
  unfold Cert.ReferenceIdeal.Step.b53
  rw [← al_52 h, ← al_8 h]
  try rfl
set_option maxRecDepth 8192 in
theorem al_54 (h : Holds V0 s j) : (Host.dotGeneral dot_S8x64x128_S8x64x256_S8x128x256_1_1_2_2_0_0 none (res_main_while0b_v70 V0) (res_main_while0b_v75 V0) : (Proc.devRef .tc main_while0b_v83 : DevRef τ sig).ty.Contents (Elt F)) = Cert.ReferenceIdeal.Step.b54 j s := by
  unfold Cert.ReferenceIdeal.Step.b54
  rw [← al_33 h, ← al_46 h]
  try rfl
set_option maxRecDepth 8192 in
theorem al_55 (h : Holds V0 s j) : (addf (mulf (broadcastInDim S8x128x256 ![0, 1, 2] bcast_S8x1x1_S8x128x256_0_1_2 (res_main_while0b_v80 V0)) (res_main_while0b_v65 V0)) (Host.dotGeneral dot_S8x64x128_S8x64x256_S8x128x256_1_1_2_2_0_0 none (res_main_while0b_v70 V0) (res_main_while0b_v75 V0)) : (Proc.devRef .tc main_while0b_v84 : DevRef τ sig).ty.Contents (Elt F)) = Cert.ReferenceIdeal.Step.b55 j s := by
  unfold Cert.ReferenceIdeal.Step.b55
  rw [← al_53 h, ← al_54 h]
  try rfl
set_option maxRecDepth 8192 in
theorem al_56 (h : Holds V0 s j) : (res_main_while0b_v85 V0 : (Proc.devRef .tc main_while0b_v85 : DevRef τ sig).ty.Contents (Elt F)) = Cert.ReferenceIdeal.Step.b56 j s := by
  unfold res_main_while0b_v85 Cert.ReferenceIdeal.Step.b56
  rw [← al_49 h]
  try rfl
set_option maxRecDepth 8192 in
theorem al_57 (h : Holds V0 s j) : (mulf (res_main_while0b_v85 V0) (res_main_while0b_v85 V0) : (Proc.devRef .tc main_while0b_v86 : DevRef τ sig).ty.Contents (Elt F)) = Cert.ReferenceIdeal.Step.b57 j s := by
  unfold Cert.ReferenceIdeal.Step.b57
  rw [← al_56 h]
  try rfl
set_option maxRecDepth 8192 in
theorem al_58 (h : Holds V0 s j) : (constant S_ .f32 0x00000000#32 : (Proc.devRef .tc main_while0b_cst_30 : DevRef τ sig).ty.Contents (Elt F)) = Cert.ReferenceIdeal.Step.b58 j s := by
  unfold Cert.ReferenceIdeal.Step.b58
  rfl
set_option maxRecDepth 8192 in
theorem al_59 (h : Holds V0 s j) : (Host.reduceAdd (mulf (res_main_while0b_v85 V0) (res_main_while0b_v85 V0)) (constant S_ .f32 0x00000000#32) reducesTo_S64x8x256_S64x8_d2 h_S_ : (Proc.devRef .tc main_while0b_v87 : DevRef τ sig).ty.Contents (Elt F)) = Cert.ReferenceIdeal.Step.b59 j s := by
  unfold Cert.ReferenceIdeal.Step.b59
  rw [← al_57 h, ← al_58 h]
  try rfl
set_option maxRecDepth 8192 in
theorem al_60 (h : Holds V0 s j) : (broadcastInDim S64x8x1 ![0, 1] bcast_S64x8_S64x8x1_0_1 (Host.reduceAdd (mulf (res_main_while0b_v85 V0) (res_main_while0b_v85 V0)) (constant S_ .f32 0x00000000#32) reducesTo_S64x8x256_S64x8_d2 h_S_) : (Proc.devRef .tc main_while0b_v88 : DevRef τ sig).ty.Contents (Elt F)) = Cert.ReferenceIdeal.Step.b60 j s := by
  unfold Cert.ReferenceIdeal.Step.b60
  rw [← al_59 h]
  try rfl
set_option maxRecDepth 8192 in
theorem al_61 (h : Holds V0 s j) : (constant S_ .f32 0x43800000#32 : (Proc.devRef .tc main_while0b_cst_31 : DevRef τ sig).ty.Contents (Elt F)) = Cert.ReferenceIdeal.Step.b61 j s := by
  unfold Cert.ReferenceIdeal.Step.b61
  rfl
set_option maxRecDepth 8192 in
theorem al_62 (h : Holds V0 s j) : (broadcastInDim S64x8x1 ![] bcast_S_S64x8x1 (constant S_ .f32 0x43800000#32) : (Proc.devRef .tc main_while0b_v89 : DevRef τ sig).ty.Contents (Elt F)) = Cert.ReferenceIdeal.Step.b62 j s := by
  unfold Cert.ReferenceIdeal.Step.b62
  rw [← al_61 h]
  try rfl
set_option maxRecDepth 8192 in
theorem al_63 (h : Holds V0 s j) : (Host.divf (broadcastInDim S64x8x1 ![0, 1] bcast_S64x8_S64x8x1_0_1 (Host.reduceAdd (mulf (res_main_while0b_v85 V0) (res_main_while0b_v85 V0)) (constant S_ .f32 0x00000000#32) reducesTo_S64x8x256_S64x8_d2 h_S_)) (broadcastInDim S64x8x1 ![] bcast_S_S64x8x1 (constant S_ .f32 0x43800000#32)) : (Proc.devRef .tc main_while0b_v90 : DevRef τ sig).ty.Contents (Elt F)) = Cert.ReferenceIdeal.Step.b63 j s := by
  unfold Cert.ReferenceIdeal.Step.b63
  rw [← al_60 h, ← al_62 h]
  try rfl
set_option maxRecDepth 8192 in
theorem al_64 (h : Holds V0 s j) : (constant S_ .f32 0x358637BD#32 : (Proc.devRef .tc main_while0b_cst_32 : DevRef τ sig).ty.Contents (Elt F)) = Cert.ReferenceIdeal.Step.b64 j s := by
  unfold Cert.ReferenceIdeal.Step.b64
  rfl
set_option maxRecDepth 8192 in
theorem al_65 (h : Holds V0 s j) : (broadcastInDim S64x8x1 ![] bcast_S_S64x8x1 (constant S_ .f32 0x358637BD#32) : (Proc.devRef .tc main_while0b_v91 : DevRef τ sig).ty.Contents (Elt F)) = Cert.ReferenceIdeal.Step.b65 j s := by
  unfold Cert.ReferenceIdeal.Step.b65
  rw [← al_64 h]
  try rfl
set_option maxRecDepth 8192 in
theorem al_66 (h : Holds V0 s j) : (res_main_while0b_v92 V0 : (Proc.devRef .tc main_while0b_v92 : DevRef τ sig).ty.Contents (Elt F)) = Cert.ReferenceIdeal.Step.b66 j s := by
  unfold res_main_while0b_v92 Cert.ReferenceIdeal.Step.b66
  rw [← al_63 h, ← al_65 h]
  try rfl
set_option maxRecDepth 8192 in
theorem al_67 (h : Holds V0 s j) : (res_main_while0b_v93 V0 : (Proc.devRef .tc main_while0b_v93 : DevRef τ sig).ty.Contents (Elt F)) = Cert.ReferenceIdeal.Step.b67 j s := by
  unfold res_main_while0b_v93 Cert.ReferenceIdeal.Step.b67
  rw [← al_66 h]
  try rfl
set_option maxRecDepth 8192 in
theorem al_68 (h : Holds V0 s j) : (Host.divf (res_main_while0b_v93 V0) (res_main_while0b_v92 V0) : (Proc.devRef .tc main_while0b_v94 : DevRef τ sig).ty.Contents (Elt F)) = Cert.ReferenceIdeal.Step.b68 j s := by
  unfold Cert.ReferenceIdeal.Step.b68
  rw [← al_67 h, ← al_66 h]
  try rfl
set_option maxRecDepth 8192 in
theorem al_69 (h : Holds V0 s j) : (constant S_ .f32 0xBF000000#32 : (Proc.devRef .tc main_while0b_cst_33 : DevRef τ sig).ty.Contents (Elt F)) = Cert.ReferenceIdeal.Step.b69 j s := by
  unfold Cert.ReferenceIdeal.Step.b69
  rfl
set_option maxRecDepth 8192 in
theorem al_70 (h : Holds V0 s j) : (broadcastInDim S64x8x1 ![] bcast_S_S64x8x1 (constant S_ .f32 0xBF000000#32) : (Proc.devRef .tc main_while0b_v95 : DevRef τ sig).ty.Contents (Elt F)) = Cert.ReferenceIdeal.Step.b70 j s := by
  unfold Cert.ReferenceIdeal.Step.b70
  rw [← al_69 h]
  try rfl
set_option maxRecDepth 8192 in
theorem al_71 (h : Holds V0 s j) : (mulf (broadcastInDim S64x8x1 ![] bcast_S_S64x8x1 (constant S_ .f32 0xBF000000#32)) (Host.divf (res_main_while0b_v93 V0) (res_main_while0b_v92 V0)) : (Proc.devRef .tc main_while0b_v96 : DevRef τ sig).ty.Contents (Elt F)) = Cert.ReferenceIdeal.Step.b71 j s := by
  unfold Cert.ReferenceIdeal.Step.b71
  rw [← al_70 h, ← al_68 h]
  try rfl
set_option maxRecDepth 8192 in
theorem al_72 (h : Holds V0 s j) : (broadcastInDim S64x8x256 ![0, 1, 2] bcast_S64x8x1_S64x8x256_0_1_2 (res_main_while0b_v93 V0) : (Proc.devRef .tc main_while0b_v97 : DevRef τ sig).ty.Contents (Elt F)) = Cert.ReferenceIdeal.Step.b72 j s := by
  unfold Cert.ReferenceIdeal.Step.b72
  rw [← al_67 h]
  try rfl
set_option maxRecDepth 8192 in
theorem al_73 (h : Holds V0 s j) : (res_main_while0b_v98 V0 : (Proc.devRef .tc main_while0b_v98 : DevRef τ sig).ty.Contents (Elt F)) = Cert.ReferenceIdeal.Step.b73 j s := by
  unfold res_main_while0b_v98 Cert.ReferenceIdeal.Step.b73
  rw [← al_56 h, ← al_72 h]
  try rfl
set_option maxRecDepth 8192 in
theorem al_74 (h : Holds V0 s j) : (shapeCast S8x256 (V0 (Proc.devRef .tc main_v46_9)) shapeCasts_S1x2048_S8x256 : (Proc.devRef .tc main_while0b_v99 : DevRef τ sig).ty.Contents (Elt F)) = Cert.ReferenceIdeal.Step.b74 j s := by
  unfold Cert.ReferenceIdeal.Step.b74
  rw [h.f_9]
  try rfl
set_option maxRecDepth 8192 in
theorem al_75 (h : Holds V0 s j) : (res_main_while0b_v100 V0 : (Proc.devRef .tc main_while0b_v100 : DevRef τ sig).ty.Contents (Elt F)) = Cert.ReferenceIdeal.Step.b75 j s := by
  unfold res_main_while0b_v100 Cert.ReferenceIdeal.Step.b75
  rw [← al_74 h]
  try rfl
set_option maxRecDepth 8192 in
theorem al_76 (h : Holds V0 s j) : (broadcastInDim S64x8x256 ![0, 1, 2] bcast_S1x8x256_S64x8x256_0_1_2 (res_main_while0b_v100 V0) : (Proc.devRef .tc main_while0b_v101 : DevRef τ sig).ty.Contents (Elt F)) = Cert.ReferenceIdeal.Step.b76 j s := by
  unfold Cert.ReferenceIdeal.Step.b76
  rw [← al_75 h]
  try rfl
set_option maxRecDepth 8192 in
theorem al_77 (h : Holds V0 s j) : (mulf (res_main_while0b_v98 V0) (broadcastInDim S64x8x256 ![0, 1, 2] bcast_S1x8x256_S64x8x256_0_1_2 (res_main_while0b_v100 V0)) : (Proc.devRef .tc main_while0b_v102 : DevRef τ sig).ty.Contents (Elt F)) = Cert.ReferenceIdeal.Step.b77 j s := by
  unfold Cert.ReferenceIdeal.Step.b77
  rw [← al_73 h, ← al_76 h]
  try rfl
set_option maxRecDepth 8192 in
theorem al_78 (h : Holds V0 s j) : (res_main_while0b_v103 V0 : (Proc.devRef .tc main_while0b_v103 : DevRef τ sig).ty.Contents (Elt F)) = Cert.ReferenceIdeal.Step.b78 j s := by
  unfold res_main_while0b_v103 Cert.ReferenceIdeal.Step.b78
  rw [← al_77 h]
  try rfl
set_option maxRecDepth 8192 in
theorem al_79 (h : Holds V0 s j) : (Host.negf (res_main_while0b_v72 V0) : (Proc.devRef .tc main_while0b_call9_v0 : DevRef τ sig).ty.Contents (Elt F)) = Cert.ReferenceIdeal.Step.b79 j s := by
  unfold Cert.ReferenceIdeal.Step.b79
  rw [← al_40 h]
  try rfl
set_option maxRecDepth 8192 in
theorem al_80 (h : Holds V0 s j) : (Host.exp (Host.negf (res_main_while0b_v72 V0)) : (Proc.devRef .tc main_while0b_call9_v1 : DevRef τ sig).ty.Contents (Elt F)) = Cert.ReferenceIdeal.Step.b80 j s := by
  unfold Cert.ReferenceIdeal.Step.b80
  rw [← al_79 h]
  try rfl
set_option maxRecDepth 8192 in
theorem al_81 (h : Holds V0 s j) : (constant S_ .f32 0x3F800000#32 : (Proc.devRef .tc main_while0b_call9_cst : DevRef τ sig).ty.Contents (Elt F)) = Cert.ReferenceIdeal.Step.b81 j s := by
  unfold Cert.ReferenceIdeal.Step.b81
  rfl
set_option maxRecDepth 8192 in
theorem al_82 (h : Holds V0 s j) : (broadcastInDim S64x2048 ![] bcast_S_S64x2048 (constant S_ .f32 0x3F800000#32) : (Proc.devRef .tc main_while0b_call9_v2 : DevRef τ sig).ty.Contents (Elt F)) = Cert.ReferenceIdeal.Step.b82 j s := by
  unfold Cert.ReferenceIdeal.Step.b82
  rw [← al_81 h]
  try rfl
set_option maxRecDepth 8192 in
theorem al_83 (h : Holds V0 s j) : (addf (broadcastInDim S64x2048 ![] bcast_S_S64x2048 (constant S_ .f32 0x3F800000#32)) (Host.exp (Host.negf (res_main_while0b_v72 V0))) : (Proc.devRef .tc main_while0b_call9_v3 : DevRef τ sig).ty.Contents (Elt F)) = Cert.ReferenceIdeal.Step.b83 j s := by
  unfold Cert.ReferenceIdeal.Step.b83
  rw [← al_82 h, ← al_80 h]
  try rfl
set_option maxRecDepth 8192 in
theorem al_84 (h : Holds V0 s j) : (constant S_ .f32 0x3F800000#32 : (Proc.devRef .tc main_while0b_call9_cst_0 : DevRef τ sig).ty.Contents (Elt F)) = Cert.ReferenceIdeal.Step.b84 j s := by
  unfold Cert.ReferenceIdeal.Step.b84
  rfl
set_option maxRecDepth 8192 in
theorem al_85 (h : Holds V0 s j) : (broadcastInDim S64x2048 ![] bcast_S_S64x2048 (constant S_ .f32 0x3F800000#32) : (Proc.devRef .tc main_while0b_call9_v4 : DevRef τ sig).ty.Contents (Elt F)) = Cert.ReferenceIdeal.Step.b85 j s := by
  unfold Cert.ReferenceIdeal.Step.b85
  rw [← al_84 h]
  try rfl
set_option maxRecDepth 8192 in
theorem al_86 (h : Holds V0 s j) : (res_main_while0b_v104_2 V0 : (Proc.devRef .tc main_while0b_v104_2 : DevRef τ sig).ty.Contents (Elt F)) = Cert.ReferenceIdeal.Step.b86 j s := by
  unfold res_main_while0b_v104_2 Cert.ReferenceIdeal.Step.b86
  rw [← al_85 h, ← al_83 h]
  try rfl
set_option maxRecDepth 8192 in
theorem al_87 (h : Holds V0 s j) : (constant S_ .f32 0x3F800000#32 : (Proc.devRef .tc main_while0b_call9_cst_1 : DevRef τ sig).ty.Contents (Elt F)) = Cert.ReferenceIdeal.Step.b87 j s := by
  unfold Cert.ReferenceIdeal.Step.b87
  rfl
set_option maxRecDepth 8192 in
theorem al_88 (h : Holds V0 s j) : (broadcastInDim S64x2048 ![] bcast_S_S64x2048 (constant S_ .f32 0x3F800000#32) : (Proc.devRef .tc main_while0b_call9_v6 : DevRef τ sig).ty.Contents (Elt F)) = Cert.ReferenceIdeal.Step.b88 j s := by
  unfold Cert.ReferenceIdeal.Step.b88
  rw [← al_87 h]
  try rfl
set_option maxRecDepth 8192 in
theorem al_89 (h : Holds V0 s j) : (subf (broadcastInDim S64x2048 ![] bcast_S_S64x2048 (constant S_ .f32 0x3F800000#32)) (res_main_while0b_v104_2 V0) : (Proc.devRef .tc main_while0b_call9_v7 : DevRef τ sig).ty.Contents (Elt F)) = Cert.ReferenceIdeal.Step.b89 j s := by
  unfold Cert.ReferenceIdeal.Step.b89
  rw [← al_88 h, ← al_86 h]
  try rfl
set_option maxRecDepth 8192 in
theorem al_90 (h : Holds V0 s j) : (mulf (res_main_while0b_v104_2 V0) (subf (broadcastInDim S64x2048 ![] bcast_S_S64x2048 (constant S_ .f32 0x3F800000#32)) (res_main_while0b_v104_2 V0)) : (Proc.devRef .tc main_while0b_v104_1 : DevRef τ sig).ty.Contents (Elt F)) = Cert.ReferenceIdeal.Step.b90 j s := by
  unfold Cert.ReferenceIdeal.Step.b90
  rw [← al_86 h, ← al_89 h]
  try rfl
set_option maxRecDepth 8192 in
theorem al_91 (h : Holds V0 s j) : (res_main_while0b_v104_0 V0 : (Proc.devRef .tc main_while0b_v104_0 : DevRef τ sig).ty.Contents (Elt F)) = Cert.ReferenceIdeal.Step.b91 j s := by
  unfold res_main_while0b_v104_0 Cert.ReferenceIdeal.Step.b91
  rw [← al_40 h, ← al_86 h]
  try rfl
set_option maxRecDepth 8192 in
theorem al_92 (h : Holds V0 s j) : (mulf (res_main_while0b_v103 V0) (res_main_while0b_v104_0 V0) : (Proc.devRef .tc main_while0b_v105 : DevRef τ sig).ty.Contents (Elt F)) = Cert.ReferenceIdeal.Step.b92 j s := by
  unfold Cert.ReferenceIdeal.Step.b92
  rw [← al_78 h, ← al_91 h]
  try rfl
set_option maxRecDepth 8192 in
theorem al_93 (h : Holds V0 s j) : (res_main_while0b_v106 V0 : (Proc.devRef .tc main_while0b_v106 : DevRef τ sig).ty.Contents (Elt F)) = Cert.ReferenceIdeal.Step.b93 j s := by
  unfold res_main_while0b_v106 Cert.ReferenceIdeal.Step.b93
  rw [← al_78 h, ← al_44 h]
  try rfl
set_option maxRecDepth 8192 in
theorem al_94 (h : Holds V0 s j) : (mulf (res_main_while0b_v73 V0) (res_main_while0b_v104_0 V0) : (Proc.devRef .tc main_while0b_v107 : DevRef τ sig).ty.Contents (Elt F)) = Cert.ReferenceIdeal.Step.b94 j s := by
  unfold Cert.ReferenceIdeal.Step.b94
  rw [← al_44 h, ← al_91 h]
  try rfl
set_option maxRecDepth 8192 in
theorem al_95 (h : Holds V0 s j) : (mulf (res_main_while0b_v72 V0) (res_main_while0b_v106 V0) : (Proc.devRef .tc main_while0b_call10_v0 : DevRef τ sig).ty.Contents (Elt F)) = Cert.ReferenceIdeal.Step.b95 j s := by
  unfold Cert.ReferenceIdeal.Step.b95
  rw [← al_40 h, ← al_93 h]
  try rfl
set_option maxRecDepth 8192 in
theorem al_96 (h : Holds V0 s j) : (mulf (res_main_while0b_v106 V0) (res_main_while0b_v104_2 V0) : (Proc.devRef .tc main_while0b_call10_v1 : DevRef τ sig).ty.Contents (Elt F)) = Cert.ReferenceIdeal.Step.b96 j s := by
  unfold Cert.ReferenceIdeal.Step.b96
  rw [← al_93 h, ← al_86 h]
  try rfl
set_option maxRecDepth 8192 in
theorem al_97 (h : Holds V0 s j) : (mulf (mulf (res_main_while0b_v72 V0) (res_main_while0b_v106 V0)) (mulf (res_main_while0b_v104_2 V0) (subf (broadcastInDim S64x2048 ![] bcast_S_S64x2048 (constant S_ .f32 0x3F800000#32)) (res_main_while0b_v104_2 V0))) : (Proc.devRef .tc main_while0b_call10_v2 : DevRef τ sig).ty.Contents (Elt F)) = Cert.ReferenceIdeal.Step.b97 j s := by
  unfold Cert.ReferenceIdeal.Step.b97
  rw [← al_95 h, ← al_90 h]
  try rfl
set_option maxRecDepth 8192 in
theorem al_98 (h : Holds V0 s j) : (addf (mulf (res_main_while0b_v106 V0) (res_main_while0b_v104_2 V0)) (mulf (mulf (res_main_while0b_v72 V0) (res_main_while0b_v106 V0)) (mulf (res_main_while0b_v104_2 V0) (subf (broadcastInDim S64x2048 ![] bcast_S_S64x2048 (constant S_ .f32 0x3F800000#32)) (res_main_while0b_v104_2 V0)))) : (Proc.devRef .tc main_while0b_v108 : DevRef τ sig).ty.Contents (Elt F)) = Cert.ReferenceIdeal.Step.b98 j s := by
  unfold Cert.ReferenceIdeal.Step.b98
  rw [← al_96 h, ← al_97 h]
  try rfl
set_option maxRecDepth 8192 in
theorem al_99 (h : Holds V0 s j) : (res_main_while0b_v109 V0 : (Proc.devRef .tc main_while0b_v109 : DevRef τ sig).ty.Contents (Elt F)) = Cert.ReferenceIdeal.Step.b99 j s := by
  unfold res_main_while0b_v109 Cert.ReferenceIdeal.Step.b99
  rw [← al_94 h]
  try rfl
set_option maxRecDepth 8192 in
theorem al_100 (h : Holds V0 s j) : (mulf (res_main_while0b_v98 V0) (res_main_while0b_v109 V0) : (Proc.devRef .tc main_while0b_v110 : DevRef τ sig).ty.Contents (Elt F)) = Cert.ReferenceIdeal.Step.b100 j s := by
  unfold Cert.ReferenceIdeal.Step.b100
  rw [← al_73 h, ← al_99 h]
  try rfl
set_option maxRecDepth 8192 in
theorem al_101 (h : Holds V0 s j) : (constant S_ .f32 0x00000000#32 : (Proc.devRef .tc main_while0b_cst_34 : DevRef τ sig).ty.Contents (Elt F)) = Cert.ReferenceIdeal.Step.b101 j s := by
  unfold Cert.ReferenceIdeal.Step.b101
  rfl
set_option maxRecDepth 8192 in
theorem al_102 (h : Holds V0 s j) : (Host.reduceAdd (mulf (res_main_while0b_v98 V0) (res_main_while0b_v109 V0)) (constant S_ .f32 0x00000000#32) reducesTo_S64x8x256_S8x256_d0 h_S_ : (Proc.devRef .tc main_while0b_v111 : DevRef τ sig).ty.Contents (Elt F)) = Cert.ReferenceIdeal.Step.b102 j s := by
  unfold Cert.ReferenceIdeal.Step.b102
  rw [← al_100 h, ← al_101 h]
  try rfl
set_option maxRecDepth 8192 in
theorem al_103 (h : Holds V0 s j) : (shapeCast S1x8x256 (Host.reduceAdd (mulf (res_main_while0b_v98 V0) (res_main_while0b_v109 V0)) (constant S_ .f32 0x00000000#32) reducesTo_S64x8x256_S8x256_d0 h_S_) shapeCasts_S8x256_S1x8x256 : (Proc.devRef .tc main_while0b_v112 : DevRef τ sig).ty.Contents (Elt F)) = Cert.ReferenceIdeal.Step.b103 j s := by
  unfold Cert.ReferenceIdeal.Step.b103
  rw [← al_102 h]
  try rfl
set_option maxRecDepth 8192 in
theorem al_104 (h : Holds V0 s j) : (broadcastInDim S64x8x256 ![0, 1, 2] bcast_S1x8x256_S64x8x256_0_1_2 (res_main_while0b_v100 V0) : (Proc.devRef .tc main_while0b_v113 : DevRef τ sig).ty.Contents (Elt F)) = Cert.ReferenceIdeal.Step.b104 j s := by
  unfold Cert.ReferenceIdeal.Step.b104
  rw [← al_75 h]
  try rfl
set_option maxRecDepth 8192 in
theorem al_105 (h : Holds V0 s j) : (res_main_while0b_v114 V0 : (Proc.devRef .tc main_while0b_v114 : DevRef τ sig).ty.Contents (Elt F)) = Cert.ReferenceIdeal.Step.b105 j s := by
  unfold res_main_while0b_v114 Cert.ReferenceIdeal.Step.b105
  rw [← al_99 h, ← al_104 h]
  try rfl
set_option maxRecDepth 8192 in
theorem al_106 (h : Holds V0 s j) : (constant S_ .f32 0x00000000#32 : (Proc.devRef .tc main_while0b_cst_35 : DevRef τ sig).ty.Contents (Elt F)) = Cert.ReferenceIdeal.Step.b106 j s := by
  unfold Cert.ReferenceIdeal.Step.b106
  rfl
set_option maxRecDepth 8192 in
theorem al_107 (h : Holds V0 s j) : (Host.reduceAdd (shapeCast S1x8x256 (Host.reduceAdd (mulf (res_main_while0b_v98 V0) (res_main_while0b_v109 V0)) (constant S_ .f32 0x00000000#32) reducesTo_S64x8x256_S8x256_d0 h_S_) shapeCasts_S8x256_S1x8x256) (constant S_ .f32 0x00000000#32) reducesTo_S1x8x256_S8x256_d0 h_S_ : (Proc.devRef .tc main_while0b_v115 : DevRef τ sig).ty.Contents (Elt F)) = Cert.ReferenceIdeal.Step.b107 j s := by
  unfold Cert.ReferenceIdeal.Step.b107
  rw [← al_103 h, ← al_106 h]
  try rfl
set_option maxRecDepth 8192 in
theorem al_108 (h : Holds V0 s j) : (shapeCast S1x2048 (Host.reduceAdd (shapeCast S1x8x256 (Host.reduceAdd (mulf (res_main_while0b_v98 V0) (res_main_while0b_v109 V0)) (constant S_ .f32 0x00000000#32) reducesTo_S64x8x256_S8x256_d0 h_S_) shapeCasts_S8x256_S1x8x256) (constant S_ .f32 0x00000000#32) reducesTo_S1x8x256_S8x256_d0 h_S_) shapeCasts_S8x256_S1x2048 : (Proc.devRef .tc main_while0b_v116 : DevRef τ sig).ty.Contents (Elt F)) = Cert.ReferenceIdeal.Step.b108 j s := by
  unfold Cert.ReferenceIdeal.Step.b108
  rw [← al_107 h]
  try rfl
set_option maxRecDepth 8192 in
theorem al_109 (h : Holds V0 s j) : (mulf (res_main_while0b_v85 V0) (res_main_while0b_v114 V0) : (Proc.devRef .tc main_while0b_v117 : DevRef τ sig).ty.Contents (Elt F)) = Cert.ReferenceIdeal.Step.b109 j s := by
  unfold Cert.ReferenceIdeal.Step.b109
  rw [← al_56 h, ← al_105 h]
  try rfl
set_option maxRecDepth 8192 in
theorem al_110 (h : Holds V0 s j) : (constant S_ .f32 0x00000000#32 : (Proc.devRef .tc main_while0b_cst_36 : DevRef τ sig).ty.Contents (Elt F)) = Cert.ReferenceIdeal.Step.b110 j s := by
  unfold Cert.ReferenceIdeal.Step.b110
  rfl
set_option maxRecDepth 8192 in
theorem al_111 (h : Holds V0 s j) : (Host.reduceAdd (mulf (res_main_while0b_v85 V0) (res_main_while0b_v114 V0)) (constant S_ .f32 0x00000000#32) reducesTo_S64x8x256_S64x8_d2 h_S_ : (Proc.devRef .tc main_while0b_v118 : DevRef τ sig).ty.Contents (Elt F)) = Cert.ReferenceIdeal.Step.b111 j s := by
  unfold Cert.ReferenceIdeal.Step.b111
  rw [← al_109 h, ← al_110 h]
  try rfl
set_option maxRecDepth 8192 in
theorem al_112 (h : Holds V0 s j) : (shapeCast S64x8x1 (Host.reduceAdd (mulf (res_main_while0b_v85 V0) (res_main_while0b_v114 V0)) (constant S_ .f32 0x00000000#32) reducesTo_S64x8x256_S64x8_d2 h_S_) shapeCasts_S64x8_S64x8x1 : (Proc.devRef .tc main_while0b_v119 : DevRef τ sig).ty.Contents (Elt F)) = Cert.ReferenceIdeal.Step.b112 j s := by
  unfold Cert.ReferenceIdeal.Step.b112
  rw [← al_111 h]
  try rfl
set_option maxRecDepth 8192 in
theorem al_113 (h : Holds V0 s j) : (broadcastInDim S64x8x256 ![0, 1, 2] bcast_S64x8x1_S64x8x256_0_1_2 (res_main_while0b_v93 V0) : (Proc.devRef .tc main_while0b_v120 : DevRef τ sig).ty.Contents (Elt F)) = Cert.ReferenceIdeal.Step.b113 j s := by
  unfold Cert.ReferenceIdeal.Step.b113
  rw [← al_67 h]
  try rfl
set_option maxRecDepth 8192 in
theorem al_114 (h : Holds V0 s j) : (mulf (res_main_while0b_v114 V0) (broadcastInDim S64x8x256 ![0, 1, 2] bcast_S64x8x1_S64x8x256_0_1_2 (res_main_while0b_v93 V0)) : (Proc.devRef .tc main_while0b_v121 : DevRef τ sig).ty.Contents (Elt F)) = Cert.ReferenceIdeal.Step.b114 j s := by
  unfold Cert.ReferenceIdeal.Step.b114
  rw [← al_105 h, ← al_113 h]
  try rfl
set_option maxRecDepth 8192 in
theorem al_115 (h : Holds V0 s j) : (mulf (shapeCast S64x8x1 (Host.reduceAdd (mulf (res_main_while0b_v85 V0) (res_main_while0b_v114 V0)) (constant S_ .f32 0x00000000#32) reducesTo_S64x8x256_S64x8_d2 h_S_) shapeCasts_S64x8_S64x8x1) (mulf (broadcastInDim S64x8x1 ![] bcast_S_S64x8x1 (constant S_ .f32 0xBF000000#32)) (Host.divf (res_main_while0b_v93 V0) (res_main_while0b_v92 V0))) : (Proc.devRef .tc main_while0b_v122 : DevRef τ sig).ty.Contents (Elt F)) = Cert.ReferenceIdeal.Step.b115 j s := by
  unfold Cert.ReferenceIdeal.Step.b115
  rw [← al_112 h, ← al_71 h]
  try rfl
set_option maxRecDepth 8192 in
theorem al_116 (h : Holds V0 s j) : (constant S_ .f32 0x43800000#32 : (Proc.devRef .tc main_while0b_cst_37 : DevRef τ sig).ty.Contents (Elt F)) = Cert.ReferenceIdeal.Step.b116 j s := by
  unfold Cert.ReferenceIdeal.Step.b116
  rfl
set_option maxRecDepth 8192 in
theorem al_117 (h : Holds V0 s j) : (broadcastInDim S64x8x1 ![] bcast_S_S64x8x1 (constant S_ .f32 0x43800000#32) : (Proc.devRef .tc main_while0b_v123 : DevRef τ sig).ty.Contents (Elt F)) = Cert.ReferenceIdeal.Step.b117 j s := by
  unfold Cert.ReferenceIdeal.Step.b117
  rw [← al_116 h]
  try rfl
set_option maxRecDepth 8192 in
theorem al_118 (h : Holds V0 s j) : (Host.divf (mulf (shapeCast S64x8x1 (Host.reduceAdd (mulf (res_main_while0b_v85 V0) (res_main_while0b_v114 V0)) (constant S_ .f32 0x00000000#32) reducesTo_S64x8x256_S64x8_d2 h_S_) shapeCasts_S64x8_S64x8x1) (mulf (broadcastInDim S64x8x1 ![] bcast_S_S64x8x1 (constant S_ .f32 0xBF000000#32)) (Host.divf (res_main_while0b_v93 V0) (res_main_while0b_v92 V0)))) (broadcastInDim S64x8x1 ![] bcast_S_S64x8x1 (constant S_ .f32 0x43800000#32)) : (Proc.devRef .tc main_while0b_v124 : DevRef τ sig).ty.Contents (Elt F)) = Cert.ReferenceIdeal.Step.b118 j s := by
  unfold Cert.ReferenceIdeal.Step.b118
  rw [← al_115 h, ← al_117 h]
  try rfl
set_option maxRecDepth 8192 in
theorem al_119 (h : Holds V0 s j) : (constant S_ .f32 0x00000000#32 : (Proc.devRef .tc main_while0b_cst_38 : DevRef τ sig).ty.Contents (Elt F)) = Cert.ReferenceIdeal.Step.b119 j s := by
  unfold Cert.ReferenceIdeal.Step.b119
  rfl
set_option maxRecDepth 8192 in
theorem al_120 (h : Holds V0 s j) : (Host.reduceAdd (Host.divf (mulf (shapeCast S64x8x1 (Host.reduceAdd (mulf (res_main_while0b_v85 V0) (res_main_while0b_v114 V0)) (constant S_ .f32 0x00000000#32) reducesTo_S64x8x256_S64x8_d2 h_S_) shapeCasts_S64x8_S64x8x1) (mulf (broadcastInDim S64x8x1 ![] bcast_S_S64x8x1 (constant S_ .f32 0xBF000000#32)) (Host.divf (res_main_while0b_v93 V0) (res_main_while0b_v92 V0)))) (broadcastInDim S64x8x1 ![] bcast_S_S64x8x1 (constant S_ .f32 0x43800000#32))) (constant S_ .f32 0x00000000#32) reducesTo_S64x8x1_S64x8_d2 h_S_ : (Proc.devRef .tc main_while0b_v125 : DevRef τ sig).ty.Contents (Elt F)) = Cert.ReferenceIdeal.Step.b120 j s := by
  unfold Cert.ReferenceIdeal.Step.b120
  rw [← al_118 h, ← al_119 h]
  try rfl
set_option maxRecDepth 8192 in
theorem al_121 (h : Holds V0 s j) : (res_main_while0b_v126 V0 : (Proc.devRef .tc main_while0b_v126 : DevRef τ sig).ty.Contents (Elt F)) = Cert.ReferenceIdeal.Step.b121 j s := by
  unfold res_main_while0b_v126 Cert.ReferenceIdeal.Step.b121
  rw [← al_120 h]
  try rfl
set_option maxRecDepth 8192 in
theorem al_122 (h : Holds V0 s j) : (mulf (res_main_while0b_v85 V0) (res_main_while0b_v126 V0) : (Proc.devRef .tc main_while0b_v127 : DevRef τ sig).ty.Contents (Elt F)) = Cert.ReferenceIdeal.Step.b122 j s := by
  unfold Cert.ReferenceIdeal.Step.b122
  rw [← al_56 h, ← al_121 h]
  try rfl
set_option maxRecDepth 8192 in
theorem al_123 (h : Holds V0 s j) : (addf (mulf (res_main_while0b_v114 V0) (broadcastInDim S64x8x256 ![0, 1, 2] bcast_S64x8x1_S64x8x256_0_1_2 (res_main_while0b_v93 V0))) (mulf (res_main_while0b_v85 V0) (res_main_while0b_v126 V0)) : (Proc.devRef .tc main_while0b_v128 : DevRef τ sig).ty.Contents (Elt F)) = Cert.ReferenceIdeal.Step.b123 j s := by
  unfold Cert.ReferenceIdeal.Step.b123
  rw [← al_114 h, ← al_122 h]
  try rfl
set_option maxRecDepth 8192 in
theorem al_124 (h : Holds V0 s j) : (mulf (res_main_while0b_v126 V0) (res_main_while0b_v85 V0) : (Proc.devRef .tc main_while0b_v129 : DevRef τ sig).ty.Contents (Elt F)) = Cert.ReferenceIdeal.Step.b124 j s := by
  unfold Cert.ReferenceIdeal.Step.b124
  rw [← al_121 h, ← al_56 h]
  try rfl
set_option maxRecDepth 8192 in
theorem al_125 (h : Holds V0 s j) : (addf (addf (mulf (res_main_while0b_v114 V0) (broadcastInDim S64x8x256 ![0, 1, 2] bcast_S64x8x1_S64x8x256_0_1_2 (res_main_while0b_v93 V0))) (mulf (res_main_while0b_v85 V0) (res_main_while0b_v126 V0))) (mulf (res_main_while0b_v126 V0) (res_main_while0b_v85 V0)) : (Proc.devRef .tc main_while0b_v130 : DevRef τ sig).ty.Contents (Elt F)) = Cert.ReferenceIdeal.Step.b125 j s := by
  unfold Cert.ReferenceIdeal.Step.b125
  rw [← al_123 h, ← al_124 h]
  try rfl
set_option maxRecDepth 8192 in
theorem al_126 (h : Holds V0 s j) : (res_main_while0b_v131 V0 : (Proc.devRef .tc main_while0b_v131 : DevRef τ sig).ty.Contents (Elt F)) = Cert.ReferenceIdeal.Step.b126 j s := by
  unfold res_main_while0b_v131 Cert.ReferenceIdeal.Step.b126
  rw [← al_125 h]
  try rfl
set_option maxRecDepth 8192 in
theorem al_127 (h : Holds V0 s j) : (Host.dotGeneral dot_S8x128x256_S8x64x128_S8x256x64_1_2_2_1_0_0 none (V0 (Proc.devRef .tc main_v46_11)) (res_main_while0b_v70 V0) : (Proc.devRef .tc main_while0b_v132 : DevRef τ sig).ty.Contents (Elt F)) = Cert.ReferenceIdeal.Step.b127 j s := by
  unfold Cert.ReferenceIdeal.Step.b127
  rw [← al_33 h, h.f_11]
  try rfl
set_option maxRecDepth 8192 in
theorem al_128 (h : Holds V0 s j) : (transpose S8x64x256 [0, 2, 1] (Host.dotGeneral dot_S8x128x256_S8x64x128_S8x256x64_1_2_2_1_0_0 none (V0 (Proc.devRef .tc main_v46_11)) (res_main_while0b_v70 V0)) transposes_S8x256x64_S8x64x256_0_2_1 : (Proc.devRef .tc main_while0b_v133 : DevRef τ sig).ty.Contents (Elt F)) = Cert.ReferenceIdeal.Step.b128 j s := by
  unfold Cert.ReferenceIdeal.Step.b128
  rw [← al_127 h]
  try rfl
set_option maxRecDepth 8192 in
theorem al_129 (h : Holds V0 s j) : (Host.dotGeneral dot_S8x128x256_S8x64x256_S8x128x64_2_2_1_1_0_0 none (V0 (Proc.devRef .tc main_v46_11)) (res_main_while0b_v75 V0) : (Proc.devRef .tc main_while0b_v134 : DevRef τ sig).ty.Contents (Elt F)) = Cert.ReferenceIdeal.Step.b129 j s := by
  unfold Cert.ReferenceIdeal.Step.b129
  rw [← al_46 h, h.f_11]
  try rfl
set_option maxRecDepth 8192 in
theorem al_130 (h : Holds V0 s j) : (transpose S8x64x128 [0, 2, 1] (Host.dotGeneral dot_S8x128x256_S8x64x256_S8x128x64_2_2_1_1_0_0 none (V0 (Proc.devRef .tc main_v46_11)) (res_main_while0b_v75 V0)) transposes_S8x128x64_S8x64x128_0_2_1 : (Proc.devRef .tc main_while0b_v135 : DevRef τ sig).ty.Contents (Elt F)) = Cert.ReferenceIdeal.Step.b130 j s := by
  unfold Cert.ReferenceIdeal.Step.b130
  rw [← al_129 h]
  try rfl
set_option maxRecDepth 8192 in
theorem al_131 (h : Holds V0 s j) : (broadcastInDim S8x128x256 ![0, 1, 2] bcast_S8x1x1_S8x128x256_0_1_2 (res_main_while0b_v80 V0) : (Proc.devRef .tc main_while0b_v136 : DevRef τ sig).ty.Contents (Elt F)) = Cert.ReferenceIdeal.Step.b131 j s := by
  unfold Cert.ReferenceIdeal.Step.b131
  rw [← al_51 h]
  try rfl
set_option maxRecDepth 8192 in
theorem al_132 (h : Holds V0 s j) : (mulf (broadcastInDim S8x128x256 ![0, 1, 2] bcast_S8x1x1_S8x128x256_0_1_2 (res_main_while0b_v80 V0)) (V0 (Proc.devRef .tc main_v46_11)) : (Proc.devRef .tc main_while0b_v137 : DevRef τ sig).ty.Contents (Elt F)) = Cert.ReferenceIdeal.Step.b132 j s := by
  unfold Cert.ReferenceIdeal.Step.b132
  rw [← al_131 h, h.f_11]
  try rfl
set_option maxRecDepth 8192 in
theorem al_133 (h : Holds V0 s j) : (mulf (V0 (Proc.devRef .tc main_v46_11)) (res_main_while0b_v65 V0) : (Proc.devRef .tc main_while0b_v138 : DevRef τ sig).ty.Contents (Elt F)) = Cert.ReferenceIdeal.Step.b133 j s := by
  unfold Cert.ReferenceIdeal.Step.b133
  rw [← al_8 h, h.f_11]
  try rfl
set_option maxRecDepth 8192 in
theorem al_134 (h : Holds V0 s j) : (constant S_ .f32 0x00000000#32 : (Proc.devRef .tc main_while0b_cst_39 : DevRef τ sig).ty.Contents (Elt F)) = Cert.ReferenceIdeal.Step.b134 j s := by
  unfold Cert.ReferenceIdeal.Step.b134
  rfl
set_option maxRecDepth 8192 in
theorem al_135 (h : Holds V0 s j) : (Host.reduceAdd (mulf (V0 (Proc.devRef .tc main_v46_11)) (res_main_while0b_v65 V0)) (constant S_ .f32 0x00000000#32) reducesTo_S8x128x256_S8_d1_2 h_S_ : (Proc.devRef .tc main_while0b_v139 : DevRef τ sig).ty.Contents (Elt F)) = Cert.ReferenceIdeal.Step.b135 j s := by
  unfold Cert.ReferenceIdeal.Step.b135
  rw [← al_133 h, ← al_134 h]
  try rfl
set_option maxRecDepth 8192 in
theorem al_136 (h : Holds V0 s j) : (shapeCast S8x1x1 (Host.reduceAdd (mulf (V0 (Proc.devRef .tc main_v46_11)) (res_main_while0b_v65 V0)) (constant S_ .f32 0x00000000#32) reducesTo_S8x128x256_S8_d1_2 h_S_) shapeCasts_S8_S8x1x1 : (Proc.devRef .tc main_while0b_v140 : DevRef τ sig).ty.Contents (Elt F)) = Cert.ReferenceIdeal.Step.b136 j s := by
  unfold Cert.ReferenceIdeal.Step.b136
  rw [← al_135 h]
  try rfl
set_option maxRecDepth 8192 in
theorem al_137 (h : Holds V0 s j) : (constant S_ .f32 0x00000000#32 : (Proc.devRef .tc main_while0b_cst_40 : DevRef τ sig).ty.Contents (Elt F)) = Cert.ReferenceIdeal.Step.b137 j s := by
  unfold Cert.ReferenceIdeal.Step.b137
  rfl
set_option maxRecDepth 8192 in
theorem al_138 (h : Holds V0 s j) : (Host.reduceAdd (shapeCast S8x1x1 (Host.reduceAdd (mulf (V0 (Proc.devRef .tc main_v46_11)) (res_main_while0b_v65 V0)) (constant S_ .f32 0x00000000#32) reducesTo_S8x128x256_S8_d1_2 h_S_) shapeCasts_S8_S8x1x1) (constant S_ .f32 0x00000000#32) reducesTo_S8x1x1_S8_d1_2 h_S_ : (Proc.devRef .tc main_while0b_v141 : DevRef τ sig).ty.Contents (Elt F)) = Cert.ReferenceIdeal.Step.b138 j s := by
  unfold Cert.ReferenceIdeal.Step.b138
  rw [← al_136 h, ← al_137 h]
  try rfl
set_option maxRecDepth 8192 in
theorem al_139 (h : Holds V0 s j) : (mulf (Host.reduceAdd (shapeCast S8x1x1 (Host.reduceAdd (mulf (V0 (Proc.devRef .tc main_v46_11)) (res_main_while0b_v65 V0)) (constant S_ .f32 0x00000000#32) reducesTo_S8x128x256_S8_d1_2 h_S_) shapeCasts_S8_S8x1x1) (constant S_ .f32 0x00000000#32) reducesTo_S8x1x1_S8_d1_2 h_S_) (res_main_while0b_v79 V0) : (Proc.devRef .tc main_while0b_v142 : DevRef τ sig).ty.Contents (Elt F)) = Cert.ReferenceIdeal.Step.b139 j s := by
  unfold Cert.ReferenceIdeal.Step.b139
  rw [← al_138 h, ← al_50 h]
  try rfl
set_option maxRecDepth 8192 in
theorem al_140 (h : Holds V0 s j) : (Host.dotGeneral dot_S8x64x256_S8x64x64_S8x256x64_1_1_2_2_0_0 none (res_main_while0b_v131 V0) (res_main_while0b_v69 V0) : (Proc.devRef .tc main_while0b_v143 : DevRef τ sig).ty.Contents (Elt F)) = Cert.ReferenceIdeal.Step.b140 j s := by
  unfold Cert.ReferenceIdeal.Step.b140
  rw [← al_126 h, ← al_28 h]
  try rfl
set_option maxRecDepth 8192 in
theorem al_141 (h : Holds V0 s j) : (transpose S8x64x256 [0, 2, 1] (Host.dotGeneral dot_S8x64x256_S8x64x64_S8x256x64_1_1_2_2_0_0 none (res_main_while0b_v131 V0) (res_main_while0b_v69 V0)) transposes_S8x256x64_S8x64x256_0_2_1 : (Proc.devRef .tc main_while0b_v144 : DevRef τ sig).ty.Contents (Elt F)) = Cert.ReferenceIdeal.Step.b141 j s := by
  unfold Cert.ReferenceIdeal.Step.b141
  rw [← al_140 h]
  try rfl
set_option maxRecDepth 8192 in
theorem al_142 (h : Holds V0 s j) : (res_main_while0b_v145 V0 : (Proc.devRef .tc main_while0b_v145 : DevRef τ sig).ty.Contents (Elt F)) = Cert.ReferenceIdeal.Step.b142 j s := by
  unfold res_main_while0b_v145 Cert.ReferenceIdeal.Step.b142
  rw [← al_128 h, ← al_141 h]
  try rfl
set_option maxRecDepth 8192 in
theorem al_143 (h : Holds V0 s j) : (Host.dotGeneral dot_S8x64x256_S8x64x256_S8x64x64_2_2_1_1_0_0 none (res_main_while0b_v131 V0) (res_main_while0b_v75 V0) : (Proc.devRef .tc main_while0b_v146 : DevRef τ sig).ty.Contents (Elt F)) = Cert.ReferenceIdeal.Step.b143 j s := by
  unfold Cert.ReferenceIdeal.Step.b143
  rw [← al_126 h, ← al_46 h]
  try rfl
set_option maxRecDepth 8192 in
theorem al_144 (h : Holds V0 s j) : (Host.dotGeneral dot_S8x64x256_S8x64x128_S8x256x128_1_1_2_2_0_0 none (res_main_while0b_v131 V0) (res_main_while0b_v66 V0) : (Proc.devRef .tc main_while0b_v147 : DevRef τ sig).ty.Contents (Elt F)) = Cert.ReferenceIdeal.Step.b144 j s := by
  unfold Cert.ReferenceIdeal.Step.b144
  rw [← al_126 h, ← al_13 h]
  try rfl
set_option maxRecDepth 8192 in
theorem al_145 (h : Holds V0 s j) : (transpose S8x128x256 [0, 2, 1] (Host.dotGeneral dot_S8x64x256_S8x64x128_S8x256x128_1_1_2_2_0_0 none (res_main_while0b_v131 V0) (res_main_while0b_v66 V0)) transposes_S8x256x128_S8x128x256_0_2_1 : (Proc.devRef .tc main_while0b_v148 : DevRef τ sig).ty.Contents (Elt F)) = Cert.ReferenceIdeal.Step.b145 j s := by
  unfold Cert.ReferenceIdeal.Step.b145
  rw [← al_144 h]
  try rfl
set_option maxRecDepth 8192 in
theorem al_146 (h : Holds V0 s j) : (addf (mulf (broadcastInDim S8x128x256 ![0, 1, 2] bcast_S8x1x1_S8x128x256_0_1_2 (res_main_while0b_v80 V0)) (V0 (Proc.devRef .tc main_v46_11))) (transpose S8x128x256 [0, 2, 1] (Host.dotGeneral dot_S8x64x256_S8x64x128_S8x256x128_1_1_2_2_0_0 none (res_main_while0b_v131 V0) (res_main_while0b_v66 V0)) transposes_S8x256x128_S8x128x256_0_2_1) : (Proc.devRef .tc main_while0b_v149 : DevRef τ sig).ty.Contents (Elt F)) = Cert.ReferenceIdeal.Step.b146 j s := by
  unfold Cert.ReferenceIdeal.Step.b146
  rw [← al_132 h, ← al_145 h]
  try rfl
set_option maxRecDepth 8192 in
theorem al_147 (h : Holds V0 s j) : (Host.dotGeneral dot_S8x64x256_S8x128x256_S8x64x128_2_2_1_1_0_0 none (res_main_while0b_v131 V0) (res_main_while0b_v65 V0) : (Proc.devRef .tc main_while0b_v150 : DevRef τ sig).ty.Contents (Elt F)) = Cert.ReferenceIdeal.Step.b147 j s := by
  unfold Cert.ReferenceIdeal.Step.b147
  rw [← al_126 h, ← al_8 h]
  try rfl
set_option maxRecDepth 8192 in
theorem al_148 (h : Holds V0 s j) : (res_main_while0b_v151 V0 : (Proc.devRef .tc main_while0b_v151 : DevRef τ sig).ty.Contents (Elt F)) = Cert.ReferenceIdeal.Step.b148 j s := by
  unfold res_main_while0b_v151 Cert.ReferenceIdeal.Step.b148
  rw [← al_142 h]
  try rfl
set_option maxRecDepth 8192 in
theorem al_149 (h : Holds V0 s j) : (Host.dotGeneral dot_S8x64x256_S8x64x128_S8x256x128_1_1_2_2_0_0 none (res_main_while0b_v151 V0) (res_main_while0b_v67 V0) : (Proc.devRef .tc main_while0b_v152 : DevRef τ sig).ty.Contents (Elt F)) = Cert.ReferenceIdeal.Step.b149 j s := by
  unfold Cert.ReferenceIdeal.Step.b149
  rw [← al_148 h, ← al_18 h]
  try rfl
set_option maxRecDepth 8192 in
theorem al_150 (h : Holds V0 s j) : (transpose S8x128x256 [0, 2, 1] (Host.dotGeneral dot_S8x64x256_S8x64x128_S8x256x128_1_1_2_2_0_0 none (res_main_while0b_v151 V0) (res_main_while0b_v67 V0)) transposes_S8x256x128_S8x128x256_0_2_1 : (Proc.devRef .tc main_while0b_v153 : DevRef τ sig).ty.Contents (Elt F)) = Cert.ReferenceIdeal.Step.b150 j s := by
  unfold Cert.ReferenceIdeal.Step.b150
  rw [← al_149 h]
  try rfl
set_option maxRecDepth 8192 in
theorem al_151 (h : Holds V0 s j) : (addf (addf (mulf (broadcastInDim S8x128x256 ![0, 1, 2] bcast_S8x1x1_S8x128x256_0_1_2 (res_main_while0b_v80 V0)) (V0 (Proc.devRef .tc main_v46_11))) (transpose S8x128x256 [0, 2, 1] (Host.dotGeneral dot_S8x64x256_S8x64x128_S8x256x128_1_1_2_2_0_0 none (res_main_while0b_v131 V0) (res_main_while0b_v66 V0)) transposes_S8x256x128_S8x128x256_0_2_1)) (transpose S8x128x256 [0, 2, 1] (Host.dotGeneral dot_S8x64x256_S8x64x128_S8x256x128_1_1_2_2_0_0 none (res_main_while0b_v151 V0) (res_main_while0b_v67 V0)) transposes_S8x256x128_S8x128x256_0_2_1) : (Proc.devRef .tc main_while0b_v154 : DevRef τ sig).ty.Contents (Elt F)) = Cert.ReferenceIdeal.Step.b151 j s := by
  unfold Cert.ReferenceIdeal.Step.b151
  rw [← al_146 h, ← al_150 h]
  try rfl
set_option maxRecDepth 8192 in
theorem al_152 (h : Holds V0 s j) : (Host.dotGeneral dot_S8x64x256_S8x128x256_S8x64x128_2_2_1_1_0_0 none (res_main_while0b_v151 V0) (res_main_while0b_v65 V0) : (Proc.devRef .tc main_while0b_v155 : DevRef τ sig).ty.Contents (Elt F)) = Cert.ReferenceIdeal.Step.b152 j s := by
  unfold Cert.ReferenceIdeal.Step.b152
  rw [← al_148 h, ← al_8 h]
  try rfl
set_option maxRecDepth 8192 in
theorem al_153 (h : Holds V0 s j) : (addf (V0 (Proc.devRef .tc main_v46_12)) (shapeCast S1x2048 (Host.reduceAdd (shapeCast S1x8x256 (Host.reduceAdd (mulf (res_main_while0b_v98 V0) (res_main_while0b_v109 V0)) (constant S_ .f32 0x00000000#32) reducesTo_S64x8x256_S8x256_d0 h_S_) shapeCasts_S8x256_S1x8x256) (constant S_ .f32 0x00000000#32) reducesTo_S1x8x256_S8x256_d0 h_S_) shapeCasts_S8x256_S1x2048) : (Proc.devRef .tc main_while0b_v156 : DevRef τ sig).ty.Contents (Elt F)) = Cert.ReferenceIdeal.Step.b153 j s := by
  unfold Cert.ReferenceIdeal.Step.b153
  rw [← al_108 h, h.f_12]
  try rfl
set_option maxRecDepth 8192 in
theorem al_154 (h : Holds V0 s j) : (broadcastInDim S1x8x64x128 ![1, 2, 3] bcast_S8x64x128_S1x8x64x128_1_2_3 (Host.dotGeneral dot_S8x64x256_S8x128x256_S8x64x128_2_2_1_1_0_0 none (res_main_while0b_v131 V0) (res_main_while0b_v65 V0)) : (Proc.devRef .tc main_while0b_call11_v0 : DevRef τ sig).ty.Contents (Elt F)) = Cert.ReferenceIdeal.Step.b154 j s := by
  unfold Cert.ReferenceIdeal.Step.b154
  rw [← al_147 h]
  try rfl
set_option maxRecDepth 8192 in
theorem al_155 (h : Holds V0 s j) : (constantI S_ 32 0#32 : (Proc.devRef .tc main_while0b_call11_c : DevRef τ sig).ty.Contents (Elt F)) = Cert.ReferenceIdeal.Step.b155 j s := by
  unfold Cert.ReferenceIdeal.Step.b155
  rfl
set_option maxRecDepth 8192 in
theorem al_156 (h : Holds V0 s j) : (constantI S_ 32 0#32 : (Proc.devRef .tc main_while0b_call11_c_0 : DevRef τ sig).ty.Contents (Elt F)) = Cert.ReferenceIdeal.Step.b156 j s := by
  unfold Cert.ReferenceIdeal.Step.b156
  rfl
set_option maxRecDepth 8192 in
theorem al_157 (h : Holds V0 s j) : (constantI S_ 32 0#32 : (Proc.devRef .tc main_while0b_call11_c_1 : DevRef τ sig).ty.Contents (Elt F)) = Cert.ReferenceIdeal.Step.b157 j s := by
  unfold Cert.ReferenceIdeal.Step.b157
  rfl
set_option maxRecDepth 8192 in
theorem al_158 (h : Holds V0 s j) : (Host.dynamicUpdateSlice (V0 (Proc.devRef .tc main_v46_13)) (broadcastInDim S1x8x64x128 ![1, 2, 3] bcast_S8x64x128_S1x8x64x128_1_2_3 (Host.dotGeneral dot_S8x64x256_S8x128x256_S8x64x128_2_2_1_1_0_0 none (res_main_while0b_v131 V0) (res_main_while0b_v65 V0))) (fun k => (((![res_main_while0b_v64 V0, constantI S_ 32 0#32, constantI S_ 32 0#32, constantI S_ 32 0#32] : Fin 4 → (⟨S_, .i32⟩ : BufTy).Contents (Elt F))) k (Shape.Idx.first h_S_)).toInt) updateFits_S64x8x64x128_S1x8x64x128 : (Proc.devRef .tc main_while0b_v157 : DevRef τ sig).ty.Contents (Elt F)) = Cert.ReferenceIdeal.Step.b158 j s := by
  unfold Cert.ReferenceIdeal.Step.b158
  rw [← al_154 h, ← al_3 h, ← al_155 h, ← al_156 h, ← al_157 h, h.f_13]
  try rfl
set_option maxRecDepth 8192 in
theorem al_159 (h : Holds V0 s j) : (broadcastInDim S1x8x64x128 ![1, 2, 3] bcast_S8x64x128_S1x8x64x128_1_2_3 (Host.dotGeneral dot_S8x64x256_S8x128x256_S8x64x128_2_2_1_1_0_0 none (res_main_while0b_v151 V0) (res_main_while0b_v65 V0)) : (Proc.devRef .tc main_while0b_call12_v0 : DevRef τ sig).ty.Contents (Elt F)) = Cert.ReferenceIdeal.Step.b159 j s := by
  unfold Cert.ReferenceIdeal.Step.b159
  rw [← al_152 h]
  try rfl
set_option maxRecDepth 8192 in
theorem al_160 (h : Holds V0 s j) : (constantI S_ 32 0#32 : (Proc.devRef .tc main_while0b_call12_c : DevRef τ sig).ty.Contents (Elt F)) = Cert.ReferenceIdeal.Step.b160 j s := by
  unfold Cert.ReferenceIdeal.Step.b160
  rfl
set_option maxRecDepth 8192 in
theorem al_161 (h : Holds V0 s j) : (constantI S_ 32 0#32 : (Proc.devRef .tc main_while0b_call12_c_0 : DevRef τ sig).ty.Contents (Elt F)) = Cert.ReferenceIdeal.Step.b161 j s := by
  unfold Cert.ReferenceIdeal.Step.b161
  rfl
set_option maxRecDepth 8192 in
theorem al_162 (h : Holds V0 s j) : (constantI S_ 32 0#32 : (Proc.devRef .tc main_while0b_call12_c_1 : DevRef τ sig).ty.Contents (Elt F)) = Cert.ReferenceIdeal.Step.b162 j s := by
  unfold Cert.ReferenceIdeal.Step.b162
  rfl
set_option maxRecDepth 8192 in
theorem al_163 (h : Holds V0 s j) : (Host.dynamicUpdateSlice (V0 (Proc.devRef .tc main_v46_14)) (broadcastInDim S1x8x64x128 ![1, 2, 3] bcast_S8x64x128_S1x8x64x128_1_2_3 (Host.dotGeneral dot_S8x64x256_S8x128x256_S8x64x128_2_2_1_1_0_0 none (res_main_while0b_v151 V0) (res_main_while0b_v65 V0))) (fun k => (((![res_main_while0b_v64 V0, constantI S_ 32 0#32, constantI S_ 32 0#32, constantI S_ 32 0#32] : Fin 4 → (⟨S_, .i32⟩ : BufTy).Contents (Elt F))) k (Shape.Idx.first h_S_)).toInt) updateFits_S64x8x64x128_S1x8x64x128 : (Proc.devRef .tc main_while0b_v158 : DevRef τ sig).ty.Contents (Elt F)) = Cert.ReferenceIdeal.Step.b163 j s := by
  unfold Cert.ReferenceIdeal.Step.b163
  rw [← al_159 h, ← al_3 h, ← al_160 h, ← al_161 h, ← al_162 h, h.f_14]
  try rfl
set_option maxRecDepth 8192 in
theorem al_164 (h : Holds V0 s j) : (broadcastInDim S1x8x64x256 ![1, 2, 3] bcast_S8x64x256_S1x8x64x256_1_2_3 (res_main_while0b_v145 V0) : (Proc.devRef .tc main_while0b_call13_v0 : DevRef τ sig).ty.Contents (Elt F)) = Cert.ReferenceIdeal.Step.b164 j s := by
  unfold Cert.ReferenceIdeal.Step.b164
  rw [← al_142 h]
  try rfl
set_option maxRecDepth 8192 in
theorem al_165 (h : Holds V0 s j) : (constantI S_ 32 0#32 : (Proc.devRef .tc main_while0b_call13_c : DevRef τ sig).ty.Contents (Elt F)) = Cert.ReferenceIdeal.Step.b165 j s := by
  unfold Cert.ReferenceIdeal.Step.b165
  rfl
set_option maxRecDepth 8192 in
theorem al_166 (h : Holds V0 s j) : (constantI S_ 32 0#32 : (Proc.devRef .tc main_while0b_call13_c_0 : DevRef τ sig).ty.Contents (Elt F)) = Cert.ReferenceIdeal.Step.b166 j s := by
  unfold Cert.ReferenceIdeal.Step.b166
  rfl
set_option maxRecDepth 8192 in
theorem al_167 (h : Holds V0 s j) : (constantI S_ 32 0#32 : (Proc.devRef .tc main_while0b_call13_c_1 : DevRef τ sig).ty.Contents (Elt F)) = Cert.ReferenceIdeal.Step.b167 j s := by
  unfold Cert.ReferenceIdeal.Step.b167
  rfl
set_option maxRecDepth 8192 in
theorem al_168 (h : Holds V0 s j) : (Host.dynamicUpdateSlice (V0 (Proc.devRef .tc main_v46_15)) (broadcastInDim S1x8x64x256 ![1, 2, 3] bcast_S8x64x256_S1x8x64x256_1_2_3 (res_main_while0b_v145 V0)) (fun k => (((![res_main_while0b_v64 V0, constantI S_ 32 0#32, constantI S_ 32 0#32, constantI S_ 32 0#32] : Fin 4 → (⟨S_, .i32⟩ : BufTy).Contents (Elt F))) k (Shape.Idx.first h_S_)).toInt) updateFits_S64x8x64x256_S1x8x64x256 : (Proc.devRef .tc main_while0b_v159 : DevRef τ sig).ty.Contents (Elt F)) = Cert.ReferenceIdeal.Step.b168 j s := by
  unfold Cert.ReferenceIdeal.Step.b168
  rw [← al_164 h, ← al_3 h, ← al_165 h, ← al_166 h, ← al_167 h, h.f_15]
  try rfl
set_option maxRecDepth 8192 in
theorem al_169 (h : Holds V0 s j) : (broadcastInDim S1x8x64x64 ![1, 2, 3] bcast_S8x64x64_S1x8x64x64_1_2_3 (Host.dotGeneral dot_S8x64x256_S8x64x256_S8x64x64_2_2_1_1_0_0 none (res_main_while0b_v131 V0) (res_main_while0b_v75 V0)) : (Proc.devRef .tc main_while0b_call14_v0 : DevRef τ sig).ty.Contents (Elt F)) = Cert.ReferenceIdeal.Step.b169 j s := by
  unfold Cert.ReferenceIdeal.Step.b169
  rw [← al_143 h]
  try rfl
set_option maxRecDepth 8192 in
theorem al_170 (h : Holds V0 s j) : (constantI S_ 32 0#32 : (Proc.devRef .tc main_while0b_call14_c : DevRef τ sig).ty.Contents (Elt F)) = Cert.ReferenceIdeal.Step.b170 j s := by
  unfold Cert.ReferenceIdeal.Step.b170
  rfl
set_option maxRecDepth 8192 in
theorem al_171 (h : Holds V0 s j) : (constantI S_ 32 0#32 : (Proc.devRef .tc main_while0b_call14_c_0 : DevRef τ sig).ty.Contents (Elt F)) = Cert.ReferenceIdeal.Step.b171 j s := by
  unfold Cert.ReferenceIdeal.Step.b171
  rfl
set_option maxRecDepth 8192 in
theorem al_172 (h : Holds V0 s j) : (constantI S_ 32 0#32 : (Proc.devRef .tc main_while0b_call14_c_1 : DevRef τ sig).ty.Contents (Elt F)) = Cert.ReferenceIdeal.Step.b172 j s := by
  unfold Cert.ReferenceIdeal.Step.b172
  rfl
set_option maxRecDepth 8192 in
theorem al_173 (h : Holds V0 s j) : (Host.dynamicUpdateSlice (V0 (Proc.devRef .tc main_v46_16)) (broadcastInDim S1x8x64x64 ![1, 2, 3] bcast_S8x64x64_S1x8x64x64_1_2_3 (Host.dotGeneral dot_S8x64x256_S8x64x256_S8x64x64_2_2_1_1_0_0 none (res_main_while0b_v131 V0) (res_main_while0b_v75 V0))) (fun k => (((![res_main_while0b_v64 V0, constantI S_ 32 0#32, constantI S_ 32 0#32, constantI S_ 32 0#32] : Fin 4 → (⟨S_, .i32⟩ : BufTy).Contents (Elt F))) k (Shape.Idx.first h_S_)).toInt) updateFits_S64x8x64x64_S1x8x64x64 : (Proc.devRef .tc main_while0b_v160 : DevRef τ sig).ty.Contents (Elt F)) = Cert.ReferenceIdeal.Step.b173 j s := by
  unfold Cert.ReferenceIdeal.Step.b173
  rw [← al_169 h, ← al_3 h, ← al_170 h, ← al_171 h, ← al_172 h, h.f_16]
  try rfl
set_option maxRecDepth 8192 in
theorem al_174 (h : Holds V0 s j) : (broadcastInDim S1x8x64x128 ![1, 2, 3] bcast_S8x64x128_S1x8x64x128_1_2_3 (transpose S8x64x128 [0, 2, 1] (Host.dotGeneral dot_S8x128x256_S8x64x256_S8x128x64_2_2_1_1_0_0 none (V0 (Proc.devRef .tc main_v46_11)) (res_main_while0b_v75 V0)) transposes_S8x128x64_S8x64x128_0_2_1) : (Proc.devRef .tc main_while0b_call15_v0 : DevRef τ sig).ty.Contents (Elt F)) = Cert.ReferenceIdeal.Step.b174 j s := by
  unfold Cert.ReferenceIdeal.Step.b174
  rw [← al_130 h]
  try rfl
set_option maxRecDepth 8192 in
theorem al_175 (h : Holds V0 s j) : (constantI S_ 32 0#32 : (Proc.devRef .tc main_while0b_call15_c : DevRef τ sig).ty.Contents (Elt F)) = Cert.ReferenceIdeal.Step.b175 j s := by
  unfold Cert.ReferenceIdeal.Step.b175
  rfl
set_option maxRecDepth 8192 in
theorem al_176 (h : Holds V0 s j) : (constantI S_ 32 0#32 : (Proc.devRef .tc main_while0b_call15_c_0 : DevRef τ sig).ty.Contents (Elt F)) = Cert.ReferenceIdeal.Step.b176 j s := by
  unfold Cert.ReferenceIdeal.Step.b176
  rfl
set_option maxRecDepth 8192 in
theorem al_177 (h : Holds V0 s j) : (constantI S_ 32 0#32 : (Proc.devRef .tc main_while0b_call15_c_1 : DevRef τ sig).ty.Contents (Elt F)) = Cert.ReferenceIdeal.Step.b177 j s := by
  unfold Cert.ReferenceIdeal.Step.b177
  rfl
set_option maxRecDepth 8192 in
theorem al_178 (h : Holds V0 s j) : (Host.dynamicUpdateSlice (V0 (Proc.devRef .tc main_v46_17)) (broadcastInDim S1x8x64x128 ![1, 2, 3] bcast_S8x64x128_S1x8x64x128_1_2_3 (transpose S8x64x128 [0, 2, 1] (Host.dotGeneral dot_S8x128x256_S8x64x256_S8x128x64_2_2_1_1_0_0 none (V0 (Proc.devRef .tc main_v46_11)) (res_main_while0b_v75 V0)) transposes_S8x128x64_S8x64x128_0_2_1)) (fun k => (((![res_main_while0b_v64 V0, constantI S_ 32 0#32, constantI S_ 32 0#32, constantI S_ 32 0#32] : Fin 4 → (⟨S_, .i32⟩ : BufTy).Contents (Elt F))) k (Shape.Idx.first h_S_)).toInt) updateFits_S64x8x64x128_S1x8x64x128 : (Proc.devRef .tc main_while0b_v161 : DevRef τ sig).ty.Contents (Elt F)) = Cert.ReferenceIdeal.Step.b178 j s := by
  unfold Cert.ReferenceIdeal.Step.b178
  rw [← al_174 h, ← al_3 h, ← al_175 h, ← al_176 h, ← al_177 h, h.f_17]
  try rfl
set_option maxRecDepth 8192 in
theorem al_179 (h : Holds V0 s j) : (broadcastInDim S1x8 ![1] bcast_S8_S1x8_1 (mulf (Host.reduceAdd (shapeCast S8x1x1 (Host.reduceAdd (mulf (V0 (Proc.devRef .tc main_v46_11)) (res_main_while0b_v65 V0)) (constant S_ .f32 0x00000000#32) reducesTo_S8x128x256_S8_d1_2 h_S_) shapeCasts_S8_S8x1x1) (constant S_ .f32 0x00000000#32) reducesTo_S8x1x1_S8_d1_2 h_S_) (res_main_while0b_v79 V0)) : (Proc.devRef .tc main_while0b_call16_v0 : DevRef τ sig).ty.Contents (Elt F)) = Cert.ReferenceIdeal.Step.b179 j s := by
  unfold Cert.ReferenceIdeal.Step.b179
  rw [← al_139 h]
  try rfl
set_option maxRecDepth 8192 in
theorem al_180 (h : Holds V0 s j) : (constantI S_ 32 0#32 : (Proc.devRef .tc main_while0b_call16_c : DevRef τ sig).ty.Contents (Elt F)) = Cert.ReferenceIdeal.Step.b180 j s := by
  unfold Cert.ReferenceIdeal.Step.b180
  rfl
set_option maxRecDepth 8192 in
theorem al_181 (h : Holds V0 s j) : (Host.dynamicUpdateSlice (V0 (Proc.devRef .tc main_v46_18)) (broadcastInDim S1x8 ![1] bcast_S8_S1x8_1 (mulf (Host.reduceAdd (shapeCast S8x1x1 (Host.reduceAdd (mulf (V0 (Proc.devRef .tc main_v46_11)) (res_main_while0b_v65 V0)) (constant S_ .f32 0x00000000#32) reducesTo_S8x128x256_S8_d1_2 h_S_) shapeCasts_S8_S8x1x1) (constant S_ .f32 0x00000000#32) reducesTo_S8x1x1_S8_d1_2 h_S_) (res_main_while0b_v79 V0))) (fun k => (((![res_main_while0b_v64 V0, constantI S_ 32 0#32] : Fin 2 → (⟨S_, .i32⟩ : BufTy).Contents (Elt F))) k (Shape.Idx.first h_S_)).toInt) updateFits_S64x8_S1x8 : (Proc.devRef .tc main_while0b_v162 : DevRef τ sig).ty.Contents (Elt F)) = Cert.ReferenceIdeal.Step.b181 j s := by
  unfold Cert.ReferenceIdeal.Step.b181
  rw [← al_179 h, ← al_3 h, ← al_180 h, h.f_18]
  try rfl
set_option maxRecDepth 8192 in
theorem al_182 (h : Holds V0 s j) : (broadcastInDim S1x64x2048 ![1, 2] bcast_S64x2048_S1x64x2048_1_2 (addf (mulf (res_main_while0b_v106 V0) (res_main_while0b_v104_2 V0)) (mulf (mulf (res_main_while0b_v72 V0) (res_main_while0b_v106 V0)) (mulf (res_main_while0b_v104_2 V0) (subf (broadcastInDim S64x2048 ![] bcast_S_S64x2048 (constant S_ .f32 0x3F800000#32)) (res_main_while0b_v104_2 V0))))) : (Proc.devRef .tc main_while0b_call17_v0 : DevRef τ sig).ty.Contents (Elt F)) = Cert.ReferenceIdeal.Step.b182 j s := by
  unfold Cert.ReferenceIdeal.Step.b182
  rw [← al_98 h]
  try rfl
set_option maxRecDepth 8192 in
theorem al_183 (h : Holds V0 s j) : (constantI S_ 32 0#32 : (Proc.devRef .tc main_while0b_call17_c : DevRef τ sig).ty.Contents (Elt F)) = Cert.ReferenceIdeal.Step.b183 j s := by
  unfold Cert.ReferenceIdeal.Step.b183
  rfl
set_option maxRecDepth 8192 in
theorem al_184 (h : Holds V0 s j) : (constantI S_ 32 0#32 : (Proc.devRef .tc main_while0b_call17_c_0 : DevRef τ sig).ty.Contents (Elt F)) = Cert.ReferenceIdeal.Step.b184 j s := by
  unfold Cert.ReferenceIdeal.Step.b184
  rfl
set_option maxRecDepth 8192 in
theorem al_185 (h : Holds V0 s j) : (Host.dynamicUpdateSlice (V0 (Proc.devRef .tc main_v46_19)) (broadcastInDim S1x64x2048 ![1, 2] bcast_S64x2048_S1x64x2048_1_2 (addf (mulf (res_main_while0b_v106 V0) (res_main_while0b_v104_2 V0)) (mulf (mulf (res_main_while0b_v72 V0) (res_main_while0b_v106 V0)) (mulf (res_main_while0b_v104_2 V0) (subf (broadcastInDim S64x2048 ![] bcast_S_S64x2048 (constant S_ .f32 0x3F800000#32)) (res_main_while0b_v104_2 V0)))))) (fun k => (((![res_main_while0b_v64 V0, constantI S_ 32 0#32, constantI S_ 32 0#32] : Fin 3 → (⟨S_, .i32⟩ : BufTy).Contents (Elt F))) k (Shape.Idx.first h_S_)).toInt) updateFits_S64x64x2048_S1x64x2048 : (Proc.devRef .tc main_while0b_v163 : DevRef τ sig).ty.Contents (Elt F)) = Cert.ReferenceIdeal.Step.b185 j s := by
  unfold Cert.ReferenceIdeal.Step.b185
  rw [← al_182 h, ← al_3 h, ← al_183 h, ← al_184 h, h.f_19]
  try rfl

/-! One trip's step of the carried values is `step`, field by field; a counter steps to the next number. -/

theorem step_11 (h : Holds V0 s j) : step_main_v46_11 V0 = (step j s).main_v46_11 := by
  unfold step_main_v46_11 Cert.ReferenceIdeal.Step.step
  show id (addf (addf (mulf (broadcastInDim S8x128x256 ![0, 1, 2] bcast_S8x1x1_S8x128x256_0_1_2 (res_main_while0b_v80 V0)) (V0 (Proc.devRef .tc main_v46_11))) (transpose S8x128x256 [0, 2, 1] (Host.dotGeneral dot_S8x64x256_S8x64x128_S8x256x128_1_1_2_2_0_0 none (res_main_while0b_v131 V0) (res_main_while0b_v66 V0)) transposes_S8x256x128_S8x128x256_0_2_1)) (transpose S8x128x256 [0, 2, 1] (Host.dotGeneral dot_S8x64x256_S8x64x128_S8x256x128_1_1_2_2_0_0 none (res_main_while0b_v151 V0) (res_main_while0b_v67 V0)) transposes_S8x256x128_S8x128x256_0_2_1)) = _
  exact al_151 h
theorem step_12 (h : Holds V0 s j) : step_main_v46_12 V0 = (step j s).main_v46_12 := by
  unfold step_main_v46_12 Cert.ReferenceIdeal.Step.step
  show id (addf (V0 (Proc.devRef .tc main_v46_12)) (shapeCast S1x2048 (Host.reduceAdd (shapeCast S1x8x256 (Host.reduceAdd (mulf (res_main_while0b_v98 V0) (res_main_while0b_v109 V0)) (constant S_ .f32 0x00000000#32) reducesTo_S64x8x256_S8x256_d0 h_S_) shapeCasts_S8x256_S1x8x256) (constant S_ .f32 0x00000000#32) reducesTo_S1x8x256_S8x256_d0 h_S_) shapeCasts_S8x256_S1x2048)) = _
  exact al_153 h
theorem step_13 (h : Holds V0 s j) : step_main_v46_13 V0 = (step j s).main_v46_13 := by
  unfold step_main_v46_13 Cert.ReferenceIdeal.Step.step
  show id (Host.dynamicUpdateSlice (V0 (Proc.devRef .tc main_v46_13)) (broadcastInDim S1x8x64x128 ![1, 2, 3] bcast_S8x64x128_S1x8x64x128_1_2_3 (Host.dotGeneral dot_S8x64x256_S8x128x256_S8x64x128_2_2_1_1_0_0 none (res_main_while0b_v131 V0) (res_main_while0b_v65 V0))) (fun k => (((![res_main_while0b_v64 V0, constantI S_ 32 0#32, constantI S_ 32 0#32, constantI S_ 32 0#32] : Fin 4 → (⟨S_, .i32⟩ : BufTy).Contents (Elt F))) k (Shape.Idx.first h_S_)).toInt) updateFits_S64x8x64x128_S1x8x64x128) = _
  exact al_158 h
theorem step_14 (h : Holds V0 s j) : step_main_v46_14 V0 = (step j s).main_v46_14 := by
  unfold step_main_v46_14 Cert.ReferenceIdeal.Step.step
  show id (Host.dynamicUpdateSlice (V0 (Proc.devRef .tc main_v46_14)) (broadcastInDim S1x8x64x128 ![1, 2, 3] bcast_S8x64x128_S1x8x64x128_1_2_3 (Host.dotGeneral dot_S8x64x256_S8x128x256_S8x64x128_2_2_1_1_0_0 none (res_main_while0b_v151 V0) (res_main_while0b_v65 V0))) (fun k => (((![res_main_while0b_v64 V0, constantI S_ 32 0#32, constantI S_ 32 0#32, constantI S_ 32 0#32] : Fin 4 → (⟨S_, .i32⟩ : BufTy).Contents (Elt F))) k (Shape.Idx.first h_S_)).toInt) updateFits_S64x8x64x128_S1x8x64x128) = _
  exact al_163 h
theorem step_15 (h : Holds V0 s j) : step_main_v46_15 V0 = (step j s).main_v46_15 := by
  unfold step_main_v46_15 Cert.ReferenceIdeal.Step.step
  show id (Host.dynamicUpdateSlice (V0 (Proc.devRef .tc main_v46_15)) (broadcastInDim S1x8x64x256 ![1, 2, 3] bcast_S8x64x256_S1x8x64x256_1_2_3 (res_main_while0b_v145 V0)) (fun k => (((![res_main_while0b_v64 V0, constantI S_ 32 0#32, constantI S_ 32 0#32, constantI S_ 32 0#32] : Fin 4 → (⟨S_, .i32⟩ : BufTy).Contents (Elt F))) k (Shape.Idx.first h_S_)).toInt) updateFits_S64x8x64x256_S1x8x64x256) = _
  exact al_168 h
theorem step_16 (h : Holds V0 s j) : step_main_v46_16 V0 = (step j s).main_v46_16 := by
  unfold step_main_v46_16 Cert.ReferenceIdeal.Step.step
  show id (Host.dynamicUpdateSlice (V0 (Proc.devRef .tc main_v46_16)) (broadcastInDim S1x8x64x64 ![1, 2, 3] bcast_S8x64x64_S1x8x64x64_1_2_3 (Host.dotGeneral dot_S8x64x256_S8x64x256_S8x64x64_2_2_1_1_0_0 none (res_main_while0b_v131 V0) (res_main_while0b_v75 V0))) (fun k => (((![res_main_while0b_v64 V0, constantI S_ 32 0#32, constantI S_ 32 0#32, constantI S_ 32 0#32] : Fin 4 → (⟨S_, .i32⟩ : BufTy).Contents (Elt F))) k (Shape.Idx.first h_S_)).toInt) updateFits_S64x8x64x64_S1x8x64x64) = _
  exact al_173 h
theorem step_17 (h : Holds V0 s j) : step_main_v46_17 V0 = (step j s).main_v46_17 := by
  unfold step_main_v46_17 Cert.ReferenceIdeal.Step.step
  show id (Host.dynamicUpdateSlice (V0 (Proc.devRef .tc main_v46_17)) (broadcastInDim S1x8x64x128 ![1, 2, 3] bcast_S8x64x128_S1x8x64x128_1_2_3 (transpose S8x64x128 [0, 2, 1] (Host.dotGeneral dot_S8x128x256_S8x64x256_S8x128x64_2_2_1_1_0_0 none (V0 (Proc.devRef .tc main_v46_11)) (res_main_while0b_v75 V0)) transposes_S8x128x64_S8x64x128_0_2_1)) (fun k => (((![res_main_while0b_v64 V0, constantI S_ 32 0#32, constantI S_ 32 0#32, constantI S_ 32 0#32] : Fin 4 → (⟨S_, .i32⟩ : BufTy).Contents (Elt F))) k (Shape.Idx.first h_S_)).toInt) updateFits_S64x8x64x128_S1x8x64x128) = _
  exact al_178 h
theorem step_18 (h : Holds V0 s j) : step_main_v46_18 V0 = (step j s).main_v46_18 := by
  unfold step_main_v46_18 Cert.ReferenceIdeal.Step.step
  show id (Host.dynamicUpdateSlice (V0 (Proc.devRef .tc main_v46_18)) (broadcastInDim S1x8 ![1] bcast_S8_S1x8_1 (mulf (Host.reduceAdd (shapeCast S8x1x1 (Host.reduceAdd (mulf (V0 (Proc.devRef .tc main_v46_11)) (res_main_while0b_v65 V0)) (constant S_ .f32 0x00000000#32) reducesTo_S8x128x256_S8_d1_2 h_S_) shapeCasts_S8_S8x1x1) (constant S_ .f32 0x00000000#32) reducesTo_S8x1x1_S8_d1_2 h_S_) (res_main_while0b_v79 V0))) (fun k => (((![res_main_while0b_v64 V0, constantI S_ 32 0#32] : Fin 2 → (⟨S_, .i32⟩ : BufTy).Contents (Elt F))) k (Shape.Idx.first h_S_)).toInt) updateFits_S64x8_S1x8) = _
  exact al_181 h
theorem step_19 (h : Holds V0 s j) : step_main_v46_19 V0 = (step j s).main_v46_19 := by
  unfold step_main_v46_19 Cert.ReferenceIdeal.Step.step
  show id (Host.dynamicUpdateSlice (V0 (Proc.devRef .tc main_v46_19)) (broadcastInDim S1x64x2048 ![1, 2] bcast_S64x2048_S1x64x2048_1_2 (addf (mulf (res_main_while0b_v106 V0) (res_main_while0b_v104_2 V0)) (mulf (mulf (res_main_while0b_v72 V0) (res_main_while0b_v106 V0)) (mulf (res_main_while0b_v104_2 V0) (subf (broadcastInDim S64x2048 ![] bcast_S_S64x2048 (constant S_ .f32 0x3F800000#32)) (res_main_while0b_v104_2 V0)))))) (fun k => (((![res_main_while0b_v64 V0, constantI S_ 32 0#32, constantI S_ 32 0#32] : Fin 3 → (⟨S_, .i32⟩ : BufTy).Contents (Elt F))) k (Shape.Idx.first h_S_)).toInt) updateFits_S64x64x2048_S1x64x2048) = _
  exact al_185 h
theorem step_10 (h : Holds V0 s j) : step_main_v46_10 V0 = constantI S_ 32 (BitVec.ofNat 32 (j + 1)) := by
  unfold step_main_v46_10
  rw [h.n_10]
  funext i
  show BitVec.ofNat 32 j + 1#32 = BitVec.ofNat 32 (j + 1)
  simp only [BitVec.ofNat_add]

set_option maxRecDepth 8192 in
theorem out_main_v51_holds (h : Holds V0 s j) : out_main_v51 V0 = Cert.ReferenceIdeal.Step.R_main_v51 s := by
  unfold out_main_v51 Cert.ReferenceIdeal.Step.R_main_v51
  rw [h.f_13]
  try rfl

set_option maxRecDepth 8192 in
theorem out_main_v53_holds (h : Holds V0 s j) : out_main_v53 V0 = Cert.ReferenceIdeal.Step.R_main_v53 s := by
  unfold out_main_v53 Cert.ReferenceIdeal.Step.R_main_v53
  rw [h.f_14]
  try rfl

set_option maxRecDepth 8192 in
theorem out_main_v55_holds (h : Holds V0 s j) : out_main_v55 V0 = Cert.ReferenceIdeal.Step.R_main_v55 s := by
  unfold out_main_v55 Cert.ReferenceIdeal.Step.R_main_v55
  rw [h.f_15]
  try rfl

set_option maxRecDepth 8192 in
theorem out_main_v57_holds (h : Holds V0 s j) : out_main_v57 V0 = Cert.ReferenceIdeal.Step.R_main_v57 s := by
  unfold out_main_v57 Cert.ReferenceIdeal.Step.R_main_v57
  rw [h.f_16]
  try rfl

set_option maxRecDepth 8192 in
theorem out_main_v59_holds (h : Holds V0 s j) : out_main_v59 V0 = Cert.ReferenceIdeal.Step.R_main_v59 s := by
  unfold out_main_v59 Cert.ReferenceIdeal.Step.R_main_v59
  rw [h.f_17]
  try rfl

set_option maxRecDepth 8192 in
theorem out_main_v61_holds (h : Holds V0 s j) : out_main_v61 V0 = Cert.ReferenceIdeal.Step.R_main_v61 s := by
  unfold out_main_v61 Cert.ReferenceIdeal.Step.R_main_v61
  rw [h.f_18]
  try rfl

set_option maxRecDepth 8192 in
theorem out_main_v62_holds (h : Holds V0 s j) : out_main_v62 V0 = Cert.ReferenceIdeal.Step.R_main_v62 s := by
  unfold out_main_v62 Cert.ReferenceIdeal.Step.R_main_v62
  rw [h.f_19]
  try rfl

/-- One trip keeps the valuation holding: `step` of the state, the same set-up values, the next number. -/
theorem holds_step (h : Holds V0 s j) : Holds (STEP V0) (step j s) (j + 1) where
  f_11 := (STEP_main_v46_11 V0).trans (step_11 h)
  f_12 := (STEP_main_v46_12 V0).trans (step_12 h)
  f_13 := (STEP_main_v46_13 V0).trans (step_13 h)
  f_14 := (STEP_main_v46_14 V0).trans (step_14 h)
  f_15 := (STEP_main_v46_15 V0).trans (step_15 h)
  f_16 := (STEP_main_v46_16 V0).trans (step_16 h)
  f_17 := (STEP_main_v46_17 V0).trans (step_17 h)
  f_18 := (STEP_main_v46_18 V0).trans (step_18 h)
  f_19 := (STEP_main_v46_19 V0).trans (step_19 h)
  n_10 := (STEP_main_v46_10 V0).trans (step_10 h)
  f_0 := (STEP_main_v46_0 V0).trans h.f_0
  f_1 := (STEP_main_v46_1 V0).trans h.f_1
  f_2 := (STEP_main_v46_2 V0).trans h.f_2
  f_3 := (STEP_main_v46_3 V0).trans h.f_3
  f_4 := (STEP_main_v46_4 V0).trans h.f_4
  f_5 := (STEP_main_v46_5 V0).trans h.f_5
  f_6 := (STEP_main_v46_6 V0).trans h.f_6
  f_7 := (STEP_main_v46_7 V0).trans h.f_7
  f_8 := (STEP_main_v46_8 V0).trans h.f_8
  f_9 := (STEP_main_v46_9 V0).trans h.f_9

/-- The state the first trip starts from, of the memory the run starts from. -/
abbrev initState (m : (ℓ : Loc nD τ sig) → Buf (Elt F) ℓ) (c : Dev nD) : State F :=
  init (m ((c.tc : Thread nD τ).loc main_arg7)) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg8)) (m ((c.tc : Thread nD τ).loc main_arg9))

variable (m : (ℓ : Loc nD τ sig) → Buf (Elt F) ℓ) (c : Dev nD)

set_option maxRecDepth 65536 in
set_option maxHeartbeats 800000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `ReferenceIdeal` terminates with each result at its field of state
    number 64 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v51) = Cert.ReferenceIdeal.Step.R_main_v51 (it c 64)
      ∧ r.2.mem ((c.tc : Thread nD τ).loc main_v53) = Cert.ReferenceIdeal.Step.R_main_v53 (it c 64)
      ∧ r.2.mem ((c.tc : Thread nD τ).loc main_v55) = Cert.ReferenceIdeal.Step.R_main_v55 (it c 64)
      ∧ r.2.mem ((c.tc : Thread nD τ).loc main_v57) = Cert.ReferenceIdeal.Step.R_main_v57 (it c 64)
      ∧ r.2.mem ((c.tc : Thread nD τ).loc main_v59) = Cert.ReferenceIdeal.Step.R_main_v59 (it c 64)
      ∧ r.2.mem ((c.tc : Thread nD τ).loc main_v61) = Cert.ReferenceIdeal.Step.R_main_v61 (it c 64)
      ∧ r.2.mem ((c.tc : Thread nD τ).loc main_v62) = Cert.ReferenceIdeal.Step.R_main_v62 (it c 64)
      ∧ r.2.mem ((c.tc : Thread nD τ).loc main_v46_12) = (it c 64).main_v46_12
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c =>
    have hk := holds_iter m c (it c) (h0 c) (hs c) 64
    ⟨(h c).1.trans (out_main_v51_holds hk), (h c).2.1.trans (out_main_v53_holds hk), (h c).2.2.1.trans (out_main_v55_holds hk), (h c).2.2.2.1.trans (out_main_v57_holds hk), (h c).2.2.2.2.1.trans (out_main_v59_holds hk), (h c).2.2.2.2.2.1.trans (out_main_v61_holds hk), (h c).2.2.2.2.2.2.1.trans (out_main_v62_holds hk), (h c).2.2.2.2.2.2.2.1.trans hk.f_12, (h c).2.2.2.2.2.2.2.2.1, (h c).2.2.2.2.2.2.2.2.2.1, (h c).2.2.2.2.2.2.2.2.2.2.1, (h c).2.2.2.2.2.2.2.2.2.2.2.1, (h c).2.2.2.2.2.2.2.2.2.2.2.2.1, (h c).2.2.2.2.2.2.2.2.2.2.2.2.2.1, (h c).2.2.2.2.2.2.2.2.2.2.2.2.2.2.1, (h c).2.2.2.2.2.2.2.2.2.2.2.2.2.2.2.1, (h c).2.2.2.2.2.2.2.2.2.2.2.2.2.2.2.2.1, (h c).2.2.2.2.2.2.2.2.2.2.2.2.2.2.2.2.2⟩) (Value.run m ρ)

end Cert.GdnRun

end
-- ==== Proof.GdnClaim.lean ====
module

public import proofs.«01_k».proof.Defs
public import proofs.«01_k».proof.Proof.GdnPoint
public import proofs.«01_k».proof.Proof.GdnRefStart
public import proofs.«01_k».proof.Proof.GdnRun
public import Idealize.ShloMosaic.Adequacy
public import Idealize.ShloMosaic.Init

/-!
# The gradient of the gated delta rule: kernel and reference agree

Both write the arrays of `Cert.Gdn.Arr`: the kernel at the end of its grid, the reference at the end of its loop.
-/

@[expose] public section

noncomputable section

namespace Cert.GdnClaim

open Idealize.ShloMosaic Idealize.SL.Sem

/-- The reference runs, leaves its arguments and no semaphore counted up. -/
theorem frame_ref : @Cert.quiescent_ReferenceIdeal Cert.ReferenceIdeal.Gen.facts := by
  intro m ρ _
  refine (θ_run Cert.ReferenceIdeal.defs _ _).mono (fun r h => ⟨fun c => (h c).2.2.2.2.2.2.2.2,
    Idealize.ShloMosaic.sem_eq_zero_of_no_sems (by decide) r.2⟩)
    (Cert.GdnRun.run_iter m ρ (fun c n => Nat.rec (Cert.GdnRun.initState m c) (fun k s => Cert.ReferenceIdeal.Step.step k s) n)
      (fun _ => rfl) (fun _ _ => rfl))

/-- The reference's states, trip by trip. -/
def its (m : (ℓ : Loc Cert.ReferenceIdeal.nD Cert.ReferenceIdeal.τ Cert.ReferenceIdeal.sig) → Buf (Elt Ideal) ℓ)
    (c : Dev Cert.ReferenceIdeal.nD) (n : ℕ) : Cert.ReferenceIdeal.Step.State Ideal :=
  Cert.GdnRef.it
    (m ((c.tc : Thread Cert.ReferenceIdeal.nD Cert.ReferenceIdeal.τ).loc Cert.ReferenceIdeal.main_arg0))
    (m ((c.tc : Thread Cert.ReferenceIdeal.nD Cert.ReferenceIdeal.τ).loc Cert.ReferenceIdeal.main_arg1))
    (m ((c.tc : Thread Cert.ReferenceIdeal.nD Cert.ReferenceIdeal.τ).loc Cert.ReferenceIdeal.main_arg2))
    (m ((c.tc : Thread Cert.ReferenceIdeal.nD Cert.ReferenceIdeal.τ).loc Cert.ReferenceIdeal.main_arg3))
    (m ((c.tc : Thread Cert.ReferenceIdeal.nD Cert.ReferenceIdeal.τ).loc Cert.ReferenceIdeal.main_arg4))
    (m ((c.tc : Thread Cert.ReferenceIdeal.nD Cert.ReferenceIdeal.τ).loc Cert.ReferenceIdeal.main_arg5))
    (m ((c.tc : Thread Cert.ReferenceIdeal.nD Cert.ReferenceIdeal.τ).loc Cert.ReferenceIdeal.main_arg6))
    (m ((c.tc : Thread Cert.ReferenceIdeal.nD Cert.ReferenceIdeal.τ).loc Cert.ReferenceIdeal.main_arg7))
    (m ((c.tc : Thread Cert.ReferenceIdeal.nD Cert.ReferenceIdeal.τ).loc Cert.ReferenceIdeal.main_arg8))
    (m ((c.tc : Thread Cert.ReferenceIdeal.nD Cert.ReferenceIdeal.τ).loc Cert.ReferenceIdeal.main_arg9)) n

/-- From memories that agree on the arguments, the kernel and the reference end with equal results. -/
theorem algebraic : @Cert.algebraic_KernelIdeal_ReferenceIdeal Cert.KernelIdeal.Gen.facts Cert.ReferenceIdeal.Gen.facts := by
  intro m ρ m' ρ' _ hag
  have harr : ∀ c : Dev Cert.KernelIdeal.nD, Cert.GdnRef.rarr
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg6))
      (m' ((c.tc : Thread Cert.ReferenceIdeal.nD Cert.ReferenceIdeal.τ).loc Cert.ReferenceIdeal.main_arg7))
      (m' ((c.tc : Thread Cert.ReferenceIdeal.nD Cert.ReferenceIdeal.τ).loc Cert.ReferenceIdeal.main_arg8))
      (m' ((c.tc : Thread Cert.ReferenceIdeal.nD Cert.ReferenceIdeal.τ).loc Cert.ReferenceIdeal.main_arg9))
        = Cert.GdnPoint.arr m c := by
    intro c
    obtain ⟨e0, e1, e2, e3, e4, e5, e6, e7, e8, e9⟩ := hag c
    rw [e0, e1, e2, e3, e4, e5, e6, e7, e8, e9]
    rfl
  refine ⟨fun c => (Cert.KernelIdeal.Gen.dats m 0 c).arrAt 10 Cert.KernelIdeal.cfg0.N, fun c => (Cert.KernelIdeal.Gen.dats m 0 c).arrAt 11 Cert.KernelIdeal.cfg0.N,
    fun c => (Cert.KernelIdeal.Gen.dats m 0 c).arrAt 12 Cert.KernelIdeal.cfg0.N, fun c => (Cert.KernelIdeal.Gen.dats m 0 c).arrAt 13 Cert.KernelIdeal.cfg0.N,
    fun c => (Cert.KernelIdeal.Gen.dats m 0 c).arrAt 14 Cert.KernelIdeal.cfg0.N, fun c => (Cert.KernelIdeal.Gen.dats m 0 c).arrAt 15 Cert.KernelIdeal.cfg0.N,
    fun c => (Cert.KernelIdeal.Gen.dats m 0 c).arrAt 16 Cert.KernelIdeal.cfg0.N, fun c => (Cert.KernelIdeal.Gen.dats m 0 c).arrAt 17 Cert.KernelIdeal.cfg0.N,
    Cert.KernelIdeal.Value.run_blocks m ρ, ?_⟩
  refine (θ_run Cert.ReferenceIdeal.defs _ _).mono (fun r h c => ?_) (Cert.GdnRun.run_iter m' ρ' (its m') (fun _ => rfl) (fun _ _ => rfl))
  obtain ⟨h0, h1, h2, h3, h4, h5, h6, h7, hargs⟩ := h c
  refine ⟨h0.trans ?_, h1.trans ?_, h2.trans ?_, h3.trans ?_, h4.trans ?_, h5.trans ?_, h6.trans ?_, h7.trans ?_, hargs⟩
  · refine (Cert.GdnRef.R51_eq _ _ _ _ _ _ _ _ _ _).trans ?_
    rw [harr c]; exact (Cert.GdnPoint.final10 m c).symm
  · refine (Cert.GdnRef.R53_eq _ _ _ _ _ _ _ _ _ _).trans ?_
    rw [harr c]; exact (Cert.GdnPoint.final11 m c).symm
  · refine (Cert.GdnRef.R55_eq _ _ _ _ _ _ _ _ _ _).trans ?_
    rw [harr c]; exact (Cert.GdnPoint.final12 m c).symm
  · refine (Cert.GdnRef.R57_eq _ _ _ _ _ _ _ _ _ _).trans ?_
    rw [harr c]; exact (Cert.GdnPoint.final13 m c).symm
  · refine (Cert.GdnRef.R59_eq _ _ _ _ _ _ _ _ _ _).trans ?_
    rw [harr c]; exact (Cert.GdnPoint.final14 m c).symm
  · refine (Cert.GdnRef.R61_eq _ _ _ _ _ _ _ _ _ _).trans ?_
    rw [harr c]; exact (Cert.GdnPoint.final15 m c).symm
  · refine (Cert.GdnRef.R62_eq _ _ _ _ _ _ _ _ _ _).trans ?_
    rw [harr c]; exact (Cert.GdnPoint.final16 m c).symm
  · refine (Cert.GdnRef.R12_eq _ _ _ _ _ _ _ _ _ _).trans ?_
    rw [harr c]; exact (Cert.GdnPoint.final17 m c).symm

end Cert.GdnClaim

end
-- ==== Proof.MatSum.lean ====
module

public import Idealize.ShloMosaic.PureOps.Ideal
public import Idealize.ShloMosaic.Lib.ValueIdxCore

/-!
# Sums taken in four blocks

A sum over 4096 tokens, taken block by block of 1024.
-/

@[expose] public section

namespace Cert.MatSum

/-- The sum over block `q` of 1024 tokens. -/
noncomputable def part (f : Fin 4096 → EReal) (q : Fin 4) : EReal :=
  ∑ r : Fin 1024, f ⟨1024 * q.val + r.val, by omega⟩

/-- The blocks' sums, added one after the other, are the whole sum. -/
theorem parts (f : Fin 4096 → EReal) : part f 0 + part f 1 + part f 2 + part f 3 = ∑ k, f k := by
  rw [← (finProdFinEquiv : Fin 4 × Fin 1024 ≃ Fin 4096).sum_comp f, Fintype.sum_prod_type, Fin.sum_univ_four]
  have e : ∀ q : Fin 4, part f q = ∑ r : Fin 1024, f ((finProdFinEquiv : Fin 4 × Fin 1024 ≃ Fin 4096) (q, r)) := fun q =>
    Finset.sum_congr rfl fun r _ => congrArg f (Fin.ext (Nat.add_comm _ _))
  rw [e, e, e, e]

/-- Four points in a row, the first of which stores a part of a sum, the next two of which add theirs to what the point
    before stored, and the last of which writes the total: it writes the sum. -/
theorem four {N : Nat} (f : Fin 4096 → EReal) (r s p : Fin N → EReal)
    (hA : ∀ u : Fin N, u.val % 4 = 0 → s u = p u)
    (hB : ∀ u : Fin N, u.val % 4 = 1 ∨ u.val % 4 = 2 → s u = s ⟨u.val - 1, Nat.lt_of_le_of_lt (Nat.sub_le _ _) u.isLt⟩ + p u)
    (hC : ∀ u : Fin N, u.val % 4 = 3 → r u = s ⟨u.val - 1, Nat.lt_of_le_of_lt (Nat.sub_le _ _) u.isLt⟩ + p u)
    (t : Fin N) (h : t.val % 4 = 3) (hp : ∀ (u : Fin N) (q : Fin 4), u.val / 4 = t.val / 4 → u.val % 4 = q.val → p u = part f q) :
    r t = ∑ k, f k := by
  have e0 := hA ⟨t.val - 1 - 1 - 1, by omega⟩ (by show (t.val - 1 - 1 - 1) % 4 = 0; omega)
  have e1 := hB ⟨t.val - 1 - 1, by omega⟩ (Or.inl (by show (t.val - 1 - 1) % 4 = 1; omega))
  have e2 := hB ⟨t.val - 1, by omega⟩ (Or.inr (by show (t.val - 1) % 4 = 2; omega))
  rw [hp _ 0 (by show (t.val - 1 - 1 - 1) / 4 = _; omega) (by show (t.val - 1 - 1 - 1) % 4 = 0; omega)] at e0
  rw [hp _ 1 (by show (t.val - 1 - 1) / 4 = _; omega) (by show (t.val - 1 - 1) % 4 = 1; omega)] at e1
  rw [hp _ 2 (by show (t.val - 1) / 4 = _; omega) (by show (t.val - 1) % 4 = 2; omega)] at e2
  rw [hC t h, hp t 3 rfl h, ← parts f, e2, e1, e0]

end Cert.MatSum

end
-- ==== Proof.Dw3.lean ====
module

public import proofs.«01_k».proof.Defs
public import proofs.«01_k».proof.Proof.MatSum
public import proofs.«01_k».proof.Proof.Gen.Kernel3Ideal.Value
public import proofs.«01_k».proof.Proof.Gen.Reference3Ideal.Run
public import Idealize.ShloMosaic.Lib.Pointwise
public import Idealize.ShloMosaic.Lib.Pipeline.ValueKit.Geometry
public import Idealize.ShloMosaic.Lib.Quiescent

/-!
# The gradient of the GLU's weight

The kernel adds up, for each block of the result, the products of four blocks of 1024 tokens; the reference is the
derivative of the product by its weight.
-/

@[expose] public section

noncomputable section

namespace Cert.Dw3

open Idealize.ShloMosaic Idealize.ShloMosaic.TcCoe Idealize.SL.Sem
open Cert.Kernel3Ideal Cert.Kernel3Ideal.Gen

variable (m : (ℓ : Loc nD τ sig) → Buf (Elt Ideal) ℓ) (c : Dev nD)

/-- The arguments, read at an entry. -/
def A (k : Fin 4096) (i : Fin 2048) : EReal := m ((c.tc : Thread nD τ).loc main_arg0) (ix2 k i)
def B (k : Fin 4096) (j : Fin 2048) : EReal := m ((c.tc : Thread nD τ).loc main_arg1) (ix2 k j)

/-- The product's terms at an entry, token by token. -/
def term (i : Fin 2048) (j : Fin 2048) (k : Fin 4096) : EReal := A m c k i * B m c k j

theorem hz : (![0, 0] : Fin 2 → Nat) = fun _ => 0 := funext fun a => by fin_cases a <;> rfl

/-- A block product, read at an entry. -/
theorem pay1_apply (x y : Vec Ideal S1024x1024 .f32) (i j : Fin 1024) :
    k0_pay1 (F := Ideal) x y (ix2 i j) = ∑ r : Fin 1024, x (ix2 r i) * y (ix2 r j) := by
  unfold k0_pay1
  pointwise

/-- What a first point leaves in the scratch. -/
theorem sA (c : Dev nD) (i) a1 h1 a2 h2 a3 h3 a4 h4 hc0 hc1 hc2 x0 x1 :
    sout0_A_0 (F := Ideal) c i a1 h1 a2 h2 a3 h3 a4 h4 hc0 hc1 hc2 x0 x1 = k0_pay1 x0 x1 := by
  unfold sout0_A_0
  rw [View.read_writes_eq_canon _ _ _ (scover0_A_0 c i a1 h1 a2 h2 a3 h3 a4 h4 hc0 hc1 hc2 x0 x1)]
  unfold kernelRun0_A; dsimp only
  sl_unfold_words
  rw [View.canon_unit_zero (S := S1024x1024) hz]
  unfold k0_pay2
  simp only [View.readAt_eq_ld, View.ld_unit_zero (S := S1024x1024) hz, h1.read_unread, h2.read_unread, shapeCast_self]

/-- What a middle point leaves in the scratch. -/
theorem sB (c : Dev nD) (i) a1 h1 a2 h2 a3 h3 a4 h4 hc0 hc1 hc2 x0 x1 xs :
    sout0_B_0 (F := Ideal) c i a1 h1 a2 h2 a3 h3 a4 h4 hc0 hc1 hc2 x0 x1 xs = addf xs (k0_pay1 x0 x1) := by
  unfold sout0_B_0
  rw [View.read_writes_eq_canon _ _ _ (scover0_B_0 c i a1 h1 a2 h2 a3 h3 a4 h4 hc0 hc1 hc2 x0 x1 xs)]
  unfold kernelRun0_B; dsimp only
  sl_unfold_words
  rw [View.canon_unit_zero (S := S1024x1024) hz]
  unfold k0_pay3
  simp only [View.readAt_eq_ld, View.ld_unit_zero (S := S1024x1024) hz, h1.read_unread, h2.read_unread, h4.read_unread, shapeCast_self]

/-- What a last point leaves in the result's block. -/
theorem oC (c : Dev nD) (i) a1 h1 a2 h2 a3 h3 a4 h4 hc0 hc1 hc2 x0 x1 xs :
    out0_C_2 (F := Ideal) c i a1 h1 a2 h2 a3 h3 a4 h4 hc0 hc1 hc2 x0 x1 xs = addf xs (k0_pay1 x0 x1) := by
  unfold out0_C_2
  rw [View.read_writes_eq_canon _ _ _ (cover0_C_2 c i a1 h1 a2 h2 a3 h3 a4 h4 hc0 hc1 hc2 x0 x1 xs)]
  unfold kernelRun0_C; dsimp only
  sl_unfold_words
  rw [View.canon_unit_zero (S := S1024x1024) hz]
  simp only [View.readCov_unit_zero (S := S1024x1024) _ hz]
  unfold k0_pay3
  simp only [View.readAt_eq_ld, View.ld_unit_zero (S := S1024x1024) hz, h1.read_unread, h2.read_unread, h4.read_unread, shapeCast_self]

theorem ei0 : ∀ t : Fin cfg0.N, win0_0.index t = ![t.val % 4, t.val / 8] := (by decide +kernel : ∀ t : Fin grid0.N, _)
theorem ei1 : ∀ t : Fin cfg0.N, win0_1.index t = ![t.val % 4, t.val / 4 % 2] := (by decide +kernel : ∀ t : Fin grid0.N, _)
theorem ei2 : ∀ t : Fin cfg0.N, win0_2.index t = ![t.val / 8, t.val / 4 % 2] := (by decide +kernel : ∀ t : Fin grid0.N, _)

/-- A point's row and column of the result. -/
def prow (t : Fin cfg0.N) (i : Fin 1024) : Fin 2048 := ⟨1024 * (t.val / 8) + i.val, by have := t.isLt; have : cfg0.N = 16 := N_0; omega⟩
def pcol (t : Fin cfg0.N) (j : Fin 1024) : Fin 2048 := ⟨1024 * (t.val / 4 % 2) + j.val, by omega⟩

theorem prow_eq (t u : Fin cfg0.N) (h : t.val / 4 = u.val / 4) (i : Fin 1024) : prow t i = prow u i := Fin.ext (by simp only [prow]; omega)
theorem pcol_eq (t u : Fin cfg0.N) (h : t.val / 4 = u.val / 4) (j : Fin 1024) : pcol t j = pcol u j := Fin.ext (by simp only [pcol]; omega)

/-- A point's block product is a block of the sum over tokens. -/
theorem point (t : Fin cfg0.N) (q : Fin 4) (hq : t.val % 4 = q.val) (i j : Fin 1024) :
    k0_pay1 (iblk m c 0 t : Vec Ideal S1024x1024 .f32) (iblk m c 1 t : Vec Ideal S1024x1024 .f32) (ix2 i j)
      = MatSum.part (term m c (prow t i) (pcol t j)) q := by
  rw [pay1_apply]
  refine Finset.sum_congr rfl fun r _ => ?_
  have hN : cfg0.N = 16 := N_0
  have ht := t.isLt
  refine congrArg₂ (· * ·) ?_ ?_
  · blk_simp [iblk, ei0]
    refine congrArg (m ((c.tc : Thread nD τ).loc main_arg0)) ?_
    blk_ext [ei0, prow]
  · blk_simp [iblk, ei1]
    refine congrArg (m ((c.tc : Thread nD τ).loc main_arg1)) ?_
    blk_ext [ei1, pcol]

/-- What each kind of point carries, as block products. -/
theorem carA (t : Fin cfg0.N) (h : t.val % 4 = 0) :
    (outsAt0 m c t.val t.isLt).2 = k0_pay1 (iblk m c 0 t) (iblk m c 1 t) := by
  have hN : cfg0.N = 16 := N_0
  have ht := t.isLt
  rw [outsAt0_A m c t h (by omega) (by omega)]
  dsimp only
  rw [sA]

theorem carB (t : Fin cfg0.N) (h : t.val % 4 = 1 ∨ t.val % 4 = 2) :
    (outsAt0 m c t.val t.isLt).2 = addf (outsAt0 m c (t.val - 1) (Nat.lt_of_le_of_lt (Nat.sub_le _ _) t.isLt)).2 (k0_pay1 (iblk m c 0 t) (iblk m c 1 t)) := by
  have hN : cfg0.N = 16 := N_0
  have ht := t.isLt
  rw [outsAt0_B m c t (by omega) (by omega) (by omega)]
  dsimp only
  rw [sB]

theorem carC (t : Fin cfg0.N) (h : t.val % 4 = 3) :
    (outsAt0 m c t.val t.isLt).1 = addf (outsAt0 m c (t.val - 1) (Nat.lt_of_le_of_lt (Nat.sub_le _ _) t.isLt)).2 (k0_pay1 (iblk m c 0 t) (iblk m c 1 t)) := by
  have hN : cfg0.N = 16 := N_0
  have ht := t.isLt
  rw [outsAt0_C m c t (by omega) (by omega) h]
  dsimp only
  rw [oC]

/-- The last of a block's points writes the whole sums. -/
theorem out (t : Fin cfg0.N) (h : t.val % 4 = 3) (i j : Fin 1024) :
    (outsAt0 m c t.val t.isLt).1 (ix2 i j) = ∑ k : Fin 4096, term m c (prow t i) (pcol t j) k :=
  MatSum.four (term m c (prow t i) (pcol t j)) (fun u => (outsAt0 m c u.val u.isLt).1 (ix2 i j)) (fun u => (outsAt0 m c u.val u.isLt).2 (ix2 i j))
    (fun u => k0_pay1 (iblk m c 0 u : Vec Ideal S1024x1024 .f32) (iblk m c 1 u : Vec Ideal S1024x1024 .f32) (ix2 i j))
    (fun u h => congrFun (carA m c u h) (ix2 i j)) (fun u h => congrFun (carB m c u h) (ix2 i j)) (fun u h => congrFun (carC m c u h) (ix2 i j)) t h
    (fun u q hu hq => by rw [point m c u q hq i j, prow_eq u t hu i, pcol_eq u t hu j])

/-- The array after the run. -/
theorem final : (dats m 0 c).arrAt 2 cfg0.N = (fun y : S2048x2048.Idx => ∑ k : Fin 4096, term m c (y 0) (y 1) k) := by
  refine (dats m 0 c).arrAt_eq_of_covers 2 _ (by decide +kernel) fun t hf y => ?_
  have h3 : t.val % 4 = 3 := (flush0_2 t).mp hf
  blk_simp
  rw [after0_2]
  obtain ⟨i, j, rfl⟩ : ∃ (i j : Fin 1024), y = ix2 i j := ⟨y 0, y 1, eq_ix2 y⟩
  have e : (win0_2.blk t).view.emb (ix2 i j) = ix2 (prow t i) (pcol t j) := by blk_ext [ei2, prow, pcol]
  rw [e]
  exact out m c t h3 i j

/-- The reference's result, read at an entry. -/
theorem ref_apply (a : FVec Ideal S4096x2048 .f32) (b : FVec Ideal S4096x2048 .f32) :
    transpose Cert.Reference3Ideal.S2048x2048 [1, 0] (Host.dotGeneral (F := Ideal) Cert.Reference3Ideal.dot_S4096x2048_S4096x2048_S2048x2048_0_0_1_1_n_n none b a) Cert.Reference3Ideal.Gen.transposes_S2048x2048_S2048x2048_1_0
      = (fun y : S2048x2048.Idx => ∑ k : Fin 4096, ((a (ix2 k (y 0)) : EReal) * (b (ix2 k (y 1)) : EReal))) := by
  funext y
  obtain ⟨i, j, rfl⟩ : ∃ (i : Fin 2048) (j : Fin 2048), y = ix2 i j := ⟨y 0, y 1, eq_ix2 y⟩
  pointwise
  exact Finset.sum_congr rfl fun k _ => mul_comm _ _

/-- The reference runs, leaves its arguments and no semaphore counted up. -/
theorem frame_ref : @Cert.quiescent_Reference3Ideal Cert.Reference3Ideal.Gen.facts := fun m ρ _ =>
  (θ_run Cert.Reference3Ideal.defs _ _).mono (fun r h => ⟨fun c => (h c).2, Idealize.ShloMosaic.sem_eq_zero_of_no_sems (by decide) r.2⟩)
    (Cert.Reference3Ideal.Value.run m ρ)

/-- From memories that agree on the arguments, the kernel and the reference end with equal results. -/
theorem algebraic : @Cert.algebraic_Kernel3Ideal_Reference3Ideal Cert.Kernel3Ideal.Gen.facts Cert.Reference3Ideal.Gen.facts := by
  intro m ρ m' ρ' _ hag
  refine ⟨fun c => (dats m 0 c).arrAt 2 cfg0.N, Cert.Kernel3Ideal.Value.run_blocks m ρ, ?_⟩
  refine (θ_run Cert.Reference3Ideal.defs _ _).mono (fun r h c => ⟨(h c).1.trans ?_, (h c).2⟩) (Cert.Reference3Ideal.Value.run m' ρ')
  rw [(hag c).1, (hag c).2]
  exact (ref_apply _ _).trans (final m c).symm

end Cert.Dw3

end
-- ==== Proof.Dw4.lean ====
module

public import proofs.«01_k».proof.Defs
public import proofs.«01_k».proof.Proof.MatSum
public import proofs.«01_k».proof.Proof.Gen.Kernel4Ideal.Value
public import proofs.«01_k».proof.Proof.Gen.Reference4Ideal.Run
public import Idealize.ShloMosaic.Lib.Pointwise
public import Idealize.ShloMosaic.Lib.Pipeline.ValueKit.Geometry
public import Idealize.ShloMosaic.Lib.Quiescent

/-!
# The gradient of the S5 input projection's weights

The kernel adds up, for each block of the result, the products of four blocks of 1024 tokens; the reference is the
derivative of the product by its weight.
-/

@[expose] public section

noncomputable section

namespace Cert.Dw4

open Idealize.ShloMosaic Idealize.ShloMosaic.TcCoe Idealize.SL.Sem
open Cert.Kernel4Ideal Cert.Kernel4Ideal.Gen

variable (m : (ℓ : Loc nD τ sig) → Buf (Elt Ideal) ℓ) (c : Dev nD)

/-- The arguments, read at an entry. -/
def A (k : Fin 4096) (i : Fin 1024) : EReal := m ((c.tc : Thread nD τ).loc main_arg0) (ix2 k i)
def B (k : Fin 4096) (j : Fin 2048) : EReal := m ((c.tc : Thread nD τ).loc main_arg1) (ix2 k j)

/-- The product's terms at an entry, token by token. -/
def term (i : Fin 1024) (j : Fin 2048) (k : Fin 4096) : EReal := A m c k i * B m c k j

theorem hz : (![0, 0] : Fin 2 → Nat) = fun _ => 0 := funext fun a => by fin_cases a <;> rfl

/-- A block product, read at an entry. -/
theorem pay1_apply (x y : Vec Ideal S1024x1024 .f32) (i j : Fin 1024) :
    k0_pay1 (F := Ideal) x y (ix2 i j) = ∑ r : Fin 1024, x (ix2 r i) * y (ix2 r j) := by
  unfold k0_pay1
  pointwise

/-- What a first point leaves in the scratch. -/
theorem sA (c : Dev nD) (i) a1 h1 a2 h2 a3 h3 a4 h4 hc0 hc1 hc2 x0 x1 :
    sout0_A_0 (F := Ideal) c i a1 h1 a2 h2 a3 h3 a4 h4 hc0 hc1 hc2 x0 x1 = k0_pay1 x0 x1 := by
  unfold sout0_A_0
  rw [View.read_writes_eq_canon _ _ _ (scover0_A_0 c i a1 h1 a2 h2 a3 h3 a4 h4 hc0 hc1 hc2 x0 x1)]
  unfold kernelRun0_A; dsimp only
  sl_unfold_words
  rw [View.canon_unit_zero (S := S1024x1024) hz]
  unfold k0_pay2
  simp only [View.readAt_eq_ld, View.ld_unit_zero (S := S1024x1024) hz, h1.read_unread, h2.read_unread, shapeCast_self]

/-- What a middle point leaves in the scratch. -/
theorem sB (c : Dev nD) (i) a1 h1 a2 h2 a3 h3 a4 h4 hc0 hc1 hc2 x0 x1 xs :
    sout0_B_0 (F := Ideal) c i a1 h1 a2 h2 a3 h3 a4 h4 hc0 hc1 hc2 x0 x1 xs = addf xs (k0_pay1 x0 x1) := by
  unfold sout0_B_0
  rw [View.read_writes_eq_canon _ _ _ (scover0_B_0 c i a1 h1 a2 h2 a3 h3 a4 h4 hc0 hc1 hc2 x0 x1 xs)]
  unfold kernelRun0_B; dsimp only
  sl_unfold_words
  rw [View.canon_unit_zero (S := S1024x1024) hz]
  unfold k0_pay3
  simp only [View.readAt_eq_ld, View.ld_unit_zero (S := S1024x1024) hz, h1.read_unread, h2.read_unread, h4.read_unread, shapeCast_self]

/-- What a last point leaves in the result's block. -/
theorem oC (c : Dev nD) (i) a1 h1 a2 h2 a3 h3 a4 h4 hc0 hc1 hc2 x0 x1 xs :
    out0_C_2 (F := Ideal) c i a1 h1 a2 h2 a3 h3 a4 h4 hc0 hc1 hc2 x0 x1 xs = addf xs (k0_pay1 x0 x1) := by
  unfold out0_C_2
  rw [View.read_writes_eq_canon _ _ _ (cover0_C_2 c i a1 h1 a2 h2 a3 h3 a4 h4 hc0 hc1 hc2 x0 x1 xs)]
  unfold kernelRun0_C; dsimp only
  sl_unfold_words
  rw [View.canon_unit_zero (S := S1024x1024) hz]
  simp only [View.readCov_unit_zero (S := S1024x1024) _ hz]
  unfold k0_pay3
  simp only [View.readAt_eq_ld, View.ld_unit_zero (S := S1024x1024) hz, h1.read_unread, h2.read_unread, h4.read_unread, shapeCast_self]

theorem ei0 : ∀ t : Fin cfg0.N, win0_0.index t = ![t.val % 4, t.val / 8] := (by decide +kernel : ∀ t : Fin grid0.N, _)
theorem ei1 : ∀ t : Fin cfg0.N, win0_1.index t = ![t.val % 4, t.val / 4 % 2] := (by decide +kernel : ∀ t : Fin grid0.N, _)
theorem ei2 : ∀ t : Fin cfg0.N, win0_2.index t = ![t.val / 8, t.val / 4 % 2] := (by decide +kernel : ∀ t : Fin grid0.N, _)

/-- A point's row and column of the result. -/
def prow (t : Fin cfg0.N) (i : Fin 1024) : Fin 1024 := ⟨1024 * (t.val / 8) + i.val, by have := t.isLt; have : cfg0.N = 8 := N_0; omega⟩
def pcol (t : Fin cfg0.N) (j : Fin 1024) : Fin 2048 := ⟨1024 * (t.val / 4 % 2) + j.val, by omega⟩

theorem prow_eq (t u : Fin cfg0.N) (h : t.val / 4 = u.val / 4) (i : Fin 1024) : prow t i = prow u i := Fin.ext (by simp only [prow]; omega)
theorem pcol_eq (t u : Fin cfg0.N) (h : t.val / 4 = u.val / 4) (j : Fin 1024) : pcol t j = pcol u j := Fin.ext (by simp only [pcol]; omega)

/-- A point's block product is a block of the sum over tokens. -/
theorem point (t : Fin cfg0.N) (q : Fin 4) (hq : t.val % 4 = q.val) (i j : Fin 1024) :
    k0_pay1 (iblk m c 0 t : Vec Ideal S1024x1024 .f32) (iblk m c 1 t : Vec Ideal S1024x1024 .f32) (ix2 i j)
      = MatSum.part (term m c (prow t i) (pcol t j)) q := by
  rw [pay1_apply]
  refine Finset.sum_congr rfl fun r _ => ?_
  have hN : cfg0.N = 8 := N_0
  have ht := t.isLt
  refine congrArg₂ (· * ·) ?_ ?_
  · blk_simp [iblk, ei0]
    refine congrArg (m ((c.tc : Thread nD τ).loc main_arg0)) ?_
    blk_ext [ei0, prow]
  · blk_simp [iblk, ei1]
    refine congrArg (m ((c.tc : Thread nD τ).loc main_arg1)) ?_
    blk_ext [ei1, pcol]

/-- What each kind of point carries, as block products. -/
theorem carA (t : Fin cfg0.N) (h : t.val % 4 = 0) :
    (outsAt0 m c t.val t.isLt).2 = k0_pay1 (iblk m c 0 t) (iblk m c 1 t) := by
  have hN : cfg0.N = 8 := N_0
  have ht := t.isLt
  rw [outsAt0_A m c t h (by omega) (by omega)]
  dsimp only
  rw [sA]

theorem carB (t : Fin cfg0.N) (h : t.val % 4 = 1 ∨ t.val % 4 = 2) :
    (outsAt0 m c t.val t.isLt).2 = addf (outsAt0 m c (t.val - 1) (Nat.lt_of_le_of_lt (Nat.sub_le _ _) t.isLt)).2 (k0_pay1 (iblk m c 0 t) (iblk m c 1 t)) := by
  have hN : cfg0.N = 8 := N_0
  have ht := t.isLt
  rw [outsAt0_B m c t (by omega) (by omega) (by omega)]
  dsimp only
  rw [sB]

theorem carC (t : Fin cfg0.N) (h : t.val % 4 = 3) :
    (outsAt0 m c t.val t.isLt).1 = addf (outsAt0 m c (t.val - 1) (Nat.lt_of_le_of_lt (Nat.sub_le _ _) t.isLt)).2 (k0_pay1 (iblk m c 0 t) (iblk m c 1 t)) := by
  have hN : cfg0.N = 8 := N_0
  have ht := t.isLt
  rw [outsAt0_C m c t (by omega) (by omega) h]
  dsimp only
  rw [oC]

/-- The last of a block's points writes the whole sums. -/
theorem out (t : Fin cfg0.N) (h : t.val % 4 = 3) (i j : Fin 1024) :
    (outsAt0 m c t.val t.isLt).1 (ix2 i j) = ∑ k : Fin 4096, term m c (prow t i) (pcol t j) k :=
  MatSum.four (term m c (prow t i) (pcol t j)) (fun u => (outsAt0 m c u.val u.isLt).1 (ix2 i j)) (fun u => (outsAt0 m c u.val u.isLt).2 (ix2 i j))
    (fun u => k0_pay1 (iblk m c 0 u : Vec Ideal S1024x1024 .f32) (iblk m c 1 u : Vec Ideal S1024x1024 .f32) (ix2 i j))
    (fun u h => congrFun (carA m c u h) (ix2 i j)) (fun u h => congrFun (carB m c u h) (ix2 i j)) (fun u h => congrFun (carC m c u h) (ix2 i j)) t h
    (fun u q hu hq => by rw [point m c u q hq i j, prow_eq u t hu i, pcol_eq u t hu j])

/-- The array after the run. -/
theorem final : (dats m 0 c).arrAt 2 cfg0.N = (fun y : S1024x2048.Idx => ∑ k : Fin 4096, term m c (y 0) (y 1) k) := by
  refine (dats m 0 c).arrAt_eq_of_covers 2 _ (by decide +kernel) fun t hf y => ?_
  have h3 : t.val % 4 = 3 := (flush0_2 t).mp hf
  blk_simp
  rw [after0_2]
  obtain ⟨i, j, rfl⟩ : ∃ (i j : Fin 1024), y = ix2 i j := ⟨y 0, y 1, eq_ix2 y⟩
  have e : (win0_2.blk t).view.emb (ix2 i j) = ix2 (prow t i) (pcol t j) := by blk_ext [ei2, prow, pcol]
  rw [e]
  exact out m c t h3 i j

/-- The reference's result, read at an entry. -/
theorem ref_apply (a : FVec Ideal S4096x1024 .f32) (b : FVec Ideal S4096x2048 .f32) :
    transpose Cert.Reference4Ideal.S1024x2048 [1, 0] (Host.dotGeneral (F := Ideal) Cert.Reference4Ideal.dot_S4096x2048_S4096x1024_S2048x1024_0_0_1_1_n_n none b a) Cert.Reference4Ideal.Gen.transposes_S2048x1024_S1024x2048_1_0
      = (fun y : S1024x2048.Idx => ∑ k : Fin 4096, ((a (ix2 k (y 0)) : EReal) * (b (ix2 k (y 1)) : EReal))) := by
  funext y
  obtain ⟨i, j, rfl⟩ : ∃ (i : Fin 1024) (j : Fin 2048), y = ix2 i j := ⟨y 0, y 1, eq_ix2 y⟩
  pointwise
  exact Finset.sum_congr rfl fun k _ => mul_comm _ _

/-- The reference runs, leaves its arguments and no semaphore counted up. -/
theorem frame_ref : @Cert.quiescent_Reference4Ideal Cert.Reference4Ideal.Gen.facts := fun m ρ _ =>
  (θ_run Cert.Reference4Ideal.defs _ _).mono (fun r h => ⟨fun c => (h c).2, Idealize.ShloMosaic.sem_eq_zero_of_no_sems (by decide) r.2⟩)
    (Cert.Reference4Ideal.Value.run m ρ)

/-- From memories that agree on the arguments, the kernel and the reference end with equal results. -/
theorem algebraic : @Cert.algebraic_Kernel4Ideal_Reference4Ideal Cert.Kernel4Ideal.Gen.facts Cert.Reference4Ideal.Gen.facts := by
  intro m ρ m' ρ' _ hag
  refine ⟨fun c => (dats m 0 c).arrAt 2 cfg0.N, Cert.Kernel4Ideal.Value.run_blocks m ρ, ?_⟩
  refine (θ_run Cert.Reference4Ideal.defs _ _).mono (fun r h c => ⟨(h c).1.trans ?_, (h c).2⟩) (Cert.Reference4Ideal.Value.run m' ρ')
  rw [(hag c).1, (hag c).2]
  exact (ref_apply _ _).trans (final m c).symm

end Cert.Dw4

end
-- ==== Proof.Dw5.lean ====
module

public import proofs.«01_k».proof.Defs
public import proofs.«01_k».proof.Proof.MatSum
public import proofs.«01_k».proof.Proof.Gen.Kernel5Ideal.Value
public import proofs.«01_k».proof.Proof.Gen.Reference5Ideal.Run
public import Idealize.ShloMosaic.Lib.Pointwise
public import Idealize.ShloMosaic.Lib.Pipeline.ValueKit.Geometry
public import Idealize.ShloMosaic.Lib.Quiescent

/-!
# The gradient of the output projections' weights

The kernel adds up, for each block of the result, the products of four blocks of 1024 tokens; the reference is the
derivative of the product by its weight.
-/

@[expose] public section

noncomputable section

namespace Cert.Dw5

open Idealize.ShloMosaic Idealize.ShloMosaic.TcCoe Idealize.SL.Sem
open Cert.Kernel5Ideal Cert.Kernel5Ideal.Gen

variable (m : (ℓ : Loc nD τ sig) → Buf (Elt Ideal) ℓ) (c : Dev nD)

/-- The arguments, read at an entry. -/
def A (k : Fin 4096) (i : Fin 2048) : EReal := m ((c.tc : Thread nD τ).loc main_arg0) (ix2 k i)
def B (k : Fin 4096) (j : Fin 1024) : EReal := m ((c.tc : Thread nD τ).loc main_arg1) (ix2 k j)

/-- The product's terms at an entry, token by token. -/
def term (i : Fin 2048) (j : Fin 1024) (k : Fin 4096) : EReal := A m c k i * B m c k j

theorem hz : (![0, 0] : Fin 2 → Nat) = fun _ => 0 := funext fun a => by fin_cases a <;> rfl

/-- A block product, read at an entry. -/
theorem pay1_apply (x y : Vec Ideal S1024x1024 .f32) (i j : Fin 1024) :
    k0_pay1 (F := Ideal) x y (ix2 i j) = ∑ r : Fin 1024, x (ix2 r i) * y (ix2 r j) := by
  unfold k0_pay1
  pointwise

/-- What a first point leaves in the scratch. -/
theorem sA (c : Dev nD) (i) a1 h1 a2 h2 a3 h3 a4 h4 hc0 hc1 hc2 x0 x1 :
    sout0_A_0 (F := Ideal) c i a1 h1 a2 h2 a3 h3 a4 h4 hc0 hc1 hc2 x0 x1 = k0_pay1 x0 x1 := by
  unfold sout0_A_0
  rw [View.read_writes_eq_canon _ _ _ (scover0_A_0 c i a1 h1 a2 h2 a3 h3 a4 h4 hc0 hc1 hc2 x0 x1)]
  unfold kernelRun0_A; dsimp only
  sl_unfold_words
  rw [View.canon_unit_zero (S := S1024x1024) hz]
  unfold k0_pay2
  simp only [View.readAt_eq_ld, View.ld_unit_zero (S := S1024x1024) hz, h1.read_unread, h2.read_unread, shapeCast_self]

/-- What a middle point leaves in the scratch. -/
theorem sB (c : Dev nD) (i) a1 h1 a2 h2 a3 h3 a4 h4 hc0 hc1 hc2 x0 x1 xs :
    sout0_B_0 (F := Ideal) c i a1 h1 a2 h2 a3 h3 a4 h4 hc0 hc1 hc2 x0 x1 xs = addf xs (k0_pay1 x0 x1) := by
  unfold sout0_B_0
  rw [View.read_writes_eq_canon _ _ _ (scover0_B_0 c i a1 h1 a2 h2 a3 h3 a4 h4 hc0 hc1 hc2 x0 x1 xs)]
  unfold kernelRun0_B; dsimp only
  sl_unfold_words
  rw [View.canon_unit_zero (S := S1024x1024) hz]
  unfold k0_pay3
  simp only [View.readAt_eq_ld, View.ld_unit_zero (S := S1024x1024) hz, h1.read_unread, h2.read_unread, h4.read_unread, shapeCast_self]

/-- What a last point leaves in the result's block. -/
theorem oC (c : Dev nD) (i) a1 h1 a2 h2 a3 h3 a4 h4 hc0 hc1 hc2 x0 x1 xs :
    out0_C_2 (F := Ideal) c i a1 h1 a2 h2 a3 h3 a4 h4 hc0 hc1 hc2 x0 x1 xs = addf xs (k0_pay1 x0 x1) := by
  unfold out0_C_2
  rw [View.read_writes_eq_canon _ _ _ (cover0_C_2 c i a1 h1 a2 h2 a3 h3 a4 h4 hc0 hc1 hc2 x0 x1 xs)]
  unfold kernelRun0_C; dsimp only
  sl_unfold_words
  rw [View.canon_unit_zero (S := S1024x1024) hz]
  simp only [View.readCov_unit_zero (S := S1024x1024) _ hz]
  unfold k0_pay3
  simp only [View.readAt_eq_ld, View.ld_unit_zero (S := S1024x1024) hz, h1.read_unread, h2.read_unread, h4.read_unread, shapeCast_self]

theorem ei0 : ∀ t : Fin cfg0.N, win0_0.index t = ![t.val % 4, t.val / 4] := (by decide +kernel : ∀ t : Fin grid0.N, _)
theorem ei1 : ∀ t : Fin cfg0.N, win0_1.index t = ![t.val % 4, t.val / 4 % 1] := (by decide +kernel : ∀ t : Fin grid0.N, _)
theorem ei2 : ∀ t : Fin cfg0.N, win0_2.index t = ![t.val / 4, t.val / 4 % 1] := (by decide +kernel : ∀ t : Fin grid0.N, _)

/-- A point's row and column of the result. -/
def prow (t : Fin cfg0.N) (i : Fin 1024) : Fin 2048 := ⟨1024 * (t.val / 4) + i.val, by have := t.isLt; have : cfg0.N = 8 := N_0; omega⟩
def pcol (t : Fin cfg0.N) (j : Fin 1024) : Fin 1024 := ⟨1024 * (t.val / 4 % 1) + j.val, by omega⟩

theorem prow_eq (t u : Fin cfg0.N) (h : t.val / 4 = u.val / 4) (i : Fin 1024) : prow t i = prow u i := Fin.ext (by simp only [prow]; omega)
theorem pcol_eq (t u : Fin cfg0.N) (h : t.val / 4 = u.val / 4) (j : Fin 1024) : pcol t j = pcol u j := Fin.ext (by simp only [pcol]; omega)

/-- A point's block product is a block of the sum over tokens. -/
theorem point (t : Fin cfg0.N) (q : Fin 4) (hq : t.val % 4 = q.val) (i j : Fin 1024) :
    k0_pay1 (iblk m c 0 t : Vec Ideal S1024x1024 .f32) (iblk m c 1 t : Vec Ideal S1024x1024 .f32) (ix2 i j)
      = MatSum.part (term m c (prow t i) (pcol t j)) q := by
  rw [pay1_apply]
  refine Finset.sum_congr rfl fun r _ => ?_
  have hN : cfg0.N = 8 := N_0
  have ht := t.isLt
  refine congrArg₂ (· * ·) ?_ ?_
  · blk_simp [iblk, ei0]
    refine congrArg (m ((c.tc : Thread nD τ).loc main_arg0)) ?_
    blk_ext [ei0, prow]
  · blk_simp [iblk, ei1]
    refine congrArg (m ((c.tc : Thread nD τ).loc main_arg1)) ?_
    blk_ext [ei1, pcol]

/-- What each kind of point carries, as block products. -/
theorem carA (t : Fin cfg0.N) (h : t.val % 4 = 0) :
    (outsAt0 m c t.val t.isLt).2 = k0_pay1 (iblk m c 0 t) (iblk m c 1 t) := by
  have hN : cfg0.N = 8 := N_0
  have ht := t.isLt
  rw [outsAt0_A m c t h (by omega) (by omega)]
  dsimp only
  rw [sA]

theorem carB (t : Fin cfg0.N) (h : t.val % 4 = 1 ∨ t.val % 4 = 2) :
    (outsAt0 m c t.val t.isLt).2 = addf (outsAt0 m c (t.val - 1) (Nat.lt_of_le_of_lt (Nat.sub_le _ _) t.isLt)).2 (k0_pay1 (iblk m c 0 t) (iblk m c 1 t)) := by
  have hN : cfg0.N = 8 := N_0
  have ht := t.isLt
  rw [outsAt0_B m c t (by omega) (by omega) (by omega)]
  dsimp only
  rw [sB]

theorem carC (t : Fin cfg0.N) (h : t.val % 4 = 3) :
    (outsAt0 m c t.val t.isLt).1 = addf (outsAt0 m c (t.val - 1) (Nat.lt_of_le_of_lt (Nat.sub_le _ _) t.isLt)).2 (k0_pay1 (iblk m c 0 t) (iblk m c 1 t)) := by
  have hN : cfg0.N = 8 := N_0
  have ht := t.isLt
  rw [outsAt0_C m c t (by omega) (by omega) h]
  dsimp only
  rw [oC]

/-- The last of a block's points writes the whole sums. -/
theorem out (t : Fin cfg0.N) (h : t.val % 4 = 3) (i j : Fin 1024) :
    (outsAt0 m c t.val t.isLt).1 (ix2 i j) = ∑ k : Fin 4096, term m c (prow t i) (pcol t j) k :=
  MatSum.four (term m c (prow t i) (pcol t j)) (fun u => (outsAt0 m c u.val u.isLt).1 (ix2 i j)) (fun u => (outsAt0 m c u.val u.isLt).2 (ix2 i j))
    (fun u => k0_pay1 (iblk m c 0 u : Vec Ideal S1024x1024 .f32) (iblk m c 1 u : Vec Ideal S1024x1024 .f32) (ix2 i j))
    (fun u h => congrFun (carA m c u h) (ix2 i j)) (fun u h => congrFun (carB m c u h) (ix2 i j)) (fun u h => congrFun (carC m c u h) (ix2 i j)) t h
    (fun u q hu hq => by rw [point m c u q hq i j, prow_eq u t hu i, pcol_eq u t hu j])

/-- The array after the run. -/
theorem final : (dats m 0 c).arrAt 2 cfg0.N = (fun y : S2048x1024.Idx => ∑ k : Fin 4096, term m c (y 0) (y 1) k) := by
  refine (dats m 0 c).arrAt_eq_of_covers 2 _ (by decide +kernel) fun t hf y => ?_
  have h3 : t.val % 4 = 3 := (flush0_2 t).mp hf
  blk_simp
  rw [after0_2]
  obtain ⟨i, j, rfl⟩ : ∃ (i j : Fin 1024), y = ix2 i j := ⟨y 0, y 1, eq_ix2 y⟩
  have e : (win0_2.blk t).view.emb (ix2 i j) = ix2 (prow t i) (pcol t j) := by blk_ext [ei2, prow, pcol]
  rw [e]
  exact out m c t h3 i j

/-- The reference's result, read at an entry. -/
theorem ref_apply (a : FVec Ideal S4096x2048 .f32) (b : FVec Ideal S4096x1024 .f32) :
    transpose Cert.Reference5Ideal.S2048x1024 [1, 0] (Host.dotGeneral (F := Ideal) Cert.Reference5Ideal.dot_S4096x1024_S4096x2048_S1024x2048_0_0_1_1_n_n none b a) Cert.Reference5Ideal.Gen.transposes_S1024x2048_S2048x1024_1_0
      = (fun y : S2048x1024.Idx => ∑ k : Fin 4096, ((a (ix2 k (y 0)) : EReal) * (b (ix2 k (y 1)) : EReal))) := by
  funext y
  obtain ⟨i, j, rfl⟩ : ∃ (i : Fin 2048) (j : Fin 1024), y = ix2 i j := ⟨y 0, y 1, eq_ix2 y⟩
  pointwise
  exact Finset.sum_congr rfl fun k _ => mul_comm _ _

/-- The reference runs, leaves its arguments and no semaphore counted up. -/
theorem frame_ref : @Cert.quiescent_Reference5Ideal Cert.Reference5Ideal.Gen.facts := fun m ρ _ =>
  (θ_run Cert.Reference5Ideal.defs _ _).mono (fun r h => ⟨fun c => (h c).2, Idealize.ShloMosaic.sem_eq_zero_of_no_sems (by decide) r.2⟩)
    (Cert.Reference5Ideal.Value.run m ρ)

/-- From memories that agree on the arguments, the kernel and the reference end with equal results. -/
theorem algebraic : @Cert.algebraic_Kernel5Ideal_Reference5Ideal Cert.Kernel5Ideal.Gen.facts Cert.Reference5Ideal.Gen.facts := by
  intro m ρ m' ρ' _ hag
  refine ⟨fun c => (dats m 0 c).arrAt 2 cfg0.N, Cert.Kernel5Ideal.Value.run_blocks m ρ, ?_⟩
  refine (θ_run Cert.Reference5Ideal.defs _ _).mono (fun r h c => ⟨(h c).1.trans ?_, (h c).2⟩) (Cert.Reference5Ideal.Value.run m' ρ')
  rw [(hag c).1, (hag c).2]
  exact (ref_apply _ _).trans (final m c).symm

end Cert.Dw5

end
-- ==== Proof.Dw6.lean ====
module

public import proofs.«01_k».proof.Defs
public import proofs.«01_k».proof.Proof.MatSum
public import proofs.«01_k».proof.Proof.Gen.Kernel6Ideal.Value
public import proofs.«01_k».proof.Proof.Gen.Reference6Ideal.Run
public import Idealize.ShloMosaic.Lib.Pointwise
public import Idealize.ShloMosaic.Lib.Pipeline.ValueKit.Geometry
public import Idealize.ShloMosaic.Lib.Quiescent

/-!
# The gradient of the query and key projections' weights

The kernel adds up, for each block of the result, the products of four blocks of 1024 tokens; the reference is the
derivative of the product by its weight.
-/

@[expose] public section

noncomputable section

namespace Cert.Dw6

open Idealize.ShloMosaic Idealize.ShloMosaic.TcCoe Idealize.SL.Sem
open Cert.Kernel6Ideal Cert.Kernel6Ideal.Gen

variable (m : (ℓ : Loc nD τ sig) → Buf (Elt Ideal) ℓ) (c : Dev nD)

/-- The arguments, read at an entry. -/
def A (k : Fin 4096) (i : Fin 1024) : EReal := m ((c.tc : Thread nD τ).loc main_arg0) (ix2 k i)
def B (k : Fin 4096) (j : Fin 1024) : EReal := m ((c.tc : Thread nD τ).loc main_arg1) (ix2 k j)

/-- The product's terms at an entry, token by token. -/
def term (i : Fin 1024) (j : Fin 1024) (k : Fin 4096) : EReal := A m c k i * B m c k j

theorem hz : (![0, 0] : Fin 2 → Nat) = fun _ => 0 := funext fun a => by fin_cases a <;> rfl

/-- A block product, read at an entry. -/
theorem pay1_apply (x y : Vec Ideal S1024x1024 .f32) (i j : Fin 1024) :
    k0_pay1 (F := Ideal) x y (ix2 i j) = ∑ r : Fin 1024, x (ix2 r i) * y (ix2 r j) := by
  unfold k0_pay1
  pointwise

/-- What a first point leaves in the scratch. -/
theorem sA (c : Dev nD) (i) a1 h1 a2 h2 a3 h3 a4 h4 hc0 hc1 hc2 x0 x1 :
    sout0_A_0 (F := Ideal) c i a1 h1 a2 h2 a3 h3 a4 h4 hc0 hc1 hc2 x0 x1 = k0_pay1 x0 x1 := by
  unfold sout0_A_0
  rw [View.read_writes_eq_canon _ _ _ (scover0_A_0 c i a1 h1 a2 h2 a3 h3 a4 h4 hc0 hc1 hc2 x0 x1)]
  unfold kernelRun0_A; dsimp only
  sl_unfold_words
  rw [View.canon_unit_zero (S := S1024x1024) hz]
  unfold k0_pay2
  simp only [View.readAt_eq_ld, View.ld_unit_zero (S := S1024x1024) hz, h1.read_unread, h2.read_unread, shapeCast_self]

/-- What a middle point leaves in the scratch. -/
theorem sB (c : Dev nD) (i) a1 h1 a2 h2 a3 h3 a4 h4 hc0 hc1 hc2 x0 x1 xs :
    sout0_B_0 (F := Ideal) c i a1 h1 a2 h2 a3 h3 a4 h4 hc0 hc1 hc2 x0 x1 xs = addf xs (k0_pay1 x0 x1) := by
  unfold sout0_B_0
  rw [View.read_writes_eq_canon _ _ _ (scover0_B_0 c i a1 h1 a2 h2 a3 h3 a4 h4 hc0 hc1 hc2 x0 x1 xs)]
  unfold kernelRun0_B; dsimp only
  sl_unfold_words
  rw [View.canon_unit_zero (S := S1024x1024) hz]
  unfold k0_pay3
  simp only [View.readAt_eq_ld, View.ld_unit_zero (S := S1024x1024) hz, h1.read_unread, h2.read_unread, h4.read_unread, shapeCast_self]

/-- What a last point leaves in the result's block. -/
theorem oC (c : Dev nD) (i) a1 h1 a2 h2 a3 h3 a4 h4 hc0 hc1 hc2 x0 x1 xs :
    out0_C_2 (F := Ideal) c i a1 h1 a2 h2 a3 h3 a4 h4 hc0 hc1 hc2 x0 x1 xs = addf xs (k0_pay1 x0 x1) := by
  unfold out0_C_2
  rw [View.read_writes_eq_canon _ _ _ (cover0_C_2 c i a1 h1 a2 h2 a3 h3 a4 h4 hc0 hc1 hc2 x0 x1 xs)]
  unfold kernelRun0_C; dsimp only
  sl_unfold_words
  rw [View.canon_unit_zero (S := S1024x1024) hz]
  simp only [View.readCov_unit_zero (S := S1024x1024) _ hz]
  unfold k0_pay3
  simp only [View.readAt_eq_ld, View.ld_unit_zero (S := S1024x1024) hz, h1.read_unread, h2.read_unread, h4.read_unread, shapeCast_self]

theorem ei0 : ∀ t : Fin cfg0.N, win0_0.index t = ![t.val % 4, t.val / 4] := (by decide +kernel : ∀ t : Fin grid0.N, _)
theorem ei1 : ∀ t : Fin cfg0.N, win0_1.index t = ![t.val % 4, t.val / 4 % 1] := (by decide +kernel : ∀ t : Fin grid0.N, _)
theorem ei2 : ∀ t : Fin cfg0.N, win0_2.index t = ![t.val / 4, t.val / 4 % 1] := (by decide +kernel : ∀ t : Fin grid0.N, _)

/-- A point's row and column of the result. -/
def prow (t : Fin cfg0.N) (i : Fin 1024) : Fin 1024 := ⟨1024 * (t.val / 4) + i.val, by have := t.isLt; have : cfg0.N = 4 := N_0; omega⟩
def pcol (t : Fin cfg0.N) (j : Fin 1024) : Fin 1024 := ⟨1024 * (t.val / 4 % 1) + j.val, by omega⟩

theorem prow_eq (t u : Fin cfg0.N) (h : t.val / 4 = u.val / 4) (i : Fin 1024) : prow t i = prow u i := Fin.ext (by simp only [prow]; omega)
theorem pcol_eq (t u : Fin cfg0.N) (h : t.val / 4 = u.val / 4) (j : Fin 1024) : pcol t j = pcol u j := Fin.ext (by simp only [pcol]; omega)

/-- A point's block product is a block of the sum over tokens. -/
theorem point (t : Fin cfg0.N) (q : Fin 4) (hq : t.val % 4 = q.val) (i j : Fin 1024) :
    k0_pay1 (iblk m c 0 t : Vec Ideal S1024x1024 .f32) (iblk m c 1 t : Vec Ideal S1024x1024 .f32) (ix2 i j)
      = MatSum.part (term m c (prow t i) (pcol t j)) q := by
  rw [pay1_apply]
  refine Finset.sum_congr rfl fun r _ => ?_
  have hN : cfg0.N = 4 := N_0
  have ht := t.isLt
  refine congrArg₂ (· * ·) ?_ ?_
  · blk_simp [iblk, ei0]
    refine congrArg (m ((c.tc : Thread nD τ).loc main_arg0)) ?_
    blk_ext [ei0, prow]
  · blk_simp [iblk, ei1]
    refine congrArg (m ((c.tc : Thread nD τ).loc main_arg1)) ?_
    blk_ext [ei1, pcol]

/-- What each kind of point carries, as block products. -/
theorem carA (t : Fin cfg0.N) (h : t.val % 4 = 0) :
    (outsAt0 m c t.val t.isLt).2 = k0_pay1 (iblk m c 0 t) (iblk m c 1 t) := by
  have hN : cfg0.N = 4 := N_0
  have ht := t.isLt
  rw [outsAt0_A m c t h (by omega) (by omega)]
  dsimp only
  rw [sA]

theorem carB (t : Fin cfg0.N) (h : t.val % 4 = 1 ∨ t.val % 4 = 2) :
    (outsAt0 m c t.val t.isLt).2 = addf (outsAt0 m c (t.val - 1) (Nat.lt_of_le_of_lt (Nat.sub_le _ _) t.isLt)).2 (k0_pay1 (iblk m c 0 t) (iblk m c 1 t)) := by
  have hN : cfg0.N = 4 := N_0
  have ht := t.isLt
  rw [outsAt0_B m c t (by omega) (by omega) (by omega)]
  dsimp only
  rw [sB]

theorem carC (t : Fin cfg0.N) (h : t.val % 4 = 3) :
    (outsAt0 m c t.val t.isLt).1 = addf (outsAt0 m c (t.val - 1) (Nat.lt_of_le_of_lt (Nat.sub_le _ _) t.isLt)).2 (k0_pay1 (iblk m c 0 t) (iblk m c 1 t)) := by
  have hN : cfg0.N = 4 := N_0
  have ht := t.isLt
  rw [outsAt0_C m c t (by omega) (by omega) h]
  dsimp only
  rw [oC]

/-- The last of a block's points writes the whole sums. -/
theorem out (t : Fin cfg0.N) (h : t.val % 4 = 3) (i j : Fin 1024) :
    (outsAt0 m c t.val t.isLt).1 (ix2 i j) = ∑ k : Fin 4096, term m c (prow t i) (pcol t j) k :=
  MatSum.four (term m c (prow t i) (pcol t j)) (fun u => (outsAt0 m c u.val u.isLt).1 (ix2 i j)) (fun u => (outsAt0 m c u.val u.isLt).2 (ix2 i j))
    (fun u => k0_pay1 (iblk m c 0 u : Vec Ideal S1024x1024 .f32) (iblk m c 1 u : Vec Ideal S1024x1024 .f32) (ix2 i j))
    (fun u h => congrFun (carA m c u h) (ix2 i j)) (fun u h => congrFun (carB m c u h) (ix2 i j)) (fun u h => congrFun (carC m c u h) (ix2 i j)) t h
    (fun u q hu hq => by rw [point m c u q hq i j, prow_eq u t hu i, pcol_eq u t hu j])

/-- The array after the run. -/
theorem final : (dats m 0 c).arrAt 2 cfg0.N = (fun y : S1024x1024.Idx => ∑ k : Fin 4096, term m c (y 0) (y 1) k) := by
  refine (dats m 0 c).arrAt_eq_of_covers 2 _ (by decide +kernel) fun t hf y => ?_
  have h3 : t.val % 4 = 3 := (flush0_2 t).mp hf
  blk_simp
  rw [after0_2]
  obtain ⟨i, j, rfl⟩ : ∃ (i j : Fin 1024), y = ix2 i j := ⟨y 0, y 1, eq_ix2 y⟩
  have e : (win0_2.blk t).view.emb (ix2 i j) = ix2 (prow t i) (pcol t j) := by blk_ext [ei2, prow, pcol]
  rw [e]
  exact out m c t h3 i j

/-- The reference's result, read at an entry. -/
theorem ref_apply (a : FVec Ideal S4096x1024 .f32) (b : FVec Ideal S4096x1024 .f32) :
    transpose Cert.Reference6Ideal.S1024x1024 [1, 0] (transpose Cert.Reference6Ideal.S1024x1024 [1, 0] (Host.dotGeneral (F := Ideal) Cert.Reference6Ideal.dot_S4096x1024_S4096x1024_S1024x1024_0_0_1_1_n_n none a b) Cert.Reference6Ideal.Gen.transposes_S1024x1024_S1024x1024_1_0) Cert.Reference6Ideal.Gen.transposes_S1024x1024_S1024x1024_1_0
      = (fun y : S1024x1024.Idx => ∑ k : Fin 4096, ((a (ix2 k (y 0)) : EReal) * (b (ix2 k (y 1)) : EReal))) := by
  funext y
  obtain ⟨i, j, rfl⟩ : ∃ (i : Fin 1024) (j : Fin 1024), y = ix2 i j := ⟨y 0, y 1, eq_ix2 y⟩
  pointwise

/-- The reference runs, leaves its arguments and no semaphore counted up. -/
theorem frame_ref : @Cert.quiescent_Reference6Ideal Cert.Reference6Ideal.Gen.facts := fun m ρ _ =>
  (θ_run Cert.Reference6Ideal.defs _ _).mono (fun r h => ⟨fun c => (h c).2, Idealize.ShloMosaic.sem_eq_zero_of_no_sems (by decide) r.2⟩)
    (Cert.Reference6Ideal.Value.run m ρ)

/-- From memories that agree on the arguments, the kernel and the reference end with equal results. -/
theorem algebraic : @Cert.algebraic_Kernel6Ideal_Reference6Ideal Cert.Kernel6Ideal.Gen.facts Cert.Reference6Ideal.Gen.facts := by
  intro m ρ m' ρ' _ hag
  refine ⟨fun c => (dats m 0 c).arrAt 2 cfg0.N, Cert.Kernel6Ideal.Value.run_blocks m ρ, ?_⟩
  refine (θ_run Cert.Reference6Ideal.defs _ _).mono (fun r h c => ⟨(h c).1.trans ?_, (h c).2⟩) (Cert.Reference6Ideal.Value.run m' ρ')
  rw [(hag c).1, (hag c).2]
  exact (ref_apply _ _).trans (final m c).symm

end Cert.Dw6

end
-- ==== Proof.Dx7.lean ====
module

public import proofs.«01_k».proof.Defs
public import proofs.«01_k».proof.Proof.Gen.Kernel7Ideal.Value
public import proofs.«01_k».proof.Proof.Gen.Reference7Ideal.Run
public import Idealize.ShloMosaic.Lib.Pointwise
public import Idealize.ShloMosaic.Lib.Pipeline.ValueKit.Geometry
public import Idealize.ShloMosaic.Lib.Quiescent

/-!
# The gradient of an output projection's input

A point of the kernel multiplies 1024 rows of the gradient by 512 rows of the weight.
-/

@[expose] public section

noncomputable section

namespace Cert.Dx7

open Idealize.ShloMosaic Idealize.ShloMosaic.TcCoe Idealize.SL.Sem
open Cert.Kernel7Ideal Cert.Kernel7Ideal.Gen

variable (m : (ℓ : Loc nD τ sig) → Buf (Elt Ideal) ℓ) (c : Dev nD)

theorem hz : (![0, 0] : Fin 2 → Nat) = fun _ => 0 := funext fun a => by fin_cases a <;> rfl

theorem ei0 : ∀ t : Fin cfg0.N, win0_0.index t = ![t.val / 4, 0] := (by decide +kernel : ∀ t : Fin grid0.N, _)
theorem ei1 : ∀ t : Fin cfg0.N, win0_1.index t = ![t.val % 4, 0] := (by decide +kernel : ∀ t : Fin grid0.N, _)
theorem ei2 : ∀ t : Fin cfg0.N, win0_2.index t = ![t.val / 4, t.val % 4] := (by decide +kernel : ∀ t : Fin grid0.N, _)

/-- A point's row and column of the result. -/
def row (t : Fin cfg0.N) (i : Fin 1024) : Fin 4096 := ⟨1024 * (t.val / 4) + i.val, by have := t.isLt; have : cfg0.N = 16 := N_0; omega⟩
def col (t : Fin cfg0.N) (j : Fin 512) : Fin 2048 := ⟨512 * (t.val % 4) + j.val, by omega⟩

/-- The blocks a point reads, in the arrays. -/
theorem b0 (t : Fin cfg0.N) (i : Fin 1024) (k : Fin 1024) : (iblk m c 0 t : Vec Ideal S1024x1024 .f32) (ix2 i k) = m ((c.tc : Thread nD τ).loc main_arg0) (ix2 (row t i) (k)) := by
  blk_simp [iblk, ei0]
  refine congrArg (m ((c.tc : Thread nD τ).loc main_arg0)) ?_
  blk_ext [ei0, row]

theorem b1 (t : Fin cfg0.N) (i : Fin 512) (k : Fin 1024) : (iblk m c 1 t : Vec Ideal S512x1024 .bf16) (ix2 i k) = m ((c.tc : Thread nD τ).loc main_arg1) (ix2 (col t i) (k)) := by
  blk_simp [iblk, ei1]
  refine congrArg (m ((c.tc : Thread nD τ).loc main_arg1)) ?_
  blk_ext [ei1, col]

/-- The result of whole arrays. -/
def res (x0 : FVec Ideal S4096x1024 .f32) (x1 : FVec Ideal S2048x1024 .bf16) : FVec Ideal S4096x2048 .f32 := fun y => ∑ k : Fin 1024, (x0 (ix2 (y 0) k) : EReal) * x1 (ix2 (y 1) k)

/-- What a point computes, read at an entry. -/
theorem pay_apply (c : Dev nD) (p) a0 h0 a1 h1 a2 h2 a3 h3 (x0 : Vec Ideal S1024x1024 .f32) (x1 : Vec Ideal S512x1024 .bf16) (i : Fin 1024) (j : Fin 512) :
    out0_A_2 (F := Ideal) c p a0 h0 a1 h1 a2 h2 a3 h3 x0 x1 (ix2 i j) = ∑ k : Fin 1024, (x0 (ix2 i k) : EReal) * x1 (ix2 j k) := by
  unfold out0_A_2
  rw [View.read_writes_eq_canon _ _ _ (cover0_A_2 c p a0 h0 a1 h1 a2 h2 a3 h3 x0 x1)]
  unfold kernelRun0_A; dsimp only
  sl_unfold_words
  rw [View.canon_unit_zero (S := S1024x512) hz]
  simp only [View.readAt_eq_ld, View.ld_unit_zero (S := S512x1024) hz, View.ld_unit_zero (S := S1024x1024) hz, h0.read_unread, h1.read_unread]
  unfold k0_pay1
  pointwise

/-- The array after the run. -/
theorem final : (dats m 0 c).arrAt 2 cfg0.N = res (m ((c.tc : Thread nD τ).loc main_arg0)) (m ((c.tc : Thread nD τ).loc main_arg1)) := by
  refine (dats m 0 c).arrAt_eq_of_covers 2 _ (by decide +kernel) fun t hf y => ?_
  blk_simp
  rw [after0_2]
  obtain ⟨i, j, rfl⟩ : ∃ (i : Fin 1024) (j : Fin 512), y = ix2 i j := ⟨y 0, y 1, eq_ix2 y⟩
  have e : (win0_2.blk t).view.emb (ix2 i j) = ix2 (row t i) (col t j) := by blk_ext [ei2, row, col]
  rw [e]
  refine (pay_apply _ _ _ _ _ _ _ _ _ _ _ _ i j).trans ?_
  simp only [b0, b1]
  rfl

/-- The reference runs, leaves its arguments and no semaphore counted up. -/
theorem frame_ref : @Cert.quiescent_Reference7Ideal Cert.Reference7Ideal.Gen.facts := fun m ρ _ =>
  (θ_run Cert.Reference7Ideal.defs _ _).mono (fun r h => ⟨fun c => (h c).2, Idealize.ShloMosaic.sem_eq_zero_of_no_sems (by decide) r.2⟩)
    (Cert.Reference7Ideal.Value.run m ρ)

/-- From memories that agree on the arguments, the kernel and the reference end with equal results. -/
theorem algebraic : @Cert.algebraic_Kernel7Ideal_Reference7Ideal Cert.Kernel7Ideal.Gen.facts Cert.Reference7Ideal.Gen.facts := by
  intro m ρ m' ρ' _ hag
  refine ⟨fun c => (dats m 0 c).arrAt 2 cfg0.N, Cert.Kernel7Ideal.Value.run_blocks m ρ, ?_⟩
  refine (θ_run Cert.Reference7Ideal.defs _ _).mono (fun r h c => ⟨(h c).1.trans ?_, (h c).2⟩) (Cert.Reference7Ideal.Value.run m' ρ')
  rw [(hag c).1, (hag c).2]
  refine Eq.trans ?_ (final m c).symm
  funext y
  obtain ⟨i, j, rfl⟩ : ∃ (i : Fin 4096) (j : Fin 2048), y = ix2 i j := ⟨y 0, y 1, eq_ix2 y⟩
  unfold res
  pointwise

end Cert.Dx7

end
-- ==== Proof.Dx8.lean ====
module

public import proofs.«01_k».proof.Defs
public import proofs.«01_k».proof.Proof.Gen.Kernel8Ideal.Value
public import proofs.«01_k».proof.Proof.Gen.Reference8Ideal.Run
public import Idealize.ShloMosaic.Lib.Pointwise
public import Idealize.ShloMosaic.Lib.Pipeline.ValueKit.Geometry
public import Idealize.ShloMosaic.Lib.Quiescent

/-!
# The gradient of the GLU's input

A point of the kernel multiplies 1024 rows of the gradient by 512 rows of the weight and adds the gradient that
reaches the input past the product.
-/

@[expose] public section

noncomputable section

namespace Cert.Dx8

open Idealize.ShloMosaic Idealize.ShloMosaic.TcCoe Idealize.SL.Sem
open Cert.Kernel8Ideal Cert.Kernel8Ideal.Gen

variable (m : (ℓ : Loc nD τ sig) → Buf (Elt Ideal) ℓ) (c : Dev nD)

theorem hz : (![0, 0] : Fin 2 → Nat) = fun _ => 0 := funext fun a => by fin_cases a <;> rfl

theorem ei0 : ∀ t : Fin cfg0.N, win0_0.index t = ![t.val / 4, 0] := (by decide +kernel : ∀ t : Fin grid0.N, _)
theorem ei1 : ∀ t : Fin cfg0.N, win0_1.index t = ![t.val % 4, 0] := (by decide +kernel : ∀ t : Fin grid0.N, _)
theorem ei2 : ∀ t : Fin cfg0.N, win0_2.index t = ![t.val / 4, t.val % 4] := (by decide +kernel : ∀ t : Fin grid0.N, _)
theorem ei3 : ∀ t : Fin cfg0.N, win0_3.index t = ![t.val / 4, t.val % 4] := (by decide +kernel : ∀ t : Fin grid0.N, _)

/-- A point's row and column of the result. -/
def row (t : Fin cfg0.N) (i : Fin 1024) : Fin 4096 := ⟨1024 * (t.val / 4) + i.val, by have := t.isLt; have : cfg0.N = 16 := N_0; omega⟩
def col (t : Fin cfg0.N) (j : Fin 512) : Fin 2048 := ⟨512 * (t.val % 4) + j.val, by omega⟩

/-- The blocks a point reads, in the arrays. -/
theorem b0 (t : Fin cfg0.N) (i : Fin 1024) (k : Fin 2048) : (iblk m c 0 t : Vec Ideal S1024x2048 .f32) (ix2 i k) = m ((c.tc : Thread nD τ).loc main_arg0) (ix2 (row t i) (k)) := by
  blk_simp [iblk, ei0]
  refine congrArg (m ((c.tc : Thread nD τ).loc main_arg0)) ?_
  blk_ext [ei0, row]

theorem b1 (t : Fin cfg0.N) (i : Fin 512) (k : Fin 2048) : (iblk m c 1 t : Vec Ideal S512x2048 .bf16) (ix2 i k) = m ((c.tc : Thread nD τ).loc main_arg1) (ix2 (col t i) (k)) := by
  blk_simp [iblk, ei1]
  refine congrArg (m ((c.tc : Thread nD τ).loc main_arg1)) ?_
  blk_ext [ei1, col]

theorem b2 (t : Fin cfg0.N) (i : Fin 1024) (k : Fin 512) : (iblk m c 2 t : Vec Ideal S1024x512 .f32) (ix2 i k) = m ((c.tc : Thread nD τ).loc main_arg2) (ix2 (row t i) (col t k)) := by
  blk_simp [iblk, ei2]
  refine congrArg (m ((c.tc : Thread nD τ).loc main_arg2)) ?_
  blk_ext [ei2, row, col]

/-- The result of whole arrays. -/
def res (x0 : FVec Ideal S4096x2048 .f32) (x1 : FVec Ideal S2048x2048 .bf16) (x2 : FVec Ideal S4096x2048 .f32) : FVec Ideal S4096x2048 .f32 := fun y => (∑ k : Fin 2048, (x0 (ix2 (y 0) k) : EReal) * x1 (ix2 (y 1) k)) + (x2 (ix2 (y 0) (y 1)) : EReal)

/-- What a point computes, read at an entry. -/
theorem pay_apply (c : Dev nD) (p) a0 h0 a1 h1 a2 h2 a3 h3 a4 h4 (x0 : Vec Ideal S1024x2048 .f32) (x1 : Vec Ideal S512x2048 .bf16) (x2 : Vec Ideal S1024x512 .f32) (i : Fin 1024) (j : Fin 512) :
    out0_A_3 (F := Ideal) c p a0 h0 a1 h1 a2 h2 a3 h3 a4 h4 x0 x1 x2 (ix2 i j) = (∑ k : Fin 2048, (x0 (ix2 i k) : EReal) * x1 (ix2 j k)) + (x2 (ix2 i j) : EReal) := by
  unfold out0_A_3
  rw [View.read_writes_eq_canon _ _ _ (cover0_A_3 c p a0 h0 a1 h1 a2 h2 a3 h3 a4 h4 x0 x1 x2)]
  unfold kernelRun0_A; dsimp only
  sl_unfold_words
  rw [View.canon_unit_zero (S := S1024x512) hz]
  simp only [View.readAt_eq_ld, View.ld_unit_zero (S := S512x2048) hz, View.ld_unit_zero (S := S1024x512) hz, View.ld_unit_zero (S := S1024x2048) hz, h0.read_unread, h1.read_unread, h2.read_unread]
  unfold k0_pay1
  pointwise

/-- The array after the run. -/
theorem final : (dats m 0 c).arrAt 3 cfg0.N = res (m ((c.tc : Thread nD τ).loc main_arg0)) (m ((c.tc : Thread nD τ).loc main_arg1)) (m ((c.tc : Thread nD τ).loc main_arg2)) := by
  refine (dats m 0 c).arrAt_eq_of_covers 3 _ (by decide +kernel) fun t hf y => ?_
  blk_simp
  rw [after0_3]
  obtain ⟨i, j, rfl⟩ : ∃ (i : Fin 1024) (j : Fin 512), y = ix2 i j := ⟨y 0, y 1, eq_ix2 y⟩
  have e : (win0_3.blk t).view.emb (ix2 i j) = ix2 (row t i) (col t j) := by blk_ext [ei3, row, col]
  rw [e]
  refine (pay_apply _ _ _ _ _ _ _ _ _ _ _ _ _ _ _ i j).trans ?_
  simp only [b0, b1, b2]
  rfl

/-- The reference runs, leaves its arguments and no semaphore counted up. -/
theorem frame_ref : @Cert.quiescent_Reference8Ideal Cert.Reference8Ideal.Gen.facts := fun m ρ _ =>
  (θ_run Cert.Reference8Ideal.defs _ _).mono (fun r h => ⟨fun c => (h c).2, Idealize.ShloMosaic.sem_eq_zero_of_no_sems (by decide) r.2⟩)
    (Cert.Reference8Ideal.Value.run m ρ)

/-- From memories that agree on the arguments, the kernel and the reference end with equal results. -/
theorem algebraic : @Cert.algebraic_Kernel8Ideal_Reference8Ideal Cert.Kernel8Ideal.Gen.facts Cert.Reference8Ideal.Gen.facts := by
  intro m ρ m' ρ' _ hag
  refine ⟨fun c => (dats m 0 c).arrAt 3 cfg0.N, Cert.Kernel8Ideal.Value.run_blocks m ρ, ?_⟩
  refine (θ_run Cert.Reference8Ideal.defs _ _).mono (fun r h c => ⟨(h c).1.trans ?_, (h c).2⟩) (Cert.Reference8Ideal.Value.run m' ρ')
  rw [(hag c).1, (hag c).2.1, (hag c).2.2]
  refine Eq.trans ?_ (final m c).symm
  funext y
  obtain ⟨i, j, rfl⟩ : ∃ (i : Fin 4096) (j : Fin 2048), y = ix2 i j := ⟨y 0, y 1, eq_ix2 y⟩
  unfold res
  pointwise
  exact add_comm _ _

end Cert.Dx8

end
-- ==== Proof.Dx9.lean ====
module

public import proofs.«01_k».proof.Defs
public import proofs.«01_k».proof.Proof.Gen.Kernel9Ideal.Value
public import proofs.«01_k».proof.Proof.Gen.Reference9Ideal.Run
public import Idealize.ShloMosaic.Lib.Pointwise
public import Idealize.ShloMosaic.Lib.Pipeline.ValueKit.Geometry
public import Idealize.ShloMosaic.Lib.Quiescent

/-!
# The gradient of the S5 input projection's input

A point of the kernel multiplies 256 rows of the two gradients by the two whole weights and adds the products up.
-/

@[expose] public section

noncomputable section

namespace Cert.Dx9

open Idealize.ShloMosaic Idealize.ShloMosaic.TcCoe Idealize.SL.Sem
open Cert.Kernel9Ideal Cert.Kernel9Ideal.Gen

variable (m : (ℓ : Loc nD τ sig) → Buf (Elt Ideal) ℓ) (c : Dev nD)

theorem hz : (![0, 0] : Fin 2 → Nat) = fun _ => 0 := funext fun a => by fin_cases a <;> rfl

/-- The result at an entry, from the two gradients and the two weights. -/
def val {R : Nat} (g0 g1 : Fin R → Fin 2048 → EReal) (w0 w1 : Fin 1024 → Fin 2048 → EReal) (i : Fin R) (j : Fin 1024) : EReal :=
  (∑ k : Fin 2048, g0 i k * w0 j k) + ∑ k : Fin 2048, g1 i k * w1 j k

/-- What a point computes, read at an entry. -/
theorem pay_apply (x0 x1 : Vec Ideal S256x2048 .f32) (x2 x3 : Vec Ideal S1024x2048 .bf16) (i : Fin 256) (j : Fin 1024) :
    out0_4 (F := Ideal) x0 x1 x2 x3 (ix2 i j)
      = val (fun i k => x0 (ix2 i k)) (fun i k => x1 (ix2 i k)) (fun j k => x2 (ix2 j k)) (fun j k => x3 (ix2 j k)) i j := by
  unfold out0_4
  rw [View.canon_unit_zero (S := S256x1024) hz]
  simp only [View.ld_unit_zero (S := S256x2048) hz, View.ld_unit_zero (S := S1024x2048) hz]
  unfold k0_pay1 val
  pointwise

theorem ei0 : ∀ t : Fin cfg0.N, win0_0.index t = ![t.val, 0] := (by decide +kernel : ∀ t : Fin grid0.N, _)
theorem ei1 : ∀ t : Fin cfg0.N, win0_1.index t = ![t.val, 0] := (by decide +kernel : ∀ t : Fin grid0.N, _)
theorem ei2 : ∀ t : Fin cfg0.N, win0_2.index t = ![0, 0] := (by decide +kernel : ∀ t : Fin grid0.N, _)
theorem ei3 : ∀ t : Fin cfg0.N, win0_3.index t = ![0, 0] := (by decide +kernel : ∀ t : Fin grid0.N, _)
theorem ei4 : ∀ t : Fin cfg0.N, win0_4.index t = ![t.val, 0] := (by decide +kernel : ∀ t : Fin grid0.N, _)

/-- A point's row of the arrays. -/
def row (t : Fin cfg0.N) (i : Fin 256) : Fin 4096 := ⟨256 * t.val + i.val, by have := t.isLt; have : cfg0.N = 16 := N_0; omega⟩

theorem b0 (t : Fin cfg0.N) (i : Fin 256) (k : Fin 2048) :
    (iblk m c 0 t : Vec Ideal S256x2048 .f32) (ix2 i k) = m ((c.tc : Thread nD τ).loc main_arg0) (ix2 (row t i) k) := by
  blk_simp [iblk, ei0]
  refine congrArg (m ((c.tc : Thread nD τ).loc main_arg0)) ?_
  blk_ext [ei0, row]

theorem b1 (t : Fin cfg0.N) (i : Fin 256) (k : Fin 2048) :
    (iblk m c 1 t : Vec Ideal S256x2048 .f32) (ix2 i k) = m ((c.tc : Thread nD τ).loc main_arg1) (ix2 (row t i) k) := by
  blk_simp [iblk, ei1]
  refine congrArg (m ((c.tc : Thread nD τ).loc main_arg1)) ?_
  blk_ext [ei1, row]

theorem b2 (t : Fin cfg0.N) (j : Fin 1024) (k : Fin 2048) :
    (iblk m c 2 t : Vec Ideal S1024x2048 .bf16) (ix2 j k) = m ((c.tc : Thread nD τ).loc main_arg2) (ix2 j k) := by
  blk_simp [iblk, ei2]
  refine congrArg (m ((c.tc : Thread nD τ).loc main_arg2)) ?_
  blk_ext [ei2]

theorem b3 (t : Fin cfg0.N) (j : Fin 1024) (k : Fin 2048) :
    (iblk m c 3 t : Vec Ideal S1024x2048 .bf16) (ix2 j k) = m ((c.tc : Thread nD τ).loc main_arg3) (ix2 j k) := by
  blk_simp [iblk, ei3]
  refine congrArg (m ((c.tc : Thread nD τ).loc main_arg3)) ?_
  blk_ext [ei3]

/-- The result of whole arrays. -/
def res (g0 g1 : FVec Ideal S4096x2048 .f32) (w0 w1 : FVec Ideal S1024x2048 .bf16) : FVec Ideal S4096x1024 .f32 := fun y =>
  val (fun i k => g0 (ix2 i k)) (fun i k => g1 (ix2 i k)) (fun j k => w0 (ix2 j k)) (fun j k => w1 (ix2 j k)) (y 0) (y 1)

/-- The array after the run. -/
theorem final : (dats m 0 c).arrAt 4 cfg0.N = res (m ((c.tc : Thread nD τ).loc main_arg0)) (m ((c.tc : Thread nD τ).loc main_arg1))
    (m ((c.tc : Thread nD τ).loc main_arg2)) (m ((c.tc : Thread nD τ).loc main_arg3)) := by
  refine (dats m 0 c).arrAt_eq_of_covers 4 _ (by decide +kernel) fun t hf y => ?_
  blk_simp
  rw [after0_4]
  obtain ⟨i, j, rfl⟩ : ∃ (i : Fin 256) (j : Fin 1024), y = ix2 i j := ⟨y 0, y 1, eq_ix2 y⟩
  have e : (win0_4.blk t).view.emb (ix2 i j) = ix2 (row t i) j := by blk_ext [ei4, row]
  rw [e]
  refine (pay_apply _ _ _ _ i j).trans ?_
  simp only [b0, b1, b2, b3]
  rfl

/-- The reference runs, leaves its arguments and no semaphore counted up. -/
theorem frame_ref : @Cert.quiescent_Reference9Ideal Cert.Reference9Ideal.Gen.facts := fun m ρ _ =>
  (θ_run Cert.Reference9Ideal.defs _ _).mono (fun r h => ⟨fun c => (h c).2, Idealize.ShloMosaic.sem_eq_zero_of_no_sems (by decide) r.2⟩)
    (Cert.Reference9Ideal.Value.run m ρ)

/-- From memories that agree on the arguments, the kernel and the reference end with equal results. -/
theorem algebraic : @Cert.algebraic_Kernel9Ideal_Reference9Ideal Cert.Kernel9Ideal.Gen.facts Cert.Reference9Ideal.Gen.facts := by
  intro m ρ m' ρ' _ hag
  refine ⟨fun c => (dats m 0 c).arrAt 4 cfg0.N, Cert.Kernel9Ideal.Value.run_blocks m ρ, ?_⟩
  refine (θ_run Cert.Reference9Ideal.defs _ _).mono (fun r h c => ⟨(h c).1.trans ?_, (h c).2⟩) (Cert.Reference9Ideal.Value.run m' ρ')
  rw [(hag c).1, (hag c).2.1, (hag c).2.2.1, (hag c).2.2.2]
  refine Eq.trans ?_ (final m c).symm
  funext y
  obtain ⟨i, j, rfl⟩ : ∃ (i : Fin 4096) (j : Fin 1024), y = ix2 i j := ⟨y 0, y 1, eq_ix2 y⟩
  unfold res val
  pointwise
  exact add_comm _ _

end Cert.Dx9

end
-- ==== Proof.Dx10.lean ====
module

public import proofs.«01_k».proof.Defs
public import proofs.«01_k».proof.Proof.Gen.Kernel10Ideal.Value
public import proofs.«01_k».proof.Proof.Gen.Reference10Ideal.Run
public import Idealize.ShloMosaic.Lib.Pointwise
public import Idealize.ShloMosaic.Lib.Pipeline.ValueKit.Geometry
public import Idealize.ShloMosaic.Lib.Quiescent

/-!
# The gradient of the delta rule's input projection's input

A point of the kernel multiplies 256 rows of the five gradients by the five whole weights and adds the products up.
-/

@[expose] public section

noncomputable section

namespace Cert.Dx10

open Idealize.ShloMosaic Idealize.ShloMosaic.TcCoe Idealize.SL.Sem
open Cert.Kernel10Ideal Cert.Kernel10Ideal.Gen

variable (m : (ℓ : Loc nD τ sig) → Buf (Elt Ideal) ℓ) (c : Dev nD)

theorem hz : (![0, 0] : Fin 2 → Nat) = fun _ => 0 := funext fun a => by fin_cases a <;> rfl

theorem ei0 : ∀ t : Fin cfg0.N, win0_0.index t = ![t.val, 0] := (by decide +kernel : ∀ t : Fin grid0.N, _)
theorem ei1 : ∀ t : Fin cfg0.N, win0_1.index t = ![t.val, 0] := (by decide +kernel : ∀ t : Fin grid0.N, _)
theorem ei2 : ∀ t : Fin cfg0.N, win0_2.index t = ![t.val, 0] := (by decide +kernel : ∀ t : Fin grid0.N, _)
theorem ei3 : ∀ t : Fin cfg0.N, win0_3.index t = ![t.val, 0] := (by decide +kernel : ∀ t : Fin grid0.N, _)
theorem ei4 : ∀ t : Fin cfg0.N, win0_4.index t = ![t.val, 0] := (by decide +kernel : ∀ t : Fin grid0.N, _)
theorem ei5 : ∀ t : Fin cfg0.N, win0_5.index t = ![0, 0] := (by decide +kernel : ∀ t : Fin grid0.N, _)
theorem ei6 : ∀ t : Fin cfg0.N, win0_6.index t = ![0, 0] := (by decide +kernel : ∀ t : Fin grid0.N, _)
theorem ei7 : ∀ t : Fin cfg0.N, win0_7.index t = ![0, 0] := (by decide +kernel : ∀ t : Fin grid0.N, _)
theorem ei8 : ∀ t : Fin cfg0.N, win0_8.index t = ![0, 0] := (by decide +kernel : ∀ t : Fin grid0.N, _)
theorem ei9 : ∀ t : Fin cfg0.N, win0_9.index t = ![0, 0] := (by decide +kernel : ∀ t : Fin grid0.N, _)
theorem ei10 : ∀ t : Fin cfg0.N, win0_10.index t = ![t.val, 0] := (by decide +kernel : ∀ t : Fin grid0.N, _)

/-- A point's row of the arrays. -/
def row (t : Fin cfg0.N) (i : Fin 256) : Fin 4096 := ⟨256 * t.val + i.val, by have := t.isLt; have : cfg0.N = 16 := N_0; omega⟩

/-- The blocks a point reads, in the arrays. -/
theorem b0 (t : Fin cfg0.N) (i : Fin 256) (k : Fin 1024) : (iblk m c 0 t : Vec Ideal S256x1024 .f32) (ix2 i k) = m ((c.tc : Thread nD τ).loc main_arg0) (ix2 (row t i) (k)) := by
  blk_simp [iblk, ei0]
  refine congrArg (m ((c.tc : Thread nD τ).loc main_arg0)) ?_
  blk_ext [ei0, row]

theorem b1 (t : Fin cfg0.N) (i : Fin 256) (k : Fin 1024) : (iblk m c 1 t : Vec Ideal S256x1024 .f32) (ix2 i k) = m ((c.tc : Thread nD τ).loc main_arg1) (ix2 (row t i) (k)) := by
  blk_simp [iblk, ei1]
  refine congrArg (m ((c.tc : Thread nD τ).loc main_arg1)) ?_
  blk_ext [ei1, row]

theorem b2 (t : Fin cfg0.N) (i : Fin 256) (k : Fin 2048) : (iblk m c 2 t : Vec Ideal S256x2048 .f32) (ix2 i k) = m ((c.tc : Thread nD τ).loc main_arg2) (ix2 (row t i) (k)) := by
  blk_simp [iblk, ei2]
  refine congrArg (m ((c.tc : Thread nD τ).loc main_arg2)) ?_
  blk_ext [ei2, row]

theorem b3 (t : Fin cfg0.N) (i : Fin 256) (k : Fin 2048) : (iblk m c 3 t : Vec Ideal S256x2048 .f32) (ix2 i k) = m ((c.tc : Thread nD τ).loc main_arg3) (ix2 (row t i) (k)) := by
  blk_simp [iblk, ei3]
  refine congrArg (m ((c.tc : Thread nD τ).loc main_arg3)) ?_
  blk_ext [ei3, row]

theorem b4 (t : Fin cfg0.N) (i : Fin 256) (k : Fin 128) : (iblk m c 4 t : Vec Ideal S256x128 .f32) (ix2 i k) = m ((c.tc : Thread nD τ).loc main_arg4) (ix2 (row t i) (k)) := by
  blk_simp [iblk, ei4]
  refine congrArg (m ((c.tc : Thread nD τ).loc main_arg4)) ?_
  blk_ext [ei4, row]

theorem b5 (t : Fin cfg0.N) (i : Fin 1024) (k : Fin 1024) : (iblk m c 5 t : Vec Ideal S1024x1024 .bf16) (ix2 i k) = m ((c.tc : Thread nD τ).loc main_arg5) (ix2 (i) (k)) := by
  blk_simp [iblk, ei5]
  refine congrArg (m ((c.tc : Thread nD τ).loc main_arg5)) ?_
  blk_ext [ei5]

theorem b6 (t : Fin cfg0.N) (i : Fin 1024) (k : Fin 1024) : (iblk m c 6 t : Vec Ideal S1024x1024 .bf16) (ix2 i k) = m ((c.tc : Thread nD τ).loc main_arg6) (ix2 (i) (k)) := by
  blk_simp [iblk, ei6]
  refine congrArg (m ((c.tc : Thread nD τ).loc main_arg6)) ?_
  blk_ext [ei6]

theorem b7 (t : Fin cfg0.N) (i : Fin 2048) (k : Fin 1024) : (iblk m c 7 t : Vec Ideal S2048x1024 .bf16) (ix2 i k) = m ((c.tc : Thread nD τ).loc main_arg7) (ix2 (i) (k)) := by
  blk_simp [iblk, ei7]
  refine congrArg (m ((c.tc : Thread nD τ).loc main_arg7)) ?_
  blk_ext [ei7]

theorem b8 (t : Fin cfg0.N) (i : Fin 2048) (k : Fin 1024) : (iblk m c 8 t : Vec Ideal S2048x1024 .bf16) (ix2 i k) = m ((c.tc : Thread nD τ).loc main_arg8) (ix2 (i) (k)) := by
  blk_simp [iblk, ei8]
  refine congrArg (m ((c.tc : Thread nD τ).loc main_arg8)) ?_
  blk_ext [ei8]

theorem b9 (t : Fin cfg0.N) (i : Fin 128) (k : Fin 1024) : (iblk m c 9 t : Vec Ideal S128x1024 .bf16) (ix2 i k) = m ((c.tc : Thread nD τ).loc main_arg9) (ix2 (i) (k)) := by
  blk_simp [iblk, ei9]
  refine congrArg (m ((c.tc : Thread nD τ).loc main_arg9)) ?_
  blk_ext [ei9]

/-- The result of whole arrays. -/
def res (x0 : FVec Ideal S4096x1024 .f32) (x1 : FVec Ideal S4096x1024 .f32) (x2 : FVec Ideal S4096x2048 .f32) (x3 : FVec Ideal S4096x2048 .f32) (x4 : FVec Ideal S4096x128 .f32) (x5 : FVec Ideal S1024x1024 .bf16) (x6 : FVec Ideal S1024x1024 .bf16) (x7 : FVec Ideal S2048x1024 .bf16) (x8 : FVec Ideal S2048x1024 .bf16) (x9 : FVec Ideal S128x1024 .bf16) : FVec Ideal S4096x1024 .f32 := fun y => (∑ k : Fin 1024, (x0 (ix2 (y 0) k) : EReal) * x5 (ix2 k (y 1))) + (∑ k : Fin 1024, (x1 (ix2 (y 0) k) : EReal) * x6 (ix2 k (y 1))) + (∑ k : Fin 2048, (x2 (ix2 (y 0) k) : EReal) * x7 (ix2 k (y 1))) + (∑ k : Fin 2048, (x3 (ix2 (y 0) k) : EReal) * x8 (ix2 k (y 1))) + (∑ k : Fin 128, (x4 (ix2 (y 0) k) : EReal) * x9 (ix2 k (y 1)))

/-- What a point computes, read at an entry. -/
theorem pay_apply (x0 : Vec Ideal S256x1024 .f32) (x1 : Vec Ideal S256x1024 .f32) (x2 : Vec Ideal S256x2048 .f32) (x3 : Vec Ideal S256x2048 .f32) (x4 : Vec Ideal S256x128 .f32) (x5 : Vec Ideal S1024x1024 .bf16) (x6 : Vec Ideal S1024x1024 .bf16) (x7 : Vec Ideal S2048x1024 .bf16) (x8 : Vec Ideal S2048x1024 .bf16) (x9 : Vec Ideal S128x1024 .bf16) (i : Fin 256) (j : Fin 1024) :
    out0_10 (F := Ideal) x0 x1 x2 x3 x4 x5 x6 x7 x8 x9 (ix2 i j) = (∑ k : Fin 1024, (x0 (ix2 i k) : EReal) * x5 (ix2 k j)) + (∑ k : Fin 1024, (x1 (ix2 i k) : EReal) * x6 (ix2 k j)) + (∑ k : Fin 2048, (x2 (ix2 i k) : EReal) * x7 (ix2 k j)) + (∑ k : Fin 2048, (x3 (ix2 i k) : EReal) * x8 (ix2 k j)) + (∑ k : Fin 128, (x4 (ix2 i k) : EReal) * x9 (ix2 k j)) := by
  unfold out0_10
  rw [View.canon_unit_zero (S := S256x1024) hz]
  simp only [View.ld_unit_zero (S := S128x1024) hz, View.ld_unit_zero (S := S256x128) hz, View.ld_unit_zero (S := S256x1024) hz, View.ld_unit_zero (S := S256x2048) hz, View.ld_unit_zero (S := S1024x1024) hz, View.ld_unit_zero (S := S2048x1024) hz]
  unfold k0_pay1
  pointwise

/-- The array after the run. -/
theorem final : (dats m 0 c).arrAt 10 cfg0.N = res (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  refine (dats m 0 c).arrAt_eq_of_covers 10 _ (by decide +kernel) fun t hf y => ?_
  blk_simp
  rw [after0_10]
  obtain ⟨i, j, rfl⟩ : ∃ (i : Fin 256) (j : Fin 1024), y = ix2 i j := ⟨y 0, y 1, eq_ix2 y⟩
  have e : (win0_10.blk t).view.emb (ix2 i j) = ix2 (row t i) (j) := by blk_ext [ei10, row]
  rw [e]
  refine (pay_apply _ _ _ _ _ _ _ _ _ _ i j).trans ?_
  simp only [b0, b1, b2, b3, b4, b5, b6, b7, b8, b9]
  rfl

/-- The reference runs, leaves its arguments and no semaphore counted up. -/
theorem frame_ref : @Cert.quiescent_Reference10Ideal Cert.Reference10Ideal.Gen.facts := fun m ρ _ =>
  (θ_run Cert.Reference10Ideal.defs _ _).mono (fun r h => ⟨fun c => (h c).2, Idealize.ShloMosaic.sem_eq_zero_of_no_sems (by decide) r.2⟩)
    (Cert.Reference10Ideal.Value.run m ρ)

/-- From memories that agree on the arguments, the kernel and the reference end with equal results. -/
theorem algebraic : @Cert.algebraic_Kernel10Ideal_Reference10Ideal Cert.Kernel10Ideal.Gen.facts Cert.Reference10Ideal.Gen.facts := by
  intro m ρ m' ρ' _ hag
  refine ⟨fun c => (dats m 0 c).arrAt 10 cfg0.N, Cert.Kernel10Ideal.Value.run_blocks m ρ, ?_⟩
  refine (θ_run Cert.Reference10Ideal.defs _ _).mono (fun r h c => ⟨(h c).1.trans ?_, (h c).2⟩) (Cert.Reference10Ideal.Value.run m' ρ')
  rw [(hag c).1, (hag c).2.1, (hag c).2.2.1, (hag c).2.2.2.1, (hag c).2.2.2.2.1, (hag c).2.2.2.2.2.1, (hag c).2.2.2.2.2.2.1, (hag c).2.2.2.2.2.2.2.1, (hag c).2.2.2.2.2.2.2.2.1, (hag c).2.2.2.2.2.2.2.2.2]
  refine Eq.trans ?_ (final m c).symm
  funext y
  obtain ⟨i, j, rfl⟩ : ∃ (i : Fin 4096) (j : Fin 1024), y = ix2 i j := ⟨y 0, y 1, eq_ix2 y⟩
  unfold res
  pointwise
  abel

end Cert.Dx10

end
-- ==== Proof.Fw11.lean ====
module

public import proofs.«01_k».proof.Defs
public import proofs.«01_k».proof.Proof.Gen.Kernel11Ideal.Value
public import proofs.«01_k».proof.Proof.Gen.Reference11Ideal.Run
public import Idealize.ShloMosaic.Lib.Pointwise
public import Idealize.ShloMosaic.Lib.Pipeline.ValueKit.Geometry
public import Idealize.ShloMosaic.Lib.Quiescent

/-!
# The S5 input projection

A point of the kernel multiplies 256 rows of the input by the two whole weights.
-/

@[expose] public section

noncomputable section

namespace Cert.Fw11

open Idealize.ShloMosaic Idealize.ShloMosaic.TcCoe Idealize.SL.Sem
open Cert.Kernel11Ideal Cert.Kernel11Ideal.Gen

variable (m : (ℓ : Loc nD τ sig) → Buf (Elt Ideal) ℓ) (c : Dev nD)

theorem hz : (![0, 0] : Fin 2 → Nat) = fun _ => 0 := funext fun a => by fin_cases a <;> rfl

theorem ei0 : ∀ t : Fin cfg0.N, win0_0.index t = ![t.val, 0] := (by decide +kernel : ∀ t : Fin grid0.N, _)
theorem ei1 : ∀ t : Fin cfg0.N, win0_1.index t = ![0, 0] := (by decide +kernel : ∀ t : Fin grid0.N, _)
theorem ei2 : ∀ t : Fin cfg0.N, win0_2.index t = ![0, 0] := (by decide +kernel : ∀ t : Fin grid0.N, _)
theorem ei3 : ∀ t : Fin cfg0.N, win0_3.index t = ![t.val, 0] := (by decide +kernel : ∀ t : Fin grid0.N, _)
theorem ei4 : ∀ t : Fin cfg0.N, win0_4.index t = ![t.val, 0] := (by decide +kernel : ∀ t : Fin grid0.N, _)

/-- A point's row of the arrays. -/
def row (t : Fin cfg0.N) (i : Fin 256) : Fin 4096 := ⟨256 * t.val + i.val, by have := t.isLt; have : cfg0.N = 16 := N_0; omega⟩

/-- The blocks a point reads, in the arrays. -/
theorem b0 (t : Fin cfg0.N) (i : Fin 256) (k : Fin 1024) : (iblk m c 0 t : Vec Ideal S256x1024 .f32) (ix2 i k) = m ((c.tc : Thread nD τ).loc main_arg0) (ix2 (row t i) (k)) := by
  blk_simp [iblk, ei0]
  refine congrArg (m ((c.tc : Thread nD τ).loc main_arg0)) ?_
  blk_ext [ei0, row]

theorem b1 (t : Fin cfg0.N) (i : Fin 1024) (k : Fin 2048) : (iblk m c 1 t : Vec Ideal S1024x2048 .bf16) (ix2 i k) = m ((c.tc : Thread nD τ).loc main_arg1) (ix2 (i) (k)) := by
  blk_simp [iblk, ei1]
  refine congrArg (m ((c.tc : Thread nD τ).loc main_arg1)) ?_
  blk_ext [ei1]

theorem b2 (t : Fin cfg0.N) (i : Fin 1024) (k : Fin 2048) : (iblk m c 2 t : Vec Ideal S1024x2048 .bf16) (ix2 i k) = m ((c.tc : Thread nD τ).loc main_arg2) (ix2 (i) (k)) := by
  blk_simp [iblk, ei2]
  refine congrArg (m ((c.tc : Thread nD τ).loc main_arg2)) ?_
  blk_ext [ei2]

/-- The result of whole arrays. -/
def res3 (x0 : FVec Ideal S4096x1024 .f32) (x1 : FVec Ideal S1024x2048 .bf16) (x2 : FVec Ideal S1024x2048 .bf16) : FVec Ideal S4096x2048 .f32 := fun y => ∑ k : Fin 1024, (x0 (ix2 (y 0) k) : EReal) * x1 (ix2 k (y 1))

/-- What a point computes, read at an entry. -/
theorem pay_apply3 (x0 : Vec Ideal S256x1024 .f32) (x1 : Vec Ideal S1024x2048 .bf16) (x2 : Vec Ideal S1024x2048 .bf16) (i : Fin 256) (j : Fin 2048) :
    out0_3 (F := Ideal) x0 x1 x2 (ix2 i j) = ∑ k : Fin 1024, (x0 (ix2 i k) : EReal) * x1 (ix2 k j) := by
  unfold out0_3
  rw [View.canon_unit_zero (S := S256x2048) hz]
  simp only [View.ld_unit_zero (S := S256x1024) hz, View.ld_unit_zero (S := S1024x2048) hz]
  unfold k0_pay2 k0_pay1
  pointwise

/-- The array after the run. -/
theorem final3 : (dats m 0 c).arrAt 3 cfg0.N = res3 (m ((c.tc : Thread nD τ).loc main_arg0)) (m ((c.tc : Thread nD τ).loc main_arg1)) (m ((c.tc : Thread nD τ).loc main_arg2)) := by
  refine (dats m 0 c).arrAt_eq_of_covers 3 _ (by decide +kernel) fun t hf y => ?_
  blk_simp
  rw [after0_3]
  obtain ⟨i, j, rfl⟩ : ∃ (i : Fin 256) (j : Fin 2048), y = ix2 i j := ⟨y 0, y 1, eq_ix2 y⟩
  have e : (win0_3.blk t).view.emb (ix2 i j) = ix2 (row t i) (j) := by blk_ext [ei3, row]
  rw [e]
  refine (pay_apply3 _ _ _ i j).trans ?_
  simp only [b0, b1]
  rfl

/-- The result of whole arrays. -/
def res4 (x0 : FVec Ideal S4096x1024 .f32) (x1 : FVec Ideal S1024x2048 .bf16) (x2 : FVec Ideal S1024x2048 .bf16) : FVec Ideal S4096x2048 .f32 := fun y => ∑ k : Fin 1024, (x0 (ix2 (y 0) k) : EReal) * x2 (ix2 k (y 1))

/-- What a point computes, read at an entry. -/
theorem pay_apply4 (x0 : Vec Ideal S256x1024 .f32) (x1 : Vec Ideal S1024x2048 .bf16) (x2 : Vec Ideal S1024x2048 .bf16) (i : Fin 256) (j : Fin 2048) :
    out0_4 (F := Ideal) x0 x1 x2 (ix2 i j) = ∑ k : Fin 1024, (x0 (ix2 i k) : EReal) * x2 (ix2 k j) := by
  unfold out0_4
  rw [View.canon_unit_zero (S := S256x2048) hz]
  simp only [View.ld_unit_zero (S := S256x1024) hz, View.ld_unit_zero (S := S1024x2048) hz]
  unfold k0_pay3 k0_pay1
  pointwise

/-- The array after the run. -/
theorem final4 : (dats m 0 c).arrAt 4 cfg0.N = res4 (m ((c.tc : Thread nD τ).loc main_arg0)) (m ((c.tc : Thread nD τ).loc main_arg1)) (m ((c.tc : Thread nD τ).loc main_arg2)) := by
  refine (dats m 0 c).arrAt_eq_of_covers 4 _ (by decide +kernel) fun t hf y => ?_
  blk_simp
  rw [after0_4]
  obtain ⟨i, j, rfl⟩ : ∃ (i : Fin 256) (j : Fin 2048), y = ix2 i j := ⟨y 0, y 1, eq_ix2 y⟩
  have e : (win0_4.blk t).view.emb (ix2 i j) = ix2 (row t i) (j) := by blk_ext [ei4, row]
  rw [e]
  refine (pay_apply4 _ _ _ i j).trans ?_
  simp only [b0, b2]
  rfl

/-- The reference runs, leaves its arguments and no semaphore counted up. -/
theorem frame_ref : @Cert.quiescent_Reference11Ideal Cert.Reference11Ideal.Gen.facts := fun m ρ _ =>
  (θ_run Cert.Reference11Ideal.defs _ _).mono (fun r h => ⟨fun c => (h c).2.2, Idealize.ShloMosaic.sem_eq_zero_of_no_sems (by decide) r.2⟩)
    (Cert.Reference11Ideal.Value.run m ρ)

/-- From memories that agree on the arguments, the kernel and the reference end with equal results. -/
theorem algebraic : @Cert.algebraic_Kernel11Ideal_Reference11Ideal Cert.Kernel11Ideal.Gen.facts Cert.Reference11Ideal.Gen.facts := by
  intro m ρ m' ρ' _ hag
  refine ⟨fun c => (dats m 0 c).arrAt 3 cfg0.N, fun c => (dats m 0 c).arrAt 4 cfg0.N, Cert.Kernel11Ideal.Value.run_blocks m ρ, ?_⟩
  refine (θ_run Cert.Reference11Ideal.defs _ _).mono (fun r h c => ⟨(h c).1.trans ?_, (h c).2.1.trans ?_, (h c).2.2⟩) (Cert.Reference11Ideal.Value.run m' ρ')
  · rw [(hag c).1, (hag c).2.1]
    refine Eq.trans ?_ (final3 m c).symm
    funext y
    obtain ⟨i, j, rfl⟩ : ∃ (i : Fin 4096) (j : Fin 2048), y = ix2 i j := ⟨y 0, y 1, eq_ix2 y⟩
    unfold res3
    pointwise
  · rw [(hag c).1, (hag c).2.2]
    refine Eq.trans ?_ (final4 m c).symm
    funext y
    obtain ⟨i, j, rfl⟩ : ∃ (i : Fin 4096) (j : Fin 2048), y = ix2 i j := ⟨y 0, y 1, eq_ix2 y⟩
    unfold res4
    pointwise

end Cert.Fw11

end
-- ==== Proof.Fw12.lean ====
module

public import proofs.«01_k».proof.Defs
public import proofs.«01_k».proof.Proof.Gen.Kernel12Ideal.Value
public import proofs.«01_k».proof.Proof.Gen.Reference12Ideal.Run
public import Idealize.ShloMosaic.Lib.Pointwise
public import Idealize.ShloMosaic.Lib.Pipeline.ValueKit.Geometry
public import Idealize.ShloMosaic.Lib.Quiescent

/-!
# The delta rule's input projection

A point of the kernel multiplies 256 rows of the input by the five whole weights.
-/

@[expose] public section

noncomputable section

namespace Cert.Fw12

open Idealize.ShloMosaic Idealize.ShloMosaic.TcCoe Idealize.SL.Sem
open Cert.Kernel12Ideal Cert.Kernel12Ideal.Gen

variable (m : (ℓ : Loc nD τ sig) → Buf (Elt Ideal) ℓ) (c : Dev nD)

theorem hz : (![0, 0] : Fin 2 → Nat) = fun _ => 0 := funext fun a => by fin_cases a <;> rfl

theorem ei0 : ∀ t : Fin cfg0.N, win0_0.index t = ![t.val, 0] := (by decide +kernel : ∀ t : Fin grid0.N, _)
theorem ei1 : ∀ t : Fin cfg0.N, win0_1.index t = ![0, 0] := (by decide +kernel : ∀ t : Fin grid0.N, _)
theorem ei2 : ∀ t : Fin cfg0.N, win0_2.index t = ![0, 0] := (by decide +kernel : ∀ t : Fin grid0.N, _)
theorem ei3 : ∀ t : Fin cfg0.N, win0_3.index t = ![0, 0] := (by decide +kernel : ∀ t : Fin grid0.N, _)
theorem ei4 : ∀ t : Fin cfg0.N, win0_4.index t = ![0, 0] := (by decide +kernel : ∀ t : Fin grid0.N, _)
theorem ei5 : ∀ t : Fin cfg0.N, win0_5.index t = ![0, 0] := (by decide +kernel : ∀ t : Fin grid0.N, _)
theorem ei6 : ∀ t : Fin cfg0.N, win0_6.index t = ![t.val, 0] := (by decide +kernel : ∀ t : Fin grid0.N, _)
theorem ei7 : ∀ t : Fin cfg0.N, win0_7.index t = ![t.val, 0] := (by decide +kernel : ∀ t : Fin grid0.N, _)
theorem ei8 : ∀ t : Fin cfg0.N, win0_8.index t = ![t.val, 0] := (by decide +kernel : ∀ t : Fin grid0.N, _)
theorem ei9 : ∀ t : Fin cfg0.N, win0_9.index t = ![t.val, 0] := (by decide +kernel : ∀ t : Fin grid0.N, _)
theorem ei10 : ∀ t : Fin cfg0.N, win0_10.index t = ![t.val, 0] := (by decide +kernel : ∀ t : Fin grid0.N, _)

/-- A point's row of the arrays. -/
def row (t : Fin cfg0.N) (i : Fin 256) : Fin 4096 := ⟨256 * t.val + i.val, by have := t.isLt; have : cfg0.N = 16 := N_0; omega⟩

/-- The blocks a point reads, in the arrays. -/
theorem b0 (t : Fin cfg0.N) (i : Fin 256) (k : Fin 1024) : (iblk m c 0 t : Vec Ideal S256x1024 .f32) (ix2 i k) = m ((c.tc : Thread nD τ).loc main_arg0) (ix2 (row t i) (k)) := by
  blk_simp [iblk, ei0]
  refine congrArg (m ((c.tc : Thread nD τ).loc main_arg0)) ?_
  blk_ext [ei0, row]

theorem b1 (t : Fin cfg0.N) (i : Fin 1024) (k : Fin 1024) : (iblk m c 1 t : Vec Ideal S1024x1024 .bf16) (ix2 i k) = m ((c.tc : Thread nD τ).loc main_arg1) (ix2 (i) (k)) := by
  blk_simp [iblk, ei1]
  refine congrArg (m ((c.tc : Thread nD τ).loc main_arg1)) ?_
  blk_ext [ei1]

theorem b2 (t : Fin cfg0.N) (i : Fin 1024) (k : Fin 1024) : (iblk m c 2 t : Vec Ideal S1024x1024 .bf16) (ix2 i k) = m ((c.tc : Thread nD τ).loc main_arg2) (ix2 (i) (k)) := by
  blk_simp [iblk, ei2]
  refine congrArg (m ((c.tc : Thread nD τ).loc main_arg2)) ?_
  blk_ext [ei2]

theorem b3 (t : Fin cfg0.N) (i : Fin 2048) (k : Fin 1024) : (iblk m c 3 t : Vec Ideal S2048x1024 .bf16) (ix2 i k) = m ((c.tc : Thread nD τ).loc main_arg3) (ix2 (i) (k)) := by
  blk_simp [iblk, ei3]
  refine congrArg (m ((c.tc : Thread nD τ).loc main_arg3)) ?_
  blk_ext [ei3]

theorem b4 (t : Fin cfg0.N) (i : Fin 2048) (k : Fin 1024) : (iblk m c 4 t : Vec Ideal S2048x1024 .bf16) (ix2 i k) = m ((c.tc : Thread nD τ).loc main_arg4) (ix2 (i) (k)) := by
  blk_simp [iblk, ei4]
  refine congrArg (m ((c.tc : Thread nD τ).loc main_arg4)) ?_
  blk_ext [ei4]

theorem b5 (t : Fin cfg0.N) (i : Fin 128) (k : Fin 1024) : (iblk m c 5 t : Vec Ideal S128x1024 .bf16) (ix2 i k) = m ((c.tc : Thread nD τ).loc main_arg5) (ix2 (i) (k)) := by
  blk_simp [iblk, ei5]
  refine congrArg (m ((c.tc : Thread nD τ).loc main_arg5)) ?_
  blk_ext [ei5]

/-- The result of whole arrays. -/
def res6 (x0 : FVec Ideal S4096x1024 .f32) (x1 : FVec Ideal S1024x1024 .bf16) (x2 : FVec Ideal S1024x1024 .bf16) (x3 : FVec Ideal S2048x1024 .bf16) (x4 : FVec Ideal S2048x1024 .bf16) (x5 : FVec Ideal S128x1024 .bf16) : FVec Ideal S4096x1024 .f32 := fun y => ∑ k : Fin 1024, (x0 (ix2 (y 0) k) : EReal) * x1 (ix2 (y 1) k)

/-- What a point computes, read at an entry. -/
theorem pay_apply6 (x0 : Vec Ideal S256x1024 .f32) (x1 : Vec Ideal S1024x1024 .bf16) (x2 : Vec Ideal S1024x1024 .bf16) (x3 : Vec Ideal S2048x1024 .bf16) (x4 : Vec Ideal S2048x1024 .bf16) (x5 : Vec Ideal S128x1024 .bf16) (i : Fin 256) (j : Fin 1024) :
    out0_6 (F := Ideal) x0 x1 x2 x3 x4 x5 (ix2 i j) = ∑ k : Fin 1024, (x0 (ix2 i k) : EReal) * x1 (ix2 j k) := by
  unfold out0_6
  rw [View.canon_unit_zero (S := S256x1024) hz]
  simp only [View.ld_unit_zero (S := S128x1024) hz, View.ld_unit_zero (S := S256x1024) hz, View.ld_unit_zero (S := S1024x1024) hz, View.ld_unit_zero (S := S2048x1024) hz]
  unfold k0_pay2 k0_pay1
  pointwise

/-- The array after the run. -/
theorem final6 : (dats m 0 c).arrAt 6 cfg0.N = res6 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  refine (dats m 0 c).arrAt_eq_of_covers 6 _ (by decide +kernel) fun t hf y => ?_
  blk_simp
  rw [after0_6]
  obtain ⟨i, j, rfl⟩ : ∃ (i : Fin 256) (j : Fin 1024), y = ix2 i j := ⟨y 0, y 1, eq_ix2 y⟩
  have e : (win0_6.blk t).view.emb (ix2 i j) = ix2 (row t i) (j) := by blk_ext [ei6, row]
  rw [e]
  refine (pay_apply6 _ _ _ _ _ _ i j).trans ?_
  simp only [b0, b1]
  rfl

/-- The result of whole arrays. -/
def res7 (x0 : FVec Ideal S4096x1024 .f32) (x1 : FVec Ideal S1024x1024 .bf16) (x2 : FVec Ideal S1024x1024 .bf16) (x3 : FVec Ideal S2048x1024 .bf16) (x4 : FVec Ideal S2048x1024 .bf16) (x5 : FVec Ideal S128x1024 .bf16) : FVec Ideal S4096x1024 .f32 := fun y => ∑ k : Fin 1024, (x0 (ix2 (y 0) k) : EReal) * x2 (ix2 (y 1) k)

/-- What a point computes, read at an entry. -/
theorem pay_apply7 (x0 : Vec Ideal S256x1024 .f32) (x1 : Vec Ideal S1024x1024 .bf16) (x2 : Vec Ideal S1024x1024 .bf16) (x3 : Vec Ideal S2048x1024 .bf16) (x4 : Vec Ideal S2048x1024 .bf16) (x5 : Vec Ideal S128x1024 .bf16) (i : Fin 256) (j : Fin 1024) :
    out0_7 (F := Ideal) x0 x1 x2 x3 x4 x5 (ix2 i j) = ∑ k : Fin 1024, (x0 (ix2 i k) : EReal) * x2 (ix2 j k) := by
  unfold out0_7
  rw [View.canon_unit_zero (S := S256x1024) hz]
  simp only [View.ld_unit_zero (S := S128x1024) hz, View.ld_unit_zero (S := S256x1024) hz, View.ld_unit_zero (S := S1024x1024) hz, View.ld_unit_zero (S := S2048x1024) hz]
  unfold k0_pay3 k0_pay1
  pointwise

/-- The array after the run. -/
theorem final7 : (dats m 0 c).arrAt 7 cfg0.N = res7 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  refine (dats m 0 c).arrAt_eq_of_covers 7 _ (by decide +kernel) fun t hf y => ?_
  blk_simp
  rw [after0_7]
  obtain ⟨i, j, rfl⟩ : ∃ (i : Fin 256) (j : Fin 1024), y = ix2 i j := ⟨y 0, y 1, eq_ix2 y⟩
  have e : (win0_7.blk t).view.emb (ix2 i j) = ix2 (row t i) (j) := by blk_ext [ei7, row]
  rw [e]
  refine (pay_apply7 _ _ _ _ _ _ i j).trans ?_
  simp only [b0, b2]
  rfl

/-- The result of whole arrays. -/
def res8 (x0 : FVec Ideal S4096x1024 .f32) (x1 : FVec Ideal S1024x1024 .bf16) (x2 : FVec Ideal S1024x1024 .bf16) (x3 : FVec Ideal S2048x1024 .bf16) (x4 : FVec Ideal S2048x1024 .bf16) (x5 : FVec Ideal S128x1024 .bf16) : FVec Ideal S4096x2048 .f32 := fun y => ∑ k : Fin 1024, (x0 (ix2 (y 0) k) : EReal) * x3 (ix2 (y 1) k)

/-- What a point computes, read at an entry. -/
theorem pay_apply8 (x0 : Vec Ideal S256x1024 .f32) (x1 : Vec Ideal S1024x1024 .bf16) (x2 : Vec Ideal S1024x1024 .bf16) (x3 : Vec Ideal S2048x1024 .bf16) (x4 : Vec Ideal S2048x1024 .bf16) (x5 : Vec Ideal S128x1024 .bf16) (i : Fin 256) (j : Fin 2048) :
    out0_8 (F := Ideal) x0 x1 x2 x3 x4 x5 (ix2 i j) = ∑ k : Fin 1024, (x0 (ix2 i k) : EReal) * x3 (ix2 j k) := by
  unfold out0_8
  rw [View.canon_unit_zero (S := S256x2048) hz]
  simp only [View.ld_unit_zero (S := S128x1024) hz, View.ld_unit_zero (S := S256x1024) hz, View.ld_unit_zero (S := S1024x1024) hz, View.ld_unit_zero (S := S2048x1024) hz]
  unfold k0_pay4 k0_pay1
  pointwise

/-- The array after the run. -/
theorem final8 : (dats m 0 c).arrAt 8 cfg0.N = res8 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  refine (dats m 0 c).arrAt_eq_of_covers 8 _ (by decide +kernel) fun t hf y => ?_
  blk_simp
  rw [after0_8]
  obtain ⟨i, j, rfl⟩ : ∃ (i : Fin 256) (j : Fin 2048), y = ix2 i j := ⟨y 0, y 1, eq_ix2 y⟩
  have e : (win0_8.blk t).view.emb (ix2 i j) = ix2 (row t i) (j) := by blk_ext [ei8, row]
  rw [e]
  refine (pay_apply8 _ _ _ _ _ _ i j).trans ?_
  simp only [b0, b3]
  rfl

/-- The result of whole arrays. -/
def res9 (x0 : FVec Ideal S4096x1024 .f32) (x1 : FVec Ideal S1024x1024 .bf16) (x2 : FVec Ideal S1024x1024 .bf16) (x3 : FVec Ideal S2048x1024 .bf16) (x4 : FVec Ideal S2048x1024 .bf16) (x5 : FVec Ideal S128x1024 .bf16) : FVec Ideal S4096x2048 .f32 := fun y => ∑ k : Fin 1024, (x0 (ix2 (y 0) k) : EReal) * x4 (ix2 (y 1) k)

/-- What a point computes, read at an entry. -/
theorem pay_apply9 (x0 : Vec Ideal S256x1024 .f32) (x1 : Vec Ideal S1024x1024 .bf16) (x2 : Vec Ideal S1024x1024 .bf16) (x3 : Vec Ideal S2048x1024 .bf16) (x4 : Vec Ideal S2048x1024 .bf16) (x5 : Vec Ideal S128x1024 .bf16) (i : Fin 256) (j : Fin 2048) :
    out0_9 (F := Ideal) x0 x1 x2 x3 x4 x5 (ix2 i j) = ∑ k : Fin 1024, (x0 (ix2 i k) : EReal) * x4 (ix2 j k) := by
  unfold out0_9
  rw [View.canon_unit_zero (S := S256x2048) hz]
  simp only [View.ld_unit_zero (S := S128x1024) hz, View.ld_unit_zero (S := S256x1024) hz, View.ld_unit_zero (S := S1024x1024) hz, View.ld_unit_zero (S := S2048x1024) hz]
  unfold k0_pay5 k0_pay1
  pointwise

/-- The array after the run. -/
theorem final9 : (dats m 0 c).arrAt 9 cfg0.N = res9 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  refine (dats m 0 c).arrAt_eq_of_covers 9 _ (by decide +kernel) fun t hf y => ?_
  blk_simp
  rw [after0_9]
  obtain ⟨i, j, rfl⟩ : ∃ (i : Fin 256) (j : Fin 2048), y = ix2 i j := ⟨y 0, y 1, eq_ix2 y⟩
  have e : (win0_9.blk t).view.emb (ix2 i j) = ix2 (row t i) (j) := by blk_ext [ei9, row]
  rw [e]
  refine (pay_apply9 _ _ _ _ _ _ i j).trans ?_
  simp only [b0, b4]
  rfl

/-- The result of whole arrays. -/
def res10 (x0 : FVec Ideal S4096x1024 .f32) (x1 : FVec Ideal S1024x1024 .bf16) (x2 : FVec Ideal S1024x1024 .bf16) (x3 : FVec Ideal S2048x1024 .bf16) (x4 : FVec Ideal S2048x1024 .bf16) (x5 : FVec Ideal S128x1024 .bf16) : FVec Ideal S4096x128 .f32 := fun y => ∑ k : Fin 1024, (x0 (ix2 (y 0) k) : EReal) * x5 (ix2 (y 1) k)

/-- What a point computes, read at an entry. -/
theorem pay_apply10 (x0 : Vec Ideal S256x1024 .f32) (x1 : Vec Ideal S1024x1024 .bf16) (x2 : Vec Ideal S1024x1024 .bf16) (x3 : Vec Ideal S2048x1024 .bf16) (x4 : Vec Ideal S2048x1024 .bf16) (x5 : Vec Ideal S128x1024 .bf16) (i : Fin 256) (j : Fin 128) :
    out0_10 (F := Ideal) x0 x1 x2 x3 x4 x5 (ix2 i j) = ∑ k : Fin 1024, (x0 (ix2 i k) : EReal) * x5 (ix2 j k) := by
  unfold out0_10
  rw [View.canon_unit_zero (S := S256x128) hz]
  simp only [View.ld_unit_zero (S := S128x1024) hz, View.ld_unit_zero (S := S256x1024) hz, View.ld_unit_zero (S := S1024x1024) hz, View.ld_unit_zero (S := S2048x1024) hz]
  unfold k0_pay6 k0_pay1
  pointwise

/-- The array after the run. -/
theorem final10 : (dats m 0 c).arrAt 10 cfg0.N = res10 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  refine (dats m 0 c).arrAt_eq_of_covers 10 _ (by decide +kernel) fun t hf y => ?_
  blk_simp
  rw [after0_10]
  obtain ⟨i, j, rfl⟩ : ∃ (i : Fin 256) (j : Fin 128), y = ix2 i j := ⟨y 0, y 1, eq_ix2 y⟩
  have e : (win0_10.blk t).view.emb (ix2 i j) = ix2 (row t i) (j) := by blk_ext [ei10, row]
  rw [e]
  refine (pay_apply10 _ _ _ _ _ _ i j).trans ?_
  simp only [b0, b5]
  rfl

/-- The reference runs, leaves its arguments and no semaphore counted up. -/
theorem frame_ref : @Cert.quiescent_Reference12Ideal Cert.Reference12Ideal.Gen.facts := fun m ρ _ =>
  (θ_run Cert.Reference12Ideal.defs _ _).mono (fun r h => ⟨fun c => (h c).2.2.2.2.2, Idealize.ShloMosaic.sem_eq_zero_of_no_sems (by decide) r.2⟩)
    (Cert.Reference12Ideal.Value.run m ρ)

/-- From memories that agree on the arguments, the kernel and the reference end with equal results. -/
theorem algebraic : @Cert.algebraic_Kernel12Ideal_Reference12Ideal Cert.Kernel12Ideal.Gen.facts Cert.Reference12Ideal.Gen.facts := by
  intro m ρ m' ρ' _ hag
  refine ⟨fun c => (dats m 0 c).arrAt 6 cfg0.N, fun c => (dats m 0 c).arrAt 7 cfg0.N, fun c => (dats m 0 c).arrAt 8 cfg0.N, fun c => (dats m 0 c).arrAt 9 cfg0.N, fun c => (dats m 0 c).arrAt 10 cfg0.N, Cert.Kernel12Ideal.Value.run_blocks m ρ, ?_⟩
  refine (θ_run Cert.Reference12Ideal.defs _ _).mono (fun r h c => ⟨(h c).1.trans ?_, (h c).2.1.trans ?_, (h c).2.2.1.trans ?_, (h c).2.2.2.1.trans ?_, (h c).2.2.2.2.1.trans ?_, (h c).2.2.2.2.2⟩) (Cert.Reference12Ideal.Value.run m' ρ')
  · rw [(hag c).1, (hag c).2.1]
    refine Eq.trans ?_ (final6 m c).symm
    funext y
    obtain ⟨i, j, rfl⟩ : ∃ (i : Fin 4096) (j : Fin 1024), y = ix2 i j := ⟨y 0, y 1, eq_ix2 y⟩
    unfold res6
    pointwise
  · rw [(hag c).1, (hag c).2.2.1]
    refine Eq.trans ?_ (final7 m c).symm
    funext y
    obtain ⟨i, j, rfl⟩ : ∃ (i : Fin 4096) (j : Fin 1024), y = ix2 i j := ⟨y 0, y 1, eq_ix2 y⟩
    unfold res7
    pointwise
  · rw [(hag c).1, (hag c).2.2.2.1]
    refine Eq.trans ?_ (final8 m c).symm
    funext y
    obtain ⟨i, j, rfl⟩ : ∃ (i : Fin 4096) (j : Fin 2048), y = ix2 i j := ⟨y 0, y 1, eq_ix2 y⟩
    unfold res8
    pointwise
  · rw [(hag c).1, (hag c).2.2.2.2.1]
    refine Eq.trans ?_ (final9 m c).symm
    funext y
    obtain ⟨i, j, rfl⟩ : ∃ (i : Fin 4096) (j : Fin 2048), y = ix2 i j := ⟨y 0, y 1, eq_ix2 y⟩
    unfold res9
    pointwise
  · rw [(hag c).1, (hag c).2.2.2.2.2]
    refine Eq.trans ?_ (final10 m c).symm
    funext y
    obtain ⟨i, j, rfl⟩ : ∃ (i : Fin 4096) (j : Fin 128), y = ix2 i j := ⟨y 0, y 1, eq_ix2 y⟩
    unfold res10
    pointwise

end Cert.Fw12

end
-- ==== Proof.Fw13.lean ====
module

public import proofs.«01_k».proof.Defs
public import proofs.«01_k».proof.Proof.Gen.Kernel13Ideal.Value
public import proofs.«01_k».proof.Proof.Gen.Reference13Ideal.Run
public import Idealize.ShloMosaic.Lib.Pointwise
public import Idealize.ShloMosaic.Lib.Pipeline.ValueKit.Geometry
public import Idealize.ShloMosaic.Lib.Quiescent

/-!
# An output projection

A point of the kernel multiplies 1024 rows of the input by 512 columns of the weight.
-/

@[expose] public section

noncomputable section

namespace Cert.Fw13

open Idealize.ShloMosaic Idealize.ShloMosaic.TcCoe Idealize.SL.Sem
open Cert.Kernel13Ideal Cert.Kernel13Ideal.Gen

variable (m : (ℓ : Loc nD τ sig) → Buf (Elt Ideal) ℓ) (c : Dev nD)

theorem hz : (![0, 0] : Fin 2 → Nat) = fun _ => 0 := funext fun a => by fin_cases a <;> rfl

theorem ei0 : ∀ t : Fin cfg0.N, win0_0.index t = ![t.val / 2, 0] := (by decide +kernel : ∀ t : Fin grid0.N, _)
theorem ei1 : ∀ t : Fin cfg0.N, win0_1.index t = ![0, t.val % 2] := (by decide +kernel : ∀ t : Fin grid0.N, _)
theorem ei2 : ∀ t : Fin cfg0.N, win0_2.index t = ![t.val / 2, t.val % 2] := (by decide +kernel : ∀ t : Fin grid0.N, _)

/-- A point's row and column of the result. -/
def row (t : Fin cfg0.N) (i : Fin 1024) : Fin 4096 := ⟨1024 * (t.val / 2) + i.val, by have := t.isLt; have : cfg0.N = 8 := N_0; omega⟩
def col (t : Fin cfg0.N) (j : Fin 512) : Fin 1024 := ⟨512 * (t.val % 2) + j.val, by omega⟩

/-- The blocks a point reads, in the arrays. -/
theorem b0 (t : Fin cfg0.N) (i : Fin 1024) (k : Fin 2048) : (iblk m c 0 t : Vec Ideal S1024x2048 .f32) (ix2 i k) = m ((c.tc : Thread nD τ).loc main_arg0) (ix2 (row t i) (k)) := by
  blk_simp [iblk, ei0]
  refine congrArg (m ((c.tc : Thread nD τ).loc main_arg0)) ?_
  blk_ext [ei0, row]

theorem b1 (t : Fin cfg0.N) (i : Fin 2048) (k : Fin 512) : (iblk m c 1 t : Vec Ideal S2048x512 .bf16) (ix2 i k) = m ((c.tc : Thread nD τ).loc main_arg1) (ix2 (i) (col t k)) := by
  blk_simp [iblk, ei1]
  refine congrArg (m ((c.tc : Thread nD τ).loc main_arg1)) ?_
  blk_ext [ei1, col]

/-- The result of whole arrays. -/
def res (x0 : FVec Ideal S4096x2048 .f32) (x1 : FVec Ideal S2048x1024 .bf16) : FVec Ideal S4096x1024 .f32 := fun y => ∑ k : Fin 2048, (x0 (ix2 (y 0) k) : EReal) * x1 (ix2 k (y 1))

/-- What a point computes, read at an entry. -/
theorem pay_apply (c : Dev nD) (p) a0 h0 a1 h1 a2 h2 a3 h3 (x0 : Vec Ideal S1024x2048 .f32) (x1 : Vec Ideal S2048x512 .bf16) (i : Fin 1024) (j : Fin 512) :
    out0_A_2 (F := Ideal) c p a0 h0 a1 h1 a2 h2 a3 h3 x0 x1 (ix2 i j) = ∑ k : Fin 2048, (x0 (ix2 i k) : EReal) * x1 (ix2 k j) := by
  unfold out0_A_2
  rw [View.read_writes_eq_canon _ _ _ (cover0_A_2 c p a0 h0 a1 h1 a2 h2 a3 h3 x0 x1)]
  unfold kernelRun0_A; dsimp only
  sl_unfold_words
  rw [View.canon_unit_zero (S := S1024x512) hz]
  simp only [View.readAt_eq_ld, View.ld_unit_zero (S := S1024x2048) hz, View.ld_unit_zero (S := S2048x512) hz, h0.read_unread, h1.read_unread]
  unfold k0_pay1
  pointwise

/-- The array after the run. -/
theorem final : (dats m 0 c).arrAt 2 cfg0.N = res (m ((c.tc : Thread nD τ).loc main_arg0)) (m ((c.tc : Thread nD τ).loc main_arg1)) := by
  refine (dats m 0 c).arrAt_eq_of_covers 2 _ (by decide +kernel) fun t hf y => ?_
  blk_simp
  rw [after0_2]
  obtain ⟨i, j, rfl⟩ : ∃ (i : Fin 1024) (j : Fin 512), y = ix2 i j := ⟨y 0, y 1, eq_ix2 y⟩
  have e : (win0_2.blk t).view.emb (ix2 i j) = ix2 (row t i) (col t j) := by blk_ext [ei2, row, col]
  rw [e]
  refine (pay_apply _ _ _ _ _ _ _ _ _ _ _ _ i j).trans ?_
  simp only [b0, b1]
  rfl

/-- The reference runs, leaves its arguments and no semaphore counted up. -/
theorem frame_ref : @Cert.quiescent_Reference13Ideal Cert.Reference13Ideal.Gen.facts := fun m ρ _ =>
  (θ_run Cert.Reference13Ideal.defs _ _).mono (fun r h => ⟨fun c => (h c).2, Idealize.ShloMosaic.sem_eq_zero_of_no_sems (by decide) r.2⟩)
    (Cert.Reference13Ideal.Value.run m ρ)

/-- From memories that agree on the arguments, the kernel and the reference end with equal results. -/
theorem algebraic : @Cert.algebraic_Kernel13Ideal_Reference13Ideal Cert.Kernel13Ideal.Gen.facts Cert.Reference13Ideal.Gen.facts := by
  intro m ρ m' ρ' _ hag
  refine ⟨fun c => (dats m 0 c).arrAt 2 cfg0.N, Cert.Kernel13Ideal.Value.run_blocks m ρ, ?_⟩
  refine (θ_run Cert.Reference13Ideal.defs _ _).mono (fun r h c => ⟨(h c).1.trans ?_, (h c).2⟩) (Cert.Reference13Ideal.Value.run m' ρ')
  rw [(hag c).1, (hag c).2]
  refine Eq.trans ?_ (final m c).symm
  funext y
  obtain ⟨i, j, rfl⟩ : ∃ (i : Fin 4096) (j : Fin 1024), y = ix2 i j := ⟨y 0, y 1, eq_ix2 y⟩
  unfold res
  pointwise

end Cert.Fw13

end
-- ==== Proof.Fw14.lean ====
module

public import proofs.«01_k».proof.Defs
public import proofs.«01_k».proof.Proof.Gen.Kernel14Ideal.Value
public import proofs.«01_k».proof.Proof.Gen.Reference14Ideal.Run
public import Idealize.ShloMosaic.Lib.Pointwise
public import Idealize.ShloMosaic.Lib.Pipeline.ValueKit.Geometry
public import Idealize.ShloMosaic.Lib.Pipeline.ValueKit.Tiles
public import Idealize.ShloMosaic.Lib.Quiescent

/-!
# The product of the GLU and the gate

A point of the kernel multiplies 1024 rows of the input by 512 columns of the weight and gates the same rows and columns of the input.
-/

@[expose] public section

noncomputable section

namespace Cert.Fw14

open Idealize.ShloMosaic Idealize.ShloMosaic.TcCoe Idealize.SL.Sem
open Cert.Kernel14Ideal Cert.Kernel14Ideal.Gen

variable (m : (ℓ : Loc nD τ sig) → Buf (Elt Ideal) ℓ) (c : Dev nD)

theorem hz : (![0, 0] : Fin 2 → Nat) = fun _ => 0 := funext fun a => by fin_cases a <;> rfl

theorem ei0 : ∀ t : Fin cfg0.N, win0_0.index t = ![t.val / 4, 0] := (by decide +kernel : ∀ t : Fin grid0.N, _)
theorem ei1 : ∀ t : Fin cfg0.N, win0_1.index t = ![0, t.val % 4] := (by decide +kernel : ∀ t : Fin grid0.N, _)
theorem ei2 : ∀ t : Fin cfg0.N, win0_2.index t = ![t.val / 4, t.val % 4] := (by decide +kernel : ∀ t : Fin grid0.N, _)
theorem ei3 : ∀ t : Fin cfg0.N, win0_3.index t = ![t.val / 4, t.val % 4] := (by decide +kernel : ∀ t : Fin grid0.N, _)
theorem ei4 : ∀ t : Fin cfg0.N, win0_4.index t = ![t.val / 4, t.val % 4] := (by decide +kernel : ∀ t : Fin grid0.N, _)

/-- A point's row and column of the result. -/
def row (t : Fin cfg0.N) (i : Fin 1024) : Fin 4096 := ⟨1024 * (t.val / 4) + i.val, by have := t.isLt; have : cfg0.N = 16 := N_0; omega⟩
def col (t : Fin cfg0.N) (j : Fin 512) : Fin 2048 := ⟨512 * (t.val % 4) + j.val, by omega⟩

/-- The blocks a point reads, in the arrays. -/
theorem b0 (t : Fin cfg0.N) (i : Fin 1024) (k : Fin 2048) : (iblk m c 0 t : Vec Ideal S1024x2048 .f32) (ix2 i k) = m ((c.tc : Thread nD τ).loc main_arg0) (ix2 (row t i) (k)) := by
  blk_simp [iblk, ei0]
  refine congrArg (m ((c.tc : Thread nD τ).loc main_arg0)) ?_
  blk_ext [ei0, row]

theorem b1 (t : Fin cfg0.N) (i : Fin 2048) (k : Fin 512) : (iblk m c 1 t : Vec Ideal S2048x512 .bf16) (ix2 i k) = m ((c.tc : Thread nD τ).loc main_arg1) (ix2 (i) (col t k)) := by
  blk_simp [iblk, ei1]
  refine congrArg (m ((c.tc : Thread nD τ).loc main_arg1)) ?_
  blk_ext [ei1, col]

theorem b2 (t : Fin cfg0.N) (i : Fin 1024) (k : Fin 512) : (iblk m c 2 t : Vec Ideal S1024x512 .f32) (ix2 i k) = m ((c.tc : Thread nD τ).loc main_arg2) (ix2 (row t i) (col t k)) := by
  blk_simp [iblk, ei2]
  refine congrArg (m ((c.tc : Thread nD τ).loc main_arg2)) ?_
  blk_ext [ei2, row, col]

/-- The result of whole arrays. -/
def res3 (x0 : FVec Ideal S4096x2048 .f32) (x1 : FVec Ideal S2048x2048 .bf16) (x2 : FVec Ideal S4096x2048 .f32) : FVec Ideal S4096x2048 .f32 := fun y => ∑ k : Fin 2048, (x0 (ix2 (y 0) k) : EReal) * x1 (ix2 k (y 1))

/-- What a point computes, read at an entry. -/
theorem pay_apply3 (c : Dev nD) (p) a0 h0 a1 h1 a2 h2 a3 h3 a4 h4 (x0 : Vec Ideal S1024x2048 .f32) (x1 : Vec Ideal S2048x512 .bf16) (x2 : Vec Ideal S1024x512 .f32) (i : Fin 1024) (j : Fin 512) :
    out0_A_3 (F := Ideal) c p a0 h0 a1 h1 a2 h2 a3 h3 a4 h4 x0 x1 x2 (ix2 i j) = ∑ k : Fin 2048, (x0 (ix2 i k) : EReal) * x1 (ix2 k j) := by
  unfold out0_A_3
  rw [View.read_writes_eq_canon _ _ _ (cover0_A_3 c p a0 h0 a1 h1 a2 h2 a3 h3 a4 h4 x0 x1 x2)]
  unfold kernelRun0_A; dsimp only
  sl_unfold_words
  rw [View.canon_unit_zero (S := S1024x512) hz]
  simp only [View.readAt_eq_ld, View.ld_unit_zero (S := S1024x512) hz, View.ld_unit_zero (S := S1024x2048) hz, View.ld_unit_zero (S := S2048x512) hz, h0.read_unread, h1.read_unread, h2.read_unread]
  unfold k0_pay1
  pointwise

/-- The array after the run. -/
theorem final3 : (dats m 0 c).arrAt 3 cfg0.N = res3 (m ((c.tc : Thread nD τ).loc main_arg0)) (m ((c.tc : Thread nD τ).loc main_arg1)) (m ((c.tc : Thread nD τ).loc main_arg2)) := by
  refine (dats m 0 c).arrAt_eq_of_covers 3 _ (by decide +kernel) fun t hf y => ?_
  blk_simp
  rw [after0_3]
  unfold outsAt0
  dsimp only
  obtain ⟨i, j, rfl⟩ : ∃ (i : Fin 1024) (j : Fin 512), y = ix2 i j := ⟨y 0, y 1, eq_ix2 y⟩
  have e : (win0_3.blk t).view.emb (ix2 i j) = ix2 (row t i) (col t j) := by blk_ext [ei3, row, col]
  rw [e, pay_apply3]
  simp only [b0, b1]
  rfl

/-- The columns of a point in its rows of the input. -/
theorem off : ∀ t : Fin cfg0.N, BitVec.toNat (Scalar.indexCast (Scalar.muli (BitVec.ofNat 32 (grid0.coords t 1).val) 512#32)) = 512 * (t.val % 4) :=
  (by decide +kernel : ∀ t : Fin grid0.N, _)

/-- The result of whole arrays. -/
def res4 (x0 : FVec Ideal S4096x2048 .f32) (x1 : FVec Ideal S2048x2048 .bf16) (x2 : FVec Ideal S4096x2048 .f32) : FVec Ideal S4096x2048 .f32 := fun y => ((x0 (ix2 (y 0) (y 1)) : EReal) * Ideal.logistic (∑ k : Fin 2048, (x0 (ix2 (y 0) k) : EReal) * x1 (ix2 k (y 1)))) * ((x2 (ix2 (y 0) (y 1)) : EReal) * Ideal.logistic (x2 (ix2 (y 0) (y 1)) : EReal))

/-- What a point computes, read at an entry. -/
theorem pay_apply4 (c : Dev nD) (t : Fin cfg0.N) a0 h0 a1 h1 a2 h2 a3 h3 a4 h4 (x0 : Vec Ideal S1024x2048 .f32) (x1 : Vec Ideal S2048x512 .bf16) (x2 : Vec Ideal S1024x512 .f32) (i : Fin 1024) (j : Fin 512) :
    out0_A_4 (F := Ideal) c (grid0.coords t) a0 h0 a1 h1 a2 h2 a3 h3 a4 h4 x0 x1 x2 (ix2 i j) = ((x0 (ix2 i (col t j)) : EReal) * Ideal.logistic (∑ k : Fin 2048, (x0 (ix2 i k) : EReal) * x1 (ix2 k j))) * ((x2 (ix2 i j) : EReal) * Ideal.logistic (x2 (ix2 i j) : EReal)) := by
  unfold out0_A_4
  rw [View.read_writes_eq_canon _ _ _ (cover0_A_4 c (grid0.coords t) a0 h0 a1 h1 a2 h2 a3 h3 a4 h4 x0 x1 x2)]
  unfold kernelRun0_A; dsimp only
  sl_unfold_words
  rw [View.canon_unit_zero (S := S1024x512) hz]
  simp only [View.readAt_eq_ld, View.ld_unit_zero (S := S1024x512) hz, View.ld_unit_zero (S := S1024x2048) hz, View.ld_unit_zero (S := S2048x512) hz, h0.read_unread, h1.read_unread, h2.read_unread]
  unfold k0_pay2 k0_pay1
  pointwise
  have e : ∀ h, (⟨BitVec.toNat (Scalar.indexCast (Scalar.muli (BitVec.ofNat 32 (grid0.coords t 1).val) 512#32)) + j.val, h⟩ : Fin 2048) = col t j :=
    fun h => Fin.ext (congrArg (· + j.val) (off t))
  rw [e]

/-- The array after the run. -/
theorem final4 : (dats m 0 c).arrAt 4 cfg0.N = res4 (m ((c.tc : Thread nD τ).loc main_arg0)) (m ((c.tc : Thread nD τ).loc main_arg1)) (m ((c.tc : Thread nD τ).loc main_arg2)) := by
  refine (dats m 0 c).arrAt_eq_of_covers 4 _ (by decide +kernel) fun t hf y => ?_
  blk_simp
  rw [after0_4]
  unfold outsAt0
  dsimp only
  obtain ⟨i, j, rfl⟩ : ∃ (i : Fin 1024) (j : Fin 512), y = ix2 i j := ⟨y 0, y 1, eq_ix2 y⟩
  have e : (win0_4.blk t).view.emb (ix2 i j) = ix2 (row t i) (col t j) := by blk_ext [ei4, row, col]
  rw [e, pay_apply4]
  simp only [b0, b1, b2]
  rfl

/-- The reference runs, leaves its arguments and no semaphore counted up. -/
theorem frame_ref : @Cert.quiescent_Reference14Ideal Cert.Reference14Ideal.Gen.facts := fun m ρ _ =>
  (θ_run Cert.Reference14Ideal.defs _ _).mono (fun r h => ⟨fun c => (h c).2.2, Idealize.ShloMosaic.sem_eq_zero_of_no_sems (by decide) r.2⟩)
    (Cert.Reference14Ideal.Value.run m ρ)

/-- From memories that agree on the arguments, the kernel and the reference end with equal results. -/
theorem algebraic : @Cert.algebraic_Kernel14Ideal_Reference14Ideal Cert.Kernel14Ideal.Gen.facts Cert.Reference14Ideal.Gen.facts := by
  intro m ρ m' ρ' _ hag
  refine ⟨fun c => (dats m 0 c).arrAt 3 cfg0.N, fun c => (dats m 0 c).arrAt 4 cfg0.N, Cert.Kernel14Ideal.Value.run_blocks m ρ, ?_⟩
  refine (θ_run Cert.Reference14Ideal.defs _ _).mono (fun r h c => ⟨(h c).1.trans ?_, (h c).2.1.trans ?_, (h c).2.2⟩) (Cert.Reference14Ideal.Value.run m' ρ')
  · rw [(hag c).1, (hag c).2.1]
    refine Eq.trans ?_ (final3 m c).symm
    funext y
    obtain ⟨i, j, rfl⟩ : ∃ (i : Fin 4096) (j : Fin 2048), y = ix2 i j := ⟨y 0, y 1, eq_ix2 y⟩
    unfold res3
    pointwise
  · rw [(hag c).1, (hag c).2.1, (hag c).2.2]
    refine Eq.trans ?_ (final4 m c).symm
    funext y
    obtain ⟨i, j, rfl⟩ : ∃ (i : Fin 4096) (j : Fin 2048), y = ix2 i j := ⟨y 0, y 1, eq_ix2 y⟩
    unfold res4
    pointwise
    rfl

end Cert.Fw14

end
-- ==== Proof.Gate15.lean ====
module

public import proofs.«01_k».proof.Defs
public import proofs.«01_k».proof.Proof.Gen.Kernel15Ideal.Value
public import proofs.«01_k».proof.Proof.Gen.Reference15Ideal.Run
public import Idealize.ShloMosaic.Lib.Pointwise
public import Idealize.ShloMosaic.Lib.Pipeline.ValueKit.Geometry
public import Idealize.ShloMosaic.Lib.Quiescent

/-!
# The gradient of the S5 mixer's gate

A point of the kernel takes 256 rows of the four arrays; each entry of a result needs one entry of each.
-/

@[expose] public section

noncomputable section

namespace Cert.Gate15

open Idealize.ShloMosaic Idealize.ShloMosaic.TcCoe Idealize.SL.Sem
open Cert.Kernel15Ideal Cert.Kernel15Ideal.Gen

variable (m : (ℓ : Loc nD τ sig) → Buf (Elt Ideal) ℓ) (c : Dev nD)

theorem hz : (![0, 0] : Fin 2 → Nat) = fun _ => 0 := funext fun a => by fin_cases a <;> rfl

theorem ei0 : ∀ t : Fin cfg0.N, win0_0.index t = ![t.val, 0] := (by decide +kernel : ∀ t : Fin grid0.N, _)
theorem ei1 : ∀ t : Fin cfg0.N, win0_1.index t = ![t.val, 0] := (by decide +kernel : ∀ t : Fin grid0.N, _)
theorem ei2 : ∀ t : Fin cfg0.N, win0_2.index t = ![t.val, 0] := (by decide +kernel : ∀ t : Fin grid0.N, _)
theorem ei3 : ∀ t : Fin cfg0.N, win0_3.index t = ![t.val, 0] := (by decide +kernel : ∀ t : Fin grid0.N, _)
theorem ei4 : ∀ t : Fin cfg0.N, win0_4.index t = ![t.val, 0] := (by decide +kernel : ∀ t : Fin grid0.N, _)
theorem ei5 : ∀ t : Fin cfg0.N, win0_5.index t = ![t.val, 0] := (by decide +kernel : ∀ t : Fin grid0.N, _)
theorem ei6 : ∀ t : Fin cfg0.N, win0_6.index t = ![t.val, 0] := (by decide +kernel : ∀ t : Fin grid0.N, _)

/-- A point's row of the arrays. -/
def row (t : Fin cfg0.N) (i : Fin 256) : Fin 4096 := ⟨256 * t.val + i.val, by have := t.isLt; have : cfg0.N = 16 := N_0; omega⟩

/-- The blocks a point reads, in the arrays. -/
theorem b0 (t : Fin cfg0.N) (i : Fin 256) (k : Fin 2048) : (iblk m c 0 t : Vec Ideal S256x2048 .f32) (ix2 i k) = m ((c.tc : Thread nD τ).loc main_arg0) (ix2 (row t i) (k)) := by
  blk_simp [iblk, ei0]
  refine congrArg (m ((c.tc : Thread nD τ).loc main_arg0)) ?_
  blk_ext [ei0, row]

theorem b1 (t : Fin cfg0.N) (i : Fin 256) (k : Fin 2048) : (iblk m c 1 t : Vec Ideal S256x2048 .f32) (ix2 i k) = m ((c.tc : Thread nD τ).loc main_arg1) (ix2 (row t i) (k)) := by
  blk_simp [iblk, ei1]
  refine congrArg (m ((c.tc : Thread nD τ).loc main_arg1)) ?_
  blk_ext [ei1, row]

theorem b2 (t : Fin cfg0.N) (i : Fin 256) (k : Fin 2048) : (iblk m c 2 t : Vec Ideal S256x2048 .f32) (ix2 i k) = m ((c.tc : Thread nD τ).loc main_arg2) (ix2 (row t i) (k)) := by
  blk_simp [iblk, ei2]
  refine congrArg (m ((c.tc : Thread nD τ).loc main_arg2)) ?_
  blk_ext [ei2, row]

theorem b3 (t : Fin cfg0.N) (i : Fin 256) (k : Fin 2048) : (iblk m c 3 t : Vec Ideal S256x2048 .f32) (ix2 i k) = m ((c.tc : Thread nD τ).loc main_arg3) (ix2 (row t i) (k)) := by
  blk_simp [iblk, ei3]
  refine congrArg (m ((c.tc : Thread nD τ).loc main_arg3)) ?_
  blk_ext [ei3, row]

/-- The result of whole arrays. -/
def res4 (x0 : FVec Ideal S4096x2048 .f32) (x1 : FVec Ideal S4096x2048 .f32) (x2 : FVec Ideal S4096x2048 .f32) (x3 : FVec Ideal S4096x2048 .f32) : FVec Ideal S4096x2048 .f32 := fun y => ((x3 (ix2 (y 0) (y 1)) : EReal) * ((x2 (ix2 (y 0) (y 1)) : EReal) * Ideal.logistic (x2 (ix2 (y 0) (y 1)) : EReal))) * Ideal.logistic (x1 (ix2 (y 0) (y 1)) : EReal)

/-- What a point computes, read at an entry. -/
theorem pay_apply4 (x0 : Vec Ideal S256x2048 .f32) (x1 : Vec Ideal S256x2048 .f32) (x2 : Vec Ideal S256x2048 .f32) (x3 : Vec Ideal S256x2048 .f32) (i : Fin 256) (j : Fin 2048) :
    out0_4 (F := Ideal) x0 x1 x2 x3 (ix2 i j) = ((x3 (ix2 i j) : EReal) * ((x2 (ix2 i j) : EReal) * Ideal.logistic (x2 (ix2 i j) : EReal))) * Ideal.logistic (x1 (ix2 i j) : EReal) := by
  unfold out0_4
  rw [View.canon_unit_zero (S := S256x2048) hz]
  simp only [View.ld_unit_zero (S := S256x2048) hz]
  simp only [k0_pay5, k0_pay1, k0_pay2, k0_pay3]
  pointwise

/-- The array after the run. -/
theorem final4 : (dats m 0 c).arrAt 4 cfg0.N = res4 (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 4 _ (by decide +kernel) fun t hf y => ?_
  blk_simp
  rw [after0_4]
  obtain ⟨i, j, rfl⟩ : ∃ (i : Fin 256) (j : Fin 2048), y = ix2 i j := ⟨y 0, y 1, eq_ix2 y⟩
  have e : (win0_4.blk t).view.emb (ix2 i j) = ix2 (row t i) (j) := by blk_ext [ei4, row]
  rw [e]
  refine (pay_apply4 _ _ _ _ i j).trans ?_
  simp only [b1, b2, b3]
  rfl

/-- The result of whole arrays. -/
def res5 (x0 : FVec Ideal S4096x2048 .f32) (x1 : FVec Ideal S4096x2048 .f32) (x2 : FVec Ideal S4096x2048 .f32) (x3 : FVec Ideal S4096x2048 .f32) : FVec Ideal S4096x2048 .f32 := fun y => ((x0 (ix2 (y 0) (y 1)) : EReal) * ((x3 (ix2 (y 0) (y 1)) : EReal) * ((x2 (ix2 (y 0) (y 1)) : EReal) * Ideal.logistic (x2 (ix2 (y 0) (y 1)) : EReal)))) * (Ideal.logistic (x1 (ix2 (y 0) (y 1)) : EReal) * (1 - Ideal.logistic (x1 (ix2 (y 0) (y 1)) : EReal)))

/-- What a point computes, read at an entry. -/
theorem pay_apply5 (x0 : Vec Ideal S256x2048 .f32) (x1 : Vec Ideal S256x2048 .f32) (x2 : Vec Ideal S256x2048 .f32) (x3 : Vec Ideal S256x2048 .f32) (i : Fin 256) (j : Fin 2048) :
    out0_5 (F := Ideal) x0 x1 x2 x3 (ix2 i j) = ((x0 (ix2 i j) : EReal) * ((x3 (ix2 i j) : EReal) * ((x2 (ix2 i j) : EReal) * Ideal.logistic (x2 (ix2 i j) : EReal)))) * (Ideal.logistic (x1 (ix2 i j) : EReal) * (1 - Ideal.logistic (x1 (ix2 i j) : EReal))) := by
  unfold out0_5
  rw [View.canon_unit_zero (S := S256x2048) hz]
  simp only [View.ld_unit_zero (S := S256x2048) hz]
  simp only [k0_pay6, k0_pay1, k0_pay2, k0_pay3]
  pointwise

/-- The array after the run. -/
theorem final5 : (dats m 0 c).arrAt 5 cfg0.N = res5 (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 5 _ (by decide +kernel) fun t hf y => ?_
  blk_simp
  rw [after0_5]
  obtain ⟨i, j, rfl⟩ : ∃ (i : Fin 256) (j : Fin 2048), y = ix2 i j := ⟨y 0, y 1, eq_ix2 y⟩
  have e : (win0_5.blk t).view.emb (ix2 i j) = ix2 (row t i) (j) := by blk_ext [ei5, row]
  rw [e]
  refine (pay_apply5 _ _ _ _ i j).trans ?_
  simp only [b0, b1, b2, b3]
  rfl

/-- The result of whole arrays. -/
def res6 (x0 : FVec Ideal S4096x2048 .f32) (x1 : FVec Ideal S4096x2048 .f32) (x2 : FVec Ideal S4096x2048 .f32) (x3 : FVec Ideal S4096x2048 .f32) : FVec Ideal S4096x2048 .f32 := fun y => (((x0 (ix2 (y 0) (y 1)) : EReal) * Ideal.logistic (x1 (ix2 (y 0) (y 1)) : EReal)) * (x3 (ix2 (y 0) (y 1)) : EReal)) * Ideal.logistic (x2 (ix2 (y 0) (y 1)) : EReal) + ((x2 (ix2 (y 0) (y 1)) : EReal) * (((x0 (ix2 (y 0) (y 1)) : EReal) * Ideal.logistic (x1 (ix2 (y 0) (y 1)) : EReal)) * (x3 (ix2 (y 0) (y 1)) : EReal))) * (Ideal.logistic (x2 (ix2 (y 0) (y 1)) : EReal) * (1 - Ideal.logistic (x2 (ix2 (y 0) (y 1)) : EReal)))

/-- What a point computes, read at an entry. -/
theorem pay_apply6 (x0 : Vec Ideal S256x2048 .f32) (x1 : Vec Ideal S256x2048 .f32) (x2 : Vec Ideal S256x2048 .f32) (x3 : Vec Ideal S256x2048 .f32) (i : Fin 256) (j : Fin 2048) :
    out0_6 (F := Ideal) x0 x1 x2 x3 (ix2 i j) = (((x0 (ix2 i j) : EReal) * Ideal.logistic (x1 (ix2 i j) : EReal)) * (x3 (ix2 i j) : EReal)) * Ideal.logistic (x2 (ix2 i j) : EReal) + ((x2 (ix2 i j) : EReal) * (((x0 (ix2 i j) : EReal) * Ideal.logistic (x1 (ix2 i j) : EReal)) * (x3 (ix2 i j) : EReal))) * (Ideal.logistic (x2 (ix2 i j) : EReal) * (1 - Ideal.logistic (x2 (ix2 i j) : EReal))) := by
  unfold out0_6
  rw [View.canon_unit_zero (S := S256x2048) hz]
  simp only [View.ld_unit_zero (S := S256x2048) hz]
  simp only [k0_pay4, k0_pay1, k0_pay2, k0_pay3]
  pointwise

/-- The array after the run. -/
theorem final6 : (dats m 0 c).arrAt 6 cfg0.N = res6 (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 6 _ (by decide +kernel) fun t hf y => ?_
  blk_simp
  rw [after0_6]
  obtain ⟨i, j, rfl⟩ : ∃ (i : Fin 256) (j : Fin 2048), y = ix2 i j := ⟨y 0, y 1, eq_ix2 y⟩
  have e : (win0_6.blk t).view.emb (ix2 i j) = ix2 (row t i) (j) := by blk_ext [ei6, row]
  rw [e]
  refine (pay_apply6 _ _ _ _ i j).trans ?_
  simp only [b0, b1, b2, b3]
  rfl

/-- The reference runs, leaves its arguments and no semaphore counted up. -/
theorem frame_ref : @Cert.quiescent_Reference15Ideal Cert.Reference15Ideal.Gen.facts := fun m ρ _ =>
  (θ_run Cert.Reference15Ideal.defs _ _).mono (fun r h => ⟨fun c => (h c).2.2.2, Idealize.ShloMosaic.sem_eq_zero_of_no_sems (by decide) r.2⟩)
    (Cert.Reference15Ideal.Value.run m ρ)

/-- From memories that agree on the arguments, the kernel and the reference end with equal results. -/
theorem algebraic : @Cert.algebraic_Kernel15Ideal_Reference15Ideal Cert.Kernel15Ideal.Gen.facts Cert.Reference15Ideal.Gen.facts := by
  intro m ρ m' ρ' _ hag
  refine ⟨fun c => (dats m 0 c).arrAt 4 cfg0.N, fun c => (dats m 0 c).arrAt 5 cfg0.N, fun c => (dats m 0 c).arrAt 6 cfg0.N, Cert.Kernel15Ideal.Value.run_blocks m ρ, ?_⟩
  refine (θ_run Cert.Reference15Ideal.defs _ _).mono (fun r h c => ⟨(h c).1.trans ?_, (h c).2.1.trans ?_, (h c).2.2.1.trans ?_, (h c).2.2.2⟩) (Cert.Reference15Ideal.Value.run m' ρ')
  · rw [(hag c).2.1, (hag c).2.2.1, (hag c).2.2.2]
    refine Eq.trans ?_ (final4 m c).symm
    funext y
    obtain ⟨i, j, rfl⟩ : ∃ (i : Fin 4096) (j : Fin 2048), y = ix2 i j := ⟨y 0, y 1, eq_ix2 y⟩
    unfold res4
    pointwise
    rfl
  · rw [(hag c).1, (hag c).2.1, (hag c).2.2.1, (hag c).2.2.2]
    refine Eq.trans ?_ (final5 m c).symm
    funext y
    obtain ⟨i, j, rfl⟩ : ∃ (i : Fin 4096) (j : Fin 2048), y = ix2 i j := ⟨y 0, y 1, eq_ix2 y⟩
    unfold res5
    pointwise
    rfl
  · rw [(hag c).1, (hag c).2.1, (hag c).2.2.1, (hag c).2.2.2]
    refine Eq.trans ?_ (final6 m c).symm
    funext y
    obtain ⟨i, j, rfl⟩ : ∃ (i : Fin 4096) (j : Fin 2048), y = ix2 i j := ⟨y 0, y 1, eq_ix2 y⟩
    unfold res6
    pointwise
    rfl

end Cert.Gate15

end
-- ==== Proof.Conv.lean ====
module

public import Idealize.ShloMosaic.Lib.Pointwise
public import Idealize.ShloMosaic.Lib.Pipeline.ValueKit.Geometry
public import Idealize.ShloMosaic.Lib.WordCmp
public import Idealize.ShloMosaic.Lib.KernelVsHost

/-!
# The causal convolution of a channel

A channel is a sequence of 4096 numbers. `back s` moves it `s` places back and fills the front with zeros, `fore s` moves it
forth and fills the end. The kernel writes both as a rotation under a mask, the reference as a concatenation with zeros and
as a slice padded with zeros. At the end stand the gradients of a head: its channels are convolved, pass a SiLU and are
normalised together.
-/

@[expose] public section

noncomputable section

namespace Cert.Conv

open Idealize.ShloMosaic

/-- A channel moved `s` places back. -/
def back (s : ℕ) (x : Fin 4096 → EReal) (i : Fin 4096) : EReal := if s ≤ i.val then x ⟨i.val - s, by omega⟩ else 0
/-- A channel moved `s` places forth. -/
def fore (s : ℕ) (x : Fin 4096 → EReal) (i : Fin 4096) : EReal := if h : i.val + s < 4096 then x ⟨i.val + s, h⟩ else 0

/-- The convolution. -/
def conv (x : Fin 4096 → EReal) (w : Fin 8 → EReal) (i : Fin 4096) : EReal :=
  w 0 * back 3 x i + w 1 * back 2 x i + w 2 * back 1 x i + w 3 * x i
/-- The gradient of the channel, from the gradient of the convolution. -/
def dx (g : Fin 4096 → EReal) (w : Fin 8 → EReal) (i : Fin 4096) : EReal :=
  w 0 * fore 3 g i + w 1 * fore 2 g i + w 2 * fore 1 g i + w 3 * g i
/-- The gradient of the weights: the last four take no part. -/
def dw (g x : Fin 4096 → EReal) (k : Fin 8) : EReal :=
  if k.val = 0 then ∑ i, g i * back 3 x i
  else if k.val = 1 then ∑ i, g i * back 2 x i
  else if k.val = 2 then ∑ i, g i * back 1 x i
  else if k.val = 3 then ∑ i, g i * x i
  else 0
/-- The gradient of `t` through `silu t`. -/
def dsilu (t d : EReal) : EReal := d * Ideal.logistic t + t * d * (Ideal.logistic t * (1 - Ideal.logistic t))

theorem fore_mul (s : ℕ) (g : Fin 4096 → EReal) (w : EReal) (i : Fin 4096) : fore s (fun i => g i * w) i = w * fore s g i := by
  unfold fore
  split
  · exact mul_comm _ _
  · exact (mul_zero _).symm

variable {n : ℕ}

/-- The shape of 4096 numbers in each of `n` channels. -/
abbrev Sh (n : ℕ) : Shape := ⟨2, ![4096, n]⟩

def backV (s : ℕ) (x : FVec Ideal (Sh n) .f32) : FVec Ideal (Sh n) .f32 := fun y => back s (fun i => x (ix2 i (y 1))) (y 0)
def foreV (s : ℕ) (x : FVec Ideal (Sh n) .f32) : FVec Ideal (Sh n) .f32 := fun y => fore s (fun i => x (ix2 i (y 1))) (y 0)

theorem backV_apply (s : ℕ) (x : FVec Ideal (Sh n) .f32) (i : Fin 4096) (j : Fin n) : backV s x (ix2 i j) = back s (fun i => x (ix2 i j)) i := rfl
theorem foreV_apply (s : ℕ) (x : FVec Ideal (Sh n) .f32) (i : Fin 4096) (j : Fin n) : foreV s x (ix2 i j) = fore s (fun i => x (ix2 i j)) i := rfl

/-- The kernel's move back: a rotation, and zeros where it wraps round. -/
theorem rot_back (s : ℕ) (hs : s < 4096) (x : FVec Ideal (Sh n) .f32) (hi) (hr) :
    select (cmpi .sge (iota .tc (Sh n) 32 [0] hi) (broadcast (Sh n) (BitVec.ofNat 32 s))) (dynamicRotate 0 (BitVec.ofNat 32 s) none x hr)
      (broadcast (Sh n) (Scalar.ofBits .f32 0x00000000#32 : Ideal .f32)) = backV s x := by
  funext y
  obtain ⟨i, j, rfl⟩ : ∃ (i : Fin 4096) (j : Fin n), y = ix2 i j := ⟨y 0, y 1, eq_ix2 y⟩
  have hi' := i.isLt
  rw [backV_apply, WordCmp.select_at, cmpi_apply, iota_apply]
  show Scalar.select (IntOp.cmpi .sge (BitVec.ofNat 32 _) (BitVec.ofNat 32 s)) _ (Scalar.ofBits .f32 0x00000000#32 : Ideal .f32) = _
  have e : List.foldl (fun k a => k * (Sh n).size a + ((ix2 i j : (Sh n).Idx) a).val) 0 [0] = i.val := by
    show 0 * 4096 + i.val = i.val
    omega
  rw [e, WordCmp.cmpi_sge_ofNat (by omega) (by omega), WordCmp.select_ofBool]
  unfold back
  by_cases h : s ≤ i.val
  · rw [if_pos (decide_eq_true h), if_pos h]
    refine dynamicRotate_apply 0 _ x hr _ (ix2 ⟨i.val - s, by omega⟩ j) fun b => ?_
    fin_cases b
    · rw [if_pos (by rfl)]
      show i.val - s = (i.val + 4096 - (BitVec.ofNat 32 s).toNat % 4096) % 4096
      rw [BitVec.toNat_ofNat, Nat.mod_eq_of_lt (show s < 2 ^ 32 by omega)]
      omega
    · rfl
  · rw [if_neg (by simpa using h), if_neg h]
    pointwise

/-- The kernel's move forth. -/
theorem rot_fore (r : ℕ) (h0 : 0 < r) (hs : r < 4096) (x : FVec Ideal (Sh n) .f32) (hi) (hr) :
    select (cmpi .slt (iota .tc (Sh n) 32 [0] hi) (broadcast (Sh n) (BitVec.ofNat 32 r))) (dynamicRotate 0 (BitVec.ofNat 32 r) none x hr)
      (broadcast (Sh n) (Scalar.ofBits .f32 0x00000000#32 : Ideal .f32)) = foreV (4096 - r) x := by
  funext y
  obtain ⟨i, j, rfl⟩ : ∃ (i : Fin 4096) (j : Fin n), y = ix2 i j := ⟨y 0, y 1, eq_ix2 y⟩
  have hi' := i.isLt
  rw [foreV_apply, WordCmp.select_at, cmpi_apply, iota_apply]
  show Scalar.select (IntOp.cmpi .slt (BitVec.ofNat 32 _) (BitVec.ofNat 32 r)) _ (Scalar.ofBits .f32 0x00000000#32 : Ideal .f32) = _
  have e : List.foldl (fun k a => k * (Sh n).size a + ((ix2 i j : (Sh n).Idx) a).val) 0 [0] = i.val := by
    show 0 * 4096 + i.val = i.val
    omega
  rw [e, WordCmp.cmpi_slt_ofNat (by omega) (by omega), WordCmp.select_ofBool]
  unfold fore
  by_cases h : i.val < r
  · have h' : i.val + (4096 - r) < 4096 := by omega
    rw [if_pos (decide_eq_true h), dif_pos h']
    refine dynamicRotate_apply 0 _ x hr _ (ix2 ⟨i.val + (4096 - r), h'⟩ j) fun b => ?_
    fin_cases b
    · rw [if_pos (by rfl)]
      show i.val + (4096 - r) = (i.val + 4096 - (BitVec.ofNat 32 r).toNat % 4096) % 4096
      rw [BitVec.toNat_ofNat, Nat.mod_eq_of_lt (show r < 2 ^ 32 by omega)]
      omega
    · rfl
  · have h' : ¬ i.val + (4096 - r) < 4096 := by omega
    rw [if_neg (by simpa using h), dif_neg h']
    pointwise

/-- The reference's move back: zeros, then the front of the channel. -/
theorem cat_back (s r : ℕ) (hsr : s + r = 4096) (x : FVec Ideal (Sh n) .f32) (hb) (hx) (hc) :
    concatenate (Sh n) 0 [⟨⟨2, ![s, n]⟩, broadcastInDim ⟨2, ![s, n]⟩ ![] hb (constant ⟨0, ![]⟩ .f32 0x00000000#32 : FVec Ideal ⟨0, ![]⟩ .f32)⟩,
      ⟨⟨2, ![r, n]⟩, extractStridedSlice ⟨2, ![r, n]⟩ ![0, 0] x hx⟩] hc = backV s x := by
  funext y
  obtain ⟨i, j, rfl⟩ : ∃ (i : Fin 4096) (j : Fin n), y = ix2 i j := ⟨y 0, y 1, eq_ix2 y⟩
  rw [backV_apply]
  unfold back
  by_cases h : s ≤ i.val
  · rw [if_pos h]
    refine (concatenate_pair_apply_right (t := Sh n) (s₁ := ⟨2, ![s, n]⟩) (s₂ := ⟨2, ![r, n]⟩) 0 _ _ hc (ix2 i j) rfl rfl (ix2 ⟨i.val - s, by omega⟩ j) (fun b hb => ?_) ?_).trans ?_
    · fin_cases b
      · exact absurd rfl hb
      · rfl
    · show i.val - s + s = i.val
      omega
    · refine congrArg x (funext fun a => Fin.ext ?_)
      fin_cases a
      · show 0 + (i.val - s) = i.val - s
        omega
      · show 0 + j.val = j.val
        omega
  · rw [if_neg h]
    refine (concatenate_pair_apply_left (t := Sh n) (s₁ := ⟨2, ![s, n]⟩) (s₂ := ⟨2, ![r, n]⟩) 0 _ _ hc (ix2 i j) rfl (ix2 ⟨i.val, by omega⟩ j) (fun b => by fin_cases b <;> rfl)).trans ?_
    pointwise

/-- The reference's move forth: the end of the channel, then zeros. -/
theorem pad_fore (s r : ℕ) (hsr : s + r = 4096) (x : FVec Ideal (Sh n) .f32) (hx) (hp) (hu) :
    pad (s := ⟨2, ![r, n]⟩) (Sh n) ![0, 0] ![s, 0] ![0, 0] (extractStridedSlice ⟨2, ![r, n]⟩ ![s, 0] x hx)
      (constant ⟨0, ![]⟩ .f32 0x00000000#32 : FVec Ideal ⟨0, ![]⟩ .f32) hp hu = foreV s x := by
  funext y
  obtain ⟨i, j, rfl⟩ : ∃ (i : Fin 4096) (j : Fin n), y = ix2 i j := ⟨y 0, y 1, eq_ix2 y⟩
  rw [foreV_apply]
  unfold fore
  by_cases h : i.val + s < 4096
  · rw [dif_pos h]
    refine (pad_apply_of_inside _ _ _ _ _ hp hu (ix2 i j) (ix2 ⟨i.val, by omega⟩ j) fun a => ?_).trans ?_
    · fin_cases a <;> simp [ix2]
    · refine congrArg x (funext fun a => Fin.ext ?_)
      fin_cases a
      · show s + (i.val) = i.val + s
        omega
      · show 0 + j.val = j.val
        omega
  · rw [dif_neg h]
    refine (pad_apply_of_not_inside _ _ _ _ _ hp hu (ix2 i j) 0 ?_).trans ?_
    · rintro ⟨-, -, h3⟩
      have h3 : (i.val - 0) / (0 + 1) < r := h3
      omega
    · pointwise

/-- A row padded to eight rows. -/
theorem pad_row (k : ℕ) (r : ℕ) (v : FVec Ideal ⟨2, ![1, n]⟩ .f32) (hp) (hu) (i : Fin 8) (j : Fin n) :
    pad (s := ⟨2, ![1, n]⟩) ⟨2, ![8, n]⟩ ![k, 0] ![r, 0] ![0, 0] v (constant ⟨0, ![]⟩ .f32 0x00000000#32 : FVec Ideal ⟨0, ![]⟩ .f32) hp hu (ix2 i j)
      = if i.val = k then v (ix2 0 j) else (0 : EReal) := by
  by_cases h : i.val = k
  · rw [if_pos h]
    refine pad_apply_of_inside _ _ _ _ _ hp hu (ix2 i j) (ix2 0 j) fun a => ?_
    fin_cases a <;> simp [ix2, h]
  · rw [if_neg h]
    refine (pad_apply_of_not_inside _ _ _ _ _ hp hu (ix2 i j) 0 ?_).trans ?_
    · rintro ⟨h1, -, h3⟩
      have h1 : k ≤ i.val := h1
      have h3 : (i.val - k) / (0 + 1) < 1 := h3
      omega
    · pointwise

/-! ## The two gradients, as the reference writes them -/

/-- The gradient of the channels: four products, three of them moved forth. -/
theorem dx_read (g W0 W1 W2 W3 : FVec Ideal (Sh n) .f32) (w : Fin n → Fin 8 → EReal)
    (h0 : ∀ i j, W0 (ix2 i j) = w j 0) (h1 : ∀ i j, W1 (ix2 i j) = w j 1) (h2 : ∀ i j, W2 (ix2 i j) = w j 2) (h3 : ∀ i j, W3 (ix2 i j) = w j 3)
    (hx1 hp1 hx2 hp2 hx3 hp3 hu) (i : Fin 4096) (j : Fin n) :
    (addf (addf (addf (mulf g W3)
      (pad (s := ⟨2, ![4095, n]⟩) (Sh n) ![0, 0] ![1, 0] ![0, 0] (extractStridedSlice ⟨2, ![4095, n]⟩ ![1, 0] (mulf g W2) hx1) (constant ⟨0, ![]⟩ .f32 0x00000000#32 : FVec Ideal ⟨0, ![]⟩ .f32) hp1 hu))
      (pad (s := ⟨2, ![4094, n]⟩) (Sh n) ![0, 0] ![2, 0] ![0, 0] (extractStridedSlice ⟨2, ![4094, n]⟩ ![2, 0] (mulf g W1) hx2) (constant ⟨0, ![]⟩ .f32 0x00000000#32 : FVec Ideal ⟨0, ![]⟩ .f32) hp2 hu))
      (pad (s := ⟨2, ![4093, n]⟩) (Sh n) ![0, 0] ![3, 0] ![0, 0] (extractStridedSlice ⟨2, ![4093, n]⟩ ![3, 0] (mulf g W0) hx3) (constant ⟨0, ![]⟩ .f32 0x00000000#32 : FVec Ideal ⟨0, ![]⟩ .f32) hp3 hu)
      : FVec Ideal (Sh n) .f32) (ix2 i j) = dx (fun i => g (ix2 i j)) (w j) i := by
  rw [pad_fore 1 4095 rfl, pad_fore 2 4094 rfl, pad_fore 3 4093 rfl]
  pointwise [foreV_apply, h0, h1, h2, h3]
  rw [fore_mul, fore_mul, fore_mul, mul_comm (g (ix2 i j) : EReal)]
  unfold dx
  abel

/-- The gradient of the weights: four sums over the tokens, each padded to its row. -/
theorem dw_read (g x X1 X2 X3 : FVec Ideal (Sh n) .f32) (h1 : X1 = backV 1 x) (h2 : X2 = backV 2 x) (h3 : X3 = backV 3 x)
    (S : FVec Ideal (Sh n) .f32 → FVec Ideal ⟨2, ![1, n]⟩ .f32) (hS : ∀ v j, S v (ix2 0 j) = ∑ i : Fin 4096, (v (ix2 i j) : EReal))
    (hp0 hp1 hp2 hp3 hu) (i : Fin 8) (j : Fin n) :
    (addf (addf (addf
      (pad (s := ⟨2, ![1, n]⟩) ⟨2, ![8, n]⟩ ![3, 0] ![4, 0] ![0, 0] (S (mulf x g)) (constant ⟨0, ![]⟩ .f32 0x00000000#32 : FVec Ideal ⟨0, ![]⟩ .f32) hp3 hu)
      (pad (s := ⟨2, ![1, n]⟩) ⟨2, ![8, n]⟩ ![2, 0] ![5, 0] ![0, 0] (S (mulf X1 g)) (constant ⟨0, ![]⟩ .f32 0x00000000#32 : FVec Ideal ⟨0, ![]⟩ .f32) hp2 hu))
      (pad (s := ⟨2, ![1, n]⟩) ⟨2, ![8, n]⟩ ![1, 0] ![6, 0] ![0, 0] (S (mulf X2 g)) (constant ⟨0, ![]⟩ .f32 0x00000000#32 : FVec Ideal ⟨0, ![]⟩ .f32) hp1 hu))
      (pad (s := ⟨2, ![1, n]⟩) ⟨2, ![8, n]⟩ ![0, 0] ![7, 0] ![0, 0] (S (mulf X3 g)) (constant ⟨0, ![]⟩ .f32 0x00000000#32 : FVec Ideal ⟨0, ![]⟩ .f32) hp0 hu)
      : FVec Ideal ⟨2, ![8, n]⟩ .f32) (ix2 i j) = dw (fun i => g (ix2 i j)) (fun i => x (ix2 i j)) i := by
  subst h1 h2 h3
  rw [addf_apply, addf_apply, addf_apply, pad_row, pad_row, pad_row, pad_row, hS, hS, hS, hS]
  pointwise [backV_apply]
  unfold dw
  have e : ∀ b : Fin 4096 → EReal, (∑ i, b i * (g (ix2 i j) : EReal)) = ∑ i, (g (ix2 i j) : EReal) * b i := fun b => Finset.sum_congr rfl fun _ _ => mul_comm _ _
  simp only [e]
  fin_cases i <;> simp

/-! ## A head of 128 channels, normalised after the SiLU -/

/-- The square norm of a head with the programs' epsilon. -/
def nn (t : Fin 128 → EReal) : EReal := (∑ e, t e * t e) + Ideal.ofBits .f32 0x358637BD#32
/-- The gradient of each square. -/
def sq (t d : Fin 128 → EReal) : EReal := (∑ e, t e * d e) * (Ideal.ofBits .f32 0xBF000000#32 * Ideal.div (Ideal.rsqrt (nn t)) (nn t))
/-- The gradient of the head, from the gradient `d` of the normalised head. -/
def dl (t d : Fin 128 → EReal) (e : Fin 128) : EReal := d e * Ideal.rsqrt (nn t) + t e * sq t d + sq t d * t e

/-- A channel by its head and its place in the head. -/
def ch (h : Fin 8) (e : Fin 128) : Fin 1024 := ⟨128 * h.val + e.val, by omega⟩
def hd (j : Fin 1024) : Fin 8 := ⟨j.val / 128, by omega⟩
def en (j : Fin 1024) : Fin 128 := ⟨j.val % 128, by omega⟩

theorem ch_hd_en (j : Fin 1024) : ch (hd j) (en j) = j := Fin.ext (Nat.div_add_mod _ _)
theorem hd_ch (h : Fin 8) (e : Fin 128) : hd (ch h e) = h := Fin.ext (by show (128 * h.val + e.val) / 128 = h.val; omega)
theorem en_ch (h : Fin 8) (e : Fin 128) : en (ch h e) = e := Fin.ext (by show (128 * h.val + e.val) % 128 = e.val; omega)

/-- The gradient of the convolution of a channel `e` of a head. -/
def gh (x : Fin 4096 → Fin 128 → EReal) (w : Fin 8 → Fin 128 → EReal) (d : Fin 4096 → Fin 128 → EReal) (e : Fin 128) (i : Fin 4096) : EReal :=
  let cv := fun e => conv (fun i => x i e) (fun k => w k e) i
  dsilu (cv e) (dl (fun e => cv e * Ideal.logistic (cv e)) (d i) e)

/-- The gradients of whole arrays of eight heads. -/
def gA (x d : FVec Ideal (Sh 1024) .f32) (w : FVec Ideal ⟨2, ![8, 1024]⟩ .f32) (j : Fin 1024) : Fin 4096 → EReal :=
  gh (fun i e => x (ix2 i (ch (hd j) e))) (fun k e => w (ix2 k (ch (hd j) e))) (fun i e => d (ix2 i (ch (hd j) e))) (en j)

theorem gA_ch (x d : FVec Ideal (Sh 1024) .f32) (w : FVec Ideal ⟨2, ![8, 1024]⟩ .f32) (h : Fin 8) (e : Fin 128) :
    gA x d w (ch h e) = gh (fun i e => x (ix2 i (ch h e))) (fun k e => w (ix2 k (ch h e))) (fun i e => d (ix2 i (ch h e))) e := by
  unfold gA
  rw [hd_ch, en_ch]

def resX (x d : FVec Ideal (Sh 1024) .f32) (w : FVec Ideal ⟨2, ![8, 1024]⟩ .f32) : FVec Ideal (Sh 1024) .f32 :=
  fun y => dx (gA x d w (y 1)) (fun k => w (ix2 k (y 1))) (y 0)
def resW (x d : FVec Ideal (Sh 1024) .f32) (w : FVec Ideal ⟨2, ![8, 1024]⟩ .f32) : FVec Ideal ⟨2, ![8, 1024]⟩ .f32 :=
  fun y => dw (gA x d w (y 1)) (fun i => x (ix2 i (y 1))) (y 0)

end Cert.Conv

end
-- ==== Proof.ConvB.lean ====
module

public import proofs.«01_k».proof.Defs
public import proofs.«01_k».proof.Proof.Gen.Kernel17Ideal.Value
public import proofs.«01_k».proof.Proof.Conv
public import Idealize.ShloMosaic.Lib.Pointwise
public import Idealize.ShloMosaic.Lib.Pipeline.ValueKit.Geometry
public import Idealize.ShloMosaic.Lib.Pipeline.ValueKit.Tiles
public import Idealize.ShloMosaic.Lib.Quiescent

/-!
# A point of the convolution's backward kernel

A point takes the 128 channels of one head. The convolution, its SiLU and the head's norm are made again; then the gradient
goes back through the three, for the head's input and for its weights.
-/

@[expose] public section

noncomputable section

namespace Cert.ConvB

open Idealize.ShloMosaic Idealize.ShloMosaic.TcCoe Idealize.SL.Sem
open Cert.Conv

open Cert.Kernel17Ideal Cert.Kernel17Ideal.Gen

theorem hz : (![0, 0] : Fin 2 → Nat) = fun _ => 0 := funext fun a => by fin_cases a <;> rfl

variable (x0 : Vec Ideal S4096x128 .f32) (x1 : Vec Ideal S8x128 .f32)

/-- A row of the weights. -/
theorem ldrow (k : Fin 8) (inb) (j : Fin 128) : View.ld x1 (Rect.unit (s := S8x128) ![k.val, 0] S1x128.size inb) (ix2 0 j) = x1 (ix2 k j) :=
  View.ld_unit_apply_of (S := S8x128) x1 _ _ inb (ix2 0 j) (ix2 k j) fun a => by
    fin_cases a
    · rfl
    · exact (Nat.zero_add _).symm

/-- The convolution of a point. -/
def kcv : FVec Ideal S4096x128 .f32 := k0_pay3 (View.ld x0 r0_0) (View.ld x1 r0_1) (View.ld x1 r0_2) (View.ld x1 r0_3) (View.ld x1 r0_4)
def ksg : FVec Ideal S4096x128 .f32 := logistic (kcv x0 x1)

theorem kcv_apply (i : Fin 4096) (j : Fin 128) : kcv x0 x1 (ix2 i j) = conv (fun i => x0 (ix2 i j)) (fun k => x1 (ix2 k j)) i := by
  unfold kcv k0_pay3 conv
  dsimp only
  simp only [View.ld_unit_zero (S := S4096x128) hz]
  rw [rot_back 3 (by decide), rot_back 2 (by decide), rot_back 1 (by decide)]
  pointwise [backV_apply, ldrow x1 0, ldrow x1 1, ldrow x1 2, ldrow x1 3]

theorem ksg_apply (i : Fin 4096) (j : Fin 128) : ksg x0 x1 (ix2 i j) = Ideal.logistic (conv (fun i => x0 (ix2 i j)) (fun k => x1 (ix2 k j)) i) := by
  unfold ksg
  pointwise [kcv_apply]

/-- The gradient of the convolution, from the gradient `d` of the normalised heads. -/
def kg (d : FVec Ideal S4096x128 .f32) : FVec Ideal S4096x128 .f32 :=
  k0_pay6 (kcv x0 x1) (ksg x0 x1) (mulf (ksg x0 x1) (subf (broadcast S4096x128 (Scalar.ofBits .f32 0x3F800000#32)) (ksg x0 x1))) d

theorem kg_apply (d : FVec Ideal S4096x128 .f32) (i : Fin 4096) (j : Fin 128) :
    kg x0 x1 d (ix2 i j) = gh (fun i e => x0 (ix2 i e)) (fun k e => x1 (ix2 k e)) (fun i e => d (ix2 i e)) j i := by
  unfold kg k0_pay6 gh dsilu dl Cert.Conv.sq nn
  dsimp only
  pointwise [kcv_apply, ksg_apply]
  simp only [Finset.univ_unique, Finset.sum_singleton]

/-- A point's gradient of the input, from the gradient `v` of the convolution. -/
def kfore (r : ℕ) (v : FVec Ideal S4096x128 .f32) : FVec Ideal S4096x128 .f32 :=
  select (cmpi .slt (iota .tc S4096x128 32 [0] iota_S4096x128_d0_w32) (broadcast S4096x128 (BitVec.ofNat 32 r))) (dynamicRotate 0 (BitVec.ofNat 32 r) none v rotates_S4096x128_d0) (broadcast S4096x128 (Scalar.ofBits .f32 0x00000000#32))

def krow (v : FVec Ideal S1x128 .f32) : FVec Ideal S4096x128 .f32 := broadcastTo S4096x128 v broadcasts_S1x128_S4096x128

def kdx (v : FVec Ideal S4096x128 .f32) : FVec Ideal S4096x128 .f32 :=
  addf (addf (addf (addf (broadcast S4096x128 (Scalar.ofBits .f32 0x00000000#32)) (mulf (krow (View.ld x1 r0_1)) (kfore 4093 v))) (mulf (krow (View.ld x1 r0_2)) (kfore 4094 v))) (mulf (krow (View.ld x1 r0_3)) (kfore 4095 v))) (mulf (krow (View.ld x1 r0_4)) v)

/-- A point's gradient of the weights. -/
def kback (r : ℕ) (v : FVec Ideal S4096x128 .f32) : FVec Ideal S4096x128 .f32 :=
  select (cmpi .sge (iota .tc S4096x128 32 [0] iota_S4096x128_d0_w32) (broadcast S4096x128 (BitVec.ofNat 32 r))) (dynamicRotate 0 (BitVec.ofNat 32 r) none v rotates_S4096x128_d0) (broadcast S4096x128 (Scalar.ofBits .f32 0x00000000#32))

def ksum (v : FVec Ideal S4096x128 .f32) : FVec Ideal S1x128 .f32 :=
  shapeCast S1x128 (multiReduction .add [0] S128 v 0x00000000#32 reduces_S4096x128_S128 (.inl rfl) rfl) shapeCasts_S128_S1x128

def kdw (v : FVec Ideal S4096x128 .f32) : FVec Ideal S8x128 .f32 :=
  concatenate S8x128 0 [⟨S1x128, ksum (mulf v (kback 3 (View.ld x0 r0_0)))⟩, ⟨S1x128, ksum (mulf v (kback 2 (View.ld x0 r0_0)))⟩, ⟨S1x128, ksum (mulf v (kback 1 (View.ld x0 r0_0)))⟩, ⟨S1x128, ksum (mulf v (View.ld x0 r0_0))⟩, ⟨S4x128, broadcast S4x128 (Scalar.ofBits .f32 0x00000000#32)⟩] concatenates_S1x128_S1x128_S1x128_S1x128_S4x128_S8x128_d0

theorem kdx_apply (v : FVec Ideal S4096x128 .f32) (i : Fin 4096) (j : Fin 128) : kdx x1 v (ix2 i j) = dx (fun i => v (ix2 i j)) (fun k => x1 (ix2 k j)) i := by
  unfold kdx krow dx
  rw [show kfore 4093 v = foreV 3 v from rot_fore 4093 (by decide) (by decide) v _ _, show kfore 4094 v = foreV 2 v from rot_fore 4094 (by decide) (by decide) v _ _,
    show kfore 4095 v = foreV 1 v from rot_fore 4095 (by decide) (by decide) v _ _]
  pointwise [foreV_apply, ldrow x1 0, ldrow x1 1, ldrow x1 2, ldrow x1 3]

theorem kback_apply (r : ℕ) (h : r < 4096) (v : FVec Ideal S4096x128 .f32) (i : Fin 4096) (j : Fin 128) : kback r v (ix2 i j) = back r (fun i => v (ix2 i j)) i := by
  rw [show kback r v = backV r v from rot_back r h v _ _, backV_apply]

theorem kdw_apply (v : FVec Ideal S4096x128 .f32) (i : Fin 8) (j : Fin 128) : kdw x0 v (ix2 i j) = dw (fun i => v (ix2 i j)) (fun i => x0 (ix2 i j)) i := by
  unfold kdw ksum dw
  simp only [View.ld_unit_zero (S := S4096x128) hz]
  fin_cases i <;> pointwise [kback_apply 3 (by decide), kback_apply 2 (by decide), kback_apply 1 (by decide)]

end Cert.ConvB

end
-- ==== Proof.ConvR.lean ====
module

public import proofs.«01_k».proof.Defs
public import proofs.«01_k».proof.Proof.Gen.Reference17Ideal
public import proofs.«01_k».proof.Proof.Conv
public import Idealize.ShloMosaic.Lib.Pointwise
public import Idealize.ShloMosaic.Lib.Pipeline.ValueKit.Geometry
public import Idealize.ShloMosaic.Lib.Pipeline.ValueKit.Tiles
public import Idealize.ShloMosaic.Lib.Quiescent

/-!
# The reference of a convolution with normalised heads

The reference's terms for the convolution, the SiLU, the norm of the heads and the gradients through them, on whole arrays;
each is read at an entry.
-/

@[expose] public section

noncomputable section

namespace Cert.ConvR

open Idealize.ShloMosaic Idealize.ShloMosaic.TcCoe Idealize.SL.Sem
open Cert.Conv

open Cert.Reference17Ideal Cert.Reference17Ideal.Gen

variable (x d : FVec Ideal S4096x1024 .f32) (w : FVec Ideal S8x1024 .f32)

def one : FVec Ideal S4096x1024 .f32 := broadcastInDim S4096x1024 ![] bcast_S_S4096x1024 (constant S_ .f32 0x3F800000#32)
/-- The weights spread over the tokens. -/
def w0 : FVec Ideal S4096x1024 .f32 := broadcastInDim S4096x1024 ![0, 1] bcast_S1x1024_S4096x1024_0_1 (broadcastInDim S1x1024 ![1] bcast_S1024_S1x1024_1 (shapeCast _ (extractStridedSlice S1x1024 ![0, 0] w slices_S8x1024_S1x1024_0_0) shapeCasts_S1x1024_S1024))
def w1 : FVec Ideal S4096x1024 .f32 := broadcastInDim S4096x1024 ![0, 1] bcast_S1x1024_S4096x1024_0_1 (broadcastInDim S1x1024 ![1] bcast_S1024_S1x1024_1 (shapeCast _ (extractStridedSlice S1x1024 ![1, 0] w slices_S8x1024_S1x1024_1_0) shapeCasts_S1x1024_S1024))
def w2 : FVec Ideal S4096x1024 .f32 := broadcastInDim S4096x1024 ![0, 1] bcast_S1x1024_S4096x1024_0_1 (broadcastInDim S1x1024 ![1] bcast_S1024_S1x1024_1 (shapeCast _ (extractStridedSlice S1x1024 ![2, 0] w slices_S8x1024_S1x1024_2_0) shapeCasts_S1x1024_S1024))
def w3 : FVec Ideal S4096x1024 .f32 := broadcastInDim S4096x1024 ![0, 1] bcast_S1x1024_S4096x1024_0_1 (broadcastInDim S1x1024 ![1] bcast_S1024_S1x1024_1 (shapeCast _ (extractStridedSlice S1x1024 ![3, 0] w slices_S8x1024_S1x1024_3_0) shapeCasts_S1x1024_S1024))

theorem w0_apply (i : Fin 4096) (j : Fin 1024) : w0 w (ix2 i j) = w (ix2 0 j) := by unfold w0; pointwise
theorem w1_apply (i : Fin 4096) (j : Fin 1024) : w1 w (ix2 i j) = w (ix2 1 j) := by unfold w1; pointwise
theorem w2_apply (i : Fin 4096) (j : Fin 1024) : w2 w (ix2 i j) = w (ix2 2 j) := by unfold w2; pointwise
theorem w3_apply (i : Fin 4096) (j : Fin 1024) : w3 w (ix2 i j) = w (ix2 3 j) := by unfold w3; pointwise

/-- The channels moved back. -/
def x3 : FVec Ideal S4096x1024 .f32 := concatenate S4096x1024 0 [⟨S3x1024, broadcastInDim S3x1024 ![] bcast_S_S3x1024 (constant S_ .f32 0x00000000#32)⟩, ⟨S4093x1024, extractStridedSlice S4093x1024 ![0, 0] x slices_S4096x1024_S4093x1024_0_0⟩] concatenates_S3x1024_S4093x1024_S4096x1024_d0
def x2 : FVec Ideal S4096x1024 .f32 := concatenate S4096x1024 0 [⟨S2x1024, broadcastInDim S2x1024 ![] bcast_S_S2x1024 (constant S_ .f32 0x00000000#32)⟩, ⟨S4094x1024, extractStridedSlice S4094x1024 ![0, 0] x slices_S4096x1024_S4094x1024_0_0⟩] concatenates_S2x1024_S4094x1024_S4096x1024_d0
def x1 : FVec Ideal S4096x1024 .f32 := concatenate S4096x1024 0 [⟨S1x1024, broadcastInDim S1x1024 ![] bcast_S_S1x1024 (constant S_ .f32 0x00000000#32)⟩, ⟨S4095x1024, extractStridedSlice S4095x1024 ![0, 0] x slices_S4096x1024_S4095x1024_0_0⟩] concatenates_S1x1024_S4095x1024_S4096x1024_d0

theorem x3_eq : x3 x = backV 3 x := cat_back 3 4093 rfl x _ _ _
theorem x2_eq : x2 x = backV 2 x := cat_back 2 4094 rfl x _ _ _
theorem x1_eq : x1 x = backV 1 x := cat_back 1 4095 rfl x _ _ _

/-- The convolution and the sigmoid of it. -/
def cv : FVec Ideal S4096x1024 .f32 := addf (addf (addf (mulf (x3 x) (w0 w)) (mulf (x2 x) (w1 w))) (mulf (x1 x) (w2 w))) (mulf x (w3 w))
def sv : FVec Ideal S4096x1024 .f32 := Host.divf one (addf one (Host.exp (Host.negf (cv x w))))

/-- The convolution after its SiLU, by heads. -/
def tv : FVec Ideal S4096x8x128 .f32 := shapeCast _ (mulf (cv x w) (sv x w)) shapeCasts_S4096x1024_S4096x8x128

/-- The gradient through the norm of the heads `t`, from the gradient `u` of the normalised heads. -/
def nv (t : FVec Ideal S4096x8x128 .f32) : FVec Ideal S4096x8x1 .f32 :=
  addf (broadcastInDim S4096x8x1 ![0, 1] bcast_S4096x8_S4096x8x1_0_1 (Host.reduceAdd (mulf t t) (constant S_ .f32 0x00000000#32) reducesTo_S4096x8x128_S4096x8_d2 h_S_)) (broadcastInDim S4096x8x1 ![] bcast_S_S4096x8x1 (constant S_ .f32 0x358637BD#32))
def qv (t u : FVec Ideal S4096x8x128 .f32) : FVec Ideal S4096x8x128 .f32 :=
  broadcastInDim S4096x8x128 ![0, 1] bcast_S4096x8_S4096x8x128_0_1 (Host.reduceAdd (mulf (shapeCast _ (Host.reduceAdd (mulf t u) (constant S_ .f32 0x00000000#32) reducesTo_S4096x8x128_S4096x8_d2 h_S_) shapeCasts_S4096x8_S4096x8x1) (mulf (broadcastInDim S4096x8x1 ![] bcast_S_S4096x8x1 (constant S_ .f32 0xBF000000#32)) (Host.divf (Host.rsqrt (nv t)) (nv t)))) (constant S_ .f32 0x00000000#32) reducesTo_S4096x8x1_S4096x8_d2 h_S_)
def lv (t u : FVec Ideal S4096x8x128 .f32) : FVec Ideal S4096x8x128 .f32 :=
  addf (addf (mulf u (broadcastInDim S4096x8x128 ![0, 1, 2] bcast_S4096x8x1_S4096x8x128_0_1_2 (Host.rsqrt (nv t)))) (mulf t (qv t u))) (mulf (qv t u) t)

/-- The gradient of the SiLU's output, and of the convolution. -/
def dv : FVec Ideal S4096x1024 .f32 := shapeCast _ (lv (tv x w) (shapeCast _ d shapeCasts_S4096x1024_S4096x8x128)) shapeCasts_S4096x8x128_S4096x1024
def gv : FVec Ideal S4096x1024 .f32 := addf (mulf (dv x d w) (sv x w)) (mulf (mulf (cv x w) (dv x d w)) (mulf (sv x w) (subf one (sv x w))))

theorem cv_apply (i : Fin 4096) (j : Fin 1024) : cv x w (ix2 i j) = conv (fun i => x (ix2 i j)) (fun k => w (ix2 k j)) i := by
  unfold cv conv
  rw [x3_eq, x2_eq, x1_eq]
  pointwise [w0_apply, w1_apply, w2_apply, w3_apply, backV_apply]
  simp only [mul_comm]

theorem sv_apply (i : Fin 4096) (j : Fin 1024) : sv x w (ix2 i j) = Ideal.logistic (conv (fun i => x (ix2 i j)) (fun k => w (ix2 k j)) i) := by
  unfold sv one
  pointwise [cv_apply]
  rfl

theorem nv_apply (t : FVec Ideal S4096x8x128 .f32) (i : Fin 4096) (h : Fin 8) : nv t (ix3 i h 0) = nn fun e => t (ix3 i h e) := by
  unfold nv nn
  pointwise

theorem qv_apply (t u : FVec Ideal S4096x8x128 .f32) (i : Fin 4096) (h : Fin 8) (e : Fin 128) :
    qv t u (ix3 i h e) = sq (fun e => t (ix3 i h e)) fun e => u (ix3 i h e) := by
  unfold qv Cert.Conv.sq
  pointwise [nv_apply]
  simp only [Finset.univ_unique, Finset.sum_singleton]
  rw [show nv t (ix3 i h default) = _ from nv_apply t i h]

theorem lv_apply (t u : FVec Ideal S4096x8x128 .f32) (i : Fin 4096) (h : Fin 8) (e : Fin 128) :
    lv t u (ix3 i h e) = dl (fun e => t (ix3 i h e)) (fun e => u (ix3 i h e)) e := by
  unfold lv dl
  pointwise [nv_apply, qv_apply]

theorem split_apply (v : FVec Ideal S4096x1024 .f32) (p) (i : Fin 4096) (h : Fin 8) (e : Fin 128) :
    shapeCast S4096x8x128 v p (ix3 i h e) = v (ix2 i (ch h e)) := by
  refine shapeCast_apply v p _ _ ?_
  rw [Shape.rowMajor_val_two, Shape.rowMajor_val_three]
  show i.val * 1024 + (128 * h.val + e.val) = (i.val * 8 + h.val) * 128 + e.val
  omega

theorem merge_apply (v : FVec Ideal S4096x8x128 .f32) (p) (i : Fin 4096) (j : Fin 1024) :
    shapeCast S4096x1024 v p (ix2 i j) = v (ix3 i (hd j) (en j)) := by
  refine shapeCast_apply v p _ _ ?_
  rw [Shape.rowMajor_val_two, Shape.rowMajor_val_three]
  show (i.val * 8 + j.val / 128) * 128 + j.val % 128 = i.val * 1024 + j.val
  omega

theorem dv_apply (i : Fin 4096) (j : Fin 1024) :
    dv x d w (ix2 i j) = dl (fun e => mulf (cv x w) (sv x w) (ix2 i (ch (hd j) e))) (fun e => d (ix2 i (ch (hd j) e))) (en j) := by
  unfold dv tv
  rw [merge_apply, lv_apply]
  simp only [split_apply]

theorem gv_apply (i : Fin 4096) (j : Fin 1024) : gv x d w (ix2 i j) = gA x d w j i := by
  unfold gv gA gh dsilu one
  pointwise [dv_apply, cv_apply, sv_apply]
  simp only [ch_hd_en]

/-- The two results. -/
def dxv : FVec Ideal S4096x1024 .f32 :=
  addf (addf (addf (mulf (gv x d w) (w3 w))
    (pad S4096x1024 ![0, 0] ![1, 0] ![0, 0] (extractStridedSlice S4095x1024 ![1, 0] (mulf (gv x d w) (w2 w)) slices_S4096x1024_S4095x1024_1_0) (constant S_ .f32 0x00000000#32) pads_S4095x1024_S4096x1024_010_000 h_S_))
    (pad S4096x1024 ![0, 0] ![2, 0] ![0, 0] (extractStridedSlice S4094x1024 ![2, 0] (mulf (gv x d w) (w1 w)) slices_S4096x1024_S4094x1024_2_0) (constant S_ .f32 0x00000000#32) pads_S4094x1024_S4096x1024_020_000 h_S_))
    (pad S4096x1024 ![0, 0] ![3, 0] ![0, 0] (extractStridedSlice S4093x1024 ![3, 0] (mulf (gv x d w) (w0 w)) slices_S4096x1024_S4093x1024_3_0) (constant S_ .f32 0x00000000#32) pads_S4093x1024_S4096x1024_030_000 h_S_)

def sumv (v : FVec Ideal S4096x1024 .f32) : FVec Ideal S1x1024 .f32 :=
  broadcastInDim S1x1024 ![1] bcast_S1024_S1x1024_1 (Host.reduceAdd (shapeCast _ (Host.reduceAdd v (constant S_ .f32 0x00000000#32) reducesTo_S4096x1024_S1024_d0 h_S_) shapeCasts_S1024_S1x1024) (constant S_ .f32 0x00000000#32) reducesTo_S1x1024_S1024_d0 h_S_)

def dwv : FVec Ideal S8x1024 .f32 :=
  addf (addf (addf (pad S8x1024 ![3, 0] ![4, 0] ![0, 0] (sumv (mulf x (gv x d w))) (constant S_ .f32 0x00000000#32) pads_S1x1024_S8x1024_340_000 h_S_)
    (pad S8x1024 ![2, 0] ![5, 0] ![0, 0] (sumv (mulf (x1 x) (gv x d w))) (constant S_ .f32 0x00000000#32) pads_S1x1024_S8x1024_250_000 h_S_))
    (pad S8x1024 ![1, 0] ![6, 0] ![0, 0] (sumv (mulf (x2 x) (gv x d w))) (constant S_ .f32 0x00000000#32) pads_S1x1024_S8x1024_160_000 h_S_))
    (pad S8x1024 ![0, 0] ![7, 0] ![0, 0] (sumv (mulf (x3 x) (gv x d w))) (constant S_ .f32 0x00000000#32) pads_S1x1024_S8x1024_070_000 h_S_)

theorem dxv_eq : dxv x d w = resX x d w := by
  funext y
  obtain ⟨i, j, rfl⟩ : ∃ (i : Fin 4096) (j : Fin 1024), y = ix2 i j := ⟨y 0, y 1, eq_ix2 y⟩
  refine (dx_read (gv x d w) (w0 w) (w1 w) (w2 w) (w3 w) (fun j k => w (ix2 k j)) (w0_apply w) (w1_apply w) (w2_apply w) (w3_apply w) _ _ _ _ _ _ _ i j).trans ?_
  simp only [gv_apply]
  rfl

theorem sumv_apply (v : FVec Ideal S4096x1024 .f32) (j : Fin 1024) : sumv v (ix2 0 j) = ∑ i : Fin 4096, (v (ix2 i j) : EReal) := by
  unfold sumv
  pointwise
  simp only [Finset.univ_unique, Finset.sum_singleton]

theorem dwv_eq : dwv x d w = resW x d w := by
  funext y
  obtain ⟨i, j, rfl⟩ : ∃ (i : Fin 8) (j : Fin 1024), y = ix2 i j := ⟨y 0, y 1, eq_ix2 y⟩
  refine (dw_read (gv x d w) x (x1 x) (x2 x) (x3 x) (x1_eq x) (x2_eq x) (x3_eq x) sumv sumv_apply _ _ _ _ _ i j).trans ?_
  simp only [gv_apply]
  rfl

end Cert.ConvR

end
-- ==== Proof.ConvK.lean ====
module

public import proofs.«01_k».proof.Defs
public import proofs.«01_k».proof.Proof.Gen.Kernel17Ideal.Value
public import proofs.«01_k».proof.Proof.Gen.Reference17Ideal.Run
public import proofs.«01_k».proof.Proof.ConvB
public import proofs.«01_k».proof.Proof.ConvR

/-!
# The gradient of the keys' convolution

The kernel's points cover the eight heads; the reference names its shared terms, and the last one is read in `ConvR`.
-/

@[expose] public section

noncomputable section

namespace Cert.ConvK

open Idealize.ShloMosaic Idealize.ShloMosaic.TcCoe Idealize.SL.Sem
open Cert.Conv Cert.ConvB

/-! ## The kernel -/

section Kernel
open Cert.Kernel17Ideal Cert.Kernel17Ideal.Gen

variable (m : (ℓ : Loc nD τ sig) → Buf (Elt Ideal) ℓ) (c : Dev nD)

theorem ei0 : ∀ t : Fin cfg0.N, win0_0.index t = ![0, t.val] := (by decide +kernel : ∀ t : Fin grid0.N, _)
theorem ei1 : ∀ t : Fin cfg0.N, win0_1.index t = ![0, t.val] := (by decide +kernel : ∀ t : Fin grid0.N, _)
theorem ei2 : ∀ t : Fin cfg0.N, win0_2.index t = ![0, t.val] := (by decide +kernel : ∀ t : Fin grid0.N, _)
theorem ei3 : ∀ t : Fin cfg0.N, win0_3.index t = ![0, t.val] := (by decide +kernel : ∀ t : Fin grid0.N, _)
theorem ei4 : ∀ t : Fin cfg0.N, win0_4.index t = ![0, t.val] := (by decide +kernel : ∀ t : Fin grid0.N, _)

/-- A point's head, and its channels in the arrays. -/
def hh (t : Fin cfg0.N) : Fin 8 := ⟨t.val, by have := t.isLt; have : cfg0.N = 8 := N_0; omega⟩
def col (t : Fin cfg0.N) (j : Fin 128) : Fin 1024 := ch (hh t) j

/-- The blocks a point reads, in the arrays. -/
theorem b0 (t : Fin cfg0.N) (i : Fin 4096) (k : Fin 128) : (iblk m c 0 t : Vec Ideal S4096x128 .f32) (ix2 i k) = m ((c.tc : Thread nD τ).loc main_arg0) (ix2 i (col t k)) := by
  blk_simp [iblk, ei0]
  refine congrArg (m ((c.tc : Thread nD τ).loc main_arg0)) ?_
  blk_ext [ei0, col, ch, hh]

theorem b1 (t : Fin cfg0.N) (i : Fin 8) (k : Fin 128) : (iblk m c 1 t : Vec Ideal S8x128 .f32) (ix2 i k) = m ((c.tc : Thread nD τ).loc main_arg1) (ix2 i (col t k)) := by
  blk_simp [iblk, ei1]
  refine congrArg (m ((c.tc : Thread nD τ).loc main_arg1)) ?_
  blk_ext [ei1, col, ch, hh]

theorem b2 (t : Fin cfg0.N) (i : Fin 4096) (k : Fin 128) : (iblk m c 2 t : Vec Ideal S4096x128 .f32) (ix2 i k) = m ((c.tc : Thread nD τ).loc main_arg2) (ix2 i (col t k)) := by
  blk_simp [iblk, ei2]
  refine congrArg (m ((c.tc : Thread nD τ).loc main_arg2)) ?_
  blk_ext [ei2, col, ch, hh]

variable (x0 : Vec Ideal S4096x128 .f32) (x1 : Vec Ideal S8x128 .f32) (x2 : Vec Ideal S4096x128 .f32)

/-- What a point computes, read at an entry. -/
theorem pay_apply3 (i : Fin 4096) (j : Fin 128) :
    out0_3 (F := Ideal) x0 x1 x2 (ix2 i j)
      = dx (gh (fun i e => x0 (ix2 i e)) (fun k e => x1 (ix2 k e)) (fun i e => x2 (ix2 i e)) j) (fun k => x1 (ix2 k j)) i := by
  have e : out0_3 (F := Ideal) x0 x1 x2 = kdx x1 (kg x0 x1 (View.ld x2 Cert.Kernel17Ideal.Gen.r0_0)) := by
    unfold out0_3
    rw [View.canon_unit_zero (S := S4096x128) hz]
    rfl
  rw [e, kdx_apply, View.ld_unit_zero (S := S4096x128) hz]
  simp only [kg_apply]

theorem pay_apply4 (i : Fin 8) (j : Fin 128) :
    out0_4 (F := Ideal) x0 x1 x2 (ix2 i j)
      = dw (gh (fun i e => x0 (ix2 i e)) (fun k e => x1 (ix2 k e)) (fun i e => x2 (ix2 i e)) j) (fun i => x0 (ix2 i j)) i := by
  have e : out0_4 (F := Ideal) x0 x1 x2 = kdw x0 (kg x0 x1 (View.ld x2 Cert.Kernel17Ideal.Gen.r0_0)) := by
    unfold out0_4
    rw [View.canon_unit_zero (S := S8x128) hz]
    rfl
  rw [e, kdw_apply, View.ld_unit_zero (S := S4096x128) hz]
  simp only [kg_apply]

/-- The array after the run. -/
theorem final3 : (dats m 0 c).arrAt 3 cfg0.N = resX (m ((c.tc : Thread nD τ).loc main_arg0)) (m ((c.tc : Thread nD τ).loc main_arg2)) (m ((c.tc : Thread nD τ).loc main_arg1)) := by
  refine (dats m 0 c).arrAt_eq_of_covers 3 _ (by decide +kernel) fun t hf y => ?_
  blk_simp
  rw [after0_3]
  obtain ⟨i, j, rfl⟩ : ∃ (i : Fin 4096) (j : Fin 128), y = ix2 i j := ⟨y 0, y 1, eq_ix2 y⟩
  have e : (win0_3.blk t).view.emb (ix2 i j) = ix2 i (col t j) := by blk_ext [ei3, col, ch, hh]
  rw [e]
  refine (pay_apply3 _ _ _ i j).trans ?_
  simp only [b0, b1, b2]
  show _ = dx (gA _ _ _ (ch (hh t) j)) _ i
  rw [gA_ch]
  rfl

/-- The array after the run. -/
theorem final4 : (dats m 0 c).arrAt 4 cfg0.N = resW (m ((c.tc : Thread nD τ).loc main_arg0)) (m ((c.tc : Thread nD τ).loc main_arg2)) (m ((c.tc : Thread nD τ).loc main_arg1)) := by
  refine (dats m 0 c).arrAt_eq_of_covers 4 _ (by decide +kernel) fun t hf y => ?_
  blk_simp
  rw [after0_4]
  obtain ⟨i, j, rfl⟩ : ∃ (i : Fin 8) (j : Fin 128), y = ix2 i j := ⟨y 0, y 1, eq_ix2 y⟩
  have e : (win0_4.blk t).view.emb (ix2 i j) = ix2 i (col t j) := by blk_ext [ei4, col, ch, hh]
  rw [e]
  refine (pay_apply4 _ _ _ i j).trans ?_
  simp only [b0, b1, b2]
  show _ = dw (gA _ _ _ (ch (hh t) j)) _ i
  rw [gA_ch]
  rfl

end Kernel

/-- The reference runs, leaves its arguments and no semaphore counted up. -/
theorem frame_ref : @Cert.quiescent_Reference17Ideal Cert.Reference17Ideal.Gen.facts := fun m ρ _ =>
  (θ_run Cert.Reference17Ideal.defs _ _).mono (fun r h => ⟨fun c => (h c).2.2, Idealize.ShloMosaic.sem_eq_zero_of_no_sems (by decide) r.2⟩)
    (Cert.Reference17Ideal.Value.run m ρ)

section Reference
open Cert.Reference17Ideal Cert.Reference17Ideal.Gen Cert.Reference17Ideal.Value

variable (V0 : Valuation τ sig (Elt Ideal))

/-- The reference's shared terms. -/
theorem r34 : res_main_v34 (F := Ideal) V0 = ConvR.cv (V0 (Proc.devRef .tc main_arg0)) (V0 (Proc.devRef .tc main_arg1)) := rfl
theorem r35 : res_main_v35_2 (F := Ideal) V0 = ConvR.sv (V0 (Proc.devRef .tc main_arg0)) (V0 (Proc.devRef .tc main_arg1)) := by
  unfold res_main_v35_2
  rw [r34]
  rfl
theorem r36 : res_main_v36 (F := Ideal) V0 = ConvR.tv (V0 (Proc.devRef .tc main_arg0)) (V0 (Proc.devRef .tc main_arg1)) := by
  unfold res_main_v36
  rw [r34, r35]
  rfl
theorem r41 : res_main_v41 (F := Ideal) V0 = ConvR.nv (ConvR.tv (V0 (Proc.devRef .tc main_arg0)) (V0 (Proc.devRef .tc main_arg1))) := by
  unfold res_main_v41
  rw [r36]
  rfl
theorem r42 : res_main_v42 (F := Ideal) V0 = Host.rsqrt (ConvR.nv (ConvR.tv (V0 (Proc.devRef .tc main_arg0)) (V0 (Proc.devRef .tc main_arg1)))) := by
  unfold res_main_v42
  rw [r41]
theorem rq : res_main_v57 (F := Ideal) V0 = ConvR.qv (ConvR.tv (V0 (Proc.devRef .tc main_arg0)) (V0 (Proc.devRef .tc main_arg1))) (res_main_v49 V0) := by
  unfold res_main_v57
  rw [r36, r42, r41]
  rfl
theorem rd : res_main_v62 (F := Ideal) V0 = ConvR.dv (V0 (Proc.devRef .tc main_arg0)) (V0 (Proc.devRef .tc main_arg2)) (V0 (Proc.devRef .tc main_arg1)) := by
  unfold res_main_v62
  rw [r36, r42, rq]
  rfl
theorem rg : res_main_v63 (F := Ideal) V0 = ConvR.gv (V0 (Proc.devRef .tc main_arg0)) (V0 (Proc.devRef .tc main_arg2)) (V0 (Proc.devRef .tc main_arg1)) := by
  unfold res_main_v63
  rw [rd, r35, r34]
  rfl
theorem r2 : res_main_v2 (F := Ideal) V0 = ConvR.x3 (V0 (Proc.devRef .tc main_arg0)) := rfl
theorem r11 : res_main_v11 (F := Ideal) V0 = ConvR.x2 (V0 (Proc.devRef .tc main_arg0)) := rfl
theorem r21 : res_main_v21 (F := Ideal) V0 = ConvR.x1 (V0 (Proc.devRef .tc main_arg0)) := rfl

end Reference

/-- From memories that agree on the arguments, the kernel and the reference end with equal results. -/
theorem algebraic : @Cert.algebraic_Kernel17Ideal_Reference17Ideal Cert.Kernel17Ideal.Gen.facts Cert.Reference17Ideal.Gen.facts := by
  intro m ρ m' ρ' _ hag
  refine ⟨fun c => (Cert.Kernel17Ideal.Gen.dats m 0 c).arrAt 3 Cert.Kernel17Ideal.cfg0.N, fun c => (Cert.Kernel17Ideal.Gen.dats m 0 c).arrAt 4 Cert.Kernel17Ideal.cfg0.N, Cert.Kernel17Ideal.Value.run_blocks m ρ, ?_⟩
  refine (θ_run Cert.Reference17Ideal.defs _ _).mono (fun r h c => ⟨(h c).1.trans ?_, (h c).2.1.trans ?_, (h c).2.2⟩) (Cert.Reference17Ideal.Value.run m' ρ')
  · clear h
    refine Eq.trans ?_ (final3 m c).symm
    rw [← (hag c).1, ← (hag c).2.1, ← (hag c).2.2]
    refine Eq.trans ?_ (ConvR.dxv_eq _ (m' ((c.tc : Thread Cert.Reference17Ideal.nD Cert.Reference17Ideal.τ).loc Cert.Reference17Ideal.main_arg2)) _)
    unfold Cert.Reference17Ideal.Value.res_main_v76 Cert.Reference17Ideal.Value.res_main_v89 Cert.Reference17Ideal.Value.res_main_v102
    rw [rg]
    rfl
  · clear h
    refine Eq.trans ?_ (final4 m c).symm
    rw [← (hag c).1, ← (hag c).2.1, ← (hag c).2.2]
    refine Eq.trans ?_ (ConvR.dwv_eq _ (m' ((c.tc : Thread Cert.Reference17Ideal.nD Cert.Reference17Ideal.τ).loc Cert.Reference17Ideal.main_arg2)) _)
    rw [rg, r2, r11, r21]
    rfl

end Cert.ConvK

end
-- ==== Proof.ConvQ.lean ====
module

public import proofs.«01_k».proof.Defs
public import proofs.«01_k».proof.Proof.Gen.Kernel18Ideal.Value
public import proofs.«01_k».proof.Proof.Gen.Reference18Ideal.Run
public import proofs.«01_k».proof.Proof.ConvB
public import proofs.«01_k».proof.Proof.ConvR

/-!
# The gradient of the queries' convolution

As for the keys, with the gradient of the normalised heads scaled first.
-/

@[expose] public section

noncomputable section

namespace Cert.ConvQ

open Idealize.ShloMosaic Idealize.ShloMosaic.TcCoe Idealize.SL.Sem
open Cert.Conv Cert.ConvB

/-- The gradient of the heads before the scale. -/
def dq (d : FVec Ideal (Sh 1024) .f32) : FVec Ideal (Sh 1024) .f32 := fun y => d y * Ideal.ofBits .f32 0x3DB504F3#32

def scale (d : FVec Ideal Cert.Reference18Ideal.S4096x1024 .f32) : FVec Ideal Cert.Reference18Ideal.S4096x1024 .f32 :=
  mulf d (broadcastInDim Cert.Reference18Ideal.S4096x1024 ![] Cert.Reference18Ideal.Gen.bcast_S_S4096x1024 (constant Cert.Reference18Ideal.S_ .f32 0x3DB504F3#32))

theorem scale_eq (d : FVec Ideal Cert.Reference18Ideal.S4096x1024 .f32) : scale d = dq d := by
  funext y
  obtain ⟨i, j, rfl⟩ : ∃ (i : Fin 4096) (j : Fin 1024), y = ix2 i j := ⟨y 0, y 1, eq_ix2 y⟩
  unfold scale dq
  pointwise

/-! ## The kernel -/

section Kernel
open Cert.Kernel18Ideal Cert.Kernel18Ideal.Gen

variable (m : (ℓ : Loc nD τ sig) → Buf (Elt Ideal) ℓ) (c : Dev nD)

theorem ei0 : ∀ t : Fin cfg0.N, win0_0.index t = ![0, t.val] := (by decide +kernel : ∀ t : Fin grid0.N, _)
theorem ei1 : ∀ t : Fin cfg0.N, win0_1.index t = ![0, t.val] := (by decide +kernel : ∀ t : Fin grid0.N, _)
theorem ei2 : ∀ t : Fin cfg0.N, win0_2.index t = ![0, t.val] := (by decide +kernel : ∀ t : Fin grid0.N, _)
theorem ei3 : ∀ t : Fin cfg0.N, win0_3.index t = ![0, t.val] := (by decide +kernel : ∀ t : Fin grid0.N, _)
theorem ei4 : ∀ t : Fin cfg0.N, win0_4.index t = ![0, t.val] := (by decide +kernel : ∀ t : Fin grid0.N, _)

/-- A point's head, and its channels in the arrays. -/
def hh (t : Fin cfg0.N) : Fin 8 := ⟨t.val, by have := t.isLt; have : cfg0.N = 8 := N_0; omega⟩
def col (t : Fin cfg0.N) (j : Fin 128) : Fin 1024 := ch (hh t) j

/-- The blocks a point reads, in the arrays. -/
theorem b0 (t : Fin cfg0.N) (i : Fin 4096) (k : Fin 128) : (iblk m c 0 t : Vec Ideal S4096x128 .f32) (ix2 i k) = m ((c.tc : Thread nD τ).loc main_arg0) (ix2 i (col t k)) := by
  blk_simp [iblk, ei0]
  refine congrArg (m ((c.tc : Thread nD τ).loc main_arg0)) ?_
  blk_ext [ei0, col, ch, hh]

theorem b1 (t : Fin cfg0.N) (i : Fin 8) (k : Fin 128) : (iblk m c 1 t : Vec Ideal S8x128 .f32) (ix2 i k) = m ((c.tc : Thread nD τ).loc main_arg1) (ix2 i (col t k)) := by
  blk_simp [iblk, ei1]
  refine congrArg (m ((c.tc : Thread nD τ).loc main_arg1)) ?_
  blk_ext [ei1, col, ch, hh]

theorem b2 (t : Fin cfg0.N) (i : Fin 4096) (k : Fin 128) : (iblk m c 2 t : Vec Ideal S4096x128 .f32) (ix2 i k) = m ((c.tc : Thread nD τ).loc main_arg2) (ix2 i (col t k)) := by
  blk_simp [iblk, ei2]
  refine congrArg (m ((c.tc : Thread nD τ).loc main_arg2)) ?_
  blk_ext [ei2, col, ch, hh]

variable (x0 : Vec Ideal S4096x128 .f32) (x1 : Vec Ideal S8x128 .f32) (x2 : Vec Ideal S4096x128 .f32)

/-- What a point computes, read at an entry. -/
theorem pay_apply3 (i : Fin 4096) (j : Fin 128) :
    out0_3 (F := Ideal) x0 x1 x2 (ix2 i j)
      = dx (gh (fun i e => x0 (ix2 i e)) (fun k e => x1 (ix2 k e)) (fun i e => x2 (ix2 i e) * Ideal.ofBits .f32 0x3DB504F3#32) j) (fun k => x1 (ix2 k j)) i := by
  have e : out0_3 (F := Ideal) x0 x1 x2 = kdx x1 (kg x0 x1 (mulf (View.ld x2 r0_0) (broadcast S4096x128 (Scalar.ofBits .f32 0x3DB504F3#32)))) := by
    unfold out0_3
    rw [View.canon_unit_zero (S := S4096x128) hz]
    rfl
  rw [e, kdx_apply, View.ld_unit_zero (S := S4096x128) hz]
  simp only [kg_apply]
  rfl

theorem pay_apply4 (i : Fin 8) (j : Fin 128) :
    out0_4 (F := Ideal) x0 x1 x2 (ix2 i j)
      = dw (gh (fun i e => x0 (ix2 i e)) (fun k e => x1 (ix2 k e)) (fun i e => x2 (ix2 i e) * Ideal.ofBits .f32 0x3DB504F3#32) j) (fun i => x0 (ix2 i j)) i := by
  have e : out0_4 (F := Ideal) x0 x1 x2 = kdw x0 (kg x0 x1 (mulf (View.ld x2 r0_0) (broadcast S4096x128 (Scalar.ofBits .f32 0x3DB504F3#32)))) := by
    unfold out0_4
    rw [View.canon_unit_zero (S := S8x128) hz]
    rfl
  rw [e, kdw_apply, View.ld_unit_zero (S := S4096x128) hz]
  simp only [kg_apply]
  rfl

/-- The array after the run. -/
theorem final3 : (dats m 0 c).arrAt 3 cfg0.N = resX (m ((c.tc : Thread nD τ).loc main_arg0)) (dq (m ((c.tc : Thread nD τ).loc main_arg2))) (m ((c.tc : Thread nD τ).loc main_arg1)) := by
  refine (dats m 0 c).arrAt_eq_of_covers 3 _ (by decide +kernel) fun t hf y => ?_
  blk_simp
  rw [after0_3]
  obtain ⟨i, j, rfl⟩ : ∃ (i : Fin 4096) (j : Fin 128), y = ix2 i j := ⟨y 0, y 1, eq_ix2 y⟩
  have e : (win0_3.blk t).view.emb (ix2 i j) = ix2 i (col t j) := by blk_ext [ei3, col, ch, hh]
  rw [e]
  refine (pay_apply3 _ _ _ i j).trans ?_
  simp only [b0, b1, b2]
  show _ = dx (gA _ _ _ (ch (hh t) j)) _ i
  rw [gA_ch]
  rfl

/-- The array after the run. -/
theorem final4 : (dats m 0 c).arrAt 4 cfg0.N = resW (m ((c.tc : Thread nD τ).loc main_arg0)) (dq (m ((c.tc : Thread nD τ).loc main_arg2))) (m ((c.tc : Thread nD τ).loc main_arg1)) := by
  refine (dats m 0 c).arrAt_eq_of_covers 4 _ (by decide +kernel) fun t hf y => ?_
  blk_simp
  rw [after0_4]
  obtain ⟨i, j, rfl⟩ : ∃ (i : Fin 8) (j : Fin 128), y = ix2 i j := ⟨y 0, y 1, eq_ix2 y⟩
  have e : (win0_4.blk t).view.emb (ix2 i j) = ix2 i (col t j) := by blk_ext [ei4, col, ch, hh]
  rw [e]
  refine (pay_apply4 _ _ _ i j).trans ?_
  simp only [b0, b1, b2]
  show _ = dw (gA _ _ _ (ch (hh t) j)) _ i
  rw [gA_ch]
  rfl

end Kernel

/-- The reference runs, leaves its arguments and no semaphore counted up. -/
theorem frame_ref : @Cert.quiescent_Reference18Ideal Cert.Reference18Ideal.Gen.facts := fun m ρ _ =>
  (θ_run Cert.Reference18Ideal.defs _ _).mono (fun r h => ⟨fun c => (h c).2.2, Idealize.ShloMosaic.sem_eq_zero_of_no_sems (by decide) r.2⟩)
    (Cert.Reference18Ideal.Value.run m ρ)

section Reference
open Cert.Reference18Ideal Cert.Reference18Ideal.Gen Cert.Reference18Ideal.Value

variable (V0 : Valuation τ sig (Elt Ideal))

/-- The reference's shared terms. -/
theorem r34 : res_main_v34 (F := Ideal) V0 = ConvR.cv (V0 (Proc.devRef .tc main_arg0)) (V0 (Proc.devRef .tc main_arg1)) := rfl
theorem r35 : res_main_v35_2 (F := Ideal) V0 = ConvR.sv (V0 (Proc.devRef .tc main_arg0)) (V0 (Proc.devRef .tc main_arg1)) := by
  unfold res_main_v35_2
  rw [r34]
  rfl
theorem r36 : res_main_v36 (F := Ideal) V0 = ConvR.tv (V0 (Proc.devRef .tc main_arg0)) (V0 (Proc.devRef .tc main_arg1)) := by
  unfold res_main_v36
  rw [r34, r35]
  rfl
theorem r41 : res_main_v41 (F := Ideal) V0 = ConvR.nv (ConvR.tv (V0 (Proc.devRef .tc main_arg0)) (V0 (Proc.devRef .tc main_arg1))) := by
  unfold res_main_v41
  rw [r36]
  rfl
theorem r42 : res_main_v42 (F := Ideal) V0 = Host.rsqrt (ConvR.nv (ConvR.tv (V0 (Proc.devRef .tc main_arg0)) (V0 (Proc.devRef .tc main_arg1)))) := by
  unfold res_main_v42
  rw [r41]
theorem rq : res_main_v61 (F := Ideal) V0 = ConvR.qv (ConvR.tv (V0 (Proc.devRef .tc main_arg0)) (V0 (Proc.devRef .tc main_arg1))) (res_main_v53 V0) := by
  unfold res_main_v61
  rw [r36, r42, r41]
  rfl
theorem rd : res_main_v66 (F := Ideal) V0 = ConvR.dv (V0 (Proc.devRef .tc main_arg0)) (scale (V0 (Proc.devRef .tc main_arg2))) (V0 (Proc.devRef .tc main_arg1)) := by
  unfold res_main_v66
  rw [r36, r42, rq]
  rfl
theorem rg : res_main_v67 (F := Ideal) V0 = ConvR.gv (V0 (Proc.devRef .tc main_arg0)) (scale (V0 (Proc.devRef .tc main_arg2))) (V0 (Proc.devRef .tc main_arg1)) := by
  unfold res_main_v67
  rw [rd, r35, r34]
  rfl
theorem r2 : res_main_v2 (F := Ideal) V0 = ConvR.x3 (V0 (Proc.devRef .tc main_arg0)) := rfl
theorem r11 : res_main_v11 (F := Ideal) V0 = ConvR.x2 (V0 (Proc.devRef .tc main_arg0)) := rfl
theorem r21 : res_main_v21 (F := Ideal) V0 = ConvR.x1 (V0 (Proc.devRef .tc main_arg0)) := rfl

end Reference

/-- From memories that agree on the arguments, the kernel and the reference end with equal results. -/
theorem algebraic : @Cert.algebraic_Kernel18Ideal_Reference18Ideal Cert.Kernel18Ideal.Gen.facts Cert.Reference18Ideal.Gen.facts := by
  intro m ρ m' ρ' _ hag
  refine ⟨fun c => (Cert.Kernel18Ideal.Gen.dats m 0 c).arrAt 3 Cert.Kernel18Ideal.cfg0.N, fun c => (Cert.Kernel18Ideal.Gen.dats m 0 c).arrAt 4 Cert.Kernel18Ideal.cfg0.N, Cert.Kernel18Ideal.Value.run_blocks m ρ, ?_⟩
  refine (θ_run Cert.Reference18Ideal.defs _ _).mono (fun r h c => ⟨(h c).1.trans ?_, (h c).2.1.trans ?_, (h c).2.2⟩) (Cert.Reference18Ideal.Value.run m' ρ')
  · clear h
    refine Eq.trans ?_ (final3 m c).symm
    rw [← (hag c).1, ← (hag c).2.1, ← (hag c).2.2]
    refine Eq.trans ?_ ((ConvR.dxv_eq _ (scale (m' ((c.tc : Thread Cert.Reference18Ideal.nD Cert.Reference18Ideal.τ).loc Cert.Reference18Ideal.main_arg2))) _).trans (by rw [scale_eq]))
    unfold Cert.Reference18Ideal.Value.res_main_v80 Cert.Reference18Ideal.Value.res_main_v93 Cert.Reference18Ideal.Value.res_main_v106
    rw [rg]
    rfl
  · clear h
    refine Eq.trans ?_ (final4 m c).symm
    rw [← (hag c).1, ← (hag c).2.1, ← (hag c).2.2]
    refine Eq.trans ?_ ((ConvR.dwv_eq _ (scale (m' ((c.tc : Thread Cert.Reference18Ideal.nD Cert.Reference18Ideal.τ).loc Cert.Reference18Ideal.main_arg2))) _).trans (by rw [scale_eq]))
    rw [rg, r2, r11, r21]
    rfl

end Cert.ConvQ

end
-- ==== Proof.Norm.lean ====
module

public import Idealize.ShloMosaic.PureOps.Ideal
public import Idealize.ShloMosaic.Lib.ValueIdxCore

/-!
# The gradient of a layer norm, row by row

A row `h` of 1024 numbers is divided by the root of its mean square, scaled by `nw` and then by one more than `s`; `g` is
the gradient of the outcome. Also a sum over 4096 tokens, taken in sixteen blocks of 256.
-/

@[expose] public section

noncomputable section

namespace Cert.Norm

open Idealize.ShloMosaic

/-- The mean square, with the small number added. -/
def ms (h : Fin 1024 → EReal) : EReal := Ideal.div (∑ e, h e * h e) (Ideal.ofBits .f32 0x44800000#32) + Ideal.ofBits .f32 0x358637BD#32
def rs (h : Fin 1024 → EReal) : EReal := Ideal.rsqrt (ms h)

/-- The gradient of the scaled row, and of the row before its scaling. -/
def bb (s g : Fin 1024 → EReal) (j : Fin 1024) : EReal := g j * (Ideal.ofBits .f32 0x3F800000#32 + s j)
def cc (nw s g : Fin 1024 → EReal) (j : Fin 1024) : EReal := bb s g j * nw j

/-- The share of the gradient that comes through the mean square. -/
def kk (nw s h g : Fin 1024 → EReal) : EReal :=
  Ideal.div ((∑ e, h e * cc nw s g e) * (Ideal.ofBits .f32 0xBF000000#32 * Ideal.div (rs h) (ms h))) (Ideal.ofBits .f32 0x44800000#32)

/-- The gradient of the row, added to the gradient `p` it has from elsewhere. -/
def dh (nw s h g p : Fin 1024 → EReal) (j : Fin 1024) : EReal := ((p j + cc nw s g j * rs h) + h j * kk nw s h g) + kk nw s h g * h j

/-- A row's terms of the gradients of the weight and of the scale. -/
def tw (s h g : Fin 1024 → EReal) (j : Fin 1024) : EReal := h j * rs h * bb s g j
def ts (nw h g : Fin 1024 → EReal) (j : Fin 1024) : EReal := h j * rs h * nw j * g j

theorem dh_last (nw s h g p : Fin 1024 → EReal) (j : Fin 1024) :
    ((cc nw s g j * rs h + h j * kk nw s h g) + kk nw s h g * h j) + p j = dh nw s h g p j := by
  unfold dh
  rw [add_comm, ← add_assoc, ← add_assoc]

/-- Sixteen points in a row, the first of which stores a part of a sum, and the others of which add theirs to what the
    point before stored: the last one stores the sum. -/
theorem sixteen {N : Nat} (hN : N = 16) (f : Fin 4096 → EReal) (s p : Fin N → EReal)
    (hA : ∀ u : Fin N, u.val % 16 = 0 → s u = p u)
    (hB : ∀ u : Fin N, ¬u.val % 16 = 0 → s u = s ⟨u.val - 1, Nat.lt_of_le_of_lt (Nat.sub_le _ _) u.isLt⟩ + p u)
    (hp : ∀ u : Fin N, p u = ∑ r : Fin 256, f ⟨256 * u.val + r.val, by omega⟩) (t : Fin N) (ht : t.val % 16 = 15) : s t = ∑ k, f k := by
  subst hN
  have key : ∀ (n : ℕ) (h : n < 16), s ⟨n, h⟩ = ∑ q : Fin (n + 1), p ⟨q.val, by omega⟩ := by
    intro n
    induction n with
    | zero => intro h; rw [hA ⟨0, h⟩ rfl, Fin.sum_univ_one]; rfl
    | succ n ih =>
      intro h
      rw [hB ⟨n + 1, h⟩ (by show ¬(n + 1) % 16 = 0; omega), Fin.sum_univ_castSucc]
      exact congrArg (· + p ⟨n + 1, h⟩) (ih (by omega))
  have e : t = ⟨15, by omega⟩ := Fin.ext (show t.val = 15 by have := t.isLt; omega)
  rw [e, key 15, ← (finProdFinEquiv : Fin 16 × Fin 256 ≃ Fin 4096).sum_comp f, Fintype.sum_prod_type]
  exact Finset.sum_congr rfl fun q _ => (hp q).trans (Finset.sum_congr rfl fun r _ => congrArg f (Fin.ext (Nat.add_comm _ _)))

end Cert.Norm

end
-- ==== Proof.NormR.lean ====
module

public import proofs.«01_k».proof.Defs
public import proofs.«01_k».proof.Proof.Gen.Reference19Ideal
public import proofs.«01_k».proof.Proof.Norm
public import Idealize.ShloMosaic.Lib.Pointwise
public import Idealize.ShloMosaic.Lib.Pipeline.ValueKit.Geometry

/-!
# The reference's gradient of a layer norm, read at an entry

The vectors the two references of the norms compute, for rows `h`, their gradient `g`, the gradient `p` the rows have from
elsewhere, the weight `nw` and the scale `s`.
-/

@[expose] public section

noncomputable section

namespace Cert.NormR

open Idealize.ShloMosaic Idealize.ShloMosaic.TcCoe Idealize.SL.Sem
open Cert.Norm

open Cert.Reference19Ideal Cert.Reference19Ideal.Gen

variable (nw s : FVec Ideal S1x1024 .f32) (h g p : FVec Ideal S4096x1024 .f32)

/-- A number for every row, and a row for every row. -/
def col (x : BitVec 32) : FVec Ideal S4096x1 .f32 := broadcastInDim S4096x1 ![] bcast_S_S4096x1 (constant S_ .f32 x)
def wide (v : FVec Ideal S4096x1 .f32) : FVec Ideal S4096x1024 .f32 := broadcastInDim S4096x1024 ![0, 1] bcast_S4096x1_S4096x1024_0_1 v
def tall (v : FVec Ideal S1x1024 .f32) : FVec Ideal S4096x1024 .f32 := broadcastInDim S4096x1024 ![0, 1] bcast_S1x1024_S4096x1024_0_1 v
def rows (v : FVec Ideal S4096x1024 .f32) : FVec Ideal S4096 .f32 := Host.reduceAdd v (constant S_ .f32 0x00000000#32) reducesTo_S4096x1024_S4096_d1 h_S_
def cols (v : FVec Ideal S4096x1024 .f32) : FVec Ideal S1x1024 .f32 :=
  shapeCast _ (Host.reduceAdd v (constant S_ .f32 0x00000000#32) reducesTo_S4096x1024_S1024_d0 h_S_) shapeCasts_S1024_S1x1024
def same (v : FVec Ideal S4096x1024 .f32) : FVec Ideal S4096x1024 .f32 := shapeCast _ v shapeCasts_S4096x1024_S4096x1024

def msv : FVec Ideal S4096x1 .f32 := addf (Host.divf (broadcastInDim S4096x1 ![0] bcast_S4096_S4096x1_0 (rows (mulf h h))) (col 0x44800000#32)) (col 0x358637BD#32)
def rsv : FVec Ideal S4096x1 .f32 := Host.rsqrt (msv h)
def bv : FVec Ideal S4096x1024 .f32 := mulf (same g) (tall (addf (broadcastInDim S1x1024 ![] bcast_S_S1x1024 (constant S_ .f32 0x3F800000#32)) s))
def cv : FVec Ideal S4096x1024 .f32 := mulf (bv s g) (tall nw)
def kv : FVec Ideal S4096x1024 .f32 :=
  broadcastInDim S4096x1024 ![0] bcast_S4096_S4096x1024_0 (Host.reduceAdd (Host.divf (mulf (shapeCast _ (rows (mulf h (cv nw s g))) shapeCasts_S4096_S4096x1) (mulf (col 0xBF000000#32) (Host.divf (rsv h) (msv h)))) (col 0x44800000#32)) (constant S_ .f32 0x00000000#32) reducesTo_S4096x1_S4096_d1 h_S_)

/-- The results: the gradients of the rows, of the weight and of the scale. -/
def dhv : FVec Ideal S4096x1024 .f32 := addf (addf (addf p (mulf (cv nw s g) (wide (rsv h)))) (mulf h (kv nw s h g))) (mulf (kv nw s h g) h)
def twv : FVec Ideal S1x1024 .f32 := cols (mulf (mulf h (wide (rsv h))) (bv s g))
def tsv : FVec Ideal S1x1024 .f32 := cols (mulf (mulf (mulf h (wide (rsv h))) (tall nw)) (same g))

theorem wide_apply (v : FVec Ideal S4096x1 .f32) (i : Fin 4096) (j : Fin 1024) : wide v (ix2 i j) = v (ix2 i 0) := by unfold wide; pointwise
theorem tall_apply (v : FVec Ideal S1x1024 .f32) (i : Fin 4096) (j : Fin 1024) : tall v (ix2 i j) = v (ix2 0 j) := by unfold tall; pointwise
theorem same_eq (v : FVec Ideal S4096x1024 .f32) : same v = v := shapeCast_self _ _
theorem cols_apply (v : FVec Ideal S4096x1024 .f32) (j : Fin 1024) : cols v (ix2 0 j) = ∑ k : Fin 4096, (v (ix2 k j) : EReal) := by unfold cols; pointwise

theorem msv_apply (i : Fin 4096) : msv h (ix2 i 0) = ms fun e => h (ix2 i e) := by
  unfold msv ms rows col
  pointwise

theorem rsv_apply (i : Fin 4096) : rsv h (ix2 i 0) = rs fun e => h (ix2 i e) := by
  unfold rsv rs
  pointwise [msv_apply]

theorem bv_apply (i : Fin 4096) (j : Fin 1024) : bv s g (ix2 i j) = bb (fun e => s (ix2 0 e)) (fun e => g (ix2 i e)) j := by
  unfold bv bb
  rw [same_eq]
  pointwise [tall_apply]

theorem cv_apply (i : Fin 4096) (j : Fin 1024) : cv nw s g (ix2 i j) = cc (fun e => nw (ix2 0 e)) (fun e => s (ix2 0 e)) (fun e => g (ix2 i e)) j := by
  unfold cv cc
  pointwise [tall_apply, bv_apply]

theorem kv_apply (i : Fin 4096) (j : Fin 1024) :
    kv nw s h g (ix2 i j) = kk (fun e => nw (ix2 0 e)) (fun e => s (ix2 0 e)) (fun e => h (ix2 i e)) fun e => g (ix2 i e) := by
  unfold kv kk rows col
  pointwise [cv_apply, rsv_apply, msv_apply]
  simp only [Finset.univ_unique, Finset.sum_singleton]
  rw [show rsv h (ix2 i default) = _ from rsv_apply h i, show msv h (ix2 i default) = _ from msv_apply h i]

theorem dhv_apply (i : Fin 4096) (j : Fin 1024) :
    dhv nw s h g p (ix2 i j) = dh (fun e => nw (ix2 0 e)) (fun e => s (ix2 0 e)) (fun e => h (ix2 i e)) (fun e => g (ix2 i e)) (fun e => p (ix2 i e)) j := by
  unfold dhv dh
  pointwise [cv_apply, kv_apply, wide_apply, rsv_apply]

theorem twv_apply (j : Fin 1024) : twv s h g (ix2 0 j) = ∑ k : Fin 4096, tw (fun e => s (ix2 0 e)) (fun e => h (ix2 k e)) (fun e => g (ix2 k e)) j := by
  unfold twv tw
  rw [cols_apply]
  pointwise [wide_apply, rsv_apply, bv_apply]

theorem tsv_apply (j : Fin 1024) : tsv nw h g (ix2 0 j) = ∑ k : Fin 4096, ts (fun e => nw (ix2 0 e)) (fun e => h (ix2 k e)) (fun e => g (ix2 k e)) j := by
  unfold tsv ts
  rw [cols_apply, same_eq]
  pointwise [wide_apply, tall_apply, rsv_apply]

end Cert.NormR

end
-- ==== Proof.Row19.lean ====
module

public import proofs.«01_k».proof.Defs
public import proofs.«01_k».proof.Proof.Gen.Kernel19Ideal.Value
public import proofs.«01_k».proof.Proof.Gen.Reference19Ideal.Run
public import proofs.«01_k».proof.Proof.NormR

/-!
# The gradient of the first norm

The kernel takes the tokens in sixteen blocks of 256 rows: each point writes the gradient of its rows, and adds the sums
over them to the gradients of the norm's parameters. The reference is the derivative of the norm.
-/

@[expose] public section

noncomputable section

namespace Cert.Row19

open Idealize.ShloMosaic Idealize.ShloMosaic.TcCoe Idealize.SL.Sem
open Cert.Norm

section Kernel
open Cert.Kernel19Ideal Cert.Kernel19Ideal.Gen

theorem hz : (![0, 0] : Fin 2 → Nat) = fun _ => 0 := funext fun a => by fin_cases a <;> rfl

section Point
variable (x0 x6 x7 : Vec Ideal S256x1024 .f32) (x1 x2 x4 : Vec Ideal S1x1024 .f32)

/-- What a point computes: its rows' gradient, and the sums over its rows. -/
def px : FVec Ideal S256x1024 .f32 := k0_pay13 x0 x7 (k0_pay3 x0) (k0_pay4 x0) (k0_pay11 x1 x2 x4 x6) (k0_pay12 x0 x1 x2 x4 x6)
def pw : FVec Ideal S1x1024 .f32 := k0_pay10 x0 x2 x4 x6
def ps : FVec Ideal S1x1024 .f32 := k0_pay8 x0 x1 x6
def ph : FVec Ideal S1x1024 .f32 := k0_pay7 x6

theorem px_apply (i : Fin 256) (j : Fin 1024) :
    px x0 x6 x7 x1 x2 x4 (ix2 i j)
      = dh (fun e => x1 (ix2 0 e)) (fun e => x2 (ix2 0 e) + x4 (ix2 0 e)) (fun e => x0 (ix2 i e)) (fun e => x6 (ix2 i e)) (fun e => x7 (ix2 i e)) j := by
  rw [← dh_last]
  unfold px k0_pay13 k0_pay12 k0_pay11 k0_pay9 k0_pay6 k0_pay4 k0_pay3 k0_pay2 kk cc bb rs ms
  dsimp only
  rw [shapeCast_self]
  pointwise
  simp only [Finset.univ_unique, Finset.sum_singleton]

theorem pw_apply (j : Fin 1024) :
    pw x0 x6 x2 x4 (ix2 0 j) = ∑ r : Fin 256, tw (fun e => x2 (ix2 0 e) + x4 (ix2 0 e)) (fun e => x0 (ix2 r e)) (fun e => x6 (ix2 r e)) j := by
  unfold pw k0_pay10 k0_pay9 k0_pay6 k0_pay5 k0_pay3 k0_pay2 tw bb rs ms
  dsimp only
  rw [shapeCast_self]
  pointwise

theorem ps_apply (j : Fin 1024) :
    ps x0 x6 x1 (ix2 0 j) = ∑ r : Fin 256, ts (fun e => x1 (ix2 0 e)) (fun e => x0 (ix2 r e)) (fun e => x6 (ix2 r e)) j := by
  unfold ps k0_pay8 k0_pay6 k0_pay5 k0_pay3 k0_pay2 ts rs ms
  dsimp only
  rw [shapeCast_self]
  pointwise

theorem ph_apply (j : Fin 1024) : ph x6 (ix2 0 j) = ∑ r : Fin 256, (x6 (ix2 r j) : EReal) := by
  unfold ph k0_pay7
  pointwise

/-- What a point adds to a parameter's gradient, and what the first point adds it to. -/
theorem acc_apply (p x : Vec Ideal S1x1024 .f32) (j : Fin 1024) : k0_pay19 (F := Ideal) p x (ix2 0 j) = (x (ix2 0 j) + p (ix2 0 j) : EReal) := by
  unfold k0_pay19
  rw [shapeCast_self]
  pointwise

theorem first_apply (p : Vec Ideal S1x1024 .f32) (j : Fin 1024) : k0_pay19 (F := Ideal) p (k0_pay14 (F := Ideal)) (ix2 0 j) = p (ix2 0 j) := by
  rw [acc_apply]
  unfold k0_pay14
  pointwise

end Point

variable (m : (ℓ : Loc nD τ sig) → Buf (Elt Ideal) ℓ) (c : Dev nD)

/-- What a point leaves, from the blocks it reads. -/
def cx (t : Fin cfg0.N) : Vec Ideal S256x1024 .f32 := px (iblk m c 0 t) (iblk m c 6 t) (iblk m c 7 t) (iblk m c 1 t) (iblk m c 2 t) (iblk m c 4 t)
def cw (t : Fin cfg0.N) : Vec Ideal S1x1024 .f32 := pw (iblk m c 0 t) (iblk m c 6 t) (iblk m c 2 t) (iblk m c 4 t)
def cs (t : Fin cfg0.N) : Vec Ideal S1x1024 .f32 := ps (iblk m c 0 t) (iblk m c 6 t) (iblk m c 1 t)
def cb (t : Fin cfg0.N) : Vec Ideal S1x1024 .f32 := ph (iblk m c 6 t)

/-- What the first point leaves in the results' blocks. -/
theorem carA (t : Fin cfg0.N) (h : t.val % 16 = 0) :
    outsAt0 m c t.val t.isLt = (cx m c t, k0_pay19 (F := Ideal) (cw m c t) (k0_pay14 (F := Ideal)), k0_pay20 (F := Ideal) (cs m c t) (k0_pay15 (F := Ideal)), k0_pay21 (F := Ideal) (cb m c t) (k0_pay16 (F := Ideal)), k0_pay22 (F := Ideal) (cs m c t) (k0_pay17 (F := Ideal)), k0_pay1 (F := Ideal) (cb m c t) (k0_pay18 (F := Ideal))) := by
  rw [outsAt0_A m c t h]
  refine Prod.ext ?_ (Prod.ext ?_ (Prod.ext ?_ (Prod.ext ?_ (Prod.ext ?_ ?_))))
  · dsimp only; unfold out0_A_8; refine (View.read_writes_eq_canon _ _ _ (by apply cover0_A_8)).trans ?_; unfold kernelRun0_A; dsimp only; sl_unfold_words; rw [View.canon_cons_unit_zero (S := S256x1024) hz]; simp only [View.readCov_unit_zero (S := S1x1024) _ hz, View.readAt_eq_ld, View.ld_unit_zero (S := S1x1024) hz, View.ld_unit_zero (S := S256x1024) hz, (hs0_0 t).read_unread, (hs0_1 t).read_unread, (hs0_2 t).read_unread, (hs0_4 t).read_unread, (hs0_6 t).read_unread, (hs0_7 t).read_unread]; rfl
  · dsimp only; unfold out0_A_9; refine (View.read_writes_eq_canon _ _ _ (by apply cover0_A_9)).trans ?_; unfold kernelRun0_A; dsimp only; sl_unfold_words; rw [View.canon_cons_unit_zero (S := S1x1024) hz]; simp only [View.readCov_unit_zero (S := S1x1024) _ hz, View.readAt_eq_ld, View.ld_unit_zero (S := S1x1024) hz, View.ld_unit_zero (S := S256x1024) hz, (hs0_0 t).read_unread, (hs0_1 t).read_unread, (hs0_2 t).read_unread, (hs0_4 t).read_unread, (hs0_6 t).read_unread, (hs0_7 t).read_unread]; rfl
  · dsimp only; unfold out0_A_10; refine (View.read_writes_eq_canon _ _ _ (by apply cover0_A_10)).trans ?_; unfold kernelRun0_A; dsimp only; sl_unfold_words; rw [View.canon_cons_unit_zero (S := S1x1024) hz]; simp only [View.readCov_unit_zero (S := S1x1024) _ hz, View.readAt_eq_ld, View.ld_unit_zero (S := S1x1024) hz, View.ld_unit_zero (S := S256x1024) hz, (hs0_0 t).read_unread, (hs0_1 t).read_unread, (hs0_2 t).read_unread, (hs0_4 t).read_unread, (hs0_6 t).read_unread, (hs0_7 t).read_unread]; rfl
  · dsimp only; unfold out0_A_11; refine (View.read_writes_eq_canon _ _ _ (by apply cover0_A_11)).trans ?_; unfold kernelRun0_A; dsimp only; sl_unfold_words; rw [View.canon_cons_unit_zero (S := S1x1024) hz]; simp only [View.readCov_unit_zero (S := S1x1024) _ hz, View.readAt_eq_ld, View.ld_unit_zero (S := S1x1024) hz, View.ld_unit_zero (S := S256x1024) hz, (hs0_0 t).read_unread, (hs0_1 t).read_unread, (hs0_2 t).read_unread, (hs0_4 t).read_unread, (hs0_6 t).read_unread, (hs0_7 t).read_unread]; rfl
  · dsimp only; unfold out0_A_12; refine (View.read_writes_eq_canon _ _ _ (by apply cover0_A_12)).trans ?_; unfold kernelRun0_A; dsimp only; sl_unfold_words; rw [View.canon_cons_unit_zero (S := S1x1024) hz]; simp only [View.readCov_unit_zero (S := S1x1024) _ hz, View.readAt_eq_ld, View.ld_unit_zero (S := S1x1024) hz, View.ld_unit_zero (S := S256x1024) hz, (hs0_0 t).read_unread, (hs0_1 t).read_unread, (hs0_2 t).read_unread, (hs0_4 t).read_unread, (hs0_6 t).read_unread, (hs0_7 t).read_unread]; rfl
  · dsimp only; unfold out0_A_13; refine (View.read_writes_eq_canon _ _ _ (by apply cover0_A_13)).trans ?_; unfold kernelRun0_A; dsimp only; sl_unfold_words; rw [View.canon_cons_unit_zero (S := S1x1024) hz]; simp only [View.readCov_unit_zero (S := S1x1024) _ hz, View.readAt_eq_ld, View.ld_unit_zero (S := S1x1024) hz, View.ld_unit_zero (S := S256x1024) hz, (hs0_0 t).read_unread, (hs0_1 t).read_unread, (hs0_2 t).read_unread, (hs0_4 t).read_unread, (hs0_6 t).read_unread, (hs0_7 t).read_unread]; rfl

/-- What a later point leaves in the results' blocks. -/
theorem carB (t : Fin cfg0.N) (h : ¬t.val % 16 = 0) :
    outsAt0 m c t.val t.isLt = (cx m c t, k0_pay19 (F := Ideal) (cw m c t) (outsAt0 m c (t.val - 1) (Nat.lt_of_le_of_lt (Nat.sub_le _ _) t.isLt)).2.1, k0_pay20 (F := Ideal) (cs m c t) (outsAt0 m c (t.val - 1) (Nat.lt_of_le_of_lt (Nat.sub_le _ _) t.isLt)).2.2.1, k0_pay21 (F := Ideal) (cb m c t) (outsAt0 m c (t.val - 1) (Nat.lt_of_le_of_lt (Nat.sub_le _ _) t.isLt)).2.2.2.1, k0_pay22 (F := Ideal) (cs m c t) (outsAt0 m c (t.val - 1) (Nat.lt_of_le_of_lt (Nat.sub_le _ _) t.isLt)).2.2.2.2.1, k0_pay1 (F := Ideal) (cb m c t) (outsAt0 m c (t.val - 1) (Nat.lt_of_le_of_lt (Nat.sub_le _ _) t.isLt)).2.2.2.2.2) := by
  rw [outsAt0_B m c t h]
  refine Prod.ext ?_ (Prod.ext ?_ (Prod.ext ?_ (Prod.ext ?_ (Prod.ext ?_ ?_))))
  · dsimp only; unfold out0_B_8; refine (View.read_writes_eq_canon _ _ _ (by apply cover0_B_8)).trans ?_; unfold kernelRun0_B; dsimp only; sl_unfold_words; rw [View.canon_cons_unit_zero (S := S256x1024) hz]; simp only [View.readAt_eq_ld, View.ld_unit_zero (S := S1x1024) hz, View.ld_unit_zero (S := S256x1024) hz, (hs0_0 t).read_unread, (hs0_1 t).read_unread, (hs0_2 t).read_unread, (hs0_4 t).read_unread, (hs0_6 t).read_unread, (hs0_7 t).read_unread, (hs0_9 t).read_unread, (hs0_10 t).read_unread, (hs0_11 t).read_unread, (hs0_12 t).read_unread, (hs0_13 t).read_unread]; rfl
  · dsimp only; unfold out0_B_9; refine (View.read_writes_eq_canon _ _ _ (by apply cover0_B_9)).trans ?_; unfold kernelRun0_B; dsimp only; sl_unfold_words; rw [View.canon_cons_unit_zero (S := S1x1024) hz]; simp only [View.readAt_eq_ld, View.ld_unit_zero (S := S1x1024) hz, View.ld_unit_zero (S := S256x1024) hz, (hs0_0 t).read_unread, (hs0_1 t).read_unread, (hs0_2 t).read_unread, (hs0_4 t).read_unread, (hs0_6 t).read_unread, (hs0_7 t).read_unread, (hs0_9 t).read_unread, (hs0_10 t).read_unread, (hs0_11 t).read_unread, (hs0_12 t).read_unread, (hs0_13 t).read_unread]; rfl
  · dsimp only; unfold out0_B_10; refine (View.read_writes_eq_canon _ _ _ (by apply cover0_B_10)).trans ?_; unfold kernelRun0_B; dsimp only; sl_unfold_words; rw [View.canon_cons_unit_zero (S := S1x1024) hz]; simp only [View.readAt_eq_ld, View.ld_unit_zero (S := S1x1024) hz, View.ld_unit_zero (S := S256x1024) hz, (hs0_0 t).read_unread, (hs0_1 t).read_unread, (hs0_2 t).read_unread, (hs0_4 t).read_unread, (hs0_6 t).read_unread, (hs0_7 t).read_unread, (hs0_9 t).read_unread, (hs0_10 t).read_unread, (hs0_11 t).read_unread, (hs0_12 t).read_unread, (hs0_13 t).read_unread]; rfl
  · dsimp only; unfold out0_B_11; refine (View.read_writes_eq_canon _ _ _ (by apply cover0_B_11)).trans ?_; unfold kernelRun0_B; dsimp only; sl_unfold_words; rw [View.canon_cons_unit_zero (S := S1x1024) hz]; simp only [View.readAt_eq_ld, View.ld_unit_zero (S := S1x1024) hz, View.ld_unit_zero (S := S256x1024) hz, (hs0_0 t).read_unread, (hs0_1 t).read_unread, (hs0_2 t).read_unread, (hs0_4 t).read_unread, (hs0_6 t).read_unread, (hs0_7 t).read_unread, (hs0_9 t).read_unread, (hs0_10 t).read_unread, (hs0_11 t).read_unread, (hs0_12 t).read_unread, (hs0_13 t).read_unread]; rfl
  · dsimp only; unfold out0_B_12; refine (View.read_writes_eq_canon _ _ _ (by apply cover0_B_12)).trans ?_; unfold kernelRun0_B; dsimp only; sl_unfold_words; rw [View.canon_cons_unit_zero (S := S1x1024) hz]; simp only [View.readAt_eq_ld, View.ld_unit_zero (S := S1x1024) hz, View.ld_unit_zero (S := S256x1024) hz, (hs0_0 t).read_unread, (hs0_1 t).read_unread, (hs0_2 t).read_unread, (hs0_4 t).read_unread, (hs0_6 t).read_unread, (hs0_7 t).read_unread, (hs0_9 t).read_unread, (hs0_10 t).read_unread, (hs0_11 t).read_unread, (hs0_12 t).read_unread, (hs0_13 t).read_unread]; rfl
  · dsimp only; unfold out0_B_13; refine (View.read_writes_eq_canon _ _ _ (by apply cover0_B_13)).trans ?_; unfold kernelRun0_B; dsimp only; sl_unfold_words; rw [View.canon_cons_unit_zero (S := S1x1024) hz]; simp only [View.readAt_eq_ld, View.ld_unit_zero (S := S1x1024) hz, View.ld_unit_zero (S := S256x1024) hz, (hs0_0 t).read_unread, (hs0_1 t).read_unread, (hs0_2 t).read_unread, (hs0_4 t).read_unread, (hs0_6 t).read_unread, (hs0_7 t).read_unread, (hs0_9 t).read_unread, (hs0_10 t).read_unread, (hs0_11 t).read_unread, (hs0_12 t).read_unread, (hs0_13 t).read_unread]; rfl

theorem ei0 : ∀ t : Fin cfg0.N, win0_0.index t = ![t.val, 0] := (by decide +kernel : ∀ t : Fin grid0.N, _)
theorem ei1 : ∀ t : Fin cfg0.N, win0_1.index t = ![0, 0] := (by decide +kernel : ∀ t : Fin grid0.N, _)
theorem ei2 : ∀ t : Fin cfg0.N, win0_2.index t = ![0, 0] := (by decide +kernel : ∀ t : Fin grid0.N, _)
theorem ei4 : ∀ t : Fin cfg0.N, win0_4.index t = ![0, 0] := (by decide +kernel : ∀ t : Fin grid0.N, _)
theorem ei6 : ∀ t : Fin cfg0.N, win0_6.index t = ![t.val, 0] := (by decide +kernel : ∀ t : Fin grid0.N, _)
theorem ei7 : ∀ t : Fin cfg0.N, win0_7.index t = ![t.val, 0] := (by decide +kernel : ∀ t : Fin grid0.N, _)
theorem ei8 : ∀ t : Fin cfg0.N, win0_8.index t = ![t.val, 0] := (by decide +kernel : ∀ t : Fin grid0.N, _)
theorem ei9 : ∀ t : Fin cfg0.N, win0_9.index t = ![0, 0] := (by decide +kernel : ∀ t : Fin grid0.N, _)
theorem ei10 : ∀ t : Fin cfg0.N, win0_10.index t = ![0, 0] := (by decide +kernel : ∀ t : Fin grid0.N, _)
theorem ei11 : ∀ t : Fin cfg0.N, win0_11.index t = ![0, 0] := (by decide +kernel : ∀ t : Fin grid0.N, _)
theorem ei12 : ∀ t : Fin cfg0.N, win0_12.index t = ![0, 0] := (by decide +kernel : ∀ t : Fin grid0.N, _)
theorem ei13 : ∀ t : Fin cfg0.N, win0_13.index t = ![0, 0] := (by decide +kernel : ∀ t : Fin grid0.N, _)

/-- A point's rows in the arrays. -/
def row (t : Fin cfg0.N) (i : Fin 256) : Fin 4096 := ⟨256 * t.val + i.val, by have := t.isLt; have : cfg0.N = 16 := N_0; omega⟩

/-- The arguments, read at an entry. -/
def H (k : Fin 4096) (e : Fin 1024) : EReal := m ((c.tc : Thread nD τ).loc main_arg0) (ix2 k e)
def NW (e : Fin 1024) : EReal := m ((c.tc : Thread nD τ).loc main_arg1) (ix2 0 e)
def S2 (e : Fin 1024) : EReal := m ((c.tc : Thread nD τ).loc main_arg2) (ix2 0 e)
def S4 (e : Fin 1024) : EReal := m ((c.tc : Thread nD τ).loc main_arg4) (ix2 0 e)
def SC (e : Fin 1024) : EReal := S2 m c e + S4 m c e
def G (k : Fin 4096) (e : Fin 1024) : EReal := m ((c.tc : Thread nD τ).loc main_arg6) (ix2 k e)
def P (k : Fin 4096) (e : Fin 1024) : EReal := m ((c.tc : Thread nD τ).loc main_arg7) (ix2 k e)

/-- The blocks a point reads, in the arrays. -/
theorem b0 (t : Fin cfg0.N) (i : Fin 256) (e : Fin 1024) : (iblk m c 0 t : Vec Ideal S256x1024 .f32) (ix2 i e) = m ((c.tc : Thread nD τ).loc main_arg0) (ix2 (row t i) e) := by
  blk_simp [iblk, ei0]
  refine congrArg (m ((c.tc : Thread nD τ).loc main_arg0)) ?_
  blk_ext [ei0, row]

theorem b6 (t : Fin cfg0.N) (i : Fin 256) (e : Fin 1024) : (iblk m c 6 t : Vec Ideal S256x1024 .f32) (ix2 i e) = m ((c.tc : Thread nD τ).loc main_arg6) (ix2 (row t i) e) := by
  blk_simp [iblk, ei6]
  refine congrArg (m ((c.tc : Thread nD τ).loc main_arg6)) ?_
  blk_ext [ei6, row]

theorem b7 (t : Fin cfg0.N) (i : Fin 256) (e : Fin 1024) : (iblk m c 7 t : Vec Ideal S256x1024 .f32) (ix2 i e) = m ((c.tc : Thread nD τ).loc main_arg7) (ix2 (row t i) e) := by
  blk_simp [iblk, ei7]
  refine congrArg (m ((c.tc : Thread nD τ).loc main_arg7)) ?_
  blk_ext [ei7, row]

theorem b1 (t : Fin cfg0.N) (e : Fin 1024) : (iblk m c 1 t : Vec Ideal S1x1024 .f32) (ix2 0 e) = m ((c.tc : Thread nD τ).loc main_arg1) (ix2 0 e) := by
  blk_simp [iblk, ei1]
  refine congrArg (m ((c.tc : Thread nD τ).loc main_arg1)) ?_
  blk_ext [ei1]

theorem b2 (t : Fin cfg0.N) (e : Fin 1024) : (iblk m c 2 t : Vec Ideal S1x1024 .f32) (ix2 0 e) = m ((c.tc : Thread nD τ).loc main_arg2) (ix2 0 e) := by
  blk_simp [iblk, ei2]
  refine congrArg (m ((c.tc : Thread nD τ).loc main_arg2)) ?_
  blk_ext [ei2]

theorem b4 (t : Fin cfg0.N) (e : Fin 1024) : (iblk m c 4 t : Vec Ideal S1x1024 .f32) (ix2 0 e) = m ((c.tc : Thread nD τ).loc main_arg4) (ix2 0 e) := by
  blk_simp [iblk, ei4]
  refine congrArg (m ((c.tc : Thread nD τ).loc main_arg4)) ?_
  blk_ext [ei4]

theorem cx_apply (t : Fin cfg0.N) (i : Fin 256) (j : Fin 1024) :
    cx m c t (ix2 i j) = dh (NW m c) (SC m c) (H m c (row t i)) (G m c (row t i)) (P m c (row t i)) j := by
  refine (px_apply _ _ _ _ _ _ i j).trans ?_
  simp only [b0, b1, b2, b4, b6, b7]
  rfl

theorem cw_apply (t : Fin cfg0.N) (j : Fin 1024) :
    cw m c t (ix2 0 j) = ∑ r : Fin 256, tw (SC m c) (H m c (row t r)) (G m c (row t r)) j := by
  refine (pw_apply _ _ _ _ j).trans ?_
  simp only [b0, b2, b4, b6]
  rfl

theorem cs_apply (t : Fin cfg0.N) (j : Fin 1024) :
    cs m c t (ix2 0 j) = ∑ r : Fin 256, ts (NW m c) (H m c (row t r)) (G m c (row t r)) j := by
  refine (ps_apply _ _ _ j).trans ?_
  simp only [b0, b1, b6]
  rfl

theorem cb_apply (t : Fin cfg0.N) (j : Fin 1024) : cb m c t (ix2 0 j) = ∑ r : Fin 256, G m c (row t r) j := by
  refine (ph_apply _ j).trans ?_
  simp only [b6]
  rfl

/-- A result whose block every point adds to, a point's share being the sum of `f` over its rows. -/
theorem total (f : Fin 4096 → EReal) (s : Fin cfg0.N → Vec Ideal S1x1024 .f32) (p : Fin cfg0.N → Vec Ideal S1x1024 .f32) (j : Fin 1024)
    (hA : ∀ u : Fin cfg0.N, u.val % 16 = 0 → s u = k0_pay19 (F := Ideal) (p u) (k0_pay14 (F := Ideal)))
    (hB : ∀ u : Fin cfg0.N, ¬u.val % 16 = 0 → s u = k0_pay19 (F := Ideal) (p u) (s ⟨u.val - 1, Nat.lt_of_le_of_lt (Nat.sub_le _ _) u.isLt⟩))
    (hp : ∀ u : Fin cfg0.N, p u (ix2 0 j) = ∑ r : Fin 256, f (row u r)) (t : Fin cfg0.N) (ht : t.val % 16 = 15) :
    s t (ix2 0 j) = ∑ k, f k :=
  Norm.sixteen N_0 f (fun u => s u (ix2 0 j)) (fun u => p u (ix2 0 j))
    (fun u h => by show s u (ix2 0 j) = _; rw [hA u h]; exact first_apply _ j) (fun u h => by show s u (ix2 0 j) = _; rw [hB u h]; exact acc_apply _ _ j) hp t ht

/-- The arrays after the run. -/
theorem final8 : (dats m 0 c).arrAt 8 cfg0.N = (fun y : S4096x1024.Idx => dh (NW m c) (SC m c) (H m c (y 0)) (G m c (y 0)) (P m c (y 0)) (y 1)) := by
  refine (dats m 0 c).arrAt_eq_of_covers 8 _ (by decide +kernel) fun t hf y => ?_
  blk_simp
  rw [after0_8]
  obtain ⟨i, j, rfl⟩ : ∃ (i : Fin 256) (j : Fin 1024), y = ix2 i j := ⟨y 0, y 1, eq_ix2 y⟩
  have e : (win0_8.blk t).view.emb (ix2 i j) = ix2 (row t i) j := by blk_ext [ei8, row]
  rw [e]
  refine Eq.trans ?_ (cx_apply m c t i j)
  by_cases h : t.val % 16 = 0
  · exact congrFun (congrArg Prod.fst (carA m c t h)) (ix2 i j)
  · exact congrFun (congrArg Prod.fst (carB m c t h)) (ix2 i j)

theorem final9 : (dats m 0 c).arrAt 9 cfg0.N = (fun y : S1x1024.Idx => ∑ k : Fin 4096, tw (SC m c) (H m c k) (G m c k) (y 1)) := by
  refine (dats m 0 c).arrAt_eq_of_covers 9 _ (by decide +kernel) fun t hf y => ?_
  blk_simp
  rw [after0_9]
  obtain ⟨i, j, rfl⟩ : ∃ (i : Fin 1) (j : Fin 1024), y = ix2 i j := ⟨y 0, y 1, eq_ix2 y⟩
  obtain rfl : i = 0 := Subsingleton.elim _ _
  have e : (win0_9.blk t).view.emb (ix2 0 j) = ix2 0 j := by blk_ext [ei9]
  rw [e]
  exact total (fun k => tw (SC m c) (H m c k) (G m c k) j) (fun u => (outsAt0 m c u.val u.isLt).2.1) (cw m c) j (fun u h => congrArg (·.2.1) (carA m c u h)) (fun u h => congrArg (·.2.1) (carB m c u h))
    (fun u => cw_apply m c u j) t ((flush0_9 t).mp hf)

theorem final10 : (dats m 0 c).arrAt 10 cfg0.N = (fun y : S1x1024.Idx => ∑ k : Fin 4096, ts (NW m c) (H m c k) (G m c k) (y 1)) := by
  refine (dats m 0 c).arrAt_eq_of_covers 10 _ (by decide +kernel) fun t hf y => ?_
  blk_simp
  rw [after0_10]
  obtain ⟨i, j, rfl⟩ : ∃ (i : Fin 1) (j : Fin 1024), y = ix2 i j := ⟨y 0, y 1, eq_ix2 y⟩
  obtain rfl : i = 0 := Subsingleton.elim _ _
  have e : (win0_10.blk t).view.emb (ix2 0 j) = ix2 0 j := by blk_ext [ei10]
  rw [e]
  exact total (fun k => ts (NW m c) (H m c k) (G m c k) j) (fun u => (outsAt0 m c u.val u.isLt).2.2.1) (cs m c) j (fun u h => congrArg (·.2.2.1) (carA m c u h)) (fun u h => congrArg (·.2.2.1) (carB m c u h))
    (fun u => cs_apply m c u j) t ((flush0_10 t).mp hf)

theorem final11 : (dats m 0 c).arrAt 11 cfg0.N = (fun y : S1x1024.Idx => ∑ k : Fin 4096, G m c k (y 1)) := by
  refine (dats m 0 c).arrAt_eq_of_covers 11 _ (by decide +kernel) fun t hf y => ?_
  blk_simp
  rw [after0_11]
  obtain ⟨i, j, rfl⟩ : ∃ (i : Fin 1) (j : Fin 1024), y = ix2 i j := ⟨y 0, y 1, eq_ix2 y⟩
  obtain rfl : i = 0 := Subsingleton.elim _ _
  have e : (win0_11.blk t).view.emb (ix2 0 j) = ix2 0 j := by blk_ext [ei11]
  rw [e]
  exact total (fun k => G m c k j) (fun u => (outsAt0 m c u.val u.isLt).2.2.2.1) (cb m c) j (fun u h => congrArg (·.2.2.2.1) (carA m c u h)) (fun u h => congrArg (·.2.2.2.1) (carB m c u h))
    (fun u => cb_apply m c u j) t ((flush0_11 t).mp hf)

theorem final12 : (dats m 0 c).arrAt 12 cfg0.N = (fun y : S1x1024.Idx => ∑ k : Fin 4096, ts (NW m c) (H m c k) (G m c k) (y 1)) := by
  refine (dats m 0 c).arrAt_eq_of_covers 12 _ (by decide +kernel) fun t hf y => ?_
  blk_simp
  rw [after0_12]
  obtain ⟨i, j, rfl⟩ : ∃ (i : Fin 1) (j : Fin 1024), y = ix2 i j := ⟨y 0, y 1, eq_ix2 y⟩
  obtain rfl : i = 0 := Subsingleton.elim _ _
  have e : (win0_12.blk t).view.emb (ix2 0 j) = ix2 0 j := by blk_ext [ei12]
  rw [e]
  exact total (fun k => ts (NW m c) (H m c k) (G m c k) j) (fun u => (outsAt0 m c u.val u.isLt).2.2.2.2.1) (cs m c) j (fun u h => congrArg (·.2.2.2.2.1) (carA m c u h)) (fun u h => congrArg (·.2.2.2.2.1) (carB m c u h))
    (fun u => cs_apply m c u j) t ((flush0_12 t).mp hf)

theorem final13 : (dats m 0 c).arrAt 13 cfg0.N = (fun y : S1x1024.Idx => ∑ k : Fin 4096, G m c k (y 1)) := by
  refine (dats m 0 c).arrAt_eq_of_covers 13 _ (by decide +kernel) fun t hf y => ?_
  blk_simp
  rw [after0_13]
  obtain ⟨i, j, rfl⟩ : ∃ (i : Fin 1) (j : Fin 1024), y = ix2 i j := ⟨y 0, y 1, eq_ix2 y⟩
  obtain rfl : i = 0 := Subsingleton.elim _ _
  have e : (win0_13.blk t).view.emb (ix2 0 j) = ix2 0 j := by blk_ext [ei13]
  rw [e]
  exact total (fun k => G m c k j) (fun u => (outsAt0 m c u.val u.isLt).2.2.2.2.2) (cb m c) j (fun u h => congrArg (·.2.2.2.2.2) (carA m c u h)) (fun u h => congrArg (·.2.2.2.2.2) (carB m c u h))
    (fun u => cb_apply m c u j) t ((flush0_13 t).mp hf)

end Kernel

/-- The reference runs, leaves its arguments and no semaphore counted up. -/
theorem frame_ref : @Cert.quiescent_Reference19Ideal Cert.Reference19Ideal.Gen.facts := fun m ρ _ =>
  (θ_run Cert.Reference19Ideal.defs _ _).mono (fun r h => ⟨fun c => (h c).2.2.2.2.2.2, Idealize.ShloMosaic.sem_eq_zero_of_no_sems (by decide) r.2⟩)
    (Cert.Reference19Ideal.Value.run m ρ)

section Reference
open Cert.Reference19Ideal Cert.Reference19Ideal.Gen

variable (x g p : FVec Ideal S4096x1024 .f32) (w s b : FVec Ideal S1x1024 .f32)

/-- The reference's results, read over whole arrays. -/
theorem ref0 : NormR.dhv w (addf s b) x g p = (fun y : S4096x1024.Idx => dh (fun e => w (ix2 0 e)) (fun e => addf s b (ix2 0 e)) (fun e => x (ix2 (y 0) e)) (fun e => g (ix2 (y 0) e)) (fun e => p (ix2 (y 0) e)) (y 1)) := by
  funext y
  obtain ⟨i, j, rfl⟩ : ∃ (i : Fin 4096) (j : Fin 1024), y = ix2 i j := ⟨y 0, y 1, eq_ix2 y⟩
  exact NormR.dhv_apply w (addf s b) x g p i j

theorem flat (v : FVec Ideal S1x1024 .f32) (f : Fin 1024 → EReal) (h : ∀ j, v (ix2 0 j) = f j) : v = (fun y : S1x1024.Idx => f (y 1)) := by
  funext y
  obtain ⟨i, j, rfl⟩ : ∃ (i : Fin 1) (j : Fin 1024), y = ix2 i j := ⟨y 0, y 1, eq_ix2 y⟩
  obtain rfl : i = 0 := Subsingleton.elim _ _
  exact h j

end Reference

/-- From memories that agree on the arguments, the kernel and the reference end with equal results. -/
theorem algebraic : @Cert.algebraic_Kernel19Ideal_Reference19Ideal Cert.Kernel19Ideal.Gen.facts Cert.Reference19Ideal.Gen.facts := by
  intro m ρ m' ρ' _ hag
  refine ⟨fun c => (Cert.Kernel19Ideal.Gen.dats m 0 c).arrAt 8 Cert.Kernel19Ideal.cfg0.N, fun c => (Cert.Kernel19Ideal.Gen.dats m 0 c).arrAt 9 Cert.Kernel19Ideal.cfg0.N, fun c => (Cert.Kernel19Ideal.Gen.dats m 0 c).arrAt 10 Cert.Kernel19Ideal.cfg0.N, fun c => (Cert.Kernel19Ideal.Gen.dats m 0 c).arrAt 11 Cert.Kernel19Ideal.cfg0.N, fun c => (Cert.Kernel19Ideal.Gen.dats m 0 c).arrAt 12 Cert.Kernel19Ideal.cfg0.N, fun c => (Cert.Kernel19Ideal.Gen.dats m 0 c).arrAt 13 Cert.Kernel19Ideal.cfg0.N, Cert.Kernel19Ideal.Value.run_blocks m ρ, ?_⟩
  refine (θ_run Cert.Reference19Ideal.defs _ _).mono (fun r h c => ⟨(h c).1.trans ?_, (h c).2.1.trans ?_, (h c).2.2.1.trans ?_, (h c).2.2.2.1.trans ?_, (h c).2.2.2.2.1.trans ?_, (h c).2.2.2.2.2.1.trans ?_, (h c).2.2.2.2.2.2⟩) (Cert.Reference19Ideal.Value.run m' ρ')
  all_goals obtain ⟨h0, h1, h2, h3, h4, h5, h6, h7⟩ := hag c
  all_goals clear h
  · refine Eq.trans ?_ (final8 m c).symm
    unfold H NW SC S2 S4 G P
    rw [← h0, ← h1, ← h2, ← h4, ← h6, ← h7]
    exact ref0 _ _ _ _ _ _
  · refine Eq.trans ?_ (final9 m c).symm
    unfold H SC S2 S4 G
    rw [← h0, ← h2, ← h4, ← h6]
    exact flat _ _ (NormR.twv_apply _ _ _)
  · refine Eq.trans ?_ (final10 m c).symm
    unfold H NW G
    rw [← h0, ← h1, ← h6]
    exact flat _ _ (NormR.tsv_apply _ _ _)
  · refine Eq.trans ?_ (final11 m c).symm
    unfold G
    rw [← h6]
    exact flat _ _ (NormR.cols_apply _)
  · refine Eq.trans ?_ (final12 m c).symm
    unfold H NW G
    rw [← h0, ← h1, ← h6]
    exact flat _ _ (NormR.tsv_apply _ _ _)
  · refine Eq.trans ?_ (final13 m c).symm
    unfold G
    rw [← h6]
    exact flat _ _ (NormR.cols_apply _)

end Cert.Row19

end
-- ==== Proof.Row21.lean ====
module

public import proofs.«01_k».proof.Defs
public import proofs.«01_k».proof.Proof.Gen.Kernel21Ideal.Value
public import proofs.«01_k».proof.Proof.Gen.Reference21Ideal.Run
public import proofs.«01_k».proof.Proof.NormR

/-!
# The gradient of the residual sum and the norm after it

The rows of the norm are a residual sum, `x + (u + v) · o`. As for the first norm, the kernel takes the tokens in sixteen
blocks of 256 rows and adds the sums over them to the gradients of the parameters.
-/

@[expose] public section

noncomputable section

namespace Cert.Row21

open Idealize.ShloMosaic Idealize.ShloMosaic.TcCoe Idealize.SL.Sem
open Cert.Norm

/-- A row of the residual sum. -/
def sum (x o u v : Fin 1024 → EReal) (e : Fin 1024) : EReal := x e + (u e + v e) * o e

section Kernel
open Cert.Kernel21Ideal Cert.Kernel21Ideal.Gen

theorem hz : (![0, 0] : Fin 2 → Nat) = fun _ => 0 := funext fun a => by fin_cases a <;> rfl

section Point
variable (x0 x1 x9 x10 : Vec Ideal S256x1024 .f32) (x2 x3 x4 x5 x7 : Vec Ideal S1x1024 .f32)

/-- What a point computes: the gradients of its rows of the norm's input and of `o`, and the sums over its rows. -/
def px : FVec Ideal S256x1024 .f32 := k0_pay20 x4 x10 (k0_pay8 x0 x1 x2 x3) (k0_pay10 x0 x1 x2 x3) (k0_pay11 x0 x1 x2 x3) (k0_pay13 x5 x7) (k0_pay14 x9)
def po : FVec Ideal S256x1024 .f32 := k0_pay22 x4 x10 (k0_pay7 x2 x3) (k0_pay8 x0 x1 x2 x3) (k0_pay10 x0 x1 x2 x3) (k0_pay11 x0 x1 x2 x3) (k0_pay13 x5 x7) (k0_pay14 x9)
def pg : FVec Ideal S1x1024 .f32 := k0_pay23 x1 x4 x10 (k0_pay8 x0 x1 x2 x3) (k0_pay10 x0 x1 x2 x3) (k0_pay11 x0 x1 x2 x3) (k0_pay13 x5 x7) (k0_pay14 x9)
def pw : FVec Ideal S1x1024 .f32 := k0_pay19 (k0_pay12 x0 x1 x2 x3) (k0_pay13 x5 x7) (k0_pay14 x9)
def ps : FVec Ideal S1x1024 .f32 := k0_pay17 (k0_pay16 x0 x1 x2 x3 x4 x9)
def ph : FVec Ideal S1x1024 .f32 := k0_pay15 x9

theorem h_apply (i : Fin 256) (j : Fin 1024) :
    k0_pay8 x0 x1 x2 x3 (ix2 i j) = sum (fun e => x0 (ix2 i e)) (fun e => x1 (ix2 i e)) (fun e => x2 (ix2 0 e)) (fun e => x3 (ix2 0 e)) j := by
  unfold k0_pay8 k0_pay7 sum
  pointwise

theorem px_apply (i : Fin 256) (j : Fin 1024) :
    px x0 x1 x9 x10 x2 x3 x4 x5 x7 (ix2 i j)
      = dh (fun e => x4 (ix2 0 e)) (fun e => x5 (ix2 0 e) + x7 (ix2 0 e)) (sum (fun e => x0 (ix2 i e)) (fun e => x1 (ix2 i e)) (fun e => x2 (ix2 0 e)) fun e => x3 (ix2 0 e))
          (fun e => x9 (ix2 i e)) (fun e => x10 (ix2 i e)) j := by
  unfold px k0_pay20 k0_pay18 k0_pay14 k0_pay13 k0_pay11 k0_pay10 k0_pay9 dh kk cc bb rs ms
  dsimp only
  rw [shapeCast_self]
  pointwise [h_apply]
  simp only [Finset.univ_unique, Finset.sum_singleton]

theorem po_apply (i : Fin 256) (j : Fin 1024) :
    po x0 x1 x9 x10 x2 x3 x4 x5 x7 (ix2 i j) = (x2 (ix2 0 j) + x3 (ix2 0 j) : EReal) * px x0 x1 x9 x10 x2 x3 x4 x5 x7 (ix2 i j) := by
  have e : po x0 x1 x9 x10 x2 x3 x4 x5 x7 = mulf (broadcastTo S256x1024 (k0_pay7 x2 x3) broadcasts_S1x1024_S256x1024) (shapeCast S256x1024 (px x0 x1 x9 x10 x2 x3 x4 x5 x7) shapeCasts_S256x1024_S256x1024) := rfl
  rw [e, shapeCast_self]
  unfold k0_pay7
  pointwise

theorem pg_apply (j : Fin 1024) :
    pg x0 x1 x9 x10 x2 x3 x4 x5 x7 (ix2 0 j) = ∑ r : Fin 256, (px x0 x1 x9 x10 x2 x3 x4 x5 x7 (ix2 r j) * x1 (ix2 r j) : EReal) := by
  have e : pg x0 x1 x9 x10 x2 x3 x4 x5 x7 = shapeCast S1x1024 (multiReduction .add [0] S1024 (mulf (shapeCast S256x1024 (px x0 x1 x9 x10 x2 x3 x4 x5 x7) shapeCasts_S256x1024_S256x1024) x1) 0x00000000#32 reduces_S256x1024_S1024 (.inl rfl) rfl) shapeCasts_S1024_S1x1024 := rfl
  rw [e, shapeCast_self]
  pointwise

theorem pw_apply (j : Fin 1024) :
    pw x0 x1 x9 x2 x3 x5 x7 (ix2 0 j)
      = ∑ r : Fin 256, tw (fun e => x5 (ix2 0 e) + x7 (ix2 0 e)) (sum (fun e => x0 (ix2 r e)) (fun e => x1 (ix2 r e)) (fun e => x2 (ix2 0 e)) fun e => x3 (ix2 0 e)) (fun e => x9 (ix2 r e)) j := by
  unfold pw k0_pay19 k0_pay18 k0_pay14 k0_pay13 k0_pay12 k0_pay10 k0_pay9 tw bb rs ms
  dsimp only
  rw [shapeCast_self]
  pointwise [h_apply]

theorem ps_apply (j : Fin 1024) :
    ps x0 x1 x9 x2 x3 x4 (ix2 0 j)
      = ∑ r : Fin 256, ts (fun e => x4 (ix2 0 e)) (sum (fun e => x0 (ix2 r e)) (fun e => x1 (ix2 r e)) (fun e => x2 (ix2 0 e)) fun e => x3 (ix2 0 e)) (fun e => x9 (ix2 r e)) j := by
  unfold ps k0_pay17 k0_pay16 k0_pay14 k0_pay12 k0_pay10 k0_pay9 ts rs ms
  dsimp only
  rw [shapeCast_self]
  pointwise [h_apply]

theorem ph_apply (j : Fin 1024) : ph x9 (ix2 0 j) = ∑ r : Fin 256, (x9 (ix2 r j) : EReal) := by
  unfold ph k0_pay15
  pointwise

/-- What a point adds to a parameter's gradient, and what the first point adds it to. -/
theorem acc_apply (p x : Vec Ideal S1x1024 .f32) (j : Fin 1024) : k0_pay1 (F := Ideal) p x (ix2 0 j) = (x (ix2 0 j) + p (ix2 0 j) : EReal) := by
  unfold k0_pay1
  rw [shapeCast_self]
  pointwise

theorem first_apply (p : Vec Ideal S1x1024 .f32) (j : Fin 1024) : k0_pay1 (F := Ideal) p (k0_pay24 (F := Ideal)) (ix2 0 j) = p (ix2 0 j) := by
  rw [acc_apply]
  unfold k0_pay24
  pointwise

end Point

variable (m : (ℓ : Loc nD τ sig) → Buf (Elt Ideal) ℓ) (c : Dev nD)

/-- What a point leaves, from the blocks it reads. -/
def cx (t : Fin cfg0.N) : Vec Ideal S256x1024 .f32 := px (iblk m c 0 t) (iblk m c 1 t) (iblk m c 9 t) (iblk m c 10 t) (iblk m c 2 t) (iblk m c 3 t) (iblk m c 4 t) (iblk m c 5 t) (iblk m c 7 t)
def co (t : Fin cfg0.N) : Vec Ideal S256x1024 .f32 := po (iblk m c 0 t) (iblk m c 1 t) (iblk m c 9 t) (iblk m c 10 t) (iblk m c 2 t) (iblk m c 3 t) (iblk m c 4 t) (iblk m c 5 t) (iblk m c 7 t)
def cg (t : Fin cfg0.N) : Vec Ideal S1x1024 .f32 := pg (iblk m c 0 t) (iblk m c 1 t) (iblk m c 9 t) (iblk m c 10 t) (iblk m c 2 t) (iblk m c 3 t) (iblk m c 4 t) (iblk m c 5 t) (iblk m c 7 t)
def cw (t : Fin cfg0.N) : Vec Ideal S1x1024 .f32 := pw (iblk m c 0 t) (iblk m c 1 t) (iblk m c 9 t) (iblk m c 2 t) (iblk m c 3 t) (iblk m c 5 t) (iblk m c 7 t)
def cs (t : Fin cfg0.N) : Vec Ideal S1x1024 .f32 := ps (iblk m c 0 t) (iblk m c 1 t) (iblk m c 9 t) (iblk m c 2 t) (iblk m c 3 t) (iblk m c 4 t)
def cb (t : Fin cfg0.N) : Vec Ideal S1x1024 .f32 := ph (iblk m c 9 t)

/-- What the first point leaves in the results' blocks. -/
theorem carA (t : Fin cfg0.N) (h : t.val % 16 = 0) :
    outsAt0 m c t.val t.isLt = (cx m c t, co m c t, k0_pay1 (F := Ideal) (cg m c t) (k0_pay24 (F := Ideal)), k0_pay1 (F := Ideal) (cg m c t) (k0_pay25 (F := Ideal)), k0_pay2 (F := Ideal) (cw m c t) (k0_pay26 (F := Ideal)), k0_pay3 (F := Ideal) (cs m c t) (k0_pay27 (F := Ideal)), k0_pay4 (F := Ideal) (cb m c t) (k0_pay28 (F := Ideal)), k0_pay5 (F := Ideal) (cs m c t) (k0_pay29 (F := Ideal)), k0_pay6 (F := Ideal) (cb m c t) (k0_pay30 (F := Ideal))) := by
  rw [outsAt0_A m c t h]
  refine Prod.ext ?_ (Prod.ext ?_ (Prod.ext ?_ (Prod.ext ?_ (Prod.ext ?_ (Prod.ext ?_ (Prod.ext ?_ (Prod.ext ?_ ?_)))))))
  · dsimp only; unfold out0_A_11; refine (View.read_writes_eq_canon _ _ _ (by apply cover0_A_11)).trans ?_; unfold kernelRun0_A; dsimp only; sl_unfold_words; rw [View.canon_cons_unit_zero (S := S256x1024) hz]; simp only [View.readCov_unit_zero (S := S1x1024) _ hz, View.readAt_eq_ld, View.ld_unit_zero (S := S1x1024) hz, View.ld_unit_zero (S := S256x1024) hz, (hs0_0 t).read_unread, (hs0_1 t).read_unread, (hs0_2 t).read_unread, (hs0_3 t).read_unread, (hs0_4 t).read_unread, (hs0_5 t).read_unread, (hs0_7 t).read_unread, (hs0_9 t).read_unread, (hs0_10 t).read_unread]; rfl
  · dsimp only; unfold out0_A_12; refine (View.read_writes_eq_canon _ _ _ (by apply cover0_A_12)).trans ?_; unfold kernelRun0_A; dsimp only; sl_unfold_words; rw [View.canon_cons_unit_zero (S := S256x1024) hz]; simp only [View.readCov_unit_zero (S := S1x1024) _ hz, View.readAt_eq_ld, View.ld_unit_zero (S := S1x1024) hz, View.ld_unit_zero (S := S256x1024) hz, (hs0_0 t).read_unread, (hs0_1 t).read_unread, (hs0_2 t).read_unread, (hs0_3 t).read_unread, (hs0_4 t).read_unread, (hs0_5 t).read_unread, (hs0_7 t).read_unread, (hs0_9 t).read_unread, (hs0_10 t).read_unread]; rfl
  · dsimp only; unfold out0_A_13; refine (View.read_writes_eq_canon _ _ _ (by apply cover0_A_13)).trans ?_; unfold kernelRun0_A; dsimp only; sl_unfold_words; rw [View.canon_cons_unit_zero (S := S1x1024) hz]; simp only [View.readCov_unit_zero (S := S1x1024) _ hz, View.readAt_eq_ld, View.ld_unit_zero (S := S1x1024) hz, View.ld_unit_zero (S := S256x1024) hz, (hs0_0 t).read_unread, (hs0_1 t).read_unread, (hs0_2 t).read_unread, (hs0_3 t).read_unread, (hs0_4 t).read_unread, (hs0_5 t).read_unread, (hs0_7 t).read_unread, (hs0_9 t).read_unread, (hs0_10 t).read_unread]; rfl
  · dsimp only; unfold out0_A_14; refine (View.read_writes_eq_canon _ _ _ (by apply cover0_A_14)).trans ?_; unfold kernelRun0_A; dsimp only; sl_unfold_words; rw [View.canon_cons_unit_zero (S := S1x1024) hz]; simp only [View.readCov_unit_zero (S := S1x1024) _ hz, View.readAt_eq_ld, View.ld_unit_zero (S := S1x1024) hz, View.ld_unit_zero (S := S256x1024) hz, (hs0_0 t).read_unread, (hs0_1 t).read_unread, (hs0_2 t).read_unread, (hs0_3 t).read_unread, (hs0_4 t).read_unread, (hs0_5 t).read_unread, (hs0_7 t).read_unread, (hs0_9 t).read_unread, (hs0_10 t).read_unread]; rfl
  · dsimp only; unfold out0_A_15; refine (View.read_writes_eq_canon _ _ _ (by apply cover0_A_15)).trans ?_; unfold kernelRun0_A; dsimp only; sl_unfold_words; rw [View.canon_cons_unit_zero (S := S1x1024) hz]; simp only [View.readCov_unit_zero (S := S1x1024) _ hz, View.readAt_eq_ld, View.ld_unit_zero (S := S1x1024) hz, View.ld_unit_zero (S := S256x1024) hz, (hs0_0 t).read_unread, (hs0_1 t).read_unread, (hs0_2 t).read_unread, (hs0_3 t).read_unread, (hs0_4 t).read_unread, (hs0_5 t).read_unread, (hs0_7 t).read_unread, (hs0_9 t).read_unread, (hs0_10 t).read_unread]; rfl
  · dsimp only; unfold out0_A_16; refine (View.read_writes_eq_canon _ _ _ (by apply cover0_A_16)).trans ?_; unfold kernelRun0_A; dsimp only; sl_unfold_words; rw [View.canon_cons_unit_zero (S := S1x1024) hz]; simp only [View.readCov_unit_zero (S := S1x1024) _ hz, View.readAt_eq_ld, View.ld_unit_zero (S := S1x1024) hz, View.ld_unit_zero (S := S256x1024) hz, (hs0_0 t).read_unread, (hs0_1 t).read_unread, (hs0_2 t).read_unread, (hs0_3 t).read_unread, (hs0_4 t).read_unread, (hs0_5 t).read_unread, (hs0_7 t).read_unread, (hs0_9 t).read_unread, (hs0_10 t).read_unread]; rfl
  · dsimp only; unfold out0_A_17; refine (View.read_writes_eq_canon _ _ _ (by apply cover0_A_17)).trans ?_; unfold kernelRun0_A; dsimp only; sl_unfold_words; rw [View.canon_cons_unit_zero (S := S1x1024) hz]; simp only [View.readCov_unit_zero (S := S1x1024) _ hz, View.readAt_eq_ld, View.ld_unit_zero (S := S1x1024) hz, View.ld_unit_zero (S := S256x1024) hz, (hs0_0 t).read_unread, (hs0_1 t).read_unread, (hs0_2 t).read_unread, (hs0_3 t).read_unread, (hs0_4 t).read_unread, (hs0_5 t).read_unread, (hs0_7 t).read_unread, (hs0_9 t).read_unread, (hs0_10 t).read_unread]; rfl
  · dsimp only; unfold out0_A_18; refine (View.read_writes_eq_canon _ _ _ (by apply cover0_A_18)).trans ?_; unfold kernelRun0_A; dsimp only; sl_unfold_words; rw [View.canon_cons_unit_zero (S := S1x1024) hz]; simp only [View.readCov_unit_zero (S := S1x1024) _ hz, View.readAt_eq_ld, View.ld_unit_zero (S := S1x1024) hz, View.ld_unit_zero (S := S256x1024) hz, (hs0_0 t).read_unread, (hs0_1 t).read_unread, (hs0_2 t).read_unread, (hs0_3 t).read_unread, (hs0_4 t).read_unread, (hs0_5 t).read_unread, (hs0_7 t).read_unread, (hs0_9 t).read_unread, (hs0_10 t).read_unread]; rfl
  · dsimp only; unfold out0_A_19; refine (View.read_writes_eq_canon _ _ _ (by apply cover0_A_19)).trans ?_; unfold kernelRun0_A; dsimp only; sl_unfold_words; rw [View.canon_cons_unit_zero (S := S1x1024) hz]; simp only [View.readCov_unit_zero (S := S1x1024) _ hz, View.readAt_eq_ld, View.ld_unit_zero (S := S1x1024) hz, View.ld_unit_zero (S := S256x1024) hz, (hs0_0 t).read_unread, (hs0_1 t).read_unread, (hs0_2 t).read_unread, (hs0_3 t).read_unread, (hs0_4 t).read_unread, (hs0_5 t).read_unread, (hs0_7 t).read_unread, (hs0_9 t).read_unread, (hs0_10 t).read_unread]; rfl

/-- What a later point leaves in the results' blocks. -/
theorem carB (t : Fin cfg0.N) (h : ¬t.val % 16 = 0) :
    outsAt0 m c t.val t.isLt = (cx m c t, co m c t, k0_pay1 (F := Ideal) (cg m c t) (outsAt0 m c (t.val - 1) (Nat.lt_of_le_of_lt (Nat.sub_le _ _) t.isLt)).2.2.1, k0_pay1 (F := Ideal) (cg m c t) (outsAt0 m c (t.val - 1) (Nat.lt_of_le_of_lt (Nat.sub_le _ _) t.isLt)).2.2.2.1, k0_pay2 (F := Ideal) (cw m c t) (outsAt0 m c (t.val - 1) (Nat.lt_of_le_of_lt (Nat.sub_le _ _) t.isLt)).2.2.2.2.1, k0_pay3 (F := Ideal) (cs m c t) (outsAt0 m c (t.val - 1) (Nat.lt_of_le_of_lt (Nat.sub_le _ _) t.isLt)).2.2.2.2.2.1, k0_pay4 (F := Ideal) (cb m c t) (outsAt0 m c (t.val - 1) (Nat.lt_of_le_of_lt (Nat.sub_le _ _) t.isLt)).2.2.2.2.2.2.1, k0_pay5 (F := Ideal) (cs m c t) (outsAt0 m c (t.val - 1) (Nat.lt_of_le_of_lt (Nat.sub_le _ _) t.isLt)).2.2.2.2.2.2.2.1, k0_pay6 (F := Ideal) (cb m c t) (outsAt0 m c (t.val - 1) (Nat.lt_of_le_of_lt (Nat.sub_le _ _) t.isLt)).2.2.2.2.2.2.2.2) := by
  rw [outsAt0_B m c t h]
  refine Prod.ext ?_ (Prod.ext ?_ (Prod.ext ?_ (Prod.ext ?_ (Prod.ext ?_ (Prod.ext ?_ (Prod.ext ?_ (Prod.ext ?_ ?_)))))))
  · dsimp only; unfold out0_B_11; refine (View.read_writes_eq_canon _ _ _ (by apply cover0_B_11)).trans ?_; unfold kernelRun0_B; dsimp only; sl_unfold_words; rw [View.canon_cons_unit_zero (S := S256x1024) hz]; simp only [View.readAt_eq_ld, View.ld_unit_zero (S := S1x1024) hz, View.ld_unit_zero (S := S256x1024) hz, (hs0_0 t).read_unread, (hs0_1 t).read_unread, (hs0_2 t).read_unread, (hs0_3 t).read_unread, (hs0_4 t).read_unread, (hs0_5 t).read_unread, (hs0_7 t).read_unread, (hs0_9 t).read_unread, (hs0_10 t).read_unread, (hs0_13 t).read_unread, (hs0_14 t).read_unread, (hs0_15 t).read_unread, (hs0_16 t).read_unread, (hs0_17 t).read_unread, (hs0_18 t).read_unread, (hs0_19 t).read_unread]; rfl
  · dsimp only; unfold out0_B_12; refine (View.read_writes_eq_canon _ _ _ (by apply cover0_B_12)).trans ?_; unfold kernelRun0_B; dsimp only; sl_unfold_words; rw [View.canon_cons_unit_zero (S := S256x1024) hz]; simp only [View.readAt_eq_ld, View.ld_unit_zero (S := S1x1024) hz, View.ld_unit_zero (S := S256x1024) hz, (hs0_0 t).read_unread, (hs0_1 t).read_unread, (hs0_2 t).read_unread, (hs0_3 t).read_unread, (hs0_4 t).read_unread, (hs0_5 t).read_unread, (hs0_7 t).read_unread, (hs0_9 t).read_unread, (hs0_10 t).read_unread, (hs0_13 t).read_unread, (hs0_14 t).read_unread, (hs0_15 t).read_unread, (hs0_16 t).read_unread, (hs0_17 t).read_unread, (hs0_18 t).read_unread, (hs0_19 t).read_unread]; rfl
  · dsimp only; unfold out0_B_13; refine (View.read_writes_eq_canon _ _ _ (by apply cover0_B_13)).trans ?_; unfold kernelRun0_B; dsimp only; sl_unfold_words; rw [View.canon_cons_unit_zero (S := S1x1024) hz]; simp only [View.readAt_eq_ld, View.ld_unit_zero (S := S1x1024) hz, View.ld_unit_zero (S := S256x1024) hz, (hs0_0 t).read_unread, (hs0_1 t).read_unread, (hs0_2 t).read_unread, (hs0_3 t).read_unread, (hs0_4 t).read_unread, (hs0_5 t).read_unread, (hs0_7 t).read_unread, (hs0_9 t).read_unread, (hs0_10 t).read_unread, (hs0_13 t).read_unread, (hs0_14 t).read_unread, (hs0_15 t).read_unread, (hs0_16 t).read_unread, (hs0_17 t).read_unread, (hs0_18 t).read_unread, (hs0_19 t).read_unread]; rfl
  · dsimp only; unfold out0_B_14; refine (View.read_writes_eq_canon _ _ _ (by apply cover0_B_14)).trans ?_; unfold kernelRun0_B; dsimp only; sl_unfold_words; rw [View.canon_cons_unit_zero (S := S1x1024) hz]; simp only [View.readAt_eq_ld, View.ld_unit_zero (S := S1x1024) hz, View.ld_unit_zero (S := S256x1024) hz, (hs0_0 t).read_unread, (hs0_1 t).read_unread, (hs0_2 t).read_unread, (hs0_3 t).read_unread, (hs0_4 t).read_unread, (hs0_5 t).read_unread, (hs0_7 t).read_unread, (hs0_9 t).read_unread, (hs0_10 t).read_unread, (hs0_13 t).read_unread, (hs0_14 t).read_unread, (hs0_15 t).read_unread, (hs0_16 t).read_unread, (hs0_17 t).read_unread, (hs0_18 t).read_unread, (hs0_19 t).read_unread]; rfl
  · dsimp only; unfold out0_B_15; refine (View.read_writes_eq_canon _ _ _ (by apply cover0_B_15)).trans ?_; unfold kernelRun0_B; dsimp only; sl_unfold_words; rw [View.canon_cons_unit_zero (S := S1x1024) hz]; simp only [View.readAt_eq_ld, View.ld_unit_zero (S := S1x1024) hz, View.ld_unit_zero (S := S256x1024) hz, (hs0_0 t).read_unread, (hs0_1 t).read_unread, (hs0_2 t).read_unread, (hs0_3 t).read_unread, (hs0_4 t).read_unread, (hs0_5 t).read_unread, (hs0_7 t).read_unread, (hs0_9 t).read_unread, (hs0_10 t).read_unread, (hs0_13 t).read_unread, (hs0_14 t).read_unread, (hs0_15 t).read_unread, (hs0_16 t).read_unread, (hs0_17 t).read_unread, (hs0_18 t).read_unread, (hs0_19 t).read_unread]; rfl
  · dsimp only; unfold out0_B_16; refine (View.read_writes_eq_canon _ _ _ (by apply cover0_B_16)).trans ?_; unfold kernelRun0_B; dsimp only; sl_unfold_words; rw [View.canon_cons_unit_zero (S := S1x1024) hz]; simp only [View.readAt_eq_ld, View.ld_unit_zero (S := S1x1024) hz, View.ld_unit_zero (S := S256x1024) hz, (hs0_0 t).read_unread, (hs0_1 t).read_unread, (hs0_2 t).read_unread, (hs0_3 t).read_unread, (hs0_4 t).read_unread, (hs0_5 t).read_unread, (hs0_7 t).read_unread, (hs0_9 t).read_unread, (hs0_10 t).read_unread, (hs0_13 t).read_unread, (hs0_14 t).read_unread, (hs0_15 t).read_unread, (hs0_16 t).read_unread, (hs0_17 t).read_unread, (hs0_18 t).read_unread, (hs0_19 t).read_unread]; rfl
  · dsimp only; unfold out0_B_17; refine (View.read_writes_eq_canon _ _ _ (by apply cover0_B_17)).trans ?_; unfold kernelRun0_B; dsimp only; sl_unfold_words; rw [View.canon_cons_unit_zero (S := S1x1024) hz]; simp only [View.readAt_eq_ld, View.ld_unit_zero (S := S1x1024) hz, View.ld_unit_zero (S := S256x1024) hz, (hs0_0 t).read_unread, (hs0_1 t).read_unread, (hs0_2 t).read_unread, (hs0_3 t).read_unread, (hs0_4 t).read_unread, (hs0_5 t).read_unread, (hs0_7 t).read_unread, (hs0_9 t).read_unread, (hs0_10 t).read_unread, (hs0_13 t).read_unread, (hs0_14 t).read_unread, (hs0_15 t).read_unread, (hs0_16 t).read_unread, (hs0_17 t).read_unread, (hs0_18 t).read_unread, (hs0_19 t).read_unread]; rfl
  · dsimp only; unfold out0_B_18; refine (View.read_writes_eq_canon _ _ _ (by apply cover0_B_18)).trans ?_; unfold kernelRun0_B; dsimp only; sl_unfold_words; rw [View.canon_cons_unit_zero (S := S1x1024) hz]; simp only [View.readAt_eq_ld, View.ld_unit_zero (S := S1x1024) hz, View.ld_unit_zero (S := S256x1024) hz, (hs0_0 t).read_unread, (hs0_1 t).read_unread, (hs0_2 t).read_unread, (hs0_3 t).read_unread, (hs0_4 t).read_unread, (hs0_5 t).read_unread, (hs0_7 t).read_unread, (hs0_9 t).read_unread, (hs0_10 t).read_unread, (hs0_13 t).read_unread, (hs0_14 t).read_unread, (hs0_15 t).read_unread, (hs0_16 t).read_unread, (hs0_17 t).read_unread, (hs0_18 t).read_unread, (hs0_19 t).read_unread]; rfl
  · dsimp only; unfold out0_B_19; refine (View.read_writes_eq_canon _ _ _ (by apply cover0_B_19)).trans ?_; unfold kernelRun0_B; dsimp only; sl_unfold_words; rw [View.canon_cons_unit_zero (S := S1x1024) hz]; simp only [View.readAt_eq_ld, View.ld_unit_zero (S := S1x1024) hz, View.ld_unit_zero (S := S256x1024) hz, (hs0_0 t).read_unread, (hs0_1 t).read_unread, (hs0_2 t).read_unread, (hs0_3 t).read_unread, (hs0_4 t).read_unread, (hs0_5 t).read_unread, (hs0_7 t).read_unread, (hs0_9 t).read_unread, (hs0_10 t).read_unread, (hs0_13 t).read_unread, (hs0_14 t).read_unread, (hs0_15 t).read_unread, (hs0_16 t).read_unread, (hs0_17 t).read_unread, (hs0_18 t).read_unread, (hs0_19 t).read_unread]; rfl

theorem ei0 : ∀ t : Fin cfg0.N, win0_0.index t = ![t.val, 0] := (by decide +kernel : ∀ t : Fin grid0.N, _)
theorem ei1 : ∀ t : Fin cfg0.N, win0_1.index t = ![t.val, 0] := (by decide +kernel : ∀ t : Fin grid0.N, _)
theorem ei2 : ∀ t : Fin cfg0.N, win0_2.index t = ![0, 0] := (by decide +kernel : ∀ t : Fin grid0.N, _)
theorem ei3 : ∀ t : Fin cfg0.N, win0_3.index t = ![0, 0] := (by decide +kernel : ∀ t : Fin grid0.N, _)
theorem ei4 : ∀ t : Fin cfg0.N, win0_4.index t = ![0, 0] := (by decide +kernel : ∀ t : Fin grid0.N, _)
theorem ei5 : ∀ t : Fin cfg0.N, win0_5.index t = ![0, 0] := (by decide +kernel : ∀ t : Fin grid0.N, _)
theorem ei7 : ∀ t : Fin cfg0.N, win0_7.index t = ![0, 0] := (by decide +kernel : ∀ t : Fin grid0.N, _)
theorem ei9 : ∀ t : Fin cfg0.N, win0_9.index t = ![t.val, 0] := (by decide +kernel : ∀ t : Fin grid0.N, _)
theorem ei10 : ∀ t : Fin cfg0.N, win0_10.index t = ![t.val, 0] := (by decide +kernel : ∀ t : Fin grid0.N, _)
theorem ei11 : ∀ t : Fin cfg0.N, win0_11.index t = ![t.val, 0] := (by decide +kernel : ∀ t : Fin grid0.N, _)
theorem ei12 : ∀ t : Fin cfg0.N, win0_12.index t = ![t.val, 0] := (by decide +kernel : ∀ t : Fin grid0.N, _)
theorem ei13 : ∀ t : Fin cfg0.N, win0_13.index t = ![0, 0] := (by decide +kernel : ∀ t : Fin grid0.N, _)
theorem ei14 : ∀ t : Fin cfg0.N, win0_14.index t = ![0, 0] := (by decide +kernel : ∀ t : Fin grid0.N, _)
theorem ei15 : ∀ t : Fin cfg0.N, win0_15.index t = ![0, 0] := (by decide +kernel : ∀ t : Fin grid0.N, _)
theorem ei16 : ∀ t : Fin cfg0.N, win0_16.index t = ![0, 0] := (by decide +kernel : ∀ t : Fin grid0.N, _)
theorem ei17 : ∀ t : Fin cfg0.N, win0_17.index t = ![0, 0] := (by decide +kernel : ∀ t : Fin grid0.N, _)
theorem ei18 : ∀ t : Fin cfg0.N, win0_18.index t = ![0, 0] := (by decide +kernel : ∀ t : Fin grid0.N, _)
theorem ei19 : ∀ t : Fin cfg0.N, win0_19.index t = ![0, 0] := (by decide +kernel : ∀ t : Fin grid0.N, _)

/-- A point's rows in the arrays. -/
def row (t : Fin cfg0.N) (i : Fin 256) : Fin 4096 := ⟨256 * t.val + i.val, by have := t.isLt; have : cfg0.N = 16 := N_0; omega⟩

/-- The arguments, read at an entry. -/
def X (k : Fin 4096) (e : Fin 1024) : EReal := m ((c.tc : Thread nD τ).loc main_arg0) (ix2 k e)
def O (k : Fin 4096) (e : Fin 1024) : EReal := m ((c.tc : Thread nD τ).loc main_arg1) (ix2 k e)
def G (k : Fin 4096) (e : Fin 1024) : EReal := m ((c.tc : Thread nD τ).loc main_arg9) (ix2 k e)
def P (k : Fin 4096) (e : Fin 1024) : EReal := m ((c.tc : Thread nD τ).loc main_arg10) (ix2 k e)
def U (e : Fin 1024) : EReal := m ((c.tc : Thread nD τ).loc main_arg2) (ix2 0 e)
def V (e : Fin 1024) : EReal := m ((c.tc : Thread nD τ).loc main_arg3) (ix2 0 e)
def NW (e : Fin 1024) : EReal := m ((c.tc : Thread nD τ).loc main_arg4) (ix2 0 e)
def S5 (e : Fin 1024) : EReal := m ((c.tc : Thread nD τ).loc main_arg5) (ix2 0 e)
def S7 (e : Fin 1024) : EReal := m ((c.tc : Thread nD τ).loc main_arg7) (ix2 0 e)
def SC (e : Fin 1024) : EReal := S5 m c e + S7 m c e
def H (k : Fin 4096) : Fin 1024 → EReal := sum (X m c k) (O m c k) (U m c) (V m c)

/-- The gradient of the norm's input. -/
def D (k : Fin 4096) : Fin 1024 → EReal := dh (NW m c) (SC m c) (H m c k) (G m c k) (P m c k)

/-- The blocks a point reads, in the arrays. -/
theorem b0 (t : Fin cfg0.N) (i : Fin 256) (e : Fin 1024) : (iblk m c 0 t : Vec Ideal S256x1024 .f32) (ix2 i e) = m ((c.tc : Thread nD τ).loc main_arg0) (ix2 (row t i) e) := by
  blk_simp [iblk, ei0]
  refine congrArg (m ((c.tc : Thread nD τ).loc main_arg0)) ?_
  blk_ext [ei0, row]

theorem b1 (t : Fin cfg0.N) (i : Fin 256) (e : Fin 1024) : (iblk m c 1 t : Vec Ideal S256x1024 .f32) (ix2 i e) = m ((c.tc : Thread nD τ).loc main_arg1) (ix2 (row t i) e) := by
  blk_simp [iblk, ei1]
  refine congrArg (m ((c.tc : Thread nD τ).loc main_arg1)) ?_
  blk_ext [ei1, row]

theorem b9 (t : Fin cfg0.N) (i : Fin 256) (e : Fin 1024) : (iblk m c 9 t : Vec Ideal S256x1024 .f32) (ix2 i e) = m ((c.tc : Thread nD τ).loc main_arg9) (ix2 (row t i) e) := by
  blk_simp [iblk, ei9]
  refine congrArg (m ((c.tc : Thread nD τ).loc main_arg9)) ?_
  blk_ext [ei9, row]

theorem b10 (t : Fin cfg0.N) (i : Fin 256) (e : Fin 1024) : (iblk m c 10 t : Vec Ideal S256x1024 .f32) (ix2 i e) = m ((c.tc : Thread nD τ).loc main_arg10) (ix2 (row t i) e) := by
  blk_simp [iblk, ei10]
  refine congrArg (m ((c.tc : Thread nD τ).loc main_arg10)) ?_
  blk_ext [ei10, row]

theorem b2 (t : Fin cfg0.N) (e : Fin 1024) : (iblk m c 2 t : Vec Ideal S1x1024 .f32) (ix2 0 e) = m ((c.tc : Thread nD τ).loc main_arg2) (ix2 0 e) := by
  blk_simp [iblk, ei2]
  refine congrArg (m ((c.tc : Thread nD τ).loc main_arg2)) ?_
  blk_ext [ei2]

theorem b3 (t : Fin cfg0.N) (e : Fin 1024) : (iblk m c 3 t : Vec Ideal S1x1024 .f32) (ix2 0 e) = m ((c.tc : Thread nD τ).loc main_arg3) (ix2 0 e) := by
  blk_simp [iblk, ei3]
  refine congrArg (m ((c.tc : Thread nD τ).loc main_arg3)) ?_
  blk_ext [ei3]

theorem b4 (t : Fin cfg0.N) (e : Fin 1024) : (iblk m c 4 t : Vec Ideal S1x1024 .f32) (ix2 0 e) = m ((c.tc : Thread nD τ).loc main_arg4) (ix2 0 e) := by
  blk_simp [iblk, ei4]
  refine congrArg (m ((c.tc : Thread nD τ).loc main_arg4)) ?_
  blk_ext [ei4]

theorem b5 (t : Fin cfg0.N) (e : Fin 1024) : (iblk m c 5 t : Vec Ideal S1x1024 .f32) (ix2 0 e) = m ((c.tc : Thread nD τ).loc main_arg5) (ix2 0 e) := by
  blk_simp [iblk, ei5]
  refine congrArg (m ((c.tc : Thread nD τ).loc main_arg5)) ?_
  blk_ext [ei5]

theorem b7 (t : Fin cfg0.N) (e : Fin 1024) : (iblk m c 7 t : Vec Ideal S1x1024 .f32) (ix2 0 e) = m ((c.tc : Thread nD τ).loc main_arg7) (ix2 0 e) := by
  blk_simp [iblk, ei7]
  refine congrArg (m ((c.tc : Thread nD τ).loc main_arg7)) ?_
  blk_ext [ei7]

theorem cx_apply (t : Fin cfg0.N) (i : Fin 256) (j : Fin 1024) : cx m c t (ix2 i j) = D m c (row t i) j := by
  refine (px_apply _ _ _ _ _ _ _ _ _ i j).trans ?_
  simp only [b0, b1, b2, b3, b4, b5, b7, b9, b10]
  rfl

theorem co_apply (t : Fin cfg0.N) (i : Fin 256) (j : Fin 1024) : co m c t (ix2 i j) = (U m c j + V m c j) * D m c (row t i) j := by
  refine (po_apply _ _ _ _ _ _ _ _ _ i j).trans ?_
  rw [← cx_apply]
  simp only [b2, b3]
  rfl

theorem cg_apply (t : Fin cfg0.N) (j : Fin 1024) : cg m c t (ix2 0 j) = ∑ r : Fin 256, D m c (row t r) j * O m c (row t r) j := by
  refine (pg_apply _ _ _ _ _ _ _ _ _ j).trans ?_
  simp only [← cx_apply, b1]
  rfl

theorem cw_apply (t : Fin cfg0.N) (j : Fin 1024) :
    cw m c t (ix2 0 j) = ∑ r : Fin 256, tw (SC m c) (H m c (row t r)) (G m c (row t r)) j := by
  refine (pw_apply _ _ _ _ _ _ _ j).trans ?_
  simp only [b0, b1, b2, b3, b5, b7, b9]
  rfl

theorem cs_apply (t : Fin cfg0.N) (j : Fin 1024) :
    cs m c t (ix2 0 j) = ∑ r : Fin 256, ts (NW m c) (H m c (row t r)) (G m c (row t r)) j := by
  refine (ps_apply _ _ _ _ _ _ j).trans ?_
  simp only [b0, b1, b2, b3, b4, b9]
  rfl

theorem cb_apply (t : Fin cfg0.N) (j : Fin 1024) : cb m c t (ix2 0 j) = ∑ r : Fin 256, G m c (row t r) j := by
  refine (ph_apply _ j).trans ?_
  simp only [b9]
  rfl

/-- A result whose block every point adds to, a point's share being the sum of `f` over its rows. -/
theorem total (f : Fin 4096 → EReal) (s : Fin cfg0.N → Vec Ideal S1x1024 .f32) (p : Fin cfg0.N → Vec Ideal S1x1024 .f32) (j : Fin 1024)
    (hA : ∀ u : Fin cfg0.N, u.val % 16 = 0 → s u = k0_pay1 (F := Ideal) (p u) (k0_pay24 (F := Ideal)))
    (hB : ∀ u : Fin cfg0.N, ¬u.val % 16 = 0 → s u = k0_pay1 (F := Ideal) (p u) (s ⟨u.val - 1, Nat.lt_of_le_of_lt (Nat.sub_le _ _) u.isLt⟩))
    (hp : ∀ u : Fin cfg0.N, p u (ix2 0 j) = ∑ r : Fin 256, f (row u r)) (t : Fin cfg0.N) (ht : t.val % 16 = 15) :
    s t (ix2 0 j) = ∑ k, f k :=
  Norm.sixteen N_0 f (fun u => s u (ix2 0 j)) (fun u => p u (ix2 0 j))
    (fun u h => by show s u (ix2 0 j) = _; rw [hA u h]; exact first_apply _ j) (fun u h => by show s u (ix2 0 j) = _; rw [hB u h]; exact acc_apply _ _ j) hp t ht

/-- The arrays after the run. -/
theorem final11 : (dats m 0 c).arrAt 11 cfg0.N = (fun y : S4096x1024.Idx => D m c (y 0) (y 1)) := by
  refine (dats m 0 c).arrAt_eq_of_covers 11 _ (by decide +kernel) fun t hf y => ?_
  blk_simp
  rw [after0_11]
  obtain ⟨i, j, rfl⟩ : ∃ (i : Fin 256) (j : Fin 1024), y = ix2 i j := ⟨y 0, y 1, eq_ix2 y⟩
  have e : (win0_11.blk t).view.emb (ix2 i j) = ix2 (row t i) j := by blk_ext [ei11, row]
  rw [e]
  refine Eq.trans ?_ (cx_apply m c t i j)
  by_cases h : t.val % 16 = 0
  · exact congrFun (congrArg (·.1) (carA m c t h)) (ix2 i j)
  · exact congrFun (congrArg (·.1) (carB m c t h)) (ix2 i j)

theorem final12 : (dats m 0 c).arrAt 12 cfg0.N = (fun y : S4096x1024.Idx => (U m c (y 1) + V m c (y 1)) * D m c (y 0) (y 1)) := by
  refine (dats m 0 c).arrAt_eq_of_covers 12 _ (by decide +kernel) fun t hf y => ?_
  blk_simp
  rw [after0_12]
  obtain ⟨i, j, rfl⟩ : ∃ (i : Fin 256) (j : Fin 1024), y = ix2 i j := ⟨y 0, y 1, eq_ix2 y⟩
  have e : (win0_12.blk t).view.emb (ix2 i j) = ix2 (row t i) j := by blk_ext [ei12, row]
  rw [e]
  refine Eq.trans ?_ (co_apply m c t i j)
  by_cases h : t.val % 16 = 0
  · exact congrFun (congrArg (·.2.1) (carA m c t h)) (ix2 i j)
  · exact congrFun (congrArg (·.2.1) (carB m c t h)) (ix2 i j)

theorem final13 : (dats m 0 c).arrAt 13 cfg0.N = (fun y : S1x1024.Idx => ∑ k : Fin 4096, D m c k (y 1) * O m c k (y 1)) := by
  refine (dats m 0 c).arrAt_eq_of_covers 13 _ (by decide +kernel) fun t hf y => ?_
  blk_simp
  rw [after0_13]
  obtain ⟨i, j, rfl⟩ : ∃ (i : Fin 1) (j : Fin 1024), y = ix2 i j := ⟨y 0, y 1, eq_ix2 y⟩
  obtain rfl : i = 0 := Subsingleton.elim _ _
  have e : (win0_13.blk t).view.emb (ix2 0 j) = ix2 0 j := by blk_ext [ei13]
  rw [e]
  exact total (fun k => D m c k j * O m c k j) (fun u => (outsAt0 m c u.val u.isLt).2.2.1) (cg m c) j (fun u h => congrArg (·.2.2.1) (carA m c u h)) (fun u h => congrArg (·.2.2.1) (carB m c u h))
    (fun u => cg_apply m c u j) t ((flush0_13 t).mp hf)

theorem final14 : (dats m 0 c).arrAt 14 cfg0.N = (fun y : S1x1024.Idx => ∑ k : Fin 4096, D m c k (y 1) * O m c k (y 1)) := by
  refine (dats m 0 c).arrAt_eq_of_covers 14 _ (by decide +kernel) fun t hf y => ?_
  blk_simp
  rw [after0_14]
  obtain ⟨i, j, rfl⟩ : ∃ (i : Fin 1) (j : Fin 1024), y = ix2 i j := ⟨y 0, y 1, eq_ix2 y⟩
  obtain rfl : i = 0 := Subsingleton.elim _ _
  have e : (win0_14.blk t).view.emb (ix2 0 j) = ix2 0 j := by blk_ext [ei14]
  rw [e]
  exact total (fun k => D m c k j * O m c k j) (fun u => (outsAt0 m c u.val u.isLt).2.2.2.1) (cg m c) j (fun u h => congrArg (·.2.2.2.1) (carA m c u h)) (fun u h => congrArg (·.2.2.2.1) (carB m c u h))
    (fun u => cg_apply m c u j) t ((flush0_14 t).mp hf)

theorem final15 : (dats m 0 c).arrAt 15 cfg0.N = (fun y : S1x1024.Idx => ∑ k : Fin 4096, tw (SC m c) (H m c k) (G m c k) (y 1)) := by
  refine (dats m 0 c).arrAt_eq_of_covers 15 _ (by decide +kernel) fun t hf y => ?_
  blk_simp
  rw [after0_15]
  obtain ⟨i, j, rfl⟩ : ∃ (i : Fin 1) (j : Fin 1024), y = ix2 i j := ⟨y 0, y 1, eq_ix2 y⟩
  obtain rfl : i = 0 := Subsingleton.elim _ _
  have e : (win0_15.blk t).view.emb (ix2 0 j) = ix2 0 j := by blk_ext [ei15]
  rw [e]
  exact total (fun k => tw (SC m c) (H m c k) (G m c k) j) (fun u => (outsAt0 m c u.val u.isLt).2.2.2.2.1) (cw m c) j (fun u h => congrArg (·.2.2.2.2.1) (carA m c u h)) (fun u h => congrArg (·.2.2.2.2.1) (carB m c u h))
    (fun u => cw_apply m c u j) t ((flush0_15 t).mp hf)

theorem final16 : (dats m 0 c).arrAt 16 cfg0.N = (fun y : S1x1024.Idx => ∑ k : Fin 4096, ts (NW m c) (H m c k) (G m c k) (y 1)) := by
  refine (dats m 0 c).arrAt_eq_of_covers 16 _ (by decide +kernel) fun t hf y => ?_
  blk_simp
  rw [after0_16]
  obtain ⟨i, j, rfl⟩ : ∃ (i : Fin 1) (j : Fin 1024), y = ix2 i j := ⟨y 0, y 1, eq_ix2 y⟩
  obtain rfl : i = 0 := Subsingleton.elim _ _
  have e : (win0_16.blk t).view.emb (ix2 0 j) = ix2 0 j := by blk_ext [ei16]
  rw [e]
  exact total (fun k => ts (NW m c) (H m c k) (G m c k) j) (fun u => (outsAt0 m c u.val u.isLt).2.2.2.2.2.1) (cs m c) j (fun u h => congrArg (·.2.2.2.2.2.1) (carA m c u h)) (fun u h => congrArg (·.2.2.2.2.2.1) (carB m c u h))
    (fun u => cs_apply m c u j) t ((flush0_16 t).mp hf)

theorem final17 : (dats m 0 c).arrAt 17 cfg0.N = (fun y : S1x1024.Idx => ∑ k : Fin 4096, G m c k (y 1)) := by
  refine (dats m 0 c).arrAt_eq_of_covers 17 _ (by decide +kernel) fun t hf y => ?_
  blk_simp
  rw [after0_17]
  obtain ⟨i, j, rfl⟩ : ∃ (i : Fin 1) (j : Fin 1024), y = ix2 i j := ⟨y 0, y 1, eq_ix2 y⟩
  obtain rfl : i = 0 := Subsingleton.elim _ _
  have e : (win0_17.blk t).view.emb (ix2 0 j) = ix2 0 j := by blk_ext [ei17]
  rw [e]
  exact total (fun k => G m c k j) (fun u => (outsAt0 m c u.val u.isLt).2.2.2.2.2.2.1) (cb m c) j (fun u h => congrArg (·.2.2.2.2.2.2.1) (carA m c u h)) (fun u h => congrArg (·.2.2.2.2.2.2.1) (carB m c u h))
    (fun u => cb_apply m c u j) t ((flush0_17 t).mp hf)

theorem final18 : (dats m 0 c).arrAt 18 cfg0.N = (fun y : S1x1024.Idx => ∑ k : Fin 4096, ts (NW m c) (H m c k) (G m c k) (y 1)) := by
  refine (dats m 0 c).arrAt_eq_of_covers 18 _ (by decide +kernel) fun t hf y => ?_
  blk_simp
  rw [after0_18]
  obtain ⟨i, j, rfl⟩ : ∃ (i : Fin 1) (j : Fin 1024), y = ix2 i j := ⟨y 0, y 1, eq_ix2 y⟩
  obtain rfl : i = 0 := Subsingleton.elim _ _
  have e : (win0_18.blk t).view.emb (ix2 0 j) = ix2 0 j := by blk_ext [ei18]
  rw [e]
  exact total (fun k => ts (NW m c) (H m c k) (G m c k) j) (fun u => (outsAt0 m c u.val u.isLt).2.2.2.2.2.2.2.1) (cs m c) j (fun u h => congrArg (·.2.2.2.2.2.2.2.1) (carA m c u h)) (fun u h => congrArg (·.2.2.2.2.2.2.2.1) (carB m c u h))
    (fun u => cs_apply m c u j) t ((flush0_18 t).mp hf)

theorem final19 : (dats m 0 c).arrAt 19 cfg0.N = (fun y : S1x1024.Idx => ∑ k : Fin 4096, G m c k (y 1)) := by
  refine (dats m 0 c).arrAt_eq_of_covers 19 _ (by decide +kernel) fun t hf y => ?_
  blk_simp
  rw [after0_19]
  obtain ⟨i, j, rfl⟩ : ∃ (i : Fin 1) (j : Fin 1024), y = ix2 i j := ⟨y 0, y 1, eq_ix2 y⟩
  obtain rfl : i = 0 := Subsingleton.elim _ _
  have e : (win0_19.blk t).view.emb (ix2 0 j) = ix2 0 j := by blk_ext [ei19]
  rw [e]
  exact total (fun k => G m c k j) (fun u => (outsAt0 m c u.val u.isLt).2.2.2.2.2.2.2.2) (cb m c) j (fun u h => congrArg (·.2.2.2.2.2.2.2.2) (carA m c u h)) (fun u h => congrArg (·.2.2.2.2.2.2.2.2) (carB m c u h))
    (fun u => cb_apply m c u j) t ((flush0_19 t).mp hf)

end Kernel

section Reference
open Cert.Reference21Ideal Cert.Reference21Ideal.Gen

variable (x o g p : FVec Ideal S4096x1024 .f32) (u v w s b : FVec Ideal S1x1024 .f32)

/-- The reference's residual sum and its gradient. -/
def hv : FVec Ideal S4096x1024 .f32 := addf x (mulf (NormR.tall (addf u v)) o)
def dv : FVec Ideal S4096x1024 .f32 := NormR.dhv w (addf s b) (hv x o u v) g p

theorem hv_apply (i : Fin 4096) (j : Fin 1024) : hv x o u v (ix2 i j) = sum (fun e => x (ix2 i e)) (fun e => o (ix2 i e)) (fun e => u (ix2 0 e)) (fun e => v (ix2 0 e)) j := by
  unfold hv sum
  pointwise [NormR.tall_apply]

theorem dv_apply (i : Fin 4096) (j : Fin 1024) :
    dv x o g p u v w s b (ix2 i j)
      = dh (fun e => w (ix2 0 e)) (fun e => s (ix2 0 e) + b (ix2 0 e)) (sum (fun e => x (ix2 i e)) (fun e => o (ix2 i e)) (fun e => u (ix2 0 e)) fun e => v (ix2 0 e))
          (fun e => g (ix2 i e)) (fun e => p (ix2 i e)) j := by
  refine (NormR.dhv_apply w (addf s b) (hv x o u v) g p i j).trans ?_
  simp only [hv_apply]
  rfl

/-- The reference's results, read at an entry. -/
theorem o_apply (i : Fin 4096) (j : Fin 1024) :
    mulf (NormR.tall (addf u v)) (NormR.same (dv x o g p u v w s b)) (ix2 i j) = (u (ix2 0 j) + v (ix2 0 j) : EReal) * dv x o g p u v w s b (ix2 i j) := by
  rw [NormR.same_eq]
  pointwise [NormR.tall_apply]

theorem g_apply (j : Fin 1024) :
    NormR.cols (mulf (NormR.same (dv x o g p u v w s b)) o) (ix2 0 j) = ∑ k : Fin 4096, (dv x o g p u v w s b (ix2 k j) * o (ix2 k j) : EReal) := by
  rw [NormR.same_eq, NormR.cols_apply]
  rfl

theorem w_apply (j : Fin 1024) :
    NormR.twv (addf s b) (hv x o u v) g (ix2 0 j)
      = ∑ k : Fin 4096, tw (fun e => s (ix2 0 e) + b (ix2 0 e)) (sum (fun e => x (ix2 k e)) (fun e => o (ix2 k e)) (fun e => u (ix2 0 e)) fun e => v (ix2 0 e)) (fun e => g (ix2 k e)) j := by
  refine (NormR.twv_apply _ _ _ j).trans ?_
  simp only [hv_apply]
  rfl

theorem s_apply (j : Fin 1024) :
    NormR.tsv w (hv x o u v) g (ix2 0 j)
      = ∑ k : Fin 4096, ts (fun e => w (ix2 0 e)) (sum (fun e => x (ix2 k e)) (fun e => o (ix2 k e)) (fun e => u (ix2 0 e)) fun e => v (ix2 0 e)) (fun e => g (ix2 k e)) j := by
  refine (NormR.tsv_apply _ _ _ j).trans ?_
  simp only [hv_apply]

theorem flat (a : FVec Ideal S1x1024 .f32) (f : Fin 1024 → EReal) (h : ∀ j, a (ix2 0 j) = f j) : a = (fun y : S1x1024.Idx => f (y 1)) := by
  funext y
  obtain ⟨i, j, rfl⟩ : ∃ (i : Fin 1) (j : Fin 1024), y = ix2 i j := ⟨y 0, y 1, eq_ix2 y⟩
  obtain rfl : i = 0 := Subsingleton.elim _ _
  exact h j

theorem whole (a : FVec Ideal S4096x1024 .f32) (f : Fin 4096 → Fin 1024 → EReal) (h : ∀ i j, a (ix2 i j) = f i j) : a = (fun y : S4096x1024.Idx => f (y 0) (y 1)) := by
  funext y
  obtain ⟨i, j, rfl⟩ : ∃ (i : Fin 4096) (j : Fin 1024), y = ix2 i j := ⟨y 0, y 1, eq_ix2 y⟩
  exact h i j

end Reference

/-- The reference runs, leaves its arguments and no semaphore counted up. -/
theorem frame_ref : @Cert.quiescent_Reference21Ideal Cert.Reference21Ideal.Gen.facts := fun m ρ _ =>
  (θ_run Cert.Reference21Ideal.defs _ _).mono (fun r h => ⟨fun c => (h c).2.2.2.2.2.2.2.2.2, Idealize.ShloMosaic.sem_eq_zero_of_no_sems (by decide) r.2⟩)
    (Cert.Reference21Ideal.Value.run m ρ)

set_option maxHeartbeats 4000000 in
/-- From memories that agree on the arguments, the kernel and the reference end with equal results. -/
theorem algebraic : @Cert.algebraic_Kernel21Ideal_Reference21Ideal Cert.Kernel21Ideal.Gen.facts Cert.Reference21Ideal.Gen.facts := by
  intro m ρ m' ρ' _ hag
  refine ⟨fun c => (Cert.Kernel21Ideal.Gen.dats m 0 c).arrAt 11 Cert.Kernel21Ideal.cfg0.N, fun c => (Cert.Kernel21Ideal.Gen.dats m 0 c).arrAt 12 Cert.Kernel21Ideal.cfg0.N, fun c => (Cert.Kernel21Ideal.Gen.dats m 0 c).arrAt 13 Cert.Kernel21Ideal.cfg0.N, fun c => (Cert.Kernel21Ideal.Gen.dats m 0 c).arrAt 14 Cert.Kernel21Ideal.cfg0.N, fun c => (Cert.Kernel21Ideal.Gen.dats m 0 c).arrAt 15 Cert.Kernel21Ideal.cfg0.N, fun c => (Cert.Kernel21Ideal.Gen.dats m 0 c).arrAt 16 Cert.Kernel21Ideal.cfg0.N, fun c => (Cert.Kernel21Ideal.Gen.dats m 0 c).arrAt 17 Cert.Kernel21Ideal.cfg0.N, fun c => (Cert.Kernel21Ideal.Gen.dats m 0 c).arrAt 18 Cert.Kernel21Ideal.cfg0.N, fun c => (Cert.Kernel21Ideal.Gen.dats m 0 c).arrAt 19 Cert.Kernel21Ideal.cfg0.N, Cert.Kernel21Ideal.Value.run_blocks m ρ, ?_⟩
  refine (θ_run Cert.Reference21Ideal.defs _ _).mono (fun r h c => ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2.1.trans ?_, (h c).2.2.2.2.2.2.2.2.1.trans ?_, (h c).2.2.2.2.2.2.2.2.2⟩) (Cert.Reference21Ideal.Value.run m' ρ')
  all_goals obtain ⟨h0, h1, h2, h3, h4, h5, h6, h7, h8, h9, h10⟩ := hag c
  all_goals clear h
  · refine Eq.trans ?_ (final11 m c).symm
    unfold D H NW SC S5 S7 X O U V G P
    rw [← h0, ← h1, ← h2, ← h3, ← h4, ← h5, ← h7, ← h9, ← h10]
    exact whole _ _ (dv_apply _ _ _ _ _ _ _ _ _)
  · refine Eq.trans ?_ (final12 m c).symm
    unfold D H NW SC S5 S7 X O U V G P
    rw [← h0, ← h1, ← h2, ← h3, ← h4, ← h5, ← h7, ← h9, ← h10]
    exact whole _ _ fun i j => (o_apply _ _ _ _ _ _ _ _ _ i j).trans (congrArg (_ * ·) (dv_apply _ _ _ _ _ _ _ _ _ i j))
  · refine Eq.trans ?_ (final13 m c).symm
    unfold D H NW SC S5 S7 X O U V G P
    rw [← h0, ← h1, ← h2, ← h3, ← h4, ← h5, ← h7, ← h9, ← h10]
    exact flat _ _ fun j => (g_apply _ _ _ _ _ _ _ _ _ j).trans (Finset.sum_congr rfl fun k _ => congrArg (· * _) (dv_apply _ _ _ _ _ _ _ _ _ k j))
  · refine Eq.trans ?_ (final14 m c).symm
    unfold D H NW SC S5 S7 X O U V G P
    rw [← h0, ← h1, ← h2, ← h3, ← h4, ← h5, ← h7, ← h9, ← h10]
    exact flat _ _ fun j => (g_apply _ _ _ _ _ _ _ _ _ j).trans (Finset.sum_congr rfl fun k _ => congrArg (· * _) (dv_apply _ _ _ _ _ _ _ _ _ k j))
  · refine Eq.trans ?_ (final15 m c).symm
    unfold H SC S5 S7 X O U V G
    rw [← h0, ← h1, ← h2, ← h3, ← h5, ← h7, ← h9]
    exact flat _ _ (w_apply _ _ _ _ _ _ _)
  · refine Eq.trans ?_ (final16 m c).symm
    unfold H NW X O U V G
    rw [← h0, ← h1, ← h2, ← h3, ← h4, ← h9]
    exact flat _ _ (s_apply _ _ _ _ _ _)
  · refine Eq.trans ?_ (final17 m c).symm
    unfold G
    rw [← h9]
    exact flat _ _ (NormR.cols_apply _)
  · refine Eq.trans ?_ (final18 m c).symm
    unfold H NW X O U V G
    rw [← h0, ← h1, ← h2, ← h3, ← h4, ← h9]
    exact flat _ _ (s_apply _ _ _ _ _ _)
  · refine Eq.trans ?_ (final19 m c).symm
    unfold G
    rw [← h9]
    exact flat _ _ (NormR.cols_apply _)

end Cert.Row21

end
-- ==== Proof.lean ====
/-
The proof of `Cert.Claim`, for each call: the kernel's two readings run and leave their arguments, so does the reference,
the idealised kernel is the kernel's own text, and idealised kernel and reference end with equal results.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.GdnClaim
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Reference3Ideal
public import proofs.«01_k».proof.Proof.Dw3
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Reference4Ideal
public import proofs.«01_k».proof.Proof.Dw4
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Reference5Ideal
public import proofs.«01_k».proof.Proof.Dw5
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Reference6Ideal
public import proofs.«01_k».proof.Proof.Dw6
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Reference7Ideal
public import proofs.«01_k».proof.Proof.Dx7
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Reference8Ideal
public import proofs.«01_k».proof.Proof.Dx8
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Reference9Ideal
public import proofs.«01_k».proof.Proof.Dx9
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Reference10Ideal
public import proofs.«01_k».proof.Proof.Dx10
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Frame
public import proofs.«01_k».proof.Proof.Gen.Reference11Ideal
public import proofs.«01_k».proof.Proof.Fw11
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Frame
public import proofs.«01_k».proof.Proof.Gen.Reference12Ideal
public import proofs.«01_k».proof.Proof.Fw12
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Frame
public import proofs.«01_k».proof.Proof.Gen.Reference13Ideal
public import proofs.«01_k».proof.Proof.Fw13
public import proofs.«01_k».proof.Proof.Gen.Kernel14
public import proofs.«01_k».proof.Proof.Gen.Kernel14.Frame
public import proofs.«01_k».proof.Proof.Gen.Kernel14Ideal
public import proofs.«01_k».proof.Proof.Gen.Kernel14Ideal.Frame
public import proofs.«01_k».proof.Proof.Gen.Reference14Ideal
public import proofs.«01_k».proof.Proof.Fw14
public import proofs.«01_k».proof.Proof.Gen.Kernel15
public import proofs.«01_k».proof.Proof.Gen.Kernel15.Frame
public import proofs.«01_k».proof.Proof.Gen.Kernel15Ideal
public import proofs.«01_k».proof.Proof.Gen.Kernel15Ideal.Frame
public import proofs.«01_k».proof.Proof.Gen.Reference15Ideal
public import proofs.«01_k».proof.Proof.Gate15
public import proofs.«01_k».proof.Proof.Gen.Kernel17
public import proofs.«01_k».proof.Proof.Gen.Kernel17.Frame
public import proofs.«01_k».proof.Proof.Gen.Kernel17Ideal
public import proofs.«01_k».proof.Proof.Gen.Kernel17Ideal.Frame
public import proofs.«01_k».proof.Proof.Gen.Reference17Ideal
public import proofs.«01_k».proof.Proof.ConvK
public import proofs.«01_k».proof.Proof.Gen.Kernel18
public import proofs.«01_k».proof.Proof.Gen.Kernel18.Frame
public import proofs.«01_k».proof.Proof.Gen.Kernel18Ideal
public import proofs.«01_k».proof.Proof.Gen.Kernel18Ideal.Frame
public import proofs.«01_k».proof.Proof.Gen.Reference18Ideal
public import proofs.«01_k».proof.Proof.ConvQ
public import proofs.«01_k».proof.Proof.Gen.Kernel19
public import proofs.«01_k».proof.Proof.Gen.Kernel19.Frame
public import proofs.«01_k».proof.Proof.Gen.Kernel19Ideal
public import proofs.«01_k».proof.Proof.Gen.Kernel19Ideal.Frame
public import proofs.«01_k».proof.Proof.Gen.Reference19Ideal
public import proofs.«01_k».proof.Proof.Row19
public import proofs.«01_k».proof.Proof.Gen.Kernel21
public import proofs.«01_k».proof.Proof.Gen.Kernel21.Frame
public import proofs.«01_k».proof.Proof.Gen.Kernel21Ideal
public import proofs.«01_k».proof.Proof.Gen.Kernel21Ideal.Frame
public import proofs.«01_k».proof.Proof.Gen.Reference21Ideal
public import proofs.«01_k».proof.Proof.Row21

@[expose] public section

noncomputable section

namespace Cert.Proof

open Idealize.ShloMosaic Idealize.SL.Sem

/-- Everything that the certificate claims. -/
theorem claim : Cert.Claim := ⟨
  -- the facts that the programs need
  Cert.Kernel.Gen.facts, Cert.KernelIdeal.Gen.facts, Cert.ReferenceIdeal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Kernel19.Gen.facts, Cert.Kernel19Ideal.Gen.facts, Cert.Reference19Ideal.Gen.facts,
  Cert.Kernel21.Gen.facts, Cert.Kernel21Ideal.Gen.facts, Cert.Reference21Ideal.Gen.facts,
  -- the frames
  fun m ρ _ => Cert.Kernel.Gen.frame m ρ, fun m ρ _ => Cert.KernelIdeal.Gen.frame m ρ, Cert.GdnClaim.frame_ref,
  fun m ρ _ => Cert.Kernel3.Gen.frame m ρ, fun m ρ _ => Cert.Kernel3Ideal.Gen.frame m ρ, Cert.Dw3.frame_ref,
  fun m ρ _ => Cert.Kernel4.Gen.frame m ρ, fun m ρ _ => Cert.Kernel4Ideal.Gen.frame m ρ, Cert.Dw4.frame_ref,
  fun m ρ _ => Cert.Kernel5.Gen.frame m ρ, fun m ρ _ => Cert.Kernel5Ideal.Gen.frame m ρ, Cert.Dw5.frame_ref,
  fun m ρ _ => Cert.Kernel6.Gen.frame m ρ, fun m ρ _ => Cert.Kernel6Ideal.Gen.frame m ρ, Cert.Dw6.frame_ref,
  fun m ρ _ => Cert.Kernel7.Gen.frame m ρ, fun m ρ _ => Cert.Kernel7Ideal.Gen.frame m ρ, Cert.Dx7.frame_ref,
  fun m ρ _ => Cert.Kernel8.Gen.frame m ρ, fun m ρ _ => Cert.Kernel8Ideal.Gen.frame m ρ, Cert.Dx8.frame_ref,
  fun m ρ _ => Cert.Kernel9.Gen.frame m ρ, fun m ρ _ => Cert.Kernel9Ideal.Gen.frame m ρ, Cert.Dx9.frame_ref,
  fun m ρ _ => Cert.Kernel10.Gen.frame m ρ, fun m ρ _ => Cert.Kernel10Ideal.Gen.frame m ρ, Cert.Dx10.frame_ref,
  fun m ρ _ => Cert.Kernel11.Gen.frame m ρ, fun m ρ _ => Cert.Kernel11Ideal.Gen.frame m ρ, Cert.Fw11.frame_ref,
  fun m ρ _ => Cert.Kernel12.Gen.frame m ρ, fun m ρ _ => Cert.Kernel12Ideal.Gen.frame m ρ, Cert.Fw12.frame_ref,
  fun m ρ _ => Cert.Kernel13.Gen.frame m ρ, fun m ρ _ => Cert.Kernel13Ideal.Gen.frame m ρ, Cert.Fw13.frame_ref,
  fun m ρ _ => Cert.Kernel14.Gen.frame m ρ, fun m ρ _ => Cert.Kernel14Ideal.Gen.frame m ρ, Cert.Fw14.frame_ref,
  fun m ρ _ => Cert.Kernel15.Gen.frame m ρ, fun m ρ _ => Cert.Kernel15Ideal.Gen.frame m ρ, Cert.Gate15.frame_ref,
  fun m ρ _ => Cert.Kernel17.Gen.frame m ρ, fun m ρ _ => Cert.Kernel17Ideal.Gen.frame m ρ, Cert.ConvK.frame_ref,
  fun m ρ _ => Cert.Kernel18.Gen.frame m ρ, fun m ρ _ => Cert.Kernel18Ideal.Gen.frame m ρ, Cert.ConvQ.frame_ref,
  fun m ρ _ => Cert.Kernel19.Gen.frame m ρ, fun m ρ _ => Cert.Kernel19Ideal.Gen.frame m ρ, Cert.Row19.frame_ref,
  fun m ρ _ => Cert.Kernel21.Gen.frame m ρ, fun m ρ _ => Cert.Kernel21Ideal.Gen.frame m ρ, Cert.Row21.frame_ref,
  -- the values
  trivial, Cert.GdnClaim.algebraic,
  trivial, Cert.Dw3.algebraic,
  trivial, Cert.Dw4.algebraic,
  trivial, Cert.Dw5.algebraic,
  trivial, Cert.Dw6.algebraic,
  trivial, Cert.Dx7.algebraic,
  trivial, Cert.Dx8.algebraic,
  trivial, Cert.Dx9.algebraic,
  trivial, Cert.Dx10.algebraic,
  trivial, Cert.Fw11.algebraic,
  trivial, Cert.Fw12.algebraic,
  trivial, Cert.Fw13.algebraic,
  trivial, Cert.Fw14.algebraic,
  trivial, Cert.Gate15.algebraic,
  trivial, Cert.ConvK.algebraic,
  trivial, Cert.ConvQ.algebraic,
  trivial, Cert.Row19.algebraic,
  trivial, Cert.Row21.algebraic⟩

end Cert.Proof

end
